-- ==== Defs.lean ====
def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdIdeal_finite_bwd [hPre_finite_bwd : Cert.Pre_finite_bwd.Facts] (m : (ℓ : Loc Cert.BwdIdeal.nD Cert.BwdIdeal.τ Cert.BwdIdeal.sig) → Buf (Elt Ideal) ℓ) : Prop :=
  ∀ c : Dev Cert.BwdIdeal.nD,
    (Cert.Pre_finite_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3))) = (fun _ => 1#1)

def Pre_BwdRefIdeal (m : (ℓ : Loc Cert.BwdRefIdeal.nD Cert.BwdRefIdeal.τ Cert.BwdRefIdeal.sig) → Buf (Elt Ideal) ℓ) : Prop :=
  True

def Pre_BwdRefIdeal_finite_bwd [hPre_finite_bwd : Cert.Pre_finite_bwd.Facts] (m : (ℓ : Loc Cert.BwdRefIdeal.nD Cert.BwdRefIdeal.τ Cert.BwdRefIdeal.sig) → Buf (Elt Ideal) ℓ) : Prop :=
  ∀ c : Dev Cert.BwdRefIdeal.nD,
    (Cert.Pre_finite_bwd.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaRefIdeal (m : (ℓ : Loc Cert.DownDaRefIdeal.nD Cert.DownDaRefIdeal.τ Cert.DownDaRefIdeal.sig) → Buf (Elt Ideal) ℓ) : Prop :=
  True

def Pre_ProjDa (m : (ℓ : Loc Cert.ProjDa.nD Cert.ProjDa.τ Cert.ProjDa.sig) → Buf (Elt Bits) ℓ) : Prop :=
  True

def Pre_ProjDaIdeal (m : (ℓ : Loc Cert.ProjDaIdeal.nD Cert.ProjDaIdeal.τ Cert.ProjDaIdeal.sig) → Buf (Elt Ideal) ℓ) : Prop :=
  True

def Pre_ProjDaRefIdeal (m : (ℓ : Loc Cert.ProjDaRefIdeal.nD Cert.ProjDaRefIdeal.τ Cert.ProjDaRefIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_ProjFRefIdeal (m : (ℓ : Loc Cert.ProjFRefIdeal.nD Cert.ProjFRefIdeal.τ Cert.ProjFRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In0 (m : (ℓ : Loc Cert.In0.nD Cert.In0.τ Cert.In0.sig) → Buf (Elt Bits) ℓ) : Prop :=
  True

def Pre_In0Ideal (m : (ℓ : Loc Cert.In0Ideal.nD Cert.In0Ideal.τ Cert.In0Ideal.sig) → Buf (Elt Ideal) ℓ) : Prop :=
  True

def Pre_In0RefIdeal (m : (ℓ : Loc Cert.In0RefIdeal.nD Cert.In0RefIdeal.τ Cert.In0RefIdeal.sig) → Buf (Elt Ideal) ℓ) : Prop :=
  True

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_In1RefIdeal (m : (ℓ : Loc Cert.In1RefIdeal.nD Cert.In1RefIdeal.τ Cert.In1RefIdeal.sig) → Buf (Elt Ideal) ℓ) : Prop :=
  True

def Pre_InDa0 (m : (ℓ : Loc Cert.InDa0.nD Cert.InDa0.τ Cert.InDa0.sig) → Buf (Elt Bits) ℓ) : Prop :=
  True

def Pre_InDa0Ideal (m : (ℓ : Loc Cert.InDa0Ideal.nD Cert.InDa0Ideal.τ Cert.InDa0Ideal.sig) → Buf (Elt Ideal) ℓ) : Prop :=
  True

def Pre_InDa0RefIdeal (m : (ℓ : Loc Cert.InDa0RefIdeal.nD Cert.InDa0RefIdeal.τ Cert.InDa0RefIdeal.sig) → Buf (Elt Ideal) ℓ) : Prop :=
  True

def Pre_InDa1 (m : (ℓ : Loc Cert.InDa1.nD Cert.InDa1.τ Cert.InDa1.sig) → Buf (Elt Bits) ℓ) : Prop :=
  True

def Pre_InDa1Ideal (m : (ℓ : Loc Cert.InDa1Ideal.nD Cert.InDa1Ideal.τ Cert.InDa1Ideal.sig) → Buf (Elt Ideal) ℓ) : Prop :=
  True

def Pre_InDa1RefIdeal (m : (ℓ : Loc Cert.InDa1RefIdeal.nD Cert.InDa1RefIdeal.τ Cert.InDa1RefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateDa (m : (ℓ : Loc Cert.GateDa.nD Cert.GateDa.τ Cert.GateDa.sig) → Buf (Elt Bits) ℓ) : Prop :=
  True

def Pre_GateDaIdeal (m : (ℓ : Loc Cert.GateDaIdeal.nD Cert.GateDaIdeal.τ Cert.GateDaIdeal.sig) → Buf (Elt Ideal) ℓ) : Prop :=
  True

def Pre_GateDaRefIdeal (m : (ℓ : Loc Cert.GateDaRefIdeal.nD Cert.GateDaRefIdeal.τ Cert.GateDaRefIdeal.sig) → Buf (Elt Ideal) ℓ) : Prop :=
  True

def Pre_UpDa (m : (ℓ : Loc Cert.UpDa.nD Cert.UpDa.τ Cert.UpDa.sig) → Buf (Elt Bits) ℓ) : Prop :=
  True

def Pre_UpDaIdeal (m : (ℓ : Loc Cert.UpDaIdeal.nD Cert.UpDaIdeal.τ Cert.UpDaIdeal.sig) → Buf (Elt Ideal) ℓ) : Prop :=
  True

def Pre_UpDaRefIdeal (m : (ℓ : Loc Cert.UpDaRefIdeal.nD Cert.UpDaRefIdeal.τ Cert.UpDaRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDwF (m : (ℓ : Loc Cert.ProjDwF.nD Cert.ProjDwF.τ Cert.ProjDwF.sig) → Buf (Elt Bits) ℓ) : Prop :=
  True

def Pre_ProjDwFIdeal (m : (ℓ : Loc Cert.ProjDwFIdeal.nD Cert.ProjDwFIdeal.τ Cert.ProjDwFIdeal.sig) → Buf (Elt Ideal) ℓ) : Prop :=
  True

def Pre_ProjDwFRefIdeal (m : (ℓ : Loc Cert.ProjDwFRefIdeal.nD Cert.ProjDwFRefIdeal.τ Cert.ProjDwFRefIdeal.sig) → Buf (Elt Ideal) ℓ) : Prop :=
  True

def Pre_InDw1536 (m : (ℓ : Loc Cert.InDw1536.nD Cert.InDw1536.τ Cert.InDw1536.sig) → Buf (Elt Bits) ℓ) : Prop :=
  True

def Pre_InDw1536Ideal (m : (ℓ : Loc Cert.InDw1536Ideal.nD Cert.InDw1536Ideal.τ Cert.InDw1536Ideal.sig) → Buf (Elt Ideal) ℓ) : Prop :=
  True

def Pre_InDw1536RefIdeal (m : (ℓ : Loc Cert.InDw1536RefIdeal.nD Cert.InDw1536RefIdeal.τ Cert.InDw1536RefIdeal.sig) → Buf (Elt Ideal) ℓ) : Prop :=
  True

def Pre_InDw384 (m : (ℓ : Loc Cert.InDw384.nD Cert.InDw384.τ Cert.InDw384.sig) → Buf (Elt Bits) ℓ) : Prop :=
  True

def Pre_InDw384Ideal (m : (ℓ : Loc Cert.InDw384Ideal.nD Cert.InDw384Ideal.τ Cert.InDw384Ideal.sig) → Buf (Elt Ideal) ℓ) : Prop :=
  True

def Pre_InDw384RefIdeal (m : (ℓ : Loc Cert.InDw384RefIdeal.nD Cert.InDw384RefIdeal.τ Cert.InDw384RefIdeal.sig) → Buf (Elt Ideal) ℓ) : Prop :=
  True

def Pre_InDw256 (m : (ℓ : Loc Cert.InDw256.nD Cert.InDw256.τ Cert.InDw256.sig) → Buf (Elt Bits) ℓ) : Prop :=
  True

def Pre_InDw256Ideal (m : (ℓ : Loc Cert.InDw256Ideal.nD Cert.InDw256Ideal.τ Cert.InDw256Ideal.sig) → Buf (Elt Ideal) ℓ) : Prop :=
  True

def Pre_InDw256RefIdeal (m : (ℓ : Loc Cert.InDw256RefIdeal.nD Cert.InDw256RefIdeal.τ Cert.InDw256RefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_UqDa (m : (ℓ : Loc Cert.UqDa.nD Cert.UqDa.τ Cert.UqDa.sig) → Buf (Elt Bits) ℓ) : Prop :=
  True

def Pre_UqDaIdeal (m : (ℓ : Loc Cert.UqDaIdeal.nD Cert.UqDaIdeal.τ Cert.UqDaIdeal.sig) → Buf (Elt Ideal) ℓ) : Prop :=
  True

def Pre_UqDaRefIdeal (m : (ℓ : Loc Cert.UqDaRefIdeal.nD Cert.UqDaRefIdeal.τ Cert.UqDaRefIdeal.sig) → Buf (Elt Ideal) ℓ) : Prop :=
  True

def Pre_UkvDa (m : (ℓ : Loc Cert.UkvDa.nD Cert.UkvDa.τ Cert.UkvDa.sig) → Buf (Elt Bits) ℓ) : Prop :=
  True

def Pre_UkvDaIdeal (m : (ℓ : Loc Cert.UkvDaIdeal.nD Cert.UkvDaIdeal.τ Cert.UkvDaIdeal.sig) → Buf (Elt Ideal) ℓ) : Prop :=
  True

def Pre_UkvDaRefIdeal (m : (ℓ : Loc Cert.UkvDaRefIdeal.nD Cert.UkvDaRefIdeal.τ Cert.UkvDaRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwRefIdeal (m : (ℓ : Loc Cert.UkvDwRefIdeal.nD Cert.UkvDwRefIdeal.τ Cert.UkvDwRefIdeal.sig) → Buf (Elt Ideal) ℓ) : Prop :=
  True

def Pre_InDw128 (m : (ℓ : Loc Cert.InDw128.nD Cert.InDw128.τ Cert.InDw128.sig) → Buf (Elt Bits) ℓ) : Prop :=
  True

def Pre_InDw128Ideal (m : (ℓ : Loc Cert.InDw128Ideal.nD Cert.InDw128Ideal.τ Cert.InDw128Ideal.sig) → Buf (Elt Ideal) ℓ) : Prop :=
  True

def Pre_InDw128RefIdeal (m : (ℓ : Loc Cert.InDw128RefIdeal.nD Cert.InDw128RefIdeal.τ Cert.InDw128RefIdeal.sig) → Buf (Elt Ideal) ℓ) : Prop :=
  True

def Pre_InDw32 (m : (ℓ : Loc Cert.InDw32.nD Cert.InDw32.τ Cert.InDw32.sig) → Buf (Elt Bits) ℓ) : Prop :=
  True

def Pre_InDw32Ideal (m : (ℓ : Loc Cert.InDw32Ideal.nD Cert.InDw32Ideal.τ Cert.InDw32Ideal.sig) → Buf (Elt Ideal) ℓ) : Prop :=
  True

def Pre_InDw32RefIdeal (m : (ℓ : Loc Cert.InDw32RefIdeal.nD Cert.InDw32RefIdeal.τ Cert.InDw32RefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwRefIdeal (m : (ℓ : Loc Cert.ModDwRefIdeal.nD Cert.ModDwRefIdeal.τ Cert.ModDwRefIdeal.sig) → Buf (Elt Ideal) ℓ) : Prop :=
  True

def Pre_ModDa (m : (ℓ : Loc Cert.ModDa.nD Cert.ModDa.τ Cert.ModDa.sig) → Buf (Elt Bits) ℓ) : Prop :=
  True

def Pre_ModDaIdeal (m : (ℓ : Loc Cert.ModDaIdeal.nD Cert.ModDaIdeal.τ Cert.ModDaIdeal.sig) → Buf (Elt Ideal) ℓ) : Prop :=
  True

def Pre_ModDaRefIdeal (m : (ℓ : Loc Cert.ModDaRefIdeal.nD Cert.ModDaRefIdeal.τ Cert.ModDaRefIdeal.sig) → Buf (Elt Ideal) ℓ) : Prop :=
  True

def Pre_ModDaAdd (m : (ℓ : Loc Cert.ModDaAdd.nD Cert.ModDaAdd.τ Cert.ModDaAdd.sig) → Buf (Elt Bits) ℓ) : Prop :=
  True

def Pre_ModDaAddIdeal (m : (ℓ : Loc Cert.ModDaAddIdeal.nD Cert.ModDaAddIdeal.τ Cert.ModDaAddIdeal.sig) → Buf (Elt Ideal) ℓ) : Prop :=
  True

def Pre_ModDaAddRefIdeal (m : (ℓ : Loc Cert.ModDaAddRefIdeal.nD Cert.ModDaAddRefIdeal.τ Cert.ModDaAddRefIdeal.sig) → Buf (Elt Ideal) ℓ) : Prop :=
  True

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ r.2.sem = fun _ => 0)

def quiescent_BwdIdeal_pre_finite_bwd [hBwdIdeal : Cert.BwdIdeal.Facts] [hPre_finite_bwd : Cert.Pre_finite_bwd.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_finite_bwd m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3))
      ∧ r.2.sem = fun _ => 0)

def quiescent_BwdRefIdeal_pre_finite_bwd [hBwdRefIdeal : Cert.BwdRefIdeal.Facts] [hPre_finite_bwd : Cert.Pre_finite_bwd.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal_finite_bwd m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ r.2.sem = fun _ => 0)

def quiescent_DownDaRefIdeal [hDownDaRefIdeal : Cert.DownDaRefIdeal.Facts] : Prop :=
  ∀ (m : (ℓ : Loc Cert.DownDaRefIdeal.nD Cert.DownDaRefIdeal.τ Cert.DownDaRefIdeal.sig) → Buf (Elt Ideal) ℓ) (g : Dev Cert.DownDaRefIdeal.nD → PrngReg), Pre_DownDaRefIdeal m →
    θ_run (Cert.DownDaRefIdeal.defs (F := Ideal)) (onTc (τ := Cert.DownDaRefIdeal.τ) (Cert.DownDaRefIdeal.main (F := Ideal))) ⟨m, fun _ => 0, g⟩ (fun r => (∀ c : Dev Cert.DownDaRefIdeal.nD,
      r.2.mem ((c.tc : Thread Cert.DownDaRefIdeal.nD Cert.DownDaRefIdeal.τ).loc Cert.DownDaRefIdeal.main_arg0) = m ((c.tc : Thread Cert.DownDaRefIdeal.nD Cert.DownDaRefIdeal.τ).loc Cert.DownDaRefIdeal.main_arg0)
      ∧ r.2.mem ((c.tc : Thread Cert.DownDaRefIdeal.nD Cert.DownDaRefIdeal.τ).loc Cert.DownDaRefIdeal.main_arg1) = m ((c.tc : Thread Cert.DownDaRefIdeal.nD Cert.DownDaRefIdeal.τ).loc Cert.DownDaRefIdeal.main_arg1))
      ∧ r.2.sem = fun _ => 0)

def quiescent_ProjDa [hProjDa : Cert.ProjDa.Facts] : Prop :=
  ∀ (m : (ℓ : Loc Cert.ProjDa.nD Cert.ProjDa.τ Cert.ProjDa.sig) → Buf (Elt Bits) ℓ) (g : Dev Cert.ProjDa.nD → PrngReg), Pre_ProjDa m →
    θ_run (Cert.ProjDa.defs (F := Bits)) (onTc (τ := Cert.ProjDa.τ) (Cert.ProjDa.main (F := Bits))) ⟨m, fun _ => 0, g⟩ (fun r => (∀ c : Dev Cert.ProjDa.nD,
      r.2.mem ((c.tc : Thread Cert.ProjDa.nD Cert.ProjDa.τ).loc Cert.ProjDa.main_arg0) = m ((c.tc : Thread Cert.ProjDa.nD Cert.ProjDa.τ).loc Cert.ProjDa.main_arg0)
      ∧ r.2.mem ((c.tc : Thread Cert.ProjDa.nD Cert.ProjDa.τ).loc Cert.ProjDa.main_arg1) = m ((c.tc : Thread Cert.ProjDa.nD Cert.ProjDa.τ).loc Cert.ProjDa.main_arg1))
      ∧ r.2.sem = fun _ => 0)

def quiescent_ProjDaIdeal [hProjDaIdeal : Cert.ProjDaIdeal.Facts] : Prop :=
  ∀ (m : (ℓ : Loc Cert.ProjDaIdeal.nD Cert.ProjDaIdeal.τ Cert.ProjDaIdeal.sig) → Buf (Elt Ideal) ℓ) (g : Dev Cert.ProjDaIdeal.nD → PrngReg), Pre_ProjDaIdeal m →
    θ_run (Cert.ProjDaIdeal.defs (F := Ideal)) (onTc (τ := Cert.ProjDaIdeal.τ) (Cert.ProjDaIdeal.main (F := Ideal))) ⟨m, fun _ => 0, g⟩ (fun r => (∀ c : Dev Cert.ProjDaIdeal.nD,
      r.2.mem ((c.tc : Thread Cert.ProjDaIdeal.nD Cert.ProjDaIdeal.τ).loc Cert.ProjDaIdeal.main_arg0) = m ((c.tc : Thread Cert.ProjDaIdeal.nD Cert.ProjDaIdeal.τ).loc Cert.ProjDaIdeal.main_arg0)
      ∧ r.2.mem ((c.tc : Thread Cert.ProjDaIdeal.nD Cert.ProjDaIdeal.τ).loc Cert.ProjDaIdeal.main_arg1) = m ((c.tc : Thread Cert.ProjDaIdeal.nD Cert.ProjDaIdeal.τ).loc Cert.ProjDaIdeal.main_arg1))
      ∧ r.2.sem = fun _ => 0)

def quiescent_ProjDaRefIdeal [hProjDaRefIdeal : Cert.ProjDaRefIdeal.Facts] : Prop :=
  ∀ (m : (ℓ : Loc Cert.ProjDaRefIdeal.nD Cert.ProjDaRefIdeal.τ Cert.ProjDaRefIdeal.sig) → Buf (Elt Ideal) ℓ) (g : Dev Cert.ProjDaRefIdeal.nD → PrngReg), Pre_ProjDaRefIdeal m →
    θ_run (Cert.ProjDaRefIdeal.defs (F := Ideal)) (onTc (τ := Cert.ProjDaRefIdeal.τ) (Cert.ProjDaRefIdeal.main (F := Ideal))) ⟨m, fun _ => 0, g⟩ (fun r => (∀ c : Dev Cert.ProjDaRefIdeal.nD,
      r.2.mem ((c.tc : Thread Cert.ProjDaRefIdeal.nD Cert.ProjDaRefIdeal.τ).loc Cert.ProjDaRefIdeal.main_arg0) = m ((c.tc : Thread Cert.ProjDaRefIdeal.nD Cert.ProjDaRefIdeal.τ).loc Cert.ProjDaRefIdeal.main_arg0)
      ∧ r.2.mem ((c.tc : Thread Cert.ProjDaRefIdeal.nD Cert.ProjDaRefIdeal.τ).loc Cert.ProjDaRefIdeal.main_arg1) = m ((c.tc : Thread Cert.ProjDaRefIdeal.nD Cert.ProjDaRefIdeal.τ).loc Cert.ProjDaRefIdeal.main_arg1))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ r.2.sem = fun _ => 0)

def quiescent_ProjFRefIdeal [hProjFRefIdeal : Cert.ProjFRefIdeal.Facts] : Prop :=
  ∀ (m : (ℓ : Loc Cert.ProjFRefIdeal.nD Cert.ProjFRefIdeal.τ Cert.ProjFRefIdeal.sig) → Buf (Elt Ideal) ℓ) (g : Dev Cert.ProjFRefIdeal.nD → PrngReg), Pre_ProjFRefIdeal m →
    θ_run (Cert.ProjFRefIdeal.defs (F := Ideal)) (onTc (τ := Cert.ProjFRefIdeal.τ) (Cert.ProjFRefIdeal.main (F := Ideal))) ⟨m, fun _ => 0, g⟩ (fun r => (∀ c : Dev Cert.ProjFRefIdeal.nD,
      r.2.mem ((c.tc : Thread Cert.ProjFRefIdeal.nD Cert.ProjFRefIdeal.τ).loc Cert.ProjFRefIdeal.main_arg0) = m ((c.tc : Thread Cert.ProjFRefIdeal.nD Cert.ProjFRefIdeal.τ).loc Cert.ProjFRefIdeal.main_arg0)
      ∧ r.2.mem ((c.tc : Thread Cert.ProjFRefIdeal.nD Cert.ProjFRefIdeal.τ).loc Cert.ProjFRefIdeal.main_arg1) = m ((c.tc : Thread Cert.ProjFRefIdeal.nD Cert.ProjFRefIdeal.τ).loc Cert.ProjFRefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_In0 [hIn0 : Cert.In0.Facts] : Prop :=
  ∀ (m : (ℓ : Loc Cert.In0.nD Cert.In0.τ Cert.In0.sig) → Buf (Elt Bits) ℓ) (g : Dev Cert.In0.nD → PrngReg), Pre_In0 m →
    θ_run (Cert.In0.defs (F := Bits)) (onTc (τ := Cert.In0.τ) (Cert.In0.main (F := Bits))) ⟨m, fun _ => 0, g⟩ (fun r => (∀ c : Dev Cert.In0.nD,
      r.2.mem ((c.tc : Thread Cert.In0.nD Cert.In0.τ).loc Cert.In0.main_arg0) = m ((c.tc : Thread Cert.In0.nD Cert.In0.τ).loc Cert.In0.main_arg0)
      ∧ r.2.mem ((c.tc : Thread Cert.In0.nD Cert.In0.τ).loc Cert.In0.main_arg1) = m ((c.tc : Thread Cert.In0.nD Cert.In0.τ).loc Cert.In0.main_arg1)
      ∧ r.2.mem ((c.tc : Thread Cert.In0.nD Cert.In0.τ).loc Cert.In0.main_arg2) = m ((c.tc : Thread Cert.In0.nD Cert.In0.τ).loc Cert.In0.main_arg2)
      ∧ r.2.mem ((c.tc : Thread Cert.In0.nD Cert.In0.τ).loc Cert.In0.main_arg3) = m ((c.tc : Thread Cert.In0.nD Cert.In0.τ).loc Cert.In0.main_arg3)
      ∧ r.2.mem ((c.tc : Thread Cert.In0.nD Cert.In0.τ).loc Cert.In0.main_arg4) = m ((c.tc : Thread Cert.In0.nD Cert.In0.τ).loc Cert.In0.main_arg4)
      ∧ r.2.mem ((c.tc : Thread Cert.In0.nD Cert.In0.τ).loc Cert.In0.main_arg5) = m ((c.tc : Thread Cert.In0.nD Cert.In0.τ).loc Cert.In0.main_arg5)
      ∧ r.2.mem ((c.tc : Thread Cert.In0.nD Cert.In0.τ).loc Cert.In0.main_arg6) = m ((c.tc : Thread Cert.In0.nD Cert.In0.τ).loc Cert.In0.main_arg6)
      ∧ r.2.mem ((c.tc : Thread Cert.In0.nD Cert.In0.τ).loc Cert.In0.main_arg7) = m ((c.tc : Thread Cert.In0.nD Cert.In0.τ).loc Cert.In0.main_arg7))
      ∧ r.2.sem = fun _ => 0)

def quiescent_In0Ideal [hIn0Ideal : Cert.In0Ideal.Facts] : Prop :=
  ∀ (m : (ℓ : Loc Cert.In0Ideal.nD Cert.In0Ideal.τ Cert.In0Ideal.sig) → Buf (Elt Ideal) ℓ) (g : Dev Cert.In0Ideal.nD → PrngReg), Pre_In0Ideal m →
    θ_run (Cert.In0Ideal.defs (F := Ideal)) (onTc (τ := Cert.In0Ideal.τ) (Cert.In0Ideal.main (F := Ideal))) ⟨m, fun _ => 0, g⟩ (fun r => (∀ c : Dev Cert.In0Ideal.nD,
      r.2.mem ((c.tc : Thread Cert.In0Ideal.nD Cert.In0Ideal.τ).loc Cert.In0Ideal.main_arg0) = m ((c.tc : Thread Cert.In0Ideal.nD Cert.In0Ideal.τ).loc Cert.In0Ideal.main_arg0)
      ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
      ∧ r.2.mem ((c.tc : Thread Cert.In0Ideal.nD Cert.In0Ideal.τ).loc Cert.In0Ideal.main_arg2) = m ((c.tc : Thread Cert.In0Ideal.nD Cert.In0Ideal.τ).loc Cert.In0Ideal.main_arg2)
      ∧ r.2.mem ((c.tc : Thread Cert.In0Ideal.nD Cert.In0Ideal.τ).loc Cert.In0Ideal.main_arg3) = m ((c.tc : Thread Cert.In0Ideal.nD Cert.In0Ideal.τ).loc Cert.In0Ideal.main_arg3)
      ∧ r.2.mem ((c.tc : Thread Cert.In0Ideal.nD Cert.In0Ideal.τ).loc Cert.In0Ideal.main_arg4) = m ((c.tc : Thread Cert.In0Ideal.nD Cert.In0Ideal.τ).loc Cert.In0Ideal.main_arg4)
      ∧ r.2.mem ((c.tc : Thread Cert.In0Ideal.nD Cert.In0Ideal.τ).loc Cert.In0Ideal.main_arg5) = m ((c.tc : Thread Cert.In0Ideal.nD Cert.In0Ideal.τ).loc Cert.In0Ideal.main_arg5)
      ∧ r.2.mem ((c.tc : Thread Cert.In0Ideal.nD Cert.In0Ideal.τ).loc Cert.In0Ideal.main_arg6) = m ((c.tc : Thread Cert.In0Ideal.nD Cert.In0Ideal.τ).loc Cert.In0Ideal.main_arg6)
      ∧ r.2.mem ((c.tc : Thread Cert.In0Ideal.nD Cert.In0Ideal.τ).loc Cert.In0Ideal.main_arg7) = m ((c.tc : Thread Cert.In0Ideal.nD Cert.In0Ideal.τ).loc Cert.In0Ideal.main_arg7))
      ∧ r.2.sem = fun _ => 0)

def quiescent_In0RefIdeal [hIn0RefIdeal : Cert.In0RefIdeal.Facts] : Prop :=
  ∀ (m : (ℓ : Loc Cert.In0RefIdeal.nD Cert.In0RefIdeal.τ Cert.In0RefIdeal.sig) → Buf (Elt Ideal) ℓ) (g : Dev Cert.In0RefIdeal.nD → PrngReg), Pre_In0RefIdeal m →
    θ_run (Cert.In0RefIdeal.defs (F := Ideal)) (onTc (τ := Cert.In0RefIdeal.τ) (Cert.In0RefIdeal.main (F := Ideal))) ⟨m, fun _ => 0, g⟩ (fun r => (∀ c : Dev Cert.In0RefIdeal.nD,
      r.2.mem ((c.tc : Thread Cert.In0RefIdeal.nD Cert.In0RefIdeal.τ).loc Cert.In0RefIdeal.main_arg0) = m ((c.tc : Thread Cert.In0RefIdeal.nD Cert.In0RefIdeal.τ).loc Cert.In0RefIdeal.main_arg0)
      ∧ r.2.mem ((c.tc : Thread Cert.In0RefIdeal.nD Cert.In0RefIdeal.τ).loc Cert.In0RefIdeal.main_arg1) = m ((c.tc : Thread Cert.In0RefIdeal.nD Cert.In0RefIdeal.τ).loc Cert.In0RefIdeal.main_arg1)
      ∧ r.2.mem ((c.tc : Thread Cert.In0RefIdeal.nD Cert.In0RefIdeal.τ).loc Cert.In0RefIdeal.main_arg2) = m ((c.tc : Thread Cert.In0RefIdeal.nD Cert.In0RefIdeal.τ).loc Cert.In0RefIdeal.main_arg2)
      ∧ r.2.mem ((c.tc : Thread Cert.In0RefIdeal.nD Cert.In0RefIdeal.τ).loc Cert.In0RefIdeal.main_arg3) = m ((c.tc : Thread Cert.In0RefIdeal.nD Cert.In0RefIdeal.τ).loc Cert.In0RefIdeal.main_arg3)
      ∧ r.2.mem ((c.tc : Thread Cert.In0RefIdeal.nD Cert.In0RefIdeal.τ).loc Cert.In0RefIdeal.main_arg4) = m ((c.tc : Thread Cert.In0RefIdeal.nD Cert.In0RefIdeal.τ).loc Cert.In0RefIdeal.main_arg4)
      ∧ r.2.mem ((c.tc : Thread Cert.In0RefIdeal.nD Cert.In0RefIdeal.τ).loc Cert.In0RefIdeal.main_arg5) = m ((c.tc : Thread Cert.In0RefIdeal.nD Cert.In0RefIdeal.τ).loc Cert.In0RefIdeal.main_arg5)
      ∧ r.2.mem ((c.tc : Thread Cert.In0RefIdeal.nD Cert.In0RefIdeal.τ).loc Cert.In0RefIdeal.main_arg6) = m ((c.tc : Thread Cert.In0RefIdeal.nD Cert.In0RefIdeal.τ).loc Cert.In0RefIdeal.main_arg6)
      ∧ r.2.mem ((c.tc : Thread Cert.In0RefIdeal.nD Cert.In0RefIdeal.τ).loc Cert.In0RefIdeal.main_arg7) = m ((c.tc : Thread Cert.In0RefIdeal.nD Cert.In0RefIdeal.τ).loc Cert.In0RefIdeal.main_arg7))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1)
      ∧ r.2.mem ((c.tc : Thread Cert.In1.nD Cert.In1.τ).loc Cert.In1.main_arg2) = m ((c.tc : Thread Cert.In1.nD Cert.In1.τ).loc Cert.In1.main_arg2)
      ∧ r.2.mem ((c.tc : Thread Cert.In1.nD Cert.In1.τ).loc Cert.In1.main_arg3) = m ((c.tc : Thread Cert.In1.nD Cert.In1.τ).loc Cert.In1.main_arg3)
      ∧ r.2.mem ((c.tc : Thread Cert.In1.nD Cert.In1.τ).loc Cert.In1.main_arg4) = m ((c.tc : Thread Cert.In1.nD Cert.In1.τ).loc Cert.In1.main_arg4)
      ∧ r.2.mem ((c.tc : Thread Cert.In1.nD Cert.In1.τ).loc Cert.In1.main_arg5) = m ((c.tc : Thread Cert.In1.nD Cert.In1.τ).loc Cert.In1.main_arg5))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
      ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
      ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
      ∧ r.2.mem ((c.tc : Thread Cert.In1Ideal.nD Cert.In1Ideal.τ).loc Cert.In1Ideal.main_arg4) = m ((c.tc : Thread Cert.In1Ideal.nD Cert.In1Ideal.τ).loc Cert.In1Ideal.main_arg4)
      ∧ r.2.mem ((c.tc : Thread Cert.In1Ideal.nD Cert.In1Ideal.τ).loc Cert.In1Ideal.main_arg5) = m ((c.tc : Thread Cert.In1Ideal.nD Cert.In1Ideal.τ).loc Cert.In1Ideal.main_arg5))
      ∧ r.2.sem = fun _ => 0)

def quiescent_In1RefIdeal [hIn1RefIdeal : Cert.In1RefIdeal.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1)
      ∧ r.2.mem ((c.tc : Thread Cert.In1RefIdeal.nD Cert.In1RefIdeal.τ).loc Cert.In1RefIdeal.main_arg2) = m ((c.tc : Thread Cert.In1RefIdeal.nD Cert.In1RefIdeal.τ).loc Cert.In1RefIdeal.main_arg2)
      ∧ r.2.mem ((c.tc : Thread Cert.In1RefIdeal.nD Cert.In1RefIdeal.τ).loc Cert.In1RefIdeal.main_arg3) = m ((c.tc : Thread Cert.In1RefIdeal.nD Cert.In1RefIdeal.τ).loc Cert.In1RefIdeal.main_arg3)
      ∧ r.2.mem ((c.tc : Thread Cert.In1RefIdeal.nD Cert.In1RefIdeal.τ).loc Cert.In1RefIdeal.main_arg4) = m ((c.tc : Thread Cert.In1RefIdeal.nD Cert.In1RefIdeal.τ).loc Cert.In1RefIdeal.main_arg4)
      ∧ r.2.mem ((c.tc : Thread Cert.In1RefIdeal.nD Cert.In1RefIdeal.τ).loc Cert.In1RefIdeal.main_arg5) = m ((c.tc : Thread Cert.In1RefIdeal.nD Cert.In1RefIdeal.τ).loc Cert.In1RefIdeal.main_arg5))
      ∧ r.2.sem = fun _ => 0)

def quiescent_InDa0 [hInDa0 : Cert.InDa0.Facts] : Prop :=
  ∀ (m : (ℓ : Loc Cert.InDa0.nD Cert.InDa0.τ Cert.InDa0.sig) → Buf (Elt Bits) ℓ) (g : Dev Cert.InDa0.nD → PrngReg), Pre_InDa0 m →
    θ_run (Cert.InDa0.defs (F := Bits)) (onTc (τ := Cert.InDa0.τ) (Cert.InDa0.main (F := Bits))) ⟨m, fun _ => 0, g⟩ (fun r => (∀ c : Dev Cert.InDa0.nD,
      r.2.mem ((c.tc : Thread Cert.InDa0.nD Cert.InDa0.τ).loc Cert.InDa0.main_arg0) = m ((c.tc : Thread Cert.InDa0.nD Cert.InDa0.τ).loc Cert.InDa0.main_arg0)
      ∧ r.2.mem ((c.tc : Thread Cert.InDa0.nD Cert.InDa0.τ).loc Cert.InDa0.main_arg1) = m ((c.tc : Thread Cert.InDa0.nD Cert.InDa0.τ).loc Cert.InDa0.main_arg1)
      ∧ r.2.mem ((c.tc : Thread Cert.InDa0.nD Cert.InDa0.τ).loc Cert.InDa0.main_arg2) = m ((c.tc : Thread Cert.InDa0.nD Cert.InDa0.τ).loc Cert.InDa0.main_arg2)
      ∧ r.2.mem ((c.tc : Thread Cert.InDa0.nD Cert.InDa0.τ).loc Cert.InDa0.main_arg3) = m ((c.tc : Thread Cert.InDa0.nD Cert.InDa0.τ).loc Cert.InDa0.main_arg3)
      ∧ r.2.mem ((c.tc : Thread Cert.InDa0.nD Cert.InDa0.τ).loc Cert.InDa0.main_arg4) = m ((c.tc : Thread Cert.InDa0.nD Cert.InDa0.τ).loc Cert.InDa0.main_arg4)
      ∧ r.2.mem ((c.tc : Thread Cert.InDa0.nD Cert.InDa0.τ).loc Cert.InDa0.main_arg5) = m ((c.tc : Thread Cert.InDa0.nD Cert.InDa0.τ).loc Cert.InDa0.main_arg5)
      ∧ r.2.mem ((c.tc : Thread Cert.InDa0.nD Cert.InDa0.τ).loc Cert.InDa0.main_arg6) = m ((c.tc : Thread Cert.InDa0.nD Cert.InDa0.τ).loc Cert.InDa0.main_arg6)
      ∧ r.2.mem ((c.tc : Thread Cert.InDa0.nD Cert.InDa0.τ).loc Cert.InDa0.main_arg7) = m ((c.tc : Thread Cert.InDa0.nD Cert.InDa0.τ).loc Cert.InDa0.main_arg7)
      ∧ r.2.mem ((c.tc : Thread Cert.InDa0.nD Cert.InDa0.τ).loc Cert.InDa0.main_arg8) = m ((c.tc : Thread Cert.InDa0.nD Cert.InDa0.τ).loc Cert.InDa0.main_arg8)
      ∧ r.2.mem ((c.tc : Thread Cert.InDa0.nD Cert.InDa0.τ).loc Cert.InDa0.main_arg9) = m ((c.tc : Thread Cert.InDa0.nD Cert.InDa0.τ).loc Cert.InDa0.main_arg9)
      ∧ r.2.mem ((c.tc : Thread Cert.InDa0.nD Cert.InDa0.τ).loc Cert.InDa0.main_arg10) = m ((c.tc : Thread Cert.InDa0.nD Cert.InDa0.τ).loc Cert.InDa0.main_arg10)
      ∧ r.2.mem ((c.tc : Thread Cert.InDa0.nD Cert.InDa0.τ).loc Cert.InDa0.main_arg11) = m ((c.tc : Thread Cert.InDa0.nD Cert.InDa0.τ).loc Cert.InDa0.main_arg11)
      ∧ r.2.mem ((c.tc : Thread Cert.InDa0.nD Cert.InDa0.τ).loc Cert.InDa0.main_arg12) = m ((c.tc : Thread Cert.InDa0.nD Cert.InDa0.τ).loc Cert.InDa0.main_arg12)
      ∧ r.2.mem ((c.tc : Thread Cert.InDa0.nD Cert.InDa0.τ).loc Cert.InDa0.main_arg13) = m ((c.tc : Thread Cert.InDa0.nD Cert.InDa0.τ).loc Cert.InDa0.main_arg13))
      ∧ r.2.sem = fun _ => 0)

def quiescent_InDa0Ideal [hInDa0Ideal : Cert.InDa0Ideal.Facts] : Prop :=
  ∀ (m : (ℓ : Loc Cert.InDa0Ideal.nD Cert.InDa0Ideal.τ Cert.InDa0Ideal.sig) → Buf (Elt Ideal) ℓ) (g : Dev Cert.InDa0Ideal.nD → PrngReg), Pre_InDa0Ideal m →
    θ_run (Cert.InDa0Ideal.defs (F := Ideal)) (onTc (τ := Cert.InDa0Ideal.τ) (Cert.InDa0Ideal.main (F := Ideal))) ⟨m, fun _ => 0, g⟩ (fun r => (∀ c : Dev Cert.InDa0Ideal.nD,
      r.2.mem ((c.tc : Thread Cert.InDa0Ideal.nD Cert.InDa0Ideal.τ).loc Cert.InDa0Ideal.main_arg0) = m ((c.tc : Thread Cert.InDa0Ideal.nD Cert.InDa0Ideal.τ).loc Cert.InDa0Ideal.main_arg0)
      ∧ r.2.mem ((c.tc : Thread Cert.InDa0Ideal.nD Cert.InDa0Ideal.τ).loc Cert.InDa0Ideal.main_arg1) = m ((c.tc : Thread Cert.InDa0Ideal.nD Cert.InDa0Ideal.τ).loc Cert.InDa0Ideal.main_arg1)
      ∧ r.2.mem ((c.tc : Thread Cert.InDa0Ideal.nD Cert.InDa0Ideal.τ).loc Cert.InDa0Ideal.main_arg2) = m ((c.tc : Thread Cert.InDa0Ideal.nD Cert.InDa0Ideal.τ).loc Cert.InDa0Ideal.main_arg2)
      ∧ r.2.mem ((c.tc : Thread Cert.InDa0Ideal.nD Cert.InDa0Ideal.τ).loc Cert.InDa0Ideal.main_arg3) = m ((c.tc : Thread Cert.InDa0Ideal.nD Cert.InDa0Ideal.τ).loc Cert.InDa0Ideal.main_arg3)
      ∧ r.2.mem ((c.tc : Thread Cert.InDa0Ideal.nD Cert.InDa0Ideal.τ).loc Cert.InDa0Ideal.main_arg4) = m ((c.tc : Thread Cert.InDa0Ideal.nD Cert.InDa0Ideal.τ).loc Cert.InDa0Ideal.main_arg4)
      ∧ r.2.mem ((c.tc : Thread Cert.InDa0Ideal.nD Cert.InDa0Ideal.τ).loc Cert.InDa0Ideal.main_arg5) = m ((c.tc : Thread Cert.InDa0Ideal.nD Cert.InDa0Ideal.τ).loc Cert.InDa0Ideal.main_arg5)
      ∧ r.2.mem ((c.tc : Thread Cert.InDa0Ideal.nD Cert.InDa0Ideal.τ).loc Cert.InDa0Ideal.main_arg6) = m ((c.tc : Thread Cert.InDa0Ideal.nD Cert.InDa0Ideal.τ).loc Cert.InDa0Ideal.main_arg6)
      ∧ r.2.mem ((c.tc : Thread Cert.InDa0Ideal.nD Cert.InDa0Ideal.τ).loc Cert.InDa0Ideal.main_arg7) = m ((c.tc : Thread Cert.InDa0Ideal.nD Cert.InDa0Ideal.τ).loc Cert.InDa0Ideal.main_arg7)
      ∧ r.2.mem ((c.tc : Thread Cert.InDa0Ideal.nD Cert.InDa0Ideal.τ).loc Cert.InDa0Ideal.main_arg8) = m ((c.tc : Thread Cert.InDa0Ideal.nD Cert.InDa0Ideal.τ).loc Cert.InDa0Ideal.main_arg8)
      ∧ r.2.mem ((c.tc : Thread Cert.InDa0Ideal.nD Cert.InDa0Ideal.τ).loc Cert.InDa0Ideal.main_arg9) = m ((c.tc : Thread Cert.InDa0Ideal.nD Cert.InDa0Ideal.τ).loc Cert.InDa0Ideal.main_arg9)
      ∧ r.2.mem ((c.tc : Thread Cert.InDa0Ideal.nD Cert.InDa0Ideal.τ).loc Cert.InDa0Ideal.main_arg10) = m ((c.tc : Thread Cert.InDa0Ideal.nD Cert.InDa0Ideal.τ).loc Cert.InDa0Ideal.main_arg10)
      ∧ r.2.mem ((c.tc : Thread Cert.InDa0Ideal.nD Cert.InDa0Ideal.τ).loc Cert.InDa0Ideal.main_arg11) = m ((c.tc : Thread Cert.InDa0Ideal.nD Cert.InDa0Ideal.τ).loc Cert.InDa0Ideal.main_arg11)
      ∧ r.2.mem ((c.tc : Thread Cert.InDa0Ideal.nD Cert.InDa0Ideal.τ).loc Cert.InDa0Ideal.main_arg12) = m ((c.tc : Thread Cert.InDa0Ideal.nD Cert.InDa0Ideal.τ).loc Cert.InDa0Ideal.main_arg12)
      ∧ r.2.mem ((c.tc : Thread Cert.InDa0Ideal.nD Cert.InDa0Ideal.τ).loc Cert.InDa0Ideal.main_arg13) = m ((c.tc : Thread Cert.InDa0Ideal.nD Cert.InDa0Ideal.τ).loc Cert.InDa0Ideal.main_arg13))
      ∧ r.2.sem = fun _ => 0)

def quiescent_InDa0RefIdeal [hInDa0RefIdeal : Cert.InDa0RefIdeal.Facts] : Prop :=
  ∀ (m : (ℓ : Loc Cert.InDa0RefIdeal.nD Cert.InDa0RefIdeal.τ Cert.InDa0RefIdeal.sig) → Buf (Elt Ideal) ℓ) (g : Dev Cert.InDa0RefIdeal.nD → PrngReg), Pre_InDa0RefIdeal m →
    θ_run (Cert.InDa0RefIdeal.defs (F := Ideal)) (onTc (τ := Cert.InDa0RefIdeal.τ) (Cert.InDa0RefIdeal.main (F := Ideal))) ⟨m, fun _ => 0, g⟩ (fun r => (∀ c : Dev Cert.InDa0RefIdeal.nD,
      r.2.mem ((c.tc : Thread Cert.InDa0RefIdeal.nD Cert.InDa0RefIdeal.τ).loc Cert.InDa0RefIdeal.main_arg0) = m ((c.tc : Thread Cert.InDa0RefIdeal.nD Cert.InDa0RefIdeal.τ).loc Cert.InDa0RefIdeal.main_arg0)
      ∧ r.2.mem ((c.tc : Thread Cert.InDa0RefIdeal.nD Cert.InDa0RefIdeal.τ).loc Cert.InDa0RefIdeal.main_arg1) = m ((c.tc : Thread Cert.InDa0RefIdeal.nD Cert.InDa0RefIdeal.τ).loc Cert.InDa0RefIdeal.main_arg1)
      ∧ r.2.mem ((c.tc : Thread Cert.InDa0RefIdeal.nD Cert.InDa0RefIdeal.τ).loc Cert.InDa0RefIdeal.main_arg2) = m ((c.tc : Thread Cert.InDa0RefIdeal.nD Cert.InDa0RefIdeal.τ).loc Cert.InDa0RefIdeal.main_arg2)
      ∧ r.2.mem ((c.tc : Thread Cert.InDa0RefIdeal.nD Cert.InDa0RefIdeal.τ).loc Cert.InDa0RefIdeal.main_arg3) = m ((c.tc : Thread Cert.InDa0RefIdeal.nD Cert.InDa0RefIdeal.τ).loc Cert.InDa0RefIdeal.main_arg3)
      ∧ r.2.mem ((c.tc : Thread Cert.InDa0RefIdeal.nD Cert.InDa0RefIdeal.τ).loc Cert.InDa0RefIdeal.main_arg4) = m ((c.tc : Thread Cert.InDa0RefIdeal.nD Cert.InDa0RefIdeal.τ).loc Cert.InDa0RefIdeal.main_arg4)
      ∧ r.2.mem ((c.tc : Thread Cert.InDa0RefIdeal.nD Cert.InDa0RefIdeal.τ).loc Cert.InDa0RefIdeal.main_arg5) = m ((c.tc : Thread Cert.InDa0RefIdeal.nD Cert.InDa0RefIdeal.τ).loc Cert.InDa0RefIdeal.main_arg5)
      ∧ r.2.mem ((c.tc : Thread Cert.InDa0RefIdeal.nD Cert.InDa0RefIdeal.τ).loc Cert.InDa0RefIdeal.main_arg6) = m ((c.tc : Thread Cert.InDa0RefIdeal.nD Cert.InDa0RefIdeal.τ).loc Cert.InDa0RefIdeal.main_arg6)
      ∧ r.2.mem ((c.tc : Thread Cert.InDa0RefIdeal.nD Cert.InDa0RefIdeal.τ).loc Cert.InDa0RefIdeal.main_arg7) = m ((c.tc : Thread Cert.InDa0RefIdeal.nD Cert.InDa0RefIdeal.τ).loc Cert.InDa0RefIdeal.main_arg7)
      ∧ r.2.mem ((c.tc : Thread Cert.InDa0RefIdeal.nD Cert.InDa0RefIdeal.τ).loc Cert.InDa0RefIdeal.main_arg8) = m ((c.tc : Thread Cert.InDa0RefIdeal.nD Cert.InDa0RefIdeal.τ).loc Cert.InDa0RefIdeal.main_arg8)
      ∧ r.2.mem ((c.tc : Thread Cert.InDa0RefIdeal.nD Cert.InDa0RefIdeal.τ).loc Cert.InDa0RefIdeal.main_arg9) = m ((c.tc : Thread Cert.InDa0RefIdeal.nD Cert.InDa0RefIdeal.τ).loc Cert.InDa0RefIdeal.main_arg9)
      ∧ r.2.mem ((c.tc : Thread Cert.InDa0RefIdeal.nD Cert.InDa0RefIdeal.τ).loc Cert.InDa0RefIdeal.main_arg10) = m ((c.tc : Thread Cert.InDa0RefIdeal.nD Cert.InDa0RefIdeal.τ).loc Cert.InDa0RefIdeal.main_arg10)
      ∧ r.2.mem ((c.tc : Thread Cert.InDa0RefIdeal.nD Cert.InDa0RefIdeal.τ).loc Cert.InDa0RefIdeal.main_arg11) = m ((c.tc : Thread Cert.InDa0RefIdeal.nD Cert.InDa0RefIdeal.τ).loc Cert.InDa0RefIdeal.main_arg11)
      ∧ r.2.mem ((c.tc : Thread Cert.InDa0RefIdeal.nD Cert.InDa0RefIdeal.τ).loc Cert.InDa0RefIdeal.main_arg12) = m ((c.tc : Thread Cert.InDa0RefIdeal.nD Cert.InDa0RefIdeal.τ).loc Cert.InDa0RefIdeal.main_arg12)
      ∧ r.2.mem ((c.tc : Thread Cert.InDa0RefIdeal.nD Cert.InDa0RefIdeal.τ).loc Cert.InDa0RefIdeal.main_arg13) = m ((c.tc : Thread Cert.InDa0RefIdeal.nD Cert.InDa0RefIdeal.τ).loc Cert.InDa0RefIdeal.main_arg13))
      ∧ r.2.sem = fun _ => 0)

def quiescent_InDa1 [hInDa1 : Cert.InDa1.Facts] : Prop :=
  ∀ (m : (ℓ : Loc Cert.InDa1.nD Cert.InDa1.τ Cert.InDa1.sig) → Buf (Elt Bits) ℓ) (g : Dev Cert.InDa1.nD → PrngReg), Pre_InDa1 m →
    θ_run (Cert.InDa1.defs (F := Bits)) (onTc (τ := Cert.InDa1.τ) (Cert.InDa1.main (F := Bits))) ⟨m, fun _ => 0, g⟩ (fun r => (∀ c : Dev Cert.InDa1.nD,
      r.2.mem ((c.tc : Thread Cert.InDa1.nD Cert.InDa1.τ).loc Cert.InDa1.main_arg0) = m ((c.tc : Thread Cert.InDa1.nD Cert.InDa1.τ).loc Cert.InDa1.main_arg0)
      ∧ r.2.mem ((c.tc : Thread Cert.InDa1.nD Cert.InDa1.τ).loc Cert.InDa1.main_arg1) = m ((c.tc : Thread Cert.InDa1.nD Cert.InDa1.τ).loc Cert.InDa1.main_arg1)
      ∧ r.2.mem ((c.tc : Thread Cert.InDa1.nD Cert.InDa1.τ).loc Cert.InDa1.main_arg2) = m ((c.tc : Thread Cert.InDa1.nD Cert.InDa1.τ).loc Cert.InDa1.main_arg2)
      ∧ r.2.mem ((c.tc : Thread Cert.InDa1.nD Cert.InDa1.τ).loc Cert.InDa1.main_arg3) = m ((c.tc : Thread Cert.InDa1.nD Cert.InDa1.τ).loc Cert.InDa1.main_arg3)
      ∧ r.2.mem ((c.tc : Thread Cert.InDa1.nD Cert.InDa1.τ).loc Cert.InDa1.main_arg4) = m ((c.tc : Thread Cert.InDa1.nD Cert.InDa1.τ).loc Cert.InDa1.main_arg4)
      ∧ r.2.mem ((c.tc : Thread Cert.InDa1.nD Cert.InDa1.τ).loc Cert.InDa1.main_arg5) = m ((c.tc : Thread Cert.InDa1.nD Cert.InDa1.τ).loc Cert.InDa1.main_arg5)
      ∧ r.2.mem ((c.tc : Thread Cert.InDa1.nD Cert.InDa1.τ).loc Cert.InDa1.main_arg6) = m ((c.tc : Thread Cert.InDa1.nD Cert.InDa1.τ).loc Cert.InDa1.main_arg6)
      ∧ r.2.mem ((c.tc : Thread Cert.InDa1.nD Cert.InDa1.τ).loc Cert.InDa1.main_arg7) = m ((c.tc : Thread Cert.InDa1.nD Cert.InDa1.τ).loc Cert.InDa1.main_arg7)
      ∧ r.2.mem ((c.tc : Thread Cert.InDa1.nD Cert.InDa1.τ).loc Cert.InDa1.main_arg8) = m ((c.tc : Thread Cert.InDa1.nD Cert.InDa1.τ).loc Cert.InDa1.main_arg8)
      ∧ r.2.mem ((c.tc : Thread Cert.InDa1.nD Cert.InDa1.τ).loc Cert.InDa1.main_arg9) = m ((c.tc : Thread Cert.InDa1.nD Cert.InDa1.τ).loc Cert.InDa1.main_arg9)
      ∧ r.2.mem ((c.tc : Thread Cert.InDa1.nD Cert.InDa1.τ).loc Cert.InDa1.main_arg10) = m ((c.tc : Thread Cert.InDa1.nD Cert.InDa1.τ).loc Cert.InDa1.main_arg10))
      ∧ r.2.sem = fun _ => 0)

def quiescent_InDa1Ideal [hInDa1Ideal : Cert.InDa1Ideal.Facts] : Prop :=
  ∀ (m : (ℓ : Loc Cert.InDa1Ideal.nD Cert.InDa1Ideal.τ Cert.InDa1Ideal.sig) → Buf (Elt Ideal) ℓ) (g : Dev Cert.InDa1Ideal.nD → PrngReg), Pre_InDa1Ideal m →
    θ_run (Cert.InDa1Ideal.defs (F := Ideal)) (onTc (τ := Cert.InDa1Ideal.τ) (Cert.InDa1Ideal.main (F := Ideal))) ⟨m, fun _ => 0, g⟩ (fun r => (∀ c : Dev Cert.InDa1Ideal.nD,
      r.2.mem ((c.tc : Thread Cert.InDa1Ideal.nD Cert.InDa1Ideal.τ).loc Cert.InDa1Ideal.main_arg0) = m ((c.tc : Thread Cert.InDa1Ideal.nD Cert.InDa1Ideal.τ).loc Cert.InDa1Ideal.main_arg0)
      ∧ r.2.mem ((c.tc : Thread Cert.InDa1Ideal.nD Cert.InDa1Ideal.τ).loc Cert.InDa1Ideal.main_arg1) = m ((c.tc : Thread Cert.InDa1Ideal.nD Cert.InDa1Ideal.τ).loc Cert.InDa1Ideal.main_arg1)
      ∧ r.2.mem ((c.tc : Thread Cert.InDa1Ideal.nD Cert.InDa1Ideal.τ).loc Cert.InDa1Ideal.main_arg2) = m ((c.tc : Thread Cert.InDa1Ideal.nD Cert.InDa1Ideal.τ).loc Cert.InDa1Ideal.main_arg2)
      ∧ r.2.mem ((c.tc : Thread Cert.InDa1Ideal.nD Cert.InDa1Ideal.τ).loc Cert.InDa1Ideal.main_arg3) = m ((c.tc : Thread Cert.InDa1Ideal.nD Cert.InDa1Ideal.τ).loc Cert.InDa1Ideal.main_arg3)
      ∧ r.2.mem ((c.tc : Thread Cert.InDa1Ideal.nD Cert.InDa1Ideal.τ).loc Cert.InDa1Ideal.main_arg4) = m ((c.tc : Thread Cert.InDa1Ideal.nD Cert.InDa1Ideal.τ).loc Cert.InDa1Ideal.main_arg4)
      ∧ r.2.mem ((c.tc : Thread Cert.InDa1Ideal.nD Cert.InDa1Ideal.τ).loc Cert.InDa1Ideal.main_arg5) = m ((c.tc : Thread Cert.InDa1Ideal.nD Cert.InDa1Ideal.τ).loc Cert.InDa1Ideal.main_arg5)
      ∧ r.2.mem ((c.tc : Thread Cert.InDa1Ideal.nD Cert.InDa1Ideal.τ).loc Cert.InDa1Ideal.main_arg6) = m ((c.tc : Thread Cert.InDa1Ideal.nD Cert.InDa1Ideal.τ).loc Cert.InDa1Ideal.main_arg6)
      ∧ r.2.mem ((c.tc : Thread Cert.InDa1Ideal.nD Cert.InDa1Ideal.τ).loc Cert.InDa1Ideal.main_arg7) = m ((c.tc : Thread Cert.InDa1Ideal.nD Cert.InDa1Ideal.τ).loc Cert.InDa1Ideal.main_arg7)
      ∧ r.2.mem ((c.tc : Thread Cert.InDa1Ideal.nD Cert.InDa1Ideal.τ).loc Cert.InDa1Ideal.main_arg8) = m ((c.tc : Thread Cert.InDa1Ideal.nD Cert.InDa1Ideal.τ).loc Cert.InDa1Ideal.main_arg8)
      ∧ r.2.mem ((c.tc : Thread Cert.InDa1Ideal.nD Cert.InDa1Ideal.τ).loc Cert.InDa1Ideal.main_arg9) = m ((c.tc : Thread Cert.InDa1Ideal.nD Cert.InDa1Ideal.τ).loc Cert.InDa1Ideal.main_arg9)
      ∧ r.2.mem ((c.tc : Thread Cert.InDa1Ideal.nD Cert.InDa1Ideal.τ).loc Cert.InDa1Ideal.main_arg10) = m ((c.tc : Thread Cert.InDa1Ideal.nD Cert.InDa1Ideal.τ).loc Cert.InDa1Ideal.main_arg10))
      ∧ r.2.sem = fun _ => 0)

def quiescent_InDa1RefIdeal [hInDa1RefIdeal : Cert.InDa1RefIdeal.Facts] : Prop :=
  ∀ (m : (ℓ : Loc Cert.InDa1RefIdeal.nD Cert.InDa1RefIdeal.τ Cert.InDa1RefIdeal.sig) → Buf (Elt Ideal) ℓ) (g : Dev Cert.InDa1RefIdeal.nD → PrngReg), Pre_InDa1RefIdeal m →
    θ_run (Cert.InDa1RefIdeal.defs (F := Ideal)) (onTc (τ := Cert.InDa1RefIdeal.τ) (Cert.InDa1RefIdeal.main (F := Ideal))) ⟨m, fun _ => 0, g⟩ (fun r => (∀ c : Dev Cert.InDa1RefIdeal.nD,
      r.2.mem ((c.tc : Thread Cert.InDa1RefIdeal.nD Cert.InDa1RefIdeal.τ).loc Cert.InDa1RefIdeal.main_arg0) = m ((c.tc : Thread Cert.InDa1RefIdeal.nD Cert.InDa1RefIdeal.τ).loc Cert.InDa1RefIdeal.main_arg0)
      ∧ r.2.mem ((c.tc : Thread Cert.InDa1RefIdeal.nD Cert.InDa1RefIdeal.τ).loc Cert.InDa1RefIdeal.main_arg1) = m ((c.tc : Thread Cert.InDa1RefIdeal.nD Cert.InDa1RefIdeal.τ).loc Cert.InDa1RefIdeal.main_arg1)
      ∧ r.2.mem ((c.tc : Thread Cert.InDa1RefIdeal.nD Cert.InDa1RefIdeal.τ).loc Cert.InDa1RefIdeal.main_arg2) = m ((c.tc : Thread Cert.InDa1RefIdeal.nD Cert.InDa1RefIdeal.τ).loc Cert.InDa1RefIdeal.main_arg2)
      ∧ r.2.mem ((c.tc : Thread Cert.InDa1RefIdeal.nD Cert.InDa1RefIdeal.τ).loc Cert.InDa1RefIdeal.main_arg3) = m ((c.tc : Thread Cert.InDa1RefIdeal.nD Cert.InDa1RefIdeal.τ).loc Cert.InDa1RefIdeal.main_arg3)
      ∧ r.2.mem ((c.tc : Thread Cert.InDa1RefIdeal.nD Cert.InDa1RefIdeal.τ).loc Cert.InDa1RefIdeal.main_arg4) = m ((c.tc : Thread Cert.InDa1RefIdeal.nD Cert.InDa1RefIdeal.τ).loc Cert.InDa1RefIdeal.main_arg4)
      ∧ r.2.mem ((c.tc : Thread Cert.InDa1RefIdeal.nD Cert.InDa1RefIdeal.τ).loc Cert.InDa1RefIdeal.main_arg5) = m ((c.tc : Thread Cert.InDa1RefIdeal.nD Cert.InDa1RefIdeal.τ).loc Cert.InDa1RefIdeal.main_arg5)
      ∧ r.2.mem ((c.tc : Thread Cert.InDa1RefIdeal.nD Cert.InDa1RefIdeal.τ).loc Cert.InDa1RefIdeal.main_arg6) = m ((c.tc : Thread Cert.InDa1RefIdeal.nD Cert.InDa1RefIdeal.τ).loc Cert.InDa1RefIdeal.main_arg6)
      ∧ r.2.mem ((c.tc : Thread Cert.InDa1RefIdeal.nD Cert.InDa1RefIdeal.τ).loc Cert.InDa1RefIdeal.main_arg7) = m ((c.tc : Thread Cert.InDa1RefIdeal.nD Cert.InDa1RefIdeal.τ).loc Cert.InDa1RefIdeal.main_arg7)
      ∧ r.2.mem ((c.tc : Thread Cert.InDa1RefIdeal.nD Cert.InDa1RefIdeal.τ).loc Cert.InDa1RefIdeal.main_arg8) = m ((c.tc : Thread Cert.InDa1RefIdeal.nD Cert.InDa1RefIdeal.τ).loc Cert.InDa1RefIdeal.main_arg8)
      ∧ r.2.mem ((c.tc : Thread Cert.InDa1RefIdeal.nD Cert.InDa1RefIdeal.τ).loc Cert.InDa1RefIdeal.main_arg9) = m ((c.tc : Thread Cert.InDa1RefIdeal.nD Cert.InDa1RefIdeal.τ).loc Cert.InDa1RefIdeal.main_arg9)
      ∧ r.2.mem ((c.tc : Thread Cert.InDa1RefIdeal.nD Cert.InDa1RefIdeal.τ).loc Cert.InDa1RefIdeal.main_arg10) = m ((c.tc : Thread Cert.InDa1RefIdeal.nD Cert.InDa1RefIdeal.τ).loc Cert.InDa1RefIdeal.main_arg10))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_GateDa [hGateDa : Cert.GateDa.Facts] : Prop :=
  ∀ (m : (ℓ : Loc Cert.GateDa.nD Cert.GateDa.τ Cert.GateDa.sig) → Buf (Elt Bits) ℓ) (g : Dev Cert.GateDa.nD → PrngReg), Pre_GateDa m →
    θ_run (Cert.GateDa.defs (F := Bits)) (onTc (τ := Cert.GateDa.τ) (Cert.GateDa.main (F := Bits))) ⟨m, fun _ => 0, g⟩ (fun r => (∀ c : Dev Cert.GateDa.nD,
      r.2.mem ((c.tc : Thread Cert.GateDa.nD Cert.GateDa.τ).loc Cert.GateDa.main_arg0) = m ((c.tc : Thread Cert.GateDa.nD Cert.GateDa.τ).loc Cert.GateDa.main_arg0)
      ∧ r.2.mem ((c.tc : Thread Cert.GateDa.nD Cert.GateDa.τ).loc Cert.GateDa.main_arg1) = m ((c.tc : Thread Cert.GateDa.nD Cert.GateDa.τ).loc Cert.GateDa.main_arg1))
      ∧ r.2.sem = fun _ => 0)

def quiescent_GateDaIdeal [hGateDaIdeal : Cert.GateDaIdeal.Facts] : Prop :=
  ∀ (m : (ℓ : Loc Cert.GateDaIdeal.nD Cert.GateDaIdeal.τ Cert.GateDaIdeal.sig) → Buf (Elt Ideal) ℓ) (g : Dev Cert.GateDaIdeal.nD → PrngReg), Pre_GateDaIdeal m →
    θ_run (Cert.GateDaIdeal.defs (F := Ideal)) (onTc (τ := Cert.GateDaIdeal.τ) (Cert.GateDaIdeal.main (F := Ideal))) ⟨m, fun _ => 0, g⟩ (fun r => (∀ c : Dev Cert.GateDaIdeal.nD,
      r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
      ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1))
      ∧ r.2.sem = fun _ => 0)

def quiescent_GateDaRefIdeal [hGateDaRefIdeal : Cert.GateDaRefIdeal.Facts] : Prop :=
  ∀ (m : (ℓ : Loc Cert.GateDaRefIdeal.nD Cert.GateDaRefIdeal.τ Cert.GateDaRefIdeal.sig) → Buf (Elt Ideal) ℓ) (g : Dev Cert.GateDaRefIdeal.nD → PrngReg), Pre_GateDaRefIdeal m →
    θ_run (Cert.GateDaRefIdeal.defs (F := Ideal)) (onTc (τ := Cert.GateDaRefIdeal.τ) (Cert.GateDaRefIdeal.main (F := Ideal))) ⟨m, fun _ => 0, g⟩ (fun r => (∀ c : Dev Cert.GateDaRefIdeal.nD,
      r.2.mem ((c.tc : Thread Cert.GateDaRefIdeal.nD Cert.GateDaRefIdeal.τ).loc Cert.GateDaRefIdeal.main_arg0) = m ((c.tc : Thread Cert.GateDaRefIdeal.nD Cert.GateDaRefIdeal.τ).loc Cert.GateDaRefIdeal.main_arg0)
      ∧ r.2.mem ((c.tc : Thread Cert.GateDaRefIdeal.nD Cert.GateDaRefIdeal.τ).loc Cert.GateDaRefIdeal.main_arg1) = m ((c.tc : Thread Cert.GateDaRefIdeal.nD Cert.GateDaRefIdeal.τ).loc Cert.GateDaRefIdeal.main_arg1))
      ∧ r.2.sem = fun _ => 0)

def quiescent_UpDa [hUpDa : Cert.UpDa.Facts] : Prop :=
  ∀ (m : (ℓ : Loc Cert.UpDa.nD Cert.UpDa.τ Cert.UpDa.sig) → Buf (Elt Bits) ℓ) (g : Dev Cert.UpDa.nD → PrngReg), Pre_UpDa m →
    θ_run (Cert.UpDa.defs (F := Bits)) (onTc (τ := Cert.UpDa.τ) (Cert.UpDa.main (F := Bits))) ⟨m, fun _ => 0, g⟩ (fun r => (∀ c : Dev Cert.UpDa.nD,
      r.2.mem ((c.tc : Thread Cert.UpDa.nD Cert.UpDa.τ).loc Cert.UpDa.main_arg0) = m ((c.tc : Thread Cert.UpDa.nD Cert.UpDa.τ).loc Cert.UpDa.main_arg0)
      ∧ r.2.mem ((c.tc : Thread Cert.UpDa.nD Cert.UpDa.τ).loc Cert.UpDa.main_arg1) = m ((c.tc : Thread Cert.UpDa.nD Cert.UpDa.τ).loc Cert.UpDa.main_arg1)
      ∧ r.2.mem ((c.tc : Thread Cert.UpDa.nD Cert.UpDa.τ).loc Cert.UpDa.main_arg2) = m ((c.tc : Thread Cert.UpDa.nD Cert.UpDa.τ).loc Cert.UpDa.main_arg2))
      ∧ r.2.sem = fun _ => 0)

def quiescent_UpDaIdeal [hUpDaIdeal : Cert.UpDaIdeal.Facts] : Prop :=
  ∀ (m : (ℓ : Loc Cert.UpDaIdeal.nD Cert.UpDaIdeal.τ Cert.UpDaIdeal.sig) → Buf (Elt Ideal) ℓ) (g : Dev Cert.UpDaIdeal.nD → PrngReg), Pre_UpDaIdeal m →
    θ_run (Cert.UpDaIdeal.defs (F := Ideal)) (onTc (τ := Cert.UpDaIdeal.τ) (Cert.UpDaIdeal.main (F := Ideal))) ⟨m, fun _ => 0, g⟩ (fun r => (∀ c : Dev Cert.UpDaIdeal.nD,
      r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
      ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1)
      ∧ r.2.mem ((c.tc : Thread Cert.UpDaIdeal.nD Cert.UpDaIdeal.τ).loc Cert.UpDaIdeal.main_arg2) = m ((c.tc : Thread Cert.UpDaIdeal.nD Cert.UpDaIdeal.τ).loc Cert.UpDaIdeal.main_arg2))
      ∧ r.2.sem = fun _ => 0)

def quiescent_UpDaRefIdeal [hUpDaRefIdeal : Cert.UpDaRefIdeal.Facts] : Prop :=
  ∀ (m : (ℓ : Loc Cert.UpDaRefIdeal.nD Cert.UpDaRefIdeal.τ Cert.UpDaRefIdeal.sig) → Buf (Elt Ideal) ℓ) (g : Dev Cert.UpDaRefIdeal.nD → PrngReg), Pre_UpDaRefIdeal m →
    θ_run (Cert.UpDaRefIdeal.defs (F := Ideal)) (onTc (τ := Cert.UpDaRefIdeal.τ) (Cert.UpDaRefIdeal.main (F := Ideal))) ⟨m, fun _ => 0, g⟩ (fun r => (∀ c : Dev Cert.UpDaRefIdeal.nD,
      r.2.mem ((c.tc : Thread Cert.UpDaRefIdeal.nD Cert.UpDaRefIdeal.τ).loc Cert.UpDaRefIdeal.main_arg0) = m ((c.tc : Thread Cert.UpDaRefIdeal.nD Cert.UpDaRefIdeal.τ).loc Cert.UpDaRefIdeal.main_arg0)
      ∧ r.2.mem ((c.tc : Thread Cert.UpDaRefIdeal.nD Cert.UpDaRefIdeal.τ).loc Cert.UpDaRefIdeal.main_arg1) = m ((c.tc : Thread Cert.UpDaRefIdeal.nD Cert.UpDaRefIdeal.τ).loc Cert.UpDaRefIdeal.main_arg1)
      ∧ r.2.mem ((c.tc : Thread Cert.UpDaRefIdeal.nD Cert.UpDaRefIdeal.τ).loc Cert.UpDaRefIdeal.main_arg2) = m ((c.tc : Thread Cert.UpDaRefIdeal.nD Cert.UpDaRefIdeal.τ).loc Cert.UpDaRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ProjDwF [hProjDwF : Cert.ProjDwF.Facts] : Prop :=
  ∀ (m : (ℓ : Loc Cert.ProjDwF.nD Cert.ProjDwF.τ Cert.ProjDwF.sig) → Buf (Elt Bits) ℓ) (g : Dev Cert.ProjDwF.nD → PrngReg), Pre_ProjDwF m →
    θ_run (Cert.ProjDwF.defs (F := Bits)) (onTc (τ := Cert.ProjDwF.τ) (Cert.ProjDwF.main (F := Bits))) ⟨m, fun _ => 0, g⟩ (fun r => (∀ c : Dev Cert.ProjDwF.nD,
      r.2.mem ((c.tc : Thread Cert.ProjDwF.nD Cert.ProjDwF.τ).loc Cert.ProjDwF.main_arg0) = m ((c.tc : Thread Cert.ProjDwF.nD Cert.ProjDwF.τ).loc Cert.ProjDwF.main_arg0)
      ∧ r.2.mem ((c.tc : Thread Cert.ProjDwF.nD Cert.ProjDwF.τ).loc Cert.ProjDwF.main_arg1) = m ((c.tc : Thread Cert.ProjDwF.nD Cert.ProjDwF.τ).loc Cert.ProjDwF.main_arg1))
      ∧ r.2.sem = fun _ => 0)

def quiescent_ProjDwFIdeal [hProjDwFIdeal : Cert.ProjDwFIdeal.Facts] : Prop :=
  ∀ (m : (ℓ : Loc Cert.ProjDwFIdeal.nD Cert.ProjDwFIdeal.τ Cert.ProjDwFIdeal.sig) → Buf (Elt Ideal) ℓ) (g : Dev Cert.ProjDwFIdeal.nD → PrngReg), Pre_ProjDwFIdeal m →
    θ_run (Cert.ProjDwFIdeal.defs (F := Ideal)) (onTc (τ := Cert.ProjDwFIdeal.τ) (Cert.ProjDwFIdeal.main (F := Ideal))) ⟨m, fun _ => 0, g⟩ (fun r => (∀ c : Dev Cert.ProjDwFIdeal.nD,
      r.2.mem ((c.tc : Thread Cert.ProjDwFIdeal.nD Cert.ProjDwFIdeal.τ).loc Cert.ProjDwFIdeal.main_arg0) = m ((c.tc : Thread Cert.ProjDwFIdeal.nD Cert.ProjDwFIdeal.τ).loc Cert.ProjDwFIdeal.main_arg0)
      ∧ r.2.mem ((c.tc : Thread Cert.ProjDwFIdeal.nD Cert.ProjDwFIdeal.τ).loc Cert.ProjDwFIdeal.main_arg1) = m ((c.tc : Thread Cert.ProjDwFIdeal.nD Cert.ProjDwFIdeal.τ).loc Cert.ProjDwFIdeal.main_arg1))
      ∧ r.2.sem = fun _ => 0)

def quiescent_ProjDwFRefIdeal [hProjDwFRefIdeal : Cert.ProjDwFRefIdeal.Facts] : Prop :=
  ∀ (m : (ℓ : Loc Cert.ProjDwFRefIdeal.nD Cert.ProjDwFRefIdeal.τ Cert.ProjDwFRefIdeal.sig) → Buf (Elt Ideal) ℓ) (g : Dev Cert.ProjDwFRefIdeal.nD → PrngReg), Pre_ProjDwFRefIdeal m →
    θ_run (Cert.ProjDwFRefIdeal.defs (F := Ideal)) (onTc (τ := Cert.ProjDwFRefIdeal.τ) (Cert.ProjDwFRefIdeal.main (F := Ideal))) ⟨m, fun _ => 0, g⟩ (fun r => (∀ c : Dev Cert.ProjDwFRefIdeal.nD,
      r.2.mem ((c.tc : Thread Cert.ProjDwFRefIdeal.nD Cert.ProjDwFRefIdeal.τ).loc Cert.ProjDwFRefIdeal.main_arg0) = m ((c.tc : Thread Cert.ProjDwFRefIdeal.nD Cert.ProjDwFRefIdeal.τ).loc Cert.ProjDwFRefIdeal.main_arg0)
      ∧ r.2.mem ((c.tc : Thread Cert.ProjDwFRefIdeal.nD Cert.ProjDwFRefIdeal.τ).loc Cert.ProjDwFRefIdeal.main_arg1) = m ((c.tc : Thread Cert.ProjDwFRefIdeal.nD Cert.ProjDwFRefIdeal.τ).loc Cert.ProjDwFRefIdeal.main_arg1))
      ∧ r.2.sem = fun _ => 0)

def quiescent_InDw1536 [hInDw1536 : Cert.InDw1536.Facts] : Prop :=
  ∀ (m : (ℓ : Loc Cert.InDw1536.nD Cert.InDw1536.τ Cert.InDw1536.sig) → Buf (Elt Bits) ℓ) (g : Dev Cert.InDw1536.nD → PrngReg), Pre_InDw1536 m →
    θ_run (Cert.InDw1536.defs (F := Bits)) (onTc (τ := Cert.InDw1536.τ) (Cert.InDw1536.main (F := Bits))) ⟨m, fun _ => 0, g⟩ (fun r => (∀ c : Dev Cert.InDw1536.nD,
      r.2.mem ((c.tc : Thread Cert.InDw1536.nD Cert.InDw1536.τ).loc Cert.InDw1536.main_arg0) = m ((c.tc : Thread Cert.InDw1536.nD Cert.InDw1536.τ).loc Cert.InDw1536.main_arg0)
      ∧ r.2.mem ((c.tc : Thread Cert.InDw1536.nD Cert.InDw1536.τ).loc Cert.InDw1536.main_arg1) = m ((c.tc : Thread Cert.InDw1536.nD Cert.InDw1536.τ).loc Cert.InDw1536.main_arg1))
      ∧ r.2.sem = fun _ => 0)

def quiescent_InDw1536Ideal [hInDw1536Ideal : Cert.InDw1536Ideal.Facts] : Prop :=
  ∀ (m : (ℓ : Loc Cert.InDw1536Ideal.nD Cert.InDw1536Ideal.τ Cert.InDw1536Ideal.sig) → Buf (Elt Ideal) ℓ) (g : Dev Cert.InDw1536Ideal.nD → PrngReg), Pre_InDw1536Ideal m →
    θ_run (Cert.InDw1536Ideal.defs (F := Ideal)) (onTc (τ := Cert.InDw1536Ideal.τ) (Cert.InDw1536Ideal.main (F := Ideal))) ⟨m, fun _ => 0, g⟩ (fun r => (∀ c : Dev Cert.InDw1536Ideal.nD,
      r.2.mem ((c.tc : Thread Cert.InDw1536Ideal.nD Cert.InDw1536Ideal.τ).loc Cert.InDw1536Ideal.main_arg0) = m ((c.tc : Thread Cert.InDw1536Ideal.nD Cert.InDw1536Ideal.τ).loc Cert.InDw1536Ideal.main_arg0)
      ∧ r.2.mem ((c.tc : Thread Cert.InDw1536Ideal.nD Cert.InDw1536Ideal.τ).loc Cert.InDw1536Ideal.main_arg1) = m ((c.tc : Thread Cert.InDw1536Ideal.nD Cert.InDw1536Ideal.τ).loc Cert.InDw1536Ideal.main_arg1))
      ∧ r.2.sem = fun _ => 0)

def quiescent_InDw1536RefIdeal [hInDw1536RefIdeal : Cert.InDw1536RefIdeal.Facts] : Prop :=
  ∀ (m : (ℓ : Loc Cert.InDw1536RefIdeal.nD Cert.InDw1536RefIdeal.τ Cert.InDw1536RefIdeal.sig) → Buf (Elt Ideal) ℓ) (g : Dev Cert.InDw1536RefIdeal.nD → PrngReg), Pre_InDw1536RefIdeal m →
    θ_run (Cert.InDw1536RefIdeal.defs (F := Ideal)) (onTc (τ := Cert.InDw1536RefIdeal.τ) (Cert.InDw1536RefIdeal.main (F := Ideal))) ⟨m, fun _ => 0, g⟩ (fun r => (∀ c : Dev Cert.InDw1536RefIdeal.nD,
      r.2.mem ((c.tc : Thread Cert.InDw1536RefIdeal.nD Cert.InDw1536RefIdeal.τ).loc Cert.InDw1536RefIdeal.main_arg0) = m ((c.tc : Thread Cert.InDw1536RefIdeal.nD Cert.InDw1536RefIdeal.τ).loc Cert.InDw1536RefIdeal.main_arg0)
      ∧ r.2.mem ((c.tc : Thread Cert.InDw1536RefIdeal.nD Cert.InDw1536RefIdeal.τ).loc Cert.InDw1536RefIdeal.main_arg1) = m ((c.tc : Thread Cert.InDw1536RefIdeal.nD Cert.InDw1536RefIdeal.τ).loc Cert.InDw1536RefIdeal.main_arg1))
      ∧ r.2.sem = fun _ => 0)

def quiescent_InDw384 [hInDw384 : Cert.InDw384.Facts] : Prop :=
  ∀ (m : (ℓ : Loc Cert.InDw384.nD Cert.InDw384.τ Cert.InDw384.sig) → Buf (Elt Bits) ℓ) (g : Dev Cert.InDw384.nD → PrngReg), Pre_InDw384 m →
    θ_run (Cert.InDw384.defs (F := Bits)) (onTc (τ := Cert.InDw384.τ) (Cert.InDw384.main (F := Bits))) ⟨m, fun _ => 0, g⟩ (fun r => (∀ c : Dev Cert.InDw384.nD,
      r.2.mem ((c.tc : Thread Cert.InDw384.nD Cert.InDw384.τ).loc Cert.InDw384.main_arg0) = m ((c.tc : Thread Cert.InDw384.nD Cert.InDw384.τ).loc Cert.InDw384.main_arg0)
      ∧ r.2.mem ((c.tc : Thread Cert.InDw384.nD Cert.InDw384.τ).loc Cert.InDw384.main_arg1) = m ((c.tc : Thread Cert.InDw384.nD Cert.InDw384.τ).loc Cert.InDw384.main_arg1))
      ∧ r.2.sem = fun _ => 0)

def quiescent_InDw384Ideal [hInDw384Ideal : Cert.InDw384Ideal.Facts] : Prop :=
  ∀ (m : (ℓ : Loc Cert.InDw384Ideal.nD Cert.InDw384Ideal.τ Cert.InDw384Ideal.sig) → Buf (Elt Ideal) ℓ) (g : Dev Cert.InDw384Ideal.nD → PrngReg), Pre_InDw384Ideal m →
    θ_run (Cert.InDw384Ideal.defs (F := Ideal)) (onTc (τ := Cert.InDw384Ideal.τ) (Cert.InDw384Ideal.main (F := Ideal))) ⟨m, fun _ => 0, g⟩ (fun r => (∀ c : Dev Cert.InDw384Ideal.nD,
      r.2.mem ((c.tc : Thread Cert.InDw384Ideal.nD Cert.InDw384Ideal.τ).loc Cert.InDw384Ideal.main_arg0) = m ((c.tc : Thread Cert.InDw384Ideal.nD Cert.InDw384Ideal.τ).loc Cert.InDw384Ideal.main_arg0)
      ∧ r.2.mem ((c.tc : Thread Cert.InDw384Ideal.nD Cert.InDw384Ideal.τ).loc Cert.InDw384Ideal.main_arg1) = m ((c.tc : Thread Cert.InDw384Ideal.nD Cert.InDw384Ideal.τ).loc Cert.InDw384Ideal.main_arg1))
      ∧ r.2.sem = fun _ => 0)

def quiescent_InDw384RefIdeal [hInDw384RefIdeal : Cert.InDw384RefIdeal.Facts] : Prop :=
  ∀ (m : (ℓ : Loc Cert.InDw384RefIdeal.nD Cert.InDw384RefIdeal.τ Cert.InDw384RefIdeal.sig) → Buf (Elt Ideal) ℓ) (g : Dev Cert.InDw384RefIdeal.nD → PrngReg), Pre_InDw384RefIdeal m →
    θ_run (Cert.InDw384RefIdeal.defs (F := Ideal)) (onTc (τ := Cert.InDw384RefIdeal.τ) (Cert.InDw384RefIdeal.main (F := Ideal))) ⟨m, fun _ => 0, g⟩ (fun r => (∀ c : Dev Cert.InDw384RefIdeal.nD,
      r.2.mem ((c.tc : Thread Cert.InDw384RefIdeal.nD Cert.InDw384RefIdeal.τ).loc Cert.InDw384RefIdeal.main_arg0) = m ((c.tc : Thread Cert.InDw384RefIdeal.nD Cert.InDw384RefIdeal.τ).loc Cert.InDw384RefIdeal.main_arg0)
      ∧ r.2.mem ((c.tc : Thread Cert.InDw384RefIdeal.nD Cert.InDw384RefIdeal.τ).loc Cert.InDw384RefIdeal.main_arg1) = m ((c.tc : Thread Cert.InDw384RefIdeal.nD Cert.InDw384RefIdeal.τ).loc Cert.InDw384RefIdeal.main_arg1))
      ∧ r.2.sem = fun _ => 0)

def quiescent_InDw256 [hInDw256 : Cert.InDw256.Facts] : Prop :=
  ∀ (m : (ℓ : Loc Cert.InDw256.nD Cert.InDw256.τ Cert.InDw256.sig) → Buf (Elt Bits) ℓ) (g : Dev Cert.InDw256.nD → PrngReg), Pre_InDw256 m →
    θ_run (Cert.InDw256.defs (F := Bits)) (onTc (τ := Cert.InDw256.τ) (Cert.InDw256.main (F := Bits))) ⟨m, fun _ => 0, g⟩ (fun r => (∀ c : Dev Cert.InDw256.nD,
      r.2.mem ((c.tc : Thread Cert.InDw256.nD Cert.InDw256.τ).loc Cert.InDw256.main_arg0) = m ((c.tc : Thread Cert.InDw256.nD Cert.InDw256.τ).loc Cert.InDw256.main_arg0)
      ∧ r.2.mem ((c.tc : Thread Cert.InDw256.nD Cert.InDw256.τ).loc Cert.InDw256.main_arg1) = m ((c.tc : Thread Cert.InDw256.nD Cert.InDw256.τ).loc Cert.InDw256.main_arg1))
      ∧ r.2.sem = fun _ => 0)

def quiescent_InDw256Ideal [hInDw256Ideal : Cert.InDw256Ideal.Facts] : Prop :=
  ∀ (m : (ℓ : Loc Cert.InDw256Ideal.nD Cert.InDw256Ideal.τ Cert.InDw256Ideal.sig) → Buf (Elt Ideal) ℓ) (g : Dev Cert.InDw256Ideal.nD → PrngReg), Pre_InDw256Ideal m →
    θ_run (Cert.InDw256Ideal.defs (F := Ideal)) (onTc (τ := Cert.InDw256Ideal.τ) (Cert.InDw256Ideal.main (F := Ideal))) ⟨m, fun _ => 0, g⟩ (fun r => (∀ c : Dev Cert.InDw256Ideal.nD,
      r.2.mem ((c.tc : Thread Cert.InDw256Ideal.nD Cert.InDw256Ideal.τ).loc Cert.InDw256Ideal.main_arg0) = m ((c.tc : Thread Cert.InDw256Ideal.nD Cert.InDw256Ideal.τ).loc Cert.InDw256Ideal.main_arg0)
      ∧ r.2.mem ((c.tc : Thread Cert.InDw256Ideal.nD Cert.InDw256Ideal.τ).loc Cert.InDw256Ideal.main_arg1) = m ((c.tc : Thread Cert.InDw256Ideal.nD Cert.InDw256Ideal.τ).loc Cert.InDw256Ideal.main_arg1))
      ∧ r.2.sem = fun _ => 0)

def quiescent_InDw256RefIdeal [hInDw256RefIdeal : Cert.InDw256RefIdeal.Facts] : Prop :=
  ∀ (m : (ℓ : Loc Cert.InDw256RefIdeal.nD Cert.InDw256RefIdeal.τ Cert.InDw256RefIdeal.sig) → Buf (Elt Ideal) ℓ) (g : Dev Cert.InDw256RefIdeal.nD → PrngReg), Pre_InDw256RefIdeal m →
    θ_run (Cert.InDw256RefIdeal.defs (F := Ideal)) (onTc (τ := Cert.InDw256RefIdeal.τ) (Cert.InDw256RefIdeal.main (F := Ideal))) ⟨m, fun _ => 0, g⟩ (fun r => (∀ c : Dev Cert.InDw256RefIdeal.nD,
      r.2.mem ((c.tc : Thread Cert.InDw256RefIdeal.nD Cert.InDw256RefIdeal.τ).loc Cert.InDw256RefIdeal.main_arg0) = m ((c.tc : Thread Cert.InDw256RefIdeal.nD Cert.InDw256RefIdeal.τ).loc Cert.InDw256RefIdeal.main_arg0)
      ∧ r.2.mem ((c.tc : Thread Cert.InDw256RefIdeal.nD Cert.InDw256RefIdeal.τ).loc Cert.InDw256RefIdeal.main_arg1) = m ((c.tc : Thread Cert.InDw256RefIdeal.nD Cert.InDw256RefIdeal.τ).loc Cert.InDw256RefIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1)
      ∧ r.2.mem ((c.tc : Thread Cert.Uq.nD Cert.Uq.τ).loc Cert.Uq.main_arg2) = m ((c.tc : Thread Cert.Uq.nD Cert.Uq.τ).loc Cert.Uq.main_arg2))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1)
      ∧ r.2.mem ((c.tc : Thread Cert.UqIdeal.nD Cert.UqIdeal.τ).loc Cert.UqIdeal.main_arg2) = m ((c.tc : Thread Cert.UqIdeal.nD Cert.UqIdeal.τ).loc Cert.UqIdeal.main_arg2))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1)
      ∧ r.2.mem ((c.tc : Thread Cert.UqRefIdeal.nD Cert.UqRefIdeal.τ).loc Cert.UqRefIdeal.main_arg2) = m ((c.tc : Thread Cert.UqRefIdeal.nD Cert.UqRefIdeal.τ).loc Cert.UqRefIdeal.main_arg2))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1)
      ∧ r.2.mem ((c.tc : Thread Cert.Ukv.nD Cert.Ukv.τ).loc Cert.Ukv.main_arg2) = m ((c.tc : Thread Cert.Ukv.nD Cert.Ukv.τ).loc Cert.Ukv.main_arg2))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1)
      ∧ r.2.mem ((c.tc : Thread Cert.UkvIdeal.nD Cert.UkvIdeal.τ).loc Cert.UkvIdeal.main_arg2) = m ((c.tc : Thread Cert.UkvIdeal.nD Cert.UkvIdeal.τ).loc Cert.UkvIdeal.main_arg2))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1)
      ∧ r.2.mem ((c.tc : Thread Cert.UkvRefIdeal.nD Cert.UkvRefIdeal.τ).loc Cert.UkvRefIdeal.main_arg2) = m ((c.tc : Thread Cert.UkvRefIdeal.nD Cert.UkvRefIdeal.τ).loc Cert.UkvRefIdeal.main_arg2))
      ∧ r.2.sem = fun _ => 0)

def quiescent_UqDa [hUqDa : Cert.UqDa.Facts] : Prop :=
  ∀ (m : (ℓ : Loc Cert.UqDa.nD Cert.UqDa.τ Cert.UqDa.sig) → Buf (Elt Bits) ℓ) (g : Dev Cert.UqDa.nD → PrngReg), Pre_UqDa m →
    θ_run (Cert.UqDa.defs (F := Bits)) (onTc (τ := Cert.UqDa.τ) (Cert.UqDa.main (F := Bits))) ⟨m, fun _ => 0, g⟩ (fun r => (∀ c : Dev Cert.UqDa.nD,
      r.2.mem ((c.tc : Thread Cert.UqDa.nD Cert.UqDa.τ).loc Cert.UqDa.main_arg0) = m ((c.tc : Thread Cert.UqDa.nD Cert.UqDa.τ).loc Cert.UqDa.main_arg0)
      ∧ r.2.mem ((c.tc : Thread Cert.UqDa.nD Cert.UqDa.τ).loc Cert.UqDa.main_arg1) = m ((c.tc : Thread Cert.UqDa.nD Cert.UqDa.τ).loc Cert.UqDa.main_arg1)
      ∧ r.2.mem ((c.tc : Thread Cert.UqDa.nD Cert.UqDa.τ).loc Cert.UqDa.main_arg2) = m ((c.tc : Thread Cert.UqDa.nD Cert.UqDa.τ).loc Cert.UqDa.main_arg2)
      ∧ r.2.mem ((c.tc : Thread Cert.UqDa.nD Cert.UqDa.τ).loc Cert.UqDa.main_arg3) = m ((c.tc : Thread Cert.UqDa.nD Cert.UqDa.τ).loc Cert.UqDa.main_arg3))
      ∧ r.2.sem = fun _ => 0)

def quiescent_UqDaIdeal [hUqDaIdeal : Cert.UqDaIdeal.Facts] : Prop :=
  ∀ (m : (ℓ : Loc Cert.UqDaIdeal.nD Cert.UqDaIdeal.τ Cert.UqDaIdeal.sig) → Buf (Elt Ideal) ℓ) (g : Dev Cert.UqDaIdeal.nD → PrngReg), Pre_UqDaIdeal m →
    θ_run (Cert.UqDaIdeal.defs (F := Ideal)) (onTc (τ := Cert.UqDaIdeal.τ) (Cert.UqDaIdeal.main (F := Ideal))) ⟨m, fun _ => 0, g⟩ (fun r => (∀ c : Dev Cert.UqDaIdeal.nD,
      r.2.mem ((c.tc : Thread Cert.UqDaIdeal.nD Cert.UqDaIdeal.τ).loc Cert.UqDaIdeal.main_arg0) = m ((c.tc : Thread Cert.UqDaIdeal.nD Cert.UqDaIdeal.τ).loc Cert.UqDaIdeal.main_arg0)
      ∧ r.2.mem ((c.tc : Thread Cert.UqDaIdeal.nD Cert.UqDaIdeal.τ).loc Cert.UqDaIdeal.main_arg1) = m ((c.tc : Thread Cert.UqDaIdeal.nD Cert.UqDaIdeal.τ).loc Cert.UqDaIdeal.main_arg1)
      ∧ r.2.mem ((c.tc : Thread Cert.UqDaIdeal.nD Cert.UqDaIdeal.τ).loc Cert.UqDaIdeal.main_arg2) = m ((c.tc : Thread Cert.UqDaIdeal.nD Cert.UqDaIdeal.τ).loc Cert.UqDaIdeal.main_arg2)
      ∧ r.2.mem ((c.tc : Thread Cert.UqDaIdeal.nD Cert.UqDaIdeal.τ).loc Cert.UqDaIdeal.main_arg3) = m ((c.tc : Thread Cert.UqDaIdeal.nD Cert.UqDaIdeal.τ).loc Cert.UqDaIdeal.main_arg3))
      ∧ r.2.sem = fun _ => 0)

def quiescent_UqDaRefIdeal [hUqDaRefIdeal : Cert.UqDaRefIdeal.Facts] : Prop :=
  ∀ (m : (ℓ : Loc Cert.UqDaRefIdeal.nD Cert.UqDaRefIdeal.τ Cert.UqDaRefIdeal.sig) → Buf (Elt Ideal) ℓ) (g : Dev Cert.UqDaRefIdeal.nD → PrngReg), Pre_UqDaRefIdeal m →
    θ_run (Cert.UqDaRefIdeal.defs (F := Ideal)) (onTc (τ := Cert.UqDaRefIdeal.τ) (Cert.UqDaRefIdeal.main (F := Ideal))) ⟨m, fun _ => 0, g⟩ (fun r => (∀ c : Dev Cert.UqDaRefIdeal.nD,
      r.2.mem ((c.tc : Thread Cert.UqDaRefIdeal.nD Cert.UqDaRefIdeal.τ).loc Cert.UqDaRefIdeal.main_arg0) = m ((c.tc : Thread Cert.UqDaRefIdeal.nD Cert.UqDaRefIdeal.τ).loc Cert.UqDaRefIdeal.main_arg0)
      ∧ r.2.mem ((c.tc : Thread Cert.UqDaRefIdeal.nD Cert.UqDaRefIdeal.τ).loc Cert.UqDaRefIdeal.main_arg1) = m ((c.tc : Thread Cert.UqDaRefIdeal.nD Cert.UqDaRefIdeal.τ).loc Cert.UqDaRefIdeal.main_arg1)
      ∧ r.2.mem ((c.tc : Thread Cert.UqDaRefIdeal.nD Cert.UqDaRefIdeal.τ).loc Cert.UqDaRefIdeal.main_arg2) = m ((c.tc : Thread Cert.UqDaRefIdeal.nD Cert.UqDaRefIdeal.τ).loc Cert.UqDaRefIdeal.main_arg2)
      ∧ r.2.mem ((c.tc : Thread Cert.UqDaRefIdeal.nD Cert.UqDaRefIdeal.τ).loc Cert.UqDaRefIdeal.main_arg3) = m ((c.tc : Thread Cert.UqDaRefIdeal.nD Cert.UqDaRefIdeal.τ).loc Cert.UqDaRefIdeal.main_arg3))
      ∧ r.2.sem = fun _ => 0)

def quiescent_UkvDa [hUkvDa : Cert.UkvDa.Facts] : Prop :=
  ∀ (m : (ℓ : Loc Cert.UkvDa.nD Cert.UkvDa.τ Cert.UkvDa.sig) → Buf (Elt Bits) ℓ) (g : Dev Cert.UkvDa.nD → PrngReg), Pre_UkvDa m →
    θ_run (Cert.UkvDa.defs (F := Bits)) (onTc (τ := Cert.UkvDa.τ) (Cert.UkvDa.main (F := Bits))) ⟨m, fun _ => 0, g⟩ (fun r => (∀ c : Dev Cert.UkvDa.nD,
      r.2.mem ((c.tc : Thread Cert.UkvDa.nD Cert.UkvDa.τ).loc Cert.UkvDa.main_arg0) = m ((c.tc : Thread Cert.UkvDa.nD Cert.UkvDa.τ).loc Cert.UkvDa.main_arg0)
      ∧ r.2.mem ((c.tc : Thread Cert.UkvDa.nD Cert.UkvDa.τ).loc Cert.UkvDa.main_arg1) = m ((c.tc : Thread Cert.UkvDa.nD Cert.UkvDa.τ).loc Cert.UkvDa.main_arg1)
      ∧ r.2.mem ((c.tc : Thread Cert.UkvDa.nD Cert.UkvDa.τ).loc Cert.UkvDa.main_arg2) = m ((c.tc : Thread Cert.UkvDa.nD Cert.UkvDa.τ).loc Cert.UkvDa.main_arg2)
      ∧ r.2.mem ((c.tc : Thread Cert.UkvDa.nD Cert.UkvDa.τ).loc Cert.UkvDa.main_arg3) = m ((c.tc : Thread Cert.UkvDa.nD Cert.UkvDa.τ).loc Cert.UkvDa.main_arg3))
      ∧ r.2.sem = fun _ => 0)

def quiescent_UkvDaIdeal [hUkvDaIdeal : Cert.UkvDaIdeal.Facts] : Prop :=
  ∀ (m : (ℓ : Loc Cert.UkvDaIdeal.nD Cert.UkvDaIdeal.τ Cert.UkvDaIdeal.sig) → Buf (Elt Ideal) ℓ) (g : Dev Cert.UkvDaIdeal.nD → PrngReg), Pre_UkvDaIdeal m →
    θ_run (Cert.UkvDaIdeal.defs (F := Ideal)) (onTc (τ := Cert.UkvDaIdeal.τ) (Cert.UkvDaIdeal.main (F := Ideal))) ⟨m, fun _ => 0, g⟩ (fun r => (∀ c : Dev Cert.UkvDaIdeal.nD,
      r.2.mem ((c.tc : Thread Cert.UkvDaIdeal.nD Cert.UkvDaIdeal.τ).loc Cert.UkvDaIdeal.main_arg0) = m ((c.tc : Thread Cert.UkvDaIdeal.nD Cert.UkvDaIdeal.τ).loc Cert.UkvDaIdeal.main_arg0)
      ∧ r.2.mem ((c.tc : Thread Cert.UkvDaIdeal.nD Cert.UkvDaIdeal.τ).loc Cert.UkvDaIdeal.main_arg1) = m ((c.tc : Thread Cert.UkvDaIdeal.nD Cert.UkvDaIdeal.τ).loc Cert.UkvDaIdeal.main_arg1)
      ∧ r.2.mem ((c.tc : Thread Cert.UkvDaIdeal.nD Cert.UkvDaIdeal.τ).loc Cert.UkvDaIdeal.main_arg2) = m ((c.tc : Thread Cert.UkvDaIdeal.nD Cert.UkvDaIdeal.τ).loc Cert.UkvDaIdeal.main_arg2)
      ∧ r.2.mem ((c.tc : Thread Cert.UkvDaIdeal.nD Cert.UkvDaIdeal.τ).loc Cert.UkvDaIdeal.main_arg3) = m ((c.tc : Thread Cert.UkvDaIdeal.nD Cert.UkvDaIdeal.τ).loc Cert.UkvDaIdeal.main_arg3))
      ∧ r.2.sem = fun _ => 0)

def quiescent_UkvDaRefIdeal [hUkvDaRefIdeal : Cert.UkvDaRefIdeal.Facts] : Prop :=
  ∀ (m : (ℓ : Loc Cert.UkvDaRefIdeal.nD Cert.UkvDaRefIdeal.τ Cert.UkvDaRefIdeal.sig) → Buf (Elt Ideal) ℓ) (g : Dev Cert.UkvDaRefIdeal.nD → PrngReg), Pre_UkvDaRefIdeal m →
    θ_run (Cert.UkvDaRefIdeal.defs (F := Ideal)) (onTc (τ := Cert.UkvDaRefIdeal.τ) (Cert.UkvDaRefIdeal.main (F := Ideal))) ⟨m, fun _ => 0, g⟩ (fun r => (∀ c : Dev Cert.UkvDaRefIdeal.nD,
      r.2.mem ((c.tc : Thread Cert.UkvDaRefIdeal.nD Cert.UkvDaRefIdeal.τ).loc Cert.UkvDaRefIdeal.main_arg0) = m ((c.tc : Thread Cert.UkvDaRefIdeal.nD Cert.UkvDaRefIdeal.τ).loc Cert.UkvDaRefIdeal.main_arg0)
      ∧ r.2.mem ((c.tc : Thread Cert.UkvDaRefIdeal.nD Cert.UkvDaRefIdeal.τ).loc Cert.UkvDaRefIdeal.main_arg1) = m ((c.tc : Thread Cert.UkvDaRefIdeal.nD Cert.UkvDaRefIdeal.τ).loc Cert.UkvDaRefIdeal.main_arg1)
      ∧ r.2.mem ((c.tc : Thread Cert.UkvDaRefIdeal.nD Cert.UkvDaRefIdeal.τ).loc Cert.UkvDaRefIdeal.main_arg2) = m ((c.tc : Thread Cert.UkvDaRefIdeal.nD Cert.UkvDaRefIdeal.τ).loc Cert.UkvDaRefIdeal.main_arg2)
      ∧ r.2.mem ((c.tc : Thread Cert.UkvDaRefIdeal.nD Cert.UkvDaRefIdeal.τ).loc Cert.UkvDaRefIdeal.main_arg3) = m ((c.tc : Thread Cert.UkvDaRefIdeal.nD Cert.UkvDaRefIdeal.τ).loc Cert.UkvDaRefIdeal.main_arg3))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ r.2.sem = fun _ => 0)

def quiescent_UkvDwRefIdeal [hUkvDwRefIdeal : Cert.UkvDwRefIdeal.Facts] : Prop :=
  ∀ (m : (ℓ : Loc Cert.UkvDwRefIdeal.nD Cert.UkvDwRefIdeal.τ Cert.UkvDwRefIdeal.sig) → Buf (Elt Ideal) ℓ) (g : Dev Cert.UkvDwRefIdeal.nD → PrngReg), Pre_UkvDwRefIdeal m →
    θ_run (Cert.UkvDwRefIdeal.defs (F := Ideal)) (onTc (τ := Cert.UkvDwRefIdeal.τ) (Cert.UkvDwRefIdeal.main (F := Ideal))) ⟨m, fun _ => 0, g⟩ (fun r => (∀ c : Dev Cert.UkvDwRefIdeal.nD,
      r.2.mem ((c.tc : Thread Cert.UkvDwRefIdeal.nD Cert.UkvDwRefIdeal.τ).loc Cert.UkvDwRefIdeal.main_arg0) = m ((c.tc : Thread Cert.UkvDwRefIdeal.nD Cert.UkvDwRefIdeal.τ).loc Cert.UkvDwRefIdeal.main_arg0)
      ∧ r.2.mem ((c.tc : Thread Cert.UkvDwRefIdeal.nD Cert.UkvDwRefIdeal.τ).loc Cert.UkvDwRefIdeal.main_arg1) = m ((c.tc : Thread Cert.UkvDwRefIdeal.nD Cert.UkvDwRefIdeal.τ).loc Cert.UkvDwRefIdeal.main_arg1))
      ∧ r.2.sem = fun _ => 0)

def quiescent_InDw128 [hInDw128 : Cert.InDw128.Facts] : Prop :=
  ∀ (m : (ℓ : Loc Cert.InDw128.nD Cert.InDw128.τ Cert.InDw128.sig) → Buf (Elt Bits) ℓ) (g : Dev Cert.InDw128.nD → PrngReg), Pre_InDw128 m →
    θ_run (Cert.InDw128.defs (F := Bits)) (onTc (τ := Cert.InDw128.τ) (Cert.InDw128.main (F := Bits))) ⟨m, fun _ => 0, g⟩ (fun r => (∀ c : Dev Cert.InDw128.nD,
      r.2.mem ((c.tc : Thread Cert.InDw128.nD Cert.InDw128.τ).loc Cert.InDw128.main_arg0) = m ((c.tc : Thread Cert.InDw128.nD Cert.InDw128.τ).loc Cert.InDw128.main_arg0)
      ∧ r.2.mem ((c.tc : Thread Cert.InDw128.nD Cert.InDw128.τ).loc Cert.InDw128.main_arg1) = m ((c.tc : Thread Cert.InDw128.nD Cert.InDw128.τ).loc Cert.InDw128.main_arg1))
      ∧ r.2.sem = fun _ => 0)

def quiescent_InDw128Ideal [hInDw128Ideal : Cert.InDw128Ideal.Facts] : Prop :=
  ∀ (m : (ℓ : Loc Cert.InDw128Ideal.nD Cert.InDw128Ideal.τ Cert.InDw128Ideal.sig) → Buf (Elt Ideal) ℓ) (g : Dev Cert.InDw128Ideal.nD → PrngReg), Pre_InDw128Ideal m →
    θ_run (Cert.InDw128Ideal.defs (F := Ideal)) (onTc (τ := Cert.InDw128Ideal.τ) (Cert.InDw128Ideal.main (F := Ideal))) ⟨m, fun _ => 0, g⟩ (fun r => (∀ c : Dev Cert.InDw128Ideal.nD,
      r.2.mem ((c.tc : Thread Cert.InDw128Ideal.nD Cert.InDw128Ideal.τ).loc Cert.InDw128Ideal.main_arg0) = m ((c.tc : Thread Cert.InDw128Ideal.nD Cert.InDw128Ideal.τ).loc Cert.InDw128Ideal.main_arg0)
      ∧ r.2.mem ((c.tc : Thread Cert.InDw128Ideal.nD Cert.InDw128Ideal.τ).loc Cert.InDw128Ideal.main_arg1) = m ((c.tc : Thread Cert.InDw128Ideal.nD Cert.InDw128Ideal.τ).loc Cert.InDw128Ideal.main_arg1))
      ∧ r.2.sem = fun _ => 0)

def quiescent_InDw128RefIdeal [hInDw128RefIdeal : Cert.InDw128RefIdeal.Facts] : Prop :=
  ∀ (m : (ℓ : Loc Cert.InDw128RefIdeal.nD Cert.InDw128RefIdeal.τ Cert.InDw128RefIdeal.sig) → Buf (Elt Ideal) ℓ) (g : Dev Cert.InDw128RefIdeal.nD → PrngReg), Pre_InDw128RefIdeal m →
    θ_run (Cert.InDw128RefIdeal.defs (F := Ideal)) (onTc (τ := Cert.InDw128RefIdeal.τ) (Cert.InDw128RefIdeal.main (F := Ideal))) ⟨m, fun _ => 0, g⟩ (fun r => (∀ c : Dev Cert.InDw128RefIdeal.nD,
      r.2.mem ((c.tc : Thread Cert.InDw128RefIdeal.nD Cert.InDw128RefIdeal.τ).loc Cert.InDw128RefIdeal.main_arg0) = m ((c.tc : Thread Cert.InDw128RefIdeal.nD Cert.InDw128RefIdeal.τ).loc Cert.InDw128RefIdeal.main_arg0)
      ∧ r.2.mem ((c.tc : Thread Cert.InDw128RefIdeal.nD Cert.InDw128RefIdeal.τ).loc Cert.InDw128RefIdeal.main_arg1) = m ((c.tc : Thread Cert.InDw128RefIdeal.nD Cert.InDw128RefIdeal.τ).loc Cert.InDw128RefIdeal.main_arg1))
      ∧ r.2.sem = fun _ => 0)

def quiescent_InDw32 [hInDw32 : Cert.InDw32.Facts] : Prop :=
  ∀ (m : (ℓ : Loc Cert.InDw32.nD Cert.InDw32.τ Cert.InDw32.sig) → Buf (Elt Bits) ℓ) (g : Dev Cert.InDw32.nD → PrngReg), Pre_InDw32 m →
    θ_run (Cert.InDw32.defs (F := Bits)) (onTc (τ := Cert.InDw32.τ) (Cert.InDw32.main (F := Bits))) ⟨m, fun _ => 0, g⟩ (fun r => (∀ c : Dev Cert.InDw32.nD,
      r.2.mem ((c.tc : Thread Cert.InDw32.nD Cert.InDw32.τ).loc Cert.InDw32.main_arg0) = m ((c.tc : Thread Cert.InDw32.nD Cert.InDw32.τ).loc Cert.InDw32.main_arg0)
      ∧ r.2.mem ((c.tc : Thread Cert.InDw32.nD Cert.InDw32.τ).loc Cert.InDw32.main_arg1) = m ((c.tc : Thread Cert.InDw32.nD Cert.InDw32.τ).loc Cert.InDw32.main_arg1))
      ∧ r.2.sem = fun _ => 0)

def quiescent_InDw32Ideal [hInDw32Ideal : Cert.InDw32Ideal.Facts] : Prop :=
  ∀ (m : (ℓ : Loc Cert.InDw32Ideal.nD Cert.InDw32Ideal.τ Cert.InDw32Ideal.sig) → Buf (Elt Ideal) ℓ) (g : Dev Cert.InDw32Ideal.nD → PrngReg), Pre_InDw32Ideal m →
    θ_run (Cert.InDw32Ideal.defs (F := Ideal)) (onTc (τ := Cert.InDw32Ideal.τ) (Cert.InDw32Ideal.main (F := Ideal))) ⟨m, fun _ => 0, g⟩ (fun r => (∀ c : Dev Cert.InDw32Ideal.nD,
      r.2.mem ((c.tc : Thread Cert.InDw32Ideal.nD Cert.InDw32Ideal.τ).loc Cert.InDw32Ideal.main_arg0) = m ((c.tc : Thread Cert.InDw32Ideal.nD Cert.InDw32Ideal.τ).loc Cert.InDw32Ideal.main_arg0)
      ∧ r.2.mem ((c.tc : Thread Cert.InDw32Ideal.nD Cert.InDw32Ideal.τ).loc Cert.InDw32Ideal.main_arg1) = m ((c.tc : Thread Cert.InDw32Ideal.nD Cert.InDw32Ideal.τ).loc Cert.InDw32Ideal.main_arg1))
      ∧ r.2.sem = fun _ => 0)

def quiescent_InDw32RefIdeal [hInDw32RefIdeal : Cert.InDw32RefIdeal.Facts] : Prop :=
  ∀ (m : (ℓ : Loc Cert.InDw32RefIdeal.nD Cert.InDw32RefIdeal.τ Cert.InDw32RefIdeal.sig) → Buf (Elt Ideal) ℓ) (g : Dev Cert.InDw32RefIdeal.nD → PrngReg), Pre_InDw32RefIdeal m →
    θ_run (Cert.InDw32RefIdeal.defs (F := Ideal)) (onTc (τ := Cert.InDw32RefIdeal.τ) (Cert.InDw32RefIdeal.main (F := Ideal))) ⟨m, fun _ => 0, g⟩ (fun r => (∀ c : Dev Cert.InDw32RefIdeal.nD,
      r.2.mem ((c.tc : Thread Cert.InDw32RefIdeal.nD Cert.InDw32RefIdeal.τ).loc Cert.InDw32RefIdeal.main_arg0) = m ((c.tc : Thread Cert.InDw32RefIdeal.nD Cert.InDw32RefIdeal.τ).loc Cert.InDw32RefIdeal.main_arg0)
      ∧ r.2.mem ((c.tc : Thread Cert.InDw32RefIdeal.nD Cert.InDw32RefIdeal.τ).loc Cert.InDw32RefIdeal.main_arg1) = m ((c.tc : Thread Cert.InDw32RefIdeal.nD Cert.InDw32RefIdeal.τ).loc Cert.InDw32RefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ r.2.sem = fun _ => 0)

def quiescent_ModDwRefIdeal [hModDwRefIdeal : Cert.ModDwRefIdeal.Facts] : Prop :=
  ∀ (m : (ℓ : Loc Cert.ModDwRefIdeal.nD Cert.ModDwRefIdeal.τ Cert.ModDwRefIdeal.sig) → Buf (Elt Ideal) ℓ) (g : Dev Cert.ModDwRefIdeal.nD → PrngReg), Pre_ModDwRefIdeal m →
    θ_run (Cert.ModDwRefIdeal.defs (F := Ideal)) (onTc (τ := Cert.ModDwRefIdeal.τ) (Cert.ModDwRefIdeal.main (F := Ideal))) ⟨m, fun _ => 0, g⟩ (fun r => (∀ c : Dev Cert.ModDwRefIdeal.nD,
      r.2.mem ((c.tc : Thread Cert.ModDwRefIdeal.nD Cert.ModDwRefIdeal.τ).loc Cert.ModDwRefIdeal.main_arg0) = m ((c.tc : Thread Cert.ModDwRefIdeal.nD Cert.ModDwRefIdeal.τ).loc Cert.ModDwRefIdeal.main_arg0)
      ∧ r.2.mem ((c.tc : Thread Cert.ModDwRefIdeal.nD Cert.ModDwRefIdeal.τ).loc Cert.ModDwRefIdeal.main_arg1) = m ((c.tc : Thread Cert.ModDwRefIdeal.nD Cert.ModDwRefIdeal.τ).loc Cert.ModDwRefIdeal.main_arg1))
      ∧ r.2.sem = fun _ => 0)

def quiescent_ModDa [hModDa : Cert.ModDa.Facts] : Prop :=
  ∀ (m : (ℓ : Loc Cert.ModDa.nD Cert.ModDa.τ Cert.ModDa.sig) → Buf (Elt Bits) ℓ) (g : Dev Cert.ModDa.nD → PrngReg), Pre_ModDa m →
    θ_run (Cert.ModDa.defs (F := Bits)) (onTc (τ := Cert.ModDa.τ) (Cert.ModDa.main (F := Bits))) ⟨m, fun _ => 0, g⟩ (fun r => (∀ c : Dev Cert.ModDa.nD,
      r.2.mem ((c.tc : Thread Cert.ModDa.nD Cert.ModDa.τ).loc Cert.ModDa.main_arg0) = m ((c.tc : Thread Cert.ModDa.nD Cert.ModDa.τ).loc Cert.ModDa.main_arg0)
      ∧ r.2.mem ((c.tc : Thread Cert.ModDa.nD Cert.ModDa.τ).loc Cert.ModDa.main_arg1) = m ((c.tc : Thread Cert.ModDa.nD Cert.ModDa.τ).loc Cert.ModDa.main_arg1))
      ∧ r.2.sem = fun _ => 0)

def quiescent_ModDaIdeal [hModDaIdeal : Cert.ModDaIdeal.Facts] : Prop :=
  ∀ (m : (ℓ : Loc Cert.ModDaIdeal.nD Cert.ModDaIdeal.τ Cert.ModDaIdeal.sig) → Buf (Elt Ideal) ℓ) (g : Dev Cert.ModDaIdeal.nD → PrngReg), Pre_ModDaIdeal m →
    θ_run (Cert.ModDaIdeal.defs (F := Ideal)) (onTc (τ := Cert.ModDaIdeal.τ) (Cert.ModDaIdeal.main (F := Ideal))) ⟨m, fun _ => 0, g⟩ (fun r => (∀ c : Dev Cert.ModDaIdeal.nD,
      r.2.mem ((c.tc : Thread Cert.ModDaIdeal.nD Cert.ModDaIdeal.τ).loc Cert.ModDaIdeal.main_arg0) = m ((c.tc : Thread Cert.ModDaIdeal.nD Cert.ModDaIdeal.τ).loc Cert.ModDaIdeal.main_arg0)
      ∧ r.2.mem ((c.tc : Thread Cert.ModDaIdeal.nD Cert.ModDaIdeal.τ).loc Cert.ModDaIdeal.main_arg1) = m ((c.tc : Thread Cert.ModDaIdeal.nD Cert.ModDaIdeal.τ).loc Cert.ModDaIdeal.main_arg1))
      ∧ r.2.sem = fun _ => 0)

def quiescent_ModDaRefIdeal [hModDaRefIdeal : Cert.ModDaRefIdeal.Facts] : Prop :=
  ∀ (m : (ℓ : Loc Cert.ModDaRefIdeal.nD Cert.ModDaRefIdeal.τ Cert.ModDaRefIdeal.sig) → Buf (Elt Ideal) ℓ) (g : Dev Cert.ModDaRefIdeal.nD → PrngReg), Pre_ModDaRefIdeal m →
    θ_run (Cert.ModDaRefIdeal.defs (F := Ideal)) (onTc (τ := Cert.ModDaRefIdeal.τ) (Cert.ModDaRefIdeal.main (F := Ideal))) ⟨m, fun _ => 0, g⟩ (fun r => (∀ c : Dev Cert.ModDaRefIdeal.nD,
      r.2.mem ((c.tc : Thread Cert.ModDaRefIdeal.nD Cert.ModDaRefIdeal.τ).loc Cert.ModDaRefIdeal.main_arg0) = m ((c.tc : Thread Cert.ModDaRefIdeal.nD Cert.ModDaRefIdeal.τ).loc Cert.ModDaRefIdeal.main_arg0)
      ∧ r.2.mem ((c.tc : Thread Cert.ModDaRefIdeal.nD Cert.ModDaRefIdeal.τ).loc Cert.ModDaRefIdeal.main_arg1) = m ((c.tc : Thread Cert.ModDaRefIdeal.nD Cert.ModDaRefIdeal.τ).loc Cert.ModDaRefIdeal.main_arg1))
      ∧ r.2.sem = fun _ => 0)

def quiescent_ModDaAdd [hModDaAdd : Cert.ModDaAdd.Facts] : Prop :=
  ∀ (m : (ℓ : Loc Cert.ModDaAdd.nD Cert.ModDaAdd.τ Cert.ModDaAdd.sig) → Buf (Elt Bits) ℓ) (g : Dev Cert.ModDaAdd.nD → PrngReg), Pre_ModDaAdd m →
    θ_run (Cert.ModDaAdd.defs (F := Bits)) (onTc (τ := Cert.ModDaAdd.τ) (Cert.ModDaAdd.main (F := Bits))) ⟨m, fun _ => 0, g⟩ (fun r => (∀ c : Dev Cert.ModDaAdd.nD,
      r.2.mem ((c.tc : Thread Cert.ModDaAdd.nD Cert.ModDaAdd.τ).loc Cert.ModDaAdd.main_arg0) = m ((c.tc : Thread Cert.ModDaAdd.nD Cert.ModDaAdd.τ).loc Cert.ModDaAdd.main_arg0)
      ∧ r.2.mem ((c.tc : Thread Cert.ModDaAdd.nD Cert.ModDaAdd.τ).loc Cert.ModDaAdd.main_arg1) = m ((c.tc : Thread Cert.ModDaAdd.nD Cert.ModDaAdd.τ).loc Cert.ModDaAdd.main_arg1)
      ∧ r.2.mem ((c.tc : Thread Cert.ModDaAdd.nD Cert.ModDaAdd.τ).loc Cert.ModDaAdd.main_arg2) = m ((c.tc : Thread Cert.ModDaAdd.nD Cert.ModDaAdd.τ).loc Cert.ModDaAdd.main_arg2))
      ∧ r.2.sem = fun _ => 0)

def quiescent_ModDaAddIdeal [hModDaAddIdeal : Cert.ModDaAddIdeal.Facts] : Prop :=
  ∀ (m : (ℓ : Loc Cert.ModDaAddIdeal.nD Cert.ModDaAddIdeal.τ Cert.ModDaAddIdeal.sig) → Buf (Elt Ideal) ℓ) (g : Dev Cert.ModDaAddIdeal.nD → PrngReg), Pre_ModDaAddIdeal m →
    θ_run (Cert.ModDaAddIdeal.defs (F := Ideal)) (onTc (τ := Cert.ModDaAddIdeal.τ) (Cert.ModDaAddIdeal.main (F := Ideal))) ⟨m, fun _ => 0, g⟩ (fun r => (∀ c : Dev Cert.ModDaAddIdeal.nD,
      r.2.mem ((c.tc : Thread Cert.ModDaAddIdeal.nD Cert.ModDaAddIdeal.τ).loc Cert.ModDaAddIdeal.main_arg0) = m ((c.tc : Thread Cert.ModDaAddIdeal.nD Cert.ModDaAddIdeal.τ).loc Cert.ModDaAddIdeal.main_arg0)
      ∧ r.2.mem ((c.tc : Thread Cert.ModDaAddIdeal.nD Cert.ModDaAddIdeal.τ).loc Cert.ModDaAddIdeal.main_arg1) = m ((c.tc : Thread Cert.ModDaAddIdeal.nD Cert.ModDaAddIdeal.τ).loc Cert.ModDaAddIdeal.main_arg1)
      ∧ r.2.mem ((c.tc : Thread Cert.ModDaAddIdeal.nD Cert.ModDaAddIdeal.τ).loc Cert.ModDaAddIdeal.main_arg2) = m ((c.tc : Thread Cert.ModDaAddIdeal.nD Cert.ModDaAddIdeal.τ).loc Cert.ModDaAddIdeal.main_arg2))
      ∧ r.2.sem = fun _ => 0)

def quiescent_ModDaAddRefIdeal [hModDaAddRefIdeal : Cert.ModDaAddRefIdeal.Facts] : Prop :=
  ∀ (m : (ℓ : Loc Cert.ModDaAddRefIdeal.nD Cert.ModDaAddRefIdeal.τ Cert.ModDaAddRefIdeal.sig) → Buf (Elt Ideal) ℓ) (g : Dev Cert.ModDaAddRefIdeal.nD → PrngReg), Pre_ModDaAddRefIdeal m →
    θ_run (Cert.ModDaAddRefIdeal.defs (F := Ideal)) (onTc (τ := Cert.ModDaAddRefIdeal.τ) (Cert.ModDaAddRefIdeal.main (F := Ideal))) ⟨m, fun _ => 0, g⟩ (fun r => (∀ c : Dev Cert.ModDaAddRefIdeal.nD,
      r.2.mem ((c.tc : Thread Cert.ModDaAddRefIdeal.nD Cert.ModDaAddRefIdeal.τ).loc Cert.ModDaAddRefIdeal.main_arg0) = m ((c.tc : Thread Cert.ModDaAddRefIdeal.nD Cert.ModDaAddRefIdeal.τ).loc Cert.ModDaAddRefIdeal.main_arg0)
      ∧ r.2.mem ((c.tc : Thread Cert.ModDaAddRefIdeal.nD Cert.ModDaAddRefIdeal.τ).loc Cert.ModDaAddRefIdeal.main_arg1) = m ((c.tc : Thread Cert.ModDaAddRefIdeal.nD Cert.ModDaAddRefIdeal.τ).loc Cert.ModDaAddRefIdeal.main_arg1)
      ∧ r.2.mem ((c.tc : Thread Cert.ModDaAddRefIdeal.nD Cert.ModDaAddRefIdeal.τ).loc Cert.ModDaAddRefIdeal.main_arg2) = m ((c.tc : Thread Cert.ModDaAddRefIdeal.nD Cert.ModDaAddRefIdeal.τ).loc Cert.ModDaAddRefIdeal.main_arg2))
      ∧ r.2.sem = fun _ => 0)

def preserves_Bwd_BwdIdeal : Prop :=
  IdealRules.named_const.Statement Cert.BwdIdeal.κ "scale_log2e" .f32 0x3DD53B95#32 (((Real.sqrt 192)⁻¹ * (Real.log 2)⁻¹ : ℝ) : EReal)
  ∧ IdealRules.named_const.Statement Cert.BwdIdeal.κ "scale" .f32 0x3D93CD3A#32 (((Real.sqrt 192)⁻¹ : ℝ) : EReal)

def algebraic_BwdIdeal_BwdRefIdeal_pre_finite_bwd [hBwdIdeal : Cert.BwdIdeal.Facts] [hBwdRefIdeal : Cert.BwdRefIdeal.Facts] [hPre_finite_bwd : Cert.Pre_finite_bwd.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal_finite_bwd m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)) →
    ∃ (v0 : (c : Dev Cert.BwdIdeal.nD) → Buf (Elt Ideal) ((c.tc : Thread Cert.BwdIdeal.nD Cert.BwdIdeal.τ).loc Cert.BwdIdeal.main_v98_0)) (v1 : (c : Dev Cert.BwdIdeal.nD) → Buf (Elt Ideal) ((c.tc : Thread Cert.BwdIdeal.nD Cert.BwdIdeal.τ).loc Cert.BwdIdeal.main_v98_1)) (v2 : (c : Dev Cert.BwdIdeal.nD) → Buf (Elt Ideal) ((c.tc : Thread Cert.BwdIdeal.nD Cert.BwdIdeal.τ).loc Cert.BwdIdeal.main_v98_2)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v98_0) = v0 c
          ∧ r.2.mem ((c.tc : Thread Cert.BwdIdeal.nD Cert.BwdIdeal.τ).loc Cert.BwdIdeal.main_v98_1) = v1 c
          ∧ r.2.mem ((c.tc : Thread Cert.BwdIdeal.nD Cert.BwdIdeal.τ).loc Cert.BwdIdeal.main_v98_2) = v2 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v152) = v0 c
          ∧ r.2.mem ((c.tc : Thread Cert.BwdRefIdeal.nD Cert.BwdRefIdeal.τ).loc Cert.BwdRefIdeal.main_v151) = v1 c
          ∧ r.2.mem ((c.tc : Thread Cert.BwdRefIdeal.nD Cert.BwdRefIdeal.τ).loc Cert.BwdRefIdeal.main_v150) = v2 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3))

def preserves_Fwd_FwdIdeal : Prop :=
  IdealRules.named_const.Statement Cert.FwdIdeal.κ "scale_log2e" .f32 0x3DD53B95#32 (((Real.sqrt 192)⁻¹ * (Real.log 2)⁻¹ : ℝ) : EReal)
  ∧ IdealRules.named_const.Statement Cert.FwdIdeal.κ "log2e" .f32 0x3FB8AA3B#32 (((Real.log 2)⁻¹ : ℝ) : EReal)

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v53) = v0 c
          ∧ r.2.mem ((c.tc : Thread Cert.FwdRefIdeal.nD Cert.FwdRefIdeal.τ).loc Cert.FwdRefIdeal.main_v97) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DownDa_DownDaIdeal : Prop :=
  True

def algebraic_DownDaIdeal_DownDaRefIdeal [hDownDaIdeal : Cert.DownDaIdeal.Facts] [hDownDaRefIdeal : Cert.DownDaRefIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaRefIdeal.nD Cert.DownDaRefIdeal.τ Cert.DownDaRefIdeal.sig) → Buf (Elt Ideal) ℓ) (g' : Dev Cert.DownDaRefIdeal.nD → PrngReg), Pre_DownDaIdeal m →
    (∀ c : Dev Cert.DownDaIdeal.nD,
      m' ((c.tc : Thread Cert.DownDaRefIdeal.nD Cert.DownDaRefIdeal.τ).loc Cert.DownDaRefIdeal.main_arg0) = m ((c.tc : Thread Cert.DownDaIdeal.nD Cert.DownDaIdeal.τ).loc Cert.DownDaIdeal.main_arg0)
      ∧ m' ((c.tc : Thread Cert.DownDaRefIdeal.nD Cert.DownDaRefIdeal.τ).loc Cert.DownDaRefIdeal.main_arg1) = m ((c.tc : Thread Cert.DownDaIdeal.nD Cert.DownDaIdeal.τ).loc Cert.DownDaIdeal.main_arg1)) →
    ∃ (v0 : (c : Dev Cert.DownDaIdeal.nD) → Buf (Elt Ideal) ((c.tc : Thread Cert.DownDaIdeal.nD Cert.DownDaIdeal.τ).loc Cert.DownDaIdeal.main_v0)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v0) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ θ_run (Cert.DownDaRefIdeal.defs (F := Ideal)) (onTc (τ := Cert.DownDaRefIdeal.τ) (Cert.DownDaRefIdeal.main (F := Ideal))) ⟨m', fun _ => 0, g'⟩ (fun r => ∀ c : Dev Cert.DownDaRefIdeal.nD,
          r.2.mem ((c.tc : Thread Cert.DownDaRefIdeal.nD Cert.DownDaRefIdeal.τ).loc Cert.DownDaRefIdeal.main_v4) = v0 c
          ∧ r.2.mem ((c.tc : Thread Cert.DownDaRefIdeal.nD Cert.DownDaRefIdeal.τ).loc Cert.DownDaRefIdeal.main_arg0) = m' ((c.tc : Thread Cert.DownDaRefIdeal.nD Cert.DownDaRefIdeal.τ).loc Cert.DownDaRefIdeal.main_arg0)
          ∧ r.2.mem ((c.tc : Thread Cert.DownDaRefIdeal.nD Cert.DownDaRefIdeal.τ).loc Cert.DownDaRefIdeal.main_arg1) = m' ((c.tc : Thread Cert.DownDaRefIdeal.nD Cert.DownDaRefIdeal.τ).loc Cert.DownDaRefIdeal.main_arg1))

def preserves_ProjDa_ProjDaIdeal : Prop :=
  True

def algebraic_ProjDaIdeal_ProjDaRefIdeal [hProjDaIdeal : Cert.ProjDaIdeal.Facts] [hProjDaRefIdeal : Cert.ProjDaRefIdeal.Facts] : Prop :=
  ∀ (m : (ℓ : Loc Cert.ProjDaIdeal.nD Cert.ProjDaIdeal.τ Cert.ProjDaIdeal.sig) → Buf (Elt Ideal) ℓ) (g : Dev Cert.ProjDaIdeal.nD → PrngReg)
    (m' : (ℓ : Loc Cert.ProjDaRefIdeal.nD Cert.ProjDaRefIdeal.τ Cert.ProjDaRefIdeal.sig) → Buf (Elt Ideal) ℓ) (g' : Dev Cert.ProjDaRefIdeal.nD → PrngReg), Pre_ProjDaIdeal m →
    (∀ c : Dev Cert.ProjDaIdeal.nD,
      m' ((c.tc : Thread Cert.ProjDaRefIdeal.nD Cert.ProjDaRefIdeal.τ).loc Cert.ProjDaRefIdeal.main_arg0) = m ((c.tc : Thread Cert.ProjDaIdeal.nD Cert.ProjDaIdeal.τ).loc Cert.ProjDaIdeal.main_arg0)
      ∧ m' ((c.tc : Thread Cert.ProjDaRefIdeal.nD Cert.ProjDaRefIdeal.τ).loc Cert.ProjDaRefIdeal.main_arg1) = m ((c.tc : Thread Cert.ProjDaIdeal.nD Cert.ProjDaIdeal.τ).loc Cert.ProjDaIdeal.main_arg1)) →
    ∃ (v0 : (c : Dev Cert.ProjDaIdeal.nD) → Buf (Elt Ideal) ((c.tc : Thread Cert.ProjDaIdeal.nD Cert.ProjDaIdeal.τ).loc Cert.ProjDaIdeal.main_v0)),
      θ_run (Cert.ProjDaIdeal.defs (F := Ideal)) (onTc (τ := Cert.ProjDaIdeal.τ) (Cert.ProjDaIdeal.main (F := Ideal))) ⟨m, fun _ => 0, g⟩ (fun r => ∀ c : Dev Cert.ProjDaIdeal.nD,
          r.2.mem ((c.tc : Thread Cert.ProjDaIdeal.nD Cert.ProjDaIdeal.τ).loc Cert.ProjDaIdeal.main_v0) = v0 c
          ∧ r.2.mem ((c.tc : Thread Cert.ProjDaIdeal.nD Cert.ProjDaIdeal.τ).loc Cert.ProjDaIdeal.main_arg0) = m ((c.tc : Thread Cert.ProjDaIdeal.nD Cert.ProjDaIdeal.τ).loc Cert.ProjDaIdeal.main_arg0)
          ∧ r.2.mem ((c.tc : Thread Cert.ProjDaIdeal.nD Cert.ProjDaIdeal.τ).loc Cert.ProjDaIdeal.main_arg1) = m ((c.tc : Thread Cert.ProjDaIdeal.nD Cert.ProjDaIdeal.τ).loc Cert.ProjDaIdeal.main_arg1))
      ∧ θ_run (Cert.ProjDaRefIdeal.defs (F := Ideal)) (onTc (τ := Cert.ProjDaRefIdeal.τ) (Cert.ProjDaRefIdeal.main (F := Ideal))) ⟨m', fun _ => 0, g'⟩ (fun r => ∀ c : Dev Cert.ProjDaRefIdeal.nD,
          r.2.mem ((c.tc : Thread Cert.ProjDaRefIdeal.nD Cert.ProjDaRefIdeal.τ).loc Cert.ProjDaRefIdeal.main_v4) = v0 c
          ∧ r.2.mem ((c.tc : Thread Cert.ProjDaRefIdeal.nD Cert.ProjDaRefIdeal.τ).loc Cert.ProjDaRefIdeal.main_arg0) = m' ((c.tc : Thread Cert.ProjDaRefIdeal.nD Cert.ProjDaRefIdeal.τ).loc Cert.ProjDaRefIdeal.main_arg0)
          ∧ r.2.mem ((c.tc : Thread Cert.ProjDaRefIdeal.nD Cert.ProjDaRefIdeal.τ).loc Cert.ProjDaRefIdeal.main_arg1) = m' ((c.tc : Thread Cert.ProjDaRefIdeal.nD Cert.ProjDaRefIdeal.τ).loc Cert.ProjDaRefIdeal.main_arg1))

def preserves_ProjF_ProjFIdeal : Prop :=
  True

def algebraic_ProjFIdeal_ProjFRefIdeal [hProjFIdeal : Cert.ProjFIdeal.Facts] [hProjFRefIdeal : Cert.ProjFRefIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.ProjFRefIdeal.nD Cert.ProjFRefIdeal.τ Cert.ProjFRefIdeal.sig) → Buf (Elt Ideal) ℓ) (g' : Dev Cert.ProjFRefIdeal.nD → PrngReg), Pre_ProjFIdeal m →
    (∀ c : Dev Cert.ProjFIdeal.nD,
      m' ((c.tc : Thread Cert.ProjFRefIdeal.nD Cert.ProjFRefIdeal.τ).loc Cert.ProjFRefIdeal.main_arg0) = m ((c.tc : Thread Cert.ProjFIdeal.nD Cert.ProjFIdeal.τ).loc Cert.ProjFIdeal.main_arg0)
      ∧ m' ((c.tc : Thread Cert.ProjFRefIdeal.nD Cert.ProjFRefIdeal.τ).loc Cert.ProjFRefIdeal.main_arg1) = m ((c.tc : Thread Cert.ProjFIdeal.nD Cert.ProjFIdeal.τ).loc Cert.ProjFIdeal.main_arg1)) →
    ∃ (v0 : (c : Dev Cert.ProjFIdeal.nD) → Buf (Elt Ideal) ((c.tc : Thread Cert.ProjFIdeal.nD Cert.ProjFIdeal.τ).loc Cert.ProjFIdeal.main_v0)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v0) = v0 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ θ_run (Cert.ProjFRefIdeal.defs (F := Ideal)) (onTc (τ := Cert.ProjFRefIdeal.τ) (Cert.ProjFRefIdeal.main (F := Ideal))) ⟨m', fun _ => 0, g'⟩ (fun r => ∀ c : Dev Cert.ProjFRefIdeal.nD,
          r.2.mem ((c.tc : Thread Cert.ProjFRefIdeal.nD Cert.ProjFRefIdeal.τ).loc Cert.ProjFRefIdeal.main_v2) = v0 c
          ∧ r.2.mem ((c.tc : Thread Cert.ProjFRefIdeal.nD Cert.ProjFRefIdeal.τ).loc Cert.ProjFRefIdeal.main_arg0) = m' ((c.tc : Thread Cert.ProjFRefIdeal.nD Cert.ProjFRefIdeal.τ).loc Cert.ProjFRefIdeal.main_arg0)
          ∧ r.2.mem ((c.tc : Thread Cert.ProjFRefIdeal.nD Cert.ProjFRefIdeal.τ).loc Cert.ProjFRefIdeal.main_arg1) = m' ((c.tc : Thread Cert.ProjFRefIdeal.nD Cert.ProjFRefIdeal.τ).loc Cert.ProjFRefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v3) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_In0_In0Ideal : Prop :=
  True

def algebraic_In0Ideal_In0RefIdeal [hIn0Ideal : Cert.In0Ideal.Facts] [hIn0RefIdeal : Cert.In0RefIdeal.Facts] : Prop :=
  ∀ (m : (ℓ : Loc Cert.In0Ideal.nD Cert.In0Ideal.τ Cert.In0Ideal.sig) → Buf (Elt Ideal) ℓ) (g : Dev Cert.In0Ideal.nD → PrngReg)
    (m' : (ℓ : Loc Cert.In0RefIdeal.nD Cert.In0RefIdeal.τ Cert.In0RefIdeal.sig) → Buf (Elt Ideal) ℓ) (g' : Dev Cert.In0RefIdeal.nD → PrngReg), Pre_In0Ideal m →
    (∀ c : Dev Cert.In0Ideal.nD,
      m' ((c.tc : Thread Cert.In0RefIdeal.nD Cert.In0RefIdeal.τ).loc Cert.In0RefIdeal.main_arg0) = m ((c.tc : Thread Cert.In0Ideal.nD Cert.In0Ideal.τ).loc Cert.In0Ideal.main_arg0)
      ∧ m' ((c.tc : Thread Cert.In0RefIdeal.nD Cert.In0RefIdeal.τ).loc Cert.In0RefIdeal.main_arg1) = m ((c.tc : Thread Cert.In0Ideal.nD Cert.In0Ideal.τ).loc Cert.In0Ideal.main_arg1)
      ∧ m' ((c.tc : Thread Cert.In0RefIdeal.nD Cert.In0RefIdeal.τ).loc Cert.In0RefIdeal.main_arg2) = m ((c.tc : Thread Cert.In0Ideal.nD Cert.In0Ideal.τ).loc Cert.In0Ideal.main_arg2)
      ∧ m' ((c.tc : Thread Cert.In0RefIdeal.nD Cert.In0RefIdeal.τ).loc Cert.In0RefIdeal.main_arg3) = m ((c.tc : Thread Cert.In0Ideal.nD Cert.In0Ideal.τ).loc Cert.In0Ideal.main_arg3)
      ∧ m' ((c.tc : Thread Cert.In0RefIdeal.nD Cert.In0RefIdeal.τ).loc Cert.In0RefIdeal.main_arg4) = m ((c.tc : Thread Cert.In0Ideal.nD Cert.In0Ideal.τ).loc Cert.In0Ideal.main_arg4)
      ∧ m' ((c.tc : Thread Cert.In0RefIdeal.nD Cert.In0RefIdeal.τ).loc Cert.In0RefIdeal.main_arg5) = m ((c.tc : Thread Cert.In0Ideal.nD Cert.In0Ideal.τ).loc Cert.In0Ideal.main_arg5)
      ∧ m' ((c.tc : Thread Cert.In0RefIdeal.nD Cert.In0RefIdeal.τ).loc Cert.In0RefIdeal.main_arg6) = m ((c.tc : Thread Cert.In0Ideal.nD Cert.In0Ideal.τ).loc Cert.In0Ideal.main_arg6)
      ∧ m' ((c.tc : Thread Cert.In0RefIdeal.nD Cert.In0RefIdeal.τ).loc Cert.In0RefIdeal.main_arg7) = m ((c.tc : Thread Cert.In0Ideal.nD Cert.In0Ideal.τ).loc Cert.In0Ideal.main_arg7)) →
    ∃ (v0 : (c : Dev Cert.In0Ideal.nD) → Buf (Elt Ideal) ((c.tc : Thread Cert.In0Ideal.nD Cert.In0Ideal.τ).loc Cert.In0Ideal.main_v0_0)) (v1 : (c : Dev Cert.In0Ideal.nD) → Buf (Elt Ideal) ((c.tc : Thread Cert.In0Ideal.nD Cert.In0Ideal.τ).loc Cert.In0Ideal.main_v0_1)) (v2 : (c : Dev Cert.In0Ideal.nD) → Buf (Elt Ideal) ((c.tc : Thread Cert.In0Ideal.nD Cert.In0Ideal.τ).loc Cert.In0Ideal.main_v0_2)) (v3 : (c : Dev Cert.In0Ideal.nD) → Buf (Elt Ideal) ((c.tc : Thread Cert.In0Ideal.nD Cert.In0Ideal.τ).loc Cert.In0Ideal.main_v0_3)) (v4 : (c : Dev Cert.In0Ideal.nD) → Buf (Elt Ideal) ((c.tc : Thread Cert.In0Ideal.nD Cert.In0Ideal.τ).loc Cert.In0Ideal.main_v0_4)) (v5 : (c : Dev Cert.In0Ideal.nD) → Buf (Elt Ideal) ((c.tc : Thread Cert.In0Ideal.nD Cert.In0Ideal.τ).loc Cert.In0Ideal.main_v0_5)) (v6 : (c : Dev Cert.In0Ideal.nD) → Buf (Elt Ideal) ((c.tc : Thread Cert.In0Ideal.nD Cert.In0Ideal.τ).loc Cert.In0Ideal.main_v0_6)),
      θ_run (Cert.In0Ideal.defs (F := Ideal)) (onTc (τ := Cert.In0Ideal.τ) (Cert.In0Ideal.main (F := Ideal))) ⟨m, fun _ => 0, g⟩ (fun r => ∀ c : Dev Cert.In0Ideal.nD,
          r.2.mem ((c.tc : Thread Cert.In0Ideal.nD Cert.In0Ideal.τ).loc Cert.In0Ideal.main_v0_0) = v0 c
          ∧ r.2.mem ((c.tc : Thread Cert.In0Ideal.nD Cert.In0Ideal.τ).loc Cert.In0Ideal.main_v0_1) = v1 c
          ∧ r.2.mem ((c.tc : Thread Cert.In0Ideal.nD Cert.In0Ideal.τ).loc Cert.In0Ideal.main_v0_2) = v2 c
          ∧ r.2.mem ((c.tc : Thread Cert.In0Ideal.nD Cert.In0Ideal.τ).loc Cert.In0Ideal.main_v0_3) = v3 c
          ∧ r.2.mem ((c.tc : Thread Cert.In0Ideal.nD Cert.In0Ideal.τ).loc Cert.In0Ideal.main_v0_4) = v4 c
          ∧ r.2.mem ((c.tc : Thread Cert.In0Ideal.nD Cert.In0Ideal.τ).loc Cert.In0Ideal.main_v0_5) = v5 c
          ∧ r.2.mem ((c.tc : Thread Cert.In0Ideal.nD Cert.In0Ideal.τ).loc Cert.In0Ideal.main_v0_6) = v6 c
          ∧ r.2.mem ((c.tc : Thread Cert.In0Ideal.nD Cert.In0Ideal.τ).loc Cert.In0Ideal.main_arg0) = m ((c.tc : Thread Cert.In0Ideal.nD Cert.In0Ideal.τ).loc Cert.In0Ideal.main_arg0)
          ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
          ∧ r.2.mem ((c.tc : Thread Cert.In0Ideal.nD Cert.In0Ideal.τ).loc Cert.In0Ideal.main_arg2) = m ((c.tc : Thread Cert.In0Ideal.nD Cert.In0Ideal.τ).loc Cert.In0Ideal.main_arg2)
          ∧ r.2.mem ((c.tc : Thread Cert.In0Ideal.nD Cert.In0Ideal.τ).loc Cert.In0Ideal.main_arg3) = m ((c.tc : Thread Cert.In0Ideal.nD Cert.In0Ideal.τ).loc Cert.In0Ideal.main_arg3)
          ∧ r.2.mem ((c.tc : Thread Cert.In0Ideal.nD Cert.In0Ideal.τ).loc Cert.In0Ideal.main_arg4) = m ((c.tc : Thread Cert.In0Ideal.nD Cert.In0Ideal.τ).loc Cert.In0Ideal.main_arg4)
          ∧ r.2.mem ((c.tc : Thread Cert.In0Ideal.nD Cert.In0Ideal.τ).loc Cert.In0Ideal.main_arg5) = m ((c.tc : Thread Cert.In0Ideal.nD Cert.In0Ideal.τ).loc Cert.In0Ideal.main_arg5)
          ∧ r.2.mem ((c.tc : Thread Cert.In0Ideal.nD Cert.In0Ideal.τ).loc Cert.In0Ideal.main_arg6) = m ((c.tc : Thread Cert.In0Ideal.nD Cert.In0Ideal.τ).loc Cert.In0Ideal.main_arg6)
          ∧ r.2.mem ((c.tc : Thread Cert.In0Ideal.nD Cert.In0Ideal.τ).loc Cert.In0Ideal.main_arg7) = m ((c.tc : Thread Cert.In0Ideal.nD Cert.In0Ideal.τ).loc Cert.In0Ideal.main_arg7))
      ∧ θ_run (Cert.In0RefIdeal.defs (F := Ideal)) (onTc (τ := Cert.In0RefIdeal.τ) (Cert.In0RefIdeal.main (F := Ideal))) ⟨m', fun _ => 0, g'⟩ (fun r => ∀ c : Dev Cert.In0RefIdeal.nD,
          r.2.mem ((c.tc : Thread Cert.In0RefIdeal.nD Cert.In0RefIdeal.τ).loc Cert.In0RefIdeal.main_v3) = v0 c
          ∧ r.2.mem ((c.tc : Thread Cert.In0RefIdeal.nD Cert.In0RefIdeal.τ).loc Cert.In0RefIdeal.main_v7) = v1 c
          ∧ r.2.mem ((c.tc : Thread Cert.In0RefIdeal.nD Cert.In0RefIdeal.τ).loc Cert.In0RefIdeal.main_v11) = v2 c
          ∧ r.2.mem ((c.tc : Thread Cert.In0RefIdeal.nD Cert.In0RefIdeal.τ).loc Cert.In0RefIdeal.main_v15) = v3 c
          ∧ r.2.mem ((c.tc : Thread Cert.In0RefIdeal.nD Cert.In0RefIdeal.τ).loc Cert.In0RefIdeal.main_v19) = v4 c
          ∧ r.2.mem ((c.tc : Thread Cert.In0RefIdeal.nD Cert.In0RefIdeal.τ).loc Cert.In0RefIdeal.main_v23) = v5 c
          ∧ r.2.mem ((c.tc : Thread Cert.In0RefIdeal.nD Cert.In0RefIdeal.τ).loc Cert.In0RefIdeal.main_v27) = v6 c
          ∧ r.2.mem ((c.tc : Thread Cert.In0RefIdeal.nD Cert.In0RefIdeal.τ).loc Cert.In0RefIdeal.main_arg0) = m' ((c.tc : Thread Cert.In0RefIdeal.nD Cert.In0RefIdeal.τ).loc Cert.In0RefIdeal.main_arg0)
          ∧ r.2.mem ((c.tc : Thread Cert.In0RefIdeal.nD Cert.In0RefIdeal.τ).loc Cert.In0RefIdeal.main_arg1) = m' ((c.tc : Thread Cert.In0RefIdeal.nD Cert.In0RefIdeal.τ).loc Cert.In0RefIdeal.main_arg1)
          ∧ r.2.mem ((c.tc : Thread Cert.In0RefIdeal.nD Cert.In0RefIdeal.τ).loc Cert.In0RefIdeal.main_arg2) = m' ((c.tc : Thread Cert.In0RefIdeal.nD Cert.In0RefIdeal.τ).loc Cert.In0RefIdeal.main_arg2)
          ∧ r.2.mem ((c.tc : Thread Cert.In0RefIdeal.nD Cert.In0RefIdeal.τ).loc Cert.In0RefIdeal.main_arg3) = m' ((c.tc : Thread Cert.In0RefIdeal.nD Cert.In0RefIdeal.τ).loc Cert.In0RefIdeal.main_arg3)
          ∧ r.2.mem ((c.tc : Thread Cert.In0RefIdeal.nD Cert.In0RefIdeal.τ).loc Cert.In0RefIdeal.main_arg4) = m' ((c.tc : Thread Cert.In0RefIdeal.nD Cert.In0RefIdeal.τ).loc Cert.In0RefIdeal.main_arg4)
          ∧ r.2.mem ((c.tc : Thread Cert.In0RefIdeal.nD Cert.In0RefIdeal.τ).loc Cert.In0RefIdeal.main_arg5) = m' ((c.tc : Thread Cert.In0RefIdeal.nD Cert.In0RefIdeal.τ).loc Cert.In0RefIdeal.main_arg5)
          ∧ r.2.mem ((c.tc : Thread Cert.In0RefIdeal.nD Cert.In0RefIdeal.τ).loc Cert.In0RefIdeal.main_arg6) = m' ((c.tc : Thread Cert.In0RefIdeal.nD Cert.In0RefIdeal.τ).loc Cert.In0RefIdeal.main_arg6)
          ∧ r.2.mem ((c.tc : Thread Cert.In0RefIdeal.nD Cert.In0RefIdeal.τ).loc Cert.In0RefIdeal.main_arg7) = m' ((c.tc : Thread Cert.In0RefIdeal.nD Cert.In0RefIdeal.τ).loc Cert.In0RefIdeal.main_arg7))

def preserves_In1_In1Ideal : Prop :=
  True

def algebraic_In1Ideal_In1RefIdeal [hIn1Ideal : Cert.In1Ideal.Facts] [hIn1RefIdeal : Cert.In1RefIdeal.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.In1RefIdeal.nD Cert.In1RefIdeal.τ Cert.In1RefIdeal.sig) → Buf (Elt Ideal) ℓ) (g' : Dev Cert.In1RefIdeal.nD → PrngReg), Pre_In1Ideal m →
    (∀ c : Dev Cert.In1Ideal.nD,
      m' ((c.tc : Thread Cert.In1RefIdeal.nD Cert.In1RefIdeal.τ).loc Cert.In1RefIdeal.main_arg0) = m ((c.tc : Thread Cert.In1Ideal.nD Cert.In1Ideal.τ).loc Cert.In1Ideal.main_arg0)
      ∧ m' ((c.tc : Thread Cert.In1RefIdeal.nD Cert.In1RefIdeal.τ).loc Cert.In1RefIdeal.main_arg1) = m ((c.tc : Thread Cert.In1Ideal.nD Cert.In1Ideal.τ).loc Cert.In1Ideal.main_arg1)
      ∧ m' ((c.tc : Thread Cert.In1RefIdeal.nD Cert.In1RefIdeal.τ).loc Cert.In1RefIdeal.main_arg2) = m ((c.tc : Thread Cert.In1Ideal.nD Cert.In1Ideal.τ).loc Cert.In1Ideal.main_arg2)
      ∧ m' ((c.tc : Thread Cert.In1RefIdeal.nD Cert.In1RefIdeal.τ).loc Cert.In1RefIdeal.main_arg3) = m ((c.tc : Thread Cert.In1Ideal.nD Cert.In1Ideal.τ).loc Cert.In1Ideal.main_arg3)
      ∧ m' ((c.tc : Thread Cert.In1RefIdeal.nD Cert.In1RefIdeal.τ).loc Cert.In1RefIdeal.main_arg4) = m ((c.tc : Thread Cert.In1Ideal.nD Cert.In1Ideal.τ).loc Cert.In1Ideal.main_arg4)
      ∧ m' ((c.tc : Thread Cert.In1RefIdeal.nD Cert.In1RefIdeal.τ).loc Cert.In1RefIdeal.main_arg5) = m ((c.tc : Thread Cert.In1Ideal.nD Cert.In1Ideal.τ).loc Cert.In1Ideal.main_arg5)) →
    ∃ (v0 : (c : Dev Cert.In1Ideal.nD) → Buf (Elt Ideal) ((c.tc : Thread Cert.In1Ideal.nD Cert.In1Ideal.τ).loc Cert.In1Ideal.main_v0_0)) (v1 : (c : Dev Cert.In1Ideal.nD) → Buf (Elt Ideal) ((c.tc : Thread Cert.In1Ideal.nD Cert.In1Ideal.τ).loc Cert.In1Ideal.main_v0_1)) (v2 : (c : Dev Cert.In1Ideal.nD) → Buf (Elt Ideal) ((c.tc : Thread Cert.In1Ideal.nD Cert.In1Ideal.τ).loc Cert.In1Ideal.main_v0_2)) (v3 : (c : Dev Cert.In1Ideal.nD) → Buf (Elt Ideal) ((c.tc : Thread Cert.In1Ideal.nD Cert.In1Ideal.τ).loc Cert.In1Ideal.main_v0_3)) (v4 : (c : Dev Cert.In1Ideal.nD) → Buf (Elt Ideal) ((c.tc : Thread Cert.In1Ideal.nD Cert.In1Ideal.τ).loc Cert.In1Ideal.main_v0_4)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v0_0) = v0 c
          ∧ r.2.mem ((c.tc : Thread Cert.In1Ideal.nD Cert.In1Ideal.τ).loc Cert.In1Ideal.main_v0_1) = v1 c
          ∧ r.2.mem ((c.tc : Thread Cert.In1Ideal.nD Cert.In1Ideal.τ).loc Cert.In1Ideal.main_v0_2) = v2 c
          ∧ r.2.mem ((c.tc : Thread Cert.In1Ideal.nD Cert.In1Ideal.τ).loc Cert.In1Ideal.main_v0_3) = v3 c
          ∧ r.2.mem ((c.tc : Thread Cert.In1Ideal.nD Cert.In1Ideal.τ).loc Cert.In1Ideal.main_v0_4) = v4 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
          ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
          ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
          ∧ r.2.mem ((c.tc : Thread Cert.In1Ideal.nD Cert.In1Ideal.τ).loc Cert.In1Ideal.main_arg4) = m ((c.tc : Thread Cert.In1Ideal.nD Cert.In1Ideal.τ).loc Cert.In1Ideal.main_arg4)
          ∧ r.2.mem ((c.tc : Thread Cert.In1Ideal.nD Cert.In1Ideal.τ).loc Cert.In1Ideal.main_arg5) = m ((c.tc : Thread Cert.In1Ideal.nD Cert.In1Ideal.τ).loc Cert.In1Ideal.main_arg5))
      ∧ θ_run (Cert.In1RefIdeal.defs (F := Ideal)) (onTc (τ := Cert.In1RefIdeal.τ) (Cert.In1RefIdeal.main (F := Ideal))) ⟨m', fun _ => 0, g'⟩ (fun r => ∀ c : Dev Cert.In1RefIdeal.nD,
          r.2.mem ((c.tc : Thread Cert.In1RefIdeal.nD Cert.In1RefIdeal.τ).loc Cert.In1RefIdeal.main_v3) = v0 c
          ∧ r.2.mem ((c.tc : Thread Cert.In1RefIdeal.nD Cert.In1RefIdeal.τ).loc Cert.In1RefIdeal.main_v7) = v1 c
          ∧ r.2.mem ((c.tc : Thread Cert.In1RefIdeal.nD Cert.In1RefIdeal.τ).loc Cert.In1RefIdeal.main_v12) = v2 c
          ∧ r.2.mem ((c.tc : Thread Cert.In1RefIdeal.nD Cert.In1RefIdeal.τ).loc Cert.In1RefIdeal.main_v17) = v3 c
          ∧ r.2.mem ((c.tc : Thread Cert.In1RefIdeal.nD Cert.In1RefIdeal.τ).loc Cert.In1RefIdeal.main_v22) = v4 c
          ∧ r.2.mem ((c.tc : Thread Cert.In1RefIdeal.nD Cert.In1RefIdeal.τ).loc Cert.In1RefIdeal.main_arg0) = m' ((c.tc : Thread Cert.In1RefIdeal.nD Cert.In1RefIdeal.τ).loc Cert.In1RefIdeal.main_arg0)
          ∧ r.2.mem ((c.tc : Thread Cert.In1RefIdeal.nD Cert.In1RefIdeal.τ).loc Cert.In1RefIdeal.main_arg1) = m' ((c.tc : Thread Cert.In1RefIdeal.nD Cert.In1RefIdeal.τ).loc Cert.In1RefIdeal.main_arg1)
          ∧ r.2.mem ((c.tc : Thread Cert.In1RefIdeal.nD Cert.In1RefIdeal.τ).loc Cert.In1RefIdeal.main_arg2) = m' ((c.tc : Thread Cert.In1RefIdeal.nD Cert.In1RefIdeal.τ).loc Cert.In1RefIdeal.main_arg2)
          ∧ r.2.mem ((c.tc : Thread Cert.In1RefIdeal.nD Cert.In1RefIdeal.τ).loc Cert.In1RefIdeal.main_arg3) = m' ((c.tc : Thread Cert.In1RefIdeal.nD Cert.In1RefIdeal.τ).loc Cert.In1RefIdeal.main_arg3)
          ∧ r.2.mem ((c.tc : Thread Cert.In1RefIdeal.nD Cert.In1RefIdeal.τ).loc Cert.In1RefIdeal.main_arg4) = m' ((c.tc : Thread Cert.In1RefIdeal.nD Cert.In1RefIdeal.τ).loc Cert.In1RefIdeal.main_arg4)
          ∧ r.2.mem ((c.tc : Thread Cert.In1RefIdeal.nD Cert.In1RefIdeal.τ).loc Cert.In1RefIdeal.main_arg5) = m' ((c.tc : Thread Cert.In1RefIdeal.nD Cert.In1RefIdeal.τ).loc Cert.In1RefIdeal.main_arg5))

def preserves_InDa0_InDa0Ideal : Prop :=
  True

def algebraic_InDa0Ideal_InDa0RefIdeal [hInDa0Ideal : Cert.InDa0Ideal.Facts] [hInDa0RefIdeal : Cert.InDa0RefIdeal.Facts] : Prop :=
  ∀ (m : (ℓ : Loc Cert.InDa0Ideal.nD Cert.InDa0Ideal.τ Cert.InDa0Ideal.sig) → Buf (Elt Ideal) ℓ) (g : Dev Cert.InDa0Ideal.nD → PrngReg)
    (m' : (ℓ : Loc Cert.InDa0RefIdeal.nD Cert.InDa0RefIdeal.τ Cert.InDa0RefIdeal.sig) → Buf (Elt Ideal) ℓ) (g' : Dev Cert.InDa0RefIdeal.nD → PrngReg), Pre_InDa0Ideal m →
    (∀ c : Dev Cert.InDa0Ideal.nD,
      m' ((c.tc : Thread Cert.InDa0RefIdeal.nD Cert.InDa0RefIdeal.τ).loc Cert.InDa0RefIdeal.main_arg0) = m ((c.tc : Thread Cert.InDa0Ideal.nD Cert.InDa0Ideal.τ).loc Cert.InDa0Ideal.main_arg0)
      ∧ m' ((c.tc : Thread Cert.InDa0RefIdeal.nD Cert.InDa0RefIdeal.τ).loc Cert.InDa0RefIdeal.main_arg1) = m ((c.tc : Thread Cert.InDa0Ideal.nD Cert.InDa0Ideal.τ).loc Cert.InDa0Ideal.main_arg1)
      ∧ m' ((c.tc : Thread Cert.InDa0RefIdeal.nD Cert.InDa0RefIdeal.τ).loc Cert.InDa0RefIdeal.main_arg2) = m ((c.tc : Thread Cert.InDa0Ideal.nD Cert.InDa0Ideal.τ).loc Cert.InDa0Ideal.main_arg2)
      ∧ m' ((c.tc : Thread Cert.InDa0RefIdeal.nD Cert.InDa0RefIdeal.τ).loc Cert.InDa0RefIdeal.main_arg3) = m ((c.tc : Thread Cert.InDa0Ideal.nD Cert.InDa0Ideal.τ).loc Cert.InDa0Ideal.main_arg3)
      ∧ m' ((c.tc : Thread Cert.InDa0RefIdeal.nD Cert.InDa0RefIdeal.τ).loc Cert.InDa0RefIdeal.main_arg4) = m ((c.tc : Thread Cert.InDa0Ideal.nD Cert.InDa0Ideal.τ).loc Cert.InDa0Ideal.main_arg4)
      ∧ m' ((c.tc : Thread Cert.InDa0RefIdeal.nD Cert.InDa0RefIdeal.τ).loc Cert.InDa0RefIdeal.main_arg5) = m ((c.tc : Thread Cert.InDa0Ideal.nD Cert.InDa0Ideal.τ).loc Cert.InDa0Ideal.main_arg5)
      ∧ m' ((c.tc : Thread Cert.InDa0RefIdeal.nD Cert.InDa0RefIdeal.τ).loc Cert.InDa0RefIdeal.main_arg6) = m ((c.tc : Thread Cert.InDa0Ideal.nD Cert.InDa0Ideal.τ).loc Cert.InDa0Ideal.main_arg6)
      ∧ m' ((c.tc : Thread Cert.InDa0RefIdeal.nD Cert.InDa0RefIdeal.τ).loc Cert.InDa0RefIdeal.main_arg7) = m ((c.tc : Thread Cert.InDa0Ideal.nD Cert.InDa0Ideal.τ).loc Cert.InDa0Ideal.main_arg7)
      ∧ m' ((c.tc : Thread Cert.InDa0RefIdeal.nD Cert.InDa0RefIdeal.τ).loc Cert.InDa0RefIdeal.main_arg8) = m ((c.tc : Thread Cert.InDa0Ideal.nD Cert.InDa0Ideal.τ).loc Cert.InDa0Ideal.main_arg8)
      ∧ m' ((c.tc : Thread Cert.InDa0RefIdeal.nD Cert.InDa0RefIdeal.τ).loc Cert.InDa0RefIdeal.main_arg9) = m ((c.tc : Thread Cert.InDa0Ideal.nD Cert.InDa0Ideal.τ).loc Cert.InDa0Ideal.main_arg9)
      ∧ m' ((c.tc : Thread Cert.InDa0RefIdeal.nD Cert.InDa0RefIdeal.τ).loc Cert.InDa0RefIdeal.main_arg10) = m ((c.tc : Thread Cert.InDa0Ideal.nD Cert.InDa0Ideal.τ).loc Cert.InDa0Ideal.main_arg10)
      ∧ m' ((c.tc : Thread Cert.InDa0RefIdeal.nD Cert.InDa0RefIdeal.τ).loc Cert.InDa0RefIdeal.main_arg11) = m ((c.tc : Thread Cert.InDa0Ideal.nD Cert.InDa0Ideal.τ).loc Cert.InDa0Ideal.main_arg11)
      ∧ m' ((c.tc : Thread Cert.InDa0RefIdeal.nD Cert.InDa0RefIdeal.τ).loc Cert.InDa0RefIdeal.main_arg12) = m ((c.tc : Thread Cert.InDa0Ideal.nD Cert.InDa0Ideal.τ).loc Cert.InDa0Ideal.main_arg12)
      ∧ m' ((c.tc : Thread Cert.InDa0RefIdeal.nD Cert.InDa0RefIdeal.τ).loc Cert.InDa0RefIdeal.main_arg13) = m ((c.tc : Thread Cert.InDa0Ideal.nD Cert.InDa0Ideal.τ).loc Cert.InDa0Ideal.main_arg13)) →
    ∃ (v0 : (c : Dev Cert.InDa0Ideal.nD) → Buf (Elt Ideal) ((c.tc : Thread Cert.InDa0Ideal.nD Cert.InDa0Ideal.τ).loc Cert.InDa0Ideal.main_v0)),
      θ_run (Cert.InDa0Ideal.defs (F := Ideal)) (onTc (τ := Cert.InDa0Ideal.τ) (Cert.InDa0Ideal.main (F := Ideal))) ⟨m, fun _ => 0, g⟩ (fun r => ∀ c : Dev Cert.InDa0Ideal.nD,
          r.2.mem ((c.tc : Thread Cert.InDa0Ideal.nD Cert.InDa0Ideal.τ).loc Cert.InDa0Ideal.main_v0) = v0 c
          ∧ r.2.mem ((c.tc : Thread Cert.InDa0Ideal.nD Cert.InDa0Ideal.τ).loc Cert.InDa0Ideal.main_arg0) = m ((c.tc : Thread Cert.InDa0Ideal.nD Cert.InDa0Ideal.τ).loc Cert.InDa0Ideal.main_arg0)
          ∧ r.2.mem ((c.tc : Thread Cert.InDa0Ideal.nD Cert.InDa0Ideal.τ).loc Cert.InDa0Ideal.main_arg1) = m ((c.tc : Thread Cert.InDa0Ideal.nD Cert.InDa0Ideal.τ).loc Cert.InDa0Ideal.main_arg1)
          ∧ r.2.mem ((c.tc : Thread Cert.InDa0Ideal.nD Cert.InDa0Ideal.τ).loc Cert.InDa0Ideal.main_arg2) = m ((c.tc : Thread Cert.InDa0Ideal.nD Cert.InDa0Ideal.τ).loc Cert.InDa0Ideal.main_arg2)
          ∧ r.2.mem ((c.tc : Thread Cert.InDa0Ideal.nD Cert.InDa0Ideal.τ).loc Cert.InDa0Ideal.main_arg3) = m ((c.tc : Thread Cert.InDa0Ideal.nD Cert.InDa0Ideal.τ).loc Cert.InDa0Ideal.main_arg3)
          ∧ r.2.mem ((c.tc : Thread Cert.InDa0Ideal.nD Cert.InDa0Ideal.τ).loc Cert.InDa0Ideal.main_arg4) = m ((c.tc : Thread Cert.InDa0Ideal.nD Cert.InDa0Ideal.τ).loc Cert.InDa0Ideal.main_arg4)
          ∧ r.2.mem ((c.tc : Thread Cert.InDa0Ideal.nD Cert.InDa0Ideal.τ).loc Cert.InDa0Ideal.main_arg5) = m ((c.tc : Thread Cert.InDa0Ideal.nD Cert.InDa0Ideal.τ).loc Cert.InDa0Ideal.main_arg5)
          ∧ r.2.mem ((c.tc : Thread Cert.InDa0Ideal.nD Cert.InDa0Ideal.τ).loc Cert.InDa0Ideal.main_arg6) = m ((c.tc : Thread Cert.InDa0Ideal.nD Cert.InDa0Ideal.τ).loc Cert.InDa0Ideal.main_arg6)
          ∧ r.2.mem ((c.tc : Thread Cert.InDa0Ideal.nD Cert.InDa0Ideal.τ).loc Cert.InDa0Ideal.main_arg7) = m ((c.tc : Thread Cert.InDa0Ideal.nD Cert.InDa0Ideal.τ).loc Cert.InDa0Ideal.main_arg7)
          ∧ r.2.mem ((c.tc : Thread Cert.InDa0Ideal.nD Cert.InDa0Ideal.τ).loc Cert.InDa0Ideal.main_arg8) = m ((c.tc : Thread Cert.InDa0Ideal.nD Cert.InDa0Ideal.τ).loc Cert.InDa0Ideal.main_arg8)
          ∧ r.2.mem ((c.tc : Thread Cert.InDa0Ideal.nD Cert.InDa0Ideal.τ).loc Cert.InDa0Ideal.main_arg9) = m ((c.tc : Thread Cert.InDa0Ideal.nD Cert.InDa0Ideal.τ).loc Cert.InDa0Ideal.main_arg9)
          ∧ r.2.mem ((c.tc : Thread Cert.InDa0Ideal.nD Cert.InDa0Ideal.τ).loc Cert.InDa0Ideal.main_arg10) = m ((c.tc : Thread Cert.InDa0Ideal.nD Cert.InDa0Ideal.τ).loc Cert.InDa0Ideal.main_arg10)
          ∧ r.2.mem ((c.tc : Thread Cert.InDa0Ideal.nD Cert.InDa0Ideal.τ).loc Cert.InDa0Ideal.main_arg11) = m ((c.tc : Thread Cert.InDa0Ideal.nD Cert.InDa0Ideal.τ).loc Cert.InDa0Ideal.main_arg11)
          ∧ r.2.mem ((c.tc : Thread Cert.InDa0Ideal.nD Cert.InDa0Ideal.τ).loc Cert.InDa0Ideal.main_arg12) = m ((c.tc : Thread Cert.InDa0Ideal.nD Cert.InDa0Ideal.τ).loc Cert.InDa0Ideal.main_arg12)
          ∧ r.2.mem ((c.tc : Thread Cert.InDa0Ideal.nD Cert.InDa0Ideal.τ).loc Cert.InDa0Ideal.main_arg13) = m ((c.tc : Thread Cert.InDa0Ideal.nD Cert.InDa0Ideal.τ).loc Cert.InDa0Ideal.main_arg13))
      ∧ θ_run (Cert.InDa0RefIdeal.defs (F := Ideal)) (onTc (τ := Cert.InDa0RefIdeal.τ) (Cert.InDa0RefIdeal.main (F := Ideal))) ⟨m', fun _ => 0, g'⟩ (fun r => ∀ c : Dev Cert.InDa0RefIdeal.nD,
          r.2.mem ((c.tc : Thread Cert.InDa0RefIdeal.nD Cert.InDa0RefIdeal.τ).loc Cert.InDa0RefIdeal.main_v47) = v0 c
          ∧ r.2.mem ((c.tc : Thread Cert.InDa0RefIdeal.nD Cert.InDa0RefIdeal.τ).loc Cert.InDa0RefIdeal.main_arg0) = m' ((c.tc : Thread Cert.InDa0RefIdeal.nD Cert.InDa0RefIdeal.τ).loc Cert.InDa0RefIdeal.main_arg0)
          ∧ r.2.mem ((c.tc : Thread Cert.InDa0RefIdeal.nD Cert.InDa0RefIdeal.τ).loc Cert.InDa0RefIdeal.main_arg1) = m' ((c.tc : Thread Cert.InDa0RefIdeal.nD Cert.InDa0RefIdeal.τ).loc Cert.InDa0RefIdeal.main_arg1)
          ∧ r.2.mem ((c.tc : Thread Cert.InDa0RefIdeal.nD Cert.InDa0RefIdeal.τ).loc Cert.InDa0RefIdeal.main_arg2) = m' ((c.tc : Thread Cert.InDa0RefIdeal.nD Cert.InDa0RefIdeal.τ).loc Cert.InDa0RefIdeal.main_arg2)
          ∧ r.2.mem ((c.tc : Thread Cert.InDa0RefIdeal.nD Cert.InDa0RefIdeal.τ).loc Cert.InDa0RefIdeal.main_arg3) = m' ((c.tc : Thread Cert.InDa0RefIdeal.nD Cert.InDa0RefIdeal.τ).loc Cert.InDa0RefIdeal.main_arg3)
          ∧ r.2.mem ((c.tc : Thread Cert.InDa0RefIdeal.nD Cert.InDa0RefIdeal.τ).loc Cert.InDa0RefIdeal.main_arg4) = m' ((c.tc : Thread Cert.InDa0RefIdeal.nD Cert.InDa0RefIdeal.τ).loc Cert.InDa0RefIdeal.main_arg4)
          ∧ r.2.mem ((c.tc : Thread Cert.InDa0RefIdeal.nD Cert.InDa0RefIdeal.τ).loc Cert.InDa0RefIdeal.main_arg5) = m' ((c.tc : Thread Cert.InDa0RefIdeal.nD Cert.InDa0RefIdeal.τ).loc Cert.InDa0RefIdeal.main_arg5)
          ∧ r.2.mem ((c.tc : Thread Cert.InDa0RefIdeal.nD Cert.InDa0RefIdeal.τ).loc Cert.InDa0RefIdeal.main_arg6) = m' ((c.tc : Thread Cert.InDa0RefIdeal.nD Cert.InDa0RefIdeal.τ).loc Cert.InDa0RefIdeal.main_arg6)
          ∧ r.2.mem ((c.tc : Thread Cert.InDa0RefIdeal.nD Cert.InDa0RefIdeal.τ).loc Cert.InDa0RefIdeal.main_arg7) = m' ((c.tc : Thread Cert.InDa0RefIdeal.nD Cert.InDa0RefIdeal.τ).loc Cert.InDa0RefIdeal.main_arg7)
          ∧ r.2.mem ((c.tc : Thread Cert.InDa0RefIdeal.nD Cert.InDa0RefIdeal.τ).loc Cert.InDa0RefIdeal.main_arg8) = m' ((c.tc : Thread Cert.InDa0RefIdeal.nD Cert.InDa0RefIdeal.τ).loc Cert.InDa0RefIdeal.main_arg8)
          ∧ r.2.mem ((c.tc : Thread Cert.InDa0RefIdeal.nD Cert.InDa0RefIdeal.τ).loc Cert.InDa0RefIdeal.main_arg9) = m' ((c.tc : Thread Cert.InDa0RefIdeal.nD Cert.InDa0RefIdeal.τ).loc Cert.InDa0RefIdeal.main_arg9)
          ∧ r.2.mem ((c.tc : Thread Cert.InDa0RefIdeal.nD Cert.InDa0RefIdeal.τ).loc Cert.InDa0RefIdeal.main_arg10) = m' ((c.tc : Thread Cert.InDa0RefIdeal.nD Cert.InDa0RefIdeal.τ).loc Cert.InDa0RefIdeal.main_arg10)
          ∧ r.2.mem ((c.tc : Thread Cert.InDa0RefIdeal.nD Cert.InDa0RefIdeal.τ).loc Cert.InDa0RefIdeal.main_arg11) = m' ((c.tc : Thread Cert.InDa0RefIdeal.nD Cert.InDa0RefIdeal.τ).loc Cert.InDa0RefIdeal.main_arg11)
          ∧ r.2.mem ((c.tc : Thread Cert.InDa0RefIdeal.nD Cert.InDa0RefIdeal.τ).loc Cert.InDa0RefIdeal.main_arg12) = m' ((c.tc : Thread Cert.InDa0RefIdeal.nD Cert.InDa0RefIdeal.τ).loc Cert.InDa0RefIdeal.main_arg12)
          ∧ r.2.mem ((c.tc : Thread Cert.InDa0RefIdeal.nD Cert.InDa0RefIdeal.τ).loc Cert.InDa0RefIdeal.main_arg13) = m' ((c.tc : Thread Cert.InDa0RefIdeal.nD Cert.InDa0RefIdeal.τ).loc Cert.InDa0RefIdeal.main_arg13))

def preserves_InDa1_InDa1Ideal : Prop :=
  True

def algebraic_InDa1Ideal_InDa1RefIdeal [hInDa1Ideal : Cert.InDa1Ideal.Facts] [hInDa1RefIdeal : Cert.InDa1RefIdeal.Facts] : Prop :=
  ∀ (m : (ℓ : Loc Cert.InDa1Ideal.nD Cert.InDa1Ideal.τ Cert.InDa1Ideal.sig) → Buf (Elt Ideal) ℓ) (g : Dev Cert.InDa1Ideal.nD → PrngReg)
    (m' : (ℓ : Loc Cert.InDa1RefIdeal.nD Cert.InDa1RefIdeal.τ Cert.InDa1RefIdeal.sig) → Buf (Elt Ideal) ℓ) (g' : Dev Cert.InDa1RefIdeal.nD → PrngReg), Pre_InDa1Ideal m →
    (∀ c : Dev Cert.InDa1Ideal.nD,
      m' ((c.tc : Thread Cert.InDa1RefIdeal.nD Cert.InDa1RefIdeal.τ).loc Cert.InDa1RefIdeal.main_arg0) = m ((c.tc : Thread Cert.InDa1Ideal.nD Cert.InDa1Ideal.τ).loc Cert.InDa1Ideal.main_arg0)
      ∧ m' ((c.tc : Thread Cert.InDa1RefIdeal.nD Cert.InDa1RefIdeal.τ).loc Cert.InDa1RefIdeal.main_arg1) = m ((c.tc : Thread Cert.InDa1Ideal.nD Cert.InDa1Ideal.τ).loc Cert.InDa1Ideal.main_arg1)
      ∧ m' ((c.tc : Thread Cert.InDa1RefIdeal.nD Cert.InDa1RefIdeal.τ).loc Cert.InDa1RefIdeal.main_arg2) = m ((c.tc : Thread Cert.InDa1Ideal.nD Cert.InDa1Ideal.τ).loc Cert.InDa1Ideal.main_arg2)
      ∧ m' ((c.tc : Thread Cert.InDa1RefIdeal.nD Cert.InDa1RefIdeal.τ).loc Cert.InDa1RefIdeal.main_arg3) = m ((c.tc : Thread Cert.InDa1Ideal.nD Cert.InDa1Ideal.τ).loc Cert.InDa1Ideal.main_arg3)
      ∧ m' ((c.tc : Thread Cert.InDa1RefIdeal.nD Cert.InDa1RefIdeal.τ).loc Cert.InDa1RefIdeal.main_arg4) = m ((c.tc : Thread Cert.InDa1Ideal.nD Cert.InDa1Ideal.τ).loc Cert.InDa1Ideal.main_arg4)
      ∧ m' ((c.tc : Thread Cert.InDa1RefIdeal.nD Cert.InDa1RefIdeal.τ).loc Cert.InDa1RefIdeal.main_arg5) = m ((c.tc : Thread Cert.InDa1Ideal.nD Cert.InDa1Ideal.τ).loc Cert.InDa1Ideal.main_arg5)
      ∧ m' ((c.tc : Thread Cert.InDa1RefIdeal.nD Cert.InDa1RefIdeal.τ).loc Cert.InDa1RefIdeal.main_arg6) = m ((c.tc : Thread Cert.InDa1Ideal.nD Cert.InDa1Ideal.τ).loc Cert.InDa1Ideal.main_arg6)
      ∧ m' ((c.tc : Thread Cert.InDa1RefIdeal.nD Cert.InDa1RefIdeal.τ).loc Cert.InDa1RefIdeal.main_arg7) = m ((c.tc : Thread Cert.InDa1Ideal.nD Cert.InDa1Ideal.τ).loc Cert.InDa1Ideal.main_arg7)
      ∧ m' ((c.tc : Thread Cert.InDa1RefIdeal.nD Cert.InDa1RefIdeal.τ).loc Cert.InDa1RefIdeal.main_arg8) = m ((c.tc : Thread Cert.InDa1Ideal.nD Cert.InDa1Ideal.τ).loc Cert.InDa1Ideal.main_arg8)
      ∧ m' ((c.tc : Thread Cert.InDa1RefIdeal.nD Cert.InDa1RefIdeal.τ).loc Cert.InDa1RefIdeal.main_arg9) = m ((c.tc : Thread Cert.InDa1Ideal.nD Cert.InDa1Ideal.τ).loc Cert.InDa1Ideal.main_arg9)
      ∧ m' ((c.tc : Thread Cert.InDa1RefIdeal.nD Cert.InDa1RefIdeal.τ).loc Cert.InDa1RefIdeal.main_arg10) = m ((c.tc : Thread Cert.InDa1Ideal.nD Cert.InDa1Ideal.τ).loc Cert.InDa1Ideal.main_arg10)) →
    ∃ (v0 : (c : Dev Cert.InDa1Ideal.nD) → Buf (Elt Ideal) ((c.tc : Thread Cert.InDa1Ideal.nD Cert.InDa1Ideal.τ).loc Cert.InDa1Ideal.main_v0)),
      θ_run (Cert.InDa1Ideal.defs (F := Ideal)) (onTc (τ := Cert.InDa1Ideal.τ) (Cert.InDa1Ideal.main (F := Ideal))) ⟨m, fun _ => 0, g⟩ (fun r => ∀ c : Dev Cert.InDa1Ideal.nD,
          r.2.mem ((c.tc : Thread Cert.InDa1Ideal.nD Cert.InDa1Ideal.τ).loc Cert.InDa1Ideal.main_v0) = v0 c
          ∧ r.2.mem ((c.tc : Thread Cert.InDa1Ideal.nD Cert.InDa1Ideal.τ).loc Cert.InDa1Ideal.main_arg0) = m ((c.tc : Thread Cert.InDa1Ideal.nD Cert.InDa1Ideal.τ).loc Cert.InDa1Ideal.main_arg0)
          ∧ r.2.mem ((c.tc : Thread Cert.InDa1Ideal.nD Cert.InDa1Ideal.τ).loc Cert.InDa1Ideal.main_arg1) = m ((c.tc : Thread Cert.InDa1Ideal.nD Cert.InDa1Ideal.τ).loc Cert.InDa1Ideal.main_arg1)
          ∧ r.2.mem ((c.tc : Thread Cert.InDa1Ideal.nD Cert.InDa1Ideal.τ).loc Cert.InDa1Ideal.main_arg2) = m ((c.tc : Thread Cert.InDa1Ideal.nD Cert.InDa1Ideal.τ).loc Cert.InDa1Ideal.main_arg2)
          ∧ r.2.mem ((c.tc : Thread Cert.InDa1Ideal.nD Cert.InDa1Ideal.τ).loc Cert.InDa1Ideal.main_arg3) = m ((c.tc : Thread Cert.InDa1Ideal.nD Cert.InDa1Ideal.τ).loc Cert.InDa1Ideal.main_arg3)
          ∧ r.2.mem ((c.tc : Thread Cert.InDa1Ideal.nD Cert.InDa1Ideal.τ).loc Cert.InDa1Ideal.main_arg4) = m ((c.tc : Thread Cert.InDa1Ideal.nD Cert.InDa1Ideal.τ).loc Cert.InDa1Ideal.main_arg4)
          ∧ r.2.mem ((c.tc : Thread Cert.InDa1Ideal.nD Cert.InDa1Ideal.τ).loc Cert.InDa1Ideal.main_arg5) = m ((c.tc : Thread Cert.InDa1Ideal.nD Cert.InDa1Ideal.τ).loc Cert.InDa1Ideal.main_arg5)
          ∧ r.2.mem ((c.tc : Thread Cert.InDa1Ideal.nD Cert.InDa1Ideal.τ).loc Cert.InDa1Ideal.main_arg6) = m ((c.tc : Thread Cert.InDa1Ideal.nD Cert.InDa1Ideal.τ).loc Cert.InDa1Ideal.main_arg6)
          ∧ r.2.mem ((c.tc : Thread Cert.InDa1Ideal.nD Cert.InDa1Ideal.τ).loc Cert.InDa1Ideal.main_arg7) = m ((c.tc : Thread Cert.InDa1Ideal.nD Cert.InDa1Ideal.τ).loc Cert.InDa1Ideal.main_arg7)
          ∧ r.2.mem ((c.tc : Thread Cert.InDa1Ideal.nD Cert.InDa1Ideal.τ).loc Cert.InDa1Ideal.main_arg8) = m ((c.tc : Thread Cert.InDa1Ideal.nD Cert.InDa1Ideal.τ).loc Cert.InDa1Ideal.main_arg8)
          ∧ r.2.mem ((c.tc : Thread Cert.InDa1Ideal.nD Cert.InDa1Ideal.τ).loc Cert.InDa1Ideal.main_arg9) = m ((c.tc : Thread Cert.InDa1Ideal.nD Cert.InDa1Ideal.τ).loc Cert.InDa1Ideal.main_arg9)
          ∧ r.2.mem ((c.tc : Thread Cert.InDa1Ideal.nD Cert.InDa1Ideal.τ).loc Cert.InDa1Ideal.main_arg10) = m ((c.tc : Thread Cert.InDa1Ideal.nD Cert.InDa1Ideal.τ).loc Cert.InDa1Ideal.main_arg10))
      ∧ θ_run (Cert.InDa1RefIdeal.defs (F := Ideal)) (onTc (τ := Cert.InDa1RefIdeal.τ) (Cert.InDa1RefIdeal.main (F := Ideal))) ⟨m', fun _ => 0, g'⟩ (fun r => ∀ c : Dev Cert.InDa1RefIdeal.nD,
          r.2.mem ((c.tc : Thread Cert.InDa1RefIdeal.nD Cert.InDa1RefIdeal.τ).loc Cert.InDa1RefIdeal.main_v34) = v0 c
          ∧ r.2.mem ((c.tc : Thread Cert.InDa1RefIdeal.nD Cert.InDa1RefIdeal.τ).loc Cert.InDa1RefIdeal.main_arg0) = m' ((c.tc : Thread Cert.InDa1RefIdeal.nD Cert.InDa1RefIdeal.τ).loc Cert.InDa1RefIdeal.main_arg0)
          ∧ r.2.mem ((c.tc : Thread Cert.InDa1RefIdeal.nD Cert.InDa1RefIdeal.τ).loc Cert.InDa1RefIdeal.main_arg1) = m' ((c.tc : Thread Cert.InDa1RefIdeal.nD Cert.InDa1RefIdeal.τ).loc Cert.InDa1RefIdeal.main_arg1)
          ∧ r.2.mem ((c.tc : Thread Cert.InDa1RefIdeal.nD Cert.InDa1RefIdeal.τ).loc Cert.InDa1RefIdeal.main_arg2) = m' ((c.tc : Thread Cert.InDa1RefIdeal.nD Cert.InDa1RefIdeal.τ).loc Cert.InDa1RefIdeal.main_arg2)
          ∧ r.2.mem ((c.tc : Thread Cert.InDa1RefIdeal.nD Cert.InDa1RefIdeal.τ).loc Cert.InDa1RefIdeal.main_arg3) = m' ((c.tc : Thread Cert.InDa1RefIdeal.nD Cert.InDa1RefIdeal.τ).loc Cert.InDa1RefIdeal.main_arg3)
          ∧ r.2.mem ((c.tc : Thread Cert.InDa1RefIdeal.nD Cert.InDa1RefIdeal.τ).loc Cert.InDa1RefIdeal.main_arg4) = m' ((c.tc : Thread Cert.InDa1RefIdeal.nD Cert.InDa1RefIdeal.τ).loc Cert.InDa1RefIdeal.main_arg4)
          ∧ r.2.mem ((c.tc : Thread Cert.InDa1RefIdeal.nD Cert.InDa1RefIdeal.τ).loc Cert.InDa1RefIdeal.main_arg5) = m' ((c.tc : Thread Cert.InDa1RefIdeal.nD Cert.InDa1RefIdeal.τ).loc Cert.InDa1RefIdeal.main_arg5)
          ∧ r.2.mem ((c.tc : Thread Cert.InDa1RefIdeal.nD Cert.InDa1RefIdeal.τ).loc Cert.InDa1RefIdeal.main_arg6) = m' ((c.tc : Thread Cert.InDa1RefIdeal.nD Cert.InDa1RefIdeal.τ).loc Cert.InDa1RefIdeal.main_arg6)
          ∧ r.2.mem ((c.tc : Thread Cert.InDa1RefIdeal.nD Cert.InDa1RefIdeal.τ).loc Cert.InDa1RefIdeal.main_arg7) = m' ((c.tc : Thread Cert.InDa1RefIdeal.nD Cert.InDa1RefIdeal.τ).loc Cert.InDa1RefIdeal.main_arg7)
          ∧ r.2.mem ((c.tc : Thread Cert.InDa1RefIdeal.nD Cert.InDa1RefIdeal.τ).loc Cert.InDa1RefIdeal.main_arg8) = m' ((c.tc : Thread Cert.InDa1RefIdeal.nD Cert.InDa1RefIdeal.τ).loc Cert.InDa1RefIdeal.main_arg8)
          ∧ r.2.mem ((c.tc : Thread Cert.InDa1RefIdeal.nD Cert.InDa1RefIdeal.τ).loc Cert.InDa1RefIdeal.main_arg9) = m' ((c.tc : Thread Cert.InDa1RefIdeal.nD Cert.InDa1RefIdeal.τ).loc Cert.InDa1RefIdeal.main_arg9)
          ∧ r.2.mem ((c.tc : Thread Cert.InDa1RefIdeal.nD Cert.InDa1RefIdeal.τ).loc Cert.InDa1RefIdeal.main_arg10) = m' ((c.tc : Thread Cert.InDa1RefIdeal.nD Cert.InDa1RefIdeal.τ).loc Cert.InDa1RefIdeal.main_arg10))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_GateDa_GateDaIdeal : Prop :=
  True

def algebraic_GateDaIdeal_GateDaRefIdeal [hGateDaIdeal : Cert.GateDaIdeal.Facts] [hGateDaRefIdeal : Cert.GateDaRefIdeal.Facts] : Prop :=
  ∀ (m : (ℓ : Loc Cert.GateDaIdeal.nD Cert.GateDaIdeal.τ Cert.GateDaIdeal.sig) → Buf (Elt Ideal) ℓ) (g : Dev Cert.GateDaIdeal.nD → PrngReg)
    (m' : (ℓ : Loc Cert.GateDaRefIdeal.nD Cert.GateDaRefIdeal.τ Cert.GateDaRefIdeal.sig) → Buf (Elt Ideal) ℓ) (g' : Dev Cert.GateDaRefIdeal.nD → PrngReg), Pre_GateDaIdeal m →
    (∀ c : Dev Cert.GateDaIdeal.nD,
      m' ((c.tc : Thread Cert.GateDaRefIdeal.nD Cert.GateDaRefIdeal.τ).loc Cert.GateDaRefIdeal.main_arg0) = m ((c.tc : Thread Cert.GateDaIdeal.nD Cert.GateDaIdeal.τ).loc Cert.GateDaIdeal.main_arg0)
      ∧ m' ((c.tc : Thread Cert.GateDaRefIdeal.nD Cert.GateDaRefIdeal.τ).loc Cert.GateDaRefIdeal.main_arg1) = m ((c.tc : Thread Cert.GateDaIdeal.nD Cert.GateDaIdeal.τ).loc Cert.GateDaIdeal.main_arg1)) →
    ∃ (v0 : (c : Dev Cert.GateDaIdeal.nD) → Buf (Elt Ideal) ((c.tc : Thread Cert.GateDaIdeal.nD Cert.GateDaIdeal.τ).loc Cert.GateDaIdeal.main_v0)),
      θ_run (Cert.GateDaIdeal.defs (F := Ideal)) (onTc (τ := Cert.GateDaIdeal.τ) (Cert.GateDaIdeal.main (F := Ideal))) ⟨m, fun _ => 0, g⟩ (fun r => ∀ c : Dev Cert.GateDaIdeal.nD,
          r.2.mem ((c.tc : Thread Cert.GateDaIdeal.nD Cert.GateDaIdeal.τ).loc Cert.GateDaIdeal.main_v0) = v0 c
          ∧ r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
          ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1))
      ∧ θ_run (Cert.GateDaRefIdeal.defs (F := Ideal)) (onTc (τ := Cert.GateDaRefIdeal.τ) (Cert.GateDaRefIdeal.main (F := Ideal))) ⟨m', fun _ => 0, g'⟩ (fun r => ∀ c : Dev Cert.GateDaRefIdeal.nD,
          r.2.mem ((c.tc : Thread Cert.GateDaRefIdeal.nD Cert.GateDaRefIdeal.τ).loc Cert.GateDaRefIdeal.main_v5) = v0 c
          ∧ r.2.mem ((c.tc : Thread Cert.GateDaRefIdeal.nD Cert.GateDaRefIdeal.τ).loc Cert.GateDaRefIdeal.main_arg0) = m' ((c.tc : Thread Cert.GateDaRefIdeal.nD Cert.GateDaRefIdeal.τ).loc Cert.GateDaRefIdeal.main_arg0)
          ∧ r.2.mem ((c.tc : Thread Cert.GateDaRefIdeal.nD Cert.GateDaRefIdeal.τ).loc Cert.GateDaRefIdeal.main_arg1) = m' ((c.tc : Thread Cert.GateDaRefIdeal.nD Cert.GateDaRefIdeal.τ).loc Cert.GateDaRefIdeal.main_arg1))

def preserves_UpDa_UpDaIdeal : Prop :=
  True

def algebraic_UpDaIdeal_UpDaRefIdeal [hUpDaIdeal : Cert.UpDaIdeal.Facts] [hUpDaRefIdeal : Cert.UpDaRefIdeal.Facts] : Prop :=
  ∀ (m : (ℓ : Loc Cert.UpDaIdeal.nD Cert.UpDaIdeal.τ Cert.UpDaIdeal.sig) → Buf (Elt Ideal) ℓ) (g : Dev Cert.UpDaIdeal.nD → PrngReg)
    (m' : (ℓ : Loc Cert.UpDaRefIdeal.nD Cert.UpDaRefIdeal.τ Cert.UpDaRefIdeal.sig) → Buf (Elt Ideal) ℓ) (g' : Dev Cert.UpDaRefIdeal.nD → PrngReg), Pre_UpDaIdeal m →
    (∀ c : Dev Cert.UpDaIdeal.nD,
      m' ((c.tc : Thread Cert.UpDaRefIdeal.nD Cert.UpDaRefIdeal.τ).loc Cert.UpDaRefIdeal.main_arg0) = m ((c.tc : Thread Cert.UpDaIdeal.nD Cert.UpDaIdeal.τ).loc Cert.UpDaIdeal.main_arg0)
      ∧ m' ((c.tc : Thread Cert.UpDaRefIdeal.nD Cert.UpDaRefIdeal.τ).loc Cert.UpDaRefIdeal.main_arg1) = m ((c.tc : Thread Cert.UpDaIdeal.nD Cert.UpDaIdeal.τ).loc Cert.UpDaIdeal.main_arg1)
      ∧ m' ((c.tc : Thread Cert.UpDaRefIdeal.nD Cert.UpDaRefIdeal.τ).loc Cert.UpDaRefIdeal.main_arg2) = m ((c.tc : Thread Cert.UpDaIdeal.nD Cert.UpDaIdeal.τ).loc Cert.UpDaIdeal.main_arg2)) →
    ∃ (v0 : (c : Dev Cert.UpDaIdeal.nD) → Buf (Elt Ideal) ((c.tc : Thread Cert.UpDaIdeal.nD Cert.UpDaIdeal.τ).loc Cert.UpDaIdeal.main_v0)),
      θ_run (Cert.UpDaIdeal.defs (F := Ideal)) (onTc (τ := Cert.UpDaIdeal.τ) (Cert.UpDaIdeal.main (F := Ideal))) ⟨m, fun _ => 0, g⟩ (fun r => ∀ c : Dev Cert.UpDaIdeal.nD,
          r.2.mem ((c.tc : Thread Cert.UpDaIdeal.nD Cert.UpDaIdeal.τ).loc Cert.UpDaIdeal.main_v0) = v0 c
          ∧ r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
          ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1)
          ∧ r.2.mem ((c.tc : Thread Cert.UpDaIdeal.nD Cert.UpDaIdeal.τ).loc Cert.UpDaIdeal.main_arg2) = m ((c.tc : Thread Cert.UpDaIdeal.nD Cert.UpDaIdeal.τ).loc Cert.UpDaIdeal.main_arg2))
      ∧ θ_run (Cert.UpDaRefIdeal.defs (F := Ideal)) (onTc (τ := Cert.UpDaRefIdeal.τ) (Cert.UpDaRefIdeal.main (F := Ideal))) ⟨m', fun _ => 0, g'⟩ (fun r => ∀ c : Dev Cert.UpDaRefIdeal.nD,
          r.2.mem ((c.tc : Thread Cert.UpDaRefIdeal.nD Cert.UpDaRefIdeal.τ).loc Cert.UpDaRefIdeal.main_v6) = v0 c
          ∧ r.2.mem ((c.tc : Thread Cert.UpDaRefIdeal.nD Cert.UpDaRefIdeal.τ).loc Cert.UpDaRefIdeal.main_arg0) = m' ((c.tc : Thread Cert.UpDaRefIdeal.nD Cert.UpDaRefIdeal.τ).loc Cert.UpDaRefIdeal.main_arg0)
          ∧ r.2.mem ((c.tc : Thread Cert.UpDaRefIdeal.nD Cert.UpDaRefIdeal.τ).loc Cert.UpDaRefIdeal.main_arg1) = m' ((c.tc : Thread Cert.UpDaRefIdeal.nD Cert.UpDaRefIdeal.τ).loc Cert.UpDaRefIdeal.main_arg1)
          ∧ r.2.mem ((c.tc : Thread Cert.UpDaRefIdeal.nD Cert.UpDaRefIdeal.τ).loc Cert.UpDaRefIdeal.main_arg2) = m' ((c.tc : Thread Cert.UpDaRefIdeal.nD Cert.UpDaRefIdeal.τ).loc Cert.UpDaRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ProjDwF_ProjDwFIdeal : Prop :=
  True

def algebraic_ProjDwFIdeal_ProjDwFRefIdeal [hProjDwFIdeal : Cert.ProjDwFIdeal.Facts] [hProjDwFRefIdeal : Cert.ProjDwFRefIdeal.Facts] : Prop :=
  ∀ (m : (ℓ : Loc Cert.ProjDwFIdeal.nD Cert.ProjDwFIdeal.τ Cert.ProjDwFIdeal.sig) → Buf (Elt Ideal) ℓ) (g : Dev Cert.ProjDwFIdeal.nD → PrngReg)
    (m' : (ℓ : Loc Cert.ProjDwFRefIdeal.nD Cert.ProjDwFRefIdeal.τ Cert.ProjDwFRefIdeal.sig) → Buf (Elt Ideal) ℓ) (g' : Dev Cert.ProjDwFRefIdeal.nD → PrngReg), Pre_ProjDwFIdeal m →
    (∀ c : Dev Cert.ProjDwFIdeal.nD,
      m' ((c.tc : Thread Cert.ProjDwFRefIdeal.nD Cert.ProjDwFRefIdeal.τ).loc Cert.ProjDwFRefIdeal.main_arg0) = m ((c.tc : Thread Cert.ProjDwFIdeal.nD Cert.ProjDwFIdeal.τ).loc Cert.ProjDwFIdeal.main_arg0)
      ∧ m' ((c.tc : Thread Cert.ProjDwFRefIdeal.nD Cert.ProjDwFRefIdeal.τ).loc Cert.ProjDwFRefIdeal.main_arg1) = m ((c.tc : Thread Cert.ProjDwFIdeal.nD Cert.ProjDwFIdeal.τ).loc Cert.ProjDwFIdeal.main_arg1)) →
    ∃ (v0 : (c : Dev Cert.ProjDwFIdeal.nD) → Buf (Elt Ideal) ((c.tc : Thread Cert.ProjDwFIdeal.nD Cert.ProjDwFIdeal.τ).loc Cert.ProjDwFIdeal.main_v0)),
      θ_run (Cert.ProjDwFIdeal.defs (F := Ideal)) (onTc (τ := Cert.ProjDwFIdeal.τ) (Cert.ProjDwFIdeal.main (F := Ideal))) ⟨m, fun _ => 0, g⟩ (fun r => ∀ c : Dev Cert.ProjDwFIdeal.nD,
          r.2.mem ((c.tc : Thread Cert.ProjDwFIdeal.nD Cert.ProjDwFIdeal.τ).loc Cert.ProjDwFIdeal.main_v0) = v0 c
          ∧ r.2.mem ((c.tc : Thread Cert.ProjDwFIdeal.nD Cert.ProjDwFIdeal.τ).loc Cert.ProjDwFIdeal.main_arg0) = m ((c.tc : Thread Cert.ProjDwFIdeal.nD Cert.ProjDwFIdeal.τ).loc Cert.ProjDwFIdeal.main_arg0)
          ∧ r.2.mem ((c.tc : Thread Cert.ProjDwFIdeal.nD Cert.ProjDwFIdeal.τ).loc Cert.ProjDwFIdeal.main_arg1) = m ((c.tc : Thread Cert.ProjDwFIdeal.nD Cert.ProjDwFIdeal.τ).loc Cert.ProjDwFIdeal.main_arg1))
      ∧ θ_run (Cert.ProjDwFRefIdeal.defs (F := Ideal)) (onTc (τ := Cert.ProjDwFRefIdeal.τ) (Cert.ProjDwFRefIdeal.main (F := Ideal))) ⟨m', fun _ => 0, g'⟩ (fun r => ∀ c : Dev Cert.ProjDwFRefIdeal.nD,
          r.2.mem ((c.tc : Thread Cert.ProjDwFRefIdeal.nD Cert.ProjDwFRefIdeal.τ).loc Cert.ProjDwFRefIdeal.main_v5) = v0 c
          ∧ r.2.mem ((c.tc : Thread Cert.ProjDwFRefIdeal.nD Cert.ProjDwFRefIdeal.τ).loc Cert.ProjDwFRefIdeal.main_arg0) = m' ((c.tc : Thread Cert.ProjDwFRefIdeal.nD Cert.ProjDwFRefIdeal.τ).loc Cert.ProjDwFRefIdeal.main_arg0)
          ∧ r.2.mem ((c.tc : Thread Cert.ProjDwFRefIdeal.nD Cert.ProjDwFRefIdeal.τ).loc Cert.ProjDwFRefIdeal.main_arg1) = m' ((c.tc : Thread Cert.ProjDwFRefIdeal.nD Cert.ProjDwFRefIdeal.τ).loc Cert.ProjDwFRefIdeal.main_arg1))

def preserves_InDw1536_InDw1536Ideal : Prop :=
  True

def algebraic_InDw1536Ideal_InDw1536RefIdeal [hInDw1536Ideal : Cert.InDw1536Ideal.Facts] [hInDw1536RefIdeal : Cert.InDw1536RefIdeal.Facts] : Prop :=
  ∀ (m : (ℓ : Loc Cert.InDw1536Ideal.nD Cert.InDw1536Ideal.τ Cert.InDw1536Ideal.sig) → Buf (Elt Ideal) ℓ) (g : Dev Cert.InDw1536Ideal.nD → PrngReg)
    (m' : (ℓ : Loc Cert.InDw1536RefIdeal.nD Cert.InDw1536RefIdeal.τ Cert.InDw1536RefIdeal.sig) → Buf (Elt Ideal) ℓ) (g' : Dev Cert.InDw1536RefIdeal.nD → PrngReg), Pre_InDw1536Ideal m →
    (∀ c : Dev Cert.InDw1536Ideal.nD,
      m' ((c.tc : Thread Cert.InDw1536RefIdeal.nD Cert.InDw1536RefIdeal.τ).loc Cert.InDw1536RefIdeal.main_arg0) = m ((c.tc : Thread Cert.InDw1536Ideal.nD Cert.InDw1536Ideal.τ).loc Cert.InDw1536Ideal.main_arg0)
      ∧ m' ((c.tc : Thread Cert.InDw1536RefIdeal.nD Cert.InDw1536RefIdeal.τ).loc Cert.InDw1536RefIdeal.main_arg1) = m ((c.tc : Thread Cert.InDw1536Ideal.nD Cert.InDw1536Ideal.τ).loc Cert.InDw1536Ideal.main_arg1)) →
    ∃ (v0 : (c : Dev Cert.InDw1536Ideal.nD) → Buf (Elt Ideal) ((c.tc : Thread Cert.InDw1536Ideal.nD Cert.InDw1536Ideal.τ).loc Cert.InDw1536Ideal.main_v0)),
      θ_run (Cert.InDw1536Ideal.defs (F := Ideal)) (onTc (τ := Cert.InDw1536Ideal.τ) (Cert.InDw1536Ideal.main (F := Ideal))) ⟨m, fun _ => 0, g⟩ (fun r => ∀ c : Dev Cert.InDw1536Ideal.nD,
          r.2.mem ((c.tc : Thread Cert.InDw1536Ideal.nD Cert.InDw1536Ideal.τ).loc Cert.InDw1536Ideal.main_v0) = v0 c
          ∧ r.2.mem ((c.tc : Thread Cert.InDw1536Ideal.nD Cert.InDw1536Ideal.τ).loc Cert.InDw1536Ideal.main_arg0) = m ((c.tc : Thread Cert.InDw1536Ideal.nD Cert.InDw1536Ideal.τ).loc Cert.InDw1536Ideal.main_arg0)
          ∧ r.2.mem ((c.tc : Thread Cert.InDw1536Ideal.nD Cert.InDw1536Ideal.τ).loc Cert.InDw1536Ideal.main_arg1) = m ((c.tc : Thread Cert.InDw1536Ideal.nD Cert.InDw1536Ideal.τ).loc Cert.InDw1536Ideal.main_arg1))
      ∧ θ_run (Cert.InDw1536RefIdeal.defs (F := Ideal)) (onTc (τ := Cert.InDw1536RefIdeal.τ) (Cert.InDw1536RefIdeal.main (F := Ideal))) ⟨m', fun _ => 0, g'⟩ (fun r => ∀ c : Dev Cert.InDw1536RefIdeal.nD,
          r.2.mem ((c.tc : Thread Cert.InDw1536RefIdeal.nD Cert.InDw1536RefIdeal.τ).loc Cert.InDw1536RefIdeal.main_v6) = v0 c
          ∧ r.2.mem ((c.tc : Thread Cert.InDw1536RefIdeal.nD Cert.InDw1536RefIdeal.τ).loc Cert.InDw1536RefIdeal.main_arg0) = m' ((c.tc : Thread Cert.InDw1536RefIdeal.nD Cert.InDw1536RefIdeal.τ).loc Cert.InDw1536RefIdeal.main_arg0)
          ∧ r.2.mem ((c.tc : Thread Cert.InDw1536RefIdeal.nD Cert.InDw1536RefIdeal.τ).loc Cert.InDw1536RefIdeal.main_arg1) = m' ((c.tc : Thread Cert.InDw1536RefIdeal.nD Cert.InDw1536RefIdeal.τ).loc Cert.InDw1536RefIdeal.main_arg1))

def preserves_InDw384_InDw384Ideal : Prop :=
  True

def algebraic_InDw384Ideal_InDw384RefIdeal [hInDw384Ideal : Cert.InDw384Ideal.Facts] [hInDw384RefIdeal : Cert.InDw384RefIdeal.Facts] : Prop :=
  ∀ (m : (ℓ : Loc Cert.InDw384Ideal.nD Cert.InDw384Ideal.τ Cert.InDw384Ideal.sig) → Buf (Elt Ideal) ℓ) (g : Dev Cert.InDw384Ideal.nD → PrngReg)
    (m' : (ℓ : Loc Cert.InDw384RefIdeal.nD Cert.InDw384RefIdeal.τ Cert.InDw384RefIdeal.sig) → Buf (Elt Ideal) ℓ) (g' : Dev Cert.InDw384RefIdeal.nD → PrngReg), Pre_InDw384Ideal m →
    (∀ c : Dev Cert.InDw384Ideal.nD,
      m' ((c.tc : Thread Cert.InDw384RefIdeal.nD Cert.InDw384RefIdeal.τ).loc Cert.InDw384RefIdeal.main_arg0) = m ((c.tc : Thread Cert.InDw384Ideal.nD Cert.InDw384Ideal.τ).loc Cert.InDw384Ideal.main_arg0)
      ∧ m' ((c.tc : Thread Cert.InDw384RefIdeal.nD Cert.InDw384RefIdeal.τ).loc Cert.InDw384RefIdeal.main_arg1) = m ((c.tc : Thread Cert.InDw384Ideal.nD Cert.InDw384Ideal.τ).loc Cert.InDw384Ideal.main_arg1)) →
    ∃ (v0 : (c : Dev Cert.InDw384Ideal.nD) → Buf (Elt Ideal) ((c.tc : Thread Cert.InDw384Ideal.nD Cert.InDw384Ideal.τ).loc Cert.InDw384Ideal.main_v0)),
      θ_run (Cert.InDw384Ideal.defs (F := Ideal)) (onTc (τ := Cert.InDw384Ideal.τ) (Cert.InDw384Ideal.main (F := Ideal))) ⟨m, fun _ => 0, g⟩ (fun r => ∀ c : Dev Cert.InDw384Ideal.nD,
          r.2.mem ((c.tc : Thread Cert.InDw384Ideal.nD Cert.InDw384Ideal.τ).loc Cert.InDw384Ideal.main_v0) = v0 c
          ∧ r.2.mem ((c.tc : Thread Cert.InDw384Ideal.nD Cert.InDw384Ideal.τ).loc Cert.InDw384Ideal.main_arg0) = m ((c.tc : Thread Cert.InDw384Ideal.nD Cert.InDw384Ideal.τ).loc Cert.InDw384Ideal.main_arg0)
          ∧ r.2.mem ((c.tc : Thread Cert.InDw384Ideal.nD Cert.InDw384Ideal.τ).loc Cert.InDw384Ideal.main_arg1) = m ((c.tc : Thread Cert.InDw384Ideal.nD Cert.InDw384Ideal.τ).loc Cert.InDw384Ideal.main_arg1))
      ∧ θ_run (Cert.InDw384RefIdeal.defs (F := Ideal)) (onTc (τ := Cert.InDw384RefIdeal.τ) (Cert.InDw384RefIdeal.main (F := Ideal))) ⟨m', fun _ => 0, g'⟩ (fun r => ∀ c : Dev Cert.InDw384RefIdeal.nD,
          r.2.mem ((c.tc : Thread Cert.InDw384RefIdeal.nD Cert.InDw384RefIdeal.τ).loc Cert.InDw384RefIdeal.main_v6) = v0 c
          ∧ r.2.mem ((c.tc : Thread Cert.InDw384RefIdeal.nD Cert.InDw384RefIdeal.τ).loc Cert.InDw384RefIdeal.main_arg0) = m' ((c.tc : Thread Cert.InDw384RefIdeal.nD Cert.InDw384RefIdeal.τ).loc Cert.InDw384RefIdeal.main_arg0)
          ∧ r.2.mem ((c.tc : Thread Cert.InDw384RefIdeal.nD Cert.InDw384RefIdeal.τ).loc Cert.InDw384RefIdeal.main_arg1) = m' ((c.tc : Thread Cert.InDw384RefIdeal.nD Cert.InDw384RefIdeal.τ).loc Cert.InDw384RefIdeal.main_arg1))

def preserves_InDw256_InDw256Ideal : Prop :=
  True

def algebraic_InDw256Ideal_InDw256RefIdeal [hInDw256Ideal : Cert.InDw256Ideal.Facts] [hInDw256RefIdeal : Cert.InDw256RefIdeal.Facts] : Prop :=
  ∀ (m : (ℓ : Loc Cert.InDw256Ideal.nD Cert.InDw256Ideal.τ Cert.InDw256Ideal.sig) → Buf (Elt Ideal) ℓ) (g : Dev Cert.InDw256Ideal.nD → PrngReg)
    (m' : (ℓ : Loc Cert.InDw256RefIdeal.nD Cert.InDw256RefIdeal.τ Cert.InDw256RefIdeal.sig) → Buf (Elt Ideal) ℓ) (g' : Dev Cert.InDw256RefIdeal.nD → PrngReg), Pre_InDw256Ideal m →
    (∀ c : Dev Cert.InDw256Ideal.nD,
      m' ((c.tc : Thread Cert.InDw256RefIdeal.nD Cert.InDw256RefIdeal.τ).loc Cert.InDw256RefIdeal.main_arg0) = m ((c.tc : Thread Cert.InDw256Ideal.nD Cert.InDw256Ideal.τ).loc Cert.InDw256Ideal.main_arg0)
      ∧ m' ((c.tc : Thread Cert.InDw256RefIdeal.nD Cert.InDw256RefIdeal.τ).loc Cert.InDw256RefIdeal.main_arg1) = m ((c.tc : Thread Cert.InDw256Ideal.nD Cert.InDw256Ideal.τ).loc Cert.InDw256Ideal.main_arg1)) →
    ∃ (v0 : (c : Dev Cert.InDw256Ideal.nD) → Buf (Elt Ideal) ((c.tc : Thread Cert.InDw256Ideal.nD Cert.InDw256Ideal.τ).loc Cert.InDw256Ideal.main_v0)),
      θ_run (Cert.InDw256Ideal.defs (F := Ideal)) (onTc (τ := Cert.InDw256Ideal.τ) (Cert.InDw256Ideal.main (F := Ideal))) ⟨m, fun _ => 0, g⟩ (fun r => ∀ c : Dev Cert.InDw256Ideal.nD,
          r.2.mem ((c.tc : Thread Cert.InDw256Ideal.nD Cert.InDw256Ideal.τ).loc Cert.InDw256Ideal.main_v0) = v0 c
          ∧ r.2.mem ((c.tc : Thread Cert.InDw256Ideal.nD Cert.InDw256Ideal.τ).loc Cert.InDw256Ideal.main_arg0) = m ((c.tc : Thread Cert.InDw256Ideal.nD Cert.InDw256Ideal.τ).loc Cert.InDw256Ideal.main_arg0)
          ∧ r.2.mem ((c.tc : Thread Cert.InDw256Ideal.nD Cert.InDw256Ideal.τ).loc Cert.InDw256Ideal.main_arg1) = m ((c.tc : Thread Cert.InDw256Ideal.nD Cert.InDw256Ideal.τ).loc Cert.InDw256Ideal.main_arg1))
      ∧ θ_run (Cert.InDw256RefIdeal.defs (F := Ideal)) (onTc (τ := Cert.InDw256RefIdeal.τ) (Cert.InDw256RefIdeal.main (F := Ideal))) ⟨m', fun _ => 0, g'⟩ (fun r => ∀ c : Dev Cert.InDw256RefIdeal.nD,
          r.2.mem ((c.tc : Thread Cert.InDw256RefIdeal.nD Cert.InDw256RefIdeal.τ).loc Cert.InDw256RefIdeal.main_v6) = v0 c
          ∧ r.2.mem ((c.tc : Thread Cert.InDw256RefIdeal.nD Cert.InDw256RefIdeal.τ).loc Cert.InDw256RefIdeal.main_arg0) = m' ((c.tc : Thread Cert.InDw256RefIdeal.nD Cert.InDw256RefIdeal.τ).loc Cert.InDw256RefIdeal.main_arg0)
          ∧ r.2.mem ((c.tc : Thread Cert.InDw256RefIdeal.nD Cert.InDw256RefIdeal.τ).loc Cert.InDw256RefIdeal.main_arg1) = m' ((c.tc : Thread Cert.InDw256RefIdeal.nD Cert.InDw256RefIdeal.τ).loc Cert.InDw256RefIdeal.main_arg1))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)
      ∧ m' ((c.tc : Thread Cert.UqRefIdeal.nD Cert.UqRefIdeal.τ).loc Cert.UqRefIdeal.main_arg2) = m ((c.tc : Thread Cert.UqIdeal.nD Cert.UqIdeal.τ).loc Cert.UqIdeal.main_arg2)) →
    ∃ (v0 : (c : Dev Cert.UqIdeal.nD) → Buf (Elt Ideal) ((c.tc : Thread Cert.UqIdeal.nD Cert.UqIdeal.τ).loc Cert.UqIdeal.main_v0_0)) (v1 : (c : Dev Cert.UqIdeal.nD) → Buf (Elt Ideal) ((c.tc : Thread Cert.UqIdeal.nD Cert.UqIdeal.τ).loc Cert.UqIdeal.main_v0_1)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0_0) = v0 c
          ∧ r.2.mem ((c.tc : Thread Cert.UqIdeal.nD Cert.UqIdeal.τ).loc Cert.UqIdeal.main_v0_1) = v1 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1)
          ∧ r.2.mem ((c.tc : Thread Cert.UqIdeal.nD Cert.UqIdeal.τ).loc Cert.UqIdeal.main_arg2) = m ((c.tc : Thread Cert.UqIdeal.nD Cert.UqIdeal.τ).loc Cert.UqIdeal.main_arg2))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v3) = v0 c
          ∧ r.2.mem ((c.tc : Thread Cert.UqRefIdeal.nD Cert.UqRefIdeal.τ).loc Cert.UqRefIdeal.main_v7) = v1 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1)
          ∧ r.2.mem ((c.tc : Thread Cert.UqRefIdeal.nD Cert.UqRefIdeal.τ).loc Cert.UqRefIdeal.main_arg2) = m' ((c.tc : Thread Cert.UqRefIdeal.nD Cert.UqRefIdeal.τ).loc Cert.UqRefIdeal.main_arg2))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)
      ∧ m' ((c.tc : Thread Cert.UkvRefIdeal.nD Cert.UkvRefIdeal.τ).loc Cert.UkvRefIdeal.main_arg2) = m ((c.tc : Thread Cert.UkvIdeal.nD Cert.UkvIdeal.τ).loc Cert.UkvIdeal.main_arg2)) →
    ∃ (v0 : (c : Dev Cert.UkvIdeal.nD) → Buf (Elt Ideal) ((c.tc : Thread Cert.UkvIdeal.nD Cert.UkvIdeal.τ).loc Cert.UkvIdeal.main_v0_0)) (v1 : (c : Dev Cert.UkvIdeal.nD) → Buf (Elt Ideal) ((c.tc : Thread Cert.UkvIdeal.nD Cert.UkvIdeal.τ).loc Cert.UkvIdeal.main_v0_1)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0_0) = v0 c
          ∧ r.2.mem ((c.tc : Thread Cert.UkvIdeal.nD Cert.UkvIdeal.τ).loc Cert.UkvIdeal.main_v0_1) = v1 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1)
          ∧ r.2.mem ((c.tc : Thread Cert.UkvIdeal.nD Cert.UkvIdeal.τ).loc Cert.UkvIdeal.main_arg2) = m ((c.tc : Thread Cert.UkvIdeal.nD Cert.UkvIdeal.τ).loc Cert.UkvIdeal.main_arg2))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v3) = v0 c
          ∧ r.2.mem ((c.tc : Thread Cert.UkvRefIdeal.nD Cert.UkvRefIdeal.τ).loc Cert.UkvRefIdeal.main_v7) = v1 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1)
          ∧ r.2.mem ((c.tc : Thread Cert.UkvRefIdeal.nD Cert.UkvRefIdeal.τ).loc Cert.UkvRefIdeal.main_arg2) = m' ((c.tc : Thread Cert.UkvRefIdeal.nD Cert.UkvRefIdeal.τ).loc Cert.UkvRefIdeal.main_arg2))

def preserves_UqDa_UqDaIdeal : Prop :=
  True

def algebraic_UqDaIdeal_UqDaRefIdeal [hUqDaIdeal : Cert.UqDaIdeal.Facts] [hUqDaRefIdeal : Cert.UqDaRefIdeal.Facts] : Prop :=
  ∀ (m : (ℓ : Loc Cert.UqDaIdeal.nD Cert.UqDaIdeal.τ Cert.UqDaIdeal.sig) → Buf (Elt Ideal) ℓ) (g : Dev Cert.UqDaIdeal.nD → PrngReg)
    (m' : (ℓ : Loc Cert.UqDaRefIdeal.nD Cert.UqDaRefIdeal.τ Cert.UqDaRefIdeal.sig) → Buf (Elt Ideal) ℓ) (g' : Dev Cert.UqDaRefIdeal.nD → PrngReg), Pre_UqDaIdeal m →
    (∀ c : Dev Cert.UqDaIdeal.nD,
      m' ((c.tc : Thread Cert.UqDaRefIdeal.nD Cert.UqDaRefIdeal.τ).loc Cert.UqDaRefIdeal.main_arg0) = m ((c.tc : Thread Cert.UqDaIdeal.nD Cert.UqDaIdeal.τ).loc Cert.UqDaIdeal.main_arg0)
      ∧ m' ((c.tc : Thread Cert.UqDaRefIdeal.nD Cert.UqDaRefIdeal.τ).loc Cert.UqDaRefIdeal.main_arg1) = m ((c.tc : Thread Cert.UqDaIdeal.nD Cert.UqDaIdeal.τ).loc Cert.UqDaIdeal.main_arg1)
      ∧ m' ((c.tc : Thread Cert.UqDaRefIdeal.nD Cert.UqDaRefIdeal.τ).loc Cert.UqDaRefIdeal.main_arg2) = m ((c.tc : Thread Cert.UqDaIdeal.nD Cert.UqDaIdeal.τ).loc Cert.UqDaIdeal.main_arg2)
      ∧ m' ((c.tc : Thread Cert.UqDaRefIdeal.nD Cert.UqDaRefIdeal.τ).loc Cert.UqDaRefIdeal.main_arg3) = m ((c.tc : Thread Cert.UqDaIdeal.nD Cert.UqDaIdeal.τ).loc Cert.UqDaIdeal.main_arg3)) →
    ∃ (v0 : (c : Dev Cert.UqDaIdeal.nD) → Buf (Elt Ideal) ((c.tc : Thread Cert.UqDaIdeal.nD Cert.UqDaIdeal.τ).loc Cert.UqDaIdeal.main_v0)),
      θ_run (Cert.UqDaIdeal.defs (F := Ideal)) (onTc (τ := Cert.UqDaIdeal.τ) (Cert.UqDaIdeal.main (F := Ideal))) ⟨m, fun _ => 0, g⟩ (fun r => ∀ c : Dev Cert.UqDaIdeal.nD,
          r.2.mem ((c.tc : Thread Cert.UqDaIdeal.nD Cert.UqDaIdeal.τ).loc Cert.UqDaIdeal.main_v0) = v0 c
          ∧ r.2.mem ((c.tc : Thread Cert.UqDaIdeal.nD Cert.UqDaIdeal.τ).loc Cert.UqDaIdeal.main_arg0) = m ((c.tc : Thread Cert.UqDaIdeal.nD Cert.UqDaIdeal.τ).loc Cert.UqDaIdeal.main_arg0)
          ∧ r.2.mem ((c.tc : Thread Cert.UqDaIdeal.nD Cert.UqDaIdeal.τ).loc Cert.UqDaIdeal.main_arg1) = m ((c.tc : Thread Cert.UqDaIdeal.nD Cert.UqDaIdeal.τ).loc Cert.UqDaIdeal.main_arg1)
          ∧ r.2.mem ((c.tc : Thread Cert.UqDaIdeal.nD Cert.UqDaIdeal.τ).loc Cert.UqDaIdeal.main_arg2) = m ((c.tc : Thread Cert.UqDaIdeal.nD Cert.UqDaIdeal.τ).loc Cert.UqDaIdeal.main_arg2)
          ∧ r.2.mem ((c.tc : Thread Cert.UqDaIdeal.nD Cert.UqDaIdeal.τ).loc Cert.UqDaIdeal.main_arg3) = m ((c.tc : Thread Cert.UqDaIdeal.nD Cert.UqDaIdeal.τ).loc Cert.UqDaIdeal.main_arg3))
      ∧ θ_run (Cert.UqDaRefIdeal.defs (F := Ideal)) (onTc (τ := Cert.UqDaRefIdeal.τ) (Cert.UqDaRefIdeal.main (F := Ideal))) ⟨m', fun _ => 0, g'⟩ (fun r => ∀ c : Dev Cert.UqDaRefIdeal.nD,
          r.2.mem ((c.tc : Thread Cert.UqDaRefIdeal.nD Cert.UqDaRefIdeal.τ).loc Cert.UqDaRefIdeal.main_v12) = v0 c
          ∧ r.2.mem ((c.tc : Thread Cert.UqDaRefIdeal.nD Cert.UqDaRefIdeal.τ).loc Cert.UqDaRefIdeal.main_arg0) = m' ((c.tc : Thread Cert.UqDaRefIdeal.nD Cert.UqDaRefIdeal.τ).loc Cert.UqDaRefIdeal.main_arg0)
          ∧ r.2.mem ((c.tc : Thread Cert.UqDaRefIdeal.nD Cert.UqDaRefIdeal.τ).loc Cert.UqDaRefIdeal.main_arg1) = m' ((c.tc : Thread Cert.UqDaRefIdeal.nD Cert.UqDaRefIdeal.τ).loc Cert.UqDaRefIdeal.main_arg1)
          ∧ r.2.mem ((c.tc : Thread Cert.UqDaRefIdeal.nD Cert.UqDaRefIdeal.τ).loc Cert.UqDaRefIdeal.main_arg2) = m' ((c.tc : Thread Cert.UqDaRefIdeal.nD Cert.UqDaRefIdeal.τ).loc Cert.UqDaRefIdeal.main_arg2)
          ∧ r.2.mem ((c.tc : Thread Cert.UqDaRefIdeal.nD Cert.UqDaRefIdeal.τ).loc Cert.UqDaRefIdeal.main_arg3) = m' ((c.tc : Thread Cert.UqDaRefIdeal.nD Cert.UqDaRefIdeal.τ).loc Cert.UqDaRefIdeal.main_arg3))

def preserves_UkvDa_UkvDaIdeal : Prop :=
  True

def algebraic_UkvDaIdeal_UkvDaRefIdeal [hUkvDaIdeal : Cert.UkvDaIdeal.Facts] [hUkvDaRefIdeal : Cert.UkvDaRefIdeal.Facts] : Prop :=
  ∀ (m : (ℓ : Loc Cert.UkvDaIdeal.nD Cert.UkvDaIdeal.τ Cert.UkvDaIdeal.sig) → Buf (Elt Ideal) ℓ) (g : Dev Cert.UkvDaIdeal.nD → PrngReg)
    (m' : (ℓ : Loc Cert.UkvDaRefIdeal.nD Cert.UkvDaRefIdeal.τ Cert.UkvDaRefIdeal.sig) → Buf (Elt Ideal) ℓ) (g' : Dev Cert.UkvDaRefIdeal.nD → PrngReg), Pre_UkvDaIdeal m →
    (∀ c : Dev Cert.UkvDaIdeal.nD,
      m' ((c.tc : Thread Cert.UkvDaRefIdeal.nD Cert.UkvDaRefIdeal.τ).loc Cert.UkvDaRefIdeal.main_arg0) = m ((c.tc : Thread Cert.UkvDaIdeal.nD Cert.UkvDaIdeal.τ).loc Cert.UkvDaIdeal.main_arg0)
      ∧ m' ((c.tc : Thread Cert.UkvDaRefIdeal.nD Cert.UkvDaRefIdeal.τ).loc Cert.UkvDaRefIdeal.main_arg1) = m ((c.tc : Thread Cert.UkvDaIdeal.nD Cert.UkvDaIdeal.τ).loc Cert.UkvDaIdeal.main_arg1)
      ∧ m' ((c.tc : Thread Cert.UkvDaRefIdeal.nD Cert.UkvDaRefIdeal.τ).loc Cert.UkvDaRefIdeal.main_arg2) = m ((c.tc : Thread Cert.UkvDaIdeal.nD Cert.UkvDaIdeal.τ).loc Cert.UkvDaIdeal.main_arg2)
      ∧ m' ((c.tc : Thread Cert.UkvDaRefIdeal.nD Cert.UkvDaRefIdeal.τ).loc Cert.UkvDaRefIdeal.main_arg3) = m ((c.tc : Thread Cert.UkvDaIdeal.nD Cert.UkvDaIdeal.τ).loc Cert.UkvDaIdeal.main_arg3)) →
    ∃ (v0 : (c : Dev Cert.UkvDaIdeal.nD) → Buf (Elt Ideal) ((c.tc : Thread Cert.UkvDaIdeal.nD Cert.UkvDaIdeal.τ).loc Cert.UkvDaIdeal.main_v0)),
      θ_run (Cert.UkvDaIdeal.defs (F := Ideal)) (onTc (τ := Cert.UkvDaIdeal.τ) (Cert.UkvDaIdeal.main (F := Ideal))) ⟨m, fun _ => 0, g⟩ (fun r => ∀ c : Dev Cert.UkvDaIdeal.nD,
          r.2.mem ((c.tc : Thread Cert.UkvDaIdeal.nD Cert.UkvDaIdeal.τ).loc Cert.UkvDaIdeal.main_v0) = v0 c
          ∧ r.2.mem ((c.tc : Thread Cert.UkvDaIdeal.nD Cert.UkvDaIdeal.τ).loc Cert.UkvDaIdeal.main_arg0) = m ((c.tc : Thread Cert.UkvDaIdeal.nD Cert.UkvDaIdeal.τ).loc Cert.UkvDaIdeal.main_arg0)
          ∧ r.2.mem ((c.tc : Thread Cert.UkvDaIdeal.nD Cert.UkvDaIdeal.τ).loc Cert.UkvDaIdeal.main_arg1) = m ((c.tc : Thread Cert.UkvDaIdeal.nD Cert.UkvDaIdeal.τ).loc Cert.UkvDaIdeal.main_arg1)
          ∧ r.2.mem ((c.tc : Thread Cert.UkvDaIdeal.nD Cert.UkvDaIdeal.τ).loc Cert.UkvDaIdeal.main_arg2) = m ((c.tc : Thread Cert.UkvDaIdeal.nD Cert.UkvDaIdeal.τ).loc Cert.UkvDaIdeal.main_arg2)
          ∧ r.2.mem ((c.tc : Thread Cert.UkvDaIdeal.nD Cert.UkvDaIdeal.τ).loc Cert.UkvDaIdeal.main_arg3) = m ((c.tc : Thread Cert.UkvDaIdeal.nD Cert.UkvDaIdeal.τ).loc Cert.UkvDaIdeal.main_arg3))
      ∧ θ_run (Cert.UkvDaRefIdeal.defs (F := Ideal)) (onTc (τ := Cert.UkvDaRefIdeal.τ) (Cert.UkvDaRefIdeal.main (F := Ideal))) ⟨m', fun _ => 0, g'⟩ (fun r => ∀ c : Dev Cert.UkvDaRefIdeal.nD,
          r.2.mem ((c.tc : Thread Cert.UkvDaRefIdeal.nD Cert.UkvDaRefIdeal.τ).loc Cert.UkvDaRefIdeal.main_v12) = v0 c
          ∧ r.2.mem ((c.tc : Thread Cert.UkvDaRefIdeal.nD Cert.UkvDaRefIdeal.τ).loc Cert.UkvDaRefIdeal.main_arg0) = m' ((c.tc : Thread Cert.UkvDaRefIdeal.nD Cert.UkvDaRefIdeal.τ).loc Cert.UkvDaRefIdeal.main_arg0)
          ∧ r.2.mem ((c.tc : Thread Cert.UkvDaRefIdeal.nD Cert.UkvDaRefIdeal.τ).loc Cert.UkvDaRefIdeal.main_arg1) = m' ((c.tc : Thread Cert.UkvDaRefIdeal.nD Cert.UkvDaRefIdeal.τ).loc Cert.UkvDaRefIdeal.main_arg1)
          ∧ r.2.mem ((c.tc : Thread Cert.UkvDaRefIdeal.nD Cert.UkvDaRefIdeal.τ).loc Cert.UkvDaRefIdeal.main_arg2) = m' ((c.tc : Thread Cert.UkvDaRefIdeal.nD Cert.UkvDaRefIdeal.τ).loc Cert.UkvDaRefIdeal.main_arg2)
          ∧ r.2.mem ((c.tc : Thread Cert.UkvDaRefIdeal.nD Cert.UkvDaRefIdeal.τ).loc Cert.UkvDaRefIdeal.main_arg3) = m' ((c.tc : Thread Cert.UkvDaRefIdeal.nD Cert.UkvDaRefIdeal.τ).loc Cert.UkvDaRefIdeal.main_arg3))

def preserves_UqDw_UqDwIdeal : Prop :=
  True

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v6) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1))

def preserves_UkvDw_UkvDwIdeal : Prop :=
  True

def algebraic_UkvDwIdeal_UkvDwRefIdeal [hUkvDwIdeal : Cert.UkvDwIdeal.Facts] [hUkvDwRefIdeal : Cert.UkvDwRefIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwRefIdeal.nD Cert.UkvDwRefIdeal.τ Cert.UkvDwRefIdeal.sig) → Buf (Elt Ideal) ℓ) (g' : Dev Cert.UkvDwRefIdeal.nD → PrngReg), Pre_UkvDwIdeal m →
    (∀ c : Dev Cert.UkvDwIdeal.nD,
      m' ((c.tc : Thread Cert.UkvDwRefIdeal.nD Cert.UkvDwRefIdeal.τ).loc Cert.UkvDwRefIdeal.main_arg0) = m ((c.tc : Thread Cert.UkvDwIdeal.nD Cert.UkvDwIdeal.τ).loc Cert.UkvDwIdeal.main_arg0)
      ∧ m' ((c.tc : Thread Cert.UkvDwRefIdeal.nD Cert.UkvDwRefIdeal.τ).loc Cert.UkvDwRefIdeal.main_arg1) = m ((c.tc : Thread Cert.UkvDwIdeal.nD Cert.UkvDwIdeal.τ).loc Cert.UkvDwIdeal.main_arg1)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ θ_run (Cert.UkvDwRefIdeal.defs (F := Ideal)) (onTc (τ := Cert.UkvDwRefIdeal.τ) (Cert.UkvDwRefIdeal.main (F := Ideal))) ⟨m', fun _ => 0, g'⟩ (fun r => ∀ c : Dev Cert.UkvDwRefIdeal.nD,
          r.2.mem ((c.tc : Thread Cert.UkvDwRefIdeal.nD Cert.UkvDwRefIdeal.τ).loc Cert.UkvDwRefIdeal.main_v6) = v0 c
          ∧ r.2.mem ((c.tc : Thread Cert.UkvDwRefIdeal.nD Cert.UkvDwRefIdeal.τ).loc Cert.UkvDwRefIdeal.main_arg0) = m' ((c.tc : Thread Cert.UkvDwRefIdeal.nD Cert.UkvDwRefIdeal.τ).loc Cert.UkvDwRefIdeal.main_arg0)
          ∧ r.2.mem ((c.tc : Thread Cert.UkvDwRefIdeal.nD Cert.UkvDwRefIdeal.τ).loc Cert.UkvDwRefIdeal.main_arg1) = m' ((c.tc : Thread Cert.UkvDwRefIdeal.nD Cert.UkvDwRefIdeal.τ).loc Cert.UkvDwRefIdeal.main_arg1))

def preserves_InDw128_InDw128Ideal : Prop :=
  True

def algebraic_InDw128Ideal_InDw128RefIdeal [hInDw128Ideal : Cert.InDw128Ideal.Facts] [hInDw128RefIdeal : Cert.InDw128RefIdeal.Facts] : Prop :=
  ∀ (m : (ℓ : Loc Cert.InDw128Ideal.nD Cert.InDw128Ideal.τ Cert.InDw128Ideal.sig) → Buf (Elt Ideal) ℓ) (g : Dev Cert.InDw128Ideal.nD → PrngReg)
    (m' : (ℓ : Loc Cert.InDw128RefIdeal.nD Cert.InDw128RefIdeal.τ Cert.InDw128RefIdeal.sig) → Buf (Elt Ideal) ℓ) (g' : Dev Cert.InDw128RefIdeal.nD → PrngReg), Pre_InDw128Ideal m →
    (∀ c : Dev Cert.InDw128Ideal.nD,
      m' ((c.tc : Thread Cert.InDw128RefIdeal.nD Cert.InDw128RefIdeal.τ).loc Cert.InDw128RefIdeal.main_arg0) = m ((c.tc : Thread Cert.InDw128Ideal.nD Cert.InDw128Ideal.τ).loc Cert.InDw128Ideal.main_arg0)
      ∧ m' ((c.tc : Thread Cert.InDw128RefIdeal.nD Cert.InDw128RefIdeal.τ).loc Cert.InDw128RefIdeal.main_arg1) = m ((c.tc : Thread Cert.InDw128Ideal.nD Cert.InDw128Ideal.τ).loc Cert.InDw128Ideal.main_arg1)) →
    ∃ (v0 : (c : Dev Cert.InDw128Ideal.nD) → Buf (Elt Ideal) ((c.tc : Thread Cert.InDw128Ideal.nD Cert.InDw128Ideal.τ).loc Cert.InDw128Ideal.main_v0)),
      θ_run (Cert.InDw128Ideal.defs (F := Ideal)) (onTc (τ := Cert.InDw128Ideal.τ) (Cert.InDw128Ideal.main (F := Ideal))) ⟨m, fun _ => 0, g⟩ (fun r => ∀ c : Dev Cert.InDw128Ideal.nD,
          r.2.mem ((c.tc : Thread Cert.InDw128Ideal.nD Cert.InDw128Ideal.τ).loc Cert.InDw128Ideal.main_v0) = v0 c
          ∧ r.2.mem ((c.tc : Thread Cert.InDw128Ideal.nD Cert.InDw128Ideal.τ).loc Cert.InDw128Ideal.main_arg0) = m ((c.tc : Thread Cert.InDw128Ideal.nD Cert.InDw128Ideal.τ).loc Cert.InDw128Ideal.main_arg0)
          ∧ r.2.mem ((c.tc : Thread Cert.InDw128Ideal.nD Cert.InDw128Ideal.τ).loc Cert.InDw128Ideal.main_arg1) = m ((c.tc : Thread Cert.InDw128Ideal.nD Cert.InDw128Ideal.τ).loc Cert.InDw128Ideal.main_arg1))
      ∧ θ_run (Cert.InDw128RefIdeal.defs (F := Ideal)) (onTc (τ := Cert.InDw128RefIdeal.τ) (Cert.InDw128RefIdeal.main (F := Ideal))) ⟨m', fun _ => 0, g'⟩ (fun r => ∀ c : Dev Cert.InDw128RefIdeal.nD,
          r.2.mem ((c.tc : Thread Cert.InDw128RefIdeal.nD Cert.InDw128RefIdeal.τ).loc Cert.InDw128RefIdeal.main_v6) = v0 c
          ∧ r.2.mem ((c.tc : Thread Cert.InDw128RefIdeal.nD Cert.InDw128RefIdeal.τ).loc Cert.InDw128RefIdeal.main_arg0) = m' ((c.tc : Thread Cert.InDw128RefIdeal.nD Cert.InDw128RefIdeal.τ).loc Cert.InDw128RefIdeal.main_arg0)
          ∧ r.2.mem ((c.tc : Thread Cert.InDw128RefIdeal.nD Cert.InDw128RefIdeal.τ).loc Cert.InDw128RefIdeal.main_arg1) = m' ((c.tc : Thread Cert.InDw128RefIdeal.nD Cert.InDw128RefIdeal.τ).loc Cert.InDw128RefIdeal.main_arg1))

def preserves_InDw32_InDw32Ideal : Prop :=
  True

def algebraic_InDw32Ideal_InDw32RefIdeal [hInDw32Ideal : Cert.InDw32Ideal.Facts] [hInDw32RefIdeal : Cert.InDw32RefIdeal.Facts] : Prop :=
  ∀ (m : (ℓ : Loc Cert.InDw32Ideal.nD Cert.InDw32Ideal.τ Cert.InDw32Ideal.sig) → Buf (Elt Ideal) ℓ) (g : Dev Cert.InDw32Ideal.nD → PrngReg)
    (m' : (ℓ : Loc Cert.InDw32RefIdeal.nD Cert.InDw32RefIdeal.τ Cert.InDw32RefIdeal.sig) → Buf (Elt Ideal) ℓ) (g' : Dev Cert.InDw32RefIdeal.nD → PrngReg), Pre_InDw32Ideal m →
    (∀ c : Dev Cert.InDw32Ideal.nD,
      m' ((c.tc : Thread Cert.InDw32RefIdeal.nD Cert.InDw32RefIdeal.τ).loc Cert.InDw32RefIdeal.main_arg0) = m ((c.tc : Thread Cert.InDw32Ideal.nD Cert.InDw32Ideal.τ).loc Cert.InDw32Ideal.main_arg0)
      ∧ m' ((c.tc : Thread Cert.InDw32RefIdeal.nD Cert.InDw32RefIdeal.τ).loc Cert.InDw32RefIdeal.main_arg1) = m ((c.tc : Thread Cert.InDw32Ideal.nD Cert.InDw32Ideal.τ).loc Cert.InDw32Ideal.main_arg1)) →
    ∃ (v0 : (c : Dev Cert.InDw32Ideal.nD) → Buf (Elt Ideal) ((c.tc : Thread Cert.InDw32Ideal.nD Cert.InDw32Ideal.τ).loc Cert.InDw32Ideal.main_v0)),
      θ_run (Cert.InDw32Ideal.defs (F := Ideal)) (onTc (τ := Cert.InDw32Ideal.τ) (Cert.InDw32Ideal.main (F := Ideal))) ⟨m, fun _ => 0, g⟩ (fun r => ∀ c : Dev Cert.InDw32Ideal.nD,
          r.2.mem ((c.tc : Thread Cert.InDw32Ideal.nD Cert.InDw32Ideal.τ).loc Cert.InDw32Ideal.main_v0) = v0 c
          ∧ r.2.mem ((c.tc : Thread Cert.InDw32Ideal.nD Cert.InDw32Ideal.τ).loc Cert.InDw32Ideal.main_arg0) = m ((c.tc : Thread Cert.InDw32Ideal.nD Cert.InDw32Ideal.τ).loc Cert.InDw32Ideal.main_arg0)
          ∧ r.2.mem ((c.tc : Thread Cert.InDw32Ideal.nD Cert.InDw32Ideal.τ).loc Cert.InDw32Ideal.main_arg1) = m ((c.tc : Thread Cert.InDw32Ideal.nD Cert.InDw32Ideal.τ).loc Cert.InDw32Ideal.main_arg1))
      ∧ θ_run (Cert.InDw32RefIdeal.defs (F := Ideal)) (onTc (τ := Cert.InDw32RefIdeal.τ) (Cert.InDw32RefIdeal.main (F := Ideal))) ⟨m', fun _ => 0, g'⟩ (fun r => ∀ c : Dev Cert.InDw32RefIdeal.nD,
          r.2.mem ((c.tc : Thread Cert.InDw32RefIdeal.nD Cert.InDw32RefIdeal.τ).loc Cert.InDw32RefIdeal.main_v6) = v0 c
          ∧ r.2.mem ((c.tc : Thread Cert.InDw32RefIdeal.nD Cert.InDw32RefIdeal.τ).loc Cert.InDw32RefIdeal.main_arg0) = m' ((c.tc : Thread Cert.InDw32RefIdeal.nD Cert.InDw32RefIdeal.τ).loc Cert.InDw32RefIdeal.main_arg0)
          ∧ r.2.mem ((c.tc : Thread Cert.InDw32RefIdeal.nD Cert.InDw32RefIdeal.τ).loc Cert.InDw32RefIdeal.main_arg1) = m' ((c.tc : Thread Cert.InDw32RefIdeal.nD Cert.InDw32RefIdeal.τ).loc Cert.InDw32RefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v1) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_ModDw_ModDwIdeal : Prop :=
  True

def algebraic_ModDwIdeal_ModDwRefIdeal [hModDwIdeal : Cert.ModDwIdeal.Facts] [hModDwRefIdeal : Cert.ModDwRefIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwRefIdeal.nD Cert.ModDwRefIdeal.τ Cert.ModDwRefIdeal.sig) → Buf (Elt Ideal) ℓ) (g' : Dev Cert.ModDwRefIdeal.nD → PrngReg), Pre_ModDwIdeal m →
    (∀ c : Dev Cert.ModDwIdeal.nD,
      m' ((c.tc : Thread Cert.ModDwRefIdeal.nD Cert.ModDwRefIdeal.τ).loc Cert.ModDwRefIdeal.main_arg0) = m ((c.tc : Thread Cert.ModDwIdeal.nD Cert.ModDwIdeal.τ).loc Cert.ModDwIdeal.main_arg0)
      ∧ m' ((c.tc : Thread Cert.ModDwRefIdeal.nD Cert.ModDwRefIdeal.τ).loc Cert.ModDwRefIdeal.main_arg1) = m ((c.tc : Thread Cert.ModDwIdeal.nD Cert.ModDwIdeal.τ).loc Cert.ModDwIdeal.main_arg1)) →
    ∃ (v0 : (c : Dev Cert.ModDwIdeal.nD) → Buf (Elt Ideal) ((c.tc : Thread Cert.ModDwIdeal.nD Cert.ModDwIdeal.τ).loc Cert.ModDwIdeal.main_v0)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v0) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ θ_run (Cert.ModDwRefIdeal.defs (F := Ideal)) (onTc (τ := Cert.ModDwRefIdeal.τ) (Cert.ModDwRefIdeal.main (F := Ideal))) ⟨m', fun _ => 0, g'⟩ (fun r => ∀ c : Dev Cert.ModDwRefIdeal.nD,
          r.2.mem ((c.tc : Thread Cert.ModDwRefIdeal.nD Cert.ModDwRefIdeal.τ).loc Cert.ModDwRefIdeal.main_v3) = v0 c
          ∧ r.2.mem ((c.tc : Thread Cert.ModDwRefIdeal.nD Cert.ModDwRefIdeal.τ).loc Cert.ModDwRefIdeal.main_arg0) = m' ((c.tc : Thread Cert.ModDwRefIdeal.nD Cert.ModDwRefIdeal.τ).loc Cert.ModDwRefIdeal.main_arg0)
          ∧ r.2.mem ((c.tc : Thread Cert.ModDwRefIdeal.nD Cert.ModDwRefIdeal.τ).loc Cert.ModDwRefIdeal.main_arg1) = m' ((c.tc : Thread Cert.ModDwRefIdeal.nD Cert.ModDwRefIdeal.τ).loc Cert.ModDwRefIdeal.main_arg1))

def preserves_ModDa_ModDaIdeal : Prop :=
  True

def algebraic_ModDaIdeal_ModDaRefIdeal [hModDaIdeal : Cert.ModDaIdeal.Facts] [hModDaRefIdeal : Cert.ModDaRefIdeal.Facts] : Prop :=
  ∀ (m : (ℓ : Loc Cert.ModDaIdeal.nD Cert.ModDaIdeal.τ Cert.ModDaIdeal.sig) → Buf (Elt Ideal) ℓ) (g : Dev Cert.ModDaIdeal.nD → PrngReg)
    (m' : (ℓ : Loc Cert.ModDaRefIdeal.nD Cert.ModDaRefIdeal.τ Cert.ModDaRefIdeal.sig) → Buf (Elt Ideal) ℓ) (g' : Dev Cert.ModDaRefIdeal.nD → PrngReg), Pre_ModDaIdeal m →
    (∀ c : Dev Cert.ModDaIdeal.nD,
      m' ((c.tc : Thread Cert.ModDaRefIdeal.nD Cert.ModDaRefIdeal.τ).loc Cert.ModDaRefIdeal.main_arg0) = m ((c.tc : Thread Cert.ModDaIdeal.nD Cert.ModDaIdeal.τ).loc Cert.ModDaIdeal.main_arg0)
      ∧ m' ((c.tc : Thread Cert.ModDaRefIdeal.nD Cert.ModDaRefIdeal.τ).loc Cert.ModDaRefIdeal.main_arg1) = m ((c.tc : Thread Cert.ModDaIdeal.nD Cert.ModDaIdeal.τ).loc Cert.ModDaIdeal.main_arg1)) →
    ∃ (v0 : (c : Dev Cert.ModDaIdeal.nD) → Buf (Elt Ideal) ((c.tc : Thread Cert.ModDaIdeal.nD Cert.ModDaIdeal.τ).loc Cert.ModDaIdeal.main_v0)),
      θ_run (Cert.ModDaIdeal.defs (F := Ideal)) (onTc (τ := Cert.ModDaIdeal.τ) (Cert.ModDaIdeal.main (F := Ideal))) ⟨m, fun _ => 0, g⟩ (fun r => ∀ c : Dev Cert.ModDaIdeal.nD,
          r.2.mem ((c.tc : Thread Cert.ModDaIdeal.nD Cert.ModDaIdeal.τ).loc Cert.ModDaIdeal.main_v0) = v0 c
          ∧ r.2.mem ((c.tc : Thread Cert.ModDaIdeal.nD Cert.ModDaIdeal.τ).loc Cert.ModDaIdeal.main_arg0) = m ((c.tc : Thread Cert.ModDaIdeal.nD Cert.ModDaIdeal.τ).loc Cert.ModDaIdeal.main_arg0)
          ∧ r.2.mem ((c.tc : Thread Cert.ModDaIdeal.nD Cert.ModDaIdeal.τ).loc Cert.ModDaIdeal.main_arg1) = m ((c.tc : Thread Cert.ModDaIdeal.nD Cert.ModDaIdeal.τ).loc Cert.ModDaIdeal.main_arg1))
      ∧ θ_run (Cert.ModDaRefIdeal.defs (F := Ideal)) (onTc (τ := Cert.ModDaRefIdeal.τ) (Cert.ModDaRefIdeal.main (F := Ideal))) ⟨m', fun _ => 0, g'⟩ (fun r => ∀ c : Dev Cert.ModDaRefIdeal.nD,
          r.2.mem ((c.tc : Thread Cert.ModDaRefIdeal.nD Cert.ModDaRefIdeal.τ).loc Cert.ModDaRefIdeal.main_v2) = v0 c
          ∧ r.2.mem ((c.tc : Thread Cert.ModDaRefIdeal.nD Cert.ModDaRefIdeal.τ).loc Cert.ModDaRefIdeal.main_arg0) = m' ((c.tc : Thread Cert.ModDaRefIdeal.nD Cert.ModDaRefIdeal.τ).loc Cert.ModDaRefIdeal.main_arg0)
          ∧ r.2.mem ((c.tc : Thread Cert.ModDaRefIdeal.nD Cert.ModDaRefIdeal.τ).loc Cert.ModDaRefIdeal.main_arg1) = m' ((c.tc : Thread Cert.ModDaRefIdeal.nD Cert.ModDaRefIdeal.τ).loc Cert.ModDaRefIdeal.main_arg1))

def preserves_ModDaAdd_ModDaAddIdeal : Prop :=
  True

def algebraic_ModDaAddIdeal_ModDaAddRefIdeal [hModDaAddIdeal : Cert.ModDaAddIdeal.Facts] [hModDaAddRefIdeal : Cert.ModDaAddRefIdeal.Facts] : Prop :=
  ∀ (m : (ℓ : Loc Cert.ModDaAddIdeal.nD Cert.ModDaAddIdeal.τ Cert.ModDaAddIdeal.sig) → Buf (Elt Ideal) ℓ) (g : Dev Cert.ModDaAddIdeal.nD → PrngReg)
    (m' : (ℓ : Loc Cert.ModDaAddRefIdeal.nD Cert.ModDaAddRefIdeal.τ Cert.ModDaAddRefIdeal.sig) → Buf (Elt Ideal) ℓ) (g' : Dev Cert.ModDaAddRefIdeal.nD → PrngReg), Pre_ModDaAddIdeal m →
    (∀ c : Dev Cert.ModDaAddIdeal.nD,
      m' ((c.tc : Thread Cert.ModDaAddRefIdeal.nD Cert.ModDaAddRefIdeal.τ).loc Cert.ModDaAddRefIdeal.main_arg0) = m ((c.tc : Thread Cert.ModDaAddIdeal.nD Cert.ModDaAddIdeal.τ).loc Cert.ModDaAddIdeal.main_arg0)
      ∧ m' ((c.tc : Thread Cert.ModDaAddRefIdeal.nD Cert.ModDaAddRefIdeal.τ).loc Cert.ModDaAddRefIdeal.main_arg1) = m ((c.tc : Thread Cert.ModDaAddIdeal.nD Cert.ModDaAddIdeal.τ).loc Cert.ModDaAddIdeal.main_arg1)
      ∧ m' ((c.tc : Thread Cert.ModDaAddRefIdeal.nD Cert.ModDaAddRefIdeal.τ).loc Cert.ModDaAddRefIdeal.main_arg2) = m ((c.tc : Thread Cert.ModDaAddIdeal.nD Cert.ModDaAddIdeal.τ).loc Cert.ModDaAddIdeal.main_arg2)) →
    ∃ (v0 : (c : Dev Cert.ModDaAddIdeal.nD) → Buf (Elt Ideal) ((c.tc : Thread Cert.ModDaAddIdeal.nD Cert.ModDaAddIdeal.τ).loc Cert.ModDaAddIdeal.main_v0)),
      θ_run (Cert.ModDaAddIdeal.defs (F := Ideal)) (onTc (τ := Cert.ModDaAddIdeal.τ) (Cert.ModDaAddIdeal.main (F := Ideal))) ⟨m, fun _ => 0, g⟩ (fun r => ∀ c : Dev Cert.ModDaAddIdeal.nD,
          r.2.mem ((c.tc : Thread Cert.ModDaAddIdeal.nD Cert.ModDaAddIdeal.τ).loc Cert.ModDaAddIdeal.main_v0) = v0 c
          ∧ r.2.mem ((c.tc : Thread Cert.ModDaAddIdeal.nD Cert.ModDaAddIdeal.τ).loc Cert.ModDaAddIdeal.main_arg0) = m ((c.tc : Thread Cert.ModDaAddIdeal.nD Cert.ModDaAddIdeal.τ).loc Cert.ModDaAddIdeal.main_arg0)
          ∧ r.2.mem ((c.tc : Thread Cert.ModDaAddIdeal.nD Cert.ModDaAddIdeal.τ).loc Cert.ModDaAddIdeal.main_arg1) = m ((c.tc : Thread Cert.ModDaAddIdeal.nD Cert.ModDaAddIdeal.τ).loc Cert.ModDaAddIdeal.main_arg1)
          ∧ r.2.mem ((c.tc : Thread Cert.ModDaAddIdeal.nD Cert.ModDaAddIdeal.τ).loc Cert.ModDaAddIdeal.main_arg2) = m ((c.tc : Thread Cert.ModDaAddIdeal.nD Cert.ModDaAddIdeal.τ).loc Cert.ModDaAddIdeal.main_arg2))
      ∧ θ_run (Cert.ModDaAddRefIdeal.defs (F := Ideal)) (onTc (τ := Cert.ModDaAddRefIdeal.τ) (Cert.ModDaAddRefIdeal.main (F := Ideal))) ⟨m', fun _ => 0, g'⟩ (fun r => ∀ c : Dev Cert.ModDaAddRefIdeal.nD,
          r.2.mem ((c.tc : Thread Cert.ModDaAddRefIdeal.nD Cert.ModDaAddRefIdeal.τ).loc Cert.ModDaAddRefIdeal.main_v3) = v0 c
          ∧ r.2.mem ((c.tc : Thread Cert.ModDaAddRefIdeal.nD Cert.ModDaAddRefIdeal.τ).loc Cert.ModDaAddRefIdeal.main_arg0) = m' ((c.tc : Thread Cert.ModDaAddRefIdeal.nD Cert.ModDaAddRefIdeal.τ).loc Cert.ModDaAddRefIdeal.main_arg0)
          ∧ r.2.mem ((c.tc : Thread Cert.ModDaAddRefIdeal.nD Cert.ModDaAddRefIdeal.τ).loc Cert.ModDaAddRefIdeal.main_arg1) = m' ((c.tc : Thread Cert.ModDaAddRefIdeal.nD Cert.ModDaAddRefIdeal.τ).loc Cert.ModDaAddRefIdeal.main_arg1)
          ∧ r.2.mem ((c.tc : Thread Cert.ModDaAddRefIdeal.nD Cert.ModDaAddRefIdeal.τ).loc Cert.ModDaAddRefIdeal.main_arg2) = m' ((c.tc : Thread Cert.ModDaAddRefIdeal.nD Cert.ModDaAddRefIdeal.τ).loc Cert.ModDaAddRefIdeal.main_arg2))

def Claim : Prop :=
  ∃ (hBwd : Cert.Bwd.Facts) (hBwdIdeal : Cert.BwdIdeal.Facts) (hBwdRefIdeal : Cert.BwdRefIdeal.Facts) (hFwd : Cert.Fwd.Facts) (hFwdIdeal : Cert.FwdIdeal.Facts) (hFwdRefIdeal : Cert.FwdRefIdeal.Facts) (hUp : Cert.Up.Facts) (hUpIdeal : Cert.UpIdeal.Facts) (hUpRefIdeal : Cert.UpRefIdeal.Facts) (hDownDa : Cert.DownDa.Facts) (hDownDaIdeal : Cert.DownDaIdeal.Facts) (hDownDaRefIdeal : Cert.DownDaRefIdeal.Facts) (hProjDa : Cert.ProjDa.Facts) (hProjDaIdeal : Cert.ProjDaIdeal.Facts) (hProjDaRefIdeal : Cert.ProjDaRefIdeal.Facts) (hProjF : Cert.ProjF.Facts) (hProjFIdeal : Cert.ProjFIdeal.Facts) (hProjFRefIdeal : Cert.ProjFRefIdeal.Facts) (hProjB : Cert.ProjB.Facts) (hProjBIdeal : Cert.ProjBIdeal.Facts) (hProjBRefIdeal : Cert.ProjBRefIdeal.Facts) (hOut : Cert.Out.Facts) (hOutIdeal : Cert.OutIdeal.Facts) (hOutRefIdeal : Cert.OutRefIdeal.Facts) (hIn0 : Cert.In0.Facts) (hIn0Ideal : Cert.In0Ideal.Facts) (hIn0RefIdeal : Cert.In0RefIdeal.Facts) (hIn1 : Cert.In1.Facts) (hIn1Ideal : Cert.In1Ideal.Facts) (hIn1RefIdeal : Cert.In1RefIdeal.Facts) (hInDa0 : Cert.InDa0.Facts) (hInDa0Ideal : Cert.InDa0Ideal.Facts) (hInDa0RefIdeal : Cert.InDa0RefIdeal.Facts) (hInDa1 : Cert.InDa1.Facts) (hInDa1Ideal : Cert.InDa1Ideal.Facts) (hInDa1RefIdeal : Cert.InDa1RefIdeal.Facts) (hDown : Cert.Down.Facts) (hDownIdeal : Cert.DownIdeal.Facts) (hDownRefIdeal : Cert.DownRefIdeal.Facts) (hGateDa : Cert.GateDa.Facts) (hGateDaIdeal : Cert.GateDaIdeal.Facts) (hGateDaRefIdeal : Cert.GateDaRefIdeal.Facts) (hUpDa : Cert.UpDa.Facts) (hUpDaIdeal : Cert.UpDaIdeal.Facts) (hUpDaRefIdeal : Cert.UpDaRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hProjDw : Cert.ProjDw.Facts) (hProjDwIdeal : Cert.ProjDwIdeal.Facts) (hProjDwRefIdeal : Cert.ProjDwRefIdeal.Facts) (hProjDwF : Cert.ProjDwF.Facts) (hProjDwFIdeal : Cert.ProjDwFIdeal.Facts) (hProjDwFRefIdeal : Cert.ProjDwFRefIdeal.Facts) (hInDw1536 : Cert.InDw1536.Facts) (hInDw1536Ideal : Cert.InDw1536Ideal.Facts) (hInDw1536RefIdeal : Cert.InDw1536RefIdeal.Facts) (hInDw384 : Cert.InDw384.Facts) (hInDw384Ideal : Cert.InDw384Ideal.Facts) (hInDw384RefIdeal : Cert.InDw384RefIdeal.Facts) (hInDw256 : Cert.InDw256.Facts) (hInDw256Ideal : Cert.InDw256Ideal.Facts) (hInDw256RefIdeal : Cert.InDw256RefIdeal.Facts) (hUq : Cert.Uq.Facts) (hUqIdeal : Cert.UqIdeal.Facts) (hUqRefIdeal : Cert.UqRefIdeal.Facts) (hUkv : Cert.Ukv.Facts) (hUkvIdeal : Cert.UkvIdeal.Facts) (hUkvRefIdeal : Cert.UkvRefIdeal.Facts) (hUqDa : Cert.UqDa.Facts) (hUqDaIdeal : Cert.UqDaIdeal.Facts) (hUqDaRefIdeal : Cert.UqDaRefIdeal.Facts) (hUkvDa : Cert.UkvDa.Facts) (hUkvDaIdeal : Cert.UkvDaIdeal.Facts) (hUkvDaRefIdeal : Cert.UkvDaRefIdeal.Facts) (hUqDw : Cert.UqDw.Facts) (hUqDwIdeal : Cert.UqDwIdeal.Facts) (hUqDwRefIdeal : Cert.UqDwRefIdeal.Facts) (hUkvDw : Cert.UkvDw.Facts) (hUkvDwIdeal : Cert.UkvDwIdeal.Facts) (hUkvDwRefIdeal : Cert.UkvDwRefIdeal.Facts) (hInDw128 : Cert.InDw128.Facts) (hInDw128Ideal : Cert.InDw128Ideal.Facts) (hInDw128RefIdeal : Cert.InDw128RefIdeal.Facts) (hInDw32 : Cert.InDw32.Facts) (hInDw32Ideal : Cert.InDw32Ideal.Facts) (hInDw32RefIdeal : Cert.InDw32RefIdeal.Facts) (hMod : Cert.Mod.Facts) (hModIdeal : Cert.ModIdeal.Facts) (hModRefIdeal : Cert.ModRefIdeal.Facts) (hModDw : Cert.ModDw.Facts) (hModDwIdeal : Cert.ModDwIdeal.Facts) (hModDwRefIdeal : Cert.ModDwRefIdeal.Facts) (hModDa : Cert.ModDa.Facts) (hModDaIdeal : Cert.ModDaIdeal.Facts) (hModDaRefIdeal : Cert.ModDaRefIdeal.Facts) (hModDaAdd : Cert.ModDaAdd.Facts) (hModDaAddIdeal : Cert.ModDaAddIdeal.Facts) (hModDaAddRefIdeal : Cert.ModDaAddRefIdeal.Facts) (hPre_finite_bwd : Cert.Pre_finite_bwd.Facts) (hPre_finite_fwd : Cert.Pre_finite_fwd.Facts),
    quiescent_Bwd (hBwd := hBwd)
    ∧ quiescent_BwdIdeal (hBwdIdeal := hBwdIdeal)
    ∧ quiescent_BwdIdeal_pre_finite_bwd (hBwdIdeal := hBwdIdeal) (hPre_finite_bwd := hPre_finite_bwd)
    ∧ quiescent_BwdRefIdeal (hBwdRefIdeal := hBwdRefIdeal)
    ∧ quiescent_BwdRefIdeal_pre_finite_bwd (hBwdRefIdeal := hBwdRefIdeal) (hPre_finite_bwd := hPre_finite_bwd)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Up (hUp := hUp)
    ∧ quiescent_UpIdeal (hUpIdeal := hUpIdeal)
    ∧ quiescent_UpRefIdeal (hUpRefIdeal := hUpRefIdeal)
    ∧ quiescent_DownDa (hDownDa := hDownDa)
    ∧ quiescent_DownDaIdeal (hDownDaIdeal := hDownDaIdeal)
    ∧ quiescent_DownDaRefIdeal (hDownDaRefIdeal := hDownDaRefIdeal)
    ∧ quiescent_ProjDa (hProjDa := hProjDa)
    ∧ quiescent_ProjDaIdeal (hProjDaIdeal := hProjDaIdeal)
    ∧ quiescent_ProjDaRefIdeal (hProjDaRefIdeal := hProjDaRefIdeal)
    ∧ quiescent_ProjF (hProjF := hProjF)
    ∧ quiescent_ProjFIdeal (hProjFIdeal := hProjFIdeal)
    ∧ quiescent_ProjFRefIdeal (hProjFRefIdeal := hProjFRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_Out (hOut := hOut)
    ∧ quiescent_OutIdeal (hOutIdeal := hOutIdeal)
    ∧ quiescent_OutRefIdeal (hOutRefIdeal := hOutRefIdeal)
    ∧ quiescent_In0 (hIn0 := hIn0)
    ∧ quiescent_In0Ideal (hIn0Ideal := hIn0Ideal)
    ∧ quiescent_In0RefIdeal (hIn0RefIdeal := hIn0RefIdeal)
    ∧ quiescent_In1 (hIn1 := hIn1)
    ∧ quiescent_In1Ideal (hIn1Ideal := hIn1Ideal)
    ∧ quiescent_In1RefIdeal (hIn1RefIdeal := hIn1RefIdeal)
    ∧ quiescent_InDa0 (hInDa0 := hInDa0)
    ∧ quiescent_InDa0Ideal (hInDa0Ideal := hInDa0Ideal)
    ∧ quiescent_InDa0RefIdeal (hInDa0RefIdeal := hInDa0RefIdeal)
    ∧ quiescent_InDa1 (hInDa1 := hInDa1)
    ∧ quiescent_InDa1Ideal (hInDa1Ideal := hInDa1Ideal)
    ∧ quiescent_InDa1RefIdeal (hInDa1RefIdeal := hInDa1RefIdeal)
    ∧ quiescent_Down (hDown := hDown)
    ∧ quiescent_DownIdeal (hDownIdeal := hDownIdeal)
    ∧ quiescent_DownRefIdeal (hDownRefIdeal := hDownRefIdeal)
    ∧ quiescent_GateDa (hGateDa := hGateDa)
    ∧ quiescent_GateDaIdeal (hGateDaIdeal := hGateDaIdeal)
    ∧ quiescent_GateDaRefIdeal (hGateDaRefIdeal := hGateDaRefIdeal)
    ∧ quiescent_UpDa (hUpDa := hUpDa)
    ∧ quiescent_UpDaIdeal (hUpDaIdeal := hUpDaIdeal)
    ∧ quiescent_UpDaRefIdeal (hUpDaRefIdeal := hUpDaRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDwF (hProjDwF := hProjDwF)
    ∧ quiescent_ProjDwFIdeal (hProjDwFIdeal := hProjDwFIdeal)
    ∧ quiescent_ProjDwFRefIdeal (hProjDwFRefIdeal := hProjDwFRefIdeal)
    ∧ quiescent_InDw1536 (hInDw1536 := hInDw1536)
    ∧ quiescent_InDw1536Ideal (hInDw1536Ideal := hInDw1536Ideal)
    ∧ quiescent_InDw1536RefIdeal (hInDw1536RefIdeal := hInDw1536RefIdeal)
    ∧ quiescent_InDw384 (hInDw384 := hInDw384)
    ∧ quiescent_InDw384Ideal (hInDw384Ideal := hInDw384Ideal)
    ∧ quiescent_InDw384RefIdeal (hInDw384RefIdeal := hInDw384RefIdeal)
    ∧ quiescent_InDw256 (hInDw256 := hInDw256)
    ∧ quiescent_InDw256Ideal (hInDw256Ideal := hInDw256Ideal)
    ∧ quiescent_InDw256RefIdeal (hInDw256RefIdeal := hInDw256RefIdeal)
    ∧ quiescent_Uq (hUq := hUq)
    ∧ quiescent_UqIdeal (hUqIdeal := hUqIdeal)
    ∧ quiescent_UqRefIdeal (hUqRefIdeal := hUqRefIdeal)
    ∧ quiescent_Ukv (hUkv := hUkv)
    ∧ quiescent_UkvIdeal (hUkvIdeal := hUkvIdeal)
    ∧ quiescent_UkvRefIdeal (hUkvRefIdeal := hUkvRefIdeal)
    ∧ quiescent_UqDa (hUqDa := hUqDa)
    ∧ quiescent_UqDaIdeal (hUqDaIdeal := hUqDaIdeal)
    ∧ quiescent_UqDaRefIdeal (hUqDaRefIdeal := hUqDaRefIdeal)
    ∧ quiescent_UkvDa (hUkvDa := hUkvDa)
    ∧ quiescent_UkvDaIdeal (hUkvDaIdeal := hUkvDaIdeal)
    ∧ quiescent_UkvDaRefIdeal (hUkvDaRefIdeal := hUkvDaRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_UkvDw (hUkvDw := hUkvDw)
    ∧ quiescent_UkvDwIdeal (hUkvDwIdeal := hUkvDwIdeal)
    ∧ quiescent_UkvDwRefIdeal (hUkvDwRefIdeal := hUkvDwRefIdeal)
    ∧ quiescent_InDw128 (hInDw128 := hInDw128)
    ∧ quiescent_InDw128Ideal (hInDw128Ideal := hInDw128Ideal)
    ∧ quiescent_InDw128RefIdeal (hInDw128RefIdeal := hInDw128RefIdeal)
    ∧ quiescent_InDw32 (hInDw32 := hInDw32)
    ∧ quiescent_InDw32Ideal (hInDw32Ideal := hInDw32Ideal)
    ∧ quiescent_InDw32RefIdeal (hInDw32RefIdeal := hInDw32RefIdeal)
    ∧ quiescent_Mod (hMod := hMod)
    ∧ quiescent_ModIdeal (hModIdeal := hModIdeal)
    ∧ quiescent_ModRefIdeal (hModRefIdeal := hModRefIdeal)
    ∧ quiescent_ModDw (hModDw := hModDw)
    ∧ quiescent_ModDwIdeal (hModDwIdeal := hModDwIdeal)
    ∧ quiescent_ModDwRefIdeal (hModDwRefIdeal := hModDwRefIdeal)
    ∧ quiescent_ModDa (hModDa := hModDa)
    ∧ quiescent_ModDaIdeal (hModDaIdeal := hModDaIdeal)
    ∧ quiescent_ModDaRefIdeal (hModDaRefIdeal := hModDaRefIdeal)
    ∧ quiescent_ModDaAdd (hModDaAdd := hModDaAdd)
    ∧ quiescent_ModDaAddIdeal (hModDaAddIdeal := hModDaAddIdeal)
    ∧ quiescent_ModDaAddRefIdeal (hModDaAddRefIdeal := hModDaAddRefIdeal)
    ∧ preserves_Bwd_BwdIdeal
    ∧ algebraic_BwdIdeal_BwdRefIdeal_pre_finite_bwd (hBwdIdeal := hBwdIdeal) (hBwdRefIdeal := hBwdRefIdeal) (hPre_finite_bwd := hPre_finite_bwd)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Up_UpIdeal
    ∧ algebraic_UpIdeal_UpRefIdeal (hUpIdeal := hUpIdeal) (hUpRefIdeal := hUpRefIdeal)
    ∧ preserves_DownDa_DownDaIdeal
    ∧ algebraic_DownDaIdeal_DownDaRefIdeal (hDownDaIdeal := hDownDaIdeal) (hDownDaRefIdeal := hDownDaRefIdeal)
    ∧ preserves_ProjDa_ProjDaIdeal
    ∧ algebraic_ProjDaIdeal_ProjDaRefIdeal (hProjDaIdeal := hProjDaIdeal) (hProjDaRefIdeal := hProjDaRefIdeal)
    ∧ preserves_ProjF_ProjFIdeal
    ∧ algebraic_ProjFIdeal_ProjFRefIdeal (hProjFIdeal := hProjFIdeal) (hProjFRefIdeal := hProjFRefIdeal)
    ∧ preserves_ProjB_ProjBIdeal
    ∧ algebraic_ProjBIdeal_ProjBRefIdeal (hProjBIdeal := hProjBIdeal) (hProjBRefIdeal := hProjBRefIdeal)
    ∧ preserves_Out_OutIdeal
    ∧ algebraic_OutIdeal_OutRefIdeal (hOutIdeal := hOutIdeal) (hOutRefIdeal := hOutRefIdeal)
    ∧ preserves_In0_In0Ideal
    ∧ algebraic_In0Ideal_In0RefIdeal (hIn0Ideal := hIn0Ideal) (hIn0RefIdeal := hIn0RefIdeal)
    ∧ preserves_In1_In1Ideal
    ∧ algebraic_In1Ideal_In1RefIdeal (hIn1Ideal := hIn1Ideal) (hIn1RefIdeal := hIn1RefIdeal)
    ∧ preserves_InDa0_InDa0Ideal
    ∧ algebraic_InDa0Ideal_InDa0RefIdeal (hInDa0Ideal := hInDa0Ideal) (hInDa0RefIdeal := hInDa0RefIdeal)
    ∧ preserves_InDa1_InDa1Ideal
    ∧ algebraic_InDa1Ideal_InDa1RefIdeal (hInDa1Ideal := hInDa1Ideal) (hInDa1RefIdeal := hInDa1RefIdeal)
    ∧ preserves_Down_DownIdeal
    ∧ algebraic_DownIdeal_DownRefIdeal (hDownIdeal := hDownIdeal) (hDownRefIdeal := hDownRefIdeal)
    ∧ preserves_GateDa_GateDaIdeal
    ∧ algebraic_GateDaIdeal_GateDaRefIdeal (hGateDaIdeal := hGateDaIdeal) (hGateDaRefIdeal := hGateDaRefIdeal)
    ∧ preserves_UpDa_UpDaIdeal
    ∧ algebraic_UpDaIdeal_UpDaRefIdeal (hUpDaIdeal := hUpDaIdeal) (hUpDaRefIdeal := hUpDaRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_ProjDw_ProjDwIdeal
    ∧ algebraic_ProjDwIdeal_ProjDwRefIdeal (hProjDwIdeal := hProjDwIdeal) (hProjDwRefIdeal := hProjDwRefIdeal)
    ∧ preserves_ProjDwF_ProjDwFIdeal
    ∧ algebraic_ProjDwFIdeal_ProjDwFRefIdeal (hProjDwFIdeal := hProjDwFIdeal) (hProjDwFRefIdeal := hProjDwFRefIdeal)
    ∧ preserves_InDw1536_InDw1536Ideal
    ∧ algebraic_InDw1536Ideal_InDw1536RefIdeal (hInDw1536Ideal := hInDw1536Ideal) (hInDw1536RefIdeal := hInDw1536RefIdeal)
    ∧ preserves_InDw384_InDw384Ideal
    ∧ algebraic_InDw384Ideal_InDw384RefIdeal (hInDw384Ideal := hInDw384Ideal) (hInDw384RefIdeal := hInDw384RefIdeal)
    ∧ preserves_InDw256_InDw256Ideal
    ∧ algebraic_InDw256Ideal_InDw256RefIdeal (hInDw256Ideal := hInDw256Ideal) (hInDw256RefIdeal := hInDw256RefIdeal)
    ∧ preserves_Uq_UqIdeal
    ∧ algebraic_UqIdeal_UqRefIdeal (hUqIdeal := hUqIdeal) (hUqRefIdeal := hUqRefIdeal)
    ∧ preserves_Ukv_UkvIdeal
    ∧ algebraic_UkvIdeal_UkvRefIdeal (hUkvIdeal := hUkvIdeal) (hUkvRefIdeal := hUkvRefIdeal)
    ∧ preserves_UqDa_UqDaIdeal
    ∧ algebraic_UqDaIdeal_UqDaRefIdeal (hUqDaIdeal := hUqDaIdeal) (hUqDaRefIdeal := hUqDaRefIdeal)
    ∧ preserves_UkvDa_UkvDaIdeal
    ∧ algebraic_UkvDaIdeal_UkvDaRefIdeal (hUkvDaIdeal := hUkvDaIdeal) (hUkvDaRefIdeal := hUkvDaRefIdeal)
    ∧ preserves_UqDw_UqDwIdeal
    ∧ algebraic_UqDwIdeal_UqDwRefIdeal (hUqDwIdeal := hUqDwIdeal) (hUqDwRefIdeal := hUqDwRefIdeal)
    ∧ preserves_UkvDw_UkvDwIdeal
    ∧ algebraic_UkvDwIdeal_UkvDwRefIdeal (hUkvDwIdeal := hUkvDwIdeal) (hUkvDwRefIdeal := hUkvDwRefIdeal)
    ∧ preserves_InDw128_InDw128Ideal
    ∧ algebraic_InDw128Ideal_InDw128RefIdeal (hInDw128Ideal := hInDw128Ideal) (hInDw128RefIdeal := hInDw128RefIdeal)
    ∧ preserves_InDw32_InDw32Ideal
    ∧ algebraic_InDw32Ideal_InDw32RefIdeal (hInDw32Ideal := hInDw32Ideal) (hInDw32RefIdeal := hInDw32RefIdeal)
    ∧ preserves_Mod_ModIdeal
    ∧ algebraic_ModIdeal_ModRefIdeal (hModIdeal := hModIdeal) (hModRefIdeal := hModRefIdeal)
    ∧ preserves_ModDw_ModDwIdeal
    ∧ algebraic_ModDwIdeal_ModDwRefIdeal (hModDwIdeal := hModDwIdeal) (hModDwRefIdeal := hModDwRefIdeal)
    ∧ preserves_ModDa_ModDaIdeal
    ∧ algebraic_ModDaIdeal_ModDaRefIdeal (hModDaIdeal := hModDaIdeal) (hModDaRefIdeal := hModDaRefIdeal)
    ∧ preserves_ModDaAdd_ModDaAddIdeal
    ∧ algebraic_ModDaAddIdeal_ModDaAddRefIdeal (hModDaAddIdeal := hModDaAddIdeal) (hModDaAddRefIdeal := hModDaAddRefIdeal)
-- ==== Pre_finite_bwd.lean ====
abbrev S8448x2048 : Shape := ⟨2, ![8448, 2048]⟩
abbrev S8448x1024 : Shape := ⟨2, ![8448, 1024]⟩
abbrev S_ : Shape := ⟨0, ![]⟩

class Facts : Prop where
  bcast_S_S8448x2048 : S_.BroadcastsInDim S8448x2048 (![] : Fin 0 → Fin S8448x2048.rank)
  reducesTo_S8448x2048_S_d0_1 : S8448x2048.ReducesTo [0, 1] S_
  h_S_ : 0 < S_.numel
  bcast_S_S8448x1024 : S_.BroadcastsInDim S8448x1024 (![] : Fin 0 → Fin S8448x1024.rank)
  reducesTo_S8448x1024_S_d0_1 : S8448x1024.ReducesTo [0, 1] S_

variable [Facts]

def fn_part1 {F : FTy → Type} [FloatOps F] (main_v13 : IVec S_ 1) (main_v16 : IVec S8448x1024 1) : IVec S_ 1 :=
  let main_c_5 : IVec S_ 1 := constantI S_ 1 1#1
  let main_v17 : IVec S_ 1 := (fun x v => Host.reduce IntOp.andi x v reducesTo_S8448x1024_S_d0_1 h_S_) main_v16 main_c_5
  let main_v18 : IVec S_ 1 := andi main_v13 main_v17
  main_v18

def fn {F : FTy → Type} [FloatOps F] (main_arg0 : FVec F S8448x2048 .bf16) (main_arg1 : FVec F S8448x2048 .bf16) (main_arg2 : FVec F S8448x1024 .bf16) (main_arg3 : FVec F S8448x1024 .f32) : IVec S_ 1 :=
  let main_v0 : FVec F S8448x2048 .bf16 := Host.absf main_arg0
  let main_cst : FVec F S_ .bf16 := constant S_ .bf16 0x7F80#16
  let main_v1 : FVec F S8448x2048 .bf16 := broadcastInDim S8448x2048 ![] bcast_S_S8448x2048 main_cst
  let main_v2 : IVec S8448x2048 1 := cmpf .olt main_v0 main_v1
  let main_c : IVec S_ 1 := constantI S_ 1 1#1
  let main_v3 : IVec S_ 1 := (fun x v => Host.reduce IntOp.andi x v reducesTo_S8448x2048_S_d0_1 h_S_) main_v2 main_c
  let main_v4 : FVec F S8448x2048 .bf16 := Host.absf main_arg1
  let main_cst_0 : FVec F S_ .bf16 := constant S_ .bf16 0x7F80#16
  let main_v5 : FVec F S8448x2048 .bf16 := broadcastInDim S8448x2048 ![] bcast_S_S8448x2048 main_cst_0
  let main_v6 : IVec S8448x2048 1 := cmpf .olt main_v4 main_v5
  let main_c_1 : IVec S_ 1 := constantI S_ 1 1#1
  let main_v7 : IVec S_ 1 := (fun x v => Host.reduce IntOp.andi x v reducesTo_S8448x2048_S_d0_1 h_S_) main_v6 main_c_1
  let main_v8 : IVec S_ 1 := andi main_v3 main_v7
  let main_v9 : FVec F S8448x1024 .bf16 := Host.absf main_arg2
  let main_cst_2 : FVec F S_ .bf16 := constant S_ .bf16 0x7F80#16
  let main_v10 : FVec F S8448x1024 .bf16 := broadcastInDim S8448x1024 ![] bcast_S_S8448x1024 main_cst_2
  let main_v11 : IVec S8448x1024 1 := cmpf .olt main_v9 main_v10
  let main_c_3 : IVec S_ 1 := constantI S_ 1 1#1
  let main_v12 : IVec S_ 1 := (fun x v => Host.reduce IntOp.andi x v reducesTo_S8448x1024_S_d0_1 h_S_) main_v11 main_c_3
  let main_v13 : IVec S_ 1 := andi main_v8 main_v12
  let main_v14 : FVec F S8448x1024 .f32 := Host.absf main_arg3
  let main_cst_4 : FVec F S_ .f32 := constant S_ .f32 0x7F800000#32
  let main_v15 : FVec F S8448x1024 .f32 := broadcastInDim S8448x1024 ![] bcast_S_S8448x1024 main_cst_4
  let main_v16 : IVec S8448x1024 1 := cmpf .olt main_v14 main_v15
  fn_part1 (F := F) main_v13 main_v16
-- ==== Pre_finite_fwd.lean ====
abbrev S8448x2048 : Shape := ⟨2, ![8448, 2048]⟩
abbrev S8448x1024 : Shape := ⟨2, ![8448, 1024]⟩
abbrev S_ : Shape := ⟨0, ![]⟩

class Facts : Prop where
  bcast_S_S8448x2048 : S_.BroadcastsInDim S8448x2048 (![] : Fin 0 → Fin S8448x2048.rank)
  reducesTo_S8448x2048_S_d0_1 : S8448x2048.ReducesTo [0, 1] S_
  h_S_ : 0 < S_.numel
  bcast_S_S8448x1024 : S_.BroadcastsInDim S8448x1024 (![] : Fin 0 → Fin S8448x1024.rank)
  reducesTo_S8448x1024_S_d0_1 : S8448x1024.ReducesTo [0, 1] S_

variable [Facts]

def fn {F : FTy → Type} [FloatOps F] (main_arg0 : FVec F S8448x2048 .bf16) (main_arg1 : FVec F S8448x2048 .bf16) (main_arg2 : FVec F S8448x1024 .bf16) : IVec S_ 1 :=
  let main_v0 : FVec F S8448x2048 .bf16 := Host.absf main_arg0
  let main_cst : FVec F S_ .bf16 := constant S_ .bf16 0x7F80#16
  let main_v1 : FVec F S8448x2048 .bf16 := broadcastInDim S8448x2048 ![] bcast_S_S8448x2048 main_cst
  let main_v2 : IVec S8448x2048 1 := cmpf .olt main_v0 main_v1
  let main_c : IVec S_ 1 := constantI S_ 1 1#1
  let main_v3 : IVec S_ 1 := (fun x v => Host.reduce IntOp.andi x v reducesTo_S8448x2048_S_d0_1 h_S_) main_v2 main_c
  let main_v4 : FVec F S8448x2048 .bf16 := Host.absf main_arg1
  let main_cst_0 : FVec F S_ .bf16 := constant S_ .bf16 0x7F80#16
  let main_v5 : FVec F S8448x2048 .bf16 := broadcastInDim S8448x2048 ![] bcast_S_S8448x2048 main_cst_0
  let main_v6 : IVec S8448x2048 1 := cmpf .olt main_v4 main_v5
  let main_c_1 : IVec S_ 1 := constantI S_ 1 1#1
  let main_v7 : IVec S_ 1 := (fun x v => Host.reduce IntOp.andi x v reducesTo_S8448x2048_S_d0_1 h_S_) main_v6 main_c_1
  let main_v8 : IVec S_ 1 := andi main_v3 main_v7
  let main_v9 : FVec F S8448x1024 .bf16 := Host.absf main_arg2
  let main_cst_2 : FVec F S_ .bf16 := constant S_ .bf16 0x7F80#16
  let main_v10 : FVec F S8448x1024 .bf16 := broadcastInDim S8448x1024 ![] bcast_S_S8448x1024 main_cst_2
  let main_v11 : IVec S8448x1024 1 := cmpf .olt main_v9 main_v10
  let main_c_3 : IVec S_ 1 := constantI S_ 1 1#1
  let main_v12 : IVec S_ 1 := (fun x v => Host.reduce IntOp.andi x v reducesTo_S8448x1024_S_d0_1 h_S_) main_v11 main_c_3
  let main_v13 : IVec S_ 1 := andi main_v8 main_v12
  main_v13
-- ==== Bwd.lean ====
abbrev S8448x2048 : Shape := ⟨2, ![8448, 2048]⟩
abbrev S8448x1024 : Shape := ⟨2, ![8448, 1024]⟩
abbrev S8448x8x256 : Shape := ⟨3, ![8448, 8, 256]⟩
abbrev S8448x8x128 : Shape := ⟨3, ![8448, 8, 128]⟩
abbrev S8192x8x256 : Shape := ⟨3, ![8192, 8, 256]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S256x8x256 : Shape := ⟨3, ![256, 8, 256]⟩
abbrev S256x8x128 : Shape := ⟨3, ![256, 8, 128]⟩
abbrev S8x256x256 : Shape := ⟨3, ![8, 256, 256]⟩
abbrev S8x256 : Shape := ⟨2, ![8, 256]⟩
abbrev S8x256x1 : Shape := ⟨3, ![8, 256, 1]⟩
abbrev S8x128x256 : Shape := ⟨3, ![8, 128, 256]⟩
abbrev S8x8448x1 : Shape := ⟨3, ![8, 8448, 1]⟩
abbrev S256x256 : Shape := ⟨2, ![256, 256]⟩
abbrev S8448x256 : Shape := ⟨2, ![8448, 256]⟩
abbrev S8448x128 : Shape := ⟨2, ![8448, 128]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩
abbrev S2048x256 : Shape := ⟨2, ![2048, 256]⟩
abbrev S2048x128 : Shape := ⟨2, ![2048, 128]⟩
abbrev S256x2048 : Shape := ⟨2, ![256, 2048]⟩

abbrev nBuf : Space → Nat
  | .hbm => 121
  | .vmem => 18
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x1024, .bf16⟩
  | .hbm, ⟨3, _⟩ => ⟨S8448x1024, .f32⟩
  | .hbm, ⟨4, _⟩ => ⟨S8448x2048, .f32⟩
  | .hbm, ⟨5, _⟩ => ⟨S8448x8x256, .f32⟩
  | .hbm, ⟨6, _⟩ => ⟨S8448x2048, .f32⟩
  | .hbm, ⟨7, _⟩ => ⟨S8448x8x256, .f32⟩
  | .hbm, ⟨8, _⟩ => ⟨S8448x1024, .f32⟩
  | .hbm, ⟨9, _⟩ => ⟨S8448x8x128, .f32⟩
  | .hbm, ⟨10, _⟩ => ⟨S8192x8x256, .f32⟩
  | .hbm, ⟨11, _⟩ => ⟨S8x8192x8448, .f32⟩
  | .hbm, ⟨12, _⟩ => ⟨S8x8192x8448, .bf16⟩
  | .hbm, ⟨13, _⟩ => ⟨S8x8192x8448, .f32⟩
  | .hbm, ⟨14, _⟩ => ⟨S_, .f32⟩
  | .hbm, ⟨15, _⟩ => ⟨S_, .f32⟩
  | .hbm, ⟨16, _⟩ => ⟨S8x8192x8448, .f32⟩
  | .hbm, ⟨17, _⟩ => ⟨S8x8192x8448, .f32⟩
  | .hbm, ⟨18, _⟩ => ⟨S_, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S8x8192x1, .f32⟩
  | .hbm, ⟨24, _⟩ => ⟨S8x8192x8448, .f32⟩
  | .hbm, ⟨25, _⟩ => ⟨S8x8192x8448, .f32⟩
  | .hbm, ⟨26, _⟩ => ⟨S8x8192x8448, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8448, .f32⟩
  | .hbm, ⟨31, _⟩ => ⟨S8x8192x8448, .f32⟩
  | .hbm, ⟨32, _⟩ => ⟨S8x8192x8448, .bf16⟩
  | .hbm, ⟨33, _⟩ => ⟨S8x8192x8448, .f32⟩
  | .hbm, ⟨34, _⟩ => ⟨S8x128x8192, .f32⟩
  | .hbm, ⟨35, _⟩ => ⟨S8192x8x128, .f32⟩
  | .hbm, ⟨36, _⟩ => ⟨S256x8x256, .f32⟩
  | .hbm, ⟨37, _⟩ => ⟨S256x8x256, .f32⟩
  | .hbm, ⟨38, _⟩ => ⟨S256x8x128, .f32⟩
  | .hbm, ⟨39, _⟩ => ⟨S8x256x256, .f32⟩
  | .hbm, ⟨40, _⟩ => ⟨S8x256x256, .bf16⟩
  | .hbm, ⟨41, _⟩ => ⟨S8x256x256, .f32⟩
  | .hbm, ⟨42, _⟩ => ⟨S_, .f32⟩
  | .hbm, ⟨43, _⟩ => ⟨S_, .f32⟩
  | .hbm, ⟨44, _⟩ => ⟨S8x256x256, .f32⟩
  | .hbm, ⟨45, _⟩ => ⟨S8x256x256, .f32⟩
  | .hbm, ⟨46, _⟩ => ⟨S_, .f32⟩
  | .hbm, ⟨47, _⟩ => ⟨S8x256, .f32⟩
  | .hbm, ⟨48, _⟩ => ⟨S_, .f32⟩
  | .hbm, ⟨49, _⟩ => ⟨S8x256, .f32⟩
  | .hbm, ⟨50, _⟩ => ⟨S8x256, .f32⟩
  | .hbm, ⟨51, _⟩ => ⟨S8x256x1, .f32⟩
  | .hbm, ⟨52, _⟩ => ⟨S8x256x256, .f32⟩
  | .hbm, ⟨53, _⟩ => ⟨S8x256x256, .f32⟩
  | .hbm, ⟨54, _⟩ => ⟨S8x256x256, .f32⟩
  | .hbm, ⟨55, _⟩ => ⟨S_, .f32⟩
  | .hbm, ⟨56, _⟩ => ⟨S8x256, .f32⟩
  | .hbm, ⟨57, _⟩ => ⟨S8x256x1, .f32⟩
  | .hbm, ⟨58, _⟩ => ⟨S8x256x256, .f32⟩
  | .hbm, ⟨59, _⟩ => ⟨S8x256x256, .f32⟩
  | .hbm, ⟨60, _⟩ => ⟨S8x256x256, .bf16⟩
  | .hbm, ⟨61, _⟩ => ⟨S8x256x256, .f32⟩
  | .hbm, ⟨62, _⟩ => ⟨S8x128x256, .f32⟩
  | .hbm, ⟨63, _⟩ => ⟨S256x8x128, .f32⟩
  | .hbm, ⟨64, _⟩ => ⟨S8448x8x128, .f32⟩
  | .hbm, ⟨65, _⟩ => ⟨S8448x1024, .f32⟩
  | .hbm, ⟨66, _⟩ => ⟨S8448x2048, .f32⟩
  | .hbm, ⟨67, _⟩ => ⟨S8448x8x256, .f32⟩
  | .hbm, ⟨68, _⟩ => ⟨S8448x2048, .f32⟩
  | .hbm, ⟨69, _⟩ => ⟨S8448x8x256, .f32⟩
  | .hbm, ⟨70, _⟩ => ⟨S8192x8x256, .f32⟩
  | .hbm, ⟨71, _⟩ => ⟨S8x8192x8448, .f32⟩
  | .hbm, ⟨72, _⟩ => ⟨S8x8192x8448, .bf16⟩
  | .hbm, ⟨73, _⟩ => ⟨S8x8192x8448, .f32⟩
  | .hbm, ⟨74, _⟩ => ⟨S_, .f32⟩
  | .hbm, ⟨75, _⟩ => ⟨S_, .f32⟩
  | .hbm, ⟨76, _⟩ => ⟨S8x8192x8448, .f32⟩
  | .hbm, ⟨77, _⟩ => ⟨S8x8192x8448, .f32⟩
  | .hbm, ⟨78, _⟩ => ⟨S_, .f32⟩
  | .hbm, ⟨79, _⟩ => ⟨S8x8192, .f32⟩
  | .hbm, ⟨80, _⟩ => ⟨S8x8192x1, .f32⟩
  | .hbm, ⟨81, _⟩ => ⟨S8x8192x8448, .f32⟩
  | .hbm, ⟨82, _⟩ => ⟨S8x8192x8448, .f32⟩
  | .hbm, ⟨83, _⟩ => ⟨S8x8192x8448, .f32⟩
  | .hbm, ⟨84, _⟩ => ⟨S_, .f32⟩
  | .hbm, ⟨85, _⟩ => ⟨S8x8192, .f32⟩
  | .hbm, ⟨86, _⟩ => ⟨S8x8192x1, .f32⟩
  | .hbm, ⟨87, _⟩ => ⟨S8x8192x1, .f32⟩
  | .hbm, ⟨88, _⟩ => ⟨S8x8192x1, .f32⟩
  | .hbm, ⟨89, _⟩ => ⟨S_, .f32⟩
  | .hbm, ⟨90, _⟩ => ⟨S_, .f32⟩
  | .hbm, ⟨91, _⟩ => ⟨S8x8192x1, .f32⟩
  | .hbm, ⟨92, _⟩ => ⟨S8x8192x1, .f32⟩
  | .hbm, ⟨93, _⟩ => ⟨S256x8x256, .f32⟩
  | .hbm, ⟨94, _⟩ => ⟨S256x8x256, .f32⟩
  | .hbm, ⟨95, _⟩ => ⟨S8x256x256, .f32⟩
  | .hbm, ⟨96, _⟩ => ⟨S8x256x256, .bf16⟩
  | .hbm, ⟨97, _⟩ => ⟨S8x256x256, .f32⟩
  | .hbm, ⟨98, _⟩ => ⟨S_, .f32⟩
  | .hbm, ⟨99, _⟩ => ⟨S_, .f32⟩
  | .hbm, ⟨100, _⟩ => ⟨S8x256x256, .f32⟩
  | .hbm, ⟨101, _⟩ => ⟨S8x256x256, .f32⟩
  | .hbm, ⟨102, _⟩ => ⟨S_, .f32⟩
  | .hbm, ⟨103, _⟩ => ⟨S8x256, .f32⟩
  | .hbm, ⟨104, _⟩ => ⟨S8x256x1, .f32⟩
  | .hbm, ⟨105, _⟩ => ⟨S8x256x256, .f32⟩
  | .hbm, ⟨106, _⟩ => ⟨S8x256x256, .f32⟩
  | .hbm, ⟨107, _⟩ => ⟨S8x256x256, .f32⟩
  | .hbm, ⟨108, _⟩ => ⟨S_, .f32⟩
  | .hbm, ⟨109, _⟩ => ⟨S8x256, .f32⟩
  | .hbm, ⟨110, _⟩ => ⟨S8x256x1, .f32⟩
  | .hbm, ⟨111, _⟩ => ⟨S8x256x1, .f32⟩
  | .hbm, ⟨112, _⟩ => ⟨S8x256x1, .f32⟩
  | .hbm, ⟨113, _⟩ => ⟨S_, .f32⟩
  | .hbm, ⟨114, _⟩ => ⟨S_, .f32⟩
  | .hbm, ⟨115, _⟩ => ⟨S8x256x1, .f32⟩
  | .hbm, ⟨116, _⟩ => ⟨S8x256x1, .f32⟩
  | .hbm, ⟨117, _⟩ => ⟨S8x8448x1, .f32⟩
  | .hbm, ⟨118, _⟩ => ⟨S8448x2048, .f32⟩
  | .hbm, ⟨119, _⟩ => ⟨S8448x2048, .f32⟩
  | .hbm, ⟨120, _⟩ => ⟨S8448x1024, .f32⟩
  | .local _ .vmem, ⟨0, _⟩ => ⟨S256x256, .bf16⟩
  | .local _ .vmem, ⟨1, _⟩ => ⟨S256x256, .bf16⟩
  | .local _ .vmem, ⟨2, _⟩ => ⟨S8448x256, .bf16⟩
  | .local _ .vmem, ⟨3, _⟩ => ⟨S8448x256, .bf16⟩
  | .local _ .vmem, ⟨4, _⟩ => ⟨S8448x128, .bf16⟩
  | .local _ .vmem, ⟨5, _⟩ => ⟨S8448x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256x1, .f32⟩
  | .local _ .vmem, ⟨11, _⟩ => ⟨S1x256x1, .f32⟩
  | .local _ .vmem, ⟨12, _⟩ => ⟨S256x256, .f32⟩
  | .local _ .vmem, ⟨13, _⟩ => ⟨S256x256, .f32⟩
  | .local _ .vmem, ⟨14, _⟩ => ⟨S8448x256, .f32⟩
  | .local _ .vmem, ⟨15, _⟩ => ⟨S8448x256, .f32⟩
  | .local _ .vmem, ⟨16, _⟩ => ⟨S8448x128, .f32⟩
  | .local _ .vmem, ⟨17, _⟩ => ⟨S8448x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_9 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_10 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_11 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_12 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_13 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_14 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98_0 : Ref sig .tc := ⟨.hbm, 118, rfl⟩
abbrev main_v98_1 : Ref sig .tc := ⟨.hbm, 119, rfl⟩
abbrev main_v98_2 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 33], ![false, false]⟩

def k0_mult1 : BitVec 32 :=
  let c0_i32_33 : BitVec 32 := 0#32
  let c0_i32_32 : BitVec 32 := 0#32
  let c3_i32 : BitVec 32 := 3#32
  let v45 : BitVec 32 := Scalar.minsi c0_i32_32 c3_i32
  let c2048_i32 : BitVec 32 := 2048#32
  let v46 : BitVec 32 := Scalar.muli v45 c2048_i32
  let v47 : BitVec 32 := Scalar.addi c0_i32_33 v46
  v47
def k0_off1 : Fin 2 → Nat :=
  let c0_i32_33 : BitVec 32 := 0#32
  let c0_i32_32 : BitVec 32 := 0#32
  let c3_i32 : BitVec 32 := 3#32
  let v45 : BitVec 32 := Scalar.minsi c0_i32_32 c3_i32
  let c2048_i32 : BitVec 32 := 2048#32
  let v46 : BitVec 32 := Scalar.muli v45 c2048_i32
  let v47 : BitVec 32 := Scalar.addi c0_i32_33 v46
  let v48 : BitVec 32 := v47
  let v49 : Index := Scalar.indexCast v48
  let c0_34 : Index := 0#32
  ![v49.toNat, 0]
def k0_off2 : Fin 2 → Nat :=
  let c0_i32_33 : BitVec 32 := 0#32
  let c0_i32_32 : BitVec 32 := 0#32
  let c3_i32 : BitVec 32 := 3#32
  let v45 : BitVec 32 := Scalar.minsi c0_i32_32 c3_i32
  let c2048_i32 : BitVec 32 := 2048#32
  let v46 : BitVec 32 := Scalar.muli v45 c2048_i32
  let v47 : BitVec 32 := Scalar.addi c0_i32_33 v46
  let v48 : BitVec 32 := v47
  let v51 : Index := Scalar.indexCast v48
  let c0_35 : Index := 0#32
  ![v51.toNat, 0]
@[reducible] def k0_t1_loop (i : grid0.Coords) : Scf.Loop 32 :=
  let c0_i32_38 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v15 : BitVec 1 := Scalar.cmpi .sge v0 c8192_i32
  let c0_i32_11 : BitVec 32 := 0#32
  let c4_i32 : BitVec 32 := 4#32
  let v16 : BitVec 32 := Scalar.select v15 c0_i32_11 c4_i32
  let v55 : BitVec 32 := Scalar.subi v16 c0_i32_38
  let c1_i32 : BitVec 32 := 1#32
  let v57 : BitVec 32 := Scalar.divsi v55 c1_i32
  let v58 : BitVec 32 := Scalar.muli v57 c1_i32
  let v59 : BitVec 32 := Scalar.addi c0_i32_38 v58
  let c1_i32_39 : BitVec 32 := 1#32
  ⟨c0_i32_38, v59, c1_i32_39⟩
def k0_mult2 (i : grid0.Coords) (k0_t1 : Fin (k0_t1_loop i).trips) : BitVec 32 :=
  let c0_i32_48 : BitVec 32 := 0#32
  let c0_i32_38 : BitVec 32 := 0#32
  let c1_i32_39 : BitVec 32 := 1#32
  let arg11 : BitVec 32 := Scf.iv c0_i32_38 c1_i32_39 k0_t1
  let c1_i32_45 : BitVec 32 := 1#32
  let v68 : BitVec 32 := Scalar.addi arg11 c1_i32_45
  let c3_i32_46 : BitVec 32 := 3#32
  let v69 : BitVec 32 := Scalar.minsi v68 c3_i32_46
  let c2048_i32_47 : BitVec 32 := 2048#32
  let v70 : BitVec 32 := Scalar.muli v69 c2048_i32_47
  let v71 : BitVec 32 := Scalar.addi c0_i32_48 v70
  v71
def k0_off3 (i : grid0.Coords) (k0_t1 : Fin (k0_t1_loop i).trips) : Fin 2 → Nat :=
  let c0_i32_48 : BitVec 32 := 0#32
  let c0_i32_38 : BitVec 32 := 0#32
  let c1_i32_39 : BitVec 32 := 1#32
  let arg11 : BitVec 32 := Scf.iv c0_i32_38 c1_i32_39 k0_t1
  let c1_i32_45 : BitVec 32 := 1#32
  let v68 : BitVec 32 := Scalar.addi arg11 c1_i32_45
  let c3_i32_46 : BitVec 32 := 3#32
  let v69 : BitVec 32 := Scalar.minsi v68 c3_i32_46
  let c2048_i32_47 : BitVec 32 := 2048#32
  let v70 : BitVec 32 := Scalar.muli v69 c2048_i32_47
  let v71 : BitVec 32 := Scalar.addi c0_i32_48 v70
  let v72 : BitVec 32 := v71
  let v73 : Index := Scalar.indexCast v72
  let c0_49 : Index := 0#32
  ![v73.toNat, 0]
def k0_off4 (i : grid0.Coords) (k0_t1 : Fin (k0_t1_loop i).trips) : Fin 2 → Nat :=
  let c0_i32_48 : BitVec 32 := 0#32
  let c0_i32_38 : BitVec 32 := 0#32
  let c1_i32_39 : BitVec 32 := 1#32
  let arg11 : BitVec 32 := Scf.iv c0_i32_38 c1_i32_39 k0_t1
  let c1_i32_45 : BitVec 32 := 1#32
  let v68 : BitVec 32 := Scalar.addi arg11 c1_i32_45
  let c3_i32_46 : BitVec 32 := 3#32
  let v69 : BitVec 32 := Scalar.minsi v68 c3_i32_46
  let c2048_i32_47 : BitVec 32 := 2048#32
  let v70 : BitVec 32 := Scalar.muli v69 c2048_i32_47
  let v71 : BitVec 32 := Scalar.addi c0_i32_48 v70
  let v72 : BitVec 32 := v71
  let v75 : Index := Scalar.indexCast v72
  let c0_50 : Index := 0#32
  ![v75.toNat, 0]
def k0_mult3 (i : grid0.Coords) (k0_t1 : Fin (k0_t1_loop i).trips) : BitVec 32 :=
  let c0_i32_55 : BitVec 32 := 0#32
  let c0_i32_38 : BitVec 32 := 0#32
  let c1_i32_39 : BitVec 32 := 1#32
  let arg11 : BitVec 32 := Scf.iv c0_i32_38 c1_i32_39 k0_t1
  let c3_i32_53 : BitVec 32 := 3#32
  let v79 : BitVec 32 := Scalar.minsi arg11 c3_i32_53
  let c2048_i32_54 : BitVec 32 := 2048#32
  let v80 : BitVec 32 := Scalar.muli v79 c2048_i32_54
  let v81 : BitVec 32 := Scalar.addi c0_i32_55 v80
  v81
def k0_off5 (i : grid0.Coords) (k0_t1 : Fin (k0_t1_loop i).trips) : Fin 2 → Nat :=
  let c0_i32_55 : BitVec 32 := 0#32
  let c0_i32_38 : BitVec 32 := 0#32
  let c1_i32_39 : BitVec 32 := 1#32
  let arg11 : BitVec 32 := Scf.iv c0_i32_38 c1_i32_39 k0_t1
  let c3_i32_53 : BitVec 32 := 3#32
  let v79 : BitVec 32 := Scalar.minsi arg11 c3_i32_53
  let c2048_i32_54 : BitVec 32 := 2048#32
  let v80 : BitVec 32 := Scalar.muli v79 c2048_i32_54
  let v81 : BitVec 32 := Scalar.addi c0_i32_55 v80
  let v82 : BitVec 32 := v81
  let v95 : Index := Scalar.indexCast v82
  let c0_59 : Index := 0#32
  ![v95.toNat, 0]
def k0_off6 (i : grid0.Coords) (k0_t1 : Fin (k0_t1_loop i).trips) : Fin 2 → Nat :=
  let c0_i32_55 : BitVec 32 := 0#32
  let c0_i32_38 : BitVec 32 := 0#32
  let c1_i32_39 : BitVec 32 := 1#32
  let arg11 : BitVec 32 := Scf.iv c0_i32_38 c1_i32_39 k0_t1
  let c3_i32_53 : BitVec 32 := 3#32
  let v79 : BitVec 32 := Scalar.minsi arg11 c3_i32_53
  let c2048_i32_54 : BitVec 32 := 2048#32
  let v80 : BitVec 32 := Scalar.muli v79 c2048_i32_54
  let v81 : BitVec 32 := Scalar.addi c0_i32_55 v80
  let v82 : BitVec 32 := v81
  let v99 : Index := Scalar.indexCast v82
  let c0_61 : Index := 0#32
  ![v99.toNat, 0]
@[reducible] def k0_t2_loop (i : grid0.Coords) : Scf.Loop 32 :=
  let c0_i32_38 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v15 : BitVec 1 := Scalar.cmpi .sge v0 c8192_i32
  let c0_i32_11 : BitVec 32 := 0#32
  let c4_i32 : BitVec 32 := 4#32
  let v16 : BitVec 32 := Scalar.select v15 c0_i32_11 c4_i32
  let v55 : BitVec 32 := Scalar.subi v16 c0_i32_38
  let c1_i32 : BitVec 32 := 1#32
  let v57 : BitVec 32 := Scalar.divsi v55 c1_i32
  let v58 : BitVec 32 := Scalar.muli v57 c1_i32
  let v59 : BitVec 32 := Scalar.addi c0_i32_38 v58
  let v56 : BitVec 32 := Scalar.addi c0_i32_38 v55
  let c1_i32_40 : BitVec 32 := 1#32
  ⟨v59, v56, c1_i32_40⟩
def k0_mult4 (i : grid0.Coords) (k0_t2 : Fin (k0_t2_loop i).trips) : BitVec 32 :=
  let c0_i32_48 : BitVec 32 := 0#32
  let c0_i32_38 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v15 : BitVec 1 := Scalar.cmpi .sge v0 c8192_i32
  let c0_i32_11 : BitVec 32 := 0#32
  let c4_i32 : BitVec 32 := 4#32
  let v16 : BitVec 32 := Scalar.select v15 c0_i32_11 c4_i32
  let v55 : BitVec 32 := Scalar.subi v16 c0_i32_38
  let c1_i32 : BitVec 32 := 1#32
  let v57 : BitVec 32 := Scalar.divsi v55 c1_i32
  let v58 : BitVec 32 := Scalar.muli v57 c1_i32
  let v59 : BitVec 32 := Scalar.addi c0_i32_38 v58
  let c1_i32_40 : BitVec 32 := 1#32
  let arg11 : BitVec 32 := Scf.iv v59 c1_i32_40 k0_t2
  let c1_i32_45 : BitVec 32 := 1#32
  let v68 : BitVec 32 := Scalar.addi arg11 c1_i32_45
  let c3_i32_46 : BitVec 32 := 3#32
  let v69 : BitVec 32 := Scalar.minsi v68 c3_i32_46
  let c2048_i32_47 : BitVec 32 := 2048#32
  let v70 : BitVec 32 := Scalar.muli v69 c2048_i32_47
  let v71 : BitVec 32 := Scalar.addi c0_i32_48 v70
  v71
def k0_off7 (i : grid0.Coords) (k0_t2 : Fin (k0_t2_loop i).trips) : Fin 2 → Nat :=
  let c0_i32_48 : BitVec 32 := 0#32
  let c0_i32_38 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v15 : BitVec 1 := Scalar.cmpi .sge v0 c8192_i32
  let c0_i32_11 : BitVec 32 := 0#32
  let c4_i32 : BitVec 32 := 4#32
  let v16 : BitVec 32 := Scalar.select v15 c0_i32_11 c4_i32
  let v55 : BitVec 32 := Scalar.subi v16 c0_i32_38
  let c1_i32 : BitVec 32 := 1#32
  let v57 : BitVec 32 := Scalar.divsi v55 c1_i32
  let v58 : BitVec 32 := Scalar.muli v57 c1_i32
  let v59 : BitVec 32 := Scalar.addi c0_i32_38 v58
  let c1_i32_40 : BitVec 32 := 1#32
  let arg11 : BitVec 32 := Scf.iv v59 c1_i32_40 k0_t2
  let c1_i32_45 : BitVec 32 := 1#32
  let v68 : BitVec 32 := Scalar.addi arg11 c1_i32_45
  let c3_i32_46 : BitVec 32 := 3#32
  let v69 : BitVec 32 := Scalar.minsi v68 c3_i32_46
  let c2048_i32_47 : BitVec 32 := 2048#32
  let v70 : BitVec 32 := Scalar.muli v69 c2048_i32_47
  let v71 : BitVec 32 := Scalar.addi c0_i32_48 v70
  let v72 : BitVec 32 := v71
  let v73 : Index := Scalar.indexCast v72
  let c0_49 : Index := 0#32
  ![v73.toNat, 0]
def k0_off8 (i : grid0.Coords) (k0_t2 : Fin (k0_t2_loop i).trips) : Fin 2 → Nat :=
  let c0_i32_48 : BitVec 32 := 0#32
  let c0_i32_38 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v15 : BitVec 1 := Scalar.cmpi .sge v0 c8192_i32
  let c0_i32_11 : BitVec 32 := 0#32
  let c4_i32 : BitVec 32 := 4#32
  let v16 : BitVec 32 := Scalar.select v15 c0_i32_11 c4_i32
  let v55 : BitVec 32 := Scalar.subi v16 c0_i32_38
  let c1_i32 : BitVec 32 := 1#32
  let v57 : BitVec 32 := Scalar.divsi v55 c1_i32
  let v58 : BitVec 32 := Scalar.muli v57 c1_i32
  let v59 : BitVec 32 := Scalar.addi c0_i32_38 v58
  let c1_i32_40 : BitVec 32 := 1#32
  let arg11 : BitVec 32 := Scf.iv v59 c1_i32_40 k0_t2
  let c1_i32_45 : BitVec 32 := 1#32
  let v68 : BitVec 32 := Scalar.addi arg11 c1_i32_45
  let c3_i32_46 : BitVec 32 := 3#32
  let v69 : BitVec 32 := Scalar.minsi v68 c3_i32_46
  let c2048_i32_47 : BitVec 32 := 2048#32
  let v70 : BitVec 32 := Scalar.muli v69 c2048_i32_47
  let v71 : BitVec 32 := Scalar.addi c0_i32_48 v70
  let v72 : BitVec 32 := v71
  let v75 : Index := Scalar.indexCast v72
  let c0_50 : Index := 0#32
  ![v75.toNat, 0]
def k0_mult5 (i : grid0.Coords) (k0_t2 : Fin (k0_t2_loop i).trips) : BitVec 32 :=
  let c0_i32_55 : BitVec 32 := 0#32
  let c0_i32_38 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v15 : BitVec 1 := Scalar.cmpi .sge v0 c8192_i32
  let c0_i32_11 : BitVec 32 := 0#32
  let c4_i32 : BitVec 32 := 4#32
  let v16 : BitVec 32 := Scalar.select v15 c0_i32_11 c4_i32
  let v55 : BitVec 32 := Scalar.subi v16 c0_i32_38
  let c1_i32 : BitVec 32 := 1#32
  let v57 : BitVec 32 := Scalar.divsi v55 c1_i32
  let v58 : BitVec 32 := Scalar.muli v57 c1_i32
  let v59 : BitVec 32 := Scalar.addi c0_i32_38 v58
  let c1_i32_40 : BitVec 32 := 1#32
  let arg11 : BitVec 32 := Scf.iv v59 c1_i32_40 k0_t2
  let c3_i32_53 : BitVec 32 := 3#32
  let v79 : BitVec 32 := Scalar.minsi arg11 c3_i32_53
  let c2048_i32_54 : BitVec 32 := 2048#32
  let v80 : BitVec 32 := Scalar.muli v79 c2048_i32_54
  let v81 : BitVec 32 := Scalar.addi c0_i32_55 v80
  v81
def k0_off9 (i : grid0.Coords) (k0_t2 : Fin (k0_t2_loop i).trips) : Fin 2 → Nat :=
  let c0_i32_55 : BitVec 32 := 0#32
  let c0_i32_38 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v15 : BitVec 1 := Scalar.cmpi .sge v0 c8192_i32
  let c0_i32_11 : BitVec 32 := 0#32
  let c4_i32 : BitVec 32 := 4#32
  let v16 : BitVec 32 := Scalar.select v15 c0_i32_11 c4_i32
  let v55 : BitVec 32 := Scalar.subi v16 c0_i32_38
  let c1_i32 : BitVec 32 := 1#32
  let v57 : BitVec 32 := Scalar.divsi v55 c1_i32
  let v58 : BitVec 32 := Scalar.muli v57 c1_i32
  let v59 : BitVec 32 := Scalar.addi c0_i32_38 v58
  let c1_i32_40 : BitVec 32 := 1#32
  let arg11 : BitVec 32 := Scf.iv v59 c1_i32_40 k0_t2
  let c3_i32_53 : BitVec 32 := 3#32
  let v79 : BitVec 32 := Scalar.minsi arg11 c3_i32_53
  let c2048_i32_54 : BitVec 32 := 2048#32
  let v80 : BitVec 32 := Scalar.muli v79 c2048_i32_54
  let v81 : BitVec 32 := Scalar.addi c0_i32_55 v80
  let v82 : BitVec 32 := v81
  let v95 : Index := Scalar.indexCast v82
  let c0_59 : Index := 0#32
  ![v95.toNat, 0]
def k0_off10 (i : grid0.Coords) (k0_t2 : Fin (k0_t2_loop i).trips) : Fin 2 → Nat :=
  let c0_i32_55 : BitVec 32 := 0#32
  let c0_i32_38 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v15 : BitVec 1 := Scalar.cmpi .sge v0 c8192_i32
  let c0_i32_11 : BitVec 32 := 0#32
  let c4_i32 : BitVec 32 := 4#32
  let v16 : BitVec 32 := Scalar.select v15 c0_i32_11 c4_i32
  let v55 : BitVec 32 := Scalar.subi v16 c0_i32_38
  let c1_i32 : BitVec 32 := 1#32
  let v57 : BitVec 32 := Scalar.divsi v55 c1_i32
  let v58 : BitVec 32 := Scalar.muli v57 c1_i32
  let v59 : BitVec 32 := Scalar.addi c0_i32_38 v58
  let c1_i32_40 : BitVec 32 := 1#32
  let arg11 : BitVec 32 := Scf.iv v59 c1_i32_40 k0_t2
  let c3_i32_53 : BitVec 32 := 3#32
  let v79 : BitVec 32 := Scalar.minsi arg11 c3_i32_53
  let c2048_i32_54 : BitVec 32 := 2048#32
  let v80 : BitVec 32 := Scalar.muli v79 c2048_i32_54
  let v81 : BitVec 32 := Scalar.addi c0_i32_55 v80
  let v82 : BitVec 32 := v81
  let v99 : Index := Scalar.indexCast v82
  let c0_61 : Index := 0#32
  ![v99.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8448x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8448x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== BwdIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== BwdRefIdeal.lean ====
abbrev S8448x2048 : Shape := ⟨2, ![8448, 2048]⟩
abbrev S8448x1024 : Shape := ⟨2, ![8448, 1024]⟩
abbrev S8448x8x256 : Shape := ⟨3, ![8448, 8, 256]⟩
abbrev S8448x8x128 : Shape := ⟨3, ![8448, 8, 128]⟩
abbrev S8192x8x256 : Shape := ⟨3, ![8192, 8, 256]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S256x8x256 : Shape := ⟨3, ![256, 8, 256]⟩
abbrev S256x8x128 : Shape := ⟨3, ![256, 8, 128]⟩
abbrev S8x256x256 : Shape := ⟨3, ![8, 256, 256]⟩
abbrev S8x256 : Shape := ⟨2, ![8, 256]⟩
abbrev S8x256x1 : Shape := ⟨3, ![8, 256, 1]⟩
abbrev S8x128x256 : Shape := ⟨3, ![8, 128, 256]⟩
abbrev S8x128x8448 : Shape := ⟨3, ![8, 128, 8448]⟩
abbrev S8x8448x256 : Shape := ⟨3, ![8, 8448, 256]⟩
abbrev S8x8192x256 : Shape := ⟨3, ![8, 8192, 256]⟩

abbrev nBuf : Space → Nat
  | .hbm => 187
  | .vmem => 0
  | .smem => 0
  | _ => 0

abbrev hbmTy0_0 (i : Nat) : BufTy := match i % 128 with
  | 0 => ⟨S8448x2048, .bf16⟩
  | 1 => ⟨S8448x2048, .bf16⟩
  | 2 => ⟨S8448x1024, .bf16⟩
  | 3 => ⟨S8448x1024, .f32⟩
  | 4 => ⟨S8448x2048, .f32⟩
  | 5 => ⟨S8448x2048, .f32⟩
  | 6 => ⟨S8448x1024, .f32⟩
  | 7 => ⟨S8448x8x256, .f32⟩
  | 8 => ⟨S8448x8x256, .f32⟩
  | 9 => ⟨S8448x8x128, .f32⟩
  | 10 => ⟨S8192x8x256, .f32⟩
  | 11 => ⟨S8x8192x8448, .f32⟩
  | 12 => ⟨S8x8192x8448, .bf16⟩
  | 13 => ⟨S8x8192x8448, .f32⟩
  | 14 => ⟨S_, .f32⟩
  | 15 => ⟨S_, .f32⟩
  | 16 => ⟨S8x8192x8448, .f32⟩
  | 17 => ⟨S8x8192x8448, .f32⟩
  | 18 => ⟨S_, .f32⟩
  | 19 => ⟨S8x8192, .f32⟩
  | 20 => ⟨S8x8192x1, .f32⟩
  | 21 => ⟨S8x8192x8448, .f32⟩
  | 22 => ⟨S8x8192x8448, .i1⟩
  | 23 => ⟨S8x8192x8448, .f32⟩
  | 24 => ⟨S_, .f32⟩
  | 25 => ⟨S8x8192, .f32⟩
  | 26 => ⟨S_, .f32⟩
  | 27 => ⟨S8x8192, .f32⟩
  | 28 => ⟨S8x8192, .f32⟩
  | 29 => ⟨S_, .f32⟩
  | 30 => ⟨S8x8192, .f32⟩
  | 31 => ⟨S8x8192, .i1⟩
  | 32 => ⟨S_, .f32⟩
  | 33 => ⟨S8x8192, .f32⟩
  | 34 => ⟨S8x8192, .i1⟩
  | 35 => ⟨S_, .f32⟩
  | 36 => ⟨S8x8192, .f32⟩
  | 37 => ⟨S_, .f32⟩
  | 38 => ⟨S8x8192, .f32⟩
  | 39 => ⟨S_, .f32⟩
  | 40 => ⟨S8x8192, .f32⟩
  | 41 => ⟨S8x8192, .f32⟩
  | 42 => ⟨S8x8192, .f32⟩
  | 43 => ⟨S8x8192x1, .f32⟩
  | 44 => ⟨S8x8192x8448, .f32⟩
  | 45 => ⟨S8x8192x8448, .f32⟩
  | 46 => ⟨S8x8192x8448, .f32⟩
  | 47 => ⟨S_, .f32⟩
  | 48 => ⟨S8x8192, .f32⟩
  | 49 => ⟨S8x8192x1, .f32⟩
  | 50 => ⟨S8x8192x8448, .f32⟩
  | 51 => ⟨S8x8192x8448, .f32⟩
  | 52 => ⟨S8x8192x1, .f32⟩
  | 53 => ⟨S_, .f32⟩
  | 54 => ⟨S8x8192x1, .f32⟩
  | 55 => ⟨S8x8192x1, .f32⟩
  | 56 => ⟨S8x8192x8448, .bf16⟩
  | 57 => ⟨S8x8192x8448, .f32⟩
  | 58 => ⟨S8x128x8192, .f32⟩
  | 59 => ⟨S8192x8x128, .f32⟩
  | 60 => ⟨S256x8x256, .f32⟩
  | 61 => ⟨S256x8x256, .f32⟩
  | 62 => ⟨S256x8x128, .f32⟩
  | 63 => ⟨S8x256x256, .f32⟩
  | 64 => ⟨S8x256x256, .bf16⟩
  | 65 => ⟨S8x256x256, .f32⟩
  | 66 => ⟨S_, .f32⟩
  | 67 => ⟨S_, .f32⟩
  | 68 => ⟨S8x256x256, .f32⟩
  | 69 => ⟨S8x256x256, .f32⟩
  | 70 => ⟨S_, .f32⟩
  | 71 => ⟨S8x256, .f32⟩
  | 72 => ⟨S8x256x1, .f32⟩
  | 73 => ⟨S8x256x256, .f32⟩
  | 74 => ⟨S8x256x256, .i1⟩
  | 75 => ⟨S8x256x256, .f32⟩
  | 76 => ⟨S_, .f32⟩
  | 77 => ⟨S8x256, .f32⟩
  | 78 => ⟨S_, .f32⟩
  | 79 => ⟨S8x256, .f32⟩
  | 80 => ⟨S8x256, .f32⟩
  | 81 => ⟨S_, .f32⟩
  | 82 => ⟨S8x256, .f32⟩
  | 83 => ⟨S8x256, .i1⟩
  | 84 => ⟨S_, .f32⟩
  | 85 => ⟨S8x256, .f32⟩
  | 86 => ⟨S8x256, .i1⟩
  | 87 => ⟨S_, .f32⟩
  | 88 => ⟨S8x256, .f32⟩
  | 89 => ⟨S_, .f32⟩
  | 90 => ⟨S8x256, .f32⟩
  | 91 => ⟨S_, .f32⟩
  | 92 => ⟨S8x256, .f32⟩
  | 93 => ⟨S8x256, .f32⟩
  | 94 => ⟨S8x256, .f32⟩
  | 95 => ⟨S8x256x1, .f32⟩
  | 96 => ⟨S8x256x256, .f32⟩
  | 97 => ⟨S8x256x256, .f32⟩
  | 98 => ⟨S8x256x256, .f32⟩
  | 99 => ⟨S_, .f32⟩
  | 100 => ⟨S8x256, .f32⟩
  | 101 => ⟨S8x256x1, .f32⟩
  | 102 => ⟨S8x256x256, .f32⟩
  | 103 => ⟨S8x256x256, .f32⟩
  | 104 => ⟨S8x256x1, .f32⟩
  | 105 => ⟨S_, .f32⟩
  | 106 => ⟨S8x256x1, .f32⟩
  | 107 => ⟨S8x256x1, .f32⟩
  | 108 => ⟨S8x256x256, .bf16⟩
  | 109 => ⟨S8x256x256, .f32⟩
  | 110 => ⟨S8x128x256, .f32⟩
  | 111 => ⟨S256x8x128, .f32⟩
  | 112 => ⟨S8448x8x128, .f32⟩
  | 113 => ⟨S8448x1024, .f32⟩
  | 114 => ⟨S8448x8x128, .f32⟩
  | 115 => ⟨S8192x8x128, .f32⟩
  | 116 => ⟨S256x8x128, .f32⟩
  | 117 => ⟨S8x128x256, .f32⟩
  | 118 => ⟨S8x256x256, .f32⟩
  | 119 => ⟨S8x128x256, .f32⟩
  | 120 => ⟨S256x8x128, .f32⟩
  | 121 => ⟨S8x256x256, .bf16⟩
  | 122 => ⟨S8x256x256, .f32⟩
  | 123 => ⟨S8x256x256, .f32⟩
  | 124 => ⟨S8x256x256, .f32⟩
  | 125 => ⟨S8x256x256, .f32⟩
  | 126 => ⟨S_, .f32⟩
  | 127 => ⟨S8x256, .f32⟩
  | _ => ⟨S8448x2048, .bf16⟩

abbrev hbmTy0_1 (i : Nat) : BufTy := match i % 128 with
  | 0 => ⟨S8x256x1, .f32⟩
  | 1 => ⟨S8x256x1, .f32⟩
  | 2 => ⟨S8x256x256, .f32⟩
  | 3 => ⟨S8x256x256, .f32⟩
  | 4 => ⟨S_, .f32⟩
  | 5 => ⟨S8x256, .f32⟩
  | 6 => ⟨S8x256x256, .f32⟩
  | 7 => ⟨S8x256x256, .f32⟩
  | 8 => ⟨S8x256x256, .f32⟩
  | 9 => ⟨S8x256x256, .f32⟩
  | 10 => ⟨S8x256x256, .f32⟩
  | 11 => ⟨S8x256x256, .bf16⟩
  | 12 => ⟨S8x256x256, .f32⟩
  | 13 => ⟨S8x256x256, .f32⟩
  | 14 => ⟨S256x8x256, .f32⟩
  | 15 => ⟨S8x256x256, .f32⟩
  | 16 => ⟨S256x8x256, .f32⟩
  | 17 => ⟨S_, .f32⟩
  | 18 => ⟨S8448x8x128, .f32⟩
  | 19 => ⟨S_, .f32⟩
  | 20 => ⟨S8448x8x256, .f32⟩
  | 21 => ⟨S_, .f32⟩
  | 22 => ⟨S8448x8x256, .f32⟩
  | 23 => ⟨S8x128x8192, .f32⟩
  | 24 => ⟨S8x8192x8448, .f32⟩
  | 25 => ⟨S8x128x8448, .f32⟩
  | 26 => ⟨S8448x8x128, .f32⟩
  | 27 => ⟨S8448x8x128, .f32⟩
  | 28 => ⟨S8x8192x8448, .bf16⟩
  | 29 => ⟨S8x8192x8448, .f32⟩
  | 30 => ⟨S8x8192x8448, .f32⟩
  | 31 => ⟨S8x8192x8448, .f32⟩
  | 32 => ⟨S8x8192x8448, .f32⟩
  | 33 => ⟨S_, .f32⟩
  | 34 => ⟨S8x8192, .f32⟩
  | 35 => ⟨S8x8192x1, .f32⟩
  | 36 => ⟨S8x8192x1, .f32⟩
  | 37 => ⟨S8x8192x8448, .f32⟩
  | 38 => ⟨S8x8192x8448, .f32⟩
  | 39 => ⟨S_, .f32⟩
  | 40 => ⟨S8x8192, .f32⟩
  | 41 => ⟨S8x8192x8448, .f32⟩
  | 42 => ⟨S8x8192x8448, .f32⟩
  | 43 => ⟨S8x8192x8448, .f32⟩
  | 44 => ⟨S8x8192x8448, .f32⟩
  | 45 => ⟨S8x8192x8448, .f32⟩
  | 46 => ⟨S8x8192x8448, .bf16⟩
  | 47 => ⟨S8x8192x8448, .f32⟩
  | 48 => ⟨S8x8448x256, .f32⟩
  | 49 => ⟨S8448x8x256, .f32⟩
  | 50 => ⟨S8448x8x256, .f32⟩
  | 51 => ⟨S8x8192x256, .f32⟩
  | 52 => ⟨S8192x8x256, .f32⟩
  | 53 => ⟨S_, .f32⟩
  | 54 => ⟨S8448x8x256, .f32⟩
  | 55 => ⟨S8448x8x256, .f32⟩
  | 56 => ⟨S8448x1024, .f32⟩
  | 57 => ⟨S8448x2048, .f32⟩
  | 58 => ⟨S8448x2048, .f32⟩
  | _ => ⟨S8448x2048, .bf16⟩

abbrev hbmTy (i : Nat) : BufTy := match i / 128 with
  | 0 => hbmTy0_0 i
  | 1 => hbmTy0_1 i
  | _ => ⟨S8448x2048, .bf16⟩

abbrev bufTy : (tb : Table) → Fin (tcTables nBuf tb) → BufTy
  | .hbm, ⟨i, _⟩ => hbmTy i
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_cst_16 : Ref sig .tc := ⟨.hbm, 87, rfl⟩
abbrev main_v66 : Ref sig .tc := ⟨.hbm, 88, rfl⟩
abbrev main_cst_17 : Ref sig .tc := ⟨.hbm, 89, rfl⟩
abbrev main_v67 : Ref sig .tc := ⟨.hbm, 90, rfl⟩
abbrev main_cst_18 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_20 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_21 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_22 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_23 : Ref sig .tc := ⟨.hbm, 145, rfl⟩
abbrev main_v117 : Ref sig .tc := ⟨.hbm, 146, rfl⟩
abbrev main_cst_24 : Ref sig .tc := ⟨.hbm, 147, rfl⟩
abbrev main_v118 : Ref sig .tc := ⟨.hbm, 148, rfl⟩
abbrev main_cst_25 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_26 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_27 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_cst_28 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩

abbrev nD : Nat := 1
abbrev τ : Topo := Topo.v7x

variable {F : FTy → Type} [FloatOps F]
-- ==== Fwd.lean ====
abbrev S8448x2048 : Shape := ⟨2, ![8448, 2048]⟩
abbrev S8448x1024 : Shape := ⟨2, ![8448, 1024]⟩
abbrev S8x8448x1 : Shape := ⟨3, ![8, 8448, 1]⟩
abbrev S256x512 : Shape := ⟨2, ![256, 512]⟩
abbrev S8448x512 : Shape := ⟨2, ![8448, 512]⟩
abbrev S8448x256 : Shape := ⟨2, ![8448, 256]⟩
abbrev S256x256 : Shape := ⟨2, ![256, 256]⟩
abbrev S2x256x1 : Shape := ⟨3, ![2, 256, 1]⟩
abbrev S256x1 : Shape := ⟨2, ![256, 1]⟩
abbrev S256x128 : Shape := ⟨2, ![256, 128]⟩
abbrev S256 : Shape := ⟨1, ![256]⟩
abbrev S1024x256 : Shape := ⟨2, ![1024, 256]⟩
abbrev S256x1024 : Shape := ⟨2, ![256, 1024]⟩
abbrev S1024x128 : Shape := ⟨2, ![1024, 128]⟩
abbrev S1x256x1 : Shape := ⟨3, ![1, 256, 1]⟩

abbrev nBuf : Space → Nat
  | .hbm => 5
  | .vmem => 10
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x1024, .bf16⟩
  | .hbm, ⟨3, _⟩ => ⟨S8448x1024, .f32⟩
  | .hbm, ⟨4, _⟩ => ⟨S8x8448x1, .f32⟩
  | .local _ .vmem, ⟨0, _⟩ => ⟨S256x512, .bf16⟩
  | .local _ .vmem, ⟨1, _⟩ => ⟨S256x512, .bf16⟩
  | .local _ .vmem, ⟨2, _⟩ => ⟨S8448x512, .bf16⟩
  | .local _ .vmem, ⟨3, _⟩ => ⟨S8448x512, .bf16⟩
  | .local _ .vmem, ⟨4, _⟩ => ⟨S8448x256, .bf16⟩
  | .local _ .vmem, ⟨5, _⟩ => ⟨S8448x256, .bf16⟩
  | .local _ .vmem, ⟨6, _⟩ => ⟨S256x256, .f32⟩
  | .local _ .vmem, ⟨7, _⟩ => ⟨S256x256, .f32⟩
  | .local _ .vmem, ⟨8, _⟩ => ⟨S2x256x1, .f32⟩
  | .local _ .vmem, ⟨9, _⟩ => ⟨S2x256x1, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 33], ![false, false]⟩

def k0_mult1 : BitVec 32 :=
  let c0_i32_26 : BitVec 32 := 0#32
  let c0_i32_25 : BitVec 32 := 0#32
  let c7_i32 : BitVec 32 := 7#32
  let v57 : BitVec 32 := Scalar.minsi c0_i32_25 c7_i32
  let c1024_i32 : BitVec 32 := 1024#32
  let v58 : BitVec 32 := Scalar.muli v57 c1024_i32
  let v59 : BitVec 32 := Scalar.addi c0_i32_26 v58
  v59
def k0_off1 : Fin 2 → Nat :=
  let c0_i32_26 : BitVec 32 := 0#32
  let c0_i32_25 : BitVec 32 := 0#32
  let c7_i32 : BitVec 32 := 7#32
  let v57 : BitVec 32 := Scalar.minsi c0_i32_25 c7_i32
  let c1024_i32 : BitVec 32 := 1024#32
  let v58 : BitVec 32 := Scalar.muli v57 c1024_i32
  let v59 : BitVec 32 := Scalar.addi c0_i32_26 v58
  let v60 : BitVec 32 := v59
  let v61 : Index := Scalar.indexCast v60
  let c0_27 : Index := 0#32
  ![v61.toNat, 0]
def k0_off2 : Fin 2 → Nat :=
  let c0_i32_26 : BitVec 32 := 0#32
  let c0_i32_25 : BitVec 32 := 0#32
  let c7_i32 : BitVec 32 := 7#32
  let v57 : BitVec 32 := Scalar.minsi c0_i32_25 c7_i32
  let c1024_i32 : BitVec 32 := 1024#32
  let v58 : BitVec 32 := Scalar.muli v57 c1024_i32
  let v59 : BitVec 32 := Scalar.addi c0_i32_26 v58
  let v60 : BitVec 32 := v59
  let v64 : Index := Scalar.indexCast v60
  let c256_29 : Index := 256#32
  ![v64.toNat, 256]
@[reducible] def k0_t1_loop (i : grid0.Coords) : Scf.Loop 32 :=
  let c0_i32_31 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v3 : BitVec 1 := Scalar.cmpi .sge v0 c8192_i32
  let c0_i32 : BitVec 32 := 0#32
  let c8_i32 : BitVec 32 := 8#32
  let v4 : BitVec 32 := Scalar.select v3 c0_i32 c8_i32
  let v67 : BitVec 32 := Scalar.subi v4 c0_i32_31
  let c1_i32 : BitVec 32 := 1#32
  let v69 : BitVec 32 := Scalar.divsi v67 c1_i32
  let v70 : BitVec 32 := Scalar.muli v69 c1_i32
  let v71 : BitVec 32 := Scalar.addi c0_i32_31 v70
  let c1_i32_32 : BitVec 32 := 1#32
  ⟨c0_i32_31, v71, c1_i32_32⟩
def k0_mult2 (i : grid0.Coords) (k0_t1 : Fin (k0_t1_loop i).trips) : BitVec 32 :=
  let c0_i32_48 : BitVec 32 := 0#32
  let c0_i32_31 : BitVec 32 := 0#32
  let c1_i32_32 : BitVec 32 := 1#32
  let arg7 : BitVec 32 := Scf.iv c0_i32_31 c1_i32_32 k0_t1
  let c1_i32_45 : BitVec 32 := 1#32
  let v98 : BitVec 32 := Scalar.addi arg7 c1_i32_45
  let c7_i32_46 : BitVec 32 := 7#32
  let v99 : BitVec 32 := Scalar.minsi v98 c7_i32_46
  let c1024_i32_47 : BitVec 32 := 1024#32
  let v100 : BitVec 32 := Scalar.muli v99 c1024_i32_47
  let v101 : BitVec 32 := Scalar.addi c0_i32_48 v100
  v101
def k0_off3 (i : grid0.Coords) (k0_t1 : Fin (k0_t1_loop i).trips) : Fin 2 → Nat :=
  let c0_i32_48 : BitVec 32 := 0#32
  let c0_i32_31 : BitVec 32 := 0#32
  let c1_i32_32 : BitVec 32 := 1#32
  let arg7 : BitVec 32 := Scf.iv c0_i32_31 c1_i32_32 k0_t1
  let c1_i32_45 : BitVec 32 := 1#32
  let v98 : BitVec 32 := Scalar.addi arg7 c1_i32_45
  let c7_i32_46 : BitVec 32 := 7#32
  let v99 : BitVec 32 := Scalar.minsi v98 c7_i32_46
  let c1024_i32_47 : BitVec 32 := 1024#32
  let v100 : BitVec 32 := Scalar.muli v99 c1024_i32_47
  let v101 : BitVec 32 := Scalar.addi c0_i32_48 v100
  let v102 : BitVec 32 := v101
  let v103 : Index := Scalar.indexCast v102
  let c0_49 : Index := 0#32
  ![v103.toNat, 0]
def k0_off4 (i : grid0.Coords) (k0_t1 : Fin (k0_t1_loop i).trips) : Fin 2 → Nat :=
  let c0_i32_48 : BitVec 32 := 0#32
  let c0_i32_31 : BitVec 32 := 0#32
  let c1_i32_32 : BitVec 32 := 1#32
  let arg7 : BitVec 32 := Scf.iv c0_i32_31 c1_i32_32 k0_t1
  let c1_i32_45 : BitVec 32 := 1#32
  let v98 : BitVec 32 := Scalar.addi arg7 c1_i32_45
  let c7_i32_46 : BitVec 32 := 7#32
  let v99 : BitVec 32 := Scalar.minsi v98 c7_i32_46
  let c1024_i32_47 : BitVec 32 := 1024#32
  let v100 : BitVec 32 := Scalar.muli v99 c1024_i32_47
  let v101 : BitVec 32 := Scalar.addi c0_i32_48 v100
  let v102 : BitVec 32 := v101
  let v106 : Index := Scalar.indexCast v102
  let c256_51 : Index := 256#32
  ![v106.toNat, 256]
def k0_mult3 (i : grid0.Coords) (k0_t1 : Fin (k0_t1_loop i).trips) : BitVec 32 :=
  let c0_i32_55 : BitVec 32 := 0#32
  let c0_i32_31 : BitVec 32 := 0#32
  let c1_i32_32 : BitVec 32 := 1#32
  let arg7 : BitVec 32 := Scf.iv c0_i32_31 c1_i32_32 k0_t1
  let c7_i32_53 : BitVec 32 := 7#32
  let v109 : BitVec 32 := Scalar.minsi arg7 c7_i32_53
  let c1024_i32_54 : BitVec 32 := 1024#32
  let v110 : BitVec 32 := Scalar.muli v109 c1024_i32_54
  let v111 : BitVec 32 := Scalar.addi c0_i32_55 v110
  v111
def k0_off5 (i : grid0.Coords) (k0_t1 : Fin (k0_t1_loop i).trips) : Fin 2 → Nat :=
  let c0_i32_55 : BitVec 32 := 0#32
  let c0_i32_31 : BitVec 32 := 0#32
  let c1_i32_32 : BitVec 32 := 1#32
  let arg7 : BitVec 32 := Scf.iv c0_i32_31 c1_i32_32 k0_t1
  let c7_i32_53 : BitVec 32 := 7#32
  let v109 : BitVec 32 := Scalar.minsi arg7 c7_i32_53
  let c1024_i32_54 : BitVec 32 := 1024#32
  let v110 : BitVec 32 := Scalar.muli v109 c1024_i32_54
  let v111 : BitVec 32 := Scalar.addi c0_i32_55 v110
  let v112 : BitVec 32 := v111
  let v126 : Index := Scalar.indexCast v112
  let c0_59 : Index := 0#32
  ![v126.toNat, 0]
def k0_off6 (i : grid0.Coords) (k0_t1 : Fin (k0_t1_loop i).trips) : Fin 2 → Nat :=
  let c0_i32_55 : BitVec 32 := 0#32
  let c0_i32_31 : BitVec 32 := 0#32
  let c1_i32_32 : BitVec 32 := 1#32
  let arg7 : BitVec 32 := Scf.iv c0_i32_31 c1_i32_32 k0_t1
  let c7_i32_53 : BitVec 32 := 7#32
  let v109 : BitVec 32 := Scalar.minsi arg7 c7_i32_53
  let c1024_i32_54 : BitVec 32 := 1024#32
  let v110 : BitVec 32 := Scalar.muli v109 c1024_i32_54
  let v111 : BitVec 32 := Scalar.addi c0_i32_55 v110
  let v112 : BitVec 32 := v111
  let v147 : Index := Scalar.indexCast v112
  let c128_65 : Index := 128#32
  ![v147.toNat, 128]
@[reducible] def k0_t2_loop (i : grid0.Coords) : Scf.Loop 32 :=
  let c0_i32_31 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v3 : BitVec 1 := Scalar.cmpi .sge v0 c8192_i32
  let c0_i32 : BitVec 32 := 0#32
  let c8_i32 : BitVec 32 := 8#32
  let v4 : BitVec 32 := Scalar.select v3 c0_i32 c8_i32
  let v67 : BitVec 32 := Scalar.subi v4 c0_i32_31
  let c1_i32 : BitVec 32 := 1#32
  let v69 : BitVec 32 := Scalar.divsi v67 c1_i32
  let v70 : BitVec 32 := Scalar.muli v69 c1_i32
  let v71 : BitVec 32 := Scalar.addi c0_i32_31 v70
  let v68 : BitVec 32 := Scalar.addi c0_i32_31 v67
  let c1_i32_33 : BitVec 32 := 1#32
  ⟨v71, v68, c1_i32_33⟩
def k0_mult4 (i : grid0.Coords) (k0_t2 : Fin (k0_t2_loop i).trips) : BitVec 32 :=
  let c0_i32_48 : BitVec 32 := 0#32
  let c0_i32_31 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v3 : BitVec 1 := Scalar.cmpi .sge v0 c8192_i32
  let c0_i32 : BitVec 32 := 0#32
  let c8_i32 : BitVec 32 := 8#32
  let v4 : BitVec 32 := Scalar.select v3 c0_i32 c8_i32
  let v67 : BitVec 32 := Scalar.subi v4 c0_i32_31
  let c1_i32 : BitVec 32 := 1#32
  let v69 : BitVec 32 := Scalar.divsi v67 c1_i32
  let v70 : BitVec 32 := Scalar.muli v69 c1_i32
  let v71 : BitVec 32 := Scalar.addi c0_i32_31 v70
  let c1_i32_33 : BitVec 32 := 1#32
  let arg7 : BitVec 32 := Scf.iv v71 c1_i32_33 k0_t2
  let c1_i32_45 : BitVec 32 := 1#32
  let v98 : BitVec 32 := Scalar.addi arg7 c1_i32_45
  let c7_i32_46 : BitVec 32 := 7#32
  let v99 : BitVec 32 := Scalar.minsi v98 c7_i32_46
  let c1024_i32_47 : BitVec 32 := 1024#32
  let v100 : BitVec 32 := Scalar.muli v99 c1024_i32_47
  let v101 : BitVec 32 := Scalar.addi c0_i32_48 v100
  v101
def k0_off7 (i : grid0.Coords) (k0_t2 : Fin (k0_t2_loop i).trips) : Fin 2 → Nat :=
  let c0_i32_48 : BitVec 32 := 0#32
  let c0_i32_31 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v3 : BitVec 1 := Scalar.cmpi .sge v0 c8192_i32
  let c0_i32 : BitVec 32 := 0#32
  let c8_i32 : BitVec 32 := 8#32
  let v4 : BitVec 32 := Scalar.select v3 c0_i32 c8_i32
  let v67 : BitVec 32 := Scalar.subi v4 c0_i32_31
  let c1_i32 : BitVec 32 := 1#32
  let v69 : BitVec 32 := Scalar.divsi v67 c1_i32
  let v70 : BitVec 32 := Scalar.muli v69 c1_i32
  let v71 : BitVec 32 := Scalar.addi c0_i32_31 v70
  let c1_i32_33 : BitVec 32 := 1#32
  let arg7 : BitVec 32 := Scf.iv v71 c1_i32_33 k0_t2
  let c1_i32_45 : BitVec 32 := 1#32
  let v98 : BitVec 32 := Scalar.addi arg7 c1_i32_45
  let c7_i32_46 : BitVec 32 := 7#32
  let v99 : BitVec 32 := Scalar.minsi v98 c7_i32_46
  let c1024_i32_47 : BitVec 32 := 1024#32
  let v100 : BitVec 32 := Scalar.muli v99 c1024_i32_47
  let v101 : BitVec 32 := Scalar.addi c0_i32_48 v100
  let v102 : BitVec 32 := v101
  let v103 : Index := Scalar.indexCast v102
  let c0_49 : Index := 0#32
  ![v103.toNat, 0]
def k0_off8 (i : grid0.Coords) (k0_t2 : Fin (k0_t2_loop i).trips) : Fin 2 → Nat :=
  let c0_i32_48 : BitVec 32 := 0#32
  let c0_i32_31 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v3 : BitVec 1 := Scalar.cmpi .sge v0 c8192_i32
  let c0_i32 : BitVec 32 := 0#32
  let c8_i32 : BitVec 32 := 8#32
  let v4 : BitVec 32 := Scalar.select v3 c0_i32 c8_i32
  let v67 : BitVec 32 := Scalar.subi v4 c0_i32_31
  let c1_i32 : BitVec 32 := 1#32
  let v69 : BitVec 32 := Scalar.divsi v67 c1_i32
  let v70 : BitVec 32 := Scalar.muli v69 c1_i32
  let v71 : BitVec 32 := Scalar.addi c0_i32_31 v70
  let c1_i32_33 : BitVec 32 := 1#32
  let arg7 : BitVec 32 := Scf.iv v71 c1_i32_33 k0_t2
  let c1_i32_45 : BitVec 32 := 1#32
  let v98 : BitVec 32 := Scalar.addi arg7 c1_i32_45
  let c7_i32_46 : BitVec 32 := 7#32
  let v99 : BitVec 32 := Scalar.minsi v98 c7_i32_46
  let c1024_i32_47 : BitVec 32 := 1024#32
  let v100 : BitVec 32 := Scalar.muli v99 c1024_i32_47
  let v101 : BitVec 32 := Scalar.addi c0_i32_48 v100
  let v102 : BitVec 32 := v101
  let v106 : Index := Scalar.indexCast v102
  let c256_51 : Index := 256#32
  ![v106.toNat, 256]
def k0_mult5 (i : grid0.Coords) (k0_t2 : Fin (k0_t2_loop i).trips) : BitVec 32 :=
  let c0_i32_55 : BitVec 32 := 0#32
  let c0_i32_31 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v3 : BitVec 1 := Scalar.cmpi .sge v0 c8192_i32
  let c0_i32 : BitVec 32 := 0#32
  let c8_i32 : BitVec 32 := 8#32
  let v4 : BitVec 32 := Scalar.select v3 c0_i32 c8_i32
  let v67 : BitVec 32 := Scalar.subi v4 c0_i32_31
  let c1_i32 : BitVec 32 := 1#32
  let v69 : BitVec 32 := Scalar.divsi v67 c1_i32
  let v70 : BitVec 32 := Scalar.muli v69 c1_i32
  let v71 : BitVec 32 := Scalar.addi c0_i32_31 v70
  let c1_i32_33 : BitVec 32 := 1#32
  let arg7 : BitVec 32 := Scf.iv v71 c1_i32_33 k0_t2
  let c7_i32_53 : BitVec 32 := 7#32
  let v109 : BitVec 32 := Scalar.minsi arg7 c7_i32_53
  let c1024_i32_54 : BitVec 32 := 1024#32
  let v110 : BitVec 32 := Scalar.muli v109 c1024_i32_54
  let v111 : BitVec 32 := Scalar.addi c0_i32_55 v110
  v111
def k0_off9 (i : grid0.Coords) (k0_t2 : Fin (k0_t2_loop i).trips) : Fin 2 → Nat :=
  let c0_i32_55 : BitVec 32 := 0#32
  let c0_i32_31 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v3 : BitVec 1 := Scalar.cmpi .sge v0 c8192_i32
  let c0_i32 : BitVec 32 := 0#32
  let c8_i32 : BitVec 32 := 8#32
  let v4 : BitVec 32 := Scalar.select v3 c0_i32 c8_i32
  let v67 : BitVec 32 := Scalar.subi v4 c0_i32_31
  let c1_i32 : BitVec 32 := 1#32
  let v69 : BitVec 32 := Scalar.divsi v67 c1_i32
  let v70 : BitVec 32 := Scalar.muli v69 c1_i32
  let v71 : BitVec 32 := Scalar.addi c0_i32_31 v70
  let c1_i32_33 : BitVec 32 := 1#32
  let arg7 : BitVec 32 := Scf.iv v71 c1_i32_33 k0_t2
  let c7_i32_53 : BitVec 32 := 7#32
  let v109 : BitVec 32 := Scalar.minsi arg7 c7_i32_53
  let c1024_i32_54 : BitVec 32 := 1024#32
  let v110 : BitVec 32 := Scalar.muli v109 c1024_i32_54
  let v111 : BitVec 32 := Scalar.addi c0_i32_55 v110
  let v112 : BitVec 32 := v111
  let v126 : Index := Scalar.indexCast v112
  let c0_59 : Index := 0#32
  ![v126.toNat, 0]
def k0_off10 (i : grid0.Coords) (k0_t2 : Fin (k0_t2_loop i).trips) : Fin 2 → Nat :=
  let c0_i32_55 : BitVec 32 := 0#32
  let c0_i32_31 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v3 : BitVec 1 := Scalar.cmpi .sge v0 c8192_i32
  let c0_i32 : BitVec 32 := 0#32
  let c8_i32 : BitVec 32 := 8#32
  let v4 : BitVec 32 := Scalar.select v3 c0_i32 c8_i32
  let v67 : BitVec 32 := Scalar.subi v4 c0_i32_31
  let c1_i32 : BitVec 32 := 1#32
  let v69 : BitVec 32 := Scalar.divsi v67 c1_i32
  let v70 : BitVec 32 := Scalar.muli v69 c1_i32
  let v71 : BitVec 32 := Scalar.addi c0_i32_31 v70
  let c1_i32_33 : BitVec 32 := 1#32
  let arg7 : BitVec 32 := Scf.iv v71 c1_i32_33 k0_t2
  let c7_i32_53 : BitVec 32 := 7#32
  let v109 : BitVec 32 := Scalar.minsi arg7 c7_i32_53
  let c1024_i32_54 : BitVec 32 := 1024#32
  let v110 : BitVec 32 := Scalar.muli v109 c1024_i32_54
  let v111 : BitVec 32 := Scalar.addi c0_i32_55 v110
  let v112 : BitVec 32 := v111
  let v147 : Index := Scalar.indexCast v112
  let c128_65 : Index := 128#32
  ![v147.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== FwdRefIdeal.lean ====
abbrev S8448x2048 : Shape := ⟨2, ![8448, 2048]⟩
abbrev S8448x1024 : Shape := ⟨2, ![8448, 1024]⟩
abbrev S8448x8x256 : Shape := ⟨3, ![8448, 8, 256]⟩
abbrev S8448x8x128 : Shape := ⟨3, ![8448, 8, 128]⟩
abbrev S8192x8x256 : Shape := ⟨3, ![8192, 8, 256]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S256x8x256 : Shape := ⟨3, ![256, 8, 256]⟩
abbrev S256x8x128 : Shape := ⟨3, ![256, 8, 128]⟩
abbrev S8x256x256 : Shape := ⟨3, ![8, 256, 256]⟩
abbrev S8x256 : Shape := ⟨2, ![8, 256]⟩
abbrev S8x256x1 : Shape := ⟨3, ![8, 256, 1]⟩
abbrev S8x128x256 : Shape := ⟨3, ![8, 128, 256]⟩
abbrev S8x8448x1 : Shape := ⟨3, ![8, 8448, 1]⟩

abbrev nBuf : Space → Nat
  | .hbm => 117
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x1024, .bf16⟩
  | .hbm, ⟨3, _⟩ => ⟨S8448x2048, .f32⟩
  | .hbm, ⟨4, _⟩ => ⟨S8448x8x256, .f32⟩
  | .hbm, ⟨5, _⟩ => ⟨S8448x2048, .f32⟩
  | .hbm, ⟨6, _⟩ => ⟨S8448x8x256, .f32⟩
  | .hbm, ⟨7, _⟩ => ⟨S8448x1024, .f32⟩
  | .hbm, ⟨8, _⟩ => ⟨S8448x8x128, .f32⟩
  | .hbm, ⟨9, _⟩ => ⟨S8192x8x256, .f32⟩
  | .hbm, ⟨10, _⟩ => ⟨S8x8192x8448, .f32⟩
  | .hbm, ⟨11, _⟩ => ⟨S8x8192x8448, .bf16⟩
  | .hbm, ⟨12, _⟩ => ⟨S8x8192x8448, .f32⟩
  | .hbm, ⟨13, _⟩ => ⟨S_, .f32⟩
  | .hbm, ⟨14, _⟩ => ⟨S_, .f32⟩
  | .hbm, ⟨15, _⟩ => ⟨S8x8192x8448, .f32⟩
  | .hbm, ⟨16, _⟩ => ⟨S8x8192x8448, .f32⟩
  | .hbm, ⟨17, _⟩ => ⟨S_, .f32⟩
  | .hbm, ⟨18, _⟩ => ⟨S8x8192, .f32⟩
  | .hbm, ⟨19, _⟩ => ⟨S_, .f32⟩
  | .hbm, ⟨20, _⟩ => ⟨S8x8192, .f32⟩
  | .hbm, ⟨21, _⟩ => ⟨S8x8192, .f32⟩
  | .hbm, ⟨22, _⟩ => ⟨S8x8192x1, .f32⟩
  | .hbm, ⟨23, _⟩ => ⟨S8x8192x8448, .f32⟩
  | .hbm, ⟨24, _⟩ => ⟨S8x8192x8448, .f32⟩
  | .hbm, ⟨25, _⟩ => ⟨S8x8192x8448, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8448, .f32⟩
  | .hbm, ⟨30, _⟩ => ⟨S8x8192x8448, .f32⟩
  | .hbm, ⟨31, _⟩ => ⟨S8x8192x8448, .bf16⟩
  | .hbm, ⟨32, _⟩ => ⟨S8x8192x8448, .f32⟩
  | .hbm, ⟨33, _⟩ => ⟨S8x128x8192, .f32⟩
  | .hbm, ⟨34, _⟩ => ⟨S8192x8x128, .f32⟩
  | .hbm, ⟨35, _⟩ => ⟨S256x8x256, .f32⟩
  | .hbm, ⟨36, _⟩ => ⟨S256x8x256, .f32⟩
  | .hbm, ⟨37, _⟩ => ⟨S256x8x128, .f32⟩
  | .hbm, ⟨38, _⟩ => ⟨S8x256x256, .f32⟩
  | .hbm, ⟨39, _⟩ => ⟨S8x256x256, .bf16⟩
  | .hbm, ⟨40, _⟩ => ⟨S8x256x256, .f32⟩
  | .hbm, ⟨41, _⟩ => ⟨S_, .f32⟩
  | .hbm, ⟨42, _⟩ => ⟨S_, .f32⟩
  | .hbm, ⟨43, _⟩ => ⟨S8x256x256, .f32⟩
  | .hbm, ⟨44, _⟩ => ⟨S8x256x256, .f32⟩
  | .hbm, ⟨45, _⟩ => ⟨S_, .f32⟩
  | .hbm, ⟨46, _⟩ => ⟨S8x256, .f32⟩
  | .hbm, ⟨47, _⟩ => ⟨S_, .f32⟩
  | .hbm, ⟨48, _⟩ => ⟨S8x256, .f32⟩
  | .hbm, ⟨49, _⟩ => ⟨S8x256, .f32⟩
  | .hbm, ⟨50, _⟩ => ⟨S8x256x1, .f32⟩
  | .hbm, ⟨51, _⟩ => ⟨S8x256x256, .f32⟩
  | .hbm, ⟨52, _⟩ => ⟨S8x256x256, .f32⟩
  | .hbm, ⟨53, _⟩ => ⟨S8x256x256, .f32⟩
  | .hbm, ⟨54, _⟩ => ⟨S_, .f32⟩
  | .hbm, ⟨55, _⟩ => ⟨S8x256, .f32⟩
  | .hbm, ⟨56, _⟩ => ⟨S8x256x1, .f32⟩
  | .hbm, ⟨57, _⟩ => ⟨S8x256x256, .f32⟩
  | .hbm, ⟨58, _⟩ => ⟨S8x256x256, .f32⟩
  | .hbm, ⟨59, _⟩ => ⟨S8x256x256, .bf16⟩
  | .hbm, ⟨60, _⟩ => ⟨S8x256x256, .f32⟩
  | .hbm, ⟨61, _⟩ => ⟨S8x128x256, .f32⟩
  | .hbm, ⟨62, _⟩ => ⟨S256x8x128, .f32⟩
  | .hbm, ⟨63, _⟩ => ⟨S8448x8x128, .f32⟩
  | .hbm, ⟨64, _⟩ => ⟨S8448x1024, .f32⟩
  | .hbm, ⟨65, _⟩ => ⟨S8448x2048, .f32⟩
  | .hbm, ⟨66, _⟩ => ⟨S8448x8x256, .f32⟩
  | .hbm, ⟨67, _⟩ => ⟨S8448x2048, .f32⟩
  | .hbm, ⟨68, _⟩ => ⟨S8448x8x256, .f32⟩
  | .hbm, ⟨69, _⟩ => ⟨S8192x8x256, .f32⟩
  | .hbm, ⟨70, _⟩ => ⟨S8x8192x8448, .f32⟩
  | .hbm, ⟨71, _⟩ => ⟨S8x8192x8448, .bf16⟩
  | .hbm, ⟨72, _⟩ => ⟨S8x8192x8448, .f32⟩
  | .hbm, ⟨73, _⟩ => ⟨S_, .f32⟩
  | .hbm, ⟨74, _⟩ => ⟨S_, .f32⟩
  | .hbm, ⟨75, _⟩ => ⟨S8x8192x8448, .f32⟩
  | .hbm, ⟨76, _⟩ => ⟨S8x8192x8448, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S8x8192x8448, .f32⟩
  | .hbm, ⟨81, _⟩ => ⟨S8x8192x8448, .f32⟩
  | .hbm, ⟨82, _⟩ => ⟨S8x8192x8448, .f32⟩
  | .hbm, ⟨83, _⟩ => ⟨S_, .f32⟩
  | .hbm, ⟨84, _⟩ => ⟨S8x8192, .f32⟩
  | .hbm, ⟨85, _⟩ => ⟨S8x8192x1, .f32⟩
  | .hbm, ⟨86, _⟩ => ⟨S8x8192x1, .f32⟩
  | .hbm, ⟨87, _⟩ => ⟨S8x8192x1, .f32⟩
  | .hbm, ⟨88, _⟩ => ⟨S_, .f32⟩
  | .hbm, ⟨89, _⟩ => ⟨S_, .f32⟩
  | .hbm, ⟨90, _⟩ => ⟨S8x8192x1, .f32⟩
  | .hbm, ⟨91, _⟩ => ⟨S8x8192x1, .f32⟩
  | .hbm, ⟨92, _⟩ => ⟨S256x8x256, .f32⟩
  | .hbm, ⟨93, _⟩ => ⟨S256x8x256, .f32⟩
  | .hbm, ⟨94, _⟩ => ⟨S8x256x256, .f32⟩
  | .hbm, ⟨95, _⟩ => ⟨S8x256x256, .bf16⟩
  | .hbm, ⟨96, _⟩ => ⟨S8x256x256, .f32⟩
  | .hbm, ⟨97, _⟩ => ⟨S_, .f32⟩
  | .hbm, ⟨98, _⟩ => ⟨S_, .f32⟩
  | .hbm, ⟨99, _⟩ => ⟨S8x256x256, .f32⟩
  | .hbm, ⟨100, _⟩ => ⟨S8x256x256, .f32⟩
  | .hbm, ⟨101, _⟩ => ⟨S_, .f32⟩
  | .hbm, ⟨102, _⟩ => ⟨S8x256, .f32⟩
  | .hbm, ⟨103, _⟩ => ⟨S8x256x1, .f32⟩
  | .hbm, ⟨104, _⟩ => ⟨S8x256x256, .f32⟩
  | .hbm, ⟨105, _⟩ => ⟨S8x256x256, .f32⟩
  | .hbm, ⟨106, _⟩ => ⟨S8x256x256, .f32⟩
  | .hbm, ⟨107, _⟩ => ⟨S_, .f32⟩
  | .hbm, ⟨108, _⟩ => ⟨S8x256, .f32⟩
  | .hbm, ⟨109, _⟩ => ⟨S8x256x1, .f32⟩
  | .hbm, ⟨110, _⟩ => ⟨S8x256x1, .f32⟩
  | .hbm, ⟨111, _⟩ => ⟨S8x256x1, .f32⟩
  | .hbm, ⟨112, _⟩ => ⟨S_, .f32⟩
  | .hbm, ⟨113, _⟩ => ⟨S_, .f32⟩
  | .hbm, ⟨114, _⟩ => ⟨S8x256x1, .f32⟩
  | .hbm, ⟨115, _⟩ => ⟨S8x256x1, .f32⟩
  | .hbm, ⟨116, _⟩ => ⟨S8x8448x1, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_8 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_9 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_10 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_11 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_12 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_13 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_14 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩

abbrev nD : Nat := 1
abbrev τ : Topo := Topo.v7x

variable {F : FTy → Type} [FloatOps F]

def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== Up.lean ====
abbrev S8448x1024 : Shape := ⟨2, ![8448, 1024]⟩
abbrev S2816x1024 : Shape := ⟨2, ![2816, 1024]⟩
abbrev S8448x2816 : Shape := ⟨2, ![8448, 2816]⟩
abbrev S768x1024 : Shape := ⟨2, ![768, 1024]⟩
abbrev S768x2816 : Shape := ⟨2, ![768, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S2816x1024, .bf16⟩
  | .local _ .vmem, ⟨3, _⟩ => ⟨S768x2816, .bf16⟩
  | .local _ .vmem, ⟨4, _⟩ => ⟨S768x2816, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8448x1024 : Shape := ⟨2, ![8448, 1024]⟩
abbrev S2816x1024 : Shape := ⟨2, ![2816, 1024]⟩
abbrev S1024x2816 : Shape := ⟨2, ![1024, 2816]⟩
abbrev S8448x2816 : Shape := ⟨2, ![8448, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x1024, .f32⟩
  | .hbm, ⟨3, _⟩ => ⟨S2816x1024, .f32⟩
  | .hbm, ⟨4, _⟩ => ⟨S1024x2816, .f32⟩
  | .hbm, ⟨5, _⟩ => ⟨S8448x2816, .f32⟩
  | .hbm, ⟨6, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownDa.lean ====
abbrev S8448x1024 : Shape := ⟨2, ![8448, 1024]⟩
abbrev S2816x1024 : Shape := ⟨2, ![2816, 1024]⟩
abbrev S8448x2816 : Shape := ⟨2, ![8448, 2816]⟩
abbrev S384x1024 : Shape := ⟨2, ![384, 1024]⟩
abbrev S384x2816 : Shape := ⟨2, ![384, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .f32⟩
  | .local _ .vmem, ⟨0, _⟩ => ⟨S384x1024, .bf16⟩
  | .local _ .vmem, ⟨1, _⟩ => ⟨S384x1024, .bf16⟩
  | .local _ .vmem, ⟨2, _⟩ => ⟨S2816x1024, .bf16⟩
  | .local _ .vmem, ⟨3, _⟩ => ⟨S384x2816, .f32⟩
  | .local _ .vmem, ⟨4, _⟩ => ⟨S384x2816, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![22, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaRefIdeal.lean ====
abbrev S8448x1024 : Shape := ⟨2, ![8448, 1024]⟩
abbrev S2816x1024 : Shape := ⟨2, ![2816, 1024]⟩
abbrev S_ : Shape := ⟨0, ![]⟩
abbrev S8448x2816 : Shape := ⟨2, ![8448, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S_, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S8448x1024, .f32⟩
  | .hbm, ⟨7, _⟩ => ⟨S8448x2816, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDa.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDaRefIdeal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjF.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1024, .bf16⟩
  | .hbm, ⟨2, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFIdeal.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1024, .bf16⟩
  | .hbm, ⟨2, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFRefIdeal.lean ====
abbrev S8448x1024 : Shape := ⟨2, ![8448, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .bf16⟩
  | .hbm, ⟨2, _⟩ => ⟨S1024x1024, .f32⟩
  | .hbm, ⟨3, _⟩ => ⟨S8448x1024, .f32⟩
  | .hbm, ⟨4, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjB.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBRefIdeal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S8448x1024 : Shape := ⟨2, ![8448, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In0.lean ====
abbrev S8448x1024 : Shape := ⟨2, ![8448, 1024]⟩
abbrev S1536x1024 : Shape := ⟨2, ![1536, 1024]⟩
abbrev S32x1024 : Shape := ⟨2, ![32, 1024]⟩
abbrev S256x1024 : Shape := ⟨2, ![256, 1024]⟩
abbrev S128x1024 : Shape := ⟨2, ![128, 1024]⟩
abbrev S1024x1024 : Shape := ⟨2, ![1024, 1024]⟩
abbrev S8448x1536 : Shape := ⟨2, ![8448, 1536]⟩
abbrev S8448x32 : Shape := ⟨2, ![8448, 32]⟩
abbrev S8448x256 : Shape := ⟨2, ![8448, 256]⟩
abbrev S8448x128 : Shape := ⟨2, ![8448, 128]⟩
abbrev S384x1024 : Shape := ⟨2, ![384, 1024]⟩
abbrev S384x1536 : Shape := ⟨2, ![384, 1536]⟩
abbrev S384x32 : Shape := ⟨2, ![384, 32]⟩
abbrev S384x256 : Shape := ⟨2, ![384, 256]⟩
abbrev S384x128 : Shape := ⟨2, ![384, 128]⟩

abbrev nBuf : Space → Nat
  | .hbm => 15
  | .vmem => 23
  | .smem => 0
  | _ => 0

abbrev bufTy : (tb : Table) → Fin (tcTables nBuf tb) → BufTy
  | .hbm, ⟨0, _⟩ => ⟨S8448x1024, .bf16⟩
  | .hbm, ⟨1, _⟩ => ⟨S1536x1024, .bf16⟩
  | .hbm, ⟨2, _⟩ => ⟨S32x1024, .bf16⟩
  | .hbm, ⟨3, _⟩ => ⟨S256x1024, .bf16⟩
  | .hbm, ⟨4, _⟩ => ⟨S256x1024, .bf16⟩
  | .hbm, ⟨5, _⟩ => ⟨S256x1024, .bf16⟩
  | .hbm, ⟨6, _⟩ => ⟨S128x1024, .bf16⟩
  | .hbm, ⟨7, _⟩ => ⟨S1024x1024, .bf16⟩
  | .hbm, ⟨8, _⟩ => ⟨S8448x1536, .f32⟩
  | .hbm, ⟨9, _⟩ => ⟨S8448x32, .f32⟩
  | .hbm, ⟨10, _⟩ => ⟨S8448x256, .f32⟩
  | .hbm, ⟨11, _⟩ => ⟨S8448x256, .f32⟩
  | .hbm, ⟨12, _⟩ => ⟨S8448x256, .f32⟩
  | .hbm, ⟨13, _⟩ => ⟨S8448x128, .f32⟩
  | .hbm, ⟨14, _⟩ => ⟨S8448x1024, .f32⟩
  | .local _ .vmem, ⟨0, _⟩ => ⟨S384x1024, .bf16⟩
  | .local _ .vmem, ⟨1, _⟩ => ⟨S384x1024, .bf16⟩
  | .local _ .vmem, ⟨2, _⟩ => ⟨S1536x1024, .bf16⟩
  | .local _ .vmem, ⟨3, _⟩ => ⟨S32x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S128x1024, .bf16⟩
  | .local _ .vmem, ⟨8, _⟩ => ⟨S1024x1024, .bf16⟩
  | .local _ .vmem, ⟨9, _⟩ => ⟨S384x1536, .f32⟩
  | .local _ .vmem, ⟨10, _⟩ => ⟨S384x1536, .f32⟩
  | .local _ .vmem, ⟨11, _⟩ => ⟨S384x32, .f32⟩
  | .local _ .vmem, ⟨12, _⟩ => ⟨S384x32, .f32⟩
  | .local _ .vmem, ⟨13, _⟩ => ⟨S384x256, .f32⟩
  | .local _ .vmem, ⟨14, _⟩ => ⟨S384x256, .f32⟩
  | .local _ .vmem, ⟨15, _⟩ => ⟨S384x256, .f32⟩
  | .local _ .vmem, ⟨16, _⟩ => ⟨S384x256, .f32⟩
  | .local _ .vmem, ⟨17, _⟩ => ⟨S384x256, .f32⟩
  | .local _ .vmem, ⟨18, _⟩ => ⟨S384x256, .f32⟩
  | .local _ .vmem, ⟨19, _⟩ => ⟨S384x128, .f32⟩
  | .local _ .vmem, ⟨20, _⟩ => ⟨S384x128, .f32⟩
  | .local _ .vmem, ⟨21, _⟩ => ⟨S384x1024, .f32⟩
  | .local _ .vmem, ⟨22, _⟩ => ⟨S384x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== In0RefIdeal.lean ====
abbrev S8448x1024 : Shape := ⟨2, ![8448, 1024]⟩
abbrev S1536x1024 : Shape := ⟨2, ![1536, 1024]⟩
abbrev S32x1024 : Shape := ⟨2, ![32, 1024]⟩
abbrev S256x1024 : Shape := ⟨2, ![256, 1024]⟩
abbrev S128x1024 : Shape := ⟨2, ![128, 1024]⟩
abbrev S1024x1024 : Shape := ⟨2, ![1024, 1024]⟩
abbrev S1024x1536 : Shape := ⟨2, ![1024, 1536]⟩
abbrev S8448x1536 : Shape := ⟨2, ![8448, 1536]⟩
abbrev S1024x32 : Shape := ⟨2, ![1024, 32]⟩
abbrev S8448x32 : Shape := ⟨2, ![8448, 32]⟩
abbrev S1024x256 : Shape := ⟨2, ![1024, 256]⟩
abbrev S8448x256 : Shape := ⟨2, ![8448, 256]⟩
abbrev S1024x128 : Shape := ⟨2, ![1024, 128]⟩
abbrev S8448x128 : Shape := ⟨2, ![8448, 128]⟩

abbrev nBuf : Space → Nat
  | .hbm => 36
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1536x1024, .bf16⟩
  | .hbm, ⟨2, _⟩ => ⟨S32x1024, .bf16⟩
  | .hbm, ⟨3, _⟩ => ⟨S256x1024, .bf16⟩
  | .hbm, ⟨4, _⟩ => ⟨S256x1024, .bf16⟩
  | .hbm, ⟨5, _⟩ => ⟨S256x1024, .bf16⟩
  | .hbm, ⟨6, _⟩ => ⟨S128x1024, .bf16⟩
  | .hbm, ⟨7, _⟩ => ⟨S1024x1024, .bf16⟩
  | .hbm, ⟨8, _⟩ => ⟨S8448x1024, .f32⟩
  | .hbm, ⟨9, _⟩ => ⟨S1536x1024, .f32⟩
  | .hbm, ⟨10, _⟩ => ⟨S1024x1536, .f32⟩
  | .hbm, ⟨11, _⟩ => ⟨S8448x1536, .f32⟩
  | .hbm, ⟨12, _⟩ => ⟨S8448x1024, .f32⟩
  | .hbm, ⟨13, _⟩ => ⟨S32x1024, .f32⟩
  | .hbm, ⟨14, _⟩ => ⟨S1024x32, .f32⟩
  | .hbm, ⟨15, _⟩ => ⟨S8448x32, .f32⟩
  | .hbm, ⟨16, _⟩ => ⟨S8448x1024, .f32⟩
  | .hbm, ⟨17, _⟩ => ⟨S256x1024, .f32⟩
  | .hbm, ⟨18, _⟩ => ⟨S1024x256, .f32⟩
  | .hbm, ⟨19, _⟩ => ⟨S8448x256, .f32⟩
  | .hbm, ⟨20, _⟩ => ⟨S8448x1024, .f32⟩
  | .hbm, ⟨21, _⟩ => ⟨S256x1024, .f32⟩
  | .hbm, ⟨22, _⟩ => ⟨S1024x256, .f32⟩
  | .hbm, ⟨23, _⟩ => ⟨S8448x256, .f32⟩
  | .hbm, ⟨24, _⟩ => ⟨S8448x1024, .f32⟩
  | .hbm, ⟨25, _⟩ => ⟨S256x1024, .f32⟩
  | .hbm, ⟨26, _⟩ => ⟨S1024x256, .f32⟩
  | .hbm, ⟨27, _⟩ => ⟨S8448x256, .f32⟩
  | .hbm, ⟨28, _⟩ => ⟨S8448x1024, .f32⟩
  | .hbm, ⟨29, _⟩ => ⟨S128x1024, .f32⟩
  | .hbm, ⟨30, _⟩ => ⟨S1024x128, .f32⟩
  | .hbm, ⟨31, _⟩ => ⟨S8448x128, .f32⟩
  | .hbm, ⟨32, _⟩ => ⟨S8448x1024, .f32⟩
  | .hbm, ⟨33, _⟩ => ⟨S1024x1024, .f32⟩
  | .hbm, ⟨34, _⟩ => ⟨S1024x1024, .f32⟩
  | .hbm, ⟨35, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== In1.lean ====
abbrev S8448x1024 : Shape := ⟨2, ![8448, 1024]⟩
abbrev S1024x1024 : Shape := ⟨2, ![1024, 1024]⟩
abbrev S384x1024 : Shape := ⟨2, ![384, 1024]⟩
abbrev S8448x384 : Shape := ⟨2, ![8448, 384]⟩
abbrev S256x1024 : Shape := ⟨2, ![256, 1024]⟩
abbrev S256x384 : Shape := ⟨2, ![256, 384]⟩

abbrev nBuf : Space → Nat
  | .hbm => 11
  | .vmem => 17
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S384x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S8448x1024, .f32⟩
  | .hbm, ⟨7, _⟩ => ⟨S8448x384, .f32⟩
  | .hbm, ⟨8, _⟩ => ⟨S8448x1024, .bf16⟩
  | .hbm, ⟨9, _⟩ => ⟨S8448x1024, .bf16⟩
  | .hbm, ⟨10, _⟩ => ⟨S8448x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S384x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S256x384, .f32⟩
  | .local _ .vmem, ⟨10, _⟩ => ⟨S256x384, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== In1RefIdeal.lean ====
abbrev S8448x1024 : Shape := ⟨2, ![8448, 1024]⟩
abbrev S1024x1024 : Shape := ⟨2, ![1024, 1024]⟩
abbrev S384x1024 : Shape := ⟨2, ![384, 1024]⟩
abbrev S1024x384 : Shape := ⟨2, ![1024, 384]⟩
abbrev S8448x384 : Shape := ⟨2, ![8448, 384]⟩

abbrev nBuf : Space → Nat
  | .hbm => 29
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S384x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S8448x1024, .f32⟩
  | .hbm, ⟨10, _⟩ => ⟨S8448x1024, .f32⟩
  | .hbm, ⟨11, _⟩ => ⟨S384x1024, .f32⟩
  | .hbm, ⟨12, _⟩ => ⟨S1024x384, .f32⟩
  | .hbm, ⟨13, _⟩ => ⟨S8448x384, .f32⟩
  | .hbm, ⟨14, _⟩ => ⟨S8448x1024, .f32⟩
  | .hbm, ⟨15, _⟩ => ⟨S1024x1024, .f32⟩
  | .hbm, ⟨16, _⟩ => ⟨S1024x1024, .f32⟩
  | .hbm, ⟨17, _⟩ => ⟨S8448x1024, .f32⟩
  | .hbm, ⟨18, _⟩ => ⟨S8448x1024, .bf16⟩
  | .hbm, ⟨19, _⟩ => ⟨S8448x1024, .f32⟩
  | .hbm, ⟨20, _⟩ => ⟨S1024x1024, .f32⟩
  | .hbm, ⟨21, _⟩ => ⟨S1024x1024, .f32⟩
  | .hbm, ⟨22, _⟩ => ⟨S8448x1024, .f32⟩
  | .hbm, ⟨23, _⟩ => ⟨S8448x1024, .bf16⟩
  | .hbm, ⟨24, _⟩ => ⟨S8448x1024, .f32⟩
  | .hbm, ⟨25, _⟩ => ⟨S1024x1024, .f32⟩
  | .hbm, ⟨26, _⟩ => ⟨S1024x1024, .f32⟩
  | .hbm, ⟨27, _⟩ => ⟨S8448x1024, .f32⟩
  | .hbm, ⟨28, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== InDa0.lean ====
abbrev S8448x1536 : Shape := ⟨2, ![8448, 1536]⟩
abbrev S8448x32 : Shape := ⟨2, ![8448, 32]⟩
abbrev S8448x256 : Shape := ⟨2, ![8448, 256]⟩
abbrev S8448x128 : Shape := ⟨2, ![8448, 128]⟩
abbrev S8448x1024 : Shape := ⟨2, ![8448, 1024]⟩
abbrev S1536x1024 : Shape := ⟨2, ![1536, 1024]⟩
abbrev S32x1024 : Shape := ⟨2, ![32, 1024]⟩
abbrev S256x1024 : Shape := ⟨2, ![256, 1024]⟩
abbrev S128x1024 : Shape := ⟨2, ![128, 1024]⟩
abbrev S1024x1024 : Shape := ⟨2, ![1024, 1024]⟩
abbrev S384x1536 : Shape := ⟨2, ![384, 1536]⟩
abbrev S384x32 : Shape := ⟨2, ![384, 32]⟩
abbrev S384x256 : Shape := ⟨2, ![384, 256]⟩
abbrev S384x128 : Shape := ⟨2, ![384, 128]⟩
abbrev S384x1024 : Shape := ⟨2, ![384, 1024]⟩

abbrev nBuf : Space → Nat
  | .hbm => 15
  | .vmem => 23
  | .smem => 0
  | _ => 0

abbrev bufTy : (tb : Table) → Fin (tcTables nBuf tb) → BufTy
  | .hbm, ⟨0, _⟩ => ⟨S8448x1536, .bf16⟩
  | .hbm, ⟨1, _⟩ => ⟨S8448x32, .bf16⟩
  | .hbm, ⟨2, _⟩ => ⟨S8448x256, .bf16⟩
  | .hbm, ⟨3, _⟩ => ⟨S8448x256, .bf16⟩
  | .hbm, ⟨4, _⟩ => ⟨S8448x256, .bf16⟩
  | .hbm, ⟨5, _⟩ => ⟨S8448x128, .bf16⟩
  | .hbm, ⟨6, _⟩ => ⟨S8448x1024, .bf16⟩
  | .hbm, ⟨7, _⟩ => ⟨S1536x1024, .bf16⟩
  | .hbm, ⟨8, _⟩ => ⟨S32x1024, .bf16⟩
  | .hbm, ⟨9, _⟩ => ⟨S256x1024, .bf16⟩
  | .hbm, ⟨10, _⟩ => ⟨S256x1024, .bf16⟩
  | .hbm, ⟨11, _⟩ => ⟨S256x1024, .bf16⟩
  | .hbm, ⟨12, _⟩ => ⟨S128x1024, .bf16⟩
  | .hbm, ⟨13, _⟩ => ⟨S1024x1024, .bf16⟩
  | .hbm, ⟨14, _⟩ => ⟨S8448x1024, .f32⟩
  | .local _ .vmem, ⟨0, _⟩ => ⟨S384x1536, .bf16⟩
  | .local _ .vmem, ⟨1, _⟩ => ⟨S384x1536, .bf16⟩
  | .local _ .vmem, ⟨2, _⟩ => ⟨S1536x1024, .bf16⟩
  | .local _ .vmem, ⟨3, _⟩ => ⟨S384x32, .bf16⟩
  | .local _ .vmem, ⟨4, _⟩ => ⟨S384x32, .bf16⟩
  | .local _ .vmem, ⟨5, _⟩ => ⟨S32x1024, .bf16⟩
  | .local _ .vmem, ⟨6, _⟩ => ⟨S384x256, .bf16⟩
  | .local _ .vmem, ⟨7, _⟩ => ⟨S384x256, .bf16⟩
  | .local _ .vmem, ⟨8, _⟩ => ⟨S256x1024, .bf16⟩
  | .local _ .vmem, ⟨9, _⟩ => ⟨S384x256, .bf16⟩
  | .local _ .vmem, ⟨10, _⟩ => ⟨S384x256, .bf16⟩
  | .local _ .vmem, ⟨11, _⟩ => ⟨S256x1024, .bf16⟩
  | .local _ .vmem, ⟨12, _⟩ => ⟨S384x256, .bf16⟩
  | .local _ .vmem, ⟨13, _⟩ => ⟨S384x256, .bf16⟩
  | .local _ .vmem, ⟨14, _⟩ => ⟨S256x1024, .bf16⟩
  | .local _ .vmem, ⟨15, _⟩ => ⟨S384x128, .bf16⟩
  | .local _ .vmem, ⟨16, _⟩ => ⟨S384x128, .bf16⟩
  | .local _ .vmem, ⟨17, _⟩ => ⟨S128x1024, .bf16⟩
  | .local _ .vmem, ⟨18, _⟩ => ⟨S384x1024, .bf16⟩
  | .local _ .vmem, ⟨19, _⟩ => ⟨S384x1024, .bf16⟩
  | .local _ .vmem, ⟨20, _⟩ => ⟨S1024x1024, .bf16⟩
  | .local _ .vmem, ⟨21, _⟩ => ⟨S384x1024, .f32⟩
  | .local _ .vmem, ⟨22, _⟩ => ⟨S384x1024, .f32⟩
  | _, _ => ⟨S8448x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S384x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S384x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S384x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InDa0RefIdeal.lean ====
abbrev S8448x1536 : Shape := ⟨2, ![8448, 1536]⟩
abbrev S8448x32 : Shape := ⟨2, ![8448, 32]⟩
abbrev S8448x256 : Shape := ⟨2, ![8448, 256]⟩
abbrev S8448x128 : Shape := ⟨2, ![8448, 128]⟩
abbrev S8448x1024 : Shape := ⟨2, ![8448, 1024]⟩
abbrev S1536x1024 : Shape := ⟨2, ![1536, 1024]⟩
abbrev S32x1024 : Shape := ⟨2, ![32, 1024]⟩
abbrev S256x1024 : Shape := ⟨2, ![256, 1024]⟩
abbrev S128x1024 : Shape := ⟨2, ![128, 1024]⟩
abbrev S1024x1024 : Shape := ⟨2, ![1024, 1024]⟩
abbrev S_ : Shape := ⟨0, ![]⟩
abbrev S1024x1536 : Shape := ⟨2, ![1024, 1536]⟩
abbrev S1024x32 : Shape := ⟨2, ![1024, 32]⟩
abbrev S1024x256 : Shape := ⟨2, ![1024, 256]⟩
abbrev S1024x128 : Shape := ⟨2, ![1024, 128]⟩

abbrev nBuf : Space → Nat
  | .hbm => 69
  | .vmem => 0
  | .smem => 0
  | _ => 0

abbrev bufTy : (tb : Table) → Fin (tcTables nBuf tb) → BufTy
  | .hbm, ⟨0, _⟩ => ⟨S8448x1536, .bf16⟩
  | .hbm, ⟨1, _⟩ => ⟨S8448x32, .bf16⟩
  | .hbm, ⟨2, _⟩ => ⟨S8448x256, .bf16⟩
  | .hbm, ⟨3, _⟩ => ⟨S8448x256, .bf16⟩
  | .hbm, ⟨4, _⟩ => ⟨S8448x256, .bf16⟩
  | .hbm, ⟨5, _⟩ => ⟨S8448x128, .bf16⟩
  | .hbm, ⟨6, _⟩ => ⟨S8448x1024, .bf16⟩
  | .hbm, ⟨7, _⟩ => ⟨S1536x1024, .bf16⟩
  | .hbm, ⟨8, _⟩ => ⟨S32x1024, .bf16⟩
  | .hbm, ⟨9, _⟩ => ⟨S256x1024, .bf16⟩
  | .hbm, ⟨10, _⟩ => ⟨S256x1024, .bf16⟩
  | .hbm, ⟨11, _⟩ => ⟨S256x1024, .bf16⟩
  | .hbm, ⟨12, _⟩ => ⟨S128x1024, .bf16⟩
  | .hbm, ⟨13, _⟩ => ⟨S1024x1024, .bf16⟩
  | .hbm, ⟨14, _⟩ => ⟨S_, .f32⟩
  | .hbm, ⟨15, _⟩ => ⟨S8448x1024, .f32⟩
  | .hbm, ⟨16, _⟩ => ⟨S1536x1024, .f32⟩
  | .hbm, ⟨17, _⟩ => ⟨S1024x1536, .f32⟩
  | .hbm, ⟨18, _⟩ => ⟨S8448x1536, .f32⟩
  | .hbm, ⟨19, _⟩ => ⟨S8448x1536, .f32⟩
  | .hbm, ⟨20, _⟩ => ⟨S8448x1024, .f32⟩
  | .hbm, ⟨21, _⟩ => ⟨S_, .f32⟩
  | .hbm, ⟨22, _⟩ => ⟨S8448x1024, .f32⟩
  | .hbm, ⟨23, _⟩ => ⟨S32x1024, .f32⟩
  | .hbm, ⟨24, _⟩ => ⟨S1024x32, .f32⟩
  | .hbm, ⟨25, _⟩ => ⟨S8448x32, .f32⟩
  | .hbm, ⟨26, _⟩ => ⟨S8448x32, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S256x1024, .f32⟩
  | .hbm, ⟨31, _⟩ => ⟨S1024x256, .f32⟩
  | .hbm, ⟨32, _⟩ => ⟨S8448x256, .f32⟩
  | .hbm, ⟨33, _⟩ => ⟨S8448x256, .f32⟩
  | .hbm, ⟨34, _⟩ => ⟨S8448x1024, .f32⟩
  | .hbm, ⟨35, _⟩ => ⟨S_, .f32⟩
  | .hbm, ⟨36, _⟩ => ⟨S8448x1024, .f32⟩
  | .hbm, ⟨37, _⟩ => ⟨S256x1024, .f32⟩
  | .hbm, ⟨38, _⟩ => ⟨S1024x256, .f32⟩
  | .hbm, ⟨39, _⟩ => ⟨S8448x256, .f32⟩
  | .hbm, ⟨40, _⟩ => ⟨S8448x256, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S256x1024, .f32⟩
  | .hbm, ⟨45, _⟩ => ⟨S1024x256, .f32⟩
  | .hbm, ⟨46, _⟩ => ⟨S8448x256, .f32⟩
  | .hbm, ⟨47, _⟩ => ⟨S8448x256, .f32⟩
  | .hbm, ⟨48, _⟩ => ⟨S8448x1024, .f32⟩
  | .hbm, ⟨49, _⟩ => ⟨S_, .f32⟩
  | .hbm, ⟨50, _⟩ => ⟨S8448x1024, .f32⟩
  | .hbm, ⟨51, _⟩ => ⟨S128x1024, .f32⟩
  | .hbm, ⟨52, _⟩ => ⟨S1024x128, .f32⟩
  | .hbm, ⟨53, _⟩ => ⟨S8448x128, .f32⟩
  | .hbm, ⟨54, _⟩ => ⟨S8448x128, .f32⟩
  | .hbm, ⟨55, _⟩ => ⟨S8448x1024, .f32⟩
  | .hbm, ⟨56, _⟩ => ⟨S_, .f32⟩
  | .hbm, ⟨57, _⟩ => ⟨S8448x1024, .f32⟩
  | .hbm, ⟨58, _⟩ => ⟨S1024x1024, .f32⟩
  | .hbm, ⟨59, _⟩ => ⟨S1024x1024, .f32⟩
  | .hbm, ⟨60, _⟩ => ⟨S8448x1024, .f32⟩
  | .hbm, ⟨61, _⟩ => ⟨S8448x1024, .f32⟩
  | .hbm, ⟨62, _⟩ => ⟨S8448x1024, .f32⟩
  | .hbm, ⟨63, _⟩ => ⟨S8448x1024, .f32⟩
  | .hbm, ⟨64, _⟩ => ⟨S8448x1024, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S8448x1024, .f32⟩
  | _, _ => ⟨S8448x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== InDa1.lean ====
abbrev S8448x1024 : Shape := ⟨2, ![8448, 1024]⟩
abbrev S8448x384 : Shape := ⟨2, ![8448, 384]⟩
abbrev S1024x1024 : Shape := ⟨2, ![1024, 1024]⟩
abbrev S384x1024 : Shape := ⟨2, ![384, 1024]⟩
abbrev S256x1024 : Shape := ⟨2, ![256, 1024]⟩
abbrev S256x384 : Shape := ⟨2, ![256, 384]⟩

abbrev nBuf : Space → Nat
  | .hbm => 12
  | .vmem => 19
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S8448x384, .bf16⟩
  | .hbm, ⟨3, _⟩ => ⟨S8448x1024, .bf16⟩
  | .hbm, ⟨4, _⟩ => ⟨S8448x1024, .bf16⟩
  | .hbm, ⟨5, _⟩ => ⟨S8448x1024, .bf16⟩
  | .hbm, ⟨6, _⟩ => ⟨S1024x1024, .bf16⟩
  | .hbm, ⟨7, _⟩ => ⟨S384x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8448x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x384, .bf16⟩
  | .local _ .vmem, ⟨4, _⟩ => ⟨S256x384, .bf16⟩
  | .local _ .vmem, ⟨5, _⟩ => ⟨S384x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InDa1RefIdeal.lean ====
abbrev S8448x1024 : Shape := ⟨2, ![8448, 1024]⟩
abbrev S8448x384 : Shape := ⟨2, ![8448, 384]⟩
abbrev S1024x1024 : Shape := ⟨2, ![1024, 1024]⟩
abbrev S384x1024 : Shape := ⟨2, ![384, 1024]⟩
abbrev S_ : Shape := ⟨0, ![]⟩
abbrev S1024x384 : Shape := ⟨2, ![1024, 384]⟩

abbrev nBuf : Space → Nat
  | .hbm => 51
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S8448x384, .bf16⟩
  | .hbm, ⟨3, _⟩ => ⟨S8448x1024, .bf16⟩
  | .hbm, ⟨4, _⟩ => ⟨S8448x1024, .bf16⟩
  | .hbm, ⟨5, _⟩ => ⟨S8448x1024, .bf16⟩
  | .hbm, ⟨6, _⟩ => ⟨S1024x1024, .bf16⟩
  | .hbm, ⟨7, _⟩ => ⟨S384x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S_, .f32⟩
  | .hbm, ⟨12, _⟩ => ⟨S8448x1024, .f32⟩
  | .hbm, ⟨13, _⟩ => ⟨S1024x1024, .f32⟩
  | .hbm, ⟨14, _⟩ => ⟨S1024x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S384x1024, .f32⟩
  | .hbm, ⟨21, _⟩ => ⟨S1024x384, .f32⟩
  | .hbm, ⟨22, _⟩ => ⟨S8448x384, .f32⟩
  | .hbm, ⟨23, _⟩ => ⟨S8448x384, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S1024x1024, .f32⟩
  | .hbm, ⟨28, _⟩ => ⟨S1024x1024, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S_, .f32⟩
  | .hbm, ⟨33, _⟩ => ⟨S8448x1024, .f32⟩
  | .hbm, ⟨34, _⟩ => ⟨S1024x1024, .f32⟩
  | .hbm, ⟨35, _⟩ => ⟨S1024x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S_, .f32⟩
  | .hbm, ⟨40, _⟩ => ⟨S8448x1024, .f32⟩
  | .hbm, ⟨41, _⟩ => ⟨S1024x1024, .f32⟩
  | .hbm, ⟨42, _⟩ => ⟨S1024x1024, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Down.lean ====
abbrev S8448x2816 : Shape := ⟨2, ![8448, 2816]⟩
abbrev S2816x1024 : Shape := ⟨2, ![2816, 1024]⟩
abbrev S8448x1024 : Shape := ⟨2, ![8448, 1024]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .local _ .vmem, ⟨0, _⟩ => ⟨S768x1408, .bf16⟩
  | .local _ .vmem, ⟨1, _⟩ => ⟨S768x1408, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x2816, .f32⟩
  | .hbm, ⟨3, _⟩ => ⟨S2816x1024, .f32⟩
  | .hbm, ⟨4, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateDa.lean ====
abbrev S8448x2816 : Shape := ⟨2, ![8448, 2816]⟩
abbrev S2816x1024 : Shape := ⟨2, ![2816, 1024]⟩
abbrev S8448x1024 : Shape := ⟨2, ![8448, 1024]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .local _ .vmem, ⟨0, _⟩ => ⟨S768x1408, .bf16⟩
  | .local _ .vmem, ⟨1, _⟩ => ⟨S768x1408, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDaRefIdeal.lean ====
abbrev S8448x2816 : Shape := ⟨2, ![8448, 2816]⟩
abbrev S2816x1024 : Shape := ⟨2, ![2816, 1024]⟩
abbrev S_ : Shape := ⟨0, ![]⟩
abbrev S8448x1024 : Shape := ⟨2, ![8448, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S_, .f32⟩
  | .hbm, ⟨3, _⟩ => ⟨S8448x1024, .f32⟩
  | .hbm, ⟨4, _⟩ => ⟨S2816x1024, .f32⟩
  | .hbm, ⟨5, _⟩ => ⟨S1024x2816, .f32⟩
  | .hbm, ⟨6, _⟩ => ⟨S8448x2816, .f32⟩
  | .hbm, ⟨7, _⟩ => ⟨S8448x2816, .f32⟩
  | .hbm, ⟨8, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDa.lean ====
abbrev S8448x1024 : Shape := ⟨2, ![8448, 1024]⟩
abbrev S8448x2816 : Shape := ⟨2, ![8448, 2816]⟩
abbrev S2816x1024 : Shape := ⟨2, ![2816, 1024]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8448x2816, .bf16⟩
  | .hbm, ⟨2, _⟩ => ⟨S2816x1024, .bf16⟩
  | .hbm, ⟨3, _⟩ => ⟨S8448x1024, .f32⟩
  | .local _ .vmem, ⟨0, _⟩ => ⟨S768x1408, .bf16⟩
  | .local _ .vmem, ⟨1, _⟩ => ⟨S768x1408, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDaRefIdeal.lean ====
abbrev S8448x1024 : Shape := ⟨2, ![8448, 1024]⟩
abbrev S8448x2816 : Shape := ⟨2, ![8448, 2816]⟩
abbrev S2816x1024 : Shape := ⟨2, ![2816, 1024]⟩
abbrev S_ : Shape := ⟨0, ![]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2816, .bf16⟩
  | .hbm, ⟨2, _⟩ => ⟨S2816x1024, .bf16⟩
  | .hbm, ⟨3, _⟩ => ⟨S_, .f32⟩
  | .hbm, ⟨4, _⟩ => ⟨S8448x1024, .f32⟩
  | .hbm, ⟨5, _⟩ => ⟨S2816x1024, .f32⟩
  | .hbm, ⟨6, _⟩ => ⟨S1024x2816, .f32⟩
  | .hbm, ⟨7, _⟩ => ⟨S8448x2816, .f32⟩
  | .hbm, ⟨8, _⟩ => ⟨S8448x2816, .f32⟩
  | .hbm, ⟨9, _⟩ => ⟨S8448x1024, .f32⟩
  | .hbm, ⟨10, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== UpDw.lean ====
abbrev S8448x1024 : Shape := ⟨2, ![8448, 1024]⟩
abbrev S8448x2816 : Shape := ⟨2, ![8448, 2816]⟩
abbrev S1024x2816 : Shape := ⟨2, ![1024, 2816]⟩
abbrev S1408x512 : Shape := ⟨2, ![1408, 512]⟩
abbrev S1408x2816 : Shape := ⟨2, ![1408, 2816]⟩
abbrev S512x2816 : Shape := ⟨2, ![512, 2816]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S1024x2816, .bf16⟩
  | .local _ .vmem, ⟨0, _⟩ => ⟨S1408x512, .bf16⟩
  | .local _ .vmem, ⟨1, _⟩ => ⟨S1408x512, .bf16⟩
  | .local _ .vmem, ⟨2, _⟩ => ⟨S1408x2816, .bf16⟩
  | .local _ .vmem, ⟨3, _⟩ => ⟨S1408x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8448x1024 : Shape := ⟨2, ![8448, 1024]⟩
abbrev S8448x2816 : Shape := ⟨2, ![8448, 2816]⟩
abbrev S1024x2816 : Shape := ⟨2, ![1024, 2816]⟩
abbrev S1408x512 : Shape := ⟨2, ![1408, 512]⟩
abbrev S1408x2816 : Shape := ⟨2, ![1408, 2816]⟩
abbrev S512x2816 : Shape := ⟨2, ![512, 2816]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S1024x2816, .bf16⟩
  | .local _ .vmem, ⟨0, _⟩ => ⟨S1408x512, .bf16⟩
  | .local _ .vmem, ⟨1, _⟩ => ⟨S1408x512, .bf16⟩
  | .local _ .vmem, ⟨2, _⟩ => ⟨S1408x2816, .bf16⟩
  | .local _ .vmem, ⟨3, _⟩ => ⟨S1408x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S_, .f32⟩
  | .hbm, ⟨3, _⟩ => ⟨S1024x2816, .f32⟩
  | .hbm, ⟨4, _⟩ => ⟨S8448x1024, .f32⟩
  | .hbm, ⟨5, _⟩ => ⟨S8448x2816, .f32⟩
  | .hbm, ⟨6, _⟩ => ⟨S8448x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S8448x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDw.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwIdeal.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwRefIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDwF.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1024x1024, .bf16⟩
  | .local _ .vmem, ⟨0, _⟩ => ⟨S1408x1024, .f32⟩
  | .local _ .vmem, ⟨1, _⟩ => ⟨S1408x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwFIdeal.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1024x1024, .bf16⟩
  | .local _ .vmem, ⟨0, _⟩ => ⟨S1408x1024, .f32⟩
  | .local _ .vmem, ⟨1, _⟩ => ⟨S1408x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwFRefIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw1536.lean ====
abbrev S8448x1024 : Shape := ⟨2, ![8448, 1024]⟩
abbrev S8448x1536 : Shape := ⟨2, ![8448, 1536]⟩
abbrev S1024x1536 : Shape := ⟨2, ![1024, 1536]⟩
abbrev S1408x1024 : Shape := ⟨2, ![1408, 1024]⟩
abbrev S1408x1536 : Shape := ⟨2, ![1408, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S1024x1536, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1536, .bf16⟩
  | .local _ .vmem, ⟨3, _⟩ => ⟨S1408x1536, .bf16⟩
  | .local _ .vmem, ⟨4, _⟩ => ⟨S1024x1536, .bf16⟩
  | .local _ .vmem, ⟨5, _⟩ => ⟨S1024x1536, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDw1536Ideal.lean ====
abbrev S8448x1024 : Shape := ⟨2, ![8448, 1024]⟩
abbrev S8448x1536 : Shape := ⟨2, ![8448, 1536]⟩
abbrev S1024x1536 : Shape := ⟨2, ![1024, 1536]⟩
abbrev S1408x1024 : Shape := ⟨2, ![1408, 1024]⟩
abbrev S1408x1536 : Shape := ⟨2, ![1408, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S1024x1536, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1536, .bf16⟩
  | .local _ .vmem, ⟨3, _⟩ => ⟨S1408x1536, .bf16⟩
  | .local _ .vmem, ⟨4, _⟩ => ⟨S1024x1536, .bf16⟩
  | .local _ .vmem, ⟨5, _⟩ => ⟨S1024x1536, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDw1536RefIdeal.lean ====
abbrev S8448x1024 : Shape := ⟨2, ![8448, 1024]⟩
abbrev S8448x1536 : Shape := ⟨2, ![8448, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S_, .f32⟩
  | .hbm, ⟨3, _⟩ => ⟨S1024x1536, .f32⟩
  | .hbm, ⟨4, _⟩ => ⟨S8448x1024, .f32⟩
  | .hbm, ⟨5, _⟩ => ⟨S8448x1536, .f32⟩
  | .hbm, ⟨6, _⟩ => ⟨S8448x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw384.lean ====
abbrev S8448x1024 : Shape := ⟨2, ![8448, 1024]⟩
abbrev S8448x384 : Shape := ⟨2, ![8448, 384]⟩
abbrev S1024x384 : Shape := ⟨2, ![1024, 384]⟩
abbrev S1408x1024 : Shape := ⟨2, ![1408, 1024]⟩
abbrev S1408x384 : Shape := ⟨2, ![1408, 384]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x384, .bf16⟩
  | .hbm, ⟨2, _⟩ => ⟨S1024x384, .bf16⟩
  | .local _ .vmem, ⟨0, _⟩ => ⟨S1408x1024, .bf16⟩
  | .local _ .vmem, ⟨1, _⟩ => ⟨S1408x1024, .bf16⟩
  | .local _ .vmem, ⟨2, _⟩ => ⟨S1408x384, .bf16⟩
  | .local _ .vmem, ⟨3, _⟩ => ⟨S1408x384, .bf16⟩
  | .local _ .vmem, ⟨4, _⟩ => ⟨S1024x384, .bf16⟩
  | .local _ .vmem, ⟨5, _⟩ => ⟨S1024x384, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDw384Ideal.lean ====
abbrev S8448x1024 : Shape := ⟨2, ![8448, 1024]⟩
abbrev S8448x384 : Shape := ⟨2, ![8448, 384]⟩
abbrev S1024x384 : Shape := ⟨2, ![1024, 384]⟩
abbrev S1408x1024 : Shape := ⟨2, ![1408, 1024]⟩
abbrev S1408x384 : Shape := ⟨2, ![1408, 384]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x384, .bf16⟩
  | .hbm, ⟨2, _⟩ => ⟨S1024x384, .bf16⟩
  | .local _ .vmem, ⟨0, _⟩ => ⟨S1408x1024, .bf16⟩
  | .local _ .vmem, ⟨1, _⟩ => ⟨S1408x1024, .bf16⟩
  | .local _ .vmem, ⟨2, _⟩ => ⟨S1408x384, .bf16⟩
  | .local _ .vmem, ⟨3, _⟩ => ⟨S1408x384, .bf16⟩
  | .local _ .vmem, ⟨4, _⟩ => ⟨S1024x384, .bf16⟩
  | .local _ .vmem, ⟨5, _⟩ => ⟨S1024x384, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDw384RefIdeal.lean ====
abbrev S8448x1024 : Shape := ⟨2, ![8448, 1024]⟩
abbrev S8448x384 : Shape := ⟨2, ![8448, 384]⟩
abbrev S_ : Shape := ⟨0, ![]⟩
abbrev S1024x384 : Shape := ⟨2, ![1024, 384]⟩
abbrev S384x1024 : Shape := ⟨2, ![384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x384, .bf16⟩
  | .hbm, ⟨2, _⟩ => ⟨S_, .f32⟩
  | .hbm, ⟨3, _⟩ => ⟨S1024x384, .f32⟩
  | .hbm, ⟨4, _⟩ => ⟨S8448x1024, .f32⟩
  | .hbm, ⟨5, _⟩ => ⟨S8448x384, .f32⟩
  | .hbm, ⟨6, _⟩ => ⟨S8448x384, .f32⟩
  | .hbm, ⟨7, _⟩ => ⟨S384x1024, .f32⟩
  | .hbm, ⟨8, _⟩ => ⟨S1024x384, .f32⟩
  | .hbm, ⟨9, _⟩ => ⟨S1024x384, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw256.lean ====
abbrev S8448x1024 : Shape := ⟨2, ![8448, 1024]⟩
abbrev S8448x256 : Shape := ⟨2, ![8448, 256]⟩
abbrev S1024x256 : Shape := ⟨2, ![1024, 256]⟩
abbrev S1408x1024 : Shape := ⟨2, ![1408, 1024]⟩
abbrev S1408x256 : Shape := ⟨2, ![1408, 256]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x256, .bf16⟩
  | .hbm, ⟨2, _⟩ => ⟨S1024x256, .bf16⟩
  | .local _ .vmem, ⟨0, _⟩ => ⟨S1408x1024, .bf16⟩
  | .local _ .vmem, ⟨1, _⟩ => ⟨S1408x1024, .bf16⟩
  | .local _ .vmem, ⟨2, _⟩ => ⟨S1408x256, .bf16⟩
  | .local _ .vmem, ⟨3, _⟩ => ⟨S1408x256, .bf16⟩
  | .local _ .vmem, ⟨4, _⟩ => ⟨S1024x256, .bf16⟩
  | .local _ .vmem, ⟨5, _⟩ => ⟨S1024x256, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDw256Ideal.lean ====
abbrev S8448x1024 : Shape := ⟨2, ![8448, 1024]⟩
abbrev S8448x256 : Shape := ⟨2, ![8448, 256]⟩
abbrev S1024x256 : Shape := ⟨2, ![1024, 256]⟩
abbrev S1408x1024 : Shape := ⟨2, ![1408, 1024]⟩
abbrev S1408x256 : Shape := ⟨2, ![1408, 256]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x256, .bf16⟩
  | .hbm, ⟨2, _⟩ => ⟨S1024x256, .bf16⟩
  | .local _ .vmem, ⟨0, _⟩ => ⟨S1408x1024, .bf16⟩
  | .local _ .vmem, ⟨1, _⟩ => ⟨S1408x1024, .bf16⟩
  | .local _ .vmem, ⟨2, _⟩ => ⟨S1408x256, .bf16⟩
  | .local _ .vmem, ⟨3, _⟩ => ⟨S1408x256, .bf16⟩
  | .local _ .vmem, ⟨4, _⟩ => ⟨S1024x256, .bf16⟩
  | .local _ .vmem, ⟨5, _⟩ => ⟨S1024x256, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDw256RefIdeal.lean ====
abbrev S8448x1024 : Shape := ⟨2, ![8448, 1024]⟩
abbrev S8448x256 : Shape := ⟨2, ![8448, 256]⟩
abbrev S_ : Shape := ⟨0, ![]⟩
abbrev S1024x256 : Shape := ⟨2, ![1024, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x256, .bf16⟩
  | .hbm, ⟨2, _⟩ => ⟨S_, .f32⟩
  | .hbm, ⟨3, _⟩ => ⟨S1024x256, .f32⟩
  | .hbm, ⟨4, _⟩ => ⟨S8448x1024, .f32⟩
  | .hbm, ⟨5, _⟩ => ⟨S8448x256, .f32⟩
  | .hbm, ⟨6, _⟩ => ⟨S8448x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Uq.lean ====
abbrev S8448x384 : Shape := ⟨2, ![8448, 384]⟩
abbrev S1024x384 : Shape := ⟨2, ![1024, 384]⟩
abbrev S8448x1024 : Shape := ⟨2, ![8448, 1024]⟩
abbrev S768x384 : Shape := ⟨2, ![768, 384]⟩
abbrev S768x1024 : Shape := ⟨2, ![768, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8448x384, .bf16⟩
  | .hbm, ⟨1, _⟩ => ⟨S1024x384, .bf16⟩
  | .hbm, ⟨2, _⟩ => ⟨S1024x384, .bf16⟩
  | .hbm, ⟨3, _⟩ => ⟨S8448x1024, .f32⟩
  | .hbm, ⟨4, _⟩ => ⟨S8448x1024, .f32⟩
  | .local _ .vmem, ⟨0, _⟩ => ⟨S768x384, .bf16⟩
  | .local _ .vmem, ⟨1, _⟩ => ⟨S768x384, .bf16⟩
  | .local _ .vmem, ⟨2, _⟩ => ⟨S1024x384, .bf16⟩
  | .local _ .vmem, ⟨3, _⟩ => ⟨S1024x384, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | _, _ => ⟨S8448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UqRefIdeal.lean ====
abbrev S8448x384 : Shape := ⟨2, ![8448, 384]⟩
abbrev S1024x384 : Shape := ⟨2, ![1024, 384]⟩
abbrev S384x1024 : Shape := ⟨2, ![384, 1024]⟩
abbrev S8448x1024 : Shape := ⟨2, ![8448, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x384, .bf16⟩
  | .hbm, ⟨1, _⟩ => ⟨S1024x384, .bf16⟩
  | .hbm, ⟨2, _⟩ => ⟨S1024x384, .bf16⟩
  | .hbm, ⟨3, _⟩ => ⟨S8448x384, .f32⟩
  | .hbm, ⟨4, _⟩ => ⟨S1024x384, .f32⟩
  | .hbm, ⟨5, _⟩ => ⟨S384x1024, .f32⟩
  | .hbm, ⟨6, _⟩ => ⟨S8448x1024, .f32⟩
  | .hbm, ⟨7, _⟩ => ⟨S8448x384, .f32⟩
  | .hbm, ⟨8, _⟩ => ⟨S1024x384, .f32⟩
  | .hbm, ⟨9, _⟩ => ⟨S384x1024, .f32⟩
  | .hbm, ⟨10, _⟩ => ⟨S8448x1024, .f32⟩
  | _, _ => ⟨S8448x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ukv.lean ====
abbrev S8448x256 : Shape := ⟨2, ![8448, 256]⟩
abbrev S1024x256 : Shape := ⟨2, ![1024, 256]⟩
abbrev S8448x1024 : Shape := ⟨2, ![8448, 1024]⟩
abbrev S768x256 : Shape := ⟨2, ![768, 256]⟩
abbrev S768x1024 : Shape := ⟨2, ![768, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8448x256, .bf16⟩
  | .hbm, ⟨1, _⟩ => ⟨S1024x256, .bf16⟩
  | .hbm, ⟨2, _⟩ => ⟨S1024x256, .bf16⟩
  | .hbm, ⟨3, _⟩ => ⟨S8448x1024, .f32⟩
  | .hbm, ⟨4, _⟩ => ⟨S8448x1024, .f32⟩
  | .local _ .vmem, ⟨0, _⟩ => ⟨S768x256, .bf16⟩
  | .local _ .vmem, ⟨1, _⟩ => ⟨S768x256, .bf16⟩
  | .local _ .vmem, ⟨2, _⟩ => ⟨S1024x256, .bf16⟩
  | .local _ .vmem, ⟨3, _⟩ => ⟨S1024x256, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UkvRefIdeal.lean ====
abbrev S8448x256 : Shape := ⟨2, ![8448, 256]⟩
abbrev S1024x256 : Shape := ⟨2, ![1024, 256]⟩
abbrev S256x1024 : Shape := ⟨2, ![256, 1024]⟩
abbrev S8448x1024 : Shape := ⟨2, ![8448, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S1024x256, .bf16⟩
  | .hbm, ⟨2, _⟩ => ⟨S1024x256, .bf16⟩
  | .hbm, ⟨3, _⟩ => ⟨S8448x256, .f32⟩
  | .hbm, ⟨4, _⟩ => ⟨S1024x256, .f32⟩
  | .hbm, ⟨5, _⟩ => ⟨S256x1024, .f32⟩
  | .hbm, ⟨6, _⟩ => ⟨S8448x1024, .f32⟩
  | .hbm, ⟨7, _⟩ => ⟨S8448x256, .f32⟩
  | .hbm, ⟨8, _⟩ => ⟨S1024x256, .f32⟩
  | .hbm, ⟨9, _⟩ => ⟨S256x1024, .f32⟩
  | .hbm, ⟨10, _⟩ => ⟨S8448x1024, .f32⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UqDa.lean ====
abbrev S8448x1024 : Shape := ⟨2, ![8448, 1024]⟩
abbrev S1024x384 : Shape := ⟨2, ![1024, 384]⟩
abbrev S8448x384 : Shape := ⟨2, ![8448, 384]⟩
abbrev S768x1024 : Shape := ⟨2, ![768, 1024]⟩
abbrev S768x384 : Shape := ⟨2, ![768, 384]⟩

abbrev nBuf : Space → Nat
  | .hbm => 5
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x384, .bf16⟩
  | .hbm, ⟨3, _⟩ => ⟨S1024x384, .bf16⟩
  | .hbm, ⟨4, _⟩ => ⟨S8448x384, .f32⟩
  | .local _ .vmem, ⟨0, _⟩ => ⟨S768x1024, .bf16⟩
  | .local _ .vmem, ⟨1, _⟩ => ⟨S768x1024, .bf16⟩
  | .local _ .vmem, ⟨2, _⟩ => ⟨S1024x384, .bf16⟩
  | .local _ .vmem, ⟨3, _⟩ => ⟨S768x1024, .bf16⟩
  | .local _ .vmem, ⟨4, _⟩ => ⟨S768x1024, .bf16⟩
  | .local _ .vmem, ⟨5, _⟩ => ⟨S1024x384, .bf16⟩
  | .local _ .vmem, ⟨6, _⟩ => ⟨S768x384, .f32⟩
  | .local _ .vmem, ⟨7, _⟩ => ⟨S768x384, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UqDaRefIdeal.lean ====
abbrev S8448x1024 : Shape := ⟨2, ![8448, 1024]⟩
abbrev S1024x384 : Shape := ⟨2, ![1024, 384]⟩
abbrev S_ : Shape := ⟨0, ![]⟩
abbrev S8448x384 : Shape := ⟨2, ![8448, 384]⟩
abbrev S384x1024 : Shape := ⟨2, ![384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x384, .bf16⟩
  | .hbm, ⟨3, _⟩ => ⟨S1024x384, .bf16⟩
  | .hbm, ⟨4, _⟩ => ⟨S_, .f32⟩
  | .hbm, ⟨5, _⟩ => ⟨S8448x384, .f32⟩
  | .hbm, ⟨6, _⟩ => ⟨S1024x384, .f32⟩
  | .hbm, ⟨7, _⟩ => ⟨S384x1024, .f32⟩
  | .hbm, ⟨8, _⟩ => ⟨S8448x1024, .f32⟩
  | .hbm, ⟨9, _⟩ => ⟨S8448x1024, .f32⟩
  | .hbm, ⟨10, _⟩ => ⟨S8448x384, .f32⟩
  | .hbm, ⟨11, _⟩ => ⟨S_, .f32⟩
  | .hbm, ⟨12, _⟩ => ⟨S8448x384, .f32⟩
  | .hbm, ⟨13, _⟩ => ⟨S1024x384, .f32⟩
  | .hbm, ⟨14, _⟩ => ⟨S384x1024, .f32⟩
  | .hbm, ⟨15, _⟩ => ⟨S8448x1024, .f32⟩
  | .hbm, ⟨16, _⟩ => ⟨S8448x1024, .f32⟩
  | .hbm, ⟨17, _⟩ => ⟨S8448x384, .f32⟩
  | .hbm, ⟨18, _⟩ => ⟨S8448x384, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== UkvDa.lean ====
abbrev S8448x1024 : Shape := ⟨2, ![8448, 1024]⟩
abbrev S1024x256 : Shape := ⟨2, ![1024, 256]⟩
abbrev S8448x256 : Shape := ⟨2, ![8448, 256]⟩
abbrev S768x1024 : Shape := ⟨2, ![768, 1024]⟩
abbrev S768x256 : Shape := ⟨2, ![768, 256]⟩

abbrev nBuf : Space → Nat
  | .hbm => 5
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x256, .bf16⟩
  | .hbm, ⟨3, _⟩ => ⟨S1024x256, .bf16⟩
  | .hbm, ⟨4, _⟩ => ⟨S8448x256, .f32⟩
  | .local _ .vmem, ⟨0, _⟩ => ⟨S768x1024, .bf16⟩
  | .local _ .vmem, ⟨1, _⟩ => ⟨S768x1024, .bf16⟩
  | .local _ .vmem, ⟨2, _⟩ => ⟨S1024x256, .bf16⟩
  | .local _ .vmem, ⟨3, _⟩ => ⟨S768x1024, .bf16⟩
  | .local _ .vmem, ⟨4, _⟩ => ⟨S768x1024, .bf16⟩
  | .local _ .vmem, ⟨5, _⟩ => ⟨S1024x256, .bf16⟩
  | .local _ .vmem, ⟨6, _⟩ => ⟨S768x256, .f32⟩
  | .local _ .vmem, ⟨7, _⟩ => ⟨S768x256, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UkvDaRefIdeal.lean ====
abbrev S8448x1024 : Shape := ⟨2, ![8448, 1024]⟩
abbrev S1024x256 : Shape := ⟨2, ![1024, 256]⟩
abbrev S_ : Shape := ⟨0, ![]⟩
abbrev S8448x256 : Shape := ⟨2, ![8448, 256]⟩
abbrev S256x1024 : Shape := ⟨2, ![256, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x256, .bf16⟩
  | .hbm, ⟨3, _⟩ => ⟨S1024x256, .bf16⟩
  | .hbm, ⟨4, _⟩ => ⟨S_, .f32⟩
  | .hbm, ⟨5, _⟩ => ⟨S8448x256, .f32⟩
  | .hbm, ⟨6, _⟩ => ⟨S1024x256, .f32⟩
  | .hbm, ⟨7, _⟩ => ⟨S256x1024, .f32⟩
  | .hbm, ⟨8, _⟩ => ⟨S8448x1024, .f32⟩
  | .hbm, ⟨9, _⟩ => ⟨S8448x1024, .f32⟩
  | .hbm, ⟨10, _⟩ => ⟨S8448x256, .f32⟩
  | .hbm, ⟨11, _⟩ => ⟨S_, .f32⟩
  | .hbm, ⟨12, _⟩ => ⟨S8448x256, .f32⟩
  | .hbm, ⟨13, _⟩ => ⟨S1024x256, .f32⟩
  | .hbm, ⟨14, _⟩ => ⟨S256x1024, .f32⟩
  | .hbm, ⟨15, _⟩ => ⟨S8448x1024, .f32⟩
  | .hbm, ⟨16, _⟩ => ⟨S8448x1024, .f32⟩
  | .hbm, ⟨17, _⟩ => ⟨S8448x256, .f32⟩
  | .hbm, ⟨18, _⟩ => ⟨S8448x256, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== UqDw.lean ====
abbrev S8448x384 : Shape := ⟨2, ![8448, 384]⟩
abbrev S8448x1024 : Shape := ⟨2, ![8448, 1024]⟩
abbrev S384x1024 : Shape := ⟨2, ![384, 1024]⟩
abbrev S1408x384 : Shape := ⟨2, ![1408, 384]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x384, .bf16⟩
  | .hbm, ⟨1, _⟩ => ⟨S8448x1024, .bf16⟩
  | .hbm, ⟨2, _⟩ => ⟨S384x1024, .bf16⟩
  | .local _ .vmem, ⟨0, _⟩ => ⟨S1408x384, .bf16⟩
  | .local _ .vmem, ⟨1, _⟩ => ⟨S1408x384, .bf16⟩
  | .local _ .vmem, ⟨2, _⟩ => ⟨S1408x1024, .bf16⟩
  | .local _ .vmem, ⟨3, _⟩ => ⟨S1408x1024, .bf16⟩
  | .local _ .vmem, ⟨4, _⟩ => ⟨S384x1024, .bf16⟩
  | .local _ .vmem, ⟨5, _⟩ => ⟨S384x1024, .f32⟩
  | _, _ => ⟨S8448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwIdeal.lean ====
abbrev S8448x384 : Shape := ⟨2, ![8448, 384]⟩
abbrev S8448x1024 : Shape := ⟨2, ![8448, 1024]⟩
abbrev S384x1024 : Shape := ⟨2, ![384, 1024]⟩
abbrev S1408x384 : Shape := ⟨2, ![1408, 384]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x384, .bf16⟩
  | .hbm, ⟨1, _⟩ => ⟨S8448x1024, .bf16⟩
  | .hbm, ⟨2, _⟩ => ⟨S384x1024, .bf16⟩
  | .local _ .vmem, ⟨0, _⟩ => ⟨S1408x384, .bf16⟩
  | .local _ .vmem, ⟨1, _⟩ => ⟨S1408x384, .bf16⟩
  | .local _ .vmem, ⟨2, _⟩ => ⟨S1408x1024, .bf16⟩
  | .local _ .vmem, ⟨3, _⟩ => ⟨S1408x1024, .bf16⟩
  | .local _ .vmem, ⟨4, _⟩ => ⟨S384x1024, .bf16⟩
  | .local _ .vmem, ⟨5, _⟩ => ⟨S384x1024, .f32⟩
  | _, _ => ⟨S8448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwRefIdeal.lean ====
abbrev S8448x384 : Shape := ⟨2, ![8448, 384]⟩
abbrev S8448x1024 : Shape := ⟨2, ![8448, 1024]⟩
abbrev S_ : Shape := ⟨0, ![]⟩
abbrev S384x1024 : Shape := ⟨2, ![384, 1024]⟩
abbrev S1024x384 : Shape := ⟨2, ![1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S8448x384, .bf16⟩
  | .hbm, ⟨1, _⟩ => ⟨S8448x1024, .bf16⟩
  | .hbm, ⟨2, _⟩ => ⟨S_, .f32⟩
  | .hbm, ⟨3, _⟩ => ⟨S384x1024, .f32⟩
  | .hbm, ⟨4, _⟩ => ⟨S8448x384, .f32⟩
  | .hbm, ⟨5, _⟩ => ⟨S8448x1024, .f32⟩
  | .hbm, ⟨6, _⟩ => ⟨S8448x1024, .f32⟩
  | .hbm, ⟨7, _⟩ => ⟨S1024x384, .f32⟩
  | .hbm, ⟨8, _⟩ => ⟨S384x1024, .f32⟩
  | .hbm, ⟨9, _⟩ => ⟨S384x1024, .bf16⟩
  | _, _ => ⟨S8448x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UkvDw.lean ====
abbrev S8448x256 : Shape := ⟨2, ![8448, 256]⟩
abbrev S8448x1024 : Shape := ⟨2, ![8448, 1024]⟩
abbrev S256x1024 : Shape := ⟨2, ![256, 1024]⟩
abbrev S1408x256 : Shape := ⟨2, ![1408, 256]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x256, .bf16⟩
  | .hbm, ⟨1, _⟩ => ⟨S8448x1024, .bf16⟩
  | .hbm, ⟨2, _⟩ => ⟨S256x1024, .bf16⟩
  | .local _ .vmem, ⟨0, _⟩ => ⟨S1408x256, .bf16⟩
  | .local _ .vmem, ⟨1, _⟩ => ⟨S1408x256, .bf16⟩
  | .local _ .vmem, ⟨2, _⟩ => ⟨S1408x1024, .bf16⟩
  | .local _ .vmem, ⟨3, _⟩ => ⟨S1408x1024, .bf16⟩
  | .local _ .vmem, ⟨4, _⟩ => ⟨S256x1024, .bf16⟩
  | .local _ .vmem, ⟨5, _⟩ => ⟨S256x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwIdeal.lean ====
abbrev S8448x256 : Shape := ⟨2, ![8448, 256]⟩
abbrev S8448x1024 : Shape := ⟨2, ![8448, 1024]⟩
abbrev S256x1024 : Shape := ⟨2, ![256, 1024]⟩
abbrev S1408x256 : Shape := ⟨2, ![1408, 256]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x256, .bf16⟩
  | .hbm, ⟨1, _⟩ => ⟨S8448x1024, .bf16⟩
  | .hbm, ⟨2, _⟩ => ⟨S256x1024, .bf16⟩
  | .local _ .vmem, ⟨0, _⟩ => ⟨S1408x256, .bf16⟩
  | .local _ .vmem, ⟨1, _⟩ => ⟨S1408x256, .bf16⟩
  | .local _ .vmem, ⟨2, _⟩ => ⟨S1408x1024, .bf16⟩
  | .local _ .vmem, ⟨3, _⟩ => ⟨S1408x1024, .bf16⟩
  | .local _ .vmem, ⟨4, _⟩ => ⟨S256x1024, .bf16⟩
  | .local _ .vmem, ⟨5, _⟩ => ⟨S256x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwRefIdeal.lean ====
abbrev S8448x256 : Shape := ⟨2, ![8448, 256]⟩
abbrev S8448x1024 : Shape := ⟨2, ![8448, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S8448x1024, .bf16⟩
  | .hbm, ⟨2, _⟩ => ⟨S_, .f32⟩
  | .hbm, ⟨3, _⟩ => ⟨S256x1024, .f32⟩
  | .hbm, ⟨4, _⟩ => ⟨S8448x256, .f32⟩
  | .hbm, ⟨5, _⟩ => ⟨S8448x1024, .f32⟩
  | .hbm, ⟨6, _⟩ => ⟨S8448x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw128.lean ====
abbrev S8448x1024 : Shape := ⟨2, ![8448, 1024]⟩
abbrev S8448x128 : Shape := ⟨2, ![8448, 128]⟩
abbrev S1024x128 : Shape := ⟨2, ![1024, 128]⟩
abbrev S1408x1024 : Shape := ⟨2, ![1408, 1024]⟩
abbrev S1408x128 : Shape := ⟨2, ![1408, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x128, .bf16⟩
  | .hbm, ⟨2, _⟩ => ⟨S1024x128, .bf16⟩
  | .local _ .vmem, ⟨0, _⟩ => ⟨S1408x1024, .bf16⟩
  | .local _ .vmem, ⟨1, _⟩ => ⟨S1408x1024, .bf16⟩
  | .local _ .vmem, ⟨2, _⟩ => ⟨S1408x128, .bf16⟩
  | .local _ .vmem, ⟨3, _⟩ => ⟨S1408x128, .bf16⟩
  | .local _ .vmem, ⟨4, _⟩ => ⟨S1024x128, .bf16⟩
  | .local _ .vmem, ⟨5, _⟩ => ⟨S1024x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDw128Ideal.lean ====
abbrev S8448x1024 : Shape := ⟨2, ![8448, 1024]⟩
abbrev S8448x128 : Shape := ⟨2, ![8448, 128]⟩
abbrev S1024x128 : Shape := ⟨2, ![1024, 128]⟩
abbrev S1408x1024 : Shape := ⟨2, ![1408, 1024]⟩
abbrev S1408x128 : Shape := ⟨2, ![1408, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x128, .bf16⟩
  | .hbm, ⟨2, _⟩ => ⟨S1024x128, .bf16⟩
  | .local _ .vmem, ⟨0, _⟩ => ⟨S1408x1024, .bf16⟩
  | .local _ .vmem, ⟨1, _⟩ => ⟨S1408x1024, .bf16⟩
  | .local _ .vmem, ⟨2, _⟩ => ⟨S1408x128, .bf16⟩
  | .local _ .vmem, ⟨3, _⟩ => ⟨S1408x128, .bf16⟩
  | .local _ .vmem, ⟨4, _⟩ => ⟨S1024x128, .bf16⟩
  | .local _ .vmem, ⟨5, _⟩ => ⟨S1024x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDw128RefIdeal.lean ====
abbrev S8448x1024 : Shape := ⟨2, ![8448, 1024]⟩
abbrev S8448x128 : Shape := ⟨2, ![8448, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x128, .bf16⟩
  | .hbm, ⟨2, _⟩ => ⟨S_, .f32⟩
  | .hbm, ⟨3, _⟩ => ⟨S1024x128, .f32⟩
  | .hbm, ⟨4, _⟩ => ⟨S8448x1024, .f32⟩
  | .hbm, ⟨5, _⟩ => ⟨S8448x128, .f32⟩
  | .hbm, ⟨6, _⟩ => ⟨S8448x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw32.lean ====
abbrev S8448x1024 : Shape := ⟨2, ![8448, 1024]⟩
abbrev S8448x32 : Shape := ⟨2, ![8448, 32]⟩
abbrev S1024x32 : Shape := ⟨2, ![1024, 32]⟩
abbrev S1408x1024 : Shape := ⟨2, ![1408, 1024]⟩
abbrev S1408x32 : Shape := ⟨2, ![1408, 32]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x32, .bf16⟩
  | .hbm, ⟨2, _⟩ => ⟨S1024x32, .bf16⟩
  | .local _ .vmem, ⟨0, _⟩ => ⟨S1408x1024, .bf16⟩
  | .local _ .vmem, ⟨1, _⟩ => ⟨S1408x1024, .bf16⟩
  | .local _ .vmem, ⟨2, _⟩ => ⟨S1408x32, .bf16⟩
  | .local _ .vmem, ⟨3, _⟩ => ⟨S1408x32, .bf16⟩
  | .local _ .vmem, ⟨4, _⟩ => ⟨S1024x32, .bf16⟩
  | .local _ .vmem, ⟨5, _⟩ => ⟨S1024x32, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDw32RefIdeal.lean ====
abbrev S8448x1024 : Shape := ⟨2, ![8448, 1024]⟩
abbrev S8448x32 : Shape := ⟨2, ![8448, 32]⟩
abbrev S_ : Shape := ⟨0, ![]⟩
abbrev S1024x32 : Shape := ⟨2, ![1024, 32]⟩
abbrev S32x1024 : Shape := ⟨2, ![32, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x32, .bf16⟩
  | .hbm, ⟨2, _⟩ => ⟨S_, .f32⟩
  | .hbm, ⟨3, _⟩ => ⟨S1024x32, .f32⟩
  | .hbm, ⟨4, _⟩ => ⟨S8448x1024, .f32⟩
  | .hbm, ⟨5, _⟩ => ⟨S8448x32, .f32⟩
  | .hbm, ⟨6, _⟩ => ⟨S8448x32, .f32⟩
  | .hbm, ⟨7, _⟩ => ⟨S32x1024, .f32⟩
  | .hbm, ⟨8, _⟩ => ⟨S1024x32, .f32⟩
  | .hbm, ⟨9, _⟩ => ⟨S1024x32, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mod.lean ====
abbrev S16x1024 : Shape := ⟨2, ![16, 1024]⟩
abbrev S1024x768 : Shape := ⟨2, ![1024, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S16x768, .f32⟩
  | .hbm, ⟨3, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S16x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ModRefIdeal.lean ====
abbrev S16x1024 : Shape := ⟨2, ![16, 1024]⟩
abbrev S1024x768 : Shape := ⟨2, ![1024, 768]⟩
abbrev S16x768 : Shape := ⟨2, ![16, 768]⟩

abbrev nBuf : Space → Nat
  | .hbm => 5
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S16x768, .f32⟩
  | .hbm, ⟨3, _⟩ => ⟨S16x768, .f32⟩
  | .hbm, ⟨4, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ModDw.lean ====
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ModDwRefIdeal.lean ====
abbrev S16x1024 : Shape := ⟨2, ![16, 1024]⟩
abbrev S16x768 : Shape := ⟨2, ![16, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S_, .f32⟩
  | .hbm, ⟨3, _⟩ => ⟨S1024x768, .f32⟩
  | .hbm, ⟨4, _⟩ => ⟨S16x768, .f32⟩
  | .hbm, ⟨5, _⟩ => ⟨S768x1024, .f32⟩
  | .hbm, ⟨6, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ModDa.lean ====
abbrev S16x768 : Shape := ⟨2, ![16, 768]⟩
abbrev S1024x768 : Shape := ⟨2, ![1024, 768]⟩
abbrev S16x1024 : Shape := ⟨2, ![16, 1024]⟩

abbrev nBuf : Space → Nat
  | .hbm => 3
  | .vmem => 3
  | .smem => 0
  | _ => 0

abbrev bufTy : (tb : Table) → Fin (tcTables nBuf tb) → BufTy
  | .hbm, ⟨0, _⟩ => ⟨S16x768, .f32⟩
  | .hbm, ⟨1, _⟩ => ⟨S1024x768, .f32⟩
  | .hbm, ⟨2, _⟩ => ⟨S16x1024, .f32⟩
  | .local _ .vmem, ⟨0, _⟩ => ⟨S16x768, .f32⟩
  | .local _ .vmem, ⟨1, _⟩ => ⟨S1024x768, .f32⟩
  | .local _ .vmem, ⟨2, _⟩ => ⟨S16x1024, .f32⟩
  | _, _ => ⟨S16x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ModDaRefIdeal.lean ====
abbrev S16x768 : Shape := ⟨2, ![16, 768]⟩
abbrev S1024x768 : Shape := ⟨2, ![1024, 768]⟩
abbrev S_ : Shape := ⟨0, ![]⟩
abbrev S16x1024 : Shape := ⟨2, ![16, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16x768, .f32⟩
  | .hbm, ⟨1, _⟩ => ⟨S1024x768, .f32⟩
  | .hbm, ⟨2, _⟩ => ⟨S_, .f32⟩
  | .hbm, ⟨3, _⟩ => ⟨S16x1024, .f32⟩
  | .hbm, ⟨4, _⟩ => ⟨S16x768, .f32⟩
  | .hbm, ⟨5, _⟩ => ⟨S16x1024, .f32⟩
  | _, _ => ⟨S16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ModDaAdd.lean ====
abbrev S16x768 : Shape := ⟨2, ![16, 768]⟩
abbrev S1024x768 : Shape := ⟨2, ![1024, 768]⟩
abbrev S16x1024 : Shape := ⟨2, ![16, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x768, .f32⟩
  | .hbm, ⟨1, _⟩ => ⟨S1024x768, .f32⟩
  | .hbm, ⟨2, _⟩ => ⟨S16x1024, .f32⟩
  | .hbm, ⟨3, _⟩ => ⟨S16x1024, .f32⟩
  | .local _ .vmem, ⟨0, _⟩ => ⟨S16x768, .f32⟩
  | .local _ .vmem, ⟨1, _⟩ => ⟨S1024x768, .f32⟩
  | .local _ .vmem, ⟨2, _⟩ => ⟨S16x1024, .f32⟩
  | .local _ .vmem, ⟨3, _⟩ => ⟨S16x1024, .f32⟩
  | _, _ => ⟨S16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ModDaAddRefIdeal.lean ====
abbrev S16x768 : Shape := ⟨2, ![16, 768]⟩
abbrev S1024x768 : Shape := ⟨2, ![1024, 768]⟩
abbrev S16x1024 : Shape := ⟨2, ![16, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16x768, .f32⟩
  | .hbm, ⟨1, _⟩ => ⟨S1024x768, .f32⟩
  | .hbm, ⟨2, _⟩ => ⟨S16x1024, .f32⟩
  | .hbm, ⟨3, _⟩ => ⟨S_, .f32⟩
  | .hbm, ⟨4, _⟩ => ⟨S16x1024, .f32⟩
  | .hbm, ⟨5, _⟩ => ⟨S16x768, .f32⟩
  | .hbm, ⟨6, _⟩ => ⟨S16x1024, .f32⟩
  | .hbm, ⟨7, _⟩ => ⟨S16x1024, .f32⟩
  | _, _ => ⟨S16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Maths.lean ====
/-
  Real numbers among the extended reals, and the real identities the claim rests on: a scaled running sum, the
  base-two log-sum, and the gradient of a row of softmax weights.
-/
module

public import Idealize.ShloMosaic.Lib.Pointwise
public import Idealize.ShloMosaic.PureOps.IdealRules

@[expose] public section

set_option maxRecDepth 16384

noncomputable section

namespace Mla

open Idealize.ShloMosaic Idealize.ShloMosaic.TcCoe

/-- A matrix of extended reals whose entries are the reals `X`. -/
def Is2 {a b : ℕ} (v : (⟨2, ![a, b]⟩ : Shape).Idx → EReal) (X : Fin a → Fin b → ℝ) : Prop :=
  ∀ i j, v (ix2 i j) = ((X i j : ℝ) : EReal)

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of products of reals is the real sum of products. -/
theorem sum_mul_coe {ι : Type*} [Fintype ι] {f g : ι → EReal} {x y : ι → ℝ} (hf : ∀ k, f k = (x k : EReal)) (hg : ∀ k, g k = (y k : EReal)) :
    ∑ k, f k * g k = ((∑ k, x k * y k : ℝ) : EReal) := by
  rw [coe_sum]
  exact Finset.sum_congr rfl fun k _ => by rw [hf, hg, EReal.coe_mul]

theorem sum_coe {ι : Type*} [Fintype ι] {f : ι → EReal} {x : ι → ℝ} (hf : ∀ k, f k = (x k : EReal)) :
    ∑ k, f k = ((∑ k, x k : ℝ) : EReal) := by
  rw [coe_sum]
  exact Finset.sum_congr rfl fun k _ => hf k

/-- The largest of at least one real, from below everything, is a real. -/
theorem fold_max_coe {ι : Type*} (s : Finset ι) (hs : s.Nonempty) (f : ι → EReal) (x : ι → ℝ) (hf : ∀ k, f k = (x k : EReal)) :
    ∃ r : ℝ, s.fold max (⊥ : EReal) f = (r : EReal) := by
  classical
  induction hs using Finset.Nonempty.cons_induction with
  | singleton a => exact ⟨x a, by rw [Finset.fold_singleton, hf]; simp⟩
  | cons a s ha hs ih =>
    obtain ⟨r, hr⟩ := ih
    exact ⟨max (x a) r, by rw [Finset.fold_cons, hr, hf]; exact (EReal.coe_strictMono.monotone.map_max).symm⟩

/-- Two to a real power. -/
def e2 (x : ℝ) : ℝ := Real.rpow 2 x

theorem e2_pos (x : ℝ) : 0 < e2 x := Real.rpow_pos_of_pos two_pos x
theorem e2_ne (x : ℝ) : e2 x ≠ 0 := (e2_pos x).ne'
theorem e2_sub (x y : ℝ) : e2 (x - y) = e2 x * e2 (-y) := by
  unfold e2
  exact (by rw [sub_eq_add_neg]; exact Real.rpow_add two_pos x (-y) : (2:ℝ) ^ (x - y) = 2 ^ x * 2 ^ (-y))
theorem e2_add (x y : ℝ) : e2 (x + y) = e2 x * e2 y := Real.rpow_add two_pos x y
theorem e2_neg_mul (x : ℝ) : e2 x * e2 (-x) = 1 := by
  rw [← e2_add, add_neg_cancel]; exact Real.rpow_zero 2

theorem e2_mul_inv_log (x : ℝ) : e2 (x * (Real.log 2)⁻¹) = Real.exp x := by
  have h : Real.log 2 ≠ 0 := (Real.log_pos one_lt_two).ne'
  unfold e2
  exact (by rw [Real.rpow_def_of_pos two_pos]; congr 1; field_simp : (2:ℝ) ^ (x * (Real.log 2)⁻¹) = Real.exp x)

theorem ideal_exp2 (x y : ℝ) : Ideal.exp2 ((x : EReal) - (y : EReal)) = ((e2 x * e2 (-y) : ℝ) : EReal) := by
  rw [← EReal.coe_sub, Ideal.exp2_coe, ← e2_sub]; rfl

theorem ideal_div (x y : ℝ) (h : y ≠ 0) : Ideal.div (x : EReal) (y : EReal) = ((x / y : ℝ) : EReal) := by
  rw [Ideal.div_coe h, ← EReal.coe_mul, mul_one_div]

theorem ideal_log (x : ℝ) (h : 0 < x) : Ideal.log (x : EReal) = ((Real.log x : ℝ) : EReal) := by
  rw [Ideal.log_coe, if_neg (not_le.mpr h)]

/-- The scale of the scores. -/
def cs : ℝ := (Real.sqrt 192)⁻¹

/-- The weight of a score. -/
def wt (s : ℝ) : ℝ := Real.exp (cs * s)

theorem wt_pos (s : ℝ) : 0 < wt s := Real.exp_pos _

theorem cs_pos : 0 < cs := inv_pos.mpr (Real.sqrt_pos.mpr (by norm_num))

/-- The scale of the scores, in base two. -/
def c2 : ℝ := cs * (Real.log 2)⁻¹

theorem e2_score (s : ℝ) : e2 (s * c2) = wt s := by
  unfold c2 wt
  rw [← mul_assoc, e2_mul_inv_log, mul_comm]

/-- The values of a row of keys, and a one behind them: its sum is the row's normaliser. -/
def vx {n : ℕ} (V : Fin n → Fin 128 → ℝ) (j : Fin n) (d : Fin 256) : ℝ := if h : d.val < 128 then V j ⟨d.val, h⟩ else 1

/-- What a block of keys adds to the unscaled running sum. -/
def part {a n : ℕ} (S : Fin a → Fin n → ℝ) (V : Fin n → Fin 128 → ℝ) (i : Fin a) (d : Fin 256) : ℝ := ∑ j, wt (S i j) * vx V j d

/-- A running largest score and the sum scaled by it: the sum unscaled is `U`. -/
def Soft (m : (⟨2, ![256, 1]⟩ : Shape).Idx → EReal) (acc : (⟨2, ![256, 256]⟩ : Shape).Idx → EReal) (U : Fin 256 → Fin 256 → ℝ) : Prop :=
  ∃ M : Fin 256 → ℝ, (∀ i j, m (ix2 i j) = ((M i : ℝ) : EReal)) ∧ ∀ i d, acc (ix2 i d) = ((e2 (-M i) * U i d : ℝ) : EReal)

theorem weight_coe (s M : ℝ) : Ideal.exp2 ((s : EReal) * (c2 : EReal) - (M : EReal)) = ((e2 (-M) * wt s : ℝ) : EReal) := by
  rw [← EReal.coe_mul, ideal_exp2, e2_score, mul_comm]

theorem sum_weight {n : ℕ} (M : ℝ) (S v : Fin n → ℝ) (s w : Fin n → EReal) (hs : ∀ x, s x = (S x : EReal)) (hv : ∀ x, w x = (v x : EReal)) :
    ∑ x, Ideal.exp2 (s x * (c2 : EReal) - (M : EReal)) * w x = ((e2 (-M) * ∑ x, wt (S x) * v x : ℝ) : EReal) := by
  rw [Finset.mul_sum, coe_sum]
  refine Finset.sum_congr rfl fun x _ => ?_
  rw [hs, hv, weight_coe, ← EReal.coe_mul, mul_assoc]

/-- One block of keys. -/
theorem soft_entry {n : ℕ} (M M' U : ℝ) (S v : Fin n → ℝ) (s w : Fin n → EReal) (hs : ∀ x, s x = (S x : EReal)) (hv : ∀ x, w x = (v x : EReal)) :
    Ideal.exp2 ((M : EReal) - (M' : EReal)) * ((e2 (-M) * U : ℝ) : EReal) + ∑ x, Ideal.exp2 (s x * (c2 : EReal) - (M' : EReal)) * w x
      = ((e2 (-M') * (U + ∑ x, wt (S x) * v x) : ℝ) : EReal) := by
  rw [sum_weight M' S v s w hs hv, ideal_exp2, ← EReal.coe_mul, ← EReal.coe_add]
  congr 1
  have h := e2_neg_mul M
  linear_combination (e2 (-M') * U) * h

/-- The first block of keys. -/
theorem soft_first {n : ℕ} (M' : ℝ) (S v : Fin n → ℝ) (s w : Fin n → EReal) (hs : ∀ x, s x = (S x : EReal)) (hv : ∀ x, w x = (v x : EReal)) :
    Ideal.exp2 ((⊥ : EReal) - (M' : EReal)) * 0 + ∑ x, Ideal.exp2 (s x * (c2 : EReal) - (M' : EReal)) * w x
      = ((e2 (-M') * (∑ x, wt (S x) * v x) : ℝ) : EReal) := by
  rw [sum_weight M' S v s w hs hv, mul_zero, zero_add]

theorem vx_dite {n : ℕ} (v : (⟨2, ![n, 128]⟩ : Shape).Idx → EReal) (V : Fin n → Fin 128 → ℝ) (hv : Is2 v V) (d : Fin 256) (x : Fin n) :
    (if h : d.val < 128 then v (ix2 x ⟨d.val, h⟩) else 1) = ((vx V x d : ℝ) : EReal) := by
  unfold vx
  by_cases h : d.val < 128
  · rw [dif_pos h, dif_pos h]; exact hv _ _
  · rw [dif_neg h, dif_neg h]; rfl

/-- The new largest score is a real. -/
theorem max_real {n : ℕ} (m : EReal) (hm : (∃ M : ℝ, m = (M : EReal)) ∨ m = ⊥) (s : Fin (n + 1) → EReal) (S : Fin (n + 1) → ℝ) (hs : ∀ x, s x = (S x : EReal)) :
    ∃ r : ℝ, max m (Finset.univ.fold max (⊥ : EReal) s * (c2 : EReal)) = (r : EReal) := by
  obtain ⟨r, hr⟩ := fold_max_coe Finset.univ Finset.univ_nonempty s S hs
  rw [hr, ← EReal.coe_mul]
  rcases hm with ⟨M, rfl⟩ | rfl
  · exact ⟨max M (r * c2), (EReal.coe_strictMono.monotone.map_max).symm⟩
  · exact ⟨r * c2, max_eq_right bot_le⟩

theorem log_e2 (x : ℝ) : Real.log (e2 x) = x * Real.log 2 := Real.log_rpow two_pos x

theorem lse_eq (M U : ℝ) (hU : 0 < U) : M + Real.log (e2 (-M) * U) * (Real.log 2)⁻¹ = Real.log U * (Real.log 2)⁻¹ := by
  have h : Real.log 2 ≠ 0 := (Real.log_pos one_lt_two).ne'
  rw [Real.log_mul (e2_ne _) hU.ne', log_e2]
  field_simp
  ring

/-- The products of two blocks of rows. -/
def dots {a b n : ℕ} (Q : Fin a → Fin n → ℝ) (K : Fin b → Fin n → ℝ) (i : Fin a) (j : Fin b) : ℝ := ∑ d, Q i d * K j d

/-- The rows of `K` summed under the weights `P`. -/
def mix {a b n : ℕ} (P : Fin a → Fin b → ℝ) (K : Fin b → Fin n → ℝ) (i : Fin a) (d : Fin n) : ℝ := ∑ j, P i j * K j d

/-- The rows of `Q` summed under the weights `P` the other way. -/
def mixT {a b n : ℕ} (P : Fin a → Fin b → ℝ) (Q : Fin a → Fin n → ℝ) (j : Fin b) (d : Fin n) : ℝ := ∑ i, P i j * Q i d

/-- The weights of a block of keys, from the scores and the rows' base-two log-sums. -/
def prob {a b : ℕ} (S : Fin a → Fin b → ℝ) (L : Fin a → ℝ) (i : Fin a) (j : Fin b) : ℝ := e2 (-L i) * wt (S i j)

/-- The gradient of the scores. -/
def dsc {a b : ℕ} (P D : Fin a → Fin b → ℝ) (δ : Fin a → ℝ) (i : Fin a) (j : Fin b) : ℝ := P i j * (D i j - δ i)

end Mla

end

end
-- ==== Proof.Tiles.lean ====
/-
  Matrices of reals given on all pairs of numbers, sums over a row of keys cut into blocks, and a rectangle read of a
  matrix of reals.
-/
module

public import proofs.«01_k».proof.Proof.Maths
public import Idealize.ShloMosaic.Lib.Pipeline.ValueKit

@[expose] public section

set_option maxRecDepth 16384

noncomputable section

namespace Mla

open Idealize.ShloMosaic Idealize.ShloMosaic.TcCoe

/-- A matrix of extended reals whose entries are those of `X`, at the same places. -/
abbrev IsN {a b : ℕ} (v : (⟨2, ![a, b]⟩ : Shape).Idx → EReal) (X : ℕ → ℕ → ℝ) : Prop :=
  Is2 v fun i j => X i.val j.val

/-- The matrix read from row `r` and column `c` on. -/
abbrev sh (X : ℕ → ℕ → ℝ) (r c : ℕ) : ℕ → ℕ → ℝ := fun i j => X (r + i) (c + j)

theorem ld_bf16 {A B : ℕ} {a b : ℕ} (X : (⟨2, ![A, B]⟩ : Shape).Idx → Elt Ideal .bf16) (Y : ℕ → ℕ → ℝ) (hX : IsN X Y) (off : Fin 2 → ℕ)
    (inb : ∀ x, off x + (![a, b] : Fin 2 → ℕ) x ≤ (⟨2, ![A, B]⟩ : Shape).size x) :
    IsN (a := a) (b := b) (View.ld (Val := Elt Ideal) X (Rect.unit (s := ⟨2, ![A, B]⟩) off ![a, b] inb)) (sh Y (off 0) (off 1)) := by
  intro i j
  refine Eq.trans ?_ (hX ⟨off 0 + i.val, lt_of_lt_of_le (Nat.add_lt_add_left i.isLt _) (inb 0)⟩ ⟨off 1 + j.val, lt_of_lt_of_le (Nat.add_lt_add_left j.isLt _) (inb 1)⟩)
  exact View.ld_unit_apply_of X off ![a, b] inb _ _ (by intro x; fin_cases x <;> rfl)

theorem ld_f32 {A B : ℕ} {a b : ℕ} (X : (⟨2, ![A, B]⟩ : Shape).Idx → Elt Ideal .f32) (Y : ℕ → ℕ → ℝ) (hX : IsN X Y) (off : Fin 2 → ℕ)
    (inb : ∀ x, off x + (![a, b] : Fin 2 → ℕ) x ≤ (⟨2, ![A, B]⟩ : Shape).size x) :
    IsN (a := a) (b := b) (View.ld (Val := Elt Ideal) X (Rect.unit (s := ⟨2, ![A, B]⟩) off ![a, b] inb)) (sh Y (off 0) (off 1)) := by
  intro i j
  refine Eq.trans ?_ (hX ⟨off 0 + i.val, lt_of_lt_of_le (Nat.add_lt_add_left i.isLt _) (inb 0)⟩ ⟨off 1 + j.val, lt_of_lt_of_le (Nat.add_lt_add_left j.isLt _) (inb 1)⟩)
  exact View.ld_unit_apply_of X off ![a, b] inb _ _ (by intro x; fin_cases x <;> rfl)

theorem sum_fin (n : ℕ) (f : ℕ → ℝ) : ∑ j : Fin n, f j.val = ∑ j ∈ Finset.range n, f j := Fin.sum_univ_eq_sum_range f n

theorem sum_range_split (f : ℕ → ℝ) (n m : ℕ) : ∑ j ∈ Finset.range (n + m), f j = ∑ j ∈ Finset.range n, f j + ∑ j ∈ Finset.range m, f (n + j) :=
  Finset.sum_range_add f n m

theorem sum_range_tiles (f : ℕ → ℝ) (T c : ℕ) :
    ∑ j ∈ Finset.range (T * c), f j = ∑ k ∈ Finset.range c, ∑ j ∈ Finset.range T, f (T * k + j) := by
  induction c with
  | zero => simp
  | succ c ih => rw [Nat.mul_succ, sum_range_split, ih, Finset.sum_range_succ]

theorem sum_keys_of (f : ℕ → ℝ) (T c M C N : ℕ) (h : T * c = M) (hN : M + C = N) :
    ∑ j : Fin N, f j.val = ∑ j : Fin C, f (M + j.val) + ∑ k ∈ Finset.range c, ∑ j : Fin T, f (T * k + j.val) := by
  subst hN h
  rw [sum_fin, sum_range_split, sum_range_tiles, add_comm, sum_fin C fun j => f (T * c + j)]
  exact congrArg _ (Finset.sum_congr rfl fun k _ => (sum_fin T fun j => f (T * k + j)).symm)

theorem sum_ctx_of (f : ℕ → ℝ) (M C N : ℕ) (hN : M + C = N) (h : ∀ j < M, f j = 0) : ∑ j : Fin N, f j.val = ∑ j : Fin C, f (M + j.val) := by
  subst hN
  rw [sum_fin, sum_range_split, Finset.sum_eq_zero (fun j hj => h j (Finset.mem_range.mp hj)), zero_add]
  exact (sum_fin C fun j => f (M + j)).symm

/-- A row of keys: the context's, behind the others in blocks. -/
theorem sum_keys (f : ℕ → ℝ) (T c : ℕ) (h : T * c = 8192) :
    ∑ j : Fin 8448, f j.val = ∑ j : Fin 256, f (8192 + j.val) + ∑ k ∈ Finset.range c, ∑ j : Fin T, f (T * k + j.val) :=
  sum_keys_of f T c 8192 256 8448 h (by norm_num)

/-- A row of keys of which only the context's count. -/
theorem sum_ctx (f : ℕ → ℝ) (h : ∀ j < 8192, f j = 0) : ∑ j : Fin 8448, f j.val = ∑ j : Fin 256, f (8192 + j.val) :=
  sum_ctx_of f 8192 256 8448 (by norm_num) h

/-- The product of a row of `Q` and a row of `K`. -/
def dotn (n : ℕ) (Q K : ℕ → ℕ → ℝ) (i j : ℕ) : ℝ := ∑ d : Fin n, Q i d.val * K j d.val

/-- The values, and a one behind them. -/
def vxn (V : ℕ → ℕ → ℝ) (j d : ℕ) : ℝ := if d < 128 then V j d else 1

/-- Which keys a row of queries sees: all, or the context's. -/
def sees (i j : ℕ) : Prop := i < 8192 ∨ 8192 ≤ j

instance (i j : ℕ) : Decidable (sees i j) := by unfold sees; infer_instance

/-- The weight of a key, nought where it isn't seen. -/
def wgt (Q K : ℕ → ℕ → ℝ) (i j : ℕ) : ℝ := if sees i j then wt (dotn 256 Q K i j) else 0

/-- The weighted values of a row, and the row's normaliser behind them. -/
def tot (Q K V : ℕ → ℕ → ℝ) (i d : ℕ) : ℝ := ∑ j : Fin 8448, wgt Q K i j.val * vxn V j.val d

theorem part_n {a n : ℕ} (Q K V : ℕ → ℕ → ℝ) (i : Fin a) (d : Fin 256) :
    part (dots (fun (i : Fin a) (d : Fin 256) => Q i.val d.val) (fun (j : Fin n) (d : Fin 256) => K j.val d.val)) (fun j d => V j.val d.val) i d
      = ∑ j : Fin n, wt (dotn 256 Q K i.val j.val) * vxn V j.val d.val := by
  refine Finset.sum_congr rfl fun j _ => ?_
  unfold vx vxn dots dotn
  by_cases h : d.val < 128
  · rw [dif_pos h, if_pos h]
  · rw [dif_neg h, if_neg h]

end Mla

end

end
-- ==== Proof.Rows.lean ====
/-
  A row of queries over all keys: the weighted values and the normaliser, and a row of softmax weights and its log-sum read
  from the extended reals.
-/
module

public import proofs.«01_k».proof.Proof.Tiles

@[expose] public section

set_option maxRecDepth 16384

noncomputable section

namespace Mla

open Idealize.ShloMosaic Idealize.ShloMosaic.TcCoe

/-- The weighted values of a row, and the row's normaliser behind them, over the context and, where `b`, the other keys. -/
def totAt (b : Prop) [Decidable b] (Q K V : ℕ → ℕ → ℝ) (i d : ℕ) : ℝ :=
  ∑ j : Fin 8448, (if b ∨ 8192 ≤ j.val then wt (dotn 256 Q K i j.val) else 0) * vxn V j.val d

theorem dotn_sh (n : ℕ) (Q K : ℕ → ℕ → ℝ) (r i j : ℕ) : dotn n Q (sh K r 0) i j = dotn n Q K i (r + j) := by
  simp only [dotn, sh, Nat.zero_add]

theorem vxn_sh (V : ℕ → ℕ → ℝ) (r j d : ℕ) : vxn (sh V r 0) j d = vxn V (r + j) d := by
  simp only [vxn, sh, Nat.zero_add]

theorem sh_sh (X : ℕ → ℕ → ℝ) (r c : ℕ) : sh (sh X 0 c) r 0 = sh X r c := by
  funext i j
  simp only [sh, Nat.zero_add]

theorem totAt_blocks (b : Prop) [Decidable b] (Q K V : ℕ → ℕ → ℝ) (i d n : ℕ) (hn : n = if b then 8 else 0) :
    totAt b Q K V i d = ∑ j : Fin 256, wt (dotn 256 Q (sh K 8192 0) i j.val) * vxn (sh V 8192 0) j.val d
      + ∑ c ∈ Finset.range n, ∑ j : Fin 1024, wt (dotn 256 Q (sh K (1024 * c) 0) i j.val) * vxn (sh V (1024 * c) 0) j.val d := by
  simp only [dotn_sh, vxn_sh]
  by_cases h : b
  · rw [if_pos h] at hn
    subst hn
    simp only [totAt, h, true_or, if_true]
    exact sum_keys (fun j => wt (dotn 256 Q K i j) * vxn V j d) 1024 8 (by norm_num)
  · rw [if_neg h] at hn
    subst hn
    have e := sum_ctx (fun j => (if b ∨ 8192 ≤ j then wt (dotn 256 Q K i j) else 0) * vxn V j d) fun j hj => by
      have : ¬ (b ∨ 8192 ≤ j) := by push Not; exact ⟨h, hj⟩
      simp only [if_neg this, zero_mul]
    rw [Finset.range_zero, Finset.sum_empty, add_zero]
    refine e.trans (Finset.sum_congr rfl fun j _ => ?_)
    rw [if_pos (.inr (Nat.le_add_right 8192 j.val))]

theorem totAt_pos (b : Prop) [Decidable b] (Q K V : ℕ → ℕ → ℝ) (i d : ℕ) (hd : 128 ≤ d) : 0 < totAt b Q K V i d := by
  refine Finset.sum_pos' (fun j _ => ?_) ⟨⟨8192, by norm_num⟩, Finset.mem_univ _, ?_⟩
  · unfold vxn
    rw [if_neg (not_lt.mpr hd), mul_one]
    split
    · exact (wt_pos _).le
    · exact le_refl _
  · unfold vxn
    rw [if_neg (not_lt.mpr hd), mul_one, if_pos (.inr (le_refl _))]
    exact wt_pos _

theorem totAt_one (b : Prop) [Decidable b] (Q K V : ℕ → ℕ → ℝ) (i d : ℕ) (hd : 128 ≤ d) : totAt b Q K V i d = totAt b Q K V i 128 := by
  refine Finset.sum_congr rfl fun j _ => ?_
  unfold vxn
  rw [if_neg (not_lt.mpr hd), if_neg (lt_irrefl _)]

/-- The normaliser of a row. -/
def zAt (b : Prop) [Decidable b] (Q K : ℕ → ℕ → ℝ) (i : ℕ) : ℝ :=
  ∑ j : Fin 8448, (if b ∨ 8192 ≤ j.val then wt (dotn 256 Q K i j.val) else 0)

theorem totAt_z (b : Prop) [Decidable b] (Q K V : ℕ → ℕ → ℝ) (i d : ℕ) (hd : 128 ≤ d) : totAt b Q K V i d = zAt b Q K i := by
  refine Finset.sum_congr rfl fun j _ => ?_
  unfold vxn
  rw [if_neg (not_lt.mpr hd), mul_one]

theorem zAt_pos (b : Prop) [Decidable b] (Q K : ℕ → ℕ → ℝ) (i : ℕ) : 0 < zAt b Q K i := by
  rw [← totAt_z b Q K (fun _ _ => 0) i 128 (le_refl _)]
  exact totAt_pos b Q K _ i 128 (le_refl _)

/-- A sum over the keys a row sees, all of them. -/
theorem tot_all (w : ℕ → ℝ) (x : ℕ → ℝ) (b : Prop) [Decidable b] (h : b) :
    ∑ j : Fin 8448, (if b ∨ 8192 ≤ j.val then w j.val else 0) * x j.val = ∑ j : Fin 8448, w j.val * x j.val := by
  simp only [h, true_or, if_true]

/-- A sum over the keys a row sees, the context's. -/
theorem tot_ctx (w : ℕ → ℝ) (x : ℕ → ℝ) (b : Prop) [Decidable b] (h : ¬ b) :
    ∑ j : Fin 8448, (if b ∨ 8192 ≤ j.val then w j.val else 0) * x j.val = ∑ j : Fin 256, w (8192 + j.val) * x (8192 + j.val) := by
  have e := sum_ctx (fun j => (if b ∨ 8192 ≤ j then w j else 0) * x j) fun j hj => by
    have : ¬ (b ∨ 8192 ≤ j) := by push Not; exact ⟨h, hj⟩
    simp only [if_neg this, zero_mul]
  refine e.trans (Finset.sum_congr rfl fun j _ => ?_)
  rw [if_pos (.inr (Nat.le_add_right 8192 j.val))]

theorem zAt_all (b : Prop) [Decidable b] (h : b) (Q K : ℕ → ℕ → ℝ) (i : ℕ) : zAt b Q K i = ∑ j : Fin 8448, wt (dotn 256 Q K i j.val) := by
  have e := tot_all (fun j => wt (dotn 256 Q K i j)) (fun _ => 1) b h
  simp only [mul_one] at e
  exact e

theorem zAt_ctx (b : Prop) [Decidable b] (h : ¬ b) (Q K : ℕ → ℕ → ℝ) (i : ℕ) : zAt b Q K i = ∑ j : Fin 256, wt (dotn 256 Q K i (8192 + j.val)) := by
  have e := tot_ctx (fun j => wt (dotn 256 Q K i j)) (fun _ => 1) b h
  simp only [mul_one] at e
  exact e

theorem mean_all (b : Prop) [Decidable b] (h : b) (Q K V : ℕ → ℕ → ℝ) (i d : ℕ) (hd : d < 128) :
    ∑ j : Fin 8448, V j.val d * (Real.exp (cs * dotn 256 Q K i j.val) / ∑ x : Fin 8448, Real.exp (cs * dotn 256 Q K i x.val)) = totAt b Q K V i d / zAt b Q K i := by
  rw [zAt_all b h]
  unfold totAt
  rw [tot_all (fun j => wt (dotn 256 Q K i j)) (fun j => vxn V j d) b h, Finset.sum_div]
  refine Finset.sum_congr rfl fun j _ => ?_
  unfold vxn wt
  rw [if_pos hd]
  ring

theorem mean_ctx (b : Prop) [Decidable b] (h : ¬ b) (Q K V : ℕ → ℕ → ℝ) (i d : ℕ) (hd : d < 128) :
    ∑ j : Fin 256, V (8192 + j.val) d * (Real.exp (cs * dotn 256 Q K i (8192 + j.val)) / ∑ x : Fin 256, Real.exp (cs * dotn 256 Q K i (8192 + x.val)))
      = totAt b Q K V i d / zAt b Q K i := by
  rw [zAt_ctx b h]
  unfold totAt
  rw [tot_ctx (fun j => wt (dotn 256 Q K i j)) (fun j => vxn V j d) b h, Finset.sum_div]
  refine Finset.sum_congr rfl fun j _ => ?_
  unfold vxn wt
  rw [if_pos hd]
  ring

theorem bits_192 : Ideal.ofBits FTy.f32 0x43400000#32 = ((192 : ℝ) : EReal) := by
  simp [Ideal.ofBits, Ideal.ieee, -EReal.coe_mul]; norm_num
theorem bits_two : Ideal.ofBits FTy.f32 0x40000000#32 = ((2 : ℝ) : EReal) := by
  simp [Ideal.ofBits, Ideal.ieee, -EReal.coe_mul]; norm_num
theorem bits_inf : Ideal.ofBits FTy.f32 0xFF800000#32 = (⊥ : EReal) := by
  simp [Ideal.ofBits, Ideal.ieee, -EReal.coe_mul]

theorem div_scale (x : ℝ) : Ideal.div (x : EReal) (Ideal.sqrt (Ideal.ofBits FTy.f32 0x43400000#32)) = ((cs * x : ℝ) : EReal) := by
  have h : Real.sqrt 192 ≠ 0 := (Real.sqrt_pos.mpr (by norm_num)).ne'
  rw [bits_192, Ideal.sqrt_coe, if_neg (by norm_num), ideal_div _ _ h]
  unfold cs
  rw [div_eq_inv_mul]

/-- The largest of a row of reals is a real. -/
theorem top_real {n : ℕ} (s : Fin (n + 1) → EReal) (S : Fin (n + 1) → ℝ) (hs : ∀ x, s x = (S x : EReal)) :
    ∃ r : ℝ, Finset.univ.fold max (Ideal.ofBits FTy.f32 0xFF800000#32) s = (r : EReal) := by
  rw [bits_inf]
  exact fold_max_coe Finset.univ Finset.univ_nonempty s S hs

theorem cap_real (a : EReal) : max (Ideal.ofBits FTy.f32 0xFF800000#32) a = a := by
  rw [bits_inf]
  exact max_eq_right bot_le

theorem exp_real (s M : ℝ) : Ideal.exp ((s : EReal) - (M : EReal)) = ((Real.exp (-M) * Real.exp s : ℝ) : EReal) := by
  rw [← EReal.coe_sub, Ideal.exp_coe, ← Real.exp_add]
  congr 2
  ring

theorem norm_real {n : ℕ} (s : Fin n → EReal) (S : Fin n → ℝ) (M : ℝ) (hs : ∀ x, s x = (S x : EReal)) :
    ∑ x, Ideal.exp (s x - (M : EReal)) = ((Real.exp (-M) * ∑ x, Real.exp (S x) : ℝ) : EReal) := by
  rw [Finset.mul_sum, coe_sum]
  exact Finset.sum_congr rfl fun x _ => by rw [hs, exp_real]

theorem prob_real {n : ℕ} (s : Fin (n + 1) → EReal) (S : Fin (n + 1) → ℝ) (M : ℝ) (hs : ∀ x, s x = (S x : EReal)) (j : Fin (n + 1)) :
    Ideal.div (Ideal.exp (s j - (M : EReal))) (∑ x, Ideal.exp (s x - (M : EReal))) = ((Real.exp (S j) / ∑ x, Real.exp (S x) : ℝ) : EReal) := by
  have hz : 0 < ∑ x, Real.exp (S x) := Finset.sum_pos (fun x _ => Real.exp_pos _) Finset.univ_nonempty
  have hm := Real.exp_pos (-M)
  rw [norm_real s S M hs, hs, exp_real, ideal_div _ _ (mul_pos hm hz).ne', mul_div_mul_left _ _ hm.ne']

theorem lse_real {n : ℕ} (s : Fin (n + 1) → EReal) (S : Fin (n + 1) → ℝ) (M : ℝ) (hs : ∀ x, s x = (S x : EReal)) :
    Ideal.div ((M : EReal) + Ideal.log (∑ x, Ideal.exp (s x - (M : EReal)))) (Ideal.log (Ideal.ofBits FTy.f32 0x40000000#32))
      = ((Real.log (∑ x, Real.exp (S x)) * (Real.log 2)⁻¹ : ℝ) : EReal) := by
  have hz : 0 < ∑ x, Real.exp (S x) := Finset.sum_pos (fun x _ => Real.exp_pos _) Finset.univ_nonempty
  have hm := Real.exp_pos (-M)
  have h2 : Real.log 2 ≠ 0 := (Real.log_pos one_lt_two).ne'
  rw [norm_real s S M hs, ideal_log _ (mul_pos hm hz), bits_two, ideal_log _ two_pos, ← EReal.coe_add, ideal_div _ _ h2,
    Real.log_mul hm.ne' hz.ne', Real.log_exp, div_eq_mul_inv]
  congr 2
  ring

end Mla

end

end
-- ==== Proof.BMaths.lean ====
/-
  The weights of a block of queries over all keys, the gradients of their scores, and what a block of queries adds to the
  gradients of the keys and of the values.
-/
module

public import proofs.«01_k».proof.Proof.Rows

@[expose] public section

set_option maxRecDepth 16384

noncomputable section

namespace Mla

open Idealize.ShloMosaic Idealize.ShloMosaic.TcCoe

/-- The weight of a key, from the row's base-two log-sum. -/
def prN (Q K : ℕ → ℕ → ℝ) (L : ℕ → ℝ) (i j : ℕ) : ℝ := e2 (-L i) * wt (dotn 256 Q K i j)

/-- The gradient of a score, `D` the row's mean of the weights' gradients. -/
def dsN (Q K V G : ℕ → ℕ → ℝ) (L D : ℕ → ℝ) (i j : ℕ) : ℝ := prN Q K L i j * (dotn 128 G V i j - D i)

/-- What a key adds to the gradient of a query. -/
def addQ (Q K V G : ℕ → ℕ → ℝ) (L D : ℕ → ℝ) (i d j : ℕ) : ℝ := dsN Q K V G L D i j * K j d

/-- What a block of queries adds to the gradient of a key. -/
def addK (Q K V G : ℕ → ℕ → ℝ) (L D : ℕ → ℝ) (j d : ℕ) : ℝ := ∑ i : Fin 256, dsN Q K V G L D i.val j * Q i.val d

/-- What a block of queries adds to the gradient of a value. -/
def addV (Q K G : ℕ → ℕ → ℝ) (L : ℕ → ℝ) (j d : ℕ) : ℝ := ∑ i : Fin 256, prN Q K L i.val j * G i.val d

theorem mix_n {b : ℕ} (Q K V G : ℕ → ℕ → ℝ) (L D : ℕ → ℝ) (o : ℕ) (i : Fin 256) (d : Fin 256) :
    mix (dsc (prob (fun (i : Fin 256) (j : Fin b) => dotn 256 Q (sh K o 0) i.val j.val) fun i => L i.val)
        (fun i j => dotn 128 G (sh V o 0) i.val j.val) fun i => D i.val) (fun (j : Fin b) (d : Fin 256) => sh K o 0 j.val d.val) i d
      = ∑ j : Fin b, addQ Q K V G L D i.val d.val (o + j.val) := by
  simp only [mix, dsc, prob, addQ, dsN, prN, dotn_sh, sh, Nat.zero_add]

theorem mixK_n {b : ℕ} (Q K V G : ℕ → ℕ → ℝ) (L D : ℕ → ℝ) (o : ℕ) (j : Fin b) (d : Fin 256) :
    mixT (dsc (prob (fun (i : Fin 256) (j : Fin b) => dotn 256 Q (sh K o 0) i.val j.val) fun i => L i.val)
        (fun i j => dotn 128 G (sh V o 0) i.val j.val) fun i => D i.val) (fun (i : Fin 256) (d : Fin 256) => Q i.val d.val) j d
      = addK Q K V G L D (o + j.val) d.val := by
  simp only [mixT, dsc, prob, addK, dsN, prN, dotn_sh]

theorem mixV_n {b : ℕ} (Q K G : ℕ → ℕ → ℝ) (L : ℕ → ℝ) (o : ℕ) (j : Fin b) (d : Fin 128) :
    mixT (prob (fun (i : Fin 256) (j : Fin b) => dotn 256 Q (sh K o 0) i.val j.val) fun i => L i.val)
        (fun (i : Fin 256) (d : Fin 128) => G i.val d.val) j d
      = addV Q K G L (o + j.val) d.val := by
  simp only [mixT, prob, addV, prN, dotn_sh]

end Mla

end

end
-- ==== Proof.FConsts.lean ====
module

public import proofs.«01_k».proof.Proof.Gen.FwdIdeal.Skeleton
public import proofs.«01_k».proof.Proof.Maths

@[expose] public section

set_option maxRecDepth 16384

noncomputable section

namespace Cert.FwdIdeal.Value

open Idealize.ShloMosaic Idealize.ShloMosaic.TcCoe Idealize.SL.Sem
open Cert.FwdIdeal Cert.FwdIdeal.Gen
open Mla

theorem named_s : Named.named (F := Ideal) κ "scale_log2e" (φ := .f32) 0x3DD53B95#32 = ((c2 : ℝ) : EReal) :=
  IdealRules.named_const.ideal_named_scalar _ _ _ _ rfl

theorem named_l : Named.named (F := Ideal) κ "log2e" (φ := .f32) 0x3FB8AA3B#32 = (((Real.log 2)⁻¹ : ℝ) : EReal) :=
  IdealRules.named_const.ideal_named_scalar _ _ _ _ rfl

theorem named_c : Named.named (F := Ideal) κ "scale" (φ := .f32) 0x3D93CD3A#32 = ((cs : ℝ) : EReal) :=
  IdealRules.named_const.ideal_named_scalar _ _ _ _ rfl

theorem minf : Ideal.ofBits FTy.f32 0xFF800000#32 = (⊥ : EReal) := by
  simp [Ideal.ofBits, Ideal.ieee, -EReal.coe_mul]

end Cert.FwdIdeal.Value

end

end
-- ==== Proof.FPay.lean ====
module

public import proofs.«01_k».proof.Proof.Gen.FwdIdeal.Skeleton
public import proofs.«01_k».proof.Proof.FConsts

@[expose] public section

set_option maxRecDepth 16384

noncomputable section

namespace Cert.FwdIdeal.Value

open Idealize.ShloMosaic Idealize.ShloMosaic.TcCoe Idealize.SL.Sem
open Cert.FwdIdeal Cert.FwdIdeal.Gen
open Mla

theorem scores_7 (q : Vec Ideal S256x256 .bf16) (k : Vec Ideal S1024x256 .bf16) (Q : Fin 256 → Fin 256 → ℝ) (K : Fin 1024 → Fin 256 → ℝ) (hq : Is2 q Q) (hk : Is2 k K) :
    Is2 (k0_pay7 (F := Ideal) q k) (dots Q K) := by
  intro i j
  pointwise [k0_pay7]
  exact sum_mul_coe (fun _ => hq _ _) (fun _ => hk _ _)

theorem scores_8 (q : Vec Ideal S256x256 .bf16) (k : Vec Ideal S1024x256 .bf16) (Q : Fin 256 → Fin 256 → ℝ) (K : Fin 1024 → Fin 256 → ℝ) (hq : Is2 q Q) (hk : Is2 k K) :
    Is2 (k0_pay8 (F := Ideal) q k) (dots Q K) := by
  intro i j
  pointwise [k0_pay8]
  exact sum_mul_coe (fun _ => hq _ _) (fun _ => hk _ _)

theorem scores_12 (q : Vec Ideal S256x256 .bf16) (k : Vec Ideal S1024x256 .bf16) (Q : Fin 256 → Fin 256 → ℝ) (K : Fin 1024 → Fin 256 → ℝ) (hq : Is2 q Q) (hk : Is2 k K) :
    Is2 (k0_pay12 (F := Ideal) q k) (dots Q K) := by
  intro i j
  pointwise [k0_pay12]
  exact sum_mul_coe (fun _ => hq _ _) (fun _ => hk _ _)

theorem scores_13 (q : Vec Ideal S256x256 .bf16) (k : Vec Ideal S1024x256 .bf16) (Q : Fin 256 → Fin 256 → ℝ) (K : Fin 1024 → Fin 256 → ℝ) (hq : Is2 q Q) (hk : Is2 k K) :
    Is2 (k0_pay13 (F := Ideal) q k) (dots Q K) := by
  intro i j
  pointwise [k0_pay13]
  exact sum_mul_coe (fun _ => hq _ _) (fun _ => hk _ _)

theorem scores_30 (q : Vec Ideal S256x256 .bf16) (k : Vec Ideal S1024x256 .bf16) (Q : Fin 256 → Fin 256 → ℝ) (K : Fin 1024 → Fin 256 → ℝ) (hq : Is2 q Q) (hk : Is2 k K) :
    Is2 (k0_pay30 (F := Ideal) q k) (dots Q K) := by
  intro i j
  pointwise [k0_pay30]
  exact sum_mul_coe (fun _ => hq _ _) (fun _ => hk _ _)

theorem scores_31 (q : Vec Ideal S256x256 .bf16) (k : Vec Ideal S1024x256 .bf16) (Q : Fin 256 → Fin 256 → ℝ) (K : Fin 1024 → Fin 256 → ℝ) (hq : Is2 q Q) (hk : Is2 k K) :
    Is2 (k0_pay31 (F := Ideal) q k) (dots Q K) := by
  intro i j
  pointwise [k0_pay31]
  exact sum_mul_coe (fun _ => hq _ _) (fun _ => hk _ _)

theorem scores_21 (q : Vec Ideal S256x256 .bf16) (k : Vec Ideal S256x256 .bf16) (Q : Fin 256 → Fin 256 → ℝ) (K : Fin 256 → Fin 256 → ℝ) (hq : Is2 q Q) (hk : Is2 k K) :
    Is2 (k0_pay21 (F := Ideal) q k) (dots Q K) := by
  intro i j
  pointwise [k0_pay21]
  exact sum_mul_coe (fun _ => hq _ _) (fun _ => hk _ _)

theorem scores_22 (q : Vec Ideal S256x256 .bf16) (k : Vec Ideal S256x256 .bf16) (Q : Fin 256 → Fin 256 → ℝ) (K : Fin 256 → Fin 256 → ℝ) (hq : Is2 q Q) (hk : Is2 k K) :
    Is2 (k0_pay22 (F := Ideal) q k) (dots Q K) := by
  intro i j
  pointwise [k0_pay22]
  exact sum_mul_coe (fun _ => hq _ _) (fun _ => hk _ _)

theorem max_9 (m : FVec Ideal S256x1 .f32) (s : FVec Ideal S256x1024 .f32) (S : Fin 256 → Fin 1024 → ℝ) (M : Fin 256 → ℝ)
    (hm : ∀ i j, m (ix2 i j) = ((M i : ℝ) : EReal)) (hs : Is2 s S) : ∃ M' : Fin 256 → ℝ, ∀ i j, k0_pay9 (F := Ideal) m s (ix2 i j) = ((M' i : ℝ) : EReal) := by
  have h : ∀ i : Fin 256, ∃ r : ℝ, ∀ j, k0_pay9 (F := Ideal) m s (ix2 i j) = (r : EReal) := fun i => by
    obtain ⟨r, hr⟩ := max_real (m (ix2 i 0)) (.inl ⟨_, hm i 0⟩) (fun x => s (ix2 i x)) (S i) (fun x => hs i x)
    refine ⟨r, fun j => ?_⟩
    obtain rfl : j = 0 := Subsingleton.elim _ _
    pointwise [k0_pay9]
    rw [minf, named_s]
    exact hr
  choose M' hM' using h
  exact ⟨M', hM'⟩

theorem step_10 (m : FVec Ideal S256x1 .f32) (a : FVec Ideal S256x256 .f32) (s : FVec Ideal S256x1024 .f32) (v : Vec Ideal S1024x128 .bf16)
    (U : Fin 256 → Fin 256 → ℝ) (S : Fin 256 → Fin 1024 → ℝ) (V : Fin 1024 → Fin 128 → ℝ) (h : Soft m a U) (hs : Is2 s S) (hv : Is2 v V) :
    Soft (k0_pay9 (F := Ideal) m s) (k0_pay10 (F := Ideal) m a s v) (fun i d => U i d + part S V i d) := by
  obtain ⟨M, hm, ha⟩ := h
  obtain ⟨M', hM'⟩ := max_9 m s S M hm hs
  refine ⟨M', hM', fun i d => ?_⟩
  pointwise [k0_pay10]
  rw [named_s, hM' i 0, hm i 0, ha i d]
  exact soft_entry (M i) (M' i) (U i d) (S i) (fun x => vx V x d) _ _ (fun x => hs i x) (fun x => vx_dite v V hv d x)

theorem max_14 (m : FVec Ideal S256x1 .f32) (s : FVec Ideal S256x1024 .f32) (S : Fin 256 → Fin 1024 → ℝ) (M : Fin 256 → ℝ)
    (hm : ∀ i j, m (ix2 i j) = ((M i : ℝ) : EReal)) (hs : Is2 s S) : ∃ M' : Fin 256 → ℝ, ∀ i j, k0_pay14 (F := Ideal) m s (ix2 i j) = ((M' i : ℝ) : EReal) := by
  have h : ∀ i : Fin 256, ∃ r : ℝ, ∀ j, k0_pay14 (F := Ideal) m s (ix2 i j) = (r : EReal) := fun i => by
    obtain ⟨r, hr⟩ := max_real (m (ix2 i 0)) (.inl ⟨_, hm i 0⟩) (fun x => s (ix2 i x)) (S i) (fun x => hs i x)
    refine ⟨r, fun j => ?_⟩
    obtain rfl : j = 0 := Subsingleton.elim _ _
    pointwise [k0_pay14]
    rw [minf, named_s]
    exact hr
  choose M' hM' using h
  exact ⟨M', hM'⟩

theorem step_15 (m : FVec Ideal S256x1 .f32) (a : FVec Ideal S256x256 .f32) (s : FVec Ideal S256x1024 .f32) (v : Vec Ideal S1024x128 .bf16)
    (U : Fin 256 → Fin 256 → ℝ) (S : Fin 256 → Fin 1024 → ℝ) (V : Fin 1024 → Fin 128 → ℝ) (h : Soft m a U) (hs : Is2 s S) (hv : Is2 v V) :
    Soft (k0_pay14 (F := Ideal) m s) (k0_pay15 (F := Ideal) m a s v) (fun i d => U i d + part S V i d) := by
  obtain ⟨M, hm, ha⟩ := h
  obtain ⟨M', hM'⟩ := max_14 m s S M hm hs
  refine ⟨M', hM', fun i d => ?_⟩
  pointwise [k0_pay15]
  rw [named_s, hM' i 0, hm i 0, ha i d]
  exact soft_entry (M i) (M' i) (U i d) (S i) (fun x => vx V x d) _ _ (fun x => hs i x) (fun x => vx_dite v V hv d x)

theorem max_11_1 (m : FVec Ideal S256x1 .f32) (s : FVec Ideal S256x1024 .f32) (S : Fin 256 → Fin 1024 → ℝ) (M : Fin 256 → ℝ)
    (hm : ∀ i j, m (ix2 i j) = ((M i : ℝ) : EReal)) (hs : Is2 s S) : ∃ M' : Fin 256 → ℝ, ∀ i j, k0_pay1 (F := Ideal) m (k0_pay11 s) (ix2 i j) = ((M' i : ℝ) : EReal) := by
  have h : ∀ i : Fin 256, ∃ r : ℝ, ∀ j, k0_pay1 (F := Ideal) m (k0_pay11 s) (ix2 i j) = (r : EReal) := fun i => by
    obtain ⟨r, hr⟩ := max_real (m (ix2 i 0)) (.inl ⟨_, hm i 0⟩) (fun x => s (ix2 i x)) (S i) (fun x => hs i x)
    refine ⟨r, fun j => ?_⟩
    obtain rfl : j = 0 := Subsingleton.elim _ _
    pointwise [k0_pay1, k0_pay11]
    rw [minf, named_s]
    exact hr
  choose M' hM' using h
  exact ⟨M', hM'⟩

theorem step_11_2 (m : FVec Ideal S256x1 .f32) (a : FVec Ideal S256x256 .f32) (s : FVec Ideal S256x1024 .f32) (v : Vec Ideal S1024x128 .bf16)
    (U : Fin 256 → Fin 256 → ℝ) (S : Fin 256 → Fin 1024 → ℝ) (V : Fin 1024 → Fin 128 → ℝ) (h : Soft m a U) (hs : Is2 s S) (hv : Is2 v V) :
    Soft (k0_pay1 (F := Ideal) m (k0_pay11 s)) (k0_pay2 (F := Ideal) m a s (k0_pay11 s) v) (fun i d => U i d + part S V i d) := by
  obtain ⟨M, hm, ha⟩ := h
  obtain ⟨M', hM'⟩ := max_11_1 m s S M hm hs
  refine ⟨M', hM', fun i d => ?_⟩
  pointwise [k0_pay2]
  rw [named_s, hM' i 0, hm i 0, ha i d]
  exact soft_entry (M i) (M' i) (U i d) (S i) (fun x => vx V x d) _ _ (fun x => hs i x) (fun x => vx_dite v V hv d x)

theorem max_11_32 (m : FVec Ideal S256x1 .f32) (s : FVec Ideal S256x1024 .f32) (S : Fin 256 → Fin 1024 → ℝ) (M : Fin 256 → ℝ)
    (hm : ∀ i j, m (ix2 i j) = ((M i : ℝ) : EReal)) (hs : Is2 s S) : ∃ M' : Fin 256 → ℝ, ∀ i j, k0_pay32 (F := Ideal) m (k0_pay11 s) (ix2 i j) = ((M' i : ℝ) : EReal) := by
  have h : ∀ i : Fin 256, ∃ r : ℝ, ∀ j, k0_pay32 (F := Ideal) m (k0_pay11 s) (ix2 i j) = (r : EReal) := fun i => by
    obtain ⟨r, hr⟩ := max_real (m (ix2 i 0)) (.inl ⟨_, hm i 0⟩) (fun x => s (ix2 i x)) (S i) (fun x => hs i x)
    refine ⟨r, fun j => ?_⟩
    obtain rfl : j = 0 := Subsingleton.elim _ _
    pointwise [k0_pay32, k0_pay11]
    rw [minf, named_s]
    exact hr
  choose M' hM' using h
  exact ⟨M', hM'⟩

theorem step_11_33 (m : FVec Ideal S256x1 .f32) (a : FVec Ideal S256x256 .f32) (s : FVec Ideal S256x1024 .f32) (v : Vec Ideal S1024x128 .bf16)
    (U : Fin 256 → Fin 256 → ℝ) (S : Fin 256 → Fin 1024 → ℝ) (V : Fin 1024 → Fin 128 → ℝ) (h : Soft m a U) (hs : Is2 s S) (hv : Is2 v V) :
    Soft (k0_pay32 (F := Ideal) m (k0_pay11 s)) (k0_pay33 (F := Ideal) m a s (k0_pay11 s) v) (fun i d => U i d + part S V i d) := by
  obtain ⟨M, hm, ha⟩ := h
  obtain ⟨M', hM'⟩ := max_11_32 m s S M hm hs
  refine ⟨M', hM', fun i d => ?_⟩
  pointwise [k0_pay33]
  rw [named_s, hM' i 0, hm i 0, ha i d]
  exact soft_entry (M i) (M' i) (U i d) (S i) (fun x => vx V x d) _ _ (fun x => hs i x) (fun x => vx_dite v V hv d x)

theorem max_16_1 (m : FVec Ideal S256x1 .f32) (s : FVec Ideal S256x1024 .f32) (S : Fin 256 → Fin 1024 → ℝ) (M : Fin 256 → ℝ)
    (hm : ∀ i j, m (ix2 i j) = ((M i : ℝ) : EReal)) (hs : Is2 s S) : ∃ M' : Fin 256 → ℝ, ∀ i j, k0_pay1 (F := Ideal) m (k0_pay16 s) (ix2 i j) = ((M' i : ℝ) : EReal) := by
  have h : ∀ i : Fin 256, ∃ r : ℝ, ∀ j, k0_pay1 (F := Ideal) m (k0_pay16 s) (ix2 i j) = (r : EReal) := fun i => by
    obtain ⟨r, hr⟩ := max_real (m (ix2 i 0)) (.inl ⟨_, hm i 0⟩) (fun x => s (ix2 i x)) (S i) (fun x => hs i x)
    refine ⟨r, fun j => ?_⟩
    obtain rfl : j = 0 := Subsingleton.elim _ _
    pointwise [k0_pay1, k0_pay16]
    rw [minf, named_s]
    exact hr
  choose M' hM' using h
  exact ⟨M', hM'⟩

theorem step_16_2 (m : FVec Ideal S256x1 .f32) (a : FVec Ideal S256x256 .f32) (s : FVec Ideal S256x1024 .f32) (v : Vec Ideal S1024x128 .bf16)
    (U : Fin 256 → Fin 256 → ℝ) (S : Fin 256 → Fin 1024 → ℝ) (V : Fin 1024 → Fin 128 → ℝ) (h : Soft m a U) (hs : Is2 s S) (hv : Is2 v V) :
    Soft (k0_pay1 (F := Ideal) m (k0_pay16 s)) (k0_pay2 (F := Ideal) m a s (k0_pay16 s) v) (fun i d => U i d + part S V i d) := by
  obtain ⟨M, hm, ha⟩ := h
  obtain ⟨M', hM'⟩ := max_16_1 m s S M hm hs
  refine ⟨M', hM', fun i d => ?_⟩
  pointwise [k0_pay2]
  rw [named_s, hM' i 0, hm i 0, ha i d]
  exact soft_entry (M i) (M' i) (U i d) (S i) (fun x => vx V x d) _ _ (fun x => hs i x) (fun x => vx_dite v V hv d x)

theorem max_16_32 (m : FVec Ideal S256x1 .f32) (s : FVec Ideal S256x1024 .f32) (S : Fin 256 → Fin 1024 → ℝ) (M : Fin 256 → ℝ)
    (hm : ∀ i j, m (ix2 i j) = ((M i : ℝ) : EReal)) (hs : Is2 s S) : ∃ M' : Fin 256 → ℝ, ∀ i j, k0_pay32 (F := Ideal) m (k0_pay16 s) (ix2 i j) = ((M' i : ℝ) : EReal) := by
  have h : ∀ i : Fin 256, ∃ r : ℝ, ∀ j, k0_pay32 (F := Ideal) m (k0_pay16 s) (ix2 i j) = (r : EReal) := fun i => by
    obtain ⟨r, hr⟩ := max_real (m (ix2 i 0)) (.inl ⟨_, hm i 0⟩) (fun x => s (ix2 i x)) (S i) (fun x => hs i x)
    refine ⟨r, fun j => ?_⟩
    obtain rfl : j = 0 := Subsingleton.elim _ _
    pointwise [k0_pay32, k0_pay16]
    rw [minf, named_s]
    exact hr
  choose M' hM' using h
  exact ⟨M', hM'⟩

theorem step_16_33 (m : FVec Ideal S256x1 .f32) (a : FVec Ideal S256x256 .f32) (s : FVec Ideal S256x1024 .f32) (v : Vec Ideal S1024x128 .bf16)
    (U : Fin 256 → Fin 256 → ℝ) (S : Fin 256 → Fin 1024 → ℝ) (V : Fin 1024 → Fin 128 → ℝ) (h : Soft m a U) (hs : Is2 s S) (hv : Is2 v V) :
    Soft (k0_pay32 (F := Ideal) m (k0_pay16 s)) (k0_pay33 (F := Ideal) m a s (k0_pay16 s) v) (fun i d => U i d + part S V i d) := by
  obtain ⟨M, hm, ha⟩ := h
  obtain ⟨M', hM'⟩ := max_16_32 m s S M hm hs
  refine ⟨M', hM', fun i d => ?_⟩
  pointwise [k0_pay33]
  rw [named_s, hM' i 0, hm i 0, ha i d]
  exact soft_entry (M i) (M' i) (U i d) (S i) (fun x => vx V x d) _ _ (fun x => hs i x) (fun x => vx_dite v V hv d x)

theorem first_max_A (q k : Vec Ideal S256x256 .bf16) (S : Fin 256 → Fin 256 → ℝ) (hs : Is2 (k0_pay21 (F := Ideal) q k) S) :
    ∃ M' : Fin 256 → ℝ, ∀ i j, k0_pay23 (F := Ideal) q k (ix2 i j) = ((M' i : ℝ) : EReal) := by
  have h : ∀ i : Fin 256, ∃ r : ℝ, ∀ j, k0_pay23 (F := Ideal) q k (ix2 i j) = (r : EReal) := fun i => by
    obtain ⟨r, hr⟩ := max_real ⊥ (.inr rfl) (fun x => k0_pay21 (F := Ideal) q k (ix2 i x)) (S i) (fun x => hs i x)
    refine ⟨r, fun j => ?_⟩
    obtain rfl : j = 0 := Subsingleton.elim _ _
    pointwise [k0_pay23, k0_pay17]
    rw [minf, named_s]
    exact hr
  choose M' hM' using h
  exact ⟨M', hM'⟩

theorem zero_18 (i d : Fin 256) : k0_pay18 (F := Ideal) (ix2 i d) = (0 : EReal) := by
  pointwise [k0_pay18]
  by_cases h : d.val < 128
  · simp only [dif_pos h]
  · simp only [dif_neg h]

theorem zero_20 (i d : Fin 256) : k0_pay20 (F := Ideal) (ix2 i d) = (0 : EReal) := by
  pointwise [k0_pay20]
  by_cases h : d.val < 128
  · simp only [dif_pos h]
  · simp only [dif_neg h]

theorem bot_19 (i : Fin 256) (j : Fin 1) : k0_pay19 (F := Ideal) (ix2 i j) = (⊥ : EReal) := by
  pointwise [k0_pay19]
  exact minf

theorem acc_27 (a : FVec Ideal S256x256 .f32) (ha : ∀ i d, a (ix2 i d) = (0 : EReal)) (q k : Vec Ideal S256x256 .bf16) (v : Vec Ideal S256x128 .bf16)
    (S : Fin 256 → Fin 256 → ℝ) (V : Fin 256 → Fin 128 → ℝ) (hs : Is2 (k0_pay21 (F := Ideal) q k) S) (hv : Is2 v V)
    (M' : Fin 256 → ℝ) (hM' : ∀ i j, k0_pay23 (F := Ideal) q k (ix2 i j) = ((M' i : ℝ) : EReal)) (i d : Fin 256) :
    k0_pay27 (F := Ideal) a (k0_pay24 (F := Ideal) q k) (k0_pay25 (F := Ideal) q k) v (k0_pay26 (F := Ideal)) (ix2 i d) = ((e2 (-M' i) * part S V i d : ℝ) : EReal) := by
  pointwise [k0_pay27, k0_pay24, k0_pay25, k0_pay26, k0_pay17]
  rw [named_s, hM' i 0, minf, ha i d]
  exact soft_first (M' i) (S i) (fun x => vx V x d) _ _ (fun x => hs i x) (fun x => vx_dite v V hv d x)

theorem first_A (q k : Vec Ideal S256x256 .bf16) (v : Vec Ideal S256x128 .bf16) (S : Fin 256 → Fin 256 → ℝ) (V : Fin 256 → Fin 128 → ℝ)
    (hs : Is2 (k0_pay21 (F := Ideal) q k) S) (hv : Is2 v V) :
    Soft (k0_pay23 (F := Ideal) q k) (k0_pay27 (F := Ideal) (k0_pay18 (F := Ideal)) (k0_pay24 (F := Ideal) q k) (k0_pay25 (F := Ideal) q k) v (k0_pay26 (F := Ideal))) (part S V) := by
  obtain ⟨M', hM'⟩ := first_max_A q k S hs
  exact ⟨M', hM', fun i d => acc_27 _ zero_18 q k v S V hs hv M' hM' i d⟩

theorem first_max_B (m : FVec Ideal S256x1 .f32) (hm : ∀ i j, m (ix2 i j) = (⊥ : EReal)) (s : FVec Ideal S256x256 .f32) (S : Fin 256 → Fin 256 → ℝ) (hs : Is2 s S) :
    ∃ M' : Fin 256 → ℝ, ∀ i j, k0_pay28 (F := Ideal) m s (ix2 i j) = ((M' i : ℝ) : EReal) := by
  have h : ∀ i : Fin 256, ∃ r : ℝ, ∀ j, k0_pay28 (F := Ideal) m s (ix2 i j) = (r : EReal) := fun i => by
    obtain ⟨r, hr⟩ := max_real ⊥ (.inr rfl) (fun x => s (ix2 i x)) (S i) (fun x => hs i x)
    refine ⟨r, fun j => ?_⟩
    pointwise [k0_pay28]
    rw [minf, named_s, hm]
    exact hr
  choose M' hM' using h
  exact ⟨M', hM'⟩

theorem acc_29 (m : FVec Ideal S256x1 .f32) (hm : ∀ i j, m (ix2 i j) = (⊥ : EReal)) (a : FVec Ideal S256x256 .f32) (ha : ∀ i d, a (ix2 i d) = (0 : EReal))
    (s : FVec Ideal S256x256 .f32) (v : Vec Ideal S256x128 .bf16) (S : Fin 256 → Fin 256 → ℝ) (V : Fin 256 → Fin 128 → ℝ) (hs : Is2 s S) (hv : Is2 v V) :
    Soft (k0_pay28 (F := Ideal) m s) (k0_pay29 (F := Ideal) m a s v) (part S V) := by
  obtain ⟨M', hM'⟩ := first_max_B m hm s S hs
  refine ⟨M', hM', fun i d => ?_⟩
  pointwise [k0_pay29]
  rw [named_s, hM' i 0, hm i 0, ha i d]
  exact soft_first (M' i) (S i) (fun x => vx V x d) _ _ (fun x => hs i x) (fun x => vx_dite v V hv d x)

theorem first_B (s : FVec Ideal S256x256 .f32) (v : Vec Ideal S256x128 .bf16) (S : Fin 256 → Fin 256 → ℝ) (V : Fin 256 → Fin 128 → ℝ)
    (hs : Is2 s S) (hv : Is2 v V) :
    Soft (k0_pay28 (F := Ideal) (k0_pay19 (F := Ideal)) s) (k0_pay29 (F := Ideal) (k0_pay19 (F := Ideal)) (k0_pay20 (F := Ideal)) s v) (part S V) :=
  acc_29 _ bot_19 _ zero_20 s v S V hs hv

theorem out_3 (m : FVec Ideal S256x1 .f32) (a : FVec Ideal S256x256 .f32) (U : Fin 256 → Fin 256 → ℝ) (h : Soft m a U)
    (hU : ∀ (i : Fin 256) (d : Fin 256), 128 ≤ d.val → U i d ≠ 0) (i : Fin 256) (d : Fin 128) :
    k0_pay3 (F := Ideal) a (ix2 i d) = ((U i ⟨d.val, by omega⟩ / U i ⟨128 + d.val, by omega⟩ : ℝ) : EReal) := by
  obtain ⟨M, hm, ha⟩ := h
  have h0 := hU i ⟨128 + d.val, by omega⟩ (by simp)
  pointwise [k0_pay3]
  rw [ha, ha, ideal_div _ _ (mul_ne_zero (e2_ne _) h0), mul_div_mul_left _ _ (e2_ne _)]

theorem lse_4 (m : FVec Ideal S256x1 .f32) (a : FVec Ideal S256x256 .f32) (U : Fin 256 → Fin 256 → ℝ) (h : Soft m a U)
    (hU : ∀ i : Fin 256, 0 < U i 128) (z : Fin 1) (i : Fin 256) (j : Fin 1) :
    k0_pay4 (F := Ideal) m a (ix3 z i j) = ((Real.log (U i 128) * (Real.log 2)⁻¹ : ℝ) : EReal) := by
  obtain ⟨M, hm, ha⟩ := h
  pointwise [k0_pay4]
  rw [ha, hm, named_l, ideal_log _ (mul_pos (e2_pos _) (hU i)), ← EReal.coe_mul, ← EReal.coe_add, lse_eq _ _ (hU i)]

theorem out_5 (m : FVec Ideal S256x1 .f32) (a : FVec Ideal S256x256 .f32) (U : Fin 256 → Fin 256 → ℝ) (h : Soft m a U)
    (hU : ∀ (i : Fin 256) (d : Fin 256), 128 ≤ d.val → U i d ≠ 0) (i : Fin 256) (d : Fin 128) :
    k0_pay5 (F := Ideal) a (ix2 i d) = ((U i ⟨d.val, by omega⟩ / U i ⟨128 + d.val, by omega⟩ : ℝ) : EReal) := by
  obtain ⟨M, hm, ha⟩ := h
  have h0 := hU i ⟨128 + d.val, by omega⟩ (by simp)
  pointwise [k0_pay5]
  rw [ha, ha, ideal_div _ _ (mul_ne_zero (e2_ne _) h0), mul_div_mul_left _ _ (e2_ne _)]

theorem lse_6 (m : FVec Ideal S256x1 .f32) (a : FVec Ideal S256x256 .f32) (U : Fin 256 → Fin 256 → ℝ) (h : Soft m a U)
    (hU : ∀ i : Fin 256, 0 < U i 128) (z : Fin 1) (i : Fin 256) (j : Fin 1) :
    k0_pay6 (F := Ideal) m a (ix3 z i j) = ((Real.log (U i 128) * (Real.log 2)⁻¹ : ℝ) : EReal) := by
  obtain ⟨M, hm, ha⟩ := h
  pointwise [k0_pay6]
  rw [ha, hm, named_l, ideal_log _ (mul_pos (e2_pos _) (hU i)), ← EReal.coe_mul, ← EReal.coe_add, lse_eq _ _ (hU i)]

end Cert.FwdIdeal.Value

end

end
-- ==== Proof.FTrip.lean ====
module

public import proofs.«01_k».proof.Proof.FPay
public import proofs.«01_k».proof.Proof.Tiles
public import proofs.«01_k».proof.Proof.Gen.FwdIdeal.Loops

@[expose] public section

set_option maxRecDepth 16384

noncomputable section

namespace Cert.FwdIdeal.Value

open Idealize.ShloMosaic Idealize.ShloMosaic.TcCoe Idealize.SL.Sem
open Cert.FwdIdeal Cert.FwdIdeal.Gen
open Mla

theorem trips1 : ∀ t : Fin grid0.N, (k0_t1_loop (grid0.coords t)).trips = if t.val % 33 = 32 then 0 else 8 := by decide +kernel
theorem trips2 : ∀ t : Fin grid0.N, (k0_t2_loop (grid0.coords t)).trips = 0 := by decide +kernel

theorem trips1_le (t : Fin grid0.N) : (k0_t1_loop (grid0.coords t)).trips ≤ 8 := by
  rw [trips1]; split <;> omega

/-- One trip: both heads' running largest scores and sums over the current block of keys, and the next block's scores. -/
theorem trip_eq (𝒱 : Variants) (c : Dev nD) (bd : Option 𝒱.V) (t : Fin grid0.N) (arg2 : Memref sig .tc .vmem S256x512 .bf16) (harg2 : arg2.IsWhole) (arg3 : Memref sig .tc .vmem S8448x512 .bf16) (harg3 : arg3.IsWhole) (arg4 : Memref sig .tc .vmem S8448x256 .bf16) (harg4 : arg4.IsWhole) (arg5 : Memref sig .tc .vmem S256x256 .f32) (harg5 : arg5.IsWhole) (arg6 : Memref sig .tc .vmem S2x256x1 .f32) (harg6 : arg6.IsWhole) (v1 : Vec Ideal S256x256 .bf16) (v2 : Vec Ideal S256x256 .bf16) (v4 : BitVec 32) (v8 : FVec Ideal S256x256 .f32) (v9 : FVec Ideal S256x1 .f32) (v12 : FVec Ideal S256x256 .f32) (v16 : FVec Ideal S256x256 .f32) (v21 : FVec Ideal S256x1 .f32) (v23 : FVec Ideal S256x1 .f32) (v29 : FVec Ideal S256x256 .bf16) (v30 : Vec Ideal S256x128 .bf16) (v31 : FVec Ideal S256x128 .bf16)   (x1 : Vec Ideal S8448x512 .bf16) (x2 : Vec Ideal S8448x256 .bf16) (k : Fin (k0_t1_loop (grid0.coords t)).trips)
    (acc : FVec Ideal S256x1 .f32 × FVec Ideal S256x256 .f32 × FVec Ideal S256x1 .f32 × FVec Ideal S256x256 .f32 × FVec Ideal S256x1024 .f32 × FVec Ideal S256x1024 .f32) :
    tripR_k0_t1 𝒱 c bd (grid0.coords t) arg2 harg2 arg3 harg3 arg4 harg4 arg5 harg5 arg6 harg6 v1 v2 v4 v8 v9 v12 v16 v21 v23 v29 v30 v31 (harg3.unread x1) (harg4.unread x2) k acc
      = (k0_pay9 acc.1 acc.2.2.2.2.1,
         k0_pay10 acc.1 acc.2.1 acc.2.2.2.2.1 (View.ld (Val := Elt Ideal) x2 (Rect.unit (s := S8448x256) (k0_off5 (grid0.coords t) k) ![1024, 128] (k0_off5_inb (grid0.coords t) k))),
         k0_pay32 acc.2.2.1 (k0_pay11 acc.2.2.2.2.2),
         k0_pay33 acc.2.2.1 acc.2.2.2.1 acc.2.2.2.2.2 (k0_pay11 acc.2.2.2.2.2) (View.ld (Val := Elt Ideal) x2 (Rect.unit (s := S8448x256) (k0_off6 (grid0.coords t) k) ![1024, 128] (k0_off6_inb (grid0.coords t) k))),
         k0_pay7 v1 (View.ld (Val := Elt Ideal) x1 (Rect.unit (s := S8448x512) (k0_off3 (grid0.coords t) k) ![1024, 256] (k0_off3_inb (grid0.coords t) k))),
         k0_pay8 v2 (View.ld (Val := Elt Ideal) x1 (Rect.unit (s := S8448x512) (k0_off4 (grid0.coords t) k) ![1024, 256] (k0_off4_inb (grid0.coords t) k)))) := by
  have e : tripR_k0_t1 𝒱 c bd (grid0.coords t) arg2 harg2 arg3 harg3 arg4 harg4 arg5 harg5 arg6 harg6 v1 v2 v4 v8 v9 v12 v16 v21 v23 v29 v30 v31 (harg3.unread x1) (harg4.unread x2) k acc
      = (k0_pay9 acc.1 acc.2.2.2.2.1,
         k0_pay10 acc.1 acc.2.1 acc.2.2.2.2.1 (View.readAt (Elt Ideal) arg4.view (Rect.unit (s := S8448x256) (k0_off5 (grid0.coords t) k) ![1024, 128] (k0_off5_inb (grid0.coords t) k)).toLoadRect (harg4.unread x2)),
         k0_pay32 acc.2.2.1 (k0_pay11 acc.2.2.2.2.2),
         k0_pay33 acc.2.2.1 acc.2.2.2.1 acc.2.2.2.2.2 (k0_pay11 acc.2.2.2.2.2) (View.readAt (Elt Ideal) arg4.view (Rect.unit (s := S8448x256) (k0_off6 (grid0.coords t) k) ![1024, 128] (k0_off6_inb (grid0.coords t) k)).toLoadRect (harg4.unread x2)),
         k0_pay7 v1 (View.readAt (Elt Ideal) arg3.view (Rect.unit (s := S8448x512) (k0_off3 (grid0.coords t) k) ![1024, 256] (k0_off3_inb (grid0.coords t) k)).toLoadRect (harg3.unread x1)),
         k0_pay8 v2 (View.readAt (Elt Ideal) arg3.view (Rect.unit (s := S8448x512) (k0_off4 (grid0.coords t) k) ![1024, 256] (k0_off4_inb (grid0.coords t) k)).toLoadRect (harg3.unread x1))) := by
    unfold tripR_k0_t1 trip_k0_t1
    rfl
  rw [e]
  simp only [View.readAt_eq_ld, harg3.read_unread, harg4.read_unread]

/-- What the carried values are before trip `n`. -/
structure At (Q K V : ℕ → ℕ → ℝ) (n : ℕ) (s : FVec Ideal S256x1 .f32 × FVec Ideal S256x256 .f32 × FVec Ideal S256x1 .f32 × FVec Ideal S256x256 .f32 × FVec Ideal S256x1024 .f32 × FVec Ideal S256x1024 .f32) (U U' : Fin 256 → Fin 256 → ℝ) : Prop where
  a : Soft s.1 s.2.1 fun i d => U i d + ∑ c ∈ Finset.range n, ∑ j : Fin 1024, wt (dotn 256 Q (sh K (1024 * c) 0) i.val j.val) * vxn (sh V (1024 * c) 0) j.val d.val
  b : Soft s.2.2.1 s.2.2.2.1 fun i d => U' i d + ∑ c ∈ Finset.range n, ∑ j : Fin 1024, wt (dotn 256 (sh Q 0 256) (sh K (1024 * c) 256) i.val j.val) * vxn (sh V (1024 * c) 128) j.val d.val
  c : IsN s.2.2.2.2.1 (dotn 256 Q (sh K (1024 * min n 7) 0))
  d : IsN s.2.2.2.2.2 (dotn 256 (sh Q 0 256) (sh K (1024 * min n 7) 256))

theorem loop_at (𝒱 : Variants) (c : Dev nD) (bd : Option 𝒱.V) (t : Fin grid0.N) (arg2 : Memref sig .tc .vmem S256x512 .bf16) (harg2 : arg2.IsWhole) (arg3 : Memref sig .tc .vmem S8448x512 .bf16) (harg3 : arg3.IsWhole) (arg4 : Memref sig .tc .vmem S8448x256 .bf16) (harg4 : arg4.IsWhole) (arg5 : Memref sig .tc .vmem S256x256 .f32) (harg5 : arg5.IsWhole) (arg6 : Memref sig .tc .vmem S2x256x1 .f32) (harg6 : arg6.IsWhole) (v1 : Vec Ideal S256x256 .bf16) (v2 : Vec Ideal S256x256 .bf16) (v4 : BitVec 32) (v8 : FVec Ideal S256x256 .f32) (v9 : FVec Ideal S256x1 .f32) (v12 : FVec Ideal S256x256 .f32) (v16 : FVec Ideal S256x256 .f32) (v21 : FVec Ideal S256x1 .f32) (v23 : FVec Ideal S256x1 .f32) (v29 : FVec Ideal S256x256 .bf16) (v30 : Vec Ideal S256x128 .bf16) (v31 : FVec Ideal S256x128 .bf16)   (x1 : Vec Ideal S8448x512 .bf16) (x2 : Vec Ideal S8448x256 .bf16) (Q K V : ℕ → ℕ → ℝ)
    (hq : IsN v1 Q) (hq' : IsN v2 (sh Q 0 256)) (hk : IsN x1 K) (hv : IsN x2 V) (U U' : Fin 256 → Fin 256 → ℝ) (init : FVec Ideal S256x1 .f32 × FVec Ideal S256x256 .f32 × FVec Ideal S256x1 .f32 × FVec Ideal S256x256 .f32 × FVec Ideal S256x1024 .f32 × FVec Ideal S256x1024 .f32)
    (h0 : At Q K V 0 init U U') (n : ℕ) (hn : n ≤ (k0_t1_loop (grid0.coords t)).trips) :
    At Q K V n (st_k0_t1 𝒱 c bd (grid0.coords t) arg2 harg2 arg3 harg3 arg4 harg4 arg5 harg5 arg6 harg6 v1 v2 v4 v8 v9 v12 v16 v21 v23 v29 v30 v31 (harg3.unread x1) (harg4.unread x2) init n) U U' := by
  induction n with
  | zero => rw [st_k0_t1_zero]; exact h0
  | succ n ih =>
    have h := ih (Nat.le_of_succ_le hn)
    have h8 : n < 8 := lt_of_lt_of_le hn (trips1_le t)
    have e := st_k0_t1_succ 𝒱 c bd (grid0.coords t) arg2 harg2 arg3 harg3 arg4 harg4 arg5 harg5 arg6 harg6 v1 v2 v4 v8 v9 v12 v16 v21 v23 v29 v30 v31 (harg3.unread x1) (harg4.unread x2) init ⟨n, hn⟩
    rw [trip_eq] at e
    simp only at e
    rw [e]
    have m7 : min n 7 = n := by omega
    have k3 := ld_bf16 (a := 1024) (b := 256) x1 K hk _ (k0_off3_inb (grid0.coords t) ⟨n, hn⟩)
    have k4 := ld_bf16 (a := 1024) (b := 256) x1 K hk _ (k0_off4_inb (grid0.coords t) ⟨n, hn⟩)
    have v5 := ld_bf16 (a := 1024) (b := 128) x2 V hv _ (k0_off5_inb (grid0.coords t) ⟨n, hn⟩)
    have v6 := ld_bf16 (a := 1024) (b := 128) x2 V hv _ (k0_off6_inb (grid0.coords t) ⟨n, hn⟩)
    have o3 := k0_off3_eq (grid0.coords t) ⟨n, hn⟩
    have o4 := k0_off4_eq (grid0.coords t) ⟨n, hn⟩
    have o5 := k0_off5_eq (grid0.coords t) ⟨n, hn⟩
    have o6 := k0_off6_eq (grid0.coords t) ⟨n, hn⟩
    simp only [m7] at o5 o6
    have c3 := congrArg (fun f : Fin 2 → ℕ => sh K (f 0) (f 1)) o3
    have c4 := congrArg (fun f : Fin 2 → ℕ => sh K (f 0) (f 1)) o4
    have c5 := congrArg (fun f : Fin 2 → ℕ => sh V (f 0) (f 1)) o5
    have c6 := congrArg (fun f : Fin 2 → ℕ => sh V (f 0) (f 1)) o6
    simp only [Matrix.cons_val_zero, Matrix.cons_val_one] at c3 c4 c5 c6
    rw [c3] at k3
    rw [c4] at k4
    rw [c5] at v5
    rw [c6] at v6
    have hc := h.c
    have hd := h.d
    rw [m7] at hc hd
    refine ⟨?_, ?_, ?_, ?_⟩
    · have s := step_10 _ _ _ _ _ _ _ h.a hc v5
      convert s using 3
      rw [Finset.sum_range_succ, ← add_assoc]
      congr 1
    · have s := step_11_33 _ _ _ _ _ _ _ h.b hd v6
      convert s using 3
      rw [Finset.sum_range_succ, ← add_assoc]
      congr 1
    · exact scores_7 v1 _ _ _ hq k3
    · exact scores_8 v2 _ _ _ hq' k4

end Cert.FwdIdeal.Value

end
-- ==== Proof.FEnd.lean ====
/-
  What the forward kernel's loop over the keys ends with: the sums over all the keys a row of queries sees.
-/
module

public import proofs.«01_k».proof.Proof.FTrip
public import proofs.«01_k».proof.Proof.Rows

@[expose] public section

set_option maxRecDepth 16384

noncomputable section

namespace Cert.FwdIdeal.Value

open Idealize.ShloMosaic Idealize.ShloMosaic.TcCoe Idealize.SL.Sem
open Cert.FwdIdeal Cert.FwdIdeal.Gen
open Mla

theorem first_at (q1 q2 : Vec Ideal S256x256 .bf16) (k1 k2 : Vec Ideal S256x256 .bf16) (w1 w2 : Vec Ideal S256x128 .bf16) (n1 n2 : Vec Ideal S1024x256 .bf16)
    (Q K V : ℕ → ℕ → ℝ) (hq1 : IsN q1 Q) (hq2 : IsN q2 (sh Q 0 256)) (hk1 : IsN k1 (sh K 8192 0)) (hk2 : IsN k2 (sh K 8192 256))
    (hw1 : IsN w1 (sh V 8192 0)) (hw2 : IsN w2 (sh V 8192 128)) (hn1 : IsN n1 (sh K 0 0)) (hn2 : IsN n2 (sh K 0 256)) :
    At Q K V 0 (k0_pay23 q1 k1, k0_pay27 k0_pay18 (k0_pay24 q1 k1) (k0_pay25 q1 k1) w1 k0_pay26, k0_pay28 k0_pay19 (k0_pay22 q2 k2),
      k0_pay29 k0_pay19 k0_pay20 (k0_pay22 q2 k2) w2, k0_pay30 q1 n1, k0_pay31 q2 n2)
      (fun i d => ∑ j : Fin 256, wt (dotn 256 Q (sh K 8192 0) i.val j.val) * vxn (sh V 8192 0) j.val d.val)
      (fun i d => ∑ j : Fin 256, wt (dotn 256 (sh Q 0 256) (sh K 8192 256) i.val j.val) * vxn (sh V 8192 128) j.val d.val) := by
  refine ⟨?_, ?_, ?_, ?_⟩
  · have h := first_A q1 k1 w1 _ _ (scores_21 q1 k1 _ _ hq1 hk1) hw1
    convert h using 3
    rw [Finset.range_zero, Finset.sum_empty, add_zero]
    exact (part_n _ _ _ _ _).symm
  · have h := first_B (k0_pay22 q2 k2) w2 _ _ (scores_22 q2 k2 _ _ hq2 hk2) hw2
    convert h using 3
    rw [Finset.range_zero, Finset.sum_empty, add_zero]
    exact (part_n _ _ _ _ _).symm
  · exact scores_30 q1 n1 _ _ hq1 hn1
  · exact scores_31 q2 n2 _ _ hq2 hn2

theorem ends_at (𝒱 : Variants) (c : Dev nD) (bd : Option 𝒱.V) (t : Fin grid0.N) (arg2 : Memref sig .tc .vmem S256x512 .bf16) (harg2 : arg2.IsWhole) (arg3 : Memref sig .tc .vmem S8448x512 .bf16) (harg3 : arg3.IsWhole) (arg4 : Memref sig .tc .vmem S8448x256 .bf16) (harg4 : arg4.IsWhole) (arg5 : Memref sig .tc .vmem S256x256 .f32) (harg5 : arg5.IsWhole) (arg6 : Memref sig .tc .vmem S2x256x1 .f32) (harg6 : arg6.IsWhole) (v1 : Vec Ideal S256x256 .bf16) (v2 : Vec Ideal S256x256 .bf16) (v4 : BitVec 32) (v8 : FVec Ideal S256x256 .f32) (v9 : FVec Ideal S256x1 .f32) (v12 : FVec Ideal S256x256 .f32) (v16 : FVec Ideal S256x256 .f32) (v21 : FVec Ideal S256x1 .f32) (v23 : FVec Ideal S256x1 .f32) (v29 : FVec Ideal S256x256 .bf16) (v30 : Vec Ideal S256x128 .bf16) (v31 : FVec Ideal S256x128 .bf16)   (x1 : Vec Ideal S8448x512 .bf16) (x2 : Vec Ideal S8448x256 .bf16) (Q K V : ℕ → ℕ → ℝ)
    (hq : IsN v1 Q) (hq' : IsN v2 (sh Q 0 256)) (hk : IsN x1 K) (hv : IsN x2 V) (init : FVec Ideal S256x1 .f32 × FVec Ideal S256x256 .f32 × FVec Ideal S256x1 .f32 × FVec Ideal S256x256 .f32 × FVec Ideal S256x1024 .f32 × FVec Ideal S256x1024 .f32)
    (h0 : At Q K V 0 init (fun i d => ∑ j : Fin 256, wt (dotn 256 Q (sh K 8192 0) i.val j.val) * vxn (sh V 8192 0) j.val d.val)
      (fun i d => ∑ j : Fin 256, wt (dotn 256 (sh Q 0 256) (sh K 8192 256) i.val j.val) * vxn (sh V 8192 128) j.val d.val))
    (n : ℕ) (hn : n = (k0_t1_loop (grid0.coords t)).trips)
    (s : FVec Ideal S256x1 .f32 × FVec Ideal S256x256 .f32 × FVec Ideal S256x1 .f32 × FVec Ideal S256x256 .f32 × FVec Ideal S256x1024 .f32 × FVec Ideal S256x1024 .f32)
    (hs : s = st_k0_t1 𝒱 c bd (grid0.coords t) arg2 harg2 arg3 harg3 arg4 harg4 arg5 harg5 arg6 harg6 v1 v2 v4 v8 v9 v12 v16 v21 v23 v29 v30 v31 (harg3.unread x1) (harg4.unread x2) init n) :
    Soft s.1 s.2.1 (fun i d => totAt (t.val % 33 ≠ 32) Q K V i.val d.val)
      ∧ Soft s.2.2.1 s.2.2.2.1 (fun i d => totAt (t.val % 33 ≠ 32) (sh Q 0 256) (sh K 0 256) (sh V 0 128) i.val d.val) := by
  have h := loop_at 𝒱 c bd t arg2 harg2 arg3 harg3 arg4 harg4 arg5 harg5 arg6 harg6 v1 v2 v4 v8 v9 v12 v16 v21 v23 v29 v30 v31 x1 x2 Q K V hq hq' hk hv _ _ init h0 n hn.le
  rw [← hs] at h
  have hn' : n = if t.val % 33 ≠ 32 then 8 else 0 := by
    rw [hn, trips1]
    by_cases e : t.val % 33 = 32
    · rw [if_pos e, if_neg (not_not.mpr e)]
    · rw [if_neg e, if_pos e]
  refine ⟨?_, ?_⟩
  · convert h.a using 3
    exact totAt_blocks _ Q K V _ _ n hn'
  · convert h.b using 3
    refine (totAt_blocks _ _ _ _ _ _ n hn').trans ?_
    simp only [sh_sh]

end Cert.FwdIdeal.Value

end
-- ==== Proof.FRun.lean ====
/-
  The frame of the forward kernel: its body's run found the pieces each output ends with, the two halves of a block each;
  the pieces cover the block, so what the outputs hold after a point is what the pieces say, and the program runs to its end.
-/
module

public import proofs.«01_k».proof.Proof.Gen.FwdIdeal.Frame.RunA
public import Idealize.ShloMosaic.Lib.Claim
public import Idealize.ShloMosaic.Lib.Pipeline.Value

@[expose] public section

set_option maxRecDepth 16384

noncomputable section

namespace Cert.FwdIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.FwdIdeal Cert.FwdIdeal.Gen

variable {F : FTy → Type} [FloatOps F] [Named F]

local notation "World" => MT nD τ sig Unit (Elt F) ℕ (UR sig nD τ) ℕ

variable (m : (ℓ : Loc nD τ sig) → Buf (Elt F) ℓ) (ρ : Dev nD → PrngReg)

/-- The pieces the body stores into the block of outputs at a point. -/
def piecesO (c : Dev nD) (t : Fin cfg0.N) : List (View.Piece (Elt F) S256x256 .f32) :=
  (kernelRun0_A c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t)).1

/-- The pieces it stores into the block of row log-sums. -/
def piecesL (c : Dev nD) (t : Fin cfg0.N) : List (View.Piece (Elt F) S2x256x1 .f32) :=
  (kernelRun0_A c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t)).2.1

theorem coverO (c : Dev nD) (t : Fin cfg0.N) (y : S256x256.Idx) : ∃ p ∈ piecesO m c t, y ∈ p.1.set :=
  View.cover_of_tiledL (piecesO m c t) S256x128.size (by sl_kernel_rfl) y

theorem coverL (c : Dev nD) (t : Fin cfg0.N) (y : S2x256x1.Idx) : ∃ p ∈ piecesL m c t, y ∈ p.1.set :=
  View.cover_of_tiledL (piecesL m c t) S1x256x1.size (by sl_kernel_rfl) y

/-- The block of outputs after a point. -/
def leftO (c : Dev nD) (t : Fin cfg0.N) : Vec F S256x256 .f32 := VO0_3.read (Elt F) (VO0_3.writes (Elt F) VO0_3.junk (piecesO m c t))

/-- The block of row log-sums after a point. -/
def leftL (c : Dev nD) (t : Fin cfg0.N) : Vec F S2x256x1 .f32 := VO0_4.read (Elt F) (VO0_4.writes (Elt F) VO0_4.junk (piecesL m c t))

/-- The run's data: inputs hold their blocks throughout, outputs what the pieces say. -/
def run (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => leftO m c t
    | ⟨4, _⟩ => leftL m c t
  Φ _ := Pipeline.ΦA spec0 c
  q _ := fullShare
  owed _ := 0

theorem entry_eq (c : Dev nD) (w : Fin cfg0.W) : (run m 0 c).A w = V m c (Pipeline.arrRef spec0 w) := by dsimp only [run]

theorem after_q (c : Dev nD) (t : Fin cfg0.N) : (run m 0 c).after 0 t = iblk m c 0 t := by dsimp only [run]
theorem after_k (c : Dev nD) (t : Fin cfg0.N) : (run m 0 c).after 1 t = iblk m c 1 t := by dsimp only [run]
theorem after_v (c : Dev nD) (t : Fin cfg0.N) : (run m 0 c).after 2 t = iblk m c 2 t := by dsimp only [run]
theorem after_o (c : Dev nD) (t : Fin cfg0.N) : (run m 0 c).after 3 t = leftO m c t := by dsimp only [run]
theorem after_l (c : Dev nD) (t : Fin cfg0.N) : (run m 0 c).after 4 t = leftL m c t := by dsimp only [run]

attribute [local irreducible] kernelRun0_A in
/-- The body at a point, from the inputs' blocks and anything in the outputs. -/
theorem body_at (c : Dev nD) (t : Fin cfg0.N) :
    iprop((run m 0 c).Φ t.castSucc ∗ (run m 0 c).owesAt () t.castSucc
      ∗ (∃ d, owns (c : Thread nD τ) (ms0_0 t) fullShare ((run m 0 c).before 0 t d))
      ∗ (∃ d, owns (c : Thread nD τ) (ms0_1 t) fullShare ((run m 0 c).before 1 t d))
      ∗ (∃ d, owns (c : Thread nD τ) (ms0_2 t) fullShare ((run m 0 c).before 2 t d))
      ∗ (∃ d, owns (c : Thread nD τ) (ms0_3 t) fullShare ((run m 0 c).before 3 t d))
      ∗ (∃ d, owns (c : Thread nD τ) (ms0_4 t) fullShare ((run m 0 c).before 4 t d)))
    ⊢ (wp frame (wpE (defs₀ (F := F)) Variants.none c none) Set.univ (bodyAt0 t) (fun _ =>
      iprop((run m 0 c).Φ t.succ ∗ (run m 0 c).owesAt () t.succ
        ∗ owns (c : Thread nD τ) (ms0_0 t) fullShare ((run m 0 c).after 0 t)
        ∗ owns (c : Thread nD τ) (ms0_1 t) fullShare ((run m 0 c).after 1 t)
        ∗ owns (c : Thread nD τ) (ms0_2 t) fullShare ((run m 0 c).after 2 t)
        ∗ owns (c : Thread nD τ) (ms0_3 t) fullShare ((run m 0 c).after 3 t)
        ∗ owns (c : Thread nD τ) (ms0_4 t) fullShare ((run m 0 c).after 4 t))) : sProp World) := by
  have Φ' : (run m 0 c).Φ t.succ = (run m 0 c).Φ t.castSucc := rfl
  have o' : (run m 0 c).owesAt () t.succ = (run m 0 c).owesAt () t.castSucc := rfl
  simp only [before0_0_of m (run m 0 c) (entry_eq m c 0) (after_q m c) t, before0_1_of m (run m 0 c) (entry_eq m c 1) (after_k m c) t,
    before0_2_of m (run m 0 c) (entry_eq m c 2) (after_v m c) t]
  rw [Φ', o', after_q, after_k, after_v, after_o, after_l]
  unfold bodyAt0 leftO leftL
  iintro ⟨hΦ, ho, ⟨%a0, hq⟩, ⟨%a1, hk⟩, ⟨%a2, hv⟩, ⟨%a3, hO⟩, ⟨%a4, hL⟩⟩
  iapply ((kernelRun0_A c (grid0.coords t) _ _ _ _ _ _ _ _ _ _ (iblk m c 0 t) (iblk m c 1 t) (iblk m c 2 t)).2.2 Set.univ _)
  isplitl [hq]; · iexact hq
  isplitl [hk]; · iexact hk
  isplitl [hv]; · iexact hv
  isplitl [hO]; · iexists _; iexact hO
  isplitl [hL]; · iexists _; iexact hL
  iintro ⟨hq, hk, hv, ⟨%b3, hO⟩, ⟨%b4, hL⟩⟩
  isplitl [hΦ]; · iexact hΦ
  isplitl [ho]; · iexact ho
  isplitl [hq]; · iexact hq
  isplitl [hk]; · iexact hk
  isplitl [hv]; · iexact hv
  isplitl [hO]
  · unfold owns
    iexists _
    isplitr
    swap; · iexact hO
    ipureintro
    exact View.read_writes_of_cover _ _ _ _ _ (coverO m c t)
  · unfold owns
    iexists _
    isplitr
    swap; · iexact hL
    ipureintro
    exact View.read_writes_of_cover _ _ _ _ _ (coverL m c t)

theorem row_eq (t : Fin cfg0.N) : defs₀ (F := F) .tc cfg0.body (cfg0.bodyArgs t (cfg0.slots t)) = bodyAt0 t := by
  unfold defs₀
  rw [Defs.onTc_tc]

theorem obligation (c : Dev nD) : BodyObligation (run (F := F) m 0 c) (defs₀ (F := F)) Variants.none () Set.univ := by
  intro t
  rw [bigSep_W0, bigSep_W0, row_eq]
  exact triple_restated (body_at m c t) rfl .rfl fun _ => .rfl

set_option backward.isDefEq.respectTransparency.types false in
/-- The program runs to its end with every array at what the data say, and every semaphore back at nought. -/
theorem ran : θ_run defs (onTc (τ := τ) (main (F := F))) (s₀ m ρ) (fun r => (Pipeline.FramePost cfgs (run m) 0 (V m)) r ∧ r.2.sem = fun _ => 0) :=
  Pipeline.θ_run_frame (Q' := _) cfgs (run m) (0 : Fin 1) launch0 defs₀ Variants.none m ρ main
    (hbody := fun c => (obligation m c).loose) (hshare := fun c => (run m 0 c).share_full fun _ => rfl)
    (howed := fun _ _ => rfl) (V := V m) (hmain := hmain m Variants.none) (hA := entry_eq m) (hΦ := fun _ _ => rfl)

/-- The results by name, the arguments kept. -/
theorem ran_named : θ_run defs (onTc (τ := τ) (main (F := F))) ⟨m, fun _ => 0, ρ⟩ fun r => (∀ c : Dev nD,
      r.2.mem ((c : Thread nD τ).loc main_v0_0) = (run m 0 c).arrAt 3 cfg0.N
      ∧ r.2.mem ((c : Thread nD τ).loc main_v0_1) = (run m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨fun c => ⟨(h.1 c).1 3, (h.1 c).1 4,
      ((h.1 c).1 0).trans (((run m 0 c).arrAt_in 0 rfl _).trans ((entry_eq m c 0).trans (V_main_arg0 m c))),
      ((h.1 c).1 1).trans (((run m 0 c).arrAt_in 1 rfl _).trans ((entry_eq m c 1).trans (V_main_arg1 m c))),
      ((h.1 c).1 2).trans (((run m 0 c).arrAt_in 2 rfl _).trans ((entry_eq m c 2).trans (V_main_arg2 m c)))⟩, h.2⟩) (ran m ρ)

end Cert.FwdIdeal.Own

end
-- ==== Proof.FOut.lean ====
/-
  What the forward kernel's body leaves at a point: for each of the two heads of a block of queries, the rows of values
  summed under the softmax weights of the keys the queries see, and the rows' base-two log-sums.
-/
module

public import proofs.«01_k».proof.Proof.FEnd
public import proofs.«01_k».proof.Proof.FRun

@[expose] public section

set_option maxRecDepth 16384

noncomputable section

namespace Cert.FwdIdeal.Value

open Idealize.ShloMosaic Idealize.ShloMosaic.TcCoe Idealize.SL.Sem
open Cert.FwdIdeal Cert.FwdIdeal.Gen
open Mla

/-- The second loop runs no trips. -/
theorem rest_none (𝒱 : Variants) (c : Dev nD) (bd : Option 𝒱.V) (t : Fin grid0.N) (arg2 : Memref sig .tc .vmem S256x512 .bf16) (harg2 : arg2.IsWhole) (arg3 : Memref sig .tc .vmem S8448x512 .bf16) (harg3 : arg3.IsWhole) (arg4 : Memref sig .tc .vmem S8448x256 .bf16) (harg4 : arg4.IsWhole) (arg5 : Memref sig .tc .vmem S256x256 .f32) (harg5 : arg5.IsWhole) (arg6 : Memref sig .tc .vmem S2x256x1 .f32) (harg6 : arg6.IsWhole)
    (v1 v2 : Vec Ideal S256x256 .bf16) (v71 : BitVec 32) (X3 : BufTy.Contents (Elt Ideal) arg3.view.ty) (X4 : BufTy.Contents (Elt Ideal) arg4.view.ty)
    (init : FVec Ideal S256x1 .f32 × FVec Ideal S256x256 .f32 × FVec Ideal S256x1 .f32 × FVec Ideal S256x256 .f32 × FVec Ideal S256x1024 .f32 × FVec Ideal S256x1024 .f32)
    (n : ℕ) (hn : n = (k0_t2_loop (grid0.coords t)).trips) :
    st_k0_t2 (F := Ideal) 𝒱 c bd (grid0.coords t) arg2 harg2 arg3 harg3 arg4 harg4 arg5 harg5 arg6 harg6 v1 v2 v71 X3 X4 init n = init := by
  rw [hn, trips2 t]
  rfl

set_option maxHeartbeats 2000000 in
/-- The pieces of a point, over values whose heads hold the sums over all the keys the rows see. -/
theorem pieces (c : Dev nD) (t : Fin grid0.N) (arg2 : Memref sig .tc .vmem S256x512 .bf16) (harg2 : arg2.IsWhole) (arg3 : Memref sig .tc .vmem S8448x512 .bf16) (harg3 : arg3.IsWhole) (arg4 : Memref sig .tc .vmem S8448x256 .bf16) (harg4 : arg4.IsWhole) (arg5 : Memref sig .tc .vmem S256x256 .f32) (harg5 : arg5.IsWhole) (arg6 : Memref sig .tc .vmem S2x256x1 .f32) (harg6 : arg6.IsWhole)
    (x0 : Vec Ideal S256x512 .bf16) (x1 : Vec Ideal S8448x512 .bf16) (x2 : Vec Ideal S8448x256 .bf16)
    (Q K V : ℕ → ℕ → ℝ) (hq : IsN x0 Q) (hk : IsN x1 K) (hv : IsN x2 V) :
    ∃ s : FVec Ideal S256x1 .f32 × FVec Ideal S256x256 .f32 × FVec Ideal S256x1 .f32 × FVec Ideal S256x256 .f32 × FVec Ideal S256x1024 .f32 × FVec Ideal S256x1024 .f32,
      Soft s.1 s.2.1 (fun i d => totAt (t.val % 33 ≠ 32) Q K V i.val d.val)
      ∧ Soft s.2.2.1 s.2.2.2.1 (fun i d => totAt (t.val % 33 ≠ 32) (sh Q 0 256) (sh K 0 256) (sh V 0 128) i.val d.val)
      ∧ (kernelRun0_A (F := Ideal) c (grid0.coords t) arg2 harg2 arg3 harg3 arg4 harg4 arg5 harg5 arg6 harg6 x0 x1 x2).1
        = [⟨Rect.unit (s := S256x256) ![0, 128] S256x128.size inb_S256x256_S256x128_0_128, k0_pay5 s.2.2.2.1⟩,
           ⟨Rect.unit (s := S256x256) ![0, 0] S256x128.size inb_S256x256_S256x128_0_0, k0_pay3 s.2.1⟩]
      ∧ (kernelRun0_A (F := Ideal) c (grid0.coords t) arg2 harg2 arg3 harg3 arg4 harg4 arg5 harg5 arg6 harg6 x0 x1 x2).2.1
        = [⟨Rect.unit (s := S2x256x1) ![1, 0, 0] S1x256x1.size inb_S2x256x1_S1x256x1_1_0_0, k0_pay6 s.2.2.1 s.2.2.2.1⟩,
           ⟨Rect.unit (s := S2x256x1) ![0, 0, 0] S1x256x1.size inb_S2x256x1_S1x256x1_0_0_0, k0_pay4 s.1 s.2.1⟩] := by
  unfold kernelRun0_A
  dsimp only
  sl_unfold_words
  simp only [View.readAt_eq_ld, harg2.read_unread, harg3.read_unread, harg4.read_unread]
  have hq0 := ld_bf16 (a := 256) (b := 256) x0 Q hq ![0, 0] inb_S256x512_S256x256_0_0
  have hq1 := ld_bf16 (a := 256) (b := 256) x0 Q hq ![0, 256] inb_S256x512_S256x256_0_256
  have hk0 := ld_bf16 (a := 256) (b := 256) x1 K hk ![8192, 0] inb_S8448x512_S256x256_8192_0
  have hk1 := ld_bf16 (a := 256) (b := 256) x1 K hk ![8192, 256] inb_S8448x512_S256x256_8192_256
  have hv0 := ld_bf16 (a := 256) (b := 128) x2 V hv ![8192, 0] inb_S8448x256_S256x128_8192_0
  have hv1 := ld_bf16 (a := 256) (b := 128) x2 V hv ![8192, 128] inb_S8448x256_S256x128_8192_128
  have kn0 := ld_bf16 (a := 1024) (b := 256) x1 K hk k0_off1 k0_off1_inb
  have kn1 := ld_bf16 (a := 1024) (b := 256) x1 K hk k0_off2 k0_off2_inb
  have z : sh Q 0 0 = Q := by funext i j; simp only [sh, Nat.zero_add]
  have z1 : sh K (k0_off1 0) (k0_off1 1) = sh K 0 0 := by rw [k0_off1_eq]; rfl
  have z2 : sh K (k0_off2 0) (k0_off2 1) = sh K 0 256 := by rw [k0_off2_eq]; rfl
  rw [z1] at kn0
  rw [z2] at kn1
  simp only [Matrix.cons_val_zero, Matrix.cons_val_one, z] at hq0 hq1 hk0 hk1 hv0 hv1
  refine ⟨_, ?_, ?_, rfl, rfl⟩
  all_goals generalize hs : st_k0_t1 (F := Ideal) Variants.none c none (grid0.coords t) arg2 harg2 arg3 harg3 arg4 harg4 arg5 harg5 arg6 harg6 _ _ _ _ _ _ _ _ _ _ _ _ _ _ _ _ = s
  all_goals generalize ht : st_k0_t2 (F := Ideal) Variants.none c none (grid0.coords t) arg2 harg2 arg3 harg3 arg4 harg4 arg5 harg5 arg6 harg6 _ _ _ _ _ _ _ = s'
  all_goals obtain rfl := ht.symm.trans (rest_none Variants.none c none t arg2 harg2 arg3 harg3 arg4 harg4 arg5 harg5 arg6 harg6 _ _ _ _ _ _ _ rfl)
  · exact (ends_at Variants.none c none t arg2 harg2 arg3 harg3 arg4 harg4 arg5 harg5 arg6 harg6 _ _ _ _ _ _ _ _ _ _ _ _ x1 x2 Q K V hq0 hq1 hk hv _
         (first_at _ _ _ _ _ _ _ _ Q K V hq0 hq1 hk0 hk1 hv0 hv1 kn0 kn1) _ rfl s hs.symm).1
  · exact (ends_at Variants.none c none t arg2 harg2 arg3 harg3 arg4 harg4 arg5 harg5 arg6 harg6 _ _ _ _ _ _ _ _ _ _ _ _ x1 x2 Q K V hq0 hq1 hk hv _
         (first_at _ _ _ _ _ _ _ _ Q K V hq0 hq1 hk0 hk1 hv0 hv1 kn0 kn1) _ rfl s hs.symm).2

end Cert.FwdIdeal.Value

end
-- ==== Proof.FFinal.lean ====
/-
  What the forward call's arrays hold at the end: every row's attention output and base-two log-sum.
-/
module

public import proofs.«01_k».proof.Proof.FOut
public import Idealize.ShloMosaic.Lib.Pipeline.ValueKit
public import Idealize.ShloMosaic.Lib.WritesUnit

@[expose] public section

set_option maxRecDepth 16384

noncomputable section

namespace Mla

open Idealize.ShloMosaic Idealize.ShloMosaic.TcCoe

theorem totAt_congr (b b' : Prop) [Decidable b] [Decidable b'] (hb : b ↔ b') (Q K V Q' K' V' : ℕ → ℕ → ℝ) (i i' d d' : ℕ) (hd : d = d')
    (hQ : ∀ x, Q i x = Q' i' x) (hK : ∀ j x, K j x = K' j x) (hV : ∀ j x, V j x = V' j x) : totAt b Q K V i d = totAt b' Q' K' V' i' d' := by
  subst hd
  unfold totAt dotn vxn
  simp only [hQ, hK, hV, hb]

theorem zAt_congr (b b' : Prop) [Decidable b] [Decidable b'] (hb : b ↔ b') (Q K Q' K' : ℕ → ℕ → ℝ) (i i' : ℕ)
    (hQ : ∀ x, Q i x = Q' i' x) (hK : ∀ j x, K j x = K' j x) : zAt b Q K i = zAt b' Q' K' i' := by
  unfold zAt dotn
  simp only [hQ, hK, hb]

/-- The output of a row of all the heads' queries. -/
def outR (Q K V : ℕ → ℕ → ℝ) (i d : ℕ) : ℝ :=
  totAt (i < 8192) (sh Q 0 (256 * (d / 128))) (sh K 0 (256 * (d / 128))) (sh V 0 (128 * (d / 128))) i (d % 128)
    / zAt (i < 8192) (sh Q 0 (256 * (d / 128))) (sh K 0 (256 * (d / 128))) i

/-- The base-two log-sum of a row of a head's queries. -/
def lseR (Q K : ℕ → ℕ → ℝ) (h i : ℕ) : ℝ := Real.log (zAt (i < 8192) (sh Q 0 (256 * h)) (sh K 0 (256 * h)) i) * (Real.log 2)⁻¹

/-- A block's quotient is the row's output. -/
theorem outR_block (Q K V : ℕ → ℕ → ℝ) (r p g i d e : ℕ) (hr : r < 33) (hi : i < 256) (hg : g < 2) (hd : d < 128) (he : 128 ≤ e) (D : ℕ) (hD : D = 128 * g + d) :
    totAt (r ≠ 32) (sh (sh Q (256 * r) (512 * p)) 0 (256 * g)) (sh (sh K 0 (512 * p)) 0 (256 * g)) (sh (sh V 0 (256 * p)) 0 (128 * g)) i d
      / totAt (r ≠ 32) (sh (sh Q (256 * r) (512 * p)) 0 (256 * g)) (sh (sh K 0 (512 * p)) 0 (256 * g)) (sh (sh V 0 (256 * p)) 0 (128 * g)) i e
      = outR Q K V (256 * r + i) (256 * p + D) := by
  rw [totAt_z _ _ _ _ _ _ he]
  unfold outR
  have e1 : (256 * p + D) / 128 = 2 * p + g := by omega
  have e2 : (256 * p + D) % 128 = d := by omega
  rw [e1, e2]
  congr 1
  · refine totAt_congr _ _ (by omega) _ _ _ _ _ _ _ _ _ _ rfl (fun x => ?_) (fun j x => ?_) (fun j x => ?_) <;> simp only [sh] <;> congr 1 <;> omega
  · refine zAt_congr _ _ (by omega) _ _ _ _ _ _ (fun x => ?_) (fun j x => ?_) <;> simp only [sh] <;> congr 1 <;> omega

theorem lseR_block (Q K V : ℕ → ℕ → ℝ) (r p g i e : ℕ) (hr : r < 33) (hi : i < 256) (hg : g < 2) (he : 128 ≤ e) :
    Real.log (totAt (r ≠ 32) (sh (sh Q (256 * r) (512 * p)) 0 (256 * g)) (sh (sh K 0 (512 * p)) 0 (256 * g)) (sh (sh V 0 (256 * p)) 0 (128 * g)) i e) * (Real.log 2)⁻¹
      = lseR Q K (2 * p + g) (256 * r + i) := by
  rw [totAt_z _ _ _ _ _ _ he]
  unfold lseR
  congr 2
  refine zAt_congr _ _ (by omega) _ _ _ _ _ _ (fun x => ?_) (fun j x => ?_) <;> simp only [sh] <;> congr 1 <;> omega

end Mla

namespace Cert.FwdIdeal.Value

open Idealize.ShloMosaic Idealize.ShloMosaic.TcCoe Idealize.SL.Sem
open Cert.FwdIdeal Cert.FwdIdeal.Gen Cert.FwdIdeal.Own
open Mla

variable (m : (ℓ : Loc nD τ sig) → Buf (Elt Ideal) ℓ)

theorem idx : ∀ t : Fin cfg0.N, win0_0.index t = ![t.val % 33, t.val / 33] ∧ win0_1.index t = ![0, t.val / 33] ∧ win0_2.index t = ![0, t.val / 33]
    ∧ win0_3.index t = ![t.val % 33, t.val / 33] ∧ win0_4.index t = ![t.val / 33, t.val % 33, 0] ∧ t.val / 33 < 4 :=
  (by decide +kernel : ∀ t : Fin grid0.N, _)

theorem q_at (c : Dev nD) (t : Fin cfg0.N) (Q : ℕ → ℕ → ℝ) (hq : IsN (a := 8448) (b := 2048) (m ((c : Thread nD τ).loc main_arg0)) Q) :
    IsN (a := 256) (b := 512) (iblk m c 0 t) (sh Q (256 * (t.val % 33)) (512 * (t.val / 33))) := by
  intro i j
  have hp := (idx t).2.2.2.2.2
  have e : iblk m c 0 t (ix2 i j) = m ((c : Thread nD τ).loc main_arg0) (ix2 (⟨256 * (t.val % 33) + i.val, by omega⟩ : Fin 8448) (⟨512 * (t.val / 33) + j.val, by omega⟩ : Fin 2048)) := by
    blk_ext [iblk, V, idx t]
  exact e.trans (hq _ _)

theorem k_at (c : Dev nD) (t : Fin cfg0.N) (K : ℕ → ℕ → ℝ) (hk : IsN (a := 8448) (b := 2048) (m ((c : Thread nD τ).loc main_arg1)) K) :
    IsN (a := 8448) (b := 512) (iblk m c 1 t) (sh K 0 (512 * (t.val / 33))) := by
  intro i j
  have hp := (idx t).2.2.2.2.2
  have e : iblk m c 1 t (ix2 i j) = m ((c : Thread nD τ).loc main_arg1) (ix2 (⟨0 + i.val, by omega⟩ : Fin 8448) (⟨512 * (t.val / 33) + j.val, by omega⟩ : Fin 2048)) := by
    blk_ext [iblk, V, idx t]
  exact e.trans (hk _ _)

theorem v_at (c : Dev nD) (t : Fin cfg0.N) (V' : ℕ → ℕ → ℝ) (hv : IsN (a := 8448) (b := 1024) (m ((c : Thread nD τ).loc main_arg2)) V') :
    IsN (a := 8448) (b := 256) (iblk m c 2 t) (sh V' 0 (256 * (t.val / 33))) := by
  intro i j
  have hp := (idx t).2.2.2.2.2
  have e : iblk m c 2 t (ix2 i j) = m ((c : Thread nD τ).loc main_arg2) (ix2 (⟨0 + i.val, by omega⟩ : Fin 8448) (⟨256 * (t.val / 33) + j.val, by omega⟩ : Fin 1024)) := by
    blk_ext [iblk, V, idx t]
  exact e.trans (hv _ _)

variable (c : Dev nD) (Q K V' : ℕ → ℕ → ℝ) (hq : IsN (a := 8448) (b := 2048) (m ((c : Thread nD τ).loc main_arg0)) Q)
  (hk : IsN (a := 8448) (b := 2048) (m ((c : Thread nD τ).loc main_arg1)) K) (hv : IsN (a := 8448) (b := 1024) (m ((c : Thread nD τ).loc main_arg2)) V')

include hq hk hv

theorem leftO_at (t : Fin cfg0.N) (i : Fin 256) (d : Fin 256) :
    leftO m c t (ix2 i d) = ((outR Q K V' (256 * (t.val % 33) + i.val) (256 * (t.val / 33) + d.val) : ℝ) : EReal) := by
  obtain ⟨s, ha, hb, e, -⟩ := pieces c t (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) _ _ _ (q_at m c t Q hq) (k_at m c t K hk) (v_at m c t V' hv)
  have e' : piecesO m c t = _ := e
  have hr : t.val % 33 < 33 := Nat.mod_lt _ (by norm_num)
  unfold leftO
  rw [e']
  have z : ∀ (X : ℕ → ℕ → ℝ), sh X 0 0 = X := fun X => by funext i j; simp only [sh, Nat.zero_add]
  by_cases hd : d.val < 128
  · refine (View.read_writes_cons_unit_of_not_mem _ _ _ _ _ _ rfl 1 (.inl (by simpa using hd))).trans ?_
    refine (View.read_writes_cons_unit_of_mem _ _ _ _ _ _ (ix2 i (⟨d.val, hd⟩ : Fin 128)) rfl (Fin.forall_fin_two.mpr ⟨by simp, by simp⟩)).trans ?_
    refine (out_3 s.1 s.2.1 _ ha (fun i' d' h' => (totAt_pos _ _ _ _ _ _ h').ne') i ⟨d.val, hd⟩).trans ?_
    have h := outR_block Q K V' (t.val % 33) (t.val / 33) 0 i.val d.val (128 + d.val) hr i.isLt (by norm_num) hd (by omega) d.val (by omega)
    simp only [Nat.mul_zero, z] at h
    exact congrArg _ h
  · refine (View.read_writes_cons_unit_of_mem _ _ _ _ _ _ (ix2 i (⟨d.val - 128, by omega⟩ : Fin 128)) rfl (Fin.forall_fin_two.mpr ⟨by simp, by simp; omega⟩)).trans ?_
    refine (out_5 s.2.2.1 s.2.2.2.1 _ hb (fun i' d' h' => (totAt_pos _ _ _ _ _ _ h').ne') i ⟨d.val - 128, by omega⟩).trans ?_
    have h := outR_block Q K V' (t.val % 33) (t.val / 33) 1 i.val (d.val - 128) (128 + (d.val - 128)) hr i.isLt (by norm_num) (by omega) (by omega) d.val (by omega)
    simp only [Nat.mul_one] at h
    exact congrArg _ h

theorem leftL_at (t : Fin cfg0.N) (g : Fin 2) (i : Fin 256) (y : Fin 1) :
    leftL m c t (ix3 g i y) = ((lseR Q K (2 * (t.val / 33) + g.val) (256 * (t.val % 33) + i.val) : ℝ) : EReal) := by
  obtain ⟨s, ha, hb, -, e⟩ := pieces c t (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) _ _ _ (q_at m c t Q hq) (k_at m c t K hk) (v_at m c t V' hv)
  have e' : piecesL m c t = _ := e
  have hr : t.val % 33 < 33 := Nat.mod_lt _ (by norm_num)
  unfold leftL
  rw [e']
  have z : ∀ (X : ℕ → ℕ → ℝ), sh X 0 0 = X := fun X => by funext i j; simp only [sh, Nat.zero_add]
  have hy : y.val = 0 := by omega
  by_cases hd : g.val < 1
  · refine (View.read_writes_cons_unit_of_not_mem _ _ _ _ _ _ rfl 0 (.inl (by simpa using hd))).trans ?_
    refine (View.read_writes_cons_unit_of_mem _ _ _ _ _ _ (ix3 (0 : Fin 1) i (0 : Fin 1)) rfl (by
      intro a; fin_cases a <;> simp <;> omega)).trans ?_
    refine (lse_4 s.1 s.2.1 _ ha (fun i' => totAt_pos _ _ _ _ _ _ (by simp)) 0 i 0).trans ?_
    have h := lseR_block Q K V' (t.val % 33) (t.val / 33) 0 i.val 128 hr i.isLt (by norm_num) (by omega)
    simp only [Nat.mul_zero, z] at h
    have hg : g.val = 0 := by omega
    rw [hg]
    exact congrArg _ h
  · refine (View.read_writes_cons_unit_of_mem _ _ _ _ _ _ (ix3 (0 : Fin 1) i (0 : Fin 1)) rfl (by
      intro a; fin_cases a <;> simp <;> omega)).trans ?_
    refine (lse_6 s.2.2.1 s.2.2.2.1 _ hb (fun i' => totAt_pos _ _ _ _ _ _ (by simp)) 0 i 0).trans ?_
    have h := lseR_block Q K V' (t.val % 33) (t.val / 33) 1 i.val 128 hr i.isLt (by norm_num) (by omega)
    simp only [Nat.mul_one] at h
    have hg : g.val = 1 := by omega
    rw [hg]
    exact congrArg _ h

/-- All the outputs. -/
theorem finalO : (run m 0 c).arrAt 3 cfg0.N = fun y : S8448x1024.Idx => ((outR Q K V' (y 0).val (y 1).val : ℝ) : EReal) := by
  refine (run m 0 c).arrAt_eq_of_covers 3 _ (by decide +kernel) fun t _ y => ?_
  blk_simp [idx t]
  rw [after_o]
  idx_vars y
  refine (leftO_at m c Q K V' hq hk hv t _ _).trans ?_
  rw [Nat.mul_comm 256 (t.val % 33), Nat.mul_comm 256 (t.val / 33)]

theorem finalL : (run m 0 c).arrAt 4 cfg0.N = fun y : S8x8448x1.Idx => ((lseR Q K (y 0).val (y 1).val : ℝ) : EReal) := by
  refine (run m 0 c).arrAt_eq_of_covers 4 _ (by decide +kernel) fun t _ y => ?_
  blk_simp [idx t]
  rw [after_l]
  idx_vars y
  refine (leftL_at m c Q K V' hq hk hv t _ _ _).trans ?_
  rw [Nat.mul_comm 256 (t.val % 33), Nat.mul_comm 2 (t.val / 33)]

end Cert.FwdIdeal.Value

end
-- ==== Proof.BSums.lean ====
/-
  The attention's gradients as sums over all queries or keys, and a block's part of them.
-/
module

public import proofs.«01_k».proof.Proof.BMaths
public import proofs.«01_k».proof.Proof.FFinal

@[expose] public section

set_option maxRecDepth 16384

noncomputable section

namespace Mla

open Idealize.ShloMosaic Idealize.ShloMosaic.TcCoe

variable (Q K V G : ℕ → ℕ → ℝ) (h : ℕ)

/-- A row's mean cotangent, for a head. -/
def meanR (i : ℕ) : ℝ := dotn 128 (sh G 0 (128 * h)) (sh (outR Q K V) 0 (128 * h)) i i

/-- What a query takes of a key, -/
def uQ (i d j : ℕ) : ℝ := addQ (sh Q 0 (256 * h)) (sh K 0 (256 * h)) (sh V 0 (128 * h)) (sh G 0 (128 * h)) (lseR Q K h) (meanR Q K V G h) i d j
/-- what a key takes of a query, -/
def uK (i j d : ℕ) : ℝ := dsN (sh Q 0 (256 * h)) (sh K 0 (256 * h)) (sh V 0 (128 * h)) (sh G 0 (128 * h)) (lseR Q K h) (meanR Q K V G h) i j * sh Q 0 (256 * h) i d
/-- and what a value takes of one. -/
def uV (i j d : ℕ) : ℝ := prN (sh Q 0 (256 * h)) (sh K 0 (256 * h)) (lseR Q K h) i j * sh G 0 (128 * h) i d

/-- The sums of what the first rows give a key, -/
def accK (n j d : ℕ) : ℝ := ∑ r ∈ Finset.range n, ∑ i : Fin 256, if 256 * r + i.val < 8192 ∨ 8192 ≤ j then uK Q K V G h (256 * r + i.val) j d else 0
/-- and a value. -/
def accV (n j d : ℕ) : ℝ := ∑ r ∈ Finset.range n, ∑ i : Fin 256, if 256 * r + i.val < 8192 ∨ 8192 ≤ j then uV Q K G h (256 * r + i.val) j d else 0

/-- The gradients of all the heads' queries, -/
def dqR (i d : ℕ) : ℝ := (∑ j : Fin 8448, if i < 8192 ∨ 8192 ≤ j.val then uQ Q K V G (d / 256) i (d % 256) j.val else 0) * cs
/-- keys -/
def dkR (j d : ℕ) : ℝ := (∑ i : Fin 8448, if i.val < 8192 ∨ 8192 ≤ j then uK Q K V G (d / 256) i.val j (d % 256) else 0) * cs
/-- and values. -/
def dvR (j d : ℕ) : ℝ := ∑ i : Fin 8448, if i.val < 8192 ∨ 8192 ≤ j then uV Q K G (d / 128) i.val j (d % 128) else 0

theorem sum_tiles (f : ℕ → ℝ) : ∑ r ∈ Finset.range 33, ∑ i : Fin 256, f (256 * r + i.val) = ∑ i : Fin 8448, f i.val := by
  rw [Finset.sum_range_succ, sum_keys f 256 32 (by norm_num), add_comm]

theorem uQ_tile (r i d j : ℕ) : addQ (sh Q (256 * r) (256 * h)) (sh K 0 (256 * h)) (sh V 0 (128 * h)) (sh G (256 * r) (128 * h)) (fun i => lseR Q K h (256 * r + i))
      (fun i => dotn 128 (sh G (256 * r) (128 * h)) (sh (outR Q K V) (256 * r) (128 * h)) i i) i d j = uQ Q K V G h (256 * r + i) d j := by
  simp only [uQ, meanR, addQ, dsN, prN, dotn, sh, Nat.zero_add]

theorem uK_tile (r j d : ℕ) : addK (sh Q (256 * r) (256 * h)) (sh K 0 (256 * h)) (sh V 0 (128 * h)) (sh G (256 * r) (128 * h)) (fun i => lseR Q K h (256 * r + i))
      (fun i => dotn 128 (sh G (256 * r) (128 * h)) (sh (outR Q K V) (256 * r) (128 * h)) i i) j d = ∑ i : Fin 256, uK Q K V G h (256 * r + i.val) j d := by
  simp only [uK, meanR, addK, dsN, prN, dotn, sh, Nat.zero_add]

theorem uV_tile (r j d : ℕ) : addV (sh Q (256 * r) (256 * h)) (sh K 0 (256 * h)) (sh G (256 * r) (128 * h)) (fun i => lseR Q K h (256 * r + i)) j d
      = ∑ i : Fin 256, uV Q K G h (256 * r + i.val) j d := by
  simp only [uV, addV, prN, dotn, sh, Nat.zero_add]

theorem live_tile (f : ℕ → ℝ) (r j : ℕ) (hr : r < 33) :
    (if r ≠ 32 ∨ 8192 ≤ j then ∑ i : Fin 256, f (256 * r + i.val) else 0) = ∑ i : Fin 256, if 256 * r + i.val < 8192 ∨ 8192 ≤ j then f (256 * r + i.val) else 0 := by
  by_cases c : r ≠ 32 ∨ 8192 ≤ j
  · rw [if_pos c]
    refine Finset.sum_congr rfl fun i _ => ?_
    have : 256 * r + i.val < 8192 ∨ 8192 ≤ j := by have := i.isLt; omega
    rw [if_pos this]
  · rw [if_neg c]
    refine (Finset.sum_eq_zero fun i _ => ?_).symm
    have : ¬ (256 * r + i.val < 8192 ∨ 8192 ≤ j) := by have := i.isLt; omega
    rw [if_neg this]

theorem accK_zero (j d : ℕ) : accK Q K V G h 0 j d = 0 := rfl
theorem accV_zero (j d : ℕ) : accV Q K G h 0 j d = 0 := rfl

theorem accK_succ (r j d : ℕ) (hr : r < 33) : accK Q K V G h r j d + (if r ≠ 32 ∨ 8192 ≤ j then addK (sh Q (256 * r) (256 * h)) (sh K 0 (256 * h)) (sh V 0 (128 * h)) (sh G (256 * r) (128 * h)) (fun i => lseR Q K h (256 * r + i))
      (fun i => dotn 128 (sh G (256 * r) (128 * h)) (sh (outR Q K V) (256 * r) (128 * h)) i i) j d else 0) = accK Q K V G h (r + 1) j d := by
  rw [uK_tile, live_tile (fun i => uK Q K V G h i j d) r j hr]
  exact (Finset.sum_range_succ _ r).symm

theorem accV_succ (r j d : ℕ) (hr : r < 33) : accV Q K G h r j d + (if r ≠ 32 ∨ 8192 ≤ j then addV (sh Q (256 * r) (256 * h)) (sh K 0 (256 * h)) (sh G (256 * r) (128 * h)) (fun i => lseR Q K h (256 * r + i)) j d else 0)
      = accV Q K G h (r + 1) j d := by
  rw [uV_tile, live_tile (fun i => uV Q K G h i j d) r j hr]
  exact (Finset.sum_range_succ _ r).symm

theorem dq_tile (r i d : ℕ) (hi : i < 256) (hr : r < 33) (hd : d < 256) :
    (∑ j : Fin 8448, if r ≠ 32 ∨ 8192 ≤ j.val then addQ (sh Q (256 * r) (256 * h)) (sh K 0 (256 * h)) (sh V 0 (128 * h)) (sh G (256 * r) (128 * h)) (fun i => lseR Q K h (256 * r + i))
      (fun i => dotn 128 (sh G (256 * r) (128 * h)) (sh (outR Q K V) (256 * r) (128 * h)) i i) i d j.val else 0) * cs = dqR Q K V G (256 * r + i) (256 * h + d) := by
  have e1 : (256 * h + d) / 256 = h := by omega
  have e2 : (256 * h + d) % 256 = d := by omega
  unfold dqR
  rw [e1, e2]
  congr 1
  refine Finset.sum_congr rfl fun j _ => ?_
  rw [uQ_tile]
  by_cases c : r ≠ 32 ∨ 8192 ≤ j.val
  · have : 256 * r + i < 8192 ∨ 8192 ≤ j.val := by omega
    rw [if_pos c, if_pos this]
  · have : ¬ (256 * r + i < 8192 ∨ 8192 ≤ j.val) := by omega
    rw [if_neg c, if_neg this]

theorem dk_all (j d : ℕ) (hd : d < 256) : accK Q K V G h 33 j d * cs = dkR Q K V G j (256 * h + d) := by
  have e1 : (256 * h + d) / 256 = h := by omega
  have e2 : (256 * h + d) % 256 = d := by omega
  unfold dkR accK
  rw [e1, e2, sum_tiles fun i => if i < 8192 ∨ 8192 ≤ j then uK Q K V G h i j d else 0]

theorem dv_all (j d : ℕ) (hd : d < 128) : accV Q K G h 33 j d = dvR Q K G j (128 * h + d) := by
  have e1 : (128 * h + d) / 128 = h := by omega
  have e2 : (128 * h + d) % 128 = d := by omega
  unfold dvR accV
  rw [e1, e2, sum_tiles fun i => if i < 8192 ∨ 8192 ≤ j then uV Q K G h i j d else 0]

end Mla

end

end
-- ==== Proof.BHost.lean ====
/-
  The host code before the backward call, read at the reals: the outputs and row log-sums of the forward pass.
-/
module

public import proofs.«01_k».proof.Proof.Rows
public import Idealize.ShloMosaic.Lib.StableHlo.Run
public import proofs.«01_k».proof.Proof.Gen.BwdIdeal.Frame.Runs

@[expose] public section

set_option maxRecDepth 16384

noncomputable section

namespace Cert.BwdIdeal.Value

open Idealize.ShloMosaic Idealize.ShloMosaic.TcCoe Idealize.SL.Sem
open Cert.BwdIdeal Cert.BwdIdeal.Gen
open Mla

/-- The rows by head. -/
def heads (x : FVec Ideal S8448x2048 .bf16) : FVec Ideal S8448x8x256 .f32 :=
  shapeCast _ (extf .f32 x bitsLt_bf16_f32) shapeCasts_S8448x2048_S8448x8x256
def vheads (x : FVec Ideal S8448x1024 .bf16) : FVec Ideal S8448x8x128 .f32 :=
  shapeCast _ (extf .f32 x bitsLt_bf16_f32) shapeCasts_S8448x1024_S8448x8x128

/-- The scaled scores of the queries outside the context. -/
def scoreM (q k : FVec Ideal S8448x8x256 .f32) : FVec Ideal S8x8192x8448 .f32 :=
  Host.divf (extf .f32 (truncf .bf16 (Host.dotGeneral dot_S8192x8x256_S8448x8x256_S8x8192x8448_2_2_0_0_1_1 none (extractStridedSlice S8192x8x256 ![0, 0, 0] q slices_S8448x8x256_S8192x8x256_0_0_0) k) bitsLt_bf16_f32) bitsLt_bf16_f32) (broadcastInDim S8x8192x8448 ![] bcast_S_S8x8192x8448 (Host.sqrt (constant S_ .f32 0x43400000#32)))
/-- Those of the context's queries. -/
def scoreC (q k : FVec Ideal S8448x8x256 .f32) : FVec Ideal S8x256x256 .f32 :=
  Host.divf (extf .f32 (truncf .bf16 (Host.dotGeneral dot_S256x8x256_S256x8x256_S8x256x256_2_2_0_0_1_1 none (extractStridedSlice S256x8x256 ![8192, 0, 0] q slices_S8448x8x256_S256x8x256_8192_0_0) (extractStridedSlice S256x8x256 ![8192, 0, 0] k slices_S8448x8x256_S256x8x256_8192_0_0)) bitsLt_bf16_f32) bitsLt_bf16_f32) (broadcastInDim S8x256x256 ![] bcast_S_S8x256x256 (Host.sqrt (constant S_ .f32 0x43400000#32)))

def topM (s : FVec Ideal S8x8192x8448 .f32) : FVec Ideal S8x8192 .f32 := Host.reduce FloatOps.maximumf s (constant S_ .f32 0xFF800000#32) reducesTo_S8x8192x8448_S8x8192_d2 h_S_
def topC (s : FVec Ideal S8x256x256 .f32) : FVec Ideal S8x256 .f32 := Host.reduce FloatOps.maximumf s (constant S_ .f32 0xFF800000#32) reducesTo_S8x256x256_S8x256_d2 h_S_
def capM (a : FVec Ideal S8x8192 .f32) : FVec Ideal S8x8192 .f32 := maximumf (broadcastInDim S8x8192 ![] bcast_S_S8x8192 (constant S_ .f32 0xFF800000#32)) a
def capC (a : FVec Ideal S8x256 .f32) : FVec Ideal S8x256 .f32 := maximumf (broadcastInDim S8x256 ![] bcast_S_S8x256 (constant S_ .f32 0xFF800000#32)) a

def expM (s : FVec Ideal S8x8192x8448 .f32) (a : FVec Ideal S8x8192 .f32) : FVec Ideal S8x8192x8448 .f32 :=
  Host.exp (subf s (broadcastInDim S8x8192x8448 ![0, 1, 2] bcast_S8x8192x1_S8x8192x8448_0_1_2 (broadcastInDim S8x8192x1 ![0, 1] bcast_S8x8192_S8x8192x1_0_1 a)))
def expC (s : FVec Ideal S8x256x256 .f32) (a : FVec Ideal S8x256 .f32) : FVec Ideal S8x256x256 .f32 :=
  Host.exp (subf s (broadcastInDim S8x256x256 ![0, 1, 2] bcast_S8x256x1_S8x256x256_0_1_2 (broadcastInDim S8x256x1 ![0, 1] bcast_S8x256_S8x256x1_0_1 a)))
def normM (e : FVec Ideal S8x8192x8448 .f32) : FVec Ideal S8x8192 .f32 := Host.reduceAdd e (constant S_ .f32 0x00000000#32) reducesTo_S8x8192x8448_S8x8192_d2 h_S_
def normC (e : FVec Ideal S8x256x256 .f32) : FVec Ideal S8x256 .f32 := Host.reduceAdd e (constant S_ .f32 0x00000000#32) reducesTo_S8x256x256_S8x256_d2 h_S_
def probM (e : FVec Ideal S8x8192x8448 .f32) (z : FVec Ideal S8x8192 .f32) : FVec Ideal S8x8192x8448 .f32 :=
  Host.divf e (broadcastInDim S8x8192x8448 ![0, 1, 2] bcast_S8x8192x1_S8x8192x8448_0_1_2 (broadcastInDim S8x8192x1 ![0, 1] bcast_S8x8192_S8x8192x1_0_1 z))
def probC (e : FVec Ideal S8x256x256 .f32) (z : FVec Ideal S8x256 .f32) : FVec Ideal S8x256x256 .f32 :=
  Host.divf e (broadcastInDim S8x256x256 ![0, 1, 2] bcast_S8x256x1_S8x256x256_0_1_2 (broadcastInDim S8x256x1 ![0, 1] bcast_S8x256_S8x256x1_0_1 z))

/-- The outputs. -/
def outAll (v : FVec Ideal S8448x8x128 .f32) (p : FVec Ideal S8x8192x8448 .f32) (p' : FVec Ideal S8x256x256 .f32) : FVec Ideal S8448x1024 .f32 :=
  shapeCast _ (concatenate S8448x8x128 0 [⟨S8192x8x128, (transpose S8192x8x128 [2, 0, 1] (Host.dotGeneral dot_S8448x8x128_S8x8192x8448_S8x128x8192_0_2_2_1_1_0 none v (extf .f32 (truncf .bf16 p bitsLt_bf16_f32) bitsLt_bf16_f32)) transposes_S8x128x8192_S8192x8x128_2_0_1)⟩,
    ⟨S256x8x128, (transpose S256x8x128 [2, 0, 1] (Host.dotGeneral dot_S256x8x128_S8x256x256_S8x128x256_0_2_2_1_1_0 none (extractStridedSlice S256x8x128 ![8192, 0, 0] v slices_S8448x8x128_S256x8x128_8192_0_0) (extf .f32 (truncf .bf16 p' bitsLt_bf16_f32) bitsLt_bf16_f32)) transposes_S8x128x256_S256x8x128_2_0_1)⟩] concatenates_S8192x8x128_S256x8x128_S8448x8x128_d0) shapeCasts_S8448x8x128_S8448x1024
/-- The row log-sums. -/
def lseAll (a : FVec Ideal S8x8192 .f32) (z : FVec Ideal S8x8192 .f32) (a' z' : FVec Ideal S8x256 .f32) : FVec Ideal S8x8448x1 .f32 :=
  concatenate S8x8448x1 1 [⟨S8x8192x1, (Host.divf (addf (broadcastInDim S8x8192x1 ![0, 1] bcast_S8x8192_S8x8192x1_0_1 a) (Host.log (broadcastInDim S8x8192x1 ![0, 1] bcast_S8x8192_S8x8192x1_0_1 z))) (broadcastInDim S8x8192x1 ![] bcast_S_S8x8192x1 (Host.log (constant S_ .f32 0x40000000#32))))⟩,
    ⟨S8x256x1, (Host.divf (addf (broadcastInDim S8x256x1 ![0, 1] bcast_S8x256_S8x256x1_0_1 a') (Host.log (broadcastInDim S8x256x1 ![0, 1] bcast_S8x256_S8x256x1_0_1 z'))) (broadcastInDim S8x256x1 ![] bcast_S_S8x256x1 (Host.log (constant S_ .f32 0x40000000#32))))⟩] concatenates_S8x8192x1_S8x256x1_S8x8448x1_d1

/-- All outputs of queries, keys and values. -/
def attnOut (q k : FVec Ideal S8448x2048 .bf16) (v : FVec Ideal S8448x1024 .bf16) : FVec Ideal S8448x1024 .f32 :=
  outAll (vheads v)
    (probM (expM (scoreM (heads q) (heads k)) (capM (topM (scoreM (heads q) (heads k))))) (normM (expM (scoreM (heads q) (heads k)) (capM (topM (scoreM (heads q) (heads k)))))))
    (probC (expC (scoreC (heads q) (heads k)) (capC (topC (scoreC (heads q) (heads k))))) (normC (expC (scoreC (heads q) (heads k)) (capC (topC (scoreC (heads q) (heads k)))))))
/-- All row log-sums of queries and keys. -/
def attnLse (q k : FVec Ideal S8448x2048 .bf16) : FVec Ideal S8x8448x1 .f32 :=
  lseAll (topM (scoreM (heads q) (heads k))) (normM (expM (scoreM (heads q) (heads k)) (topM (scoreM (heads q) (heads k)))))
    (topC (scoreC (heads q) (heads k))) (normC (expC (scoreC (heads q) (heads k)) (topC (scoreC (heads q) (heads k)))))

theorem heads_at (x : FVec Ideal S8448x2048 .bf16) (X : ℕ → ℕ → ℝ) (hx : IsN x X) (r : Fin 8448) (h : Fin 8) (d : Fin 256) :
    heads x (ix3 r h d) = ((sh X 0 (256 * h.val) r.val d.val : ℝ) : EReal) := by
  pointwise [heads]
  rw [hx]
  simp only [sh, Nat.zero_add, Nat.mul_comm]

theorem vheads_at (x : FVec Ideal S8448x1024 .bf16) (X : ℕ → ℕ → ℝ) (hx : IsN x X) (r : Fin 8448) (h : Fin 8) (d : Fin 128) :
    vheads x (ix3 r h d) = ((sh X 0 (128 * h.val) r.val d.val : ℝ) : EReal) := by
  pointwise [vheads]
  rw [hx]
  simp only [sh, Nat.zero_add, Nat.mul_comm]

theorem scoreM_at (q k : FVec Ideal S8448x2048 .bf16) (Q K : ℕ → ℕ → ℝ) (hq : IsN q Q) (hk : IsN k K) (h : Fin 8) (i : Fin 8192) (j : Fin 8448) :
    scoreM (heads q) (heads k) (ix3 h i j) = ((cs * dotn 256 (sh Q 0 (256 * h.val)) (sh K 0 (256 * h.val)) i.val j.val : ℝ) : EReal) := by
  pointwise [scoreM]
  rw [sum_mul_coe (fun x => heads_at q Q hq _ h x) (fun x => heads_at k K hk j h x), div_scale]
  rfl

theorem scoreC_at (q k : FVec Ideal S8448x2048 .bf16) (Q K : ℕ → ℕ → ℝ) (hq : IsN q Q) (hk : IsN k K) (h : Fin 8) (i : Fin 256) (j : Fin 256) :
    scoreC (heads q) (heads k) (ix3 h i j) = ((cs * dotn 256 (sh Q 0 (256 * h.val)) (sh K 0 (256 * h.val)) (8192 + i.val) (8192 + j.val) : ℝ) : EReal) := by
  pointwise [scoreC]
  rw [sum_mul_coe (fun x => heads_at q Q hq _ h x) (fun x => heads_at k K hk _ h x), div_scale]
  rfl

theorem topM_at (s : FVec Ideal S8x8192x8448 .f32) (h : Fin 8) (i : Fin 8192) (S : Fin 8448 → ℝ) (hs : ∀ j, s (ix3 h i j) = ((S j : ℝ) : EReal)) :
    ∃ r : ℝ, topM s (ix2 h i) = (r : EReal) := by
  obtain ⟨r, hr⟩ := top_real (n := 8447) (fun j => s (ix3 h i j)) S hs
  refine ⟨r, ?_⟩
  pointwise [topM]
  exact hr

theorem topC_at (s : FVec Ideal S8x256x256 .f32) (h : Fin 8) (i : Fin 256) (S : Fin 256 → ℝ) (hs : ∀ j, s (ix3 h i j) = ((S j : ℝ) : EReal)) :
    ∃ r : ℝ, topC s (ix2 h i) = (r : EReal) := by
  obtain ⟨r, hr⟩ := top_real (n := 255) (fun j => s (ix3 h i j)) S hs
  refine ⟨r, ?_⟩
  pointwise [topC]
  exact hr

theorem capM_at (a : FVec Ideal S8x8192 .f32) (h : Fin 8) (i : Fin 8192) : capM a (ix2 h i) = a (ix2 h i) := by
  pointwise [capM]
  exact cap_real _

theorem capC_at (a : FVec Ideal S8x256 .f32) (h : Fin 8) (i : Fin 256) : capC a (ix2 h i) = a (ix2 h i) := by
  pointwise [capC]
  exact cap_real _

theorem probM_at (s : FVec Ideal S8x8192x8448 .f32) (a : FVec Ideal S8x8192 .f32) (h : Fin 8) (i : Fin 8192) (S : Fin 8448 → ℝ) (M : ℝ)
    (hs : ∀ j, s (ix3 h i j) = ((S j : ℝ) : EReal)) (ha : a (ix2 h i) = (M : EReal)) (j : Fin 8448) :
    probM (expM s a) (normM (expM s a)) (ix3 h i j) = ((Real.exp (S j) / ∑ x, Real.exp (S x) : ℝ) : EReal) := by
  pointwise [probM, expM, normM]
  rw [ha]
  exact prob_real (n := 8447) (fun j => s (ix3 h i j)) S M hs j

theorem probC_at (s : FVec Ideal S8x256x256 .f32) (a : FVec Ideal S8x256 .f32) (h : Fin 8) (i : Fin 256) (S : Fin 256 → ℝ) (M : ℝ)
    (hs : ∀ j, s (ix3 h i j) = ((S j : ℝ) : EReal)) (ha : a (ix2 h i) = (M : EReal)) (j : Fin 256) :
    probC (expC s a) (normC (expC s a)) (ix3 h i j) = ((Real.exp (S j) / ∑ x, Real.exp (S x) : ℝ) : EReal) := by
  pointwise [probC, expC, normC]
  rw [ha]
  exact prob_real (n := 255) (fun j => s (ix3 h i j)) S M hs j

theorem outAll_M (v : FVec Ideal S8448x8x128 .f32) (p : FVec Ideal S8x8192x8448 .f32) (p' : FVec Ideal S8x256x256 .f32) (i : Fin 8448) (d : Fin 1024) (hi : i.val < 8192) :
    outAll v p p' (ix2 i d) = ∑ x : Fin 8448, v (ix3 x ⟨d.val / 128, by omega⟩ ⟨d.val % 128, by omega⟩) * p (ix3 ⟨d.val / 128, by omega⟩ ⟨i.val, hi⟩ x) := by
  pointwise [outAll]
  exact dif_pos hi

theorem outAll_C (v : FVec Ideal S8448x8x128 .f32) (p : FVec Ideal S8x8192x8448 .f32) (p' : FVec Ideal S8x256x256 .f32) (i : Fin 8448) (d : Fin 1024) (hi : ¬ i.val < 8192) :
    outAll v p p' (ix2 i d) = ∑ x : Fin 256, v (ix3 ⟨8192 + x.val, by omega⟩ ⟨d.val / 128, by omega⟩ ⟨d.val % 128, by omega⟩) * p' (ix3 ⟨d.val / 128, by omega⟩ ⟨i.val - 8192, by omega⟩ x) := by
  pointwise [outAll]
  exact dif_neg hi

theorem lseAll_M (a z : FVec Ideal S8x8192 .f32) (a' z' : FVec Ideal S8x256 .f32) (h : Fin 8) (i : Fin 8448) (y : Fin 1) (hi : i.val < 8192) :
    lseAll a z a' z' (ix3 h i y) = Ideal.div (a (ix2 h ⟨i.val, hi⟩) + Ideal.log (z (ix2 h ⟨i.val, hi⟩))) (Ideal.log (Ideal.ofBits .f32 0x40000000#32)) := by
  pointwise [lseAll]
  exact dif_pos hi

theorem lseAll_C (a z : FVec Ideal S8x8192 .f32) (a' z' : FVec Ideal S8x256 .f32) (h : Fin 8) (i : Fin 8448) (y : Fin 1) (hi : ¬ i.val < 8192) :
    lseAll a z a' z' (ix3 h i y) = Ideal.div (a' (ix2 h ⟨i.val - 8192, by omega⟩) + Ideal.log (z' (ix2 h ⟨i.val - 8192, by omega⟩))) (Ideal.log (Ideal.ofBits .f32 0x40000000#32)) := by
  pointwise [lseAll]
  exact dif_neg hi

theorem logM_at (s : FVec Ideal S8x8192x8448 .f32) (a : FVec Ideal S8x8192 .f32) (h : Fin 8) (i : Fin 8192) (S : Fin 8448 → ℝ) (M : ℝ)
    (hs : ∀ j, s (ix3 h i j) = ((S j : ℝ) : EReal)) (ha : a (ix2 h i) = (M : EReal)) :
    Ideal.div (a (ix2 h i) + Ideal.log (normM (expM s a) (ix2 h i))) (Ideal.log (Ideal.ofBits .f32 0x40000000#32))
      = ((Real.log (∑ x, Real.exp (S x)) * (Real.log 2)⁻¹ : ℝ) : EReal) := by
  pointwise [normM, expM]
  rw [ha]
  exact lse_real (n := 8447) (fun j => s (ix3 h i j)) S M hs

theorem logC_at (s : FVec Ideal S8x256x256 .f32) (a : FVec Ideal S8x256 .f32) (h : Fin 8) (i : Fin 256) (S : Fin 256 → ℝ) (M : ℝ)
    (hs : ∀ j, s (ix3 h i j) = ((S j : ℝ) : EReal)) (ha : a (ix2 h i) = (M : EReal)) :
    Ideal.div (a (ix2 h i) + Ideal.log (normC (expC s a) (ix2 h i))) (Ideal.log (Ideal.ofBits .f32 0x40000000#32))
      = ((Real.log (∑ x, Real.exp (S x)) * (Real.log 2)⁻¹ : ℝ) : EReal) := by
  pointwise [normC, expC]
  rw [ha]
  exact lse_real (n := 255) (fun j => s (ix3 h i j)) S M hs

/-- The outputs: the rows of values under the softmax weights of the keys the row sees. -/
theorem attnOut_at (q k : FVec Ideal S8448x2048 .bf16) (v : FVec Ideal S8448x1024 .bf16) (Q K V : ℕ → ℕ → ℝ) (hq : IsN q Q) (hk : IsN k K) (hv : IsN v V)
    (i : Fin 8448) (d : Fin 1024) :
    attnOut q k v (ix2 i d) = ((totAt (i.val < 8192) (sh Q 0 (256 * (d.val / 128))) (sh K 0 (256 * (d.val / 128))) (sh V 0 (128 * (d.val / 128))) i.val (d.val % 128)
      / zAt (i.val < 8192) (sh Q 0 (256 * (d.val / 128))) (sh K 0 (256 * (d.val / 128))) i.val : ℝ) : EReal) := by
  have hd : d.val % 128 < 128 := Nat.mod_lt _ (by norm_num)
  unfold attnOut
  by_cases hi : i.val < 8192
  · rw [outAll_M _ _ _ i d hi]
    obtain ⟨M, hM⟩ := topM_at (scoreM (heads q) (heads k)) ⟨d.val / 128, by omega⟩ ⟨i.val, hi⟩ _ (fun j => scoreM_at q k Q K hq hk _ _ j)
    have hc := (capM_at (topM (scoreM (heads q) (heads k))) ⟨d.val / 128, by omega⟩ ⟨i.val, hi⟩).trans hM
    have hp := fun j => probM_at (scoreM (heads q) (heads k)) (capM (topM (scoreM (heads q) (heads k)))) ⟨d.val / 128, by omega⟩ ⟨i.val, hi⟩ _ M
      (fun j => scoreM_at q k Q K hq hk _ _ j) hc j
    rw [sum_mul_coe (fun x => vheads_at v V hv x _ _) hp]
    exact congrArg _ (mean_all _ hi _ _ _ i.val (d.val % 128) hd)
  · rw [outAll_C _ _ _ i d hi]
    have hi' : i.val - 8192 < 256 := by omega
    have e8 : 8192 + (i.val - 8192) = i.val := by omega
    obtain ⟨M, hM⟩ := topC_at (scoreC (heads q) (heads k)) ⟨d.val / 128, by omega⟩ ⟨i.val - 8192, hi'⟩ _ (fun j => scoreC_at q k Q K hq hk _ _ j)
    have hc := (capC_at (topC (scoreC (heads q) (heads k))) ⟨d.val / 128, by omega⟩ ⟨i.val - 8192, hi'⟩).trans hM
    have hp := fun j => probC_at (scoreC (heads q) (heads k)) (capC (topC (scoreC (heads q) (heads k)))) ⟨d.val / 128, by omega⟩ ⟨i.val - 8192, hi'⟩ _ M
      (fun j => scoreC_at q k Q K hq hk _ _ j) hc j
    have hv' : ∀ x : Fin 256, vheads v (ix3 ⟨8192 + x.val, by omega⟩ ⟨d.val / 128, by omega⟩ ⟨d.val % 128, by omega⟩) = _ := fun x => vheads_at v V hv ⟨8192 + x.val, by omega⟩ ⟨d.val / 128, by omega⟩ ⟨d.val % 128, by omega⟩
    rw [sum_mul_coe hv' hp]
    have e := mean_ctx _ hi (sh Q 0 (256 * (d.val / 128))) (sh K 0 (256 * (d.val / 128))) (sh V 0 (128 * (d.val / 128))) i.val (d.val % 128) hd
    rw [← e]
    simp only [e8]

/-- The row log-sums, in base two. -/
theorem attnLse_at (q k : FVec Ideal S8448x2048 .bf16) (Q K : ℕ → ℕ → ℝ) (hq : IsN q Q) (hk : IsN k K) (h : Fin 8) (i : Fin 8448) (y : Fin 1) :
    attnLse q k (ix3 h i y) = ((Real.log (zAt (i.val < 8192) (sh Q 0 (256 * h.val)) (sh K 0 (256 * h.val)) i.val) * (Real.log 2)⁻¹ : ℝ) : EReal) := by
  unfold attnLse
  by_cases hi : i.val < 8192
  · obtain ⟨M, hM⟩ := topM_at (scoreM (heads q) (heads k)) h ⟨i.val, hi⟩ _ (fun j => scoreM_at q k Q K hq hk _ _ j)
    rw [lseAll_M _ _ _ _ h i y hi, logM_at _ _ h ⟨i.val, hi⟩ _ M (fun j => scoreM_at q k Q K hq hk _ _ j) hM, zAt_all _ hi]
    rfl
  · have hi' : i.val - 8192 < 256 := by omega
    have e8 : 8192 + (i.val - 8192) = i.val := by omega
    obtain ⟨M, hM⟩ := topC_at (scoreC (heads q) (heads k)) h ⟨i.val - 8192, hi'⟩ _ (fun j => scoreC_at q k Q K hq hk _ _ j)
    rw [lseAll_C _ _ _ _ h i y hi, logC_at _ _ h ⟨i.val - 8192, hi'⟩ _ M (fun j => scoreC_at q k Q K hq hk _ _ j) hM, zAt_ctx _ hi]
    simp only [e8]
    rfl

/-- The host code's stretches: up to the outputs' two parts, -/
abbrev opsA : List (HloOp τ sig (Elt Ideal)) := hostOps0.take 60
/-- the outputs, -/
abbrev opsB : List (HloOp τ sig (Elt Ideal)) := (hostOps0.drop 60).take 2
/-- up to the log-sums' two parts, -/
abbrev opsC : List (HloOp τ sig (Elt Ideal)) := (hostOps0.drop 62).take 51
/-- and the log-sums. -/
abbrev opsD : List (HloOp τ sig (Elt Ideal)) := hostOps0.drop 113

theorem stretches (V0 : Valuation τ sig (Elt Ideal)) :
    StableHlo.after hostOps0 V0 = StableHlo.after opsD (StableHlo.after opsC (StableHlo.after opsB (StableHlo.after opsA V0))) := by
  rw [← StableHlo.after_append, ← StableHlo.after_append, ← StableHlo.after_append]
  rfl

/-- The outputs outside the context, and the context's. -/
def partM (q k : FVec Ideal S8448x2048 .bf16) (v : FVec Ideal S8448x1024 .bf16) : FVec Ideal S8192x8x128 .f32 := transpose S8192x8x128 [2, 0, 1] (Host.dotGeneral dot_S8448x8x128_S8x8192x8448_S8x128x8192_0_2_2_1_1_0 none (vheads v) (extf .f32 (truncf .bf16 (probM (expM (scoreM (heads q) (heads k)) (capM (topM (scoreM (heads q) (heads k))))) (normM (expM (scoreM (heads q) (heads k)) (capM (topM (scoreM (heads q) (heads k))))))) bitsLt_bf16_f32) bitsLt_bf16_f32)) transposes_S8x128x8192_S8192x8x128_2_0_1
def partC (q k : FVec Ideal S8448x2048 .bf16) (v : FVec Ideal S8448x1024 .bf16) : FVec Ideal S256x8x128 .f32 := transpose S256x8x128 [2, 0, 1] (Host.dotGeneral dot_S256x8x128_S8x256x256_S8x128x256_0_2_2_1_1_0 none (extractStridedSlice S256x8x128 ![8192, 0, 0] (vheads v) slices_S8448x8x128_S256x8x128_8192_0_0) (extf .f32 (truncf .bf16 (probC (expC (scoreC (heads q) (heads k)) (capC (topC (scoreC (heads q) (heads k))))) (normC (expC (scoreC (heads q) (heads k)) (capC (topC (scoreC (heads q) (heads k))))))) bitsLt_bf16_f32) bitsLt_bf16_f32)) transposes_S8x128x256_S256x8x128_2_0_1
def lseM (q k : FVec Ideal S8448x2048 .bf16) : FVec Ideal S8x8192x1 .f32 := Host.divf (addf (broadcastInDim S8x8192x1 ![0, 1] bcast_S8x8192_S8x8192x1_0_1 (topM (scoreM (heads q) (heads k)))) (Host.log (broadcastInDim S8x8192x1 ![0, 1] bcast_S8x8192_S8x8192x1_0_1 (normM (expM (scoreM (heads q) (heads k)) (topM (scoreM (heads q) (heads k)))))))) (broadcastInDim S8x8192x1 ![] bcast_S_S8x8192x1 (Host.log (constant S_ .f32 0x40000000#32)))
def lseC (q k : FVec Ideal S8448x2048 .bf16) : FVec Ideal S8x256x1 .f32 := Host.divf (addf (broadcastInDim S8x256x1 ![0, 1] bcast_S8x256_S8x256x1_0_1 (topC (scoreC (heads q) (heads k)))) (Host.log (broadcastInDim S8x256x1 ![0, 1] bcast_S8x256_S8x256x1_0_1 (normC (expC (scoreC (heads q) (heads k)) (topC (scoreC (heads q) (heads k)))))))) (broadcastInDim S8x256x1 ![] bcast_S_S8x256x1 (Host.log (constant S_ .f32 0x40000000#32)))

theorem keepA0 (V0 : Valuation τ sig (Elt Ideal)) : StableHlo.after opsA V0 (no_index (Proc.devRef .tc main_arg0)) = V0 (Proc.devRef .tc main_arg0) :=
  StableHlo.after_of_forall_not_mem (b := Proc.devRef .tc main_arg0) _ _ (List.forall_iff_forall_mem.mp (by
    simp only [opsA, hostOps0, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem keepA1 (V0 : Valuation τ sig (Elt Ideal)) : StableHlo.after opsA V0 (no_index (Proc.devRef .tc main_arg1)) = V0 (Proc.devRef .tc main_arg1) :=
  StableHlo.after_of_forall_not_mem (b := Proc.devRef .tc main_arg1) _ _ (List.forall_iff_forall_mem.mp (by
    simp only [opsA, hostOps0, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem keepB0 (V0 : Valuation τ sig (Elt Ideal)) : StableHlo.after opsB V0 (no_index (Proc.devRef .tc main_arg0)) = V0 (Proc.devRef .tc main_arg0) :=
  StableHlo.after_of_forall_not_mem (b := Proc.devRef .tc main_arg0) _ _ (List.forall_iff_forall_mem.mp (by
    simp only [opsB, hostOps0, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem keepB1 (V0 : Valuation τ sig (Elt Ideal)) : StableHlo.after opsB V0 (no_index (Proc.devRef .tc main_arg1)) = V0 (Proc.devRef .tc main_arg1) :=
  StableHlo.after_of_forall_not_mem (b := Proc.devRef .tc main_arg1) _ _ (List.forall_iff_forall_mem.mp (by
    simp only [opsB, hostOps0, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem keepC (V0 : Valuation τ sig (Elt Ideal)) : StableHlo.after opsC V0 (no_index (Proc.devRef .tc main_v53)) = V0 (Proc.devRef .tc main_v53) :=
  StableHlo.after_of_forall_not_mem (b := Proc.devRef .tc main_v53) _ _ (List.forall_iff_forall_mem.mp (by
    simp only [opsC, hostOps0, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

theorem keepD (V0 : Valuation τ sig (Elt Ideal)) : StableHlo.after opsD V0 (no_index (Proc.devRef .tc main_v53)) = V0 (Proc.devRef .tc main_v53) :=
  StableHlo.after_of_forall_not_mem (b := Proc.devRef .tc main_v53) _ _ (List.forall_iff_forall_mem.mp (by
    simp only [opsD, hostOps0, List.drop_succ_cons, List.drop_zero, List.take_succ_cons, List.take_zero, List.Forall, StableHlo.nullary_writes, StableHlo.unary_writes, StableHlo.binary_writes, StableHlo.reshape_writes, Finset.mem_singleton]
    repeat' apply And.intro
    all_goals exact StableHlo.devRef_ne_of_ne (by decide)))

set_option maxRecDepth 8192 in
set_option maxHeartbeats 2000000 in
theorem rdM (V0 : Valuation τ sig (Elt Ideal)) : StableHlo.after opsA V0 (no_index (Proc.devRef .tc main_v27)) = partM (V0 (Proc.devRef .tc main_arg0)) (V0 (Proc.devRef .tc main_arg1)) (V0 (Proc.devRef .tc main_arg2)) := by
  simp only [opsA, hostOps0, List.drop_succ_cons, List.drop_zero, List.take_succ_cons, List.take_zero]
  after_results_simp
  rfl

set_option maxRecDepth 8192 in
set_option maxHeartbeats 2000000 in
theorem rdC (V0 : Valuation τ sig (Elt Ideal)) : StableHlo.after opsA V0 (no_index (Proc.devRef .tc main_v51)) = partC (V0 (Proc.devRef .tc main_arg0)) (V0 (Proc.devRef .tc main_arg1)) (V0 (Proc.devRef .tc main_arg2)) := by
  simp only [opsA, hostOps0, List.drop_succ_cons, List.drop_zero, List.take_succ_cons, List.take_zero]
  after_results_simp
  rfl

set_option maxRecDepth 8192 in
set_option maxHeartbeats 2000000 in
theorem rdLM (V0 : Valuation τ sig (Elt Ideal)) : StableHlo.after opsC V0 (no_index (Proc.devRef .tc main_v76)) = lseM (V0 (Proc.devRef .tc main_arg0)) (V0 (Proc.devRef .tc main_arg1)) := by
  simp only [opsC, hostOps0, List.drop_succ_cons, List.drop_zero, List.take_succ_cons, List.take_zero]
  after_results_simp
  rfl

set_option maxRecDepth 8192 in
set_option maxHeartbeats 2000000 in
theorem rdLC (V0 : Valuation τ sig (Elt Ideal)) : StableHlo.after opsC V0 (no_index (Proc.devRef .tc main_v96)) = lseC (V0 (Proc.devRef .tc main_arg0)) (V0 (Proc.devRef .tc main_arg1)) := by
  simp only [opsC, hostOps0, List.drop_succ_cons, List.drop_zero, List.take_succ_cons, List.take_zero]
  after_results_simp
  rfl

theorem rdB (V0 : Valuation τ sig (Elt Ideal)) (a : FVec Ideal S8192x8x128 .f32) (b : FVec Ideal S256x8x128 .f32)
    (ha : V0 (Proc.devRef .tc main_v27) = a) (hb : V0 (Proc.devRef .tc main_v51) = b) :
    StableHlo.after opsB V0 (no_index (Proc.devRef .tc main_v53)) = shapeCast _ (concatenate S8448x8x128 0 [⟨S8192x8x128, a⟩, ⟨S256x8x128, b⟩] concatenates_S8192x8x128_S256x8x128_S8448x8x128_d0) shapeCasts_S8448x8x128_S8448x1024 := by
  subst ha hb
  simp only [opsB, hostOps0, List.drop_succ_cons, List.drop_zero, List.take_succ_cons, List.take_zero]
  after_results_simp
  rfl

theorem rdD (V0 : Valuation τ sig (Elt Ideal)) (a : FVec Ideal S8x8192x1 .f32) (b : FVec Ideal S8x256x1 .f32)
    (ha : V0 (Proc.devRef .tc main_v76) = a) (hb : V0 (Proc.devRef .tc main_v96) = b) :
    StableHlo.after opsD V0 (no_index (Proc.devRef .tc main_v97)) = concatenate S8x8448x1 1 [⟨S8x8192x1, a⟩, ⟨S8x256x1, b⟩] concatenates_S8x8192x1_S8x256x1_S8x8448x1_d1 := by
  subst ha hb
  simp only [opsD, hostOps0, List.drop_succ_cons, List.drop_zero, List.take_succ_cons, List.take_zero]
  after_results_simp
  try rfl

/-- What the region finds as the outputs' array, -/
theorem host_out (m : (ℓ : Loc nD τ sig) → Buf (Elt Ideal) ℓ) (c : Dev nD) :
    V m c main_v53 = attnOut (m ((c : Thread nD τ).loc main_arg0)) (m ((c : Thread nD τ).loc main_arg1)) (m ((c : Thread nD τ).loc main_arg2)) := by
  unfold V
  rw [stretches]
  refine (keepD _).trans ((keepC _).trans ((rdB _ _ _ (rdM _) (rdC _)).trans ?_))
  rfl

/-- and as the row log-sums'. -/
theorem host_lse (m : (ℓ : Loc nD τ sig) → Buf (Elt Ideal) ℓ) (c : Dev nD) :
    V m c main_v97 = attnLse (m ((c : Thread nD τ).loc main_arg0)) (m ((c : Thread nD τ).loc main_arg1)) := by
  unfold V
  rw [stretches]
  refine (rdD _ _ _ (rdLM _) (rdLC _)).trans ?_
  rw [keepB0, keepB1, keepA0, keepA1]
  rfl

end Cert.BwdIdeal.Value

end
-- ==== Proof.BConsts.lean ====
module

public import proofs.«01_k».proof.Proof.Gen.BwdIdeal.Skeleton
public import proofs.«01_k».proof.Proof.Maths

@[expose] public section

set_option maxRecDepth 16384

noncomputable section

namespace Cert.BwdIdeal.Value

open Idealize.ShloMosaic Idealize.ShloMosaic.TcCoe Idealize.SL.Sem
open Cert.BwdIdeal Cert.BwdIdeal.Gen
open Mla

theorem named_s : Named.named (F := Ideal) κ "scale_log2e" (φ := .f32) 0x3DD53B95#32 = ((c2 : ℝ) : EReal) :=
  IdealRules.named_const.ideal_named_scalar _ _ _ _ rfl

theorem named_l : Named.named (F := Ideal) κ "log2e" (φ := .f32) 0x3FB8AA3B#32 = (((Real.log 2)⁻¹ : ℝ) : EReal) :=
  IdealRules.named_const.ideal_named_scalar _ _ _ _ rfl

theorem named_c : Named.named (F := Ideal) κ "scale" (φ := .f32) 0x3D93CD3A#32 = ((cs : ℝ) : EReal) :=
  IdealRules.named_const.ideal_named_scalar _ _ _ _ rfl

theorem minf : Ideal.ofBits FTy.f32 0xFF800000#32 = (⊥ : EReal) := by
  simp [Ideal.ofBits, Ideal.ieee, -EReal.coe_mul]

end Cert.BwdIdeal.Value

end

end
-- ==== Proof.BPay.lean ====
module

public import proofs.«01_k».proof.Proof.Gen.BwdIdeal.Skeleton
public import proofs.«01_k».proof.Proof.BConsts

@[expose] public section

set_option maxRecDepth 16384

noncomputable section

namespace Cert.BwdIdeal.Value

open Idealize.ShloMosaic Idealize.ShloMosaic.TcCoe Idealize.SL.Sem
open Cert.BwdIdeal Cert.BwdIdeal.Gen
open Mla

theorem scores_3 (q : Vec Ideal S256x256 .bf16) (k : Vec Ideal S2048x256 .bf16) (Q : Fin 256 → Fin 256 → ℝ) (K : Fin 2048 → Fin 256 → ℝ) (hq : Is2 q Q) (hk : Is2 k K) :
    Is2 (k0_pay3 (F := Ideal) q k) (dots Q K) := by
  intro i j
  pointwise [k0_pay3]
  exact sum_mul_coe (fun _ => hq _ _) (fun _ => hk _ _)

theorem scores_10 (q : Vec Ideal S256x256 .bf16) (k : Vec Ideal S2048x256 .bf16) (Q : Fin 256 → Fin 256 → ℝ) (K : Fin 2048 → Fin 256 → ℝ) (hq : Is2 q Q) (hk : Is2 k K) :
    Is2 (k0_pay10 (F := Ideal) q k) (dots Q K) := by
  intro i j
  pointwise [k0_pay10]
  exact sum_mul_coe (fun _ => hq _ _) (fun _ => hk _ _)

theorem scores_28 (q : Vec Ideal S256x256 .bf16) (k : Vec Ideal S2048x256 .bf16) (Q : Fin 256 → Fin 256 → ℝ) (K : Fin 2048 → Fin 256 → ℝ) (hq : Is2 q Q) (hk : Is2 k K) :
    Is2 (k0_pay28 (F := Ideal) q k) (dots Q K) := by
  intro i j
  pointwise [k0_pay28]
  exact sum_mul_coe (fun _ => hq _ _) (fun _ => hk _ _)

theorem scores_4 (q : FVec Ideal S256x128 .bf16) (k : Vec Ideal S2048x128 .bf16) (Q : Fin 256 → Fin 128 → ℝ) (K : Fin 2048 → Fin 128 → ℝ) (hq : Is2 q Q) (hk : Is2 k K) :
    Is2 (k0_pay4 (F := Ideal) q k) (dots Q K) := by
  intro i j
  pointwise [k0_pay4]
  exact sum_mul_coe (fun _ => hq _ _) (fun _ => hk _ _)

theorem scores_11 (q : FVec Ideal S256x128 .bf16) (k : Vec Ideal S2048x128 .bf16) (Q : Fin 256 → Fin 128 → ℝ) (K : Fin 2048 → Fin 128 → ℝ) (hq : Is2 q Q) (hk : Is2 k K) :
    Is2 (k0_pay11 (F := Ideal) q k) (dots Q K) := by
  intro i j
  pointwise [k0_pay11]
  exact sum_mul_coe (fun _ => hq _ _) (fun _ => hk _ _)

theorem scores_29 (q : FVec Ideal S256x128 .bf16) (k : Vec Ideal S2048x128 .bf16) (Q : Fin 256 → Fin 128 → ℝ) (K : Fin 2048 → Fin 128 → ℝ) (hq : Is2 q Q) (hk : Is2 k K) :
    Is2 (k0_pay29 (F := Ideal) q k) (dots Q K) := by
  intro i j
  pointwise [k0_pay29]
  exact sum_mul_coe (fun _ => hq _ _) (fun _ => hk _ _)

theorem prob_5 (l : FVec Ideal S256x1 .f32) (s : FVec Ideal S256x2048 .f32) (L : Fin 256 → ℝ) (S : Fin 256 → Fin 2048 → ℝ)
    (hl : Is2 l fun i _ => L i) (hs : Is2 s S) : Is2 (k0_pay5 (F := Ideal) l s) (prob S L) := by
  intro i j
  pointwise [k0_pay5]
  rw [named_s, hs, hl]
  exact weight_coe _ _

theorem dsc_6 (l δ : FVec Ideal S256x1 .f32) (s dp : FVec Ideal S256x2048 .f32) (L D : Fin 256 → ℝ) (S P : Fin 256 → Fin 2048 → ℝ)
    (hl : Is2 l fun i _ => L i) (hδ : Is2 δ fun i _ => D i) (hs : Is2 s S) (hp : Is2 dp P) :
    Is2 (k0_pay6 (F := Ideal) l δ s dp) (dsc (prob S L) P D) := by
  intro i j
  have h := prob_5 l s L S hl hs i j
  pointwise [k0_pay6]
  rw [h, hδ, hp, ← EReal.coe_sub, ← EReal.coe_mul]
  rfl

theorem dk_7 (q : Vec Ideal S256x256 .bf16) (l δ : FVec Ideal S256x1 .f32) (s dp : FVec Ideal S256x2048 .f32) (Q : Fin 256 → Fin 256 → ℝ)
    (L D : Fin 256 → ℝ) (S P : Fin 256 → Fin 2048 → ℝ) (hq : Is2 q Q)
    (hl : Is2 l fun i _ => L i) (hδ : Is2 δ fun i _ => D i) (hs : Is2 s S) (hp : Is2 dp P) :
    Is2 (k0_pay7 (F := Ideal) q l δ s dp) (mixT (dsc (prob S L) P D) Q) := by
  intro i j
  have h := dsc_6 l δ s dp L D S P hl hδ hs hp
  pointwise [k0_pay7]
  exact sum_mul_coe (fun _ => h _ _) (fun _ => hq _ _)

theorem dq_8 (l δ : FVec Ideal S256x1 .f32) (a : FVec Ideal S256x256 .f32) (s dp : FVec Ideal S256x2048 .f32) (k : Vec Ideal S2048x256 .bf16)
    (L D : Fin 256 → ℝ) (A : Fin 256 → Fin 256 → ℝ) (S P : Fin 256 → Fin 2048 → ℝ) (K : Fin 2048 → Fin 256 → ℝ) (ha : Is2 a A) (hk : Is2 k K)
    (hl : Is2 l fun i _ => L i) (hδ : Is2 δ fun i _ => D i) (hs : Is2 s S) (hp : Is2 dp P) :
    Is2 (k0_pay8 (F := Ideal) l δ a s dp k) (fun i d => A i d + mix (dsc (prob S L) P D) K i d) := by
  intro i j
  have h := dsc_6 l δ s dp L D S P hl hδ hs hp
  pointwise [k0_pay8]
  rw [EReal.coe_add, ha]
  exact congrArg _ (sum_mul_coe (fun _ => h _ _) (fun _ => hk _ _))

theorem dv_9 (g : FVec Ideal S256x128 .bf16) (l : FVec Ideal S256x1 .f32) (s : FVec Ideal S256x2048 .f32) (o : Vec Ideal S2048x128 .f32)
    (L : Fin 256 → ℝ) (S : Fin 256 → Fin 2048 → ℝ) (G : Fin 256 → Fin 128 → ℝ) (hg : Is2 g G)
    (hl : Is2 l fun i _ => L i) (hs : Is2 s S) (j : Fin 2048) (d : Fin 128) :
    k0_pay9 (F := Ideal) g l s o (ix2 j d) = o (ix2 j d) + ((mixT (prob S L) G j d : ℝ) : EReal) := by
  have h := prob_5 l s L S hl hs
  pointwise [k0_pay9]
  exact congrArg _ (sum_mul_coe (fun _ => h _ _) (fun _ => hg _ _))

theorem prob_12 (l : FVec Ideal S256x1 .f32) (s : FVec Ideal S256x2048 .f32) (L : Fin 256 → ℝ) (S : Fin 256 → Fin 2048 → ℝ)
    (hl : Is2 l fun i _ => L i) (hs : Is2 s S) : Is2 (k0_pay12 (F := Ideal) l s) (prob S L) := by
  intro i j
  pointwise [k0_pay12]
  rw [named_s, hs, hl]
  exact weight_coe _ _

theorem dsc_13 (l δ : FVec Ideal S256x1 .f32) (s dp : FVec Ideal S256x2048 .f32) (L D : Fin 256 → ℝ) (S P : Fin 256 → Fin 2048 → ℝ)
    (hl : Is2 l fun i _ => L i) (hδ : Is2 δ fun i _ => D i) (hs : Is2 s S) (hp : Is2 dp P) :
    Is2 (k0_pay13 (F := Ideal) l δ s dp) (dsc (prob S L) P D) := by
  intro i j
  have h := prob_12 l s L S hl hs i j
  pointwise [k0_pay13]
  rw [h, hδ, hp, ← EReal.coe_sub, ← EReal.coe_mul]
  rfl

theorem dk_14 (q : Vec Ideal S256x256 .bf16) (l δ : FVec Ideal S256x1 .f32) (s dp : FVec Ideal S256x2048 .f32) (Q : Fin 256 → Fin 256 → ℝ)
    (L D : Fin 256 → ℝ) (S P : Fin 256 → Fin 2048 → ℝ) (hq : Is2 q Q)
    (hl : Is2 l fun i _ => L i) (hδ : Is2 δ fun i _ => D i) (hs : Is2 s S) (hp : Is2 dp P) :
    Is2 (k0_pay14 (F := Ideal) q l δ s dp) (mixT (dsc (prob S L) P D) Q) := by
  intro i j
  have h := dsc_13 l δ s dp L D S P hl hδ hs hp
  pointwise [k0_pay14]
  exact sum_mul_coe (fun _ => h _ _) (fun _ => hq _ _)

theorem dq_15 (l δ : FVec Ideal S256x1 .f32) (a : FVec Ideal S256x256 .f32) (s dp : FVec Ideal S256x2048 .f32) (k : Vec Ideal S2048x256 .bf16)
    (L D : Fin 256 → ℝ) (A : Fin 256 → Fin 256 → ℝ) (S P : Fin 256 → Fin 2048 → ℝ) (K : Fin 2048 → Fin 256 → ℝ) (ha : Is2 a A) (hk : Is2 k K)
    (hl : Is2 l fun i _ => L i) (hδ : Is2 δ fun i _ => D i) (hs : Is2 s S) (hp : Is2 dp P) :
    Is2 (k0_pay15 (F := Ideal) l δ a s dp k) (fun i d => A i d + mix (dsc (prob S L) P D) K i d) := by
  intro i j
  have h := dsc_13 l δ s dp L D S P hl hδ hs hp
  pointwise [k0_pay15]
  rw [EReal.coe_add, ha]
  exact congrArg _ (sum_mul_coe (fun _ => h _ _) (fun _ => hk _ _))

theorem dv_16 (g : FVec Ideal S256x128 .bf16) (l : FVec Ideal S256x1 .f32) (s : FVec Ideal S256x2048 .f32) (o : Vec Ideal S2048x128 .f32)
    (L : Fin 256 → ℝ) (S : Fin 256 → Fin 2048 → ℝ) (G : Fin 256 → Fin 128 → ℝ) (hg : Is2 g G)
    (hl : Is2 l fun i _ => L i) (hs : Is2 s S) (j : Fin 2048) (d : Fin 128) :
    k0_pay16 (F := Ideal) g l s o (ix2 j d) = o (ix2 j d) + ((mixT (prob S L) G j d : ℝ) : EReal) := by
  have h := prob_12 l s L S hl hs
  pointwise [k0_pay16]
  exact congrArg _ (sum_mul_coe (fun _ => h _ _) (fun _ => hg _ _))

theorem add_30 (x : FVec Ideal S2048x256 .f32) (o : Vec Ideal S2048x256 .f32) (X : Fin 2048 → Fin 256 → ℝ) (hx : Is2 x X) (j : Fin 2048) (d : Fin 256) :
    k0_pay30 (F := Ideal) x o (ix2 j d) = o (ix2 j d) + ((X j d : ℝ) : EReal) := by
  pointwise [k0_pay30]
  rw [hx]

theorem add_31 (x : FVec Ideal S2048x256 .f32) (o : Vec Ideal S2048x256 .f32) (X : Fin 2048 → Fin 256 → ℝ) (hx : Is2 x X) (j : Fin 2048) (d : Fin 256) :
    k0_pay31 (F := Ideal) x o (ix2 j d) = o (ix2 j d) + ((X j d : ℝ) : EReal) := by
  pointwise [k0_pay31]
  rw [hx]

theorem final_1 (a : FVec Ideal S256x256 .f32) (A : Fin 256 → Fin 256 → ℝ) (ha : Is2 a A) :
    Is2 (k0_pay1 (F := Ideal) a (k0_pay32 (F := Ideal))) (fun i d => A i d * cs) := by
  intro i j
  pointwise [k0_pay1, k0_pay32]
  rw [ha, named_c, EReal.coe_mul]

theorem final_2 (a : Vec Ideal S8448x256 .f32) (A : Fin 8448 → Fin 256 → ℝ) (ha : Is2 a A) :
    Is2 (k0_pay2 (F := Ideal) a) (fun i d => A i d * cs) := by
  intro i j
  pointwise [k0_pay2]
  rw [ha, named_c, EReal.coe_mul]

theorem zero_17 (i : Fin 8448) (d : Fin 256) : k0_pay17 (F := Ideal) (ix2 i d) = (0 : EReal) := by
  pointwise [k0_pay17]

theorem zero_18 (i : Fin 8448) (d : Fin 128) : k0_pay18 (F := Ideal) (ix2 i d) = (0 : EReal) := by
  pointwise [k0_pay18]

theorem zero_22 : Is2 (k0_pay22 (F := Ideal)) (fun _ _ => 0) := by
  intro i j
  pointwise [k0_pay22]
  exact EReal.coe_zero.symm

theorem lse_20 (x : Vec Ideal S1x256x1 .f32) (L : Fin 256 → ℝ) (hx : ∀ i : Fin 256, x (ix3 0 i 0) = ((L i : ℝ) : EReal)) :
    Is2 (k0_pay20 (F := Ideal) x) (fun i _ => L i) := by
  intro i j
  obtain rfl : j = 0 := Subsingleton.elim _ _
  pointwise [k0_pay20]
  exact hx i

theorem delta_21 (g o : Vec Ideal S256x128 .f32) (G O : Fin 256 → Fin 128 → ℝ) (hg : Is2 g G) (ho : Is2 o O) :
    Is2 (k0_pay21 (F := Ideal) g o) (fun i _ => ∑ d, G i d * O i d) := by
  intro i j
  pointwise [k0_pay21]
  exact sum_mul_coe (fun _ => hg _ _) (fun _ => ho _ _)

theorem id_19 (g : Vec Ideal S256x128 .f32) (G : Fin 256 → Fin 128 → ℝ) (hg : Is2 g G) : Is2 (k0_pay19 (F := Ideal) g) G := by
  intro i j
  pointwise [k0_pay19]
  exact hg i j

theorem prob_23 (q : Vec Ideal S256x256 .bf16) (x : Vec Ideal S1x256x1 .f32) (k : Vec Ideal S256x256 .bf16) (Q K : Fin 256 → Fin 256 → ℝ) (L : Fin 256 → ℝ)
    (hq : Is2 q Q) (hx : ∀ i : Fin 256, x (ix3 0 i 0) = ((L i : ℝ) : EReal)) (hk : Is2 k K) :
    Is2 (k0_pay23 (F := Ideal) q x k) (prob (dots Q K) L) := by
  intro i j
  have hl := lse_20 x L hx i 0
  pointwise [k0_pay23]
  rw [named_s, hl, sum_mul_coe (fun _ => hq _ _) (fun _ => hk _ _)]
  exact weight_coe _ _

theorem dsc_24 (q : Vec Ideal S256x256 .bf16) (g : Vec Ideal S256x128 .f32) (x : Vec Ideal S1x256x1 .f32) (o : Vec Ideal S256x128 .f32)
    (k : Vec Ideal S256x256 .bf16) (v : Vec Ideal S256x128 .bf16) (Q K : Fin 256 → Fin 256 → ℝ) (L : Fin 256 → ℝ) (G O V : Fin 256 → Fin 128 → ℝ)
    (hq : Is2 q Q) (hx : ∀ i : Fin 256, x (ix3 0 i 0) = ((L i : ℝ) : EReal)) (hk : Is2 k K) (hg : Is2 g G) (ho : Is2 o O) (hv : Is2 v V) :
    Is2 (k0_pay24 (F := Ideal) q g x g o k v) (dsc (prob (dots Q K) L) (dots G V) (fun i => ∑ d, G i d * O i d)) := by
  intro i j
  have hp := prob_23 q x k Q K L hq hx hk i j
  have hδ := delta_21 g o G O hg ho i 0
  have hg' := id_19 g G hg
  pointwise [k0_pay24]
  rw [hp, hδ, sum_mul_coe (fun _ => hg' _ _) (fun _ => hv _ _), ← EReal.coe_sub, ← EReal.coe_mul]
  rfl

theorem dq_25 (a : FVec Ideal S256x256 .f32) (w : FVec Ideal S256x256 .bf16) (k : Vec Ideal S256x256 .bf16) (A W K : Fin 256 → Fin 256 → ℝ)
    (ha : Is2 a A) (hw : Is2 w W) (hk : Is2 k K) : Is2 (k0_pay25 (F := Ideal) a w k) (fun i d => A i d + mix W K i d) := by
  intro i j
  pointwise [k0_pay25]
  rw [EReal.coe_add, ha]
  exact congrArg _ (sum_mul_coe (fun _ => hw _ _) (fun _ => hk _ _))

theorem dv_26 (g : FVec Ideal S256x128 .bf16) (p : FVec Ideal S256x256 .f32) (o : Vec Ideal S256x128 .f32) (G : Fin 256 → Fin 128 → ℝ) (P : Fin 256 → Fin 256 → ℝ)
    (hg : Is2 g G) (hp : Is2 p P) (j : Fin 256) (d : Fin 128) :
    k0_pay26 (F := Ideal) g p o (ix2 j d) = o (ix2 j d) + ((mixT P G j d : ℝ) : EReal) := by
  pointwise [k0_pay26]
  exact congrArg _ (sum_mul_coe (fun _ => hp _ _) (fun _ => hg _ _))

theorem dk_27 (q : Vec Ideal S256x256 .bf16) (w : FVec Ideal S256x256 .bf16) (o : Vec Ideal S256x256 .f32) (Q W : Fin 256 → Fin 256 → ℝ)
    (hq : Is2 q Q) (hw : Is2 w W) (j : Fin 256) (d : Fin 256) :
    k0_pay27 (F := Ideal) q w o (ix2 j d) = o (ix2 j d) + ((mixT W Q j d : ℝ) : EReal) := by
  pointwise [k0_pay27]
  exact congrArg _ (sum_mul_coe (fun _ => hw _ _) (fun _ => hq _ _))

end Cert.BwdIdeal.Value

end

end
-- ==== Proof.BTrip.lean ====
/-
  A trip of the backward kernel's loop over the keys, and what the loop holds before each trip.
-/
module

public import proofs.«01_k».proof.Proof.BPay
public import proofs.«01_k».proof.Proof.BMaths
public import proofs.«01_k».proof.Proof.Gen.BwdIdeal.Loops
public import Idealize.ShloMosaic.Lib.WritesUnit

@[expose] public section

set_option maxRecDepth 16384

noncomputable section

namespace Cert.BwdIdeal.Value

open Idealize.ShloMosaic Idealize.ShloMosaic.TcCoe Idealize.SL.Sem
open Cert.BwdIdeal Cert.BwdIdeal.Gen
open Mla

theorem trips1 : ∀ t : Fin grid0.N, (k0_t1_loop (grid0.coords t)).trips = if t.val % 33 = 32 then 0 else 4 := by decide +kernel
theorem trips2 : ∀ t : Fin grid0.N, (k0_t2_loop (grid0.coords t)).trips = 0 := by decide +kernel

theorem trips1_le (t : Fin grid0.N) : (k0_t1_loop (grid0.coords t)).trips ≤ 4 := by
  rw [trips1]; split <;> omega

/-- What a trip hands on: the queries' gradients with the current block of keys, and the products with the next. -/
theorem trip_eq (𝒱 : Variants) (c : Dev nD) (bd : Option 𝒱.V) (t : Fin grid0.N) (arg2 : Memref sig .tc .vmem S256x256 .bf16) (harg2 : arg2.IsWhole) (arg3 : Memref sig .tc .vmem S8448x256 .bf16) (harg3 : arg3.IsWhole) (arg4 : Memref sig .tc .vmem S8448x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256x1 .f32) (harg7 : arg7.IsWhole) (arg8 : Memref sig .tc .vmem S256x256 .f32) (harg8 : arg8.IsWhole) (arg9 : Memref sig .tc .vmem S8448x256 .f32) (harg9 : arg9.IsWhole) (arg10 : Memref sig .tc .vmem S8448x128 .f32) (harg10 : arg10.IsWhole) (v4 : Vec Ideal S256x256 .bf16) (v6 : FVec Ideal S256x128 .bf16) (v8 : FVec Ideal S256x1 .f32) (v14 : FVec Ideal S256x1 .f32) (v16 : BitVec 32) (v17 : FVec Ideal S256x256 .f32) (v26 : FVec Ideal S256x256 .f32) (v30 : FVec Ideal S256x256 .bf16) (x1 : Vec Ideal S8448x256 .bf16) (x2 : Vec Ideal S8448x128 .bf16) (k : Fin (k0_t1_loop (grid0.coords t)).trips)
    (acc : FVec Ideal S256x256 .f32 × FVec Ideal S256x2048 .f32 × FVec Ideal S256x2048 .f32) (f9 : BufTy.Contents (Elt Ideal) arg9.view.ty) (f10 : BufTy.Contents (Elt Ideal) arg10.view.ty) :
    tripR_k0_t1 𝒱 c bd (grid0.coords t) arg2 harg2 arg3 harg3 arg4 harg4 arg5 harg5 arg6 harg6 arg7 harg7 arg8 harg8 arg9 harg9 arg10 harg10 v4 v6 v8 v14 v16 v17 v26 v30 (harg3.unread x1) (harg4.unread x2) k acc f9 f10
      = (k0_pay8 v8 v14 acc.1 acc.2.1 acc.2.2 (View.ld (Val := Elt Ideal) x1 (Rect.unit (s := S8448x256) (k0_off5 (grid0.coords t) k) ![2048, 256] (k0_off5_inb (grid0.coords t) k))),
         k0_pay3 v4 (View.ld (Val := Elt Ideal) x1 (Rect.unit (s := S8448x256) (k0_off3 (grid0.coords t) k) ![2048, 256] (k0_off3_inb (grid0.coords t) k))),
         k0_pay4 v6 (View.ld (Val := Elt Ideal) x2 (Rect.unit (s := S8448x128) (k0_off4 (grid0.coords t) k) ![2048, 128] (k0_off4_inb (grid0.coords t) k)))) := by
  have e : tripR_k0_t1 𝒱 c bd (grid0.coords t) arg2 harg2 arg3 harg3 arg4 harg4 arg5 harg5 arg6 harg6 arg7 harg7 arg8 harg8 arg9 harg9 arg10 harg10 v4 v6 v8 v14 v16 v17 v26 v30 (harg3.unread x1) (harg4.unread x2) k acc f9 f10
      = (k0_pay8 v8 v14 acc.1 acc.2.1 acc.2.2 (View.readAt (Elt Ideal) arg3.view (Rect.unit (s := S8448x256) (k0_off5 (grid0.coords t) k) ![2048, 256] (k0_off5_inb (grid0.coords t) k)).toLoadRect (harg3.unread x1)),
         k0_pay3 v4 (View.readAt (Elt Ideal) arg3.view (Rect.unit (s := S8448x256) (k0_off3 (grid0.coords t) k) ![2048, 256] (k0_off3_inb (grid0.coords t) k)).toLoadRect (harg3.unread x1)),
         k0_pay4 v6 (View.readAt (Elt Ideal) arg4.view (Rect.unit (s := S8448x128) (k0_off4 (grid0.coords t) k) ![2048, 128] (k0_off4_inb (grid0.coords t) k)).toLoadRect (harg4.unread x2))) := by
    unfold tripR_k0_t1 trip_k0_t1
    rfl
  rw [e]
  simp only [View.readAt_eq_ld, harg3.read_unread, harg4.read_unread]

/-- What a trip stores: the current block's gradients, added to what's there. -/
theorem tripL_eq (𝒱 : Variants) (c : Dev nD) (bd : Option 𝒱.V) (t : Fin grid0.N) (arg2 : Memref sig .tc .vmem S256x256 .bf16) (harg2 : arg2.IsWhole) (arg3 : Memref sig .tc .vmem S8448x256 .bf16) (harg3 : arg3.IsWhole) (arg4 : Memref sig .tc .vmem S8448x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256x1 .f32) (harg7 : arg7.IsWhole) (arg8 : Memref sig .tc .vmem S256x256 .f32) (harg8 : arg8.IsWhole) (arg9 : Memref sig .tc .vmem S8448x256 .f32) (harg9 : arg9.IsWhole) (arg10 : Memref sig .tc .vmem S8448x128 .f32) (harg10 : arg10.IsWhole) (v4 : Vec Ideal S256x256 .bf16) (v6 : FVec Ideal S256x128 .bf16) (v8 : FVec Ideal S256x1 .f32) (v14 : FVec Ideal S256x1 .f32) (v16 : BitVec 32) (v17 : FVec Ideal S256x256 .f32) (v26 : FVec Ideal S256x256 .f32) (v30 : FVec Ideal S256x256 .bf16) (x1 : Vec Ideal S8448x256 .bf16) (x2 : Vec Ideal S8448x128 .bf16) (k : Fin (k0_t1_loop (grid0.coords t)).trips)
    (acc : FVec Ideal S256x256 .f32 × FVec Ideal S256x2048 .f32 × FVec Ideal S256x2048 .f32) (f9 : BufTy.Contents (Elt Ideal) arg9.view.ty) (f10 : BufTy.Contents (Elt Ideal) arg10.view.ty) :
    tripL_k0_t1 𝒱 c bd (grid0.coords t) arg2 harg2 arg3 harg3 arg4 harg4 arg5 harg5 arg6 harg6 arg7 harg7 arg8 harg8 arg9 harg9 arg10 harg10 v4 v6 v8 v14 v16 v17 v26 v30 (harg3.unread x1) (harg4.unread x2) k acc f9 f10
      = ([⟨Rect.unit (s := S8448x256) (k0_off5 (grid0.coords t) k) ![2048, 256] (k0_off5_inb (grid0.coords t) k),
            k0_pay30 (k0_pay7 v4 v8 v14 acc.2.1 acc.2.2) (View.ld (Val := Elt Ideal) (arg9.view.read (Elt Ideal) f9) (Rect.unit (s := S8448x256) (k0_off5 (grid0.coords t) k) ![2048, 256] (k0_off5_inb (grid0.coords t) k)))⟩],
         [⟨Rect.unit (s := S8448x128) (k0_off6 (grid0.coords t) k) ![2048, 128] (k0_off6_inb (grid0.coords t) k),
            k0_pay9 v6 v8 acc.2.1 (View.ld (Val := Elt Ideal) (arg10.view.read (Elt Ideal) f10) (Rect.unit (s := S8448x128) (k0_off6 (grid0.coords t) k) ![2048, 128] (k0_off6_inb (grid0.coords t) k)))⟩]) := by
  have e : tripL_k0_t1 𝒱 c bd (grid0.coords t) arg2 harg2 arg3 harg3 arg4 harg4 arg5 harg5 arg6 harg6 arg7 harg7 arg8 harg8 arg9 harg9 arg10 harg10 v4 v6 v8 v14 v16 v17 v26 v30 (harg3.unread x1) (harg4.unread x2) k acc f9 f10
      = ([⟨Rect.unit (s := S8448x256) (k0_off5 (grid0.coords t) k) ![2048, 256] (k0_off5_inb (grid0.coords t) k),
            k0_pay30 (k0_pay7 v4 v8 v14 acc.2.1 acc.2.2) (View.readAt (Elt Ideal) arg9.view (Rect.unit (s := S8448x256) (k0_off5 (grid0.coords t) k) ![2048, 256] (k0_off5_inb (grid0.coords t) k)).toLoadRect f9)⟩],
         [⟨Rect.unit (s := S8448x128) (k0_off6 (grid0.coords t) k) ![2048, 128] (k0_off6_inb (grid0.coords t) k),
            k0_pay9 v6 v8 acc.2.1 (View.readAt (Elt Ideal) arg10.view (Rect.unit (s := S8448x128) (k0_off6 (grid0.coords t) k) ![2048, 128] (k0_off6_inb (grid0.coords t) k)).toLoadRect f10)⟩]) := by
    unfold tripL_k0_t1 trip_k0_t1
    rfl
  rw [e]
  simp only [View.readAt_eq_ld]

/-- The gradients of a block of keys added to what is there, read at a row. -/
theorem rows_at {C : ℕ} (v : View sig .tc .vmem (⟨2, ![8448, C]⟩ : Shape) .f32) (f : BufTy.Contents (Elt Ideal) v.ty) (P : List (View.Piece (Elt Ideal) (⟨2, ![8448, C]⟩ : Shape) .f32))
    (A : ℕ → ℕ → ℝ) (n : ℕ) (off : Fin 2 → ℕ) (hoff : off = ![2048 * n, 0]) (inb : ∀ a : Fin 2, off a + (![2048, C] : Fin 2 → ℕ) a ≤ (![8448, C] : Fin 2 → ℕ) a)
    (w : (⟨2, ![2048, C]⟩ : Shape).Idx → Elt Ideal .f32)
    (hw : ∀ (j : Fin 2048) (d : Fin C), w (ix2 j d) = View.ld (Val := Elt Ideal) (v.read (Elt Ideal) (v.writes (Elt Ideal) f P)) (Rect.unit (s := ⟨2, ![8448, C]⟩) off ![2048, C] inb) (ix2 j d) + ((A (2048 * n + j.val) d.val : ℝ) : EReal))
    (h : ∀ (r : Fin 8448) (d : Fin C), v.read (Elt Ideal) (v.writes (Elt Ideal) f P) (ix2 r d) = v.read (Elt Ideal) f (ix2 r d) + (((if r.val < 2048 * n then A r.val d.val else 0 : ℝ)) : EReal))
    (r : Fin 8448) (d : Fin C) :
    v.read (Elt Ideal) (v.writes (Elt Ideal) f ([(⟨Rect.unit (s := ⟨2, ![8448, C]⟩) off ![2048, C] inb, w⟩ : View.Piece (Elt Ideal) (⟨2, ![8448, C]⟩ : Shape) .f32)] ++ P)) (ix2 r d)
      = v.read (Elt Ideal) f (ix2 r d) + (((if r.val < 2048 * (n + 1) then A r.val d.val else 0 : ℝ)) : EReal) := by
  by_cases hr : 2048 * n ≤ r.val ∧ r.val < 2048 * n + 2048
  · obtain ⟨h1, h2⟩ := hr
    obtain ⟨j, hj⟩ := Nat.exists_eq_add_of_le h1
    have hj' : j < 2048 := by omega
    refine (View.read_writes_cons_rows_of_mem (v := v) (f := f) inb w P (ix2 r d) (ix2 (⟨j, hj'⟩ : Fin 2048) d) hoff hj rfl).trans ?_
    rw [hw]
    have e : View.ld (Val := Elt Ideal) (v.read (Elt Ideal) (v.writes (Elt Ideal) f P)) (Rect.unit (s := ⟨2, ![8448, C]⟩) off ![2048, C] inb) (ix2 (⟨j, hj'⟩ : Fin 2048) d)
        = v.read (Elt Ideal) (v.writes (Elt Ideal) f P) (ix2 r d) := by
      refine View.ld_unit_apply_of (S := ⟨2, ![8448, C]⟩) (v.read (Elt Ideal) (v.writes (Elt Ideal) f P)) off ![2048, C] inb _ _ ?_
      subst hoff
      intro x
      fin_cases x
      · exact hj
      · exact (Nat.zero_add _).symm
    rw [e, h, if_neg (by omega), if_pos (by omega), EReal.coe_zero, add_zero, ← hj]
  · refine (View.read_writes_cons_rows_of_not_mem (v := v) (f := f) inb w P (ix2 r d) hoff rfl (W := 2048) ?_).trans ?_
    · show r.val < 2048 * n ∨ 2048 * n + 2048 ≤ r.val
      omega
    · rw [h]
      by_cases hl : r.val < 2048 * n
      · rw [if_pos hl, if_pos (by omega)]
      · rw [if_neg hl, if_neg (by omega)]

/-- What is held before trip `n`. -/
structure At {v9 : View sig .tc .vmem S8448x256 .f32} {v10 : View sig .tc .vmem S8448x128 .f32} (f9 : BufTy.Contents (Elt Ideal) v9.ty) (f10 : BufTy.Contents (Elt Ideal) v10.ty)
    (Q K V G : ℕ → ℕ → ℝ) (L D : ℕ → ℝ) (n : ℕ) (s : (FVec Ideal S256x256 .f32 × FVec Ideal S256x2048 .f32 × FVec Ideal S256x2048 .f32) × List (View.Piece (Elt Ideal) S8448x256 .f32) × List (View.Piece (Elt Ideal) S8448x128 .f32)) (U : ℕ → ℕ → ℝ) : Prop where
  a : IsN s.1.1 fun i d => U i d + ∑ c ∈ Finset.range n, ∑ j : Fin 2048, addQ Q K V G L D i d (2048 * c + j.val)
  b : IsN s.1.2.1 (dotn 256 Q (sh K (2048 * min n 3) 0))
  c : IsN s.1.2.2 (dotn 128 G (sh V (2048 * min n 3) 0))
  k : ∀ (r : Fin 8448) (d : Fin 256), v9.read (Elt Ideal) (v9.writes (Elt Ideal) f9 s.2.1) (ix2 r d)
        = v9.read (Elt Ideal) f9 (ix2 r d) + (((if r.val < 2048 * n then addK Q K V G L D r.val d.val else 0 : ℝ)) : EReal)
  v : ∀ (r : Fin 8448) (d : Fin 128), v10.read (Elt Ideal) (v10.writes (Elt Ideal) f10 s.2.2) (ix2 r d)
        = v10.read (Elt Ideal) f10 (ix2 r d) + (((if r.val < 2048 * n then addV Q K G L r.val d.val else 0 : ℝ)) : EReal)

theorem loop_at (𝒱 : Variants) (c : Dev nD) (bd : Option 𝒱.V) (t : Fin grid0.N) (arg2 : Memref sig .tc .vmem S256x256 .bf16) (harg2 : arg2.IsWhole) (arg3 : Memref sig .tc .vmem S8448x256 .bf16) (harg3 : arg3.IsWhole) (arg4 : Memref sig .tc .vmem S8448x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256x1 .f32) (harg7 : arg7.IsWhole) (arg8 : Memref sig .tc .vmem S256x256 .f32) (harg8 : arg8.IsWhole) (arg9 : Memref sig .tc .vmem S8448x256 .f32) (harg9 : arg9.IsWhole) (arg10 : Memref sig .tc .vmem S8448x128 .f32) (harg10 : arg10.IsWhole) (v4 : Vec Ideal S256x256 .bf16) (v6 : FVec Ideal S256x128 .bf16) (v8 : FVec Ideal S256x1 .f32) (v14 : FVec Ideal S256x1 .f32) (v16 : BitVec 32) (v17 : FVec Ideal S256x256 .f32) (v26 : FVec Ideal S256x256 .f32) (v30 : FVec Ideal S256x256 .bf16) (x1 : Vec Ideal S8448x256 .bf16) (x2 : Vec Ideal S8448x128 .bf16)
    (f9 : BufTy.Contents (Elt Ideal) arg9.view.ty) (f10 : BufTy.Contents (Elt Ideal) arg10.view.ty)
    (Q K V G : ℕ → ℕ → ℝ) (L D : ℕ → ℝ) (hq : IsN v4 Q) (hg : IsN v6 G) (hl : Is2 v8 fun i _ => L i.val) (hd : Is2 v14 fun i _ => D i.val) (hk : IsN x1 K) (hv : IsN x2 V)
    (U : ℕ → ℕ → ℝ) (init : FVec Ideal S256x256 .f32 × FVec Ideal S256x2048 .f32 × FVec Ideal S256x2048 .f32) (h0 : At f9 f10 Q K V G L D 0 (init, [], []) U) (n : ℕ) (hn : n ≤ (k0_t1_loop (grid0.coords t)).trips) :
    At f9 f10 Q K V G L D n (st_k0_t1 𝒱 c bd (grid0.coords t) arg2 harg2 arg3 harg3 arg4 harg4 arg5 harg5 arg6 harg6 arg7 harg7 arg8 harg8 arg9 harg9 arg10 harg10 v4 v6 v8 v14 v16 v17 v26 v30 (harg3.unread x1) (harg4.unread x2) f9 f10 init n) U := by
  induction n with
  | zero => exact h0
  | succ n ih =>
    have h := ih (Nat.le_of_succ_le hn)
    have h4 : n < 4 := lt_of_lt_of_le hn (trips1_le t)
    have e := st_k0_t1_succ 𝒱 c bd (grid0.coords t) arg2 harg2 arg3 harg3 arg4 harg4 arg5 harg5 arg6 harg6 arg7 harg7 arg8 harg8 arg9 harg9 arg10 harg10 v4 v6 v8 v14 v16 v17 v26 v30 (harg3.unread x1) (harg4.unread x2) f9 f10 init ⟨n, hn⟩
    rw [trip_eq, tripL_eq] at e
    simp only at e
    rw [e]
    generalize st_k0_t1 𝒱 c bd (grid0.coords t) arg2 harg2 arg3 harg3 arg4 harg4 arg5 harg5 arg6 harg6 arg7 harg7 arg8 harg8 arg9 harg9 arg10 harg10 v4 v6 v8 v14 v16 v17 v26 v30 (harg3.unread x1) (harg4.unread x2) f9 f10 init n = s at h ⊢
    have m3 : min n 3 = n := by omega
    have k3 := ld_bf16 (a := 2048) (b := 256) x1 K hk _ (k0_off3_inb (grid0.coords t) ⟨n, hn⟩)
    have v4' := ld_bf16 (a := 2048) (b := 128) x2 V hv _ (k0_off4_inb (grid0.coords t) ⟨n, hn⟩)
    have k5 := ld_bf16 (a := 2048) (b := 256) x1 K hk _ (k0_off5_inb (grid0.coords t) ⟨n, hn⟩)
    have o3 := k0_off3_eq (grid0.coords t) ⟨n, hn⟩
    have o4 := k0_off4_eq (grid0.coords t) ⟨n, hn⟩
    have o5 := k0_off5_eq (grid0.coords t) ⟨n, hn⟩
    have o6 := k0_off6_eq (grid0.coords t) ⟨n, hn⟩
    have c3 := congrArg (fun f : Fin 2 → ℕ => sh K (f 0) (f 1)) o3
    have c4 := congrArg (fun f : Fin 2 → ℕ => sh V (f 0) (f 1)) o4
    have c5 := congrArg (fun f : Fin 2 → ℕ => sh K (f 0) (f 1)) o5
    simp only [Matrix.cons_val_zero, Matrix.cons_val_one] at c3 c4 c5
    rw [c3] at k3
    rw [c4] at v4'
    rw [c5] at k5
    have hb := h.b
    have hc := h.c
    rw [m3] at hb hc
    refine ⟨?_, ?_, ?_, ?_, ?_⟩
    · have s' := dq_8 v8 v14 s.1.1 s.1.2.1 s.1.2.2 _ _ _ _ _ _ _ h.a k5 hl hd hb hc
      intro i d
      refine (s' i d).trans ?_
      beta_reduce
      rw [Finset.sum_range_succ, ← add_assoc]
      exact congrArg (fun z : ℝ => ((_ + z : ℝ) : EReal)) (mix_n Q K V G L D (2048 * n) i d)
    · exact scores_3 v4 _ _ _ hq k3
    · exact scores_4 v6 _ _ _ hg v4'
    · refine rows_at arg9.view f9 s.2.1 (addK Q K V G L D) n _ o5 _ _ (fun j d => ?_) h.k
      refine (add_30 _ _ _ (dk_7 v4 v8 v14 s.1.2.1 s.1.2.2 _ _ _ _ _ hq hl hd hb hc) j d).trans ?_
      exact congrArg (fun z : ℝ => _ + ((z : ℝ) : EReal)) (mixK_n Q K V G L D (2048 * n) j d)
    · refine rows_at arg10.view f10 s.2.2 (addV Q K G L) n _ o6 _ _ (fun j d => ?_) h.v
      refine (dv_9 v6 v8 s.1.2.1 _ _ _ _ hg hl hb j d).trans ?_
      exact congrArg (fun z : ℝ => _ + ((z : ℝ) : EReal)) (mixV_n Q K G L (2048 * n) j d)

end Cert.BwdIdeal.Value

end

end
-- ==== Proof.BEnd.lean ====
/-
  What the backward kernel's loop over the keys ends with: the gradients of a block of queries, and those of keys and values
  with what the block of queries adds.
-/
module

public import proofs.«01_k».proof.Proof.BTrip

@[expose] public section

set_option maxRecDepth 16384

noncomputable section

namespace Cert.BwdIdeal.Value

open Idealize.ShloMosaic Idealize.ShloMosaic.TcCoe Idealize.SL.Sem
open Cert.BwdIdeal Cert.BwdIdeal.Gen
open Mla

theorem sh_zero (X : ℕ → ℕ → ℝ) : sh X 0 0 = X := by
  funext i j
  simp only [sh, Nat.zero_add]

/-- A store of the whole, read back. -/
theorem whole_at {κ : Kind} {sp : Space} {R C : ℕ} (v : View sig κ sp (⟨2, ![R, C]⟩ : Shape) .f32) (f : BufTy.Contents (Elt Ideal) v.ty)
    (inb : ∀ a : Fin 2, (![0, 0] : Fin 2 → ℕ) a + (![R, C] : Fin 2 → ℕ) a ≤ (![R, C] : Fin 2 → ℕ) a) (w : (⟨2, ![R, C]⟩ : Shape).Idx → Elt Ideal .f32)
    (P : List (View.Piece (Elt Ideal) (⟨2, ![R, C]⟩ : Shape) .f32)) (X : ℕ → ℕ → ℝ) (hw : IsN w X) :
    IsN (v.read (Elt Ideal) (v.writes (Elt Ideal) f ((⟨Rect.unit (s := ⟨2, ![R, C]⟩) ![0, 0] ![R, C] inb, w⟩ : View.Piece (Elt Ideal) (⟨2, ![R, C]⟩ : Shape) .f32) :: P))) X := by
  intro r d
  exact (View.read_writes_cons_rows_of_mem (v := v) (f := f) inb w P (ix2 r d) (ix2 r d) rfl (Nat.zero_add _).symm rfl).trans (hw r d)

/-- The context's block of gradients stored over what is there. -/
theorem ctx_at {C : ℕ} (v : View sig .tc .vmem (⟨2, ![8448, C]⟩ : Shape) .f32) (f : BufTy.Contents (Elt Ideal) v.ty) (H A : ℕ → ℕ → ℝ)
    (inb : ∀ a : Fin 2, (![8192, 0] : Fin 2 → ℕ) a + (![256, C] : Fin 2 → ℕ) a ≤ (![8448, C] : Fin 2 → ℕ) a) (w : (⟨2, ![256, C]⟩ : Shape).Idx → Elt Ideal .f32)
    (hf : IsN (v.read (Elt Ideal) f) H) (hw : ∀ (j : Fin 256) (d : Fin C), w (ix2 j d) = ((H (8192 + j.val) d.val + A (8192 + j.val) d.val : ℝ) : EReal)) :
    IsN (v.read (Elt Ideal) (v.writes (Elt Ideal) f [(⟨Rect.unit (s := ⟨2, ![8448, C]⟩) ![8192, 0] ![256, C] inb, w⟩ : View.Piece (Elt Ideal) (⟨2, ![8448, C]⟩ : Shape) .f32)]))
      fun r d => H r d + if 8192 ≤ r then A r d else 0 := by
  intro r d
  by_cases hr : 8192 ≤ r.val
  · obtain ⟨j, hj⟩ := Nat.exists_eq_add_of_le hr
    have hj' : j < 256 := by have := r.isLt; omega
    refine (View.read_writes_cons_rows_of_mem (v := v) (f := f) inb w [] (ix2 r d) (ix2 (⟨j, hj'⟩ : Fin 256) d) rfl hj rfl).trans ?_
    rw [hw]
    beta_reduce
    rw [if_pos hr, ← hj]
  · refine (View.read_writes_cons_rows_of_not_mem (v := v) (f := f) inb w [] (ix2 r d) rfl rfl (W := 256) (.inl (not_le.mp hr))).trans ?_
    refine (hf r d).trans ?_
    beta_reduce
    rw [if_neg hr, add_zero]

theorem first_at {v9 : View sig .tc .vmem S8448x256 .f32} {v10 : View sig .tc .vmem S8448x128 .f32} (g9 : BufTy.Contents (Elt Ideal) v9.ty) (g10 : BufTy.Contents (Elt Ideal) v10.ty)
    (q : Vec Ideal S256x256 .bf16) (g o : Vec Ideal S256x128 .f32) (x : Vec Ideal S1x256x1 .f32) (kc : Vec Ideal S256x256 .bf16) (vc : Vec Ideal S256x128 .bf16)
    (kn : Vec Ideal S2048x256 .bf16) (vn : Vec Ideal S2048x128 .bf16)
    (Q K V G O : ℕ → ℕ → ℝ) (L : ℕ → ℝ) (hq : IsN q Q) (hg : IsN g G) (ho : IsN o O) (hx : ∀ i : Fin 256, x (ix3 0 i 0) = ((L i.val : ℝ) : EReal))
    (hkc : IsN kc (sh K 8192 0)) (hvc : IsN vc (sh V 8192 0)) (hkn : IsN kn K) (hvn : IsN vn V) :
    At g9 g10 Q K V G L (fun i => dotn 128 G O i i) 0
      ((k0_pay25 k0_pay22 (k0_pay24 q g x g o kc vc) kc, k0_pay28 q kn, k0_pay29 (k0_pay19 g) vn), [], [])
      (fun i d => ∑ j : Fin 256, addQ Q K V G L (fun i => dotn 128 G O i i) i d (8192 + j.val)) := by
  refine ⟨?_, ?_, ?_, ?_, ?_⟩
  · intro i d
    refine (dq_25 _ _ _ _ _ _ zero_22 (dsc_24 q g x o kc vc _ _ _ _ _ _ hq hx hkc hg ho hvc) hkc i d).trans ?_
    beta_reduce
    rw [Finset.range_zero, Finset.sum_empty, add_zero, zero_add]
    exact congrArg (fun z : ℝ => (z : EReal)) (mix_n Q K V G L (fun i => dotn 128 G O i i) 8192 i d)
  · refine fun i j => (scores_28 q kn _ _ hq hkn i j).trans ?_
    rw [Nat.zero_min, Nat.mul_zero, sh_zero]
    rfl
  · refine fun i j => (scores_29 (k0_pay19 g) vn _ _ (id_19 g _ hg) hvn i j).trans ?_
    rw [Nat.zero_min, Nat.mul_zero, sh_zero]
    rfl
  · intro r d
    rw [if_neg (by omega), EReal.coe_zero, add_zero]
    rfl
  · intro r d
    rw [if_neg (by omega), EReal.coe_zero, add_zero]
    rfl

/-- The gradients after a point: those of the block of queries, and what it adds to those of the keys and values it sees. -/
structure Ends {v9 : View sig .tc .vmem S8448x256 .f32} {v10 : View sig .tc .vmem S8448x128 .f32} (g9 : BufTy.Contents (Elt Ideal) v9.ty) (g10 : BufTy.Contents (Elt Ideal) v10.ty)
    (b : Prop) [Decidable b] (Q K V G : ℕ → ℕ → ℝ) (L D : ℕ → ℝ) (H9 H10 : ℕ → ℕ → ℝ) (s : (FVec Ideal S256x256 .f32 × FVec Ideal S256x2048 .f32 × FVec Ideal S256x2048 .f32) × List (View.Piece (Elt Ideal) S8448x256 .f32) × List (View.Piece (Elt Ideal) S8448x128 .f32)) : Prop where
  a : IsN s.1.1 fun i d => ∑ j : Fin 8448, if b ∨ 8192 ≤ j.val then addQ Q K V G L D i d j.val else 0
  k : IsN (v9.read (Elt Ideal) (v9.writes (Elt Ideal) g9 s.2.1)) fun r d => H9 r d + if b ∨ 8192 ≤ r then addK Q K V G L D r d else 0
  v : IsN (v10.read (Elt Ideal) (v10.writes (Elt Ideal) g10 s.2.2)) fun r d => H10 r d + if b ∨ 8192 ≤ r then addV Q K G L r d else 0

theorem live_sum (b : Prop) [Decidable b] (f : ℕ → ℝ) (n : ℕ) (hn : n = if b then 4 else 0) :
    ∑ j : Fin 256, f (8192 + j.val) + ∑ c ∈ Finset.range n, ∑ j : Fin 2048, f (2048 * c + j.val) = ∑ j : Fin 8448, if b ∨ 8192 ≤ j.val then f j.val else 0 := by
  by_cases h : b
  · rw [if_pos h] at hn
    subst hn
    simp only [h, true_or, if_true]
    exact (sum_keys f 2048 4 (by norm_num)).symm
  · rw [if_neg h] at hn
    subst hn
    rw [Finset.range_zero, Finset.sum_empty, add_zero]
    have e := sum_ctx (fun j => if b ∨ 8192 ≤ j then f j else 0) fun j hj => by
      have : ¬ (b ∨ 8192 ≤ j) := by push Not; exact ⟨h, hj⟩
      simp only [if_neg this]
    refine Eq.trans (Finset.sum_congr rfl fun j _ => ?_) e.symm
    rw [if_pos (.inr (Nat.le_add_right 8192 j.val))]

theorem live_row (b : Prop) [Decidable b] (h a : ℝ) (r n : ℕ) (hn : n = if b then 4 else 0) :
    ((h + (if 8192 ≤ r then a else 0) : ℝ) : EReal) + (((if r < 2048 * n then a else 0 : ℝ)) : EReal) = ((h + (if b ∨ 8192 ≤ r then a else 0) : ℝ) : EReal) := by
  rw [← EReal.coe_add]
  congr 1
  by_cases hb : b
  · rw [if_pos hb] at hn
    subst hn
    have e : b ∨ 8192 ≤ r := Or.inl hb
    by_cases hr : 8192 ≤ r
    · have e2 : ¬ r < 2048 * 4 := by omega
      rw [if_pos hr, if_pos e, if_neg e2, add_zero]
    · have e2 : r < 2048 * 4 := by omega
      rw [if_neg hr, if_pos e, if_pos e2, add_zero]
  · rw [if_neg hb] at hn
    subst hn
    have e2 : ¬ r < 2048 * 0 := by omega
    by_cases hr : 8192 ≤ r
    · have e : b ∨ 8192 ≤ r := Or.inr hr
      rw [if_pos hr, if_pos e, if_neg e2, add_zero]
    · have e : ¬ (b ∨ 8192 ≤ r) := by rintro (h | h) <;> contradiction
      rw [if_neg hr, if_neg e, if_neg e2, add_zero]

theorem ends_at (𝒱 : Variants) (c : Dev nD) (bd : Option 𝒱.V) (t : Fin grid0.N) (arg2 : Memref sig .tc .vmem S256x256 .bf16) (harg2 : arg2.IsWhole) (arg3 : Memref sig .tc .vmem S8448x256 .bf16) (harg3 : arg3.IsWhole) (arg4 : Memref sig .tc .vmem S8448x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256x1 .f32) (harg7 : arg7.IsWhole) (arg8 : Memref sig .tc .vmem S256x256 .f32) (harg8 : arg8.IsWhole) (arg9 : Memref sig .tc .vmem S8448x256 .f32) (harg9 : arg9.IsWhole) (arg10 : Memref sig .tc .vmem S8448x128 .f32) (harg10 : arg10.IsWhole) (v4 : Vec Ideal S256x256 .bf16) (v6 : FVec Ideal S256x128 .bf16) (v8 : FVec Ideal S256x1 .f32) (v14 : FVec Ideal S256x1 .f32) (v16 : BitVec 32) (v17 : FVec Ideal S256x256 .f32) (v26 : FVec Ideal S256x256 .f32) (v30 : FVec Ideal S256x256 .bf16) (x1 : Vec Ideal S8448x256 .bf16) (x2 : Vec Ideal S8448x128 .bf16)
    (g9 : BufTy.Contents (Elt Ideal) arg9.view.ty) (g10 : BufTy.Contents (Elt Ideal) arg10.view.ty)
    (Q K V G : ℕ → ℕ → ℝ) (L D : ℕ → ℝ) (H9 H10 : ℕ → ℕ → ℝ) (hq : IsN v4 Q) (hg : IsN v6 G) (hl : Is2 v8 fun i _ => L i.val) (hd : Is2 v14 fun i _ => D i.val) (hk : IsN x1 K) (hv : IsN x2 V)
    (hG9 : IsN (arg9.view.read (Elt Ideal) g9) fun r d => H9 r d + if 8192 ≤ r then addK Q K V G L D r d else 0)
    (hG10 : IsN (arg10.view.read (Elt Ideal) g10) fun r d => H10 r d + if 8192 ≤ r then addV Q K G L r d else 0)
    (init : FVec Ideal S256x256 .f32 × FVec Ideal S256x2048 .f32 × FVec Ideal S256x2048 .f32) (h0 : At g9 g10 Q K V G L D 0 (init, [], []) fun i d => ∑ j : Fin 256, addQ Q K V G L D i d (8192 + j.val))
    (n : ℕ) (hn : n = (k0_t1_loop (grid0.coords t)).trips) (s : (FVec Ideal S256x256 .f32 × FVec Ideal S256x2048 .f32 × FVec Ideal S256x2048 .f32) × List (View.Piece (Elt Ideal) S8448x256 .f32) × List (View.Piece (Elt Ideal) S8448x128 .f32))
    (hs : s = st_k0_t1 𝒱 c bd (grid0.coords t) arg2 harg2 arg3 harg3 arg4 harg4 arg5 harg5 arg6 harg6 arg7 harg7 arg8 harg8 arg9 harg9 arg10 harg10 v4 v6 v8 v14 v16 v17 v26 v30 (harg3.unread x1) (harg4.unread x2) g9 g10 init n) :
    Ends g9 g10 (t.val % 33 ≠ 32) Q K V G L D H9 H10 s := by
  have h := loop_at 𝒱 c bd t arg2 harg2 arg3 harg3 arg4 harg4 arg5 harg5 arg6 harg6 arg7 harg7 arg8 harg8 arg9 harg9 arg10 harg10 v4 v6 v8 v14 v16 v17 v26 v30 x1 x2 g9 g10 Q K V G L D hq hg hl hd hk hv _ init h0 n hn.le
  rw [← hs] at h
  have hn' : n = if t.val % 33 ≠ 32 then 4 else 0 := by
    rw [hn, trips1]
    by_cases e : t.val % 33 = 32
    · rw [if_pos e, if_neg (not_not.mpr e)]
    · rw [if_neg e, if_pos e]
  refine ⟨?_, ?_, ?_⟩
  · intro i d
    exact (h.a i d).trans (congrArg (fun z : ℝ => (z : EReal)) (live_sum _ (fun j => addQ Q K V G L D i.val d.val j) n hn'))
  · intro r d
    refine (h.k r d).trans ?_
    rw [hG9 r d]
    exact live_row _ _ _ _ n hn'
  · intro r d
    refine (h.v r d).trans ?_
    rw [hG10 r d]
    exact live_row _ _ _ _ n hn'

/-- The second loop runs no trips. -/
theorem rest_none (𝒱 : Variants) (c : Dev nD) (bd : Option 𝒱.V) (t : Fin grid0.N) (arg2 : Memref sig .tc .vmem S256x256 .bf16) (harg2 : arg2.IsWhole) (arg3 : Memref sig .tc .vmem S8448x256 .bf16) (harg3 : arg3.IsWhole) (arg4 : Memref sig .tc .vmem S8448x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256x1 .f32) (harg7 : arg7.IsWhole) (arg8 : Memref sig .tc .vmem S256x256 .f32) (harg8 : arg8.IsWhole) (arg9 : Memref sig .tc .vmem S8448x256 .f32) (harg9 : arg9.IsWhole) (arg10 : Memref sig .tc .vmem S8448x128 .f32) (harg10 : arg10.IsWhole) (v4 : Vec Ideal S256x256 .bf16) (v6 : FVec Ideal S256x128 .bf16) (v8 : FVec Ideal S256x1 .f32) (v14 : FVec Ideal S256x1 .f32) (v16 : BitVec 32) (v17 : FVec Ideal S256x256 .f32) (v26 : FVec Ideal S256x256 .f32) (v30 : FVec Ideal S256x256 .bf16) (v59 : BitVec 32) (X3 : BufTy.Contents (Elt Ideal) arg3.view.ty) (X4 : BufTy.Contents (Elt Ideal) arg4.view.ty)
    (g9 : BufTy.Contents (Elt Ideal) arg9.view.ty) (g10 : BufTy.Contents (Elt Ideal) arg10.view.ty) (init : FVec Ideal S256x256 .f32 × FVec Ideal S256x2048 .f32 × FVec Ideal S256x2048 .f32) (n : ℕ) (hn : n = (k0_t2_loop (grid0.coords t)).trips) :
    st_k0_t2 (F := Ideal) 𝒱 c bd (grid0.coords t) arg2 harg2 arg3 harg3 arg4 harg4 arg5 harg5 arg6 harg6 arg7 harg7 arg8 harg8 arg9 harg9 arg10 harg10 v4 v6 v8 v14 v16 v17 v26 v30 v59 X3 X4 g9 g10 init n = (init, [], []) := by
  rw [hn, trips2 t]
  rfl

theorem x5_at (x : Vec Ideal S1x256x1 .f32) (L : ℕ → ℝ) (hx : ∀ i : Fin 256, x (ix3 0 i 0) = ((L i.val : ℝ) : EReal)) (i : Fin 256)
    (inb : ∀ a, (![0, 0, 0] : Fin 3 → ℕ) a + S1x256x1.size a ≤ S1x256x1.size a) :
    View.ld (Val := Elt Ideal) x (Rect.unit (s := S1x256x1) ![0, 0, 0] S1x256x1.size inb) (ix3 0 i 0) = ((L i.val : ℝ) : EReal) := by
  refine (View.ld_unit_apply_of (S := S1x256x1) x ![0, 0, 0] S1x256x1.size inb _ (ix3 0 i 0) ?_).trans (hx i)
  intro a
  fin_cases a <;> exact (Nat.zero_add _).symm

end Cert.BwdIdeal.Value

end

end
-- ==== Proof.BRun.lean ====
/-
  The frame of the backward kernel. Its body's runs found the pieces each output ends with, for the first point of a head,
  the points between and the last; the gradients of a head's keys and values are carried from point to point.
-/
module

public import proofs.«01_k».proof.Proof.Gen.BwdIdeal.Frame.RunA
public import proofs.«01_k».proof.Proof.Gen.BwdIdeal.Frame.RunB
public import proofs.«01_k».proof.Proof.Gen.BwdIdeal.Frame.RunC
public import Idealize.ShloMosaic.Lib.Claim
public import Idealize.ShloMosaic.Lib.Pipeline.Value

@[expose] public section

set_option maxRecDepth 16384

noncomputable section

namespace Cert.BwdIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.BwdIdeal Cert.BwdIdeal.Gen

variable {F : FTy → Type} [FloatOps F] [Named F]

local notation "World" => MT nD τ sig Unit (Elt F) ℕ (UR sig nD τ) ℕ

variable (m : (ℓ : Loc nD τ sig) → Buf (Elt F) ℓ) (ρ : Dev nD → PrngReg)

/-- The pieces stored into the block of the queries' gradients at a point, the first of a head. -/
def piecesA6 (c : Dev nD) (t : Fin cfg0.N) (h0 : t.val % 33 = 0) (h1 : ¬t.val % 33 = 32) : List (View.Piece (Elt F) S256x256 .f32) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk m c 0 t) (iblk m c 1 t) (iblk m c 2 t) (iblk m c 3 t) (iblk m c 4 t) (iblk m c 5 t)).1

/-- The pieces stored into the block of the keys' gradients at a point, the first of a head. -/
def piecesA7 (c : Dev nD) (t : Fin cfg0.N) (h0 : t.val % 33 = 0) (h1 : ¬t.val % 33 = 32) : List (View.Piece (Elt F) S8448x256 .f32) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk m c 0 t) (iblk m c 1 t) (iblk m c 2 t) (iblk m c 3 t) (iblk m c 4 t) (iblk m c 5 t)).2.1

/-- The pieces stored into the block of the values' gradients at a point, the first of a head. -/
def piecesA8 (c : Dev nD) (t : Fin cfg0.N) (h0 : t.val % 33 = 0) (h1 : ¬t.val % 33 = 32) : List (View.Piece (Elt F) S8448x128 .f32) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk m c 0 t) (iblk m c 1 t) (iblk m c 2 t) (iblk m c 3 t) (iblk m c 4 t) (iblk m c 5 t)).2.2.1

/-- The pieces stored into the block of the queries' gradients at a point, one between. -/
def piecesB6 (c : Dev nD) (t : Fin cfg0.N) (h0 : ¬t.val % 33 = 0) (h1 : ¬t.val % 33 = 32) (x7 : Vec F S8448x256 .f32) (x8 : Vec F S8448x128 .f32) : List (View.Piece (Elt F) S256x256 .f32) :=
  (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk m c 0 t) (iblk m c 1 t) (iblk m c 2 t) (iblk m c 3 t) (iblk m c 4 t) (iblk m c 5 t) x7 x8).1

/-- The pieces stored into the block of the keys' gradients at a point, one between. -/
def piecesB7 (c : Dev nD) (t : Fin cfg0.N) (h0 : ¬t.val % 33 = 0) (h1 : ¬t.val % 33 = 32) (x7 : Vec F S8448x256 .f32) (x8 : Vec F S8448x128 .f32) : List (View.Piece (Elt F) S8448x256 .f32) :=
  (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk m c 0 t) (iblk m c 1 t) (iblk m c 2 t) (iblk m c 3 t) (iblk m c 4 t) (iblk m c 5 t) x7 x8).2.1

/-- The pieces stored into the block of the values' gradients at a point, one between. -/
def piecesB8 (c : Dev nD) (t : Fin cfg0.N) (h0 : ¬t.val % 33 = 0) (h1 : ¬t.val % 33 = 32) (x7 : Vec F S8448x256 .f32) (x8 : Vec F S8448x128 .f32) : List (View.Piece (Elt F) S8448x128 .f32) :=
  (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk m c 0 t) (iblk m c 1 t) (iblk m c 2 t) (iblk m c 3 t) (iblk m c 4 t) (iblk m c 5 t) x7 x8).2.2.1

/-- The pieces stored into the block of the queries' gradients at a point, the last of a head. -/
def piecesC6 (c : Dev nD) (t : Fin cfg0.N) (h0 : ¬t.val % 33 = 0) (h1 : t.val % 33 = 32) (x7 : Vec F S8448x256 .f32) (x8 : Vec F S8448x128 .f32) : List (View.Piece (Elt F) S256x256 .f32) :=
  (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk m c 0 t) (iblk m c 1 t) (iblk m c 2 t) (iblk m c 3 t) (iblk m c 4 t) (iblk m c 5 t) x7 x8).1

/-- The pieces stored into the block of the keys' gradients at a point, the last of a head. -/
def piecesC7 (c : Dev nD) (t : Fin cfg0.N) (h0 : ¬t.val % 33 = 0) (h1 : t.val % 33 = 32) (x7 : Vec F S8448x256 .f32) (x8 : Vec F S8448x128 .f32) : List (View.Piece (Elt F) S8448x256 .f32) :=
  (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk m c 0 t) (iblk m c 1 t) (iblk m c 2 t) (iblk m c 3 t) (iblk m c 4 t) (iblk m c 5 t) x7 x8).2.1

/-- The pieces stored into the block of the values' gradients at a point, the last of a head. -/
def piecesC8 (c : Dev nD) (t : Fin cfg0.N) (h0 : ¬t.val % 33 = 0) (h1 : t.val % 33 = 32) (x7 : Vec F S8448x256 .f32) (x8 : Vec F S8448x128 .f32) : List (View.Piece (Elt F) S8448x128 .f32) :=
  (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk m c 0 t) (iblk m c 1 t) (iblk m c 2 t) (iblk m c 3 t) (iblk m c 4 t) (iblk m c 5 t) x7 x8).2.2.1

theorem coverA6 (c : Dev nD) (t : Fin cfg0.N) (h0 : t.val % 33 = 0) (h1 : ¬t.val % 33 = 32) (y : S256x256.Idx) : ∃ p ∈ piecesA6 m c t h0 h1, y ∈ p.1.set :=
  View.cover_of_tiledL (piecesA6 m c t h0 h1) S256x256.size (by sl_kernel_rfl) y

theorem coverA7 (c : Dev nD) (t : Fin cfg0.N) (h0 : t.val % 33 = 0) (h1 : ¬t.val % 33 = 32) (y : S8448x256.Idx) : ∃ p ∈ piecesA7 m c t h0 h1, y ∈ p.1.set :=
  View.cover_of_wholeMem (piecesA7 m c t h0 h1) (by unfold piecesA7; sl_whole_mem) y

theorem coverA8 (c : Dev nD) (t : Fin cfg0.N) (h0 : t.val % 33 = 0) (h1 : ¬t.val % 33 = 32) (y : S8448x128.Idx) : ∃ p ∈ piecesA8 m c t h0 h1, y ∈ p.1.set :=
  View.cover_of_wholeMem (piecesA8 m c t h0 h1) (by unfold piecesA8; sl_whole_mem) y

theorem coverB6 (c : Dev nD) (t : Fin cfg0.N) (h0 : ¬t.val % 33 = 0) (h1 : ¬t.val % 33 = 32) (x7 : Vec F S8448x256 .f32) (x8 : Vec F S8448x128 .f32) (y : S256x256.Idx) : ∃ p ∈ piecesB6 m c t h0 h1 x7 x8, y ∈ p.1.set :=
  View.cover_of_tiledL (piecesB6 m c t h0 h1 x7 x8) S256x256.size (by sl_kernel_rfl) y

theorem coverC6 (c : Dev nD) (t : Fin cfg0.N) (h0 : ¬t.val % 33 = 0) (h1 : t.val % 33 = 32) (x7 : Vec F S8448x256 .f32) (x8 : Vec F S8448x128 .f32) (y : S256x256.Idx) : ∃ p ∈ piecesC6 m c t h0 h1 x7 x8, y ∈ p.1.set :=
  View.cover_of_tiledL (piecesC6 m c t h0 h1 x7 x8) S256x256.size (by sl_kernel_rfl) y

theorem coverC7 (c : Dev nD) (t : Fin cfg0.N) (h0 : ¬t.val % 33 = 0) (h1 : t.val % 33 = 32) (x7 : Vec F S8448x256 .f32) (x8 : Vec F S8448x128 .f32) (y : S8448x256.Idx) : ∃ p ∈ piecesC7 m c t h0 h1 x7 x8, y ∈ p.1.set :=
  View.cover_of_wholeMem (piecesC7 m c t h0 h1 x7 x8) (by unfold piecesC7; sl_whole_mem) y

/-- What the block of the queries' gradients holds after a point, the first of a head. -/
def leftA6 (c : Dev nD) (t : Fin cfg0.N) (h0 : t.val % 33 = 0) (h1 : ¬t.val % 33 = 32) : Vec F S256x256 .f32 :=
  VO0_6.read (Elt F) (VO0_6.writes (Elt F) VO0_6.junk (piecesA6 m c t h0 h1))

/-- What the block of the keys' gradients holds after a point, the first of a head. -/
def leftA7 (c : Dev nD) (t : Fin cfg0.N) (h0 : t.val % 33 = 0) (h1 : ¬t.val % 33 = 32) : Vec F S8448x256 .f32 :=
  VO0_7.read (Elt F) (VO0_7.writes (Elt F) VO0_7.junk (piecesA7 m c t h0 h1))

/-- What the block of the values' gradients holds after a point, the first of a head. -/
def leftA8 (c : Dev nD) (t : Fin cfg0.N) (h0 : t.val % 33 = 0) (h1 : ¬t.val % 33 = 32) : Vec F S8448x128 .f32 :=
  VO0_8.read (Elt F) (VO0_8.writes (Elt F) VO0_8.junk (piecesA8 m c t h0 h1))

/-- What the block of the queries' gradients holds after a point, one between. -/
def leftB6 (c : Dev nD) (t : Fin cfg0.N) (h0 : ¬t.val % 33 = 0) (h1 : ¬t.val % 33 = 32) (x7 : Vec F S8448x256 .f32) (x8 : Vec F S8448x128 .f32) : Vec F S256x256 .f32 :=
  VO0_6.read (Elt F) (VO0_6.writes (Elt F) VO0_6.junk (piecesB6 m c t h0 h1 x7 x8))

/-- What the block of the keys' gradients holds after a point, one between. -/
def leftB7 (c : Dev nD) (t : Fin cfg0.N) (h0 : ¬t.val % 33 = 0) (h1 : ¬t.val % 33 = 32) (x7 : Vec F S8448x256 .f32) (x8 : Vec F S8448x128 .f32) : Vec F S8448x256 .f32 :=
  (ms0_7 t).view.read (Elt F) ((ms0_7 t).view.writes (Elt F) ((hs0_7 t).unread x7) (piecesB7 m c t h0 h1 x7 x8))

/-- What the block of the values' gradients holds after a point, one between. -/
def leftB8 (c : Dev nD) (t : Fin cfg0.N) (h0 : ¬t.val % 33 = 0) (h1 : ¬t.val % 33 = 32) (x7 : Vec F S8448x256 .f32) (x8 : Vec F S8448x128 .f32) : Vec F S8448x128 .f32 :=
  (ms0_8 t).view.read (Elt F) ((ms0_8 t).view.writes (Elt F) ((hs0_8 t).unread x8) (piecesB8 m c t h0 h1 x7 x8))

/-- What the block of the queries' gradients holds after a point, the last of a head. -/
def leftC6 (c : Dev nD) (t : Fin cfg0.N) (h0 : ¬t.val % 33 = 0) (h1 : t.val % 33 = 32) (x7 : Vec F S8448x256 .f32) (x8 : Vec F S8448x128 .f32) : Vec F S256x256 .f32 :=
  VO0_6.read (Elt F) (VO0_6.writes (Elt F) VO0_6.junk (piecesC6 m c t h0 h1 x7 x8))

/-- What the block of the keys' gradients holds after a point, the last of a head. -/
def leftC7 (c : Dev nD) (t : Fin cfg0.N) (h0 : ¬t.val % 33 = 0) (h1 : t.val % 33 = 32) (x7 : Vec F S8448x256 .f32) (x8 : Vec F S8448x128 .f32) : Vec F S8448x256 .f32 :=
  VO0_7.read (Elt F) (VO0_7.writes (Elt F) VO0_7.junk (piecesC7 m c t h0 h1 x7 x8))

/-- What the block of the values' gradients holds after a point, the last of a head. -/
def leftC8 (c : Dev nD) (t : Fin cfg0.N) (h0 : ¬t.val % 33 = 0) (h1 : t.val % 33 = 32) (x7 : Vec F S8448x256 .f32) (x8 : Vec F S8448x128 .f32) : Vec F S8448x128 .f32 :=
  (ms0_8 t).view.read (Elt F) ((ms0_8 t).view.writes (Elt F) ((hs0_8 t).unread x8) (piecesC8 m c t h0 h1 x7 x8))

/-- What a point makes of the carried gradients of keys and values, after the gradients of its queries. -/
def step (c : Dev nD) (t : Fin cfg0.N) (x : Vec F S8448x256 .f32 × Vec F S8448x128 .f32) : Vec F S256x256 .f32 × Vec F S8448x256 .f32 × Vec F S8448x128 .f32 :=
  if h0 : t.val % 33 = 0 then
    if h1 : t.val % 33 = 32 then (VO0_6.read (Elt F) VO0_6.junk, x)
    else (leftA6 m c t h0 h1, leftA7 m c t h0 h1, leftA8 m c t h0 h1)
  else
    if h1 : t.val % 33 = 32 then (leftC6 m c t h0 h1 x.1 x.2, leftC7 m c t h0 h1 x.1 x.2, leftC8 m c t h0 h1 x.1 x.2)
    else (leftB6 m c t h0 h1 x.1 x.2, leftB7 m c t h0 h1 x.1 x.2, leftB8 m c t h0 h1 x.1 x.2)

/-- The carried gradients before each point. -/
def held (c : Dev nD) : ℕ → Vec F S8448x256 .f32 × Vec F S8448x128 .f32
  | 0 => (VO0_7.read (Elt F) VO0_7.junk, VO0_8.read (Elt F) VO0_8.junk)
  | n + 1 => if h : n < cfg0.N then (step m c ⟨n, h⟩ (held c n)).2 else held c n

theorem held_succ (c : Dev nD) (t : Fin cfg0.N) : held m c (t.val + 1) = (step m c t (held m c t.val)).2 := by
  rw [held, dif_pos t.isLt]

/-- The run's data: inputs hold their blocks throughout, outputs what the points leave. -/
def run (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (step m c t (held m c t.val)).1
    | ⟨7, _⟩ => (step m c t (held m c t.val)).2.1
    | ⟨8, _⟩ => (step m c t (held m c t.val)).2.2
  Φ _ := Pipeline.ΦA spec0 c
  q _ := fullShare
  owed _ := 0

theorem entry_eq (c : Dev nD) (w : Fin cfg0.W) : (run m 0 c).A w = V m c (Pipeline.arrRef spec0 w) := by dsimp only [run]

theorem after_0 (c : Dev nD) (t : Fin cfg0.N) : (run m 0 c).after 0 t = iblk m c 0 t := by dsimp only [run]
theorem after_1 (c : Dev nD) (t : Fin cfg0.N) : (run m 0 c).after 1 t = iblk m c 1 t := by dsimp only [run]
theorem after_2 (c : Dev nD) (t : Fin cfg0.N) : (run m 0 c).after 2 t = iblk m c 2 t := by dsimp only [run]
theorem after_3 (c : Dev nD) (t : Fin cfg0.N) : (run m 0 c).after 3 t = iblk m c 3 t := by dsimp only [run]
theorem after_4 (c : Dev nD) (t : Fin cfg0.N) : (run m 0 c).after 4 t = iblk m c 4 t := by dsimp only [run]
theorem after_5 (c : Dev nD) (t : Fin cfg0.N) : (run m 0 c).after 5 t = iblk m c 5 t := by dsimp only [run]
theorem after_6 (c : Dev nD) (t : Fin cfg0.N) : (run m 0 c).after 6 t = (step m c t (held m c t.val)).1 := by dsimp only [run]
theorem after_7 (c : Dev nD) (t : Fin cfg0.N) : (run m 0 c).after 7 t = (step m c t (held m c t.val)).2.1 := by dsimp only [run]
theorem after_8 (c : Dev nD) (t : Fin cfg0.N) : (run m 0 c).after 8 t = (step m c t (held m c t.val)).2.2 := by dsimp only [run]

theorem stepA (c : Dev nD) (t : Fin cfg0.N) (h0 : t.val % 33 = 0) (h1 : ¬t.val % 33 = 32) (x : Vec F S8448x256 .f32 × Vec F S8448x128 .f32) :
    step m c t x = (leftA6 m c t h0 h1, leftA7 m c t h0 h1, leftA8 m c t h0 h1) := by
  rw [step, dif_pos h0, dif_neg h1]

theorem stepB (c : Dev nD) (t : Fin cfg0.N) (h0 : ¬t.val % 33 = 0) (h1 : ¬t.val % 33 = 32) (x : Vec F S8448x256 .f32 × Vec F S8448x128 .f32) :
    step m c t x = (leftB6 m c t h0 h1 x.1 x.2, leftB7 m c t h0 h1 x.1 x.2, leftB8 m c t h0 h1 x.1 x.2) := by
  rw [step, dif_neg h0, dif_neg h1]

theorem stepC (c : Dev nD) (t : Fin cfg0.N) (h0 : ¬t.val % 33 = 0) (h1 : t.val % 33 = 32) (x : Vec F S8448x256 .f32 × Vec F S8448x128 .f32) :
    step m c t x = (leftC6 m c t h0 h1 x.1 x.2, leftC7 m c t h0 h1 x.1 x.2, leftC8 m c t h0 h1 x.1 x.2) := by
  rw [step, dif_neg h0, dif_pos h1]

/-- At a point that isn't the first of its head the keys' gradients are those the point before left. -/
theorem before_7 (c : Dev nD) (t : Fin cfg0.N) (h0 : ¬t.val % 33 = 0) (d) : (run m 0 c).before 7 t d = (held m c t.val).1 := by
  have hN : t.val < 264 := lt_of_lt_of_eq t.isLt (show cfg0.N = 264 from N_0)
  rw [Dat.before_out_kept _ 7 rfl t (by omega) (Bool.eq_false_iff.mpr fun h => by have := (flush0_7 _).mp h; dsimp only at this; omega)
    (fun _ => rfl) (fun _ _ => rfl)]
  obtain ⟨n, hn⟩ := t
  obtain _ | n := n
  · exact absurd (Nat.zero_mod 33) h0
  · rw [held_succ m c ⟨n, by omega⟩]
    dsimp only [run]
    rfl

/-- At a point that isn't the first of its head the values' gradients are those the point before left. -/
theorem before_8 (c : Dev nD) (t : Fin cfg0.N) (h0 : ¬t.val % 33 = 0) (d) : (run m 0 c).before 8 t d = (held m c t.val).2 := by
  have hN : t.val < 264 := lt_of_lt_of_eq t.isLt (show cfg0.N = 264 from N_0)
  rw [Dat.before_out_kept _ 8 rfl t (by omega) (Bool.eq_false_iff.mpr fun h => by have := (flush0_8 _).mp h; dsimp only at this; omega)
    (fun _ => rfl) (fun _ _ => rfl)]
  obtain ⟨n, hn⟩ := t
  obtain _ | n := n
  · exact absurd (Nat.zero_mod 33) h0
  · rw [held_succ m c ⟨n, by omega⟩]
    dsimp only [run]
    rfl

/-- What the body is called with at a point, -/
def Entry (c : Dev nD) (t : Fin cfg0.N) : sProp World :=
  iprop((run m 0 c).Φ t.castSucc ∗ (run m 0 c).owesAt () t.castSucc
    ∗ (∃ d, owns (c : Thread nD τ) (ms0_0 t) fullShare ((run m 0 c).before 0 t d))
    ∗ (∃ d, owns (c : Thread nD τ) (ms0_1 t) fullShare ((run m 0 c).before 1 t d))
    ∗ (∃ d, owns (c : Thread nD τ) (ms0_2 t) fullShare ((run m 0 c).before 2 t d))
    ∗ (∃ d, owns (c : Thread nD τ) (ms0_3 t) fullShare ((run m 0 c).before 3 t d))
    ∗ (∃ d, owns (c : Thread nD τ) (ms0_4 t) fullShare ((run m 0 c).before 4 t d))
    ∗ (∃ d, owns (c : Thread nD τ) (ms0_5 t) fullShare ((run m 0 c).before 5 t d))
    ∗ (∃ d, owns (c : Thread nD τ) (ms0_6 t) fullShare ((run m 0 c).before 6 t d))
    ∗ (∃ d, owns (c : Thread nD τ) (ms0_7 t) fullShare ((run m 0 c).before 7 t d))
    ∗ (∃ d, owns (c : Thread nD τ) (ms0_8 t) fullShare ((run m 0 c).before 8 t d)))

/-- and what it returns. -/
def Exit (c : Dev nD) (t : Fin cfg0.N) : sProp World :=
  iprop((run m 0 c).Φ t.succ ∗ (run m 0 c).owesAt () t.succ
    ∗ owns (c : Thread nD τ) (ms0_0 t) fullShare ((run m 0 c).after 0 t)
    ∗ owns (c : Thread nD τ) (ms0_1 t) fullShare ((run m 0 c).after 1 t)
    ∗ owns (c : Thread nD τ) (ms0_2 t) fullShare ((run m 0 c).after 2 t)
    ∗ owns (c : Thread nD τ) (ms0_3 t) fullShare ((run m 0 c).after 3 t)
    ∗ owns (c : Thread nD τ) (ms0_4 t) fullShare ((run m 0 c).after 4 t)
    ∗ owns (c : Thread nD τ) (ms0_5 t) fullShare ((run m 0 c).after 5 t)
    ∗ owns (c : Thread nD τ) (ms0_6 t) fullShare ((run m 0 c).after 6 t)
    ∗ owns (c : Thread nD τ) (ms0_7 t) fullShare ((run m 0 c).after 7 t)
    ∗ owns (c : Thread nD τ) (ms0_8 t) fullShare ((run m 0 c).after 8 t))

set_option maxHeartbeats 1000000 in
attribute [local irreducible] kernelRun0_A kernelRun0_B kernelRun0_C in
/-- The body at a point, the first of a head. -/
theorem bodyA (c : Dev nD) (t : Fin cfg0.N) (h0 : t.val % 33 = 0) (h1 : ¬t.val % 33 = 32) :
    Entry m c t ⊢ (wp frame (wpE (defs₀ (F := F)) Variants.none c none) Set.univ (bodyAt0 t) (fun _ => Exit m c t) : sProp World) := by
  unfold Entry Exit
  have Φ' : (run m 0 c).Φ t.succ = (run m 0 c).Φ t.castSucc := rfl
  have o' : (run m 0 c).owesAt () t.succ = (run m 0 c).owesAt () t.castSucc := rfl
  simp only [before0_0_of m (run m 0 c) (entry_eq m c 0) (after_0 m c) t, before0_1_of m (run m 0 c) (entry_eq m c 1) (after_1 m c) t, before0_2_of m (run m 0 c) (entry_eq m c 2) (after_2 m c) t, before0_3_of m (run m 0 c) (entry_eq m c 3) (after_3 m c) t, before0_4_of m (run m 0 c) (entry_eq m c 4) (after_4 m c) t, before0_5_of m (run m 0 c) (entry_eq m c 5) (after_5 m c) t]
  rw [Φ', o', after_0, after_1, after_2, after_3, after_4, after_5, after_6, after_7, after_8, stepA m c t h0 h1]
  dsimp only
  unfold bodyAt0 leftA6 leftA7 leftA8
  iintro ⟨hΦ, ho, ⟨%a0, i0⟩, ⟨%a1, i1⟩, ⟨%a2, i2⟩, ⟨%a3, i3⟩, ⟨%a4, i4⟩, ⟨%a5, i5⟩, ⟨%a6, i6⟩, ⟨%a7, i7⟩, ⟨%a8, i8⟩⟩
  iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 Set.univ _)
  isplitl [i0]; · iexact i0
  isplitl [i1]; · iexact i1
  isplitl [i2]; · iexact i2
  isplitl [i3]; · iexact i3
  isplitl [i4]; · iexact i4
  isplitl [i5]; · iexact i5
  isplitl [i6]; · iexists _; iexact i6
  isplitl [i7]; · iexists _; iexact i7
  isplitl [i8]; · iexists _; iexact i8
  iintro ⟨i0, i1, i2, i3, i4, i5, ⟨%b6, i6⟩, ⟨%b7, i7⟩, ⟨%b8, i8⟩⟩
  isplitl [hΦ]; · iexact hΦ
  isplitl [ho]; · iexact ho
  isplitl [i0]; · iexact i0
  isplitl [i1]; · iexact i1
  isplitl [i2]; · iexact i2
  isplitl [i3]; · iexact i3
  isplitl [i4]; · iexact i4
  isplitl [i5]; · iexact i5
  isplitl [i6]
  · unfold owns
    iexists _
    isplitr
    swap; · iexact i6
    ipureintro
    exact View.read_writes_of_cover _ _ _ _ _ (coverA6 m c t h0 h1)
  isplitl [i7]
  · unfold owns
    iexists _
    isplitr
    swap; · iexact i7
    ipureintro
    exact View.read_writes_of_cover _ _ _ _ _ (coverA7 m c t h0 h1)
  · unfold owns
    iexists _
    isplitr
    swap; · iexact i8
    ipureintro
    exact View.read_writes_of_cover _ _ _ _ _ (coverA8 m c t h0 h1)

set_option maxHeartbeats 1000000 in
attribute [local irreducible] kernelRun0_A kernelRun0_B kernelRun0_C in
/-- The body at a point, one between. -/
theorem bodyB (c : Dev nD) (t : Fin cfg0.N) (h0 : ¬t.val % 33 = 0) (h1 : ¬t.val % 33 = 32) :
    Entry m c t ⊢ (wp frame (wpE (defs₀ (F := F)) Variants.none c none) Set.univ (bodyAt0 t) (fun _ => Exit m c t) : sProp World) := by
  unfold Entry Exit
  have Φ' : (run m 0 c).Φ t.succ = (run m 0 c).Φ t.castSucc := rfl
  have o' : (run m 0 c).owesAt () t.succ = (run m 0 c).owesAt () t.castSucc := rfl
  simp only [before0_0_of m (run m 0 c) (entry_eq m c 0) (after_0 m c) t, before0_1_of m (run m 0 c) (entry_eq m c 1) (after_1 m c) t, before0_2_of m (run m 0 c) (entry_eq m c 2) (after_2 m c) t, before0_3_of m (run m 0 c) (entry_eq m c 3) (after_3 m c) t, before0_4_of m (run m 0 c) (entry_eq m c 4) (after_4 m c) t, before0_5_of m (run m 0 c) (entry_eq m c 5) (after_5 m c) t]
  simp only [before_7 m c t h0, before_8 m c t h0]
  rw [Φ', o', after_0, after_1, after_2, after_3, after_4, after_5, after_6, after_7, after_8, stepB m c t h0 h1]
  dsimp only
  unfold bodyAt0 leftB6 leftB7 leftB8
  iintro ⟨hΦ, ho, ⟨%a0, i0⟩, ⟨%a1, i1⟩, ⟨%a2, i2⟩, ⟨%a3, i3⟩, ⟨%a4, i4⟩, ⟨%a5, i5⟩, ⟨%a6, i6⟩, ⟨%a7, i7⟩, ⟨%a8, i8⟩⟩
  iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2 Set.univ _)
  isplitl [i0]; · iexact i0
  isplitl [i1]; · iexact i1
  isplitl [i2]; · iexact i2
  isplitl [i3]; · iexact i3
  isplitl [i4]; · iexact i4
  isplitl [i5]; · iexact i5
  isplitl [i6]; · iexists _; iexact i6
  isplitl [i7]; · iexact i7
  isplitl [i8]; · iexact i8
  iintro ⟨i0, i1, i2, i3, i4, i5, ⟨%b6, i6⟩, i7, i8⟩
  isplitl [hΦ]; · iexact hΦ
  isplitl [ho]; · iexact ho
  isplitl [i0]; · iexact i0
  isplitl [i1]; · iexact i1
  isplitl [i2]; · iexact i2
  isplitl [i3]; · iexact i3
  isplitl [i4]; · iexact i4
  isplitl [i5]; · iexact i5
  isplitl [i6]
  · unfold owns
    iexists _
    isplitr
    swap; · iexact i6
    ipureintro
    exact View.read_writes_of_cover _ _ _ _ _ (coverB6 m c t h0 h1 _ _)
  isplitl [i7]
  · unfold owns
    iexists _
    isplitr
    swap; · iexact i7
    ipureintro
    rfl
  · unfold owns
    iexists _
    isplitr
    swap; · iexact i8
    ipureintro
    rfl

set_option maxHeartbeats 1000000 in
attribute [local irreducible] kernelRun0_A kernelRun0_B kernelRun0_C in
/-- The body at a point, the last of a head. -/
theorem bodyC (c : Dev nD) (t : Fin cfg0.N) (h0 : ¬t.val % 33 = 0) (h1 : t.val % 33 = 32) :
    Entry m c t ⊢ (wp frame (wpE (defs₀ (F := F)) Variants.none c none) Set.univ (bodyAt0 t) (fun _ => Exit m c t) : sProp World) := by
  unfold Entry Exit
  have Φ' : (run m 0 c).Φ t.succ = (run m 0 c).Φ t.castSucc := rfl
  have o' : (run m 0 c).owesAt () t.succ = (run m 0 c).owesAt () t.castSucc := rfl
  simp only [before0_0_of m (run m 0 c) (entry_eq m c 0) (after_0 m c) t, before0_1_of m (run m 0 c) (entry_eq m c 1) (after_1 m c) t, before0_2_of m (run m 0 c) (entry_eq m c 2) (after_2 m c) t, before0_3_of m (run m 0 c) (entry_eq m c 3) (after_3 m c) t, before0_4_of m (run m 0 c) (entry_eq m c 4) (after_4 m c) t, before0_5_of m (run m 0 c) (entry_eq m c 5) (after_5 m c) t]
  simp only [before_7 m c t h0, before_8 m c t h0]
  rw [Φ', o', after_0, after_1, after_2, after_3, after_4, after_5, after_6, after_7, after_8, stepC m c t h0 h1]
  dsimp only
  unfold bodyAt0 leftC6 leftC7 leftC8
  iintro ⟨hΦ, ho, ⟨%a0, i0⟩, ⟨%a1, i1⟩, ⟨%a2, i2⟩, ⟨%a3, i3⟩, ⟨%a4, i4⟩, ⟨%a5, i5⟩, ⟨%a6, i6⟩, ⟨%a7, i7⟩, ⟨%a8, i8⟩⟩
  iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
  isplitl [i0]; · iexact i0
  isplitl [i1]; · iexact i1
  isplitl [i2]; · iexact i2
  isplitl [i3]; · iexact i3
  isplitl [i4]; · iexact i4
  isplitl [i5]; · iexact i5
  isplitl [i6]; · iexists _; iexact i6
  isplitl [i7]; · iexact i7
  isplitl [i8]; · iexact i8
  iintro ⟨i0, i1, i2, i3, i4, i5, ⟨%b6, i6⟩, ⟨%b7, i7⟩, i8⟩
  isplitl [hΦ]; · iexact hΦ
  isplitl [ho]; · iexact ho
  isplitl [i0]; · iexact i0
  isplitl [i1]; · iexact i1
  isplitl [i2]; · iexact i2
  isplitl [i3]; · iexact i3
  isplitl [i4]; · iexact i4
  isplitl [i5]; · iexact i5
  isplitl [i6]
  · unfold owns
    iexists _
    isplitr
    swap; · iexact i6
    ipureintro
    exact View.read_writes_of_cover _ _ _ _ _ (coverC6 m c t h0 h1 _ _)
  isplitl [i7]
  · unfold owns
    iexists _
    isplitr
    swap; · iexact i7
    ipureintro
    exact View.read_writes_of_cover _ _ _ _ _ (coverC7 m c t h0 h1 _ _)
  · unfold owns
    iexists _
    isplitr
    swap; · iexact i8
    ipureintro
    rfl

theorem body_at (c : Dev nD) (t : Fin cfg0.N) :
    Entry m c t ⊢ (wp frame (wpE (defs₀ (F := F)) Variants.none c none) Set.univ (bodyAt0 t) (fun _ => Exit m c t) : sProp World) := by
  by_cases h0 : t.val % 33 = 0
  · exact bodyA m c t h0 (by omega)
  · by_cases h1 : t.val % 33 = 32
    · exact bodyC m c t h0 h1
    · exact bodyB m c t h0 h1

theorem row_eq (t : Fin cfg0.N) : defs₀ (F := F) .tc cfg0.body (cfg0.bodyArgs t (cfg0.slots t)) = bodyAt0 t := by
  unfold defs₀
  rw [Defs.onTc_tc]

theorem obligation (c : Dev nD) : BodyObligation (run (F := F) m 0 c) (defs₀ (F := F)) Variants.none () Set.univ := by
  intro t
  rw [bigSep_W0, bigSep_W0, row_eq]
  exact triple_restated (body_at m c t) rfl .rfl fun _ => .rfl

set_option backward.isDefEq.respectTransparency.types false in
/-- The program runs to its end with every array at what the data say, and every semaphore back at nought. -/
theorem ran : θ_run defs (onTc (τ := τ) (main (F := F))) (s₀ m ρ) (fun r => (Pipeline.FramePost cfgs (run m) 0 (V m)) r ∧ r.2.sem = fun _ => 0) :=
  Pipeline.θ_run_frame (Q' := _) cfgs (run m) (0 : Fin 1) launch0 defs₀ Variants.none m ρ main
    (hbody := fun c => (obligation m c).loose) (hshare := fun c => (run m 0 c).share_full fun _ => rfl)
    (howed := fun _ _ => rfl) (V := V m) (hmain := hmain m Variants.none) (hA := entry_eq m) (hΦ := fun _ _ => rfl)

/-- The results by name, the arguments kept. -/
theorem ran_named : θ_run defs (onTc (τ := τ) (main (F := F))) ⟨m, fun _ => 0, ρ⟩ fun r => (∀ c : Dev nD,
      r.2.mem ((c : Thread nD τ).loc main_v98_0) = (run m 0 c).arrAt 6 cfg0.N
      ∧ r.2.mem ((c : Thread nD τ).loc main_v98_1) = (run m 0 c).arrAt 7 cfg0.N
      ∧ r.2.mem ((c : Thread nD τ).loc main_v98_2) = (run m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun r h => ⟨fun c => ⟨(h.1 c).1 6, (h.1 c).1 7, (h.1 c).1 8,
      ((h.1 c).1 0).trans (((run m 0 c).arrAt_in 0 rfl _).trans ((entry_eq m c 0).trans (V_main_arg0 m c))),
      ((h.1 c).1 1).trans (((run m 0 c).arrAt_in 1 rfl _).trans ((entry_eq m c 1).trans (V_main_arg1 m c))),
      ((h.1 c).1 2).trans (((run m 0 c).arrAt_in 2 rfl _).trans ((entry_eq m c 2).trans (V_main_arg2 m c))),
      ((h.1 c).1 4).trans (((run m 0 c).arrAt_in 4 rfl _).trans ((entry_eq m c 4).trans (V_main_arg3 m c)))⟩, h.2⟩) (ran m ρ)

end Cert.BwdIdeal.Own

end
-- ==== Proof.BOutA.lean ====
/-
  What the backward kernel's body leaves at a point of a head, the first of a head.
-/
module

public import proofs.«01_k».proof.Proof.BEnd
public import proofs.«01_k».proof.Proof.BRun

@[expose] public section

set_option maxRecDepth 16384

noncomputable section

namespace Cert.BwdIdeal.Value

open Idealize.ShloMosaic Idealize.ShloMosaic.TcCoe Idealize.SL.Sem
open Cert.BwdIdeal Cert.BwdIdeal.Gen
open Mla

set_option maxHeartbeats 4000000 in
theorem outA (c : Dev nD) (t : Fin grid0.N) (arg2 : Memref sig .tc .vmem S256x256 .bf16) (harg2 : arg2.IsWhole) (arg3 : Memref sig .tc .vmem S8448x256 .bf16) (harg3 : arg3.IsWhole) (arg4 : Memref sig .tc .vmem S8448x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256x1 .f32) (harg7 : arg7.IsWhole) (arg8 : Memref sig .tc .vmem S256x256 .f32) (harg8 : arg8.IsWhole) (arg9 : Memref sig .tc .vmem S8448x256 .f32) (harg9 : arg9.IsWhole) (arg10 : Memref sig .tc .vmem S8448x128 .f32) (harg10 : arg10.IsWhole) (hc0 : cond0_0 (grid0.coords t)) (hc1 : ¬cond0_1 (grid0.coords t)) (x0 : Vec Ideal S256x256 .bf16) (x1 : Vec Ideal S8448x256 .bf16) (x2 : Vec Ideal S8448x128 .bf16) (x3 x4 : Vec Ideal S256x128 .f32) (x5 : Vec Ideal S1x256x1 .f32)
    (Q K V G O : ℕ → ℕ → ℝ) (L : ℕ → ℝ) (hq : IsN x0 Q) (hk : IsN x1 K) (hv : IsN x2 V) (ho : IsN x3 O) (hg : IsN x4 G)
    (hx : ∀ i : Fin 256, x5 (ix3 0 i 0) = ((L i.val : ℝ) : EReal))  :
    (∀ {κ : Kind} {sp : Space} (v : View sig κ sp S256x256 .f32) (f : BufTy.Contents (Elt Ideal) v.ty), IsN (v.read (Elt Ideal) (v.writes (Elt Ideal) f (kernelRun0_A (F := Ideal) c (grid0.coords t) arg2 harg2 arg3 harg3 arg4 harg4 arg5 harg5 arg6 harg6 arg7 harg7 arg8 harg8 arg9 harg9 arg10 harg10 hc0 hc1 x0 x1 x2 x3 x4 x5).1))
        (fun i d => (∑ j : Fin 8448, if t.val % 33 ≠ 32 ∨ 8192 ≤ j.val then addQ Q K V G L (fun i => dotn 128 G O i i) i d j.val else 0) * cs))
      ∧ IsN (arg9.view.read (Elt Ideal) (arg9.view.writes (Elt Ideal) arg9.view.junk (kernelRun0_A (F := Ideal) c (grid0.coords t) arg2 harg2 arg3 harg3 arg4 harg4 arg5 harg5 arg6 harg6 arg7 harg7 arg8 harg8 arg9 harg9 arg10 harg10 hc0 hc1 x0 x1 x2 x3 x4 x5).2.1)) (fun r d => if t.val % 33 ≠ 32 ∨ 8192 ≤ r then addK Q K V G L (fun i => dotn 128 G O i i) r d else 0)
      ∧ IsN (arg10.view.read (Elt Ideal) (arg10.view.writes (Elt Ideal) arg10.view.junk (kernelRun0_A (F := Ideal) c (grid0.coords t) arg2 harg2 arg3 harg3 arg4 harg4 arg5 harg5 arg6 harg6 arg7 harg7 arg8 harg8 arg9 harg9 arg10 harg10 hc0 hc1 x0 x1 x2 x3 x4 x5).2.2.1)) (fun r d => if t.val % 33 ≠ 32 ∨ 8192 ≤ r then addV Q K G L r d else 0) := by
  unfold kernelRun0_A
  dsimp only
  sl_unfold_words
  simp only [View.readCov, View.readAt_eq_ld, harg2.read_unread, harg3.read_unread, harg4.read_unread, harg5.read_unread, harg6.read_unread, harg7.read_unread]
  have hq0 := ld_bf16 (a := 256) (b := 256) x0 Q hq ![0, 0] inb_S256x256_S256x256_0_0
  have hg0 := ld_f32 (a := 256) (b := 128) x4 G hg ![0, 0] inb_S256x128_S256x128_0_0
  have ho0 := ld_f32 (a := 256) (b := 128) x3 O ho ![0, 0] inb_S256x128_S256x128_0_0
  have hx0 := fun i => x5_at x5 L hx i inb_S1x256x1_S1x256x1_0_0_0
  have hkc := ld_bf16 (a := 256) (b := 256) x1 K hk ![8192, 0] inb_S8448x256_S256x256_8192_0
  have hvc := ld_bf16 (a := 256) (b := 128) x2 V hv ![8192, 0] inb_S8448x128_S256x128_8192_0
  have hkn := ld_bf16 (a := 2048) (b := 256) x1 K hk k0_off1 k0_off1_inb
  have hvn := ld_bf16 (a := 2048) (b := 128) x2 V hv k0_off2 k0_off2_inb
  have z1 : sh K (k0_off1 0) (k0_off1 1) = K := by rw [k0_off1_eq]; exact sh_zero K
  have z2 : sh V (k0_off2 0) (k0_off2 1) = V := by rw [k0_off2_eq]; exact sh_zero V
  rw [z1] at hkn
  rw [z2] at hvn
  have b9 := whole_at arg9.view arg9.view.junk inb_S8448x256_S8448x256_0_0 (k0_pay17 (F := Ideal)) [] (fun _ _ => 0) (fun r d => (zero_17 r d).trans EReal.coe_zero.symm)
  have b10 := whole_at arg10.view arg10.view.junk inb_S8448x128_S8448x128_0_0 (k0_pay18 (F := Ideal)) [] (fun _ _ => 0) (fun r d => (zero_18 r d).trans EReal.coe_zero.symm)
  have l9 := ld_f32 (a := 256) (b := 256) _ _ b9 ![8192, 0] inb_S8448x256_S256x256_8192_0
  have l10 := ld_f32 (a := 256) (b := 128) _ _ b10 ![8192, 0] inb_S8448x128_S256x128_8192_0
  simp only [Matrix.cons_val_zero, Matrix.cons_val_one, sh_zero] at hq0 hg0 ho0 hkc hvc l9 l10
  have y9 := fun j d => (l9 j d).trans (congrArg (fun z : ℝ => (z : EReal)) (show sh (fun _ _ => 0) 8192 0 j.val d.val = (fun _ _ => 0) (8192 + j.val) d.val by simp only [sh, Nat.zero_add]))
  have y10 := fun j d => (l10 j d).trans (congrArg (fun z : ℝ => (z : EReal)) (show sh (fun _ _ => 0) 8192 0 j.val d.val = (fun _ _ => 0) (8192 + j.val) d.val by simp only [sh, Nat.zero_add]))
  have w9 : IsN (arg9.view.read (Elt Ideal) (arg9.view.writes (Elt Ideal) _ [_])) _ :=
    ctx_at arg9.view _ (fun _ _ => 0) (addK Q K V G L (fun i => dotn 128 G O i i)) inb_S8448x256_S256x256_8192_0 _ b9 fun j d =>
      ((dk_27 _ _ _ _ _ hq0 (dsc_24 _ _ _ _ _ _ _ _ _ _ _ _ hq0 hx0 hkc hg0 ho0 hvc) j d).trans (congrArg₂ (· + ·) (y9 j d) (congrArg (fun z : ℝ => (z : EReal)) (mixK_n Q K V G L (fun i => dotn 128 G O i i) 8192 j d)))).trans
        (EReal.coe_add _ _).symm
  have w10 : IsN (arg10.view.read (Elt Ideal) (arg10.view.writes (Elt Ideal) _ [_])) _ :=
    ctx_at arg10.view _ (fun _ _ => 0) (addV Q K G L) inb_S8448x128_S256x128_8192_0 _ b10 fun j d =>
      ((dv_26 _ _ _ _ _ (id_19 _ _ hg0) (prob_23 _ _ _ _ _ _ hq0 hx0 hkc) j d).trans (congrArg₂ (· + ·) (y10 j d) (congrArg (fun z : ℝ => (z : EReal)) (mixV_n Q K G L 8192 j d)))).trans
        (EReal.coe_add _ _).symm
  refine ⟨fun {κ sp} v f => ?_, ?_, ?_⟩
  all_goals generalize hs : st_k0_t1 (F := Ideal) Variants.none c none (grid0.coords t) arg2 harg2 arg3 harg3 arg4 harg4 arg5 harg5 arg6 harg6 arg7 harg7 arg8 harg8 arg9 harg9 arg10 harg10 _ _ _ _ _ _ _ _ (harg3.unread x1) (harg4.unread x2) _ _ _ _ = s
  all_goals generalize ht : st_k0_t2 (F := Ideal) Variants.none c none (grid0.coords t) arg2 harg2 arg3 harg3 arg4 harg4 arg5 harg5 arg6 harg6 arg7 harg7 arg8 harg8 arg9 harg9 arg10 harg10 _ _ _ _ _ _ _ _ _ _ _ _ _ _ _ = s'
  all_goals obtain rfl := ht.symm.trans (rest_none Variants.none c none t arg2 harg2 arg3 harg3 arg4 harg4 arg5 harg5 arg6 harg6 arg7 harg7 arg8 harg8 arg9 harg9 arg10 harg10 _ _ _ _ _ _ _ _ _ _ _ _ _ _ _ rfl)
  all_goals have E := ends_at Variants.none c none t arg2 harg2 arg3 harg3 arg4 harg4 arg5 harg5 arg6 harg6 arg7 harg7 arg8 harg8 arg9 harg9 arg10 harg10 _ _ _ _ _ _ _ _ x1 x2 _ _ Q K V G L (fun i => dotn 128 G O i i) _ _ hq0 (id_19 _ _ hg0) (lse_20 _ _ hx0) (delta_21 _ _ _ _ hg0 ho0) hk hv w9 w10 _
                (first_at _ _ _ _ _ _ _ _ _ _ Q K V G O L hq0 hg0 ho0 hx0 hkc hvc hkn hvn) _ rfl s hs.symm
  · exact whole_at v f inb_S256x256_S256x256_0_0 _ _ _ (fun i d => (final_1 _ _ E.a i d))
  · rw [List.nil_append, View.writes_append]
    exact fun r d => (E.k r d).trans (congrArg (fun z : ℝ => (z : EReal)) (zero_add _))
  · rw [List.nil_append, View.writes_append]
    exact fun r d => (E.v r d).trans (congrArg (fun z : ℝ => (z : EReal)) (zero_add _))

end Cert.BwdIdeal.Value

end

end
-- ==== Proof.BOutB.lean ====
/-
  What the backward kernel's body leaves at a point of a head, one between.
-/
module

public import proofs.«01_k».proof.Proof.BEnd
public import proofs.«01_k».proof.Proof.BRun

@[expose] public section

set_option maxRecDepth 16384

noncomputable section

namespace Cert.BwdIdeal.Value

open Idealize.ShloMosaic Idealize.ShloMosaic.TcCoe Idealize.SL.Sem
open Cert.BwdIdeal Cert.BwdIdeal.Gen
open Mla

set_option maxHeartbeats 4000000 in
theorem outB (c : Dev nD) (t : Fin grid0.N) (arg2 : Memref sig .tc .vmem S256x256 .bf16) (harg2 : arg2.IsWhole) (arg3 : Memref sig .tc .vmem S8448x256 .bf16) (harg3 : arg3.IsWhole) (arg4 : Memref sig .tc .vmem S8448x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256x1 .f32) (harg7 : arg7.IsWhole) (arg8 : Memref sig .tc .vmem S256x256 .f32) (harg8 : arg8.IsWhole) (arg9 : Memref sig .tc .vmem S8448x256 .f32) (harg9 : arg9.IsWhole) (arg10 : Memref sig .tc .vmem S8448x128 .f32) (harg10 : arg10.IsWhole) (hc0 : ¬cond0_0 (grid0.coords t)) (hc1 : ¬cond0_1 (grid0.coords t)) (x0 : Vec Ideal S256x256 .bf16) (x1 : Vec Ideal S8448x256 .bf16) (x2 : Vec Ideal S8448x128 .bf16) (x3 x4 : Vec Ideal S256x128 .f32) (x5 : Vec Ideal S1x256x1 .f32) (x7 : Vec Ideal S8448x256 .f32) (x8 : Vec Ideal S8448x128 .f32)
    (Q K V G O : ℕ → ℕ → ℝ) (L : ℕ → ℝ) (hq : IsN x0 Q) (hk : IsN x1 K) (hv : IsN x2 V) (ho : IsN x3 O) (hg : IsN x4 G)
    (hx : ∀ i : Fin 256, x5 (ix3 0 i 0) = ((L i.val : ℝ) : EReal)) (H9 H10 : ℕ → ℕ → ℝ) (h7 : IsN x7 H9) (h8 : IsN x8 H10) :
    (∀ {κ : Kind} {sp : Space} (v : View sig κ sp S256x256 .f32) (f : BufTy.Contents (Elt Ideal) v.ty), IsN (v.read (Elt Ideal) (v.writes (Elt Ideal) f (kernelRun0_B (F := Ideal) c (grid0.coords t) arg2 harg2 arg3 harg3 arg4 harg4 arg5 harg5 arg6 harg6 arg7 harg7 arg8 harg8 arg9 harg9 arg10 harg10 hc0 hc1 x0 x1 x2 x3 x4 x5 x7 x8).1))
        (fun i d => (∑ j : Fin 8448, if t.val % 33 ≠ 32 ∨ 8192 ≤ j.val then addQ Q K V G L (fun i => dotn 128 G O i i) i d j.val else 0) * cs))
      ∧ IsN (arg9.view.read (Elt Ideal) (arg9.view.writes (Elt Ideal) (harg9.unread x7) (kernelRun0_B (F := Ideal) c (grid0.coords t) arg2 harg2 arg3 harg3 arg4 harg4 arg5 harg5 arg6 harg6 arg7 harg7 arg8 harg8 arg9 harg9 arg10 harg10 hc0 hc1 x0 x1 x2 x3 x4 x5 x7 x8).2.1)) (fun r d => H9 r d + if t.val % 33 ≠ 32 ∨ 8192 ≤ r then addK Q K V G L (fun i => dotn 128 G O i i) r d else 0)
      ∧ IsN (arg10.view.read (Elt Ideal) (arg10.view.writes (Elt Ideal) (harg10.unread x8) (kernelRun0_B (F := Ideal) c (grid0.coords t) arg2 harg2 arg3 harg3 arg4 harg4 arg5 harg5 arg6 harg6 arg7 harg7 arg8 harg8 arg9 harg9 arg10 harg10 hc0 hc1 x0 x1 x2 x3 x4 x5 x7 x8).2.2.1)) (fun r d => H10 r d + if t.val % 33 ≠ 32 ∨ 8192 ≤ r then addV Q K G L r d else 0) := by
  unfold kernelRun0_B
  dsimp only
  sl_unfold_words
  simp only [View.readAt_eq_ld, harg2.read_unread, harg3.read_unread, harg4.read_unread, harg5.read_unread, harg6.read_unread, harg7.read_unread, harg9.read_unread, harg10.read_unread]
  have hq0 := ld_bf16 (a := 256) (b := 256) x0 Q hq ![0, 0] inb_S256x256_S256x256_0_0
  have hg0 := ld_f32 (a := 256) (b := 128) x4 G hg ![0, 0] inb_S256x128_S256x128_0_0
  have ho0 := ld_f32 (a := 256) (b := 128) x3 O ho ![0, 0] inb_S256x128_S256x128_0_0
  have hx0 := fun i => x5_at x5 L hx i inb_S1x256x1_S1x256x1_0_0_0
  have hkc := ld_bf16 (a := 256) (b := 256) x1 K hk ![8192, 0] inb_S8448x256_S256x256_8192_0
  have hvc := ld_bf16 (a := 256) (b := 128) x2 V hv ![8192, 0] inb_S8448x128_S256x128_8192_0
  have hkn := ld_bf16 (a := 2048) (b := 256) x1 K hk k0_off1 k0_off1_inb
  have hvn := ld_bf16 (a := 2048) (b := 128) x2 V hv k0_off2 k0_off2_inb
  have z1 : sh K (k0_off1 0) (k0_off1 1) = K := by rw [k0_off1_eq]; exact sh_zero K
  have z2 : sh V (k0_off2 0) (k0_off2 1) = V := by rw [k0_off2_eq]; exact sh_zero V
  rw [z1] at hkn
  rw [z2] at hvn
  have b9 : IsN (arg9.view.read (Elt Ideal) (harg9.unread x7)) H9 := by rw [harg9.read_unread]; exact h7
  have b10 : IsN (arg10.view.read (Elt Ideal) (harg10.unread x8)) H10 := by rw [harg10.read_unread]; exact h8
  have l9 := ld_f32 (a := 256) (b := 256) x7 H9 h7 ![8192, 0] inb_S8448x256_S256x256_8192_0
  have l10 := ld_f32 (a := 256) (b := 128) x8 H10 h8 ![8192, 0] inb_S8448x128_S256x128_8192_0
  simp only [Matrix.cons_val_zero, Matrix.cons_val_one, sh_zero] at hq0 hg0 ho0 hkc hvc l9 l10
  have y9 := fun j d => (l9 j d).trans (congrArg (fun z : ℝ => (z : EReal)) (show sh H9 8192 0 j.val d.val = H9 (8192 + j.val) d.val by simp only [sh, Nat.zero_add]))
  have y10 := fun j d => (l10 j d).trans (congrArg (fun z : ℝ => (z : EReal)) (show sh H10 8192 0 j.val d.val = H10 (8192 + j.val) d.val by simp only [sh, Nat.zero_add]))
  have w9 : IsN (arg9.view.read (Elt Ideal) (arg9.view.writes (Elt Ideal) _ [_])) _ :=
    ctx_at arg9.view _ H9 (addK Q K V G L (fun i => dotn 128 G O i i)) inb_S8448x256_S256x256_8192_0 _ b9 fun j d =>
      ((dk_27 _ _ _ _ _ hq0 (dsc_24 _ _ _ _ _ _ _ _ _ _ _ _ hq0 hx0 hkc hg0 ho0 hvc) j d).trans (congrArg₂ (· + ·) (y9 j d) (congrArg (fun z : ℝ => (z : EReal)) (mixK_n Q K V G L (fun i => dotn 128 G O i i) 8192 j d)))).trans
        (EReal.coe_add _ _).symm
  have w10 : IsN (arg10.view.read (Elt Ideal) (arg10.view.writes (Elt Ideal) _ [_])) _ :=
    ctx_at arg10.view _ H10 (addV Q K G L) inb_S8448x128_S256x128_8192_0 _ b10 fun j d =>
      ((dv_26 _ _ _ _ _ (id_19 _ _ hg0) (prob_23 _ _ _ _ _ _ hq0 hx0 hkc) j d).trans (congrArg₂ (· + ·) (y10 j d) (congrArg (fun z : ℝ => (z : EReal)) (mixV_n Q K G L 8192 j d)))).trans
        (EReal.coe_add _ _).symm
  refine ⟨fun {κ sp} v f => ?_, ?_, ?_⟩
  all_goals generalize hs : st_k0_t1 (F := Ideal) Variants.none c none (grid0.coords t) arg2 harg2 arg3 harg3 arg4 harg4 arg5 harg5 arg6 harg6 arg7 harg7 arg8 harg8 arg9 harg9 arg10 harg10 _ _ _ _ _ _ _ _ (harg3.unread x1) (harg4.unread x2) _ _ _ _ = s
  all_goals generalize ht : st_k0_t2 (F := Ideal) Variants.none c none (grid0.coords t) arg2 harg2 arg3 harg3 arg4 harg4 arg5 harg5 arg6 harg6 arg7 harg7 arg8 harg8 arg9 harg9 arg10 harg10 _ _ _ _ _ _ _ _ _ _ _ _ _ _ _ = s'
  all_goals obtain rfl := ht.symm.trans (rest_none Variants.none c none t arg2 harg2 arg3 harg3 arg4 harg4 arg5 harg5 arg6 harg6 arg7 harg7 arg8 harg8 arg9 harg9 arg10 harg10 _ _ _ _ _ _ _ _ _ _ _ _ _ _ _ rfl)
  all_goals have E := ends_at Variants.none c none t arg2 harg2 arg3 harg3 arg4 harg4 arg5 harg5 arg6 harg6 arg7 harg7 arg8 harg8 arg9 harg9 arg10 harg10 _ _ _ _ _ _ _ _ x1 x2 _ _ Q K V G L (fun i => dotn 128 G O i i) _ _ hq0 (id_19 _ _ hg0) (lse_20 _ _ hx0) (delta_21 _ _ _ _ hg0 ho0) hk hv w9 w10 _
                (first_at _ _ _ _ _ _ _ _ _ _ Q K V G O L hq0 hg0 ho0 hx0 hkc hvc hkn hvn) _ rfl s hs.symm
  · exact whole_at v f inb_S256x256_S256x256_0_0 _ _ _ (fun i d => (final_1 _ _ E.a i d))
  · simp only [List.nil_append, View.writes_append]
    exact E.k
  · simp only [List.nil_append, View.writes_append]
    exact E.v

end Cert.BwdIdeal.Value

end

end
-- ==== Proof.BOutC.lean ====
/-
  What the backward kernel's body leaves at a point of a head, the last of a head.
-/
module

public import proofs.«01_k».proof.Proof.BEnd
public import proofs.«01_k».proof.Proof.BRun

@[expose] public section

set_option maxRecDepth 16384

noncomputable section

namespace Cert.BwdIdeal.Value

open Idealize.ShloMosaic Idealize.ShloMosaic.TcCoe Idealize.SL.Sem
open Cert.BwdIdeal Cert.BwdIdeal.Gen
open Mla

set_option maxHeartbeats 4000000 in
theorem outC (c : Dev nD) (t : Fin grid0.N) (arg2 : Memref sig .tc .vmem S256x256 .bf16) (harg2 : arg2.IsWhole) (arg3 : Memref sig .tc .vmem S8448x256 .bf16) (harg3 : arg3.IsWhole) (arg4 : Memref sig .tc .vmem S8448x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256x1 .f32) (harg7 : arg7.IsWhole) (arg8 : Memref sig .tc .vmem S256x256 .f32) (harg8 : arg8.IsWhole) (arg9 : Memref sig .tc .vmem S8448x256 .f32) (harg9 : arg9.IsWhole) (arg10 : Memref sig .tc .vmem S8448x128 .f32) (harg10 : arg10.IsWhole) (hc0 : ¬cond0_0 (grid0.coords t)) (hc1 : cond0_1 (grid0.coords t)) (x0 : Vec Ideal S256x256 .bf16) (x1 : Vec Ideal S8448x256 .bf16) (x2 : Vec Ideal S8448x128 .bf16) (x3 x4 : Vec Ideal S256x128 .f32) (x5 : Vec Ideal S1x256x1 .f32) (x7 : Vec Ideal S8448x256 .f32) (x8 : Vec Ideal S8448x128 .f32)
    (Q K V G O : ℕ → ℕ → ℝ) (L : ℕ → ℝ) (hq : IsN x0 Q) (hk : IsN x1 K) (hv : IsN x2 V) (ho : IsN x3 O) (hg : IsN x4 G)
    (hx : ∀ i : Fin 256, x5 (ix3 0 i 0) = ((L i.val : ℝ) : EReal)) (H9 H10 : ℕ → ℕ → ℝ) (h7 : IsN x7 H9) (h8 : IsN x8 H10) :
    (∀ {κ : Kind} {sp : Space} (v : View sig κ sp S256x256 .f32) (f : BufTy.Contents (Elt Ideal) v.ty), IsN (v.read (Elt Ideal) (v.writes (Elt Ideal) f (kernelRun0_C (F := Ideal) c (grid0.coords t) arg2 harg2 arg3 harg3 arg4 harg4 arg5 harg5 arg6 harg6 arg7 harg7 arg8 harg8 arg9 harg9 arg10 harg10 hc0 hc1 x0 x1 x2 x3 x4 x5 x7 x8).1))
        (fun i d => (∑ j : Fin 8448, if t.val % 33 ≠ 32 ∨ 8192 ≤ j.val then addQ Q K V G L (fun i => dotn 128 G O i i) i d j.val else 0) * cs))
      ∧ (∀ {κ : Kind} {sp : Space} (v : View sig κ sp S8448x256 .f32) (f : BufTy.Contents (Elt Ideal) v.ty), IsN (v.read (Elt Ideal) (v.writes (Elt Ideal) f (kernelRun0_C (F := Ideal) c (grid0.coords t) arg2 harg2 arg3 harg3 arg4 harg4 arg5 harg5 arg6 harg6 arg7 harg7 arg8 harg8 arg9 harg9 arg10 harg10 hc0 hc1 x0 x1 x2 x3 x4 x5 x7 x8).2.1)) (fun r d => (H9 r d + if t.val % 33 ≠ 32 ∨ 8192 ≤ r then addK Q K V G L (fun i => dotn 128 G O i i) r d else 0) * cs))
      ∧ IsN (arg10.view.read (Elt Ideal) (arg10.view.writes (Elt Ideal) (harg10.unread x8) (kernelRun0_C (F := Ideal) c (grid0.coords t) arg2 harg2 arg3 harg3 arg4 harg4 arg5 harg5 arg6 harg6 arg7 harg7 arg8 harg8 arg9 harg9 arg10 harg10 hc0 hc1 x0 x1 x2 x3 x4 x5 x7 x8).2.2.1)) (fun r d => H10 r d + if t.val % 33 ≠ 32 ∨ 8192 ≤ r then addV Q K G L r d else 0) := by
  unfold kernelRun0_C
  dsimp only
  sl_unfold_words
  simp only [View.readAt_eq_ld, harg2.read_unread, harg3.read_unread, harg4.read_unread, harg5.read_unread, harg6.read_unread, harg7.read_unread, harg9.read_unread, harg10.read_unread]
  have hq0 := ld_bf16 (a := 256) (b := 256) x0 Q hq ![0, 0] inb_S256x256_S256x256_0_0
  have hg0 := ld_f32 (a := 256) (b := 128) x4 G hg ![0, 0] inb_S256x128_S256x128_0_0
  have ho0 := ld_f32 (a := 256) (b := 128) x3 O ho ![0, 0] inb_S256x128_S256x128_0_0
  have hx0 := fun i => x5_at x5 L hx i inb_S1x256x1_S1x256x1_0_0_0
  have hkc := ld_bf16 (a := 256) (b := 256) x1 K hk ![8192, 0] inb_S8448x256_S256x256_8192_0
  have hvc := ld_bf16 (a := 256) (b := 128) x2 V hv ![8192, 0] inb_S8448x128_S256x128_8192_0
  have hkn := ld_bf16 (a := 2048) (b := 256) x1 K hk k0_off1 k0_off1_inb
  have hvn := ld_bf16 (a := 2048) (b := 128) x2 V hv k0_off2 k0_off2_inb
  have z1 : sh K (k0_off1 0) (k0_off1 1) = K := by rw [k0_off1_eq]; exact sh_zero K
  have z2 : sh V (k0_off2 0) (k0_off2 1) = V := by rw [k0_off2_eq]; exact sh_zero V
  rw [z1] at hkn
  rw [z2] at hvn
  have b9 : IsN (arg9.view.read (Elt Ideal) (harg9.unread x7)) H9 := by rw [harg9.read_unread]; exact h7
  have b10 : IsN (arg10.view.read (Elt Ideal) (harg10.unread x8)) H10 := by rw [harg10.read_unread]; exact h8
  have l9 := ld_f32 (a := 256) (b := 256) x7 H9 h7 ![8192, 0] inb_S8448x256_S256x256_8192_0
  have l10 := ld_f32 (a := 256) (b := 128) x8 H10 h8 ![8192, 0] inb_S8448x128_S256x128_8192_0
  simp only [Matrix.cons_val_zero, Matrix.cons_val_one, sh_zero] at hq0 hg0 ho0 hkc hvc l9 l10
  have y9 := fun j d => (l9 j d).trans (congrArg (fun z : ℝ => (z : EReal)) (show sh H9 8192 0 j.val d.val = H9 (8192 + j.val) d.val by simp only [sh, Nat.zero_add]))
  have y10 := fun j d => (l10 j d).trans (congrArg (fun z : ℝ => (z : EReal)) (show sh H10 8192 0 j.val d.val = H10 (8192 + j.val) d.val by simp only [sh, Nat.zero_add]))
  have w9 : IsN (arg9.view.read (Elt Ideal) (arg9.view.writes (Elt Ideal) _ [_])) _ :=
    ctx_at arg9.view _ H9 (addK Q K V G L (fun i => dotn 128 G O i i)) inb_S8448x256_S256x256_8192_0 _ b9 fun j d =>
      ((dk_27 _ _ _ _ _ hq0 (dsc_24 _ _ _ _ _ _ _ _ _ _ _ _ hq0 hx0 hkc hg0 ho0 hvc) j d).trans (congrArg₂ (· + ·) (y9 j d) (congrArg (fun z : ℝ => (z : EReal)) (mixK_n Q K V G L (fun i => dotn 128 G O i i) 8192 j d)))).trans
        (EReal.coe_add _ _).symm
  have w10 : IsN (arg10.view.read (Elt Ideal) (arg10.view.writes (Elt Ideal) _ [_])) _ :=
    ctx_at arg10.view _ H10 (addV Q K G L) inb_S8448x128_S256x128_8192_0 _ b10 fun j d =>
      ((dv_26 _ _ _ _ _ (id_19 _ _ hg0) (prob_23 _ _ _ _ _ _ hq0 hx0 hkc) j d).trans (congrArg₂ (· + ·) (y10 j d) (congrArg (fun z : ℝ => (z : EReal)) (mixV_n Q K G L 8192 j d)))).trans
        (EReal.coe_add _ _).symm
  refine ⟨fun {κ sp} v f => ?_, fun {κ sp} v f => ?_, ?_⟩
  all_goals generalize hs : st_k0_t1 (F := Ideal) Variants.none c none (grid0.coords t) arg2 harg2 arg3 harg3 arg4 harg4 arg5 harg5 arg6 harg6 arg7 harg7 arg8 harg8 arg9 harg9 arg10 harg10 _ _ _ _ _ _ _ _ (harg3.unread x1) (harg4.unread x2) _ _ _ _ = s
  all_goals generalize ht : st_k0_t2 (F := Ideal) Variants.none c none (grid0.coords t) arg2 harg2 arg3 harg3 arg4 harg4 arg5 harg5 arg6 harg6 arg7 harg7 arg8 harg8 arg9 harg9 arg10 harg10 _ _ _ _ _ _ _ _ _ _ _ _ _ _ _ = s'
  all_goals obtain rfl := ht.symm.trans (rest_none Variants.none c none t arg2 harg2 arg3 harg3 arg4 harg4 arg5 harg5 arg6 harg6 arg7 harg7 arg8 harg8 arg9 harg9 arg10 harg10 _ _ _ _ _ _ _ _ _ _ _ _ _ _ _ rfl)
  all_goals have E := ends_at Variants.none c none t arg2 harg2 arg3 harg3 arg4 harg4 arg5 harg5 arg6 harg6 arg7 harg7 arg8 harg8 arg9 harg9 arg10 harg10 _ _ _ _ _ _ _ _ x1 x2 _ _ Q K V G L (fun i => dotn 128 G O i i) _ _ hq0 (id_19 _ _ hg0) (lse_20 _ _ hx0) (delta_21 _ _ _ _ hg0 ho0) hk hv w9 w10 _
                (first_at _ _ _ _ _ _ _ _ _ _ Q K V G O L hq0 hg0 ho0 hx0 hkc hvc hkn hvn) _ rfl s hs.symm
  · exact whole_at v f inb_S256x256_S256x256_0_0 _ _ _ (fun i d => (final_1 _ _ E.a i d))
  · refine whole_at v f _ _ _ _ ?_
    refine final_2 _ (fun (i : Fin 8448) (j : Fin 256) => H9 i.val j.val + if t.val % 33 ≠ 32 ∨ 8192 ≤ i.val then addK Q K V G L (fun i => dotn 128 G O i i) i.val j.val else 0) ?_
    refine fun r d => (ld_f32 (a := 8448) (b := 256) _ (fun r d => H9 r d + if t.val % 33 ≠ 32 ∨ 8192 ≤ r then addK Q K V G L (fun i => dotn 128 G O i i) r d else 0) ?_ ![0, 0] inb_S8448x256_S8448x256_0_0 r d).trans ?_
    · simp only [List.nil_append, View.writes_append]
      exact E.k
    · exact congrArg (fun z : ℝ => (z : EReal)) (congrFun (congrFun (sh_zero _) r.val) d.val)
  · simp only [List.nil_append, View.writes_append]
    exact E.v

end Cert.BwdIdeal.Value

end

end
-- ==== Proof.BFinal.lean ====
/-
  What the backward call's arrays hold at the end: the gradients of queries, keys and values.
-/
module

public import proofs.«01_k».proof.Proof.BSums
public import proofs.«01_k».proof.Proof.BHost
public import proofs.«01_k».proof.Proof.BOutA
public import proofs.«01_k».proof.Proof.BOutB
public import proofs.«01_k».proof.Proof.BOutC
public import Idealize.ShloMosaic.Lib.Pipeline.ValueKit

@[expose] public section

set_option maxRecDepth 16384

noncomputable section

namespace Cert.BwdIdeal.Value

open Idealize.ShloMosaic Idealize.ShloMosaic.TcCoe Idealize.SL.Sem
open Cert.BwdIdeal Cert.BwdIdeal.Gen Cert.BwdIdeal.Own
open Mla

variable (m : (ℓ : Loc nD τ sig) → Buf (Elt Ideal) ℓ)

theorem idx : ∀ t : Fin cfg0.N, win0_0.index t = ![t.val % 33, t.val / 33] ∧ win0_1.index t = ![0, t.val / 33] ∧ win0_2.index t = ![0, t.val / 33]
    ∧ win0_3.index t = ![t.val % 33, t.val / 33] ∧ win0_4.index t = ![t.val % 33, t.val / 33] ∧ win0_5.index t = ![t.val / 33, t.val % 33, 0]
    ∧ win0_6.index t = ![t.val % 33, t.val / 33] ∧ win0_7.index t = ![0, t.val / 33] ∧ win0_8.index t = ![0, t.val / 33] ∧ t.val / 33 < 8 :=
  (by decide +kernel : ∀ t : Fin grid0.N, _)

theorem head_lt (t : Fin cfg0.N) : t.val / 33 < 8 := (idx t).2.2.2.2.2.2.2.2.2

theorem lt_N (h r : ℕ) (hh : h < 8) (hr : r < 33) : 33 * h + r < cfg0.N := by
  rw [show cfg0.N = 264 from N_0]
  omega

theorem q_at (c : Dev nD) (t : Fin cfg0.N) (Q : ℕ → ℕ → ℝ) (hq : IsN (a := 8448) (b := 2048) (m ((c : Thread nD τ).loc main_arg0)) Q) :
    IsN (a := 256) (b := 256) (iblk m c 0 t) (sh Q (256 * (t.val % 33)) (256 * (t.val / 33))) := by
  intro i j
  have hp := head_lt t
  have e : iblk m c 0 t (ix2 i j) = V m c main_arg0 (ix2 (⟨256 * (t.val % 33) + i.val, by omega⟩ : Fin 8448) (⟨256 * (t.val / 33) + j.val, by omega⟩ : Fin 2048)) := by
    blk_ext [iblk, idx t]
  rw [V_main_arg0] at e
  exact e.trans (hq _ _)

theorem k_at (c : Dev nD) (t : Fin cfg0.N) (K : ℕ → ℕ → ℝ) (hk : IsN (a := 8448) (b := 2048) (m ((c : Thread nD τ).loc main_arg1)) K) :
    IsN (a := 8448) (b := 256) (iblk m c 1 t) (sh K 0 (256 * (t.val / 33))) := by
  intro i j
  have hp := head_lt t
  have e : iblk m c 1 t (ix2 i j) = V m c main_arg1 (ix2 (⟨0 + i.val, by omega⟩ : Fin 8448) (⟨256 * (t.val / 33) + j.val, by omega⟩ : Fin 2048)) := by
    blk_ext [iblk, idx t]
  rw [V_main_arg1] at e
  exact e.trans (hk _ _)

theorem v_at (c : Dev nD) (t : Fin cfg0.N) (V' : ℕ → ℕ → ℝ) (hv : IsN (a := 8448) (b := 1024) (m ((c : Thread nD τ).loc main_arg2)) V') :
    IsN (a := 8448) (b := 128) (iblk m c 2 t) (sh V' 0 (128 * (t.val / 33))) := by
  intro i j
  have hp := head_lt t
  have e : iblk m c 2 t (ix2 i j) = V m c main_arg2 (ix2 (⟨0 + i.val, by omega⟩ : Fin 8448) (⟨128 * (t.val / 33) + j.val, by omega⟩ : Fin 1024)) := by
    blk_ext [iblk, idx t]
  rw [V_main_arg2] at e
  exact e.trans (hv _ _)

theorem g_at (c : Dev nD) (t : Fin cfg0.N) (G : ℕ → ℕ → ℝ) (hg : IsN (a := 8448) (b := 1024) (m ((c : Thread nD τ).loc main_arg3)) G) :
    IsN (a := 256) (b := 128) (iblk m c 4 t) (sh G (256 * (t.val % 33)) (128 * (t.val / 33))) := by
  intro i j
  have hp := head_lt t
  have e : iblk m c 4 t (ix2 i j) = V m c main_arg3 (ix2 (⟨256 * (t.val % 33) + i.val, by omega⟩ : Fin 8448) (⟨128 * (t.val / 33) + j.val, by omega⟩ : Fin 1024)) := by
    blk_ext [iblk, idx t]
  rw [V_main_arg3] at e
  exact e.trans (hg _ _)

variable (c : Dev nD) (Q K V' G : ℕ → ℕ → ℝ) (hq : IsN (a := 8448) (b := 2048) (m ((c : Thread nD τ).loc main_arg0)) Q)
  (hk : IsN (a := 8448) (b := 2048) (m ((c : Thread nD τ).loc main_arg1)) K) (hv : IsN (a := 8448) (b := 1024) (m ((c : Thread nD τ).loc main_arg2)) V')
  (hg : IsN (a := 8448) (b := 1024) (m ((c : Thread nD τ).loc main_arg3)) G)

include hq hk hv in
theorem o_at (t : Fin cfg0.N) : IsN (a := 256) (b := 128) (iblk m c 3 t) (sh (outR Q K V') (256 * (t.val % 33)) (128 * (t.val / 33))) := by
  intro i j
  have hp := head_lt t
  have e : iblk m c 3 t (ix2 i j) = V m c main_v53 (ix2 (⟨256 * (t.val % 33) + i.val, by omega⟩ : Fin 8448) (⟨128 * (t.val / 33) + j.val, by omega⟩ : Fin 1024)) := by
    blk_ext [iblk, idx t]
  rw [host_out] at e
  exact e.trans (attnOut_at _ _ _ Q K V' hq hk hv _ _)

include hq hk in
theorem l_at (t : Fin cfg0.N) (i : Fin 256) : iblk m c 5 t (ix3 (0 : Fin 1) i (0 : Fin 1)) = ((lseR Q K (t.val / 33) (256 * (t.val % 33) + i.val) : ℝ) : EReal) := by
  have hp := head_lt t
  have e : iblk m c 5 t (ix3 (0 : Fin 1) i (0 : Fin 1)) = V m c main_v97 (ix3 (⟨t.val / 33, by omega⟩ : Fin 8) (⟨256 * (t.val % 33) + i.val, by omega⟩ : Fin 8448) (0 : Fin 1)) := by
    blk_ext [iblk, idx t]
  rw [host_lse] at e
  exact e.trans (attnLse_at _ _ Q K hq hk _ _ _)

include hq hk hv hg

set_option maxHeartbeats 2000000 in
attribute [local irreducible] kernelRun0_A kernelRun0_B kernelRun0_C in
theorem pointA (t : Fin cfg0.N) (h0 : t.val % 33 = 0) (h1 : ¬t.val % 33 = 32) :
    IsN (leftA6 m c t h0 h1) (fun i d => dqR Q K V' G (256 * (t.val % 33) + i) (256 * (t.val / 33) + d))
      ∧ IsN (leftA7 m c t h0 h1) (fun j d => accK Q K V' G (t.val / 33) ((t.val % 33) + 1) j d) ∧ IsN (leftA8 m c t h0 h1) (accV Q K G (t.val / 33) ((t.val % 33) + 1)) := by
  have o := outA c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk m c 0 t) (iblk m c 1 t) (iblk m c 2 t) (iblk m c 3 t) (iblk m c 4 t) (iblk m c 5 t) _ _ _ _ _ (fun i => lseR Q K (t.val / 33) (256 * (t.val % 33) + i))
    (q_at m c t Q hq) (k_at m c t K hk) (v_at m c t V' hv) (o_at m c Q K V' hq hk hv t) (g_at m c t G hg) (l_at m c Q K hq hk t)
  have hr : t.val % 33 < 33 := Nat.mod_lt _ (by norm_num)
  refine ⟨?_, ?_, ?_⟩
  · exact fun i d => (o.1 VO0_6 VO0_6.junk i d).trans (congrArg (fun z : ℝ => (z : EReal)) (dq_tile Q K V' G (t.val / 33) (t.val % 33) i.val d.val i.isLt hr d.isLt))
  · intro j d
    refine (congrFun (View.read_writes_of_cover _ _ _ _ _ (coverA7 m c t h0 h1)) (ix2 j d)).trans ((o.2.1 j d).trans (congrArg (fun z : ℝ => (z : EReal)) ?_))
    have e := accK_succ Q K V' G (t.val / 33) (t.val % 33) j.val d.val hr
    rw [show accK Q K V' G (t.val / 33) (t.val % 33) j.val d.val = 0 by rw [h0]; rfl, zero_add] at e
    exact e
  · intro j d
    refine (congrFun (View.read_writes_of_cover _ _ _ _ _ (coverA8 m c t h0 h1)) (ix2 j d)).trans ((o.2.2 j d).trans (congrArg (fun z : ℝ => (z : EReal)) ?_))
    have e := accV_succ Q K G (t.val / 33) (t.val % 33) j.val d.val hr
    rw [show accV Q K G (t.val / 33) (t.val % 33) j.val d.val = 0 by rw [h0]; rfl, zero_add] at e
    exact e

set_option maxHeartbeats 2000000 in
attribute [local irreducible] kernelRun0_A kernelRun0_B kernelRun0_C in
theorem pointB (t : Fin cfg0.N) (h0 : ¬t.val % 33 = 0) (h1 : ¬t.val % 33 = 32) (x7 : Vec Ideal S8448x256 .f32) (x8 : Vec Ideal S8448x128 .f32) (h7 : IsN x7 (accK Q K V' G (t.val / 33) (t.val % 33))) (h8 : IsN x8 (accV Q K G (t.val / 33) (t.val % 33))) :
    IsN (leftB6 m c t h0 h1 x7 x8) (fun i d => dqR Q K V' G (256 * (t.val % 33) + i) (256 * (t.val / 33) + d))
      ∧ IsN (leftB7 m c t h0 h1 x7 x8) (fun j d => accK Q K V' G (t.val / 33) ((t.val % 33) + 1) j d) ∧ IsN (leftB8 m c t h0 h1 x7 x8) (accV Q K G (t.val / 33) ((t.val % 33) + 1)) := by
  have o := outB c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk m c 0 t) (iblk m c 1 t) (iblk m c 2 t) (iblk m c 3 t) (iblk m c 4 t) (iblk m c 5 t) x7 x8 _ _ _ _ _ (fun i => lseR Q K (t.val / 33) (256 * (t.val % 33) + i))
    (q_at m c t Q hq) (k_at m c t K hk) (v_at m c t V' hv) (o_at m c Q K V' hq hk hv t) (g_at m c t G hg) (l_at m c Q K hq hk t) (accK Q K V' G (t.val / 33) (t.val % 33)) (accV Q K G (t.val / 33) (t.val % 33)) h7 h8
  have hr : t.val % 33 < 33 := Nat.mod_lt _ (by norm_num)
  refine ⟨?_, ?_, ?_⟩
  · exact fun i d => (o.1 VO0_6 VO0_6.junk i d).trans (congrArg (fun z : ℝ => (z : EReal)) (dq_tile Q K V' G (t.val / 33) (t.val % 33) i.val d.val i.isLt hr d.isLt))
  · exact fun j d => (o.2.1 j d).trans (congrArg (fun z : ℝ => (z : EReal)) (accK_succ Q K V' G (t.val / 33) (t.val % 33) j.val d.val hr))
  · exact fun j d => (o.2.2 j d).trans (congrArg (fun z : ℝ => (z : EReal)) (accV_succ Q K G (t.val / 33) (t.val % 33) j.val d.val hr))

set_option maxHeartbeats 2000000 in
attribute [local irreducible] kernelRun0_A kernelRun0_B kernelRun0_C in
theorem pointC (t : Fin cfg0.N) (h0 : ¬t.val % 33 = 0) (h1 : t.val % 33 = 32) (x7 : Vec Ideal S8448x256 .f32) (x8 : Vec Ideal S8448x128 .f32) (h7 : IsN x7 (accK Q K V' G (t.val / 33) (t.val % 33))) (h8 : IsN x8 (accV Q K G (t.val / 33) (t.val % 33))) :
    IsN (leftC6 m c t h0 h1 x7 x8) (fun i d => dqR Q K V' G (256 * (t.val % 33) + i) (256 * (t.val / 33) + d))
      ∧ IsN (leftC7 m c t h0 h1 x7 x8) (fun j d => accK Q K V' G (t.val / 33) ((t.val % 33) + 1) j d * cs) ∧ IsN (leftC8 m c t h0 h1 x7 x8) (accV Q K G (t.val / 33) ((t.val % 33) + 1)) := by
  have o := outC c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk m c 0 t) (iblk m c 1 t) (iblk m c 2 t) (iblk m c 3 t) (iblk m c 4 t) (iblk m c 5 t) x7 x8 _ _ _ _ _ (fun i => lseR Q K (t.val / 33) (256 * (t.val % 33) + i))
    (q_at m c t Q hq) (k_at m c t K hk) (v_at m c t V' hv) (o_at m c Q K V' hq hk hv t) (g_at m c t G hg) (l_at m c Q K hq hk t) (accK Q K V' G (t.val / 33) (t.val % 33)) (accV Q K G (t.val / 33) (t.val % 33)) h7 h8
  have hr : t.val % 33 < 33 := Nat.mod_lt _ (by norm_num)
  refine ⟨?_, ?_, ?_⟩
  · exact fun i d => (o.1 VO0_6 VO0_6.junk i d).trans (congrArg (fun z : ℝ => (z : EReal)) (dq_tile Q K V' G (t.val / 33) (t.val % 33) i.val d.val i.isLt hr d.isLt))
  · exact fun j d => (o.2.1 VO0_7 VO0_7.junk j d).trans (congrArg (fun z : ℝ => (z : EReal)) (congrArg (· * cs) (accK_succ Q K V' G (t.val / 33) (t.val % 33) j.val d.val hr)))
  · exact fun j d => (o.2.2 j d).trans (congrArg (fun z : ℝ => (z : EReal)) (accV_succ Q K G (t.val / 33) (t.val % 33) j.val d.val hr))

/-- What the first block of a head's queries leaves, -/
theorem after_first (t : Fin cfg0.N) (h0 : t.val % 33 = 0) (h1 : ¬t.val % 33 = 32) :
    IsN (held m c (t.val + 1)).1 (accK Q K V' G (t.val / 33) (t.val % 33 + 1)) ∧ IsN (held m c (t.val + 1)).2 (accV Q K G (t.val / 33) (t.val % 33 + 1)) := by
  rw [held_succ, stepA m c t h0 h1]
  dsimp only
  exact (pointA m c Q K V' G hq hk hv hg t h0 h1).2

/-- and what a further one does. -/
theorem after_next (t : Fin cfg0.N) (h0 : ¬t.val % 33 = 0) (h1 : ¬t.val % 33 = 32)
    (b : IsN (held m c t.val).1 (accK Q K V' G (t.val / 33) (t.val % 33)) ∧ IsN (held m c t.val).2 (accV Q K G (t.val / 33) (t.val % 33))) :
    IsN (held m c (t.val + 1)).1 (accK Q K V' G (t.val / 33) (t.val % 33 + 1)) ∧ IsN (held m c (t.val + 1)).2 (accV Q K G (t.val / 33) (t.val % 33 + 1)) := by
  rw [held_succ, stepB m c t h0 h1]
  dsimp only
  exact (pointB m c Q K V' G hq hk hv hg t h0 h1 _ _ b.1 b.2).2

/-- What is carried within a head. -/
theorem held_at (h : ℕ) (hh : h < 8) (r : ℕ) (hr : r < 32) :
    ∀ t : ℕ, t = 33 * h + r → IsN (held m c (t + 1)).1 (accK Q K V' G h (r + 1)) ∧ IsN (held m c (t + 1)).2 (accV Q K G h (r + 1)) := by
  induction r with
  | zero =>
    intro t ht
    have lt : t < cfg0.N := by rw [ht]; exact lt_N h 0 hh (by norm_num)
    have e0 : t % 33 = 0 := by omega
    have e1 : ¬t % 33 = 32 := by omega
    have e2 : t / 33 = h := by omega
    have p := after_first m c Q K V' G hq hk hv hg ⟨t, lt⟩ e0 e1
    have q : IsN (held m c (t + 1)).1 (accK Q K V' G (t / 33) (t % 33 + 1)) ∧ IsN (held m c (t + 1)).2 (accV Q K G (t / 33) (t % 33 + 1)) := p
    rw [e0, e2] at q
    exact q
  | succ r ih =>
    intro t ht
    have lt : t < cfg0.N := by rw [ht]; exact lt_N h (r + 1) hh (by omega)
    have e0 : ¬t % 33 = 0 := by omega
    have e1 : ¬t % 33 = 32 := by omega
    have e2 : t / 33 = h := by omega
    have e3 : t % 33 = r + 1 := by omega
    have i := ih (by omega) (33 * h + r) rfl
    have e4 : 33 * h + r + 1 = t := by omega
    rw [e4, ← e3, ← e2] at i
    have q : IsN (held m c (t + 1)).1 (accK Q K V' G (t / 33) (t % 33 + 1)) ∧ IsN (held m c (t + 1)).2 (accV Q K G (t / 33) (t % 33 + 1)) :=
      after_next m c Q K V' G hq hk hv hg ⟨t, lt⟩ e0 e1 i
    rw [e3, e2] at q
    exact q

theorem held_before (t : Fin cfg0.N) (h0 : ¬t.val % 33 = 0) :
    IsN (held m c t.val).1 (accK Q K V' G (t.val / 33) (t.val % 33)) ∧ IsN (held m c t.val).2 (accV Q K G (t.val / 33) (t.val % 33)) := by
  have p := held_at m c Q K V' G hq hk hv hg (t.val / 33) (head_lt t) (t.val % 33 - 1) (by omega) (t.val - 1) (by omega)
  have e : t.val - 1 + 1 = t.val := by omega
  have e' : t.val % 33 - 1 + 1 = t.val % 33 := by omega
  rw [e, e'] at p
  exact p

theorem step_q (t : Fin cfg0.N) : IsN (step m c t (held m c t.val)).1 (fun i d => dqR Q K V' G (256 * (t.val % 33) + i) (256 * (t.val / 33) + d)) := by
  by_cases h0 : t.val % 33 = 0
  · have h1 : ¬t.val % 33 = 32 := by omega
    rw [stepA m c t h0 h1]
    dsimp only
    exact (pointA m c Q K V' G hq hk hv hg t h0 h1).1
  · have b := held_before m c Q K V' G hq hk hv hg t h0
    by_cases h1 : t.val % 33 = 32
    · rw [stepC m c t h0 h1]
      dsimp only
      exact (pointC m c Q K V' G hq hk hv hg t h0 h1 _ _ b.1 b.2).1
    · rw [stepB m c t h0 h1]
      dsimp only
      exact (pointB m c Q K V' G hq hk hv hg t h0 h1 _ _ b.1 b.2).1

theorem step_last (t : Fin cfg0.N) (h0 : ¬t.val % 33 = 0) (h1 : t.val % 33 = 32) :
    IsN (step m c t (held m c t.val)).2.1 (fun j d => accK Q K V' G (t.val / 33) (t.val % 33 + 1) j d * cs) ∧ IsN (step m c t (held m c t.val)).2.2 (accV Q K G (t.val / 33) (t.val % 33 + 1)) := by
  have b := held_before m c Q K V' G hq hk hv hg t h0
  rw [stepC m c t h0 h1]
  dsimp only
  exact (pointC m c Q K V' G hq hk hv hg t h0 h1 _ _ b.1 b.2).2

theorem step_kv (t : Fin cfg0.N) (h1 : t.val % 33 = 32) :
    IsN (step m c t (held m c t.val)).2.1 (fun j d => accK Q K V' G (t.val / 33) 33 j d * cs) ∧ IsN (step m c t (held m c t.val)).2.2 (accV Q K G (t.val / 33) 33) := by
  have h0 : ¬t.val % 33 = 0 := by omega
  have p := step_last m c Q K V' G hq hk hv hg t h0 h1
  have e : t.val % 33 + 1 = 33 := by omega
  rw [e] at p
  exact p

set_option maxHeartbeats 1000000 in
attribute [local irreducible] kernelRun0_A kernelRun0_B kernelRun0_C step held in
/-- All the queries' gradients, -/
theorem finalQ : (run m 0 c).arrAt 6 cfg0.N = fun y : S8448x2048.Idx => ((dqR Q K V' G (y 0).val (y 1).val : ℝ) : EReal) := by
  refine (run m 0 c).arrAt_eq_of_covers 6 _ (by decide +kernel) fun t _ y => ?_
  blk_simp [idx t]
  rw [after_6]
  idx_vars y
  refine (step_q m c Q K V' G hq hk hv hg t _ _).trans ?_
  rw [Nat.mul_comm 256 (t.val % 33), Nat.mul_comm 256 (t.val / 33)]

set_option maxHeartbeats 1000000 in
attribute [local irreducible] kernelRun0_A kernelRun0_B kernelRun0_C step held in
/-- the keys' -/
theorem finalK : (run m 0 c).arrAt 7 cfg0.N = fun y : S8448x2048.Idx => ((dkR Q K V' G (y 0).val (y 1).val : ℝ) : EReal) := by
  refine (run m 0 c).arrAt_eq_of_covers 7 _ (by decide +kernel) fun t ht y => ?_
  have h1 := (flush0_7 t).mp ht
  blk_simp [idx t]
  rw [after_7]
  idx_vars y
  refine ((step_kv m c Q K V' G hq hk hv hg t h1).1 _ _).trans ?_
  rw [Nat.mul_comm (t.val / 33) 256]
  exact congrArg (fun z : ℝ => (z : EReal)) (dk_all Q K V' G (t.val / 33) _ _ (Fin.isLt _))

set_option maxHeartbeats 1000000 in
attribute [local irreducible] kernelRun0_A kernelRun0_B kernelRun0_C step held in
/-- and the values'. -/
theorem finalV : (run m 0 c).arrAt 8 cfg0.N = fun y : S8448x1024.Idx => ((dvR Q K G (y 0).val (y 1).val : ℝ) : EReal) := by
  refine (run m 0 c).arrAt_eq_of_covers 8 _ (by decide +kernel) fun t ht y => ?_
  have h1 := (flush0_8 t).mp ht
  blk_simp [idx t]
  rw [after_8]
  idx_vars y
  refine ((step_kv m c Q K V' G hq hk hv hg t h1).2 _ _).trans ?_
  rw [Nat.mul_comm (t.val / 33) 128]
  exact congrArg (fun z : ℝ => (z : EReal)) (dv_all Q K G (t.val / 33) _ _ (Fin.isLt _))

end Cert.BwdIdeal.Value

end

end
-- ==== Proof.BReal.lean ====
/-
  The real identities behind the reference's gradients.
-/
module

public import proofs.«01_k».proof.Proof.BSums

@[expose] public section

set_option maxRecDepth 16384

noncomputable section

namespace Mla

open Idealize.ShloMosaic Idealize.ShloMosaic.TcCoe

/-- A row's mean of the products with `V`, exchanged: the products with the mean. -/
theorem mean_swap {n : ℕ} (G V : ℕ → ℕ → ℝ) (X : Fin n → ℕ) (P : Fin n → ℝ) (i : ℕ) (O : ℕ → ℝ) (hO : ∀ d < 128, ∑ x, V (X x) d * P x = O d) :
    ∑ x, dotn 128 G V i (X x) * P x = ∑ d : Fin 128, G i d.val * O d.val := by
  simp only [dotn, Finset.sum_mul]
  rw [Finset.sum_comm]
  refine Finset.sum_congr rfl fun d _ => ?_
  rw [← hO d.val d.isLt, Finset.mul_sum]
  exact Finset.sum_congr rfl fun x _ => mul_assoc _ _ _

/-- The gradient of a row of scores, through the quotient and the scale. -/
theorem ds_real {n : ℕ} (d e : Fin (n + 1) → EReal) (D S : Fin (n + 1) → ℝ) (M : ℝ) (hd : ∀ x, d x = (D x : EReal))
    (he : ∀ x, e x = ((Real.exp (-M) * Real.exp (S x) : ℝ) : EReal)) (j : Fin (n + 1)) :
    Ideal.div ((Ideal.div (d j) (∑ x, e x) + ∑ _x : Fin 1, -∑ x, d x * Ideal.div 1 ((∑ x, e x) * ∑ x, e x) * e x) * e j) (Ideal.sqrt (Ideal.ofBits FTy.f32 0x43400000#32))
      = ((cs * (Real.exp (S j) / (∑ x, Real.exp (S x)) * (D j - ∑ x, D x * (Real.exp (S x) / ∑ x, Real.exp (S x)))) : ℝ) : EReal) := by
  have hT : 0 < ∑ x, Real.exp (S x) := Finset.sum_pos (fun x _ => Real.exp_pos _) Finset.univ_nonempty
  have hm := Real.exp_pos (-M)
  have hz : ∑ x, e x = ((Real.exp (-M) * ∑ x, Real.exp (S x) : ℝ) : EReal) := by
    rw [sum_coe he, Finset.mul_sum]
  generalize ∑ x, Real.exp (S x) = T at hT hz ⊢
  generalize Real.exp (-M) = w at hm hz he
  have hZ : w * T ≠ 0 := (mul_pos hm hT).ne'
  have hs : ∑ x, d x * Ideal.div 1 ((∑ x, e x) * ∑ x, e x) * e x = ((∑ x, D x * (1 / (w * T * (w * T))) * (w * Real.exp (S x)) : ℝ) : EReal) := by
    rw [coe_sum]
    refine Finset.sum_congr rfl fun x _ => ?_
    rw [hz, ← EReal.coe_mul, ← EReal.coe_one, ideal_div _ _ (mul_ne_zero hZ hZ), hd, he, ← EReal.coe_mul, ← EReal.coe_mul]
  rw [hs, hz, hd, he, ideal_div _ _ hZ, Finset.univ_unique, Finset.sum_singleton, ← EReal.coe_neg, ← EReal.coe_add, ← EReal.coe_mul, div_scale]
  refine congrArg (fun z : ℝ => ((cs * z : ℝ) : EReal)) ?_
  have e1 : ∑ x, D x * (1 / (w * T * (w * T))) * (w * Real.exp (S x)) = 1 / (w * T) * ∑ x, D x * (Real.exp (S x) / T) := by
    rw [Finset.mul_sum]
    refine Finset.sum_congr rfl fun x _ => ?_
    field_simp
  rw [e1]
  generalize ∑ x, D x * (Real.exp (S x) / T) = B
  field_simp
  ring

variable (Q K V G : ℕ → ℕ → ℝ) (h : ℕ)

theorem weight_z (i j : ℕ) : prN (sh Q 0 (256 * h)) (sh K 0 (256 * h)) (lseR Q K h) i j
    = wt (dotn 256 (sh Q 0 (256 * h)) (sh K 0 (256 * h)) i j) / zAt (i < 8192) (sh Q 0 (256 * h)) (sh K 0 (256 * h)) i := by
  unfold prN lseR
  rw [← neg_mul, e2_mul_inv_log, Real.exp_neg, Real.exp_log (zAt_pos _ _ _ _), div_eq_inv_mul]

/-- The weights of a row that sees all keys, -/
theorem pr_all (i j : ℕ) (hi : i < 8192) : Real.exp (cs * dotn 256 (sh Q 0 (256 * h)) (sh K 0 (256 * h)) i j)
      / ∑ x : Fin 8448, Real.exp (cs * dotn 256 (sh Q 0 (256 * h)) (sh K 0 (256 * h)) i x.val) = prN (sh Q 0 (256 * h)) (sh K 0 (256 * h)) (lseR Q K h) i j := by
  rw [weight_z, zAt_all _ hi]
  rfl

/-- and of one that sees the context's. -/
theorem pr_ctx (i j : ℕ) (hi : ¬ i < 8192) : Real.exp (cs * dotn 256 (sh Q 0 (256 * h)) (sh K 0 (256 * h)) i (8192 + j))
      / ∑ x : Fin 256, Real.exp (cs * dotn 256 (sh Q 0 (256 * h)) (sh K 0 (256 * h)) i (8192 + x.val)) = prN (sh Q 0 (256 * h)) (sh K 0 (256 * h)) (lseR Q K h) i (8192 + j) := by
  rw [weight_z, zAt_ctx _ hi]
  rfl

theorem out_head (i d : ℕ) (hd : d < 128) : sh (outR Q K V) 0 (128 * h) i d
    = totAt (i < 8192) (sh Q 0 (256 * h)) (sh K 0 (256 * h)) (sh V 0 (128 * h)) i d / zAt (i < 8192) (sh Q 0 (256 * h)) (sh K 0 (256 * h)) i := by
  have e1 : (128 * h + d) / 128 = h := by omega
  have e2 : (128 * h + d) % 128 = d := by omega
  unfold sh outR
  rw [Nat.zero_add, e1, e2]

theorem meanR_all (i : ℕ) (hi : i < 8192) : ∑ x : Fin 8448, dotn 128 (sh G 0 (128 * h)) (sh V 0 (128 * h)) i x.val
      * (Real.exp (cs * dotn 256 (sh Q 0 (256 * h)) (sh K 0 (256 * h)) i x.val) / ∑ x : Fin 8448, Real.exp (cs * dotn 256 (sh Q 0 (256 * h)) (sh K 0 (256 * h)) i x.val)) = meanR Q K V G h i :=
  mean_swap _ _ (fun x : Fin 8448 => x.val) _ i (sh (outR Q K V) 0 (128 * h) i) fun d hd => by
    rw [out_head Q K V h i d hd]
    exact mean_all _ hi _ _ _ i d hd

theorem meanR_ctx (i : ℕ) (hi : ¬ i < 8192) : ∑ x : Fin 256, dotn 128 (sh G 0 (128 * h)) (sh V 0 (128 * h)) i (8192 + x.val)
      * (Real.exp (cs * dotn 256 (sh Q 0 (256 * h)) (sh K 0 (256 * h)) i (8192 + x.val)) / ∑ x : Fin 256, Real.exp (cs * dotn 256 (sh Q 0 (256 * h)) (sh K 0 (256 * h)) i (8192 + x.val))) = meanR Q K V G h i :=
  mean_swap _ _ (fun x : Fin 256 => 8192 + x.val) _ i (sh (outR Q K V) 0 (128 * h) i) fun d hd => by
    rw [out_head Q K V h i d hd]
    exact mean_ctx _ hi _ _ _ i d hd

/-- The gradient of a head's scores. -/
def dsR (i j : ℕ) : ℝ := dsN (sh Q 0 (256 * h)) (sh K 0 (256 * h)) (sh V 0 (128 * h)) (sh G 0 (128 * h)) (lseR Q K h) (meanR Q K V G h) i j
/-- A head's weights. -/
def prR (i j : ℕ) : ℝ := prN (sh Q 0 (256 * h)) (sh K 0 (256 * h)) (lseR Q K h) i j

theorem sum_rows (f : ℕ → ℝ) : ∑ i : Fin 8448, f i.val = ∑ i : Fin 256, f (8192 + i.val) + ∑ i : Fin 8192, f i.val := by
  rw [sum_keys f 8192 1 (by norm_num), Finset.sum_range_one]
  simp only [Nat.mul_zero, Nat.zero_add]

variable (d : ℕ)

theorem dq_main (i : ℕ) (hi : i < 8192) : ∑ x : Fin 8448, (cs * dsR Q K V G (d / 256) i x.val) * sh K 0 (256 * (d / 256)) x.val (d % 256) = dqR Q K V G i d := by
  unfold dqR
  rw [Finset.sum_mul]
  refine Finset.sum_congr rfl fun x _ => ?_
  have : i < 8192 ∨ 8192 ≤ x.val := Or.inl hi
  rw [if_pos this]
  unfold uQ addQ dsR
  ring

theorem dq_ctx (i : ℕ) (hi : ¬ i < 8192) : ∑ x : Fin 256, (cs * dsR Q K V G (d / 256) i (8192 + x.val)) * sh K 0 (256 * (d / 256)) (8192 + x.val) (d % 256) = dqR Q K V G i d := by
  unfold dqR
  rw [sum_ctx (fun j => if i < 8192 ∨ 8192 ≤ j then uQ Q K V G (d / 256) i (d % 256) j else 0) fun j hj => ?_, Finset.sum_mul]
  · refine Finset.sum_congr rfl fun x _ => ?_
    have : i < 8192 ∨ 8192 ≤ 8192 + x.val := Or.inr (Nat.le_add_right _ _)
    rw [if_pos this]
    unfold uQ addQ dsR
    ring
  · have : ¬ (i < 8192 ∨ 8192 ≤ j) := by omega
    rw [if_neg this]

theorem dk_main (j : ℕ) (hj : ¬ 8192 ≤ j) : ∑ x : Fin 8192, (cs * dsR Q K V G (d / 256) x.val j) * sh Q 0 (256 * (d / 256)) x.val (d % 256) = dkR Q K V G j d := by
  have z : ∑ x : Fin 256, (if 8192 + x.val < 8192 ∨ 8192 ≤ j then uK Q K V G (d / 256) (8192 + x.val) j (d % 256) else 0) = 0 := by
    refine Finset.sum_eq_zero fun x _ => ?_
    have : ¬ (8192 + x.val < 8192 ∨ 8192 ≤ j) := by omega
    rw [if_neg this]
  unfold dkR
  rw [sum_rows fun i => if i < 8192 ∨ 8192 ≤ j then uK Q K V G (d / 256) i j (d % 256) else 0, z, zero_add, Finset.sum_mul]
  refine Finset.sum_congr rfl fun x _ => ?_
  have : x.val < 8192 ∨ 8192 ≤ j := Or.inl x.isLt
  rw [if_pos this]
  unfold uK dsR
  ring

theorem dk_ctx (j : ℕ) (hj : 8192 ≤ j) : ∑ x : Fin 256, (cs * dsR Q K V G (d / 256) (8192 + x.val) j) * sh Q 0 (256 * (d / 256)) (8192 + x.val) (d % 256)
      + ∑ x : Fin 8192, (cs * dsR Q K V G (d / 256) x.val j) * sh Q 0 (256 * (d / 256)) x.val (d % 256) = dkR Q K V G j d := by
  unfold dkR
  rw [sum_rows fun i => if i < 8192 ∨ 8192 ≤ j then uK Q K V G (d / 256) i j (d % 256) else 0, add_mul, Finset.sum_mul, Finset.sum_mul]
  have t : ∀ i : ℕ, i < 8192 ∨ 8192 ≤ j := fun i => Or.inr hj
  refine congrArg₂ (· + ·) (Finset.sum_congr rfl fun x _ => ?_) (Finset.sum_congr rfl fun x _ => ?_)
  · rw [if_pos (t _)]
    unfold uK dsR
    ring
  · rw [if_pos (t _)]
    unfold uK dsR
    ring

theorem dv_main (j : ℕ) (hj : ¬ 8192 ≤ j) : ∑ x : Fin 8192, sh G 0 (128 * (d / 128)) x.val (d % 128) * prR Q K (d / 128) x.val j = dvR Q K G j d := by
  have z : ∑ x : Fin 256, (if 8192 + x.val < 8192 ∨ 8192 ≤ j then uV Q K G (d / 128) (8192 + x.val) j (d % 128) else 0) = 0 := by
    refine Finset.sum_eq_zero fun x _ => ?_
    have : ¬ (8192 + x.val < 8192 ∨ 8192 ≤ j) := by omega
    rw [if_neg this]
  unfold dvR
  rw [sum_rows fun i => if i < 8192 ∨ 8192 ≤ j then uV Q K G (d / 128) i j (d % 128) else 0, z, zero_add]
  refine Finset.sum_congr rfl fun x _ => ?_
  have : x.val < 8192 ∨ 8192 ≤ j := Or.inl x.isLt
  rw [if_pos this]
  unfold uV prR
  ring

theorem dv_ctx (j : ℕ) (hj : 8192 ≤ j) : ∑ x : Fin 256, sh G 0 (128 * (d / 128)) (8192 + x.val) (d % 128) * prR Q K (d / 128) (8192 + x.val) j
      + ∑ x : Fin 8192, sh G 0 (128 * (d / 128)) x.val (d % 128) * prR Q K (d / 128) x.val j = dvR Q K G j d := by
  unfold dvR
  rw [sum_rows fun i => if i < 8192 ∨ 8192 ≤ j then uV Q K G (d / 128) i j (d % 128) else 0]
  have t : ∀ i : ℕ, i < 8192 ∨ 8192 ≤ j := fun i => Or.inr hj
  refine congrArg₂ (· + ·) (Finset.sum_congr rfl fun x _ => ?_) (Finset.sum_congr rfl fun x _ => ?_)
  · rw [if_pos (t _)]
    unfold uV prR
    ring
  · rw [if_pos (t _)]
    unfold uV prR
    ring

end Mla

end

end
-- ==== Proof.BRef.lean ====
/-
  The reference of the backward call, read at the reals.
-/
module

public import proofs.«01_k».proof.Proof.BReal
public import proofs.«01_k».proof.Proof.Gen.BwdRefIdeal.Run

@[expose] public section

set_option maxRecDepth 16384

noncomputable section

namespace Mla

open Idealize.ShloMosaic

theorem pad_low {α : Type} {a a' b c lo : ℕ} (hi : Fin 3 → ℕ) (x : (⟨3, ![a, b, c]⟩ : Shape).Idx → α) {u : Shape} (v : u.Idx → α) (hp : (⟨3, ![a, b, c]⟩ : Shape).Pads ![lo, 0, 0] hi ![0, 0, 0] ⟨3, ![a', b, c]⟩) (hu : 0 < u.numel)
    (j : Fin a') (h : Fin b) (d : Fin c) (hj : lo ≤ j.val) (hl : j.val - lo < a) : pad (⟨3, ![a', b, c]⟩ : Shape) ![lo, 0, 0] hi ![0, 0, 0] x v hp hu (ix3 j h d) = x (ix3 ⟨j.val - lo, hl⟩ h d) := by
  unfold pad
  rw [dif_pos]
  · congr 1
    funext q
    fin_cases q
    · exact Fin.ext (Nat.div_one _)
    · exact Fin.ext (Nat.div_one _)
    · exact Fin.ext (Nat.div_one _)
  · intro q
    fin_cases q
    · exact ⟨hj, Nat.mod_one _, (Nat.div_one _).trans_lt hl⟩
    · exact ⟨Nat.zero_le _, Nat.mod_one _, (Nat.div_one _).trans_lt h.isLt⟩
    · exact ⟨Nat.zero_le _, Nat.mod_one _, (Nat.div_one _).trans_lt d.isLt⟩

theorem pad_low_out {α : Type} {a a' b c lo : ℕ} (hi : Fin 3 → ℕ) (x : (⟨3, ![a, b, c]⟩ : Shape).Idx → α) {u : Shape} (v : u.Idx → α) (hp : (⟨3, ![a, b, c]⟩ : Shape).Pads ![lo, 0, 0] hi ![0, 0, 0] ⟨3, ![a', b, c]⟩) (hu : 0 < u.numel)
    (j : Fin a') (h : Fin b) (d : Fin c) (hj : ¬ (lo ≤ j.val ∧ j.val - lo < a)) : pad (⟨3, ![a', b, c]⟩ : Shape) ![lo, 0, 0] hi ![0, 0, 0] x v hp hu (ix3 j h d) = v (Shape.Idx.first hu) := by
  unfold pad
  rw [dif_neg]
  intro H
  exact hj ⟨(H 0).1, (Nat.div_one _).symm.trans_lt (H 0).2.2⟩

end Mla
namespace Cert.BwdRefIdeal.Value

open Idealize.ShloMosaic Idealize.ShloMosaic.TcCoe Idealize.SL.Sem
open Cert.BwdRefIdeal Cert.BwdRefIdeal.Gen
open Mla

/-- The rows by head. -/
def heads (x : FVec Ideal S8448x2048 .bf16) : FVec Ideal S8448x8x256 .f32 :=
  shapeCast _ (extf .f32 x bitsLt_bf16_f32) shapeCasts_S8448x2048_S8448x8x256
def vheads (x : FVec Ideal S8448x1024 .bf16) : FVec Ideal S8448x8x128 .f32 :=
  shapeCast _ (extf .f32 x bitsLt_bf16_f32) shapeCasts_S8448x1024_S8448x8x128
def gheads (x : FVec Ideal S8448x1024 .f32) : FVec Ideal S8448x8x128 .f32 :=
  shapeCast _ x shapeCasts_S8448x1024_S8448x8x128

/-- The scaled scores, -/
def scoreM (q k : FVec Ideal S8448x8x256 .f32) : FVec Ideal S8x8192x8448 .f32 :=
  Host.divf (extf .f32 (truncf .bf16 (Host.dotGeneral dot_S8192x8x256_S8448x8x256_S8x8192x8448_2_2_0_0_1_1 none (extractStridedSlice S8192x8x256 ![0, 0, 0] q slices_S8448x8x256_S8192x8x256_0_0_0) k) bitsLt_bf16_f32) bitsLt_bf16_f32) (broadcastInDim S8x8192x8448 ![] bcast_S_S8x8192x8448 (Host.sqrt (constant S_ .f32 0x43400000#32)))
/-- their rows' largest, -/
def topM (s : FVec Ideal S8x8192x8448 .f32) : FVec Ideal S8x8192 .f32 := Host.reduce FloatOps.maximumf s (constant S_ .f32 0xFF800000#32) reducesTo_S8x8192x8448_S8x8192_d2 h_S_
def capM (a : FVec Ideal S8x8192 .f32) : FVec Ideal S8x8192 .f32 := maximumf (broadcastInDim S8x8192 ![] bcast_S_S8x8192 (constant S_ .f32 0xFF800000#32)) a
/-- the exponentials, -/
def expM (s : FVec Ideal S8x8192x8448 .f32) (a : FVec Ideal S8x8192 .f32) : FVec Ideal S8x8192x8448 .f32 :=
  Host.exp (subf s (broadcastInDim S8x8192x8448 ![0, 1, 2] bcast_S8x8192x1_S8x8192x8448_0_1_2 (broadcastInDim S8x8192x1 ![0, 1] bcast_S8x8192_S8x8192x1_0_1 a)))
/-- their sums -/
def normM (e : FVec Ideal S8x8192x8448 .f32) : FVec Ideal S8x8192x1 .f32 :=
  broadcastInDim S8x8192x1 ![0, 1] bcast_S8x8192_S8x8192x1_0_1 (Host.reduceAdd e (constant S_ .f32 0x00000000#32) reducesTo_S8x8192x8448_S8x8192_d2 h_S_)
/-- and the weights; -/
def probM (e : FVec Ideal S8x8192x8448 .f32) (z : FVec Ideal S8x8192x1 .f32) : FVec Ideal S8x8192x8448 .f32 :=
  extf .f32 (truncf .bf16 (Host.divf e (broadcastInDim S8x8192x8448 ![0, 1, 2] bcast_S8x8192x1_S8x8192x8448_0_1_2 z)) bitsLt_bf16_f32) bitsLt_bf16_f32
/-- the cotangents' rows, -/
def cotM (g : FVec Ideal S8448x8x128 .f32) : FVec Ideal S8x128x8192 .f32 :=
  transpose S8x128x8192 [1, 2, 0] (extractStridedSlice S8192x8x128 ![0, 0, 0] g slices_S8448x8x128_S8192x8x128_0_0_0) transposes_S8192x8x128_S8x128x8192_1_2_0
/-- the weights' gradients -/
def dpM (g : FVec Ideal S8x128x8192 .f32) (v : FVec Ideal S8448x8x128 .f32) : FVec Ideal S8x8192x8448 .f32 :=
  extf .f32 (truncf .bf16 (Host.dotGeneral dot_S8x128x8192_S8448x8x128_S8x8192x8448_1_2_2_0_0_1 none g v) bitsLt_bf16_f32) bitsLt_bf16_f32
/-- and the scores'. -/
def dsM (d e : FVec Ideal S8x8192x8448 .f32) (z : FVec Ideal S8x8192x1 .f32) : FVec Ideal S8x8192x8448 .f32 :=
  extf .f32 (truncf .bf16 (Host.divf (mulf (addf (Host.divf d (broadcastInDim S8x8192x8448 ![0, 1, 2] bcast_S8x8192x1_S8x8192x8448_0_1_2 z)) (broadcastInDim S8x8192x8448 ![0, 1] bcast_S8x8192_S8x8192x8448_0_1 (Host.reduceAdd (Host.negf (shapeCast _ (Host.reduceAdd (mulf (mulf d (broadcastInDim S8x8192x8448 ![0, 1, 2] bcast_S8x8192x1_S8x8192x8448_0_1_2 (Host.divf (broadcastInDim S8x8192x1 ![] bcast_S_S8x8192x1 (constant S_ .f32 0x3F800000#32)) (mulf z z)))) e) (constant S_ .f32 0x00000000#32) reducesTo_S8x8192x8448_S8x8192_d2 h_S_) shapeCasts_S8x8192_S8x8192x1)) (constant S_ .f32 0x00000000#32) reducesTo_S8x8192x1_S8x8192_d2 h_S_))) e) (broadcastInDim S8x8192x8448 ![] bcast_S_S8x8192x8448 (Host.sqrt (constant S_ .f32 0x43400000#32)))) bitsLt_bf16_f32) bitsLt_bf16_f32

/-- The scaled scores, -/
def scoreC (q k : FVec Ideal S8448x8x256 .f32) : FVec Ideal S8x256x256 .f32 :=
  Host.divf (extf .f32 (truncf .bf16 (Host.dotGeneral dot_S256x8x256_S256x8x256_S8x256x256_2_2_0_0_1_1 none (extractStridedSlice S256x8x256 ![8192, 0, 0] q slices_S8448x8x256_S256x8x256_8192_0_0) (extractStridedSlice S256x8x256 ![8192, 0, 0] k slices_S8448x8x256_S256x8x256_8192_0_0)) bitsLt_bf16_f32) bitsLt_bf16_f32) (broadcastInDim S8x256x256 ![] bcast_S_S8x256x256 (Host.sqrt (constant S_ .f32 0x43400000#32)))
/-- their rows' largest, -/
def topC (s : FVec Ideal S8x256x256 .f32) : FVec Ideal S8x256 .f32 := Host.reduce FloatOps.maximumf s (constant S_ .f32 0xFF800000#32) reducesTo_S8x256x256_S8x256_d2 h_S_
def capC (a : FVec Ideal S8x256 .f32) : FVec Ideal S8x256 .f32 := maximumf (broadcastInDim S8x256 ![] bcast_S_S8x256 (constant S_ .f32 0xFF800000#32)) a
/-- the exponentials, -/
def expC (s : FVec Ideal S8x256x256 .f32) (a : FVec Ideal S8x256 .f32) : FVec Ideal S8x256x256 .f32 :=
  Host.exp (subf s (broadcastInDim S8x256x256 ![0, 1, 2] bcast_S8x256x1_S8x256x256_0_1_2 (broadcastInDim S8x256x1 ![0, 1] bcast_S8x256_S8x256x1_0_1 a)))
/-- their sums -/
def normC (e : FVec Ideal S8x256x256 .f32) : FVec Ideal S8x256x1 .f32 :=
  broadcastInDim S8x256x1 ![0, 1] bcast_S8x256_S8x256x1_0_1 (Host.reduceAdd e (constant S_ .f32 0x00000000#32) reducesTo_S8x256x256_S8x256_d2 h_S_)
/-- and the weights; -/
def probC (e : FVec Ideal S8x256x256 .f32) (z : FVec Ideal S8x256x1 .f32) : FVec Ideal S8x256x256 .f32 :=
  extf .f32 (truncf .bf16 (Host.divf e (broadcastInDim S8x256x256 ![0, 1, 2] bcast_S8x256x1_S8x256x256_0_1_2 z)) bitsLt_bf16_f32) bitsLt_bf16_f32
/-- the cotangents' rows, -/
def cotC (g : FVec Ideal S8448x8x128 .f32) : FVec Ideal S8x128x256 .f32 :=
  transpose S8x128x256 [1, 2, 0] (extractStridedSlice S256x8x128 ![8192, 0, 0] g slices_S8448x8x128_S256x8x128_8192_0_0) transposes_S256x8x128_S8x128x256_1_2_0
/-- the weights' gradients -/
def dpC (g : FVec Ideal S8x128x256 .f32) (v : FVec Ideal S8448x8x128 .f32) : FVec Ideal S8x256x256 .f32 :=
  extf .f32 (truncf .bf16 (Host.dotGeneral dot_S8x128x256_S256x8x128_S8x256x256_1_2_2_0_0_1 none g (extractStridedSlice S256x8x128 ![8192, 0, 0] v slices_S8448x8x128_S256x8x128_8192_0_0)) bitsLt_bf16_f32) bitsLt_bf16_f32
/-- and the scores'. -/
def dsC (d e : FVec Ideal S8x256x256 .f32) (z : FVec Ideal S8x256x1 .f32) : FVec Ideal S8x256x256 .f32 :=
  extf .f32 (truncf .bf16 (Host.divf (mulf (addf (Host.divf d (broadcastInDim S8x256x256 ![0, 1, 2] bcast_S8x256x1_S8x256x256_0_1_2 z)) (broadcastInDim S8x256x256 ![0, 1] bcast_S8x256_S8x256x256_0_1 (Host.reduceAdd (Host.negf (shapeCast _ (Host.reduceAdd (mulf (mulf d (broadcastInDim S8x256x256 ![0, 1, 2] bcast_S8x256x1_S8x256x256_0_1_2 (Host.divf (broadcastInDim S8x256x1 ![] bcast_S_S8x256x1 (constant S_ .f32 0x3F800000#32)) (mulf z z)))) e) (constant S_ .f32 0x00000000#32) reducesTo_S8x256x256_S8x256_d2 h_S_) shapeCasts_S8x256_S8x256x1)) (constant S_ .f32 0x00000000#32) reducesTo_S8x256x1_S8x256_d2 h_S_))) e) (broadcastInDim S8x256x256 ![] bcast_S_S8x256x256 (Host.sqrt (constant S_ .f32 0x43400000#32)))) bitsLt_bf16_f32) bitsLt_bf16_f32

/-- A block of rows below zeros, -/
def lowQ (x : FVec Ideal S256x8x256 .f32) : FVec Ideal S8448x8x256 .f32 :=
  pad S8448x8x256 ![8192, 0, 0] ![0, 0, 0] ![0, 0, 0] x (constant S_ .f32 0x00000000#32) pads_S256x8x256_S8448x8x256_819200_000_000 h_S_
def lowV (x : FVec Ideal S256x8x128 .f32) : FVec Ideal S8448x8x128 .f32 :=
  pad S8448x8x128 ![8192, 0, 0] ![0, 0, 0] ![0, 0, 0] x (constant S_ .f32 0x00000000#32) pads_S256x8x128_S8448x8x128_819200_000_000 h_S_
/-- and one above them. -/
def highQ (x : FVec Ideal S8192x8x256 .f32) : FVec Ideal S8448x8x256 .f32 :=
  pad S8448x8x256 ![0, 0, 0] ![256, 0, 0] ![0, 0, 0] x (constant S_ .f32 0x00000000#32) pads_S8192x8x256_S8448x8x256_02560_000_000 h_S_

/-- The parts of the queries' gradients, -/
def dqC (k : FVec Ideal S8448x8x256 .f32) (s' : FVec Ideal S8x256x256 .f32) : FVec Ideal S256x8x256 .f32 :=
  transpose S256x8x256 [1, 0, 2] (Host.dotGeneral dot_S8x256x256_S256x8x256_S8x256x256_2_0_1_2_0_1 none s' (extractStridedSlice S256x8x256 ![8192, 0, 0] k slices_S8448x8x256_S256x8x256_8192_0_0)) transposes_S8x256x256_S256x8x256_1_0_2
def dqM (k : FVec Ideal S8448x8x256 .f32) (s : FVec Ideal S8x8192x8448 .f32) : FVec Ideal S8192x8x256 .f32 :=
  transpose S8192x8x256 [1, 0, 2] (Host.dotGeneral dot_S8x8192x8448_S8448x8x256_S8x8192x256_2_0_1_2_0_1 none s k) transposes_S8x8192x256_S8192x8x256_1_0_2
/-- the keys' -/
def dkC (q : FVec Ideal S8448x8x256 .f32) (s' : FVec Ideal S8x256x256 .f32) : FVec Ideal S256x8x256 .f32 :=
  transpose S256x8x256 [1, 0, 2] (Host.dotGeneral dot_S8x256x256_S256x8x256_S8x256x256_1_0_2_2_0_1 none s' (extractStridedSlice S256x8x256 ![8192, 0, 0] q slices_S8448x8x256_S256x8x256_8192_0_0)) transposes_S8x256x256_S256x8x256_1_0_2
def dkM (q : FVec Ideal S8448x8x256 .f32) (s : FVec Ideal S8x8192x8448 .f32) : FVec Ideal S8448x8x256 .f32 :=
  transpose S8448x8x256 [1, 0, 2] (Host.dotGeneral dot_S8x8192x8448_S8192x8x256_S8x8448x256_1_0_2_2_0_1 none s (extractStridedSlice S8192x8x256 ![0, 0, 0] q slices_S8448x8x256_S8192x8x256_0_0_0)) transposes_S8x8448x256_S8448x8x256_1_0_2
/-- and the values'. -/
def dvC (g' : FVec Ideal S8x128x256 .f32) (p' : FVec Ideal S8x256x256 .f32) : FVec Ideal S256x8x128 .f32 :=
  transpose S256x8x128 [2, 0, 1] (Host.dotGeneral dot_S8x128x256_S8x256x256_S8x128x256_2_1_1_2_0_0 none g' p') transposes_S8x128x256_S256x8x128_2_0_1
def dvM (g : FVec Ideal S8x128x8192 .f32) (p : FVec Ideal S8x8192x8448 .f32) : FVec Ideal S8448x8x128 .f32 :=
  transpose S8448x8x128 [2, 0, 1] (Host.dotGeneral dot_S8x128x8192_S8x8192x8448_S8x128x8448_2_1_1_2_0_0 none g p) transposes_S8x128x8448_S8448x8x128_2_0_1

/-- The gradients of the queries, -/
def dqAll (k : FVec Ideal S8448x8x256 .f32) (s : FVec Ideal S8x8192x8448 .f32) (s' : FVec Ideal S8x256x256 .f32) : FVec Ideal S8448x2048 .f32 :=
  shapeCast _ (addf (lowQ (dqC k s')) (highQ (dqM k s))) shapeCasts_S8448x8x256_S8448x2048
/-- keys -/
def dkAll (q : FVec Ideal S8448x8x256 .f32) (s : FVec Ideal S8x8192x8448 .f32) (s' : FVec Ideal S8x256x256 .f32) : FVec Ideal S8448x2048 .f32 :=
  shapeCast _ (addf (lowQ (dkC q s')) (dkM q s)) shapeCasts_S8448x8x256_S8448x2048
/-- and values. -/
def dvAll (g : FVec Ideal S8x128x8192 .f32) (g' : FVec Ideal S8x128x256 .f32) (p : FVec Ideal S8x8192x8448 .f32) (p' : FVec Ideal S8x256x256 .f32) : FVec Ideal S8448x1024 .f32 :=
  shapeCast _ (addf (lowV (dvC g' p')) (dvM g p)) shapeCasts_S8448x8x128_S8448x1024

theorem heads_at (x : FVec Ideal S8448x2048 .bf16) (X : ℕ → ℕ → ℝ) (hx : IsN x X) (r : Fin 8448) (h : Fin 8) (d : Fin 256) :
    heads x (ix3 r h d) = ((sh X 0 (256 * h.val) r.val d.val : ℝ) : EReal) := by
  pointwise [heads]
  rw [hx]
  simp only [sh, Nat.zero_add, Nat.mul_comm]

theorem vheads_at (x : FVec Ideal S8448x1024 .bf16) (X : ℕ → ℕ → ℝ) (hx : IsN x X) (r : Fin 8448) (h : Fin 8) (d : Fin 128) :
    vheads x (ix3 r h d) = ((sh X 0 (128 * h.val) r.val d.val : ℝ) : EReal) := by
  pointwise [vheads]
  rw [hx]
  simp only [sh, Nat.zero_add, Nat.mul_comm]

theorem gheads_at (x : FVec Ideal S8448x1024 .f32) (X : ℕ → ℕ → ℝ) (hx : IsN x X) (r : Fin 8448) (h : Fin 8) (d : Fin 128) :
    gheads x (ix3 r h d) = ((sh X 0 (128 * h.val) r.val d.val : ℝ) : EReal) := by
  pointwise [gheads]
  rw [hx]
  simp only [sh, Nat.zero_add, Nat.mul_comm]

theorem zero_at (i : S_.Idx) : constant (F := Ideal) S_ .f32 0x00000000#32 i = (0 : EReal) := by
  pointwise

theorem lowQ_in (x : FVec Ideal S256x8x256 .f32) (j : Fin 8448) (h : Fin 8) (d : Fin 256) (hj : 8192 ≤ j.val) : lowQ x (ix3 j h d) = x (ix3 (⟨j.val - 8192, by omega⟩ : Fin 256) h d) :=
  pad_low _ x _ _ _ j h d hj (by omega)
theorem lowQ_out (x : FVec Ideal S256x8x256 .f32) (j : Fin 8448) (h : Fin 8) (d : Fin 256) (hj : ¬ 8192 ≤ j.val) : lowQ x (ix3 j h d) = 0 :=
  (pad_low_out _ x _ _ _ j h d fun H => hj H.1).trans (zero_at _)
theorem lowV_in (x : FVec Ideal S256x8x128 .f32) (j : Fin 8448) (h : Fin 8) (d : Fin 128) (hj : 8192 ≤ j.val) : lowV x (ix3 j h d) = x (ix3 (⟨j.val - 8192, by omega⟩ : Fin 256) h d) :=
  pad_low _ x _ _ _ j h d hj (by omega)
theorem lowV_out (x : FVec Ideal S256x8x128 .f32) (j : Fin 8448) (h : Fin 8) (d : Fin 128) (hj : ¬ 8192 ≤ j.val) : lowV x (ix3 j h d) = 0 :=
  (pad_low_out _ x _ _ _ j h d fun H => hj H.1).trans (zero_at _)
theorem highQ_in (x : FVec Ideal S8192x8x256 .f32) (j : Fin 8448) (h : Fin 8) (d : Fin 256) (hj : j.val < 8192) : highQ x (ix3 j h d) = x (ix3 (⟨j.val, hj⟩ : Fin 8192) h d) :=
  pad_low _ x _ _ _ j h d (Nat.zero_le _) hj
theorem highQ_out (x : FVec Ideal S8192x8x256 .f32) (j : Fin 8448) (h : Fin 8) (d : Fin 256) (hj : ¬ j.val < 8192) : highQ x (ix3 j h d) = 0 :=
  (pad_low_out _ x _ _ _ j h d fun H => hj H.2).trans (zero_at _)

theorem scoreM_at (q k : FVec Ideal S8448x2048 .bf16) (Q K : ℕ → ℕ → ℝ) (hq : IsN q Q) (hk : IsN k K) (h : Fin 8) (i : Fin 8192) (j : Fin 8448) :
    scoreM (heads q) (heads k) (ix3 h i j) = ((cs * dotn 256 (sh Q 0 (256 * h.val)) (sh K 0 (256 * h.val)) i.val j.val : ℝ) : EReal) := by
  pointwise [scoreM]
  rw [sum_mul_coe (fun x => heads_at q Q hq _ h x) (fun x => heads_at k K hk _ h x), div_scale]
  rfl

theorem maxM_at (s : FVec Ideal S8x8192x8448 .f32) (h : Fin 8) (i : Fin 8192) (S : Fin 8448 → ℝ) (hs : ∀ j, s (ix3 h i j) = ((S j : ℝ) : EReal)) :
    ∃ r : ℝ, topM s (ix2 h i) = (r : EReal) := by
  obtain ⟨r, hr⟩ := top_real (n := 8447) (fun j => s (ix3 h i j)) S hs
  refine ⟨r, ?_⟩
  pointwise [topM]
  exact hr

theorem capM_at (a : FVec Ideal S8x8192 .f32) (h : Fin 8) (i : Fin 8192) : capM a (ix2 h i) = a (ix2 h i) := by
  pointwise [capM]
  exact cap_real _

theorem topM_at (s : FVec Ideal S8x8192x8448 .f32) (h : Fin 8) (i : Fin 8192) (S : Fin 8448 → ℝ) (hs : ∀ j, s (ix3 h i j) = ((S j : ℝ) : EReal)) :
    ∃ r : ℝ, capM (topM s) (ix2 h i) = (r : EReal) := by
  obtain ⟨r, hr⟩ := maxM_at s h i S hs
  exact ⟨r, (capM_at _ h i).trans hr⟩

theorem expM_at (s : FVec Ideal S8x8192x8448 .f32) (a : FVec Ideal S8x8192 .f32) (h : Fin 8) (i : Fin 8192) (S : Fin 8448 → ℝ) (M : ℝ)
    (hs : ∀ j, s (ix3 h i j) = ((S j : ℝ) : EReal)) (ha : a (ix2 h i) = (M : EReal)) (j : Fin 8448) :
    expM s a (ix3 h i j) = ((Real.exp (-M) * Real.exp (S j) : ℝ) : EReal) := by
  pointwise [expM]
  rw [ha, hs, exp_real]

theorem probM_at (s : FVec Ideal S8x8192x8448 .f32) (a : FVec Ideal S8x8192 .f32) (h : Fin 8) (i : Fin 8192) (S : Fin 8448 → ℝ) (M : ℝ)
    (hs : ∀ j, s (ix3 h i j) = ((S j : ℝ) : EReal)) (ha : a (ix2 h i) = (M : EReal)) (j : Fin 8448) :
    probM (expM s a) (normM (expM s a)) (ix3 h i j) = ((Real.exp (S j) / ∑ x, Real.exp (S x) : ℝ) : EReal) := by
  pointwise [probM, expM, normM]
  rw [ha]
  exact prob_real (n := 8447) (fun j => s (ix3 h i j)) S M hs j

theorem dpM_at (g : FVec Ideal S8448x1024 .f32) (v : FVec Ideal S8448x1024 .bf16) (G V : ℕ → ℕ → ℝ) (hg : IsN g G) (hv : IsN v V) (h : Fin 8) (i : Fin 8192) (j : Fin 8448) :
    dpM (cotM (gheads g)) (vheads v) (ix3 h i j) = ((dotn 128 (sh G 0 (128 * h.val)) (sh V 0 (128 * h.val)) i.val j.val : ℝ) : EReal) := by
  pointwise [dpM, cotM]
  rw [sum_mul_coe (fun x => gheads_at g G hg _ h x) (fun x => vheads_at v V hv _ h x)]
  rfl

theorem cotM_at (g : FVec Ideal S8448x1024 .f32) (G : ℕ → ℕ → ℝ) (hg : IsN g G) (h : Fin 8) (d : Fin 128) (i : Fin 8192) :
    cotM (gheads g) (ix3 h d i) = ((sh G 0 (128 * h.val) i.val d.val : ℝ) : EReal) := by
  pointwise [cotM]
  exact gheads_at g G hg _ h d

theorem dsM_at (d e : FVec Ideal S8x8192x8448 .f32) (h : Fin 8) (i : Fin 8192) (D S : Fin 8448 → ℝ) (M : ℝ) (hd : ∀ j, d (ix3 h i j) = ((D j : ℝ) : EReal))
    (he : ∀ j, e (ix3 h i j) = ((Real.exp (-M) * Real.exp (S j) : ℝ) : EReal)) (j : Fin 8448) :
    dsM d e (normM e) (ix3 h i j) = ((cs * (Real.exp (S j) / (∑ x, Real.exp (S x)) * (D j - ∑ x, D x * (Real.exp (S x) / ∑ x, Real.exp (S x)))) : ℝ) : EReal) := by
  pointwise [dsM, normM]
  exact ds_real (n := 8447) (fun j => d (ix3 h i j)) (fun j => e (ix3 h i j)) D S M hd he j

/-- The exponentials of queries and keys, -/
def expsM (q k : FVec Ideal S8448x2048 .bf16) : FVec Ideal S8x8192x8448 .f32 := expM (scoreM (heads q) (heads k)) (capM (topM (scoreM (heads q) (heads k))))
/-- the weights -/
def prM (q k : FVec Ideal S8448x2048 .bf16) : FVec Ideal S8x8192x8448 .f32 := probM (expsM q k) (normM (expsM q k))
/-- and the scores' gradients. -/
def gradM (q k : FVec Ideal S8448x2048 .bf16) (v : FVec Ideal S8448x1024 .bf16) (g : FVec Ideal S8448x1024 .f32) : FVec Ideal S8x8192x8448 .f32 :=
  dsM (dpM (cotM (gheads g)) (vheads v)) (expsM q k) (normM (expsM q k))

theorem prM_at (q k : FVec Ideal S8448x2048 .bf16) (Q K : ℕ → ℕ → ℝ) (hq : IsN q Q) (hk : IsN k K) (h : Fin 8) (i : Fin 8192) (j : Fin 8448) :
    prM q k (ix3 h i j) = ((prR Q K h.val i.val j.val : ℝ) : EReal) := by
  obtain ⟨M, hM⟩ := topM_at (scoreM (heads q) (heads k)) h i _ (fun j => scoreM_at q k Q K hq hk h i j)
  refine (probM_at _ _ h i _ M (fun j => scoreM_at q k Q K hq hk h i j) hM j).trans (congrArg (fun z : ℝ => (z : EReal)) ?_)
  exact pr_all Q K h.val i.val j.val i.isLt

theorem gradM_at (q k : FVec Ideal S8448x2048 .bf16) (v : FVec Ideal S8448x1024 .bf16) (g : FVec Ideal S8448x1024 .f32) (Q K V G : ℕ → ℕ → ℝ)
    (hq : IsN q Q) (hk : IsN k K) (hv : IsN v V) (hg : IsN g G) (h : Fin 8) (i : Fin 8192) (j : Fin 8448) :
    gradM q k v g (ix3 h i j) = ((cs * dsR Q K V G h.val i.val j.val : ℝ) : EReal) := by
  obtain ⟨M, hM⟩ := topM_at (scoreM (heads q) (heads k)) h i _ (fun j => scoreM_at q k Q K hq hk h i j)
  refine (dsM_at _ _ h i _ _ M (fun j => dpM_at g v G V hg hv h i j) (fun j => expM_at _ _ h i _ M (fun j => scoreM_at q k Q K hq hk h i j) hM j) j).trans
    (congrArg (fun z : ℝ => (z : EReal)) ?_)
  have e := meanR_all Q K V G h.val i.val i.isLt
  have p := pr_all Q K h.val i.val j.val i.isLt
  rw [e, p]
  rfl

theorem scoreC_at (q k : FVec Ideal S8448x2048 .bf16) (Q K : ℕ → ℕ → ℝ) (hq : IsN q Q) (hk : IsN k K) (h : Fin 8) (i : Fin 256) (j : Fin 256) :
    scoreC (heads q) (heads k) (ix3 h i j) = ((cs * dotn 256 (sh Q 0 (256 * h.val)) (sh K 0 (256 * h.val)) (8192 + i.val) (8192 + j.val) : ℝ) : EReal) := by
  pointwise [scoreC]
  rw [sum_mul_coe (fun x => heads_at q Q hq _ h x) (fun x => heads_at k K hk _ h x), div_scale]
  rfl

theorem maxC_at (s : FVec Ideal S8x256x256 .f32) (h : Fin 8) (i : Fin 256) (S : Fin 256 → ℝ) (hs : ∀ j, s (ix3 h i j) = ((S j : ℝ) : EReal)) :
    ∃ r : ℝ, topC s (ix2 h i) = (r : EReal) := by
  obtain ⟨r, hr⟩ := top_real (n := 255) (fun j => s (ix3 h i j)) S hs
  refine ⟨r, ?_⟩
  pointwise [topC]
  exact hr

theorem capC_at (a : FVec Ideal S8x256 .f32) (h : Fin 8) (i : Fin 256) : capC a (ix2 h i) = a (ix2 h i) := by
  pointwise [capC]
  exact cap_real _

theorem topC_at (s : FVec Ideal S8x256x256 .f32) (h : Fin 8) (i : Fin 256) (S : Fin 256 → ℝ) (hs : ∀ j, s (ix3 h i j) = ((S j : ℝ) : EReal)) :
    ∃ r : ℝ, capC (topC s) (ix2 h i) = (r : EReal) := by
  obtain ⟨r, hr⟩ := maxC_at s h i S hs
  exact ⟨r, (capC_at _ h i).trans hr⟩

theorem expC_at (s : FVec Ideal S8x256x256 .f32) (a : FVec Ideal S8x256 .f32) (h : Fin 8) (i : Fin 256) (S : Fin 256 → ℝ) (M : ℝ)
    (hs : ∀ j, s (ix3 h i j) = ((S j : ℝ) : EReal)) (ha : a (ix2 h i) = (M : EReal)) (j : Fin 256) :
    expC s a (ix3 h i j) = ((Real.exp (-M) * Real.exp (S j) : ℝ) : EReal) := by
  pointwise [expC]
  rw [ha, hs, exp_real]

theorem probC_at (s : FVec Ideal S8x256x256 .f32) (a : FVec Ideal S8x256 .f32) (h : Fin 8) (i : Fin 256) (S : Fin 256 → ℝ) (M : ℝ)
    (hs : ∀ j, s (ix3 h i j) = ((S j : ℝ) : EReal)) (ha : a (ix2 h i) = (M : EReal)) (j : Fin 256) :
    probC (expC s a) (normC (expC s a)) (ix3 h i j) = ((Real.exp (S j) / ∑ x, Real.exp (S x) : ℝ) : EReal) := by
  pointwise [probC, expC, normC]
  rw [ha]
  exact prob_real (n := 255) (fun j => s (ix3 h i j)) S M hs j

theorem dpC_at (g : FVec Ideal S8448x1024 .f32) (v : FVec Ideal S8448x1024 .bf16) (G V : ℕ → ℕ → ℝ) (hg : IsN g G) (hv : IsN v V) (h : Fin 8) (i : Fin 256) (j : Fin 256) :
    dpC (cotC (gheads g)) (vheads v) (ix3 h i j) = ((dotn 128 (sh G 0 (128 * h.val)) (sh V 0 (128 * h.val)) (8192 + i.val) (8192 + j.val) : ℝ) : EReal) := by
  pointwise [dpC, cotC]
  rw [sum_mul_coe (fun x => gheads_at g G hg _ h x) (fun x => vheads_at v V hv _ h x)]
  rfl

theorem cotC_at (g : FVec Ideal S8448x1024 .f32) (G : ℕ → ℕ → ℝ) (hg : IsN g G) (h : Fin 8) (d : Fin 128) (i : Fin 256) :
    cotC (gheads g) (ix3 h d i) = ((sh G 0 (128 * h.val) (8192 + i.val) d.val : ℝ) : EReal) := by
  pointwise [cotC]
  exact gheads_at g G hg _ h d

theorem dsC_at (d e : FVec Ideal S8x256x256 .f32) (h : Fin 8) (i : Fin 256) (D S : Fin 256 → ℝ) (M : ℝ) (hd : ∀ j, d (ix3 h i j) = ((D j : ℝ) : EReal))
    (he : ∀ j, e (ix3 h i j) = ((Real.exp (-M) * Real.exp (S j) : ℝ) : EReal)) (j : Fin 256) :
    dsC d e (normC e) (ix3 h i j) = ((cs * (Real.exp (S j) / (∑ x, Real.exp (S x)) * (D j - ∑ x, D x * (Real.exp (S x) / ∑ x, Real.exp (S x)))) : ℝ) : EReal) := by
  pointwise [dsC, normC]
  exact ds_real (n := 255) (fun j => d (ix3 h i j)) (fun j => e (ix3 h i j)) D S M hd he j

/-- The exponentials of queries and keys, -/
def expsC (q k : FVec Ideal S8448x2048 .bf16) : FVec Ideal S8x256x256 .f32 := expC (scoreC (heads q) (heads k)) (capC (topC (scoreC (heads q) (heads k))))
/-- the weights -/
def prC (q k : FVec Ideal S8448x2048 .bf16) : FVec Ideal S8x256x256 .f32 := probC (expsC q k) (normC (expsC q k))
/-- and the scores' gradients. -/
def gradC (q k : FVec Ideal S8448x2048 .bf16) (v : FVec Ideal S8448x1024 .bf16) (g : FVec Ideal S8448x1024 .f32) : FVec Ideal S8x256x256 .f32 :=
  dsC (dpC (cotC (gheads g)) (vheads v)) (expsC q k) (normC (expsC q k))

theorem prC_at (q k : FVec Ideal S8448x2048 .bf16) (Q K : ℕ → ℕ → ℝ) (hq : IsN q Q) (hk : IsN k K) (h : Fin 8) (i : Fin 256) (j : Fin 256) :
    prC q k (ix3 h i j) = ((prR Q K h.val (8192 + i.val) (8192 + j.val) : ℝ) : EReal) := by
  obtain ⟨M, hM⟩ := topC_at (scoreC (heads q) (heads k)) h i _ (fun j => scoreC_at q k Q K hq hk h i j)
  refine (probC_at _ _ h i _ M (fun j => scoreC_at q k Q K hq hk h i j) hM j).trans (congrArg (fun z : ℝ => (z : EReal)) ?_)
  exact pr_ctx Q K h.val (8192 + i.val) j.val (by omega)

theorem gradC_at (q k : FVec Ideal S8448x2048 .bf16) (v : FVec Ideal S8448x1024 .bf16) (g : FVec Ideal S8448x1024 .f32) (Q K V G : ℕ → ℕ → ℝ)
    (hq : IsN q Q) (hk : IsN k K) (hv : IsN v V) (hg : IsN g G) (h : Fin 8) (i : Fin 256) (j : Fin 256) :
    gradC q k v g (ix3 h i j) = ((cs * dsR Q K V G h.val (8192 + i.val) (8192 + j.val) : ℝ) : EReal) := by
  obtain ⟨M, hM⟩ := topC_at (scoreC (heads q) (heads k)) h i _ (fun j => scoreC_at q k Q K hq hk h i j)
  refine (dsC_at _ _ h i _ _ M (fun j => dpC_at g v G V hg hv h i j) (fun j => expC_at _ _ h i _ M (fun j => scoreC_at q k Q K hq hk h i j) hM j) j).trans
    (congrArg (fun z : ℝ => (z : EReal)) ?_)
  have e := meanR_ctx Q K V G h.val (8192 + i.val) (by omega)
  have p := pr_ctx Q K h.val (8192 + i.val) j.val (by omega)
  rw [e, p]
  rfl

variable (q k : FVec Ideal S8448x2048 .bf16) (v : FVec Ideal S8448x1024 .bf16) (g : FVec Ideal S8448x1024 .f32) (Q K V G : ℕ → ℕ → ℝ)
  (hq : IsN q Q) (hk : IsN k K) (hv : IsN v V) (hg : IsN g G)

theorem dqAll_read (k : FVec Ideal S8448x8x256 .f32) (s : FVec Ideal S8x8192x8448 .f32) (s' : FVec Ideal S8x256x256 .f32) (i : Fin 8448) (d : Fin 2048) :
    dqAll k s s' (ix2 i d) = lowQ (dqC k s') (ix3 i (⟨d.val / 256, by omega⟩ : Fin 8) (⟨d.val % 256, by omega⟩ : Fin 256)) + highQ (dqM k s) (ix3 i (⟨d.val / 256, by omega⟩ : Fin 8) (⟨d.val % 256, by omega⟩ : Fin 256)) := by
  pointwise [dqAll]
theorem dkAll_read (q : FVec Ideal S8448x8x256 .f32) (s : FVec Ideal S8x8192x8448 .f32) (s' : FVec Ideal S8x256x256 .f32) (i : Fin 8448) (d : Fin 2048) :
    dkAll q s s' (ix2 i d) = lowQ (dkC q s') (ix3 i (⟨d.val / 256, by omega⟩ : Fin 8) (⟨d.val % 256, by omega⟩ : Fin 256)) + dkM q s (ix3 i (⟨d.val / 256, by omega⟩ : Fin 8) (⟨d.val % 256, by omega⟩ : Fin 256)) := by
  pointwise [dkAll]
theorem dvAll_read (g : FVec Ideal S8x128x8192 .f32) (g' : FVec Ideal S8x128x256 .f32) (p : FVec Ideal S8x8192x8448 .f32) (p' : FVec Ideal S8x256x256 .f32) (i : Fin 8448) (d : Fin 1024) :
    dvAll g g' p p' (ix2 i d) = lowV (dvC g' p') (ix3 i (⟨d.val / 128, by omega⟩ : Fin 8) (⟨d.val % 128, by omega⟩ : Fin 128)) + dvM g p (ix3 i (⟨d.val / 128, by omega⟩ : Fin 8) (⟨d.val % 128, by omega⟩ : Fin 128)) := by
  pointwise [dvAll]

include hq hk hv hg

theorem dqM_at (i : Fin 8192) (h : Fin 8) (d : Fin 256) : dqM (heads k) (gradM q k v g) (ix3 i h d)
    = ((∑ x : Fin 8448, (cs * dsR Q K V G h.val i.val x.val) * sh K 0 (256 * h.val) x.val d.val : ℝ) : EReal) := by
  pointwise [dqM]
  exact sum_mul_coe (fun x => gradM_at q k v g Q K V G hq hk hv hg h i x) fun x => heads_at k K hk x h d
theorem dqC_at (i : Fin 256) (h : Fin 8) (d : Fin 256) : dqC (heads k) (gradC q k v g) (ix3 i h d)
    = ((∑ x : Fin 256, (cs * dsR Q K V G h.val (8192 + i.val) (8192 + x.val)) * sh K 0 (256 * h.val) (8192 + x.val) d.val : ℝ) : EReal) := by
  pointwise [dqC]
  exact sum_mul_coe (fun x => gradC_at q k v g Q K V G hq hk hv hg h i x) fun x => heads_at k K hk _ h d
theorem dkM_at (j : Fin 8448) (h : Fin 8) (d : Fin 256) : dkM (heads q) (gradM q k v g) (ix3 j h d)
    = ((∑ x : Fin 8192, (cs * dsR Q K V G h.val x.val j.val) * sh Q 0 (256 * h.val) x.val d.val : ℝ) : EReal) := by
  pointwise [dkM]
  exact sum_mul_coe (fun x => gradM_at q k v g Q K V G hq hk hv hg h x j) fun x => heads_at q Q hq _ h d
theorem dkC_at (j : Fin 256) (h : Fin 8) (d : Fin 256) : dkC (heads q) (gradC q k v g) (ix3 j h d)
    = ((∑ x : Fin 256, (cs * dsR Q K V G h.val (8192 + x.val) (8192 + j.val)) * sh Q 0 (256 * h.val) (8192 + x.val) d.val : ℝ) : EReal) := by
  pointwise [dkC]
  exact sum_mul_coe (fun x => gradC_at q k v g Q K V G hq hk hv hg h x j) fun x => heads_at q Q hq _ h d
omit hv in
theorem dvM_at (j : Fin 8448) (h : Fin 8) (d : Fin 128) : dvM (cotM (gheads g)) (prM q k) (ix3 j h d)
    = ((∑ x : Fin 8192, sh G 0 (128 * h.val) x.val d.val * prR Q K h.val x.val j.val : ℝ) : EReal) := by
  pointwise [dvM]
  exact sum_mul_coe (fun x => cotM_at g G hg h d x) fun x => prM_at q k Q K hq hk h x j
omit hv in
theorem dvC_at (j : Fin 256) (h : Fin 8) (d : Fin 128) : dvC (cotC (gheads g)) (prC q k) (ix3 j h d)
    = ((∑ x : Fin 256, sh G 0 (128 * h.val) (8192 + x.val) d.val * prR Q K h.val (8192 + x.val) (8192 + j.val) : ℝ) : EReal) := by
  pointwise [dvC]
  exact sum_mul_coe (fun x => cotC_at g G hg h d x) fun x => prC_at q k Q K hq hk h x j

/-- The queries' gradients, -/
theorem dq_at (i : Fin 8448) (d : Fin 2048) : dqAll (heads k) (gradM q k v g) (gradC q k v g) (ix2 i d) = ((dqR Q K V G i.val d.val : ℝ) : EReal) := by
  rw [dqAll_read]
  by_cases hi : i.val < 8192
  · rw [lowQ_out _ _ _ _ (by omega), highQ_in _ _ _ _ hi, zero_add, dqM_at q k v g Q K V G hq hk hv hg]
    exact congrArg (fun z : ℝ => (z : EReal)) (dq_main Q K V G d.val i.val hi)
  · rw [highQ_out _ _ _ _ hi, lowQ_in _ _ _ _ (by omega), add_zero, dqC_at q k v g Q K V G hq hk hv hg]
    have e8 : 8192 + (i.val - 8192) = i.val := by omega
    refine congrArg (fun z : ℝ => (z : EReal)) (Eq.trans ?_ (dq_ctx Q K V G d.val i.val hi))
    simp only [e8]

/-- the keys' -/
theorem dk_at (j : Fin 8448) (d : Fin 2048) : dkAll (heads q) (gradM q k v g) (gradC q k v g) (ix2 j d) = ((dkR Q K V G j.val d.val : ℝ) : EReal) := by
  rw [dkAll_read, dkM_at q k v g Q K V G hq hk hv hg]
  by_cases hj : 8192 ≤ j.val
  · rw [lowQ_in _ _ _ _ hj, dkC_at q k v g Q K V G hq hk hv hg, ← EReal.coe_add]
    have e8 : 8192 + (j.val - 8192) = j.val := by omega
    refine congrArg (fun z : ℝ => (z : EReal)) (Eq.trans ?_ (dk_ctx Q K V G d.val j.val hj))
    simp only [e8]
  · rw [lowQ_out _ _ _ _ hj, zero_add]
    exact congrArg (fun z : ℝ => (z : EReal)) (dk_main Q K V G d.val j.val hj)

omit hv in
/-- and the values'. -/
theorem dv_at (j : Fin 8448) (d : Fin 1024) : dvAll (cotM (gheads g)) (cotC (gheads g)) (prM q k) (prC q k) (ix2 j d) = ((dvR Q K G j.val d.val : ℝ) : EReal) := by
  rw [dvAll_read, dvM_at q k g Q K G hq hk hg]
  by_cases hj : 8192 ≤ j.val
  · rw [lowV_in _ _ _ _ hj, dvC_at q k g Q K G hq hk hg, ← EReal.coe_add]
    have e8 : 8192 + (j.val - 8192) = j.val := by omega
    refine congrArg (fun z : ℝ => (z : EReal)) (Eq.trans ?_ (dv_ctx Q K G d.val j.val hj))
    simp only [e8]
  · rw [lowV_out _ _ _ _ hj, zero_add]
    exact congrArg (fun z : ℝ => (z : EReal)) (dv_main Q K G d.val j.val hj)

end Cert.BwdRefIdeal.Value

end

end
-- ==== Proof.BRes.lean ====
/-
  The reference's results, as the terms they are read by.
-/
module

public import proofs.«01_k».proof.Proof.BRef
public import proofs.«01_k».proof.Proof.Gen.BwdRefIdeal.Run

@[expose] public section

set_option maxRecDepth 16384

noncomputable section

namespace Cert.BwdRefIdeal.Value

open Idealize.ShloMosaic Idealize.ShloMosaic.TcCoe Idealize.SL.Sem Idealize.ShloMosaic.StableHlo
open Cert.BwdRefIdeal Cert.BwdRefIdeal.Gen
open Mla

theorem res_dq (m : (ℓ : Loc nD τ sig) → Buf (Elt Ideal) ℓ) (c : Dev nD) (x : FVec Ideal S8448x2048 .f32)
    (h : x = shapeCast _ (addf (pad S8448x8x256 ![8192, 0, 0] ![0, 0, 0] ![0, 0, 0] (transpose S256x8x256 [1, 0, 2] (Host.dotGeneral (φ₁ := .f32) (φ₂ := .f32) dot_S8x256x256_S256x8x256_S8x256x256_2_0_1_2_0_1 none (res_main_v112 (launchContents m c)) (res_main_v46 (launchContents m c))) transposes_S8x256x256_S256x8x256_1_0_2) (constant S_ .f32 0x00000000#32) pads_S256x8x256_S8448x8x256_819200_000_000 h_S_) (pad S8448x8x256 ![0, 0, 0] ![256, 0, 0] ![0, 0, 0] (transpose S8192x8x256 [1, 0, 2] (Host.dotGeneral (φ₁ := .f32) (φ₂ := .f32) dot_S8x8192x8448_S8448x8x256_S8x8192x256_2_0_1_2_0_1 none (res_main_v142 (launchContents m c)) (res_main_v4 (launchContents m c))) transposes_S8x8192x256_S8192x8x256_1_0_2) (constant S_ .f32 0x00000000#32) pads_S8192x8x256_S8448x8x256_02560_000_000 h_S_)) shapeCasts_S8448x8x256_S8448x2048) : x = dqAll (heads (m ((c.tc : Thread nD τ).loc main_arg1))) (gradM (m ((c.tc : Thread nD τ).loc main_arg0)) (m ((c.tc : Thread nD τ).loc main_arg1)) (m ((c.tc : Thread nD τ).loc main_arg2)) (m ((c.tc : Thread nD τ).loc main_arg3))) (gradC (m ((c.tc : Thread nD τ).loc main_arg0)) (m ((c.tc : Thread nD τ).loc main_arg1)) (m ((c.tc : Thread nD τ).loc main_arg2)) (m ((c.tc : Thread nD τ).loc main_arg3))) := h.trans rfl

theorem res_dk (m : (ℓ : Loc nD τ sig) → Buf (Elt Ideal) ℓ) (c : Dev nD) (x : FVec Ideal S8448x2048 .f32)
    (h : x = shapeCast _ (addf (pad S8448x8x256 ![8192, 0, 0] ![0, 0, 0] ![0, 0, 0] (transpose S256x8x256 [1, 0, 2] (Host.dotGeneral (φ₁ := .f32) (φ₂ := .f32) dot_S8x256x256_S256x8x256_S8x256x256_1_0_2_2_0_1 none (res_main_v112 (launchContents m c)) (res_main_v45 (launchContents m c))) transposes_S8x256x256_S256x8x256_1_0_2) (constant S_ .f32 0x00000000#32) pads_S256x8x256_S8448x8x256_819200_000_000 h_S_) (transpose S8448x8x256 [1, 0, 2] (Host.dotGeneral (φ₁ := .f32) (φ₂ := .f32) dot_S8x8192x8448_S8192x8x256_S8x8448x256_1_0_2_2_0_1 none (res_main_v142 (launchContents m c)) (res_main_v6 (launchContents m c))) transposes_S8x8448x256_S8448x8x256_1_0_2)) shapeCasts_S8448x8x256_S8448x2048) : x = dkAll (heads (m ((c.tc : Thread nD τ).loc main_arg0))) (gradM (m ((c.tc : Thread nD τ).loc main_arg0)) (m ((c.tc : Thread nD τ).loc main_arg1)) (m ((c.tc : Thread nD τ).loc main_arg2)) (m ((c.tc : Thread nD τ).loc main_arg3))) (gradC (m ((c.tc : Thread nD τ).loc main_arg0)) (m ((c.tc : Thread nD τ).loc main_arg1)) (m ((c.tc : Thread nD τ).loc main_arg2)) (m ((c.tc : Thread nD τ).loc main_arg3))) := h.trans rfl

theorem res_dv (m : (ℓ : Loc nD τ sig) → Buf (Elt Ideal) ℓ) (c : Dev nD) (x : FVec Ideal S8448x1024 .f32)
    (h : x = shapeCast _ (addf (pad S8448x8x128 ![8192, 0, 0] ![0, 0, 0] ![0, 0, 0] (transpose S256x8x128 [2, 0, 1] (Host.dotGeneral (φ₁ := .f32) (φ₂ := .f32) dot_S8x128x256_S8x256x256_S8x128x256_2_1_1_2_0_0 none (res_main_v91 (launchContents m c)) (res_main_v83 (launchContents m c))) transposes_S8x128x256_S256x8x128_2_0_1) (constant S_ .f32 0x00000000#32) pads_S256x8x128_S8448x8x128_819200_000_000 h_S_) (transpose S8448x8x128 [2, 0, 1] (Host.dotGeneral (φ₁ := .f32) (φ₂ := .f32) dot_S8x128x8192_S8x8192x8448_S8x128x8448_2_1_1_2_0_0 none (res_main_v120 (launchContents m c)) (res_main_v42 (launchContents m c))) transposes_S8x128x8448_S8448x8x128_2_0_1)) shapeCasts_S8448x8x128_S8448x1024) : x = dvAll (cotM (gheads (m ((c.tc : Thread nD τ).loc main_arg3)))) (cotC (gheads (m ((c.tc : Thread nD τ).loc main_arg3)))) (prM (m ((c.tc : Thread nD τ).loc main_arg0)) (m ((c.tc : Thread nD τ).loc main_arg1))) (prC (m ((c.tc : Thread nD τ).loc main_arg0)) (m ((c.tc : Thread nD τ).loc main_arg1))) := h.trans rfl

end Cert.BwdRefIdeal.Value

end

end
-- ==== Proof.BFrames.lean ====
/-
  The backward call's frames and its idealization.
-/
module

public import proofs.«01_k».proof.Defs
public import proofs.«01_k».proof.Proof.BRun
public import proofs.«01_k».proof.Proof.BRunBits
public import proofs.«01_k».proof.Proof.Gen.BwdRefIdeal.Run
public import Idealize.ShloMosaic.Lib.Quiescent

@[expose] public section

set_option maxRecDepth 16384

noncomputable section

namespace Cert.Proof

open Idealize.ShloMosaic Idealize.ShloMosaic.TcCoe Idealize.SL.Sem

theorem bwd_frame : quiescent_Bwd (hBwd := Cert.Bwd.Gen.facts) := fun m ρ _ =>
  (θ_run Cert.Bwd.defs _ _).mono (fun r h => ⟨fun c => (h.1 c).2.2.2, h.2⟩) (Cert.Bwd.Own.ran_named (F := Bits) m ρ)

theorem bwdIdeal_frame : quiescent_BwdIdeal (hBwdIdeal := Cert.BwdIdeal.Gen.facts) := fun m ρ _ =>
  (θ_run Cert.BwdIdeal.defs _ _).mono (fun r h => ⟨fun c => (h.1 c).2.2.2, h.2⟩) (Cert.BwdIdeal.Own.ran_named (F := Ideal) m ρ)

theorem bwdRef_frame : quiescent_BwdRefIdeal (hBwdRefIdeal := Cert.BwdRefIdeal.Gen.facts) := fun m ρ _ =>
  (θ_run Cert.BwdRefIdeal.defs _ _).mono (fun r h => ⟨fun c => (h c).2.2.2, sem_eq_zero_of_no_sems (by decide) r.2⟩)
    (Cert.BwdRefIdeal.Value.run (F := Ideal) m ρ)

theorem bwd_preserves : preserves_Bwd_BwdIdeal :=
  ⟨IdealRules.named_const.statement Cert.BwdIdeal.κ "scale_log2e" .f32 _ _ rfl, IdealRules.named_const.statement Cert.BwdIdeal.κ "scale" .f32 _ _ rfl⟩

end Cert.Proof

end
-- ==== Proof.Finite.lean ====
/-
  What the precondition says: every element of every argument is a real number.
-/
module

public import proofs.«01_k».proof.Proof.Gen.Pre_finite_fwd
public import proofs.«01_k».proof.Proof.Rows
public import Idealize.ShloMosaic.Lib.ReduceAll

@[expose] public section

set_option maxRecDepth 16384

noncomputable section

namespace Mla

open Idealize.ShloMosaic Idealize.ShloMosaic.TcCoe

theorem bits_top16 : Ideal.ofBits FTy.bf16 0x7F80#16 = (⊤ : EReal) := by
  simp [Ideal.ofBits, Ideal.ieee, -EReal.coe_mul]
theorem bits_top32 : Ideal.ofBits FTy.f32 0x7F800000#32 = (⊤ : EReal) := by
  simp [Ideal.ofBits, Ideal.ieee, -EReal.coe_mul]

/-- A value of size below the infinite one is real. -/
theorem real_of_lt (x : EReal) (h : max x (-x) < ⊤) : ∃ r : ℝ, x = (r : EReal) := by
  induction x using EReal.rec with
  | bot => exact absurd h (by simp)
  | coe r => exact ⟨r, rfl⟩
  | top => exact absurd h (by simp)

/-- An array of reals is an array of one real matrix. -/
theorem matrix_of {a b : ℕ} (v : (⟨2, ![a, b]⟩ : Shape).Idx → EReal) (h : ∀ i, ∃ r : ℝ, v i = (r : EReal)) : ∃ X : ℕ → ℕ → ℝ, IsN v X := by
  choose f hf using h
  refine ⟨fun i j => if hi : i < a then if hj : j < b then f (ix2 ⟨i, hi⟩ ⟨j, hj⟩) else 0 else 0, fun i j => ?_⟩
  rw [hf]
  dsimp only
  rw [dif_pos i.isLt, dif_pos j.isLt]

end Mla

namespace Cert.Pre_finite_fwd.Own

open Idealize.ShloMosaic Idealize.ShloMosaic.TcCoe
open Cert.Pre_finite_fwd Cert.Pre_finite_fwd.Gen
open Mla

theorem one_bf16 {s : Shape} (b : S_.BroadcastsInDim s ![]) (x : FVec Ideal s .bf16) (i : s.Idx)
    (h : cmpf .olt (Host.absf x) (broadcastInDim s ![] b (constant S_ .bf16 0x7F80#16)) i = 1#1) : ∃ r : ℝ, x i = (r : EReal) := by
  pointwise at h
  rw [bits_top16] at h
  refine real_of_lt _ ?_
  by_contra hc
  have e : decide (FloatOps.absf (F := Ideal) (φ := .bf16) (x i) < (⊤ : EReal)) = false := decide_eq_false hc
  rw [e] at h
  exact absurd h (by decide)

theorem reals (a0 : FVec Ideal S8448x2048 .bf16) (a1 : FVec Ideal S8448x2048 .bf16) (a2 : FVec Ideal S8448x1024 .bf16) (h : Cert.Pre_finite_fwd.fn (F := Ideal) a0 a1 a2 = fun _ => 1#1) :
    (∃ X : ℕ → ℕ → ℝ, IsN a0 X) ∧ (∃ X : ℕ → ℕ → ℝ, IsN a1 X) ∧ (∃ X : ℕ → ℕ → ℝ, IsN a2 X) := by
  have e := congrFun h (fun a => a.elim0)
  dsimp only [Cert.Pre_finite_fwd.fn] at e
  obtain ⟨e, e2⟩ := IntOp.andi_eq_one.1 e
  obtain ⟨e, e1⟩ := IntOp.andi_eq_one.1 e
  exact ⟨matrix_of a0 fun i => one_bf16 _ _ i (Host.reduce_andi_all _ _ _ _ _ e i), matrix_of a1 fun i => one_bf16 _ _ i (Host.reduce_andi_all _ _ _ _ _ e1 i), matrix_of a2 fun i => one_bf16 _ _ i (Host.reduce_andi_all _ _ _ _ _ e2 i)⟩

end Cert.Pre_finite_fwd.Own

end
-- ==== Proof.FiniteB.lean ====
/-
  What the backward call's precondition says: every element of every argument is a real number.
-/
module

public import proofs.«01_k».proof.Proof.Gen.Pre_finite_bwd
public import proofs.«01_k».proof.Proof.Finite

@[expose] public section

set_option maxRecDepth 16384

noncomputable section

namespace Cert.Pre_finite_bwd.Own

open Idealize.ShloMosaic Idealize.ShloMosaic.TcCoe
open Cert.Pre_finite_bwd Cert.Pre_finite_bwd.Gen
open Mla

theorem one_bf16 {s : Shape} (b : S_.BroadcastsInDim s ![]) (x : FVec Ideal s .bf16) (i : s.Idx)
    (h : cmpf .olt (Host.absf x) (broadcastInDim s ![] b (constant S_ .bf16 0x7F80#16)) i = 1#1) : ∃ r : ℝ, x i = (r : EReal) := by
  pointwise at h
  rw [bits_top16] at h
  refine real_of_lt _ ?_
  by_contra hc
  have e : decide (FloatOps.absf (F := Ideal) (φ := .bf16) (x i) < (⊤ : EReal)) = false := decide_eq_false hc
  rw [e] at h
  exact absurd h (by decide)

theorem one_f32 {s : Shape} (b : S_.BroadcastsInDim s ![]) (x : FVec Ideal s .f32) (i : s.Idx)
    (h : cmpf .olt (Host.absf x) (broadcastInDim s ![] b (constant S_ .f32 0x7F800000#32)) i = 1#1) : ∃ r : ℝ, x i = (r : EReal) := by
  pointwise at h
  rw [bits_top32] at h
  refine real_of_lt _ ?_
  by_contra hc
  have e : decide (FloatOps.absf (F := Ideal) (φ := .f32) (x i) < (⊤ : EReal)) = false := decide_eq_false hc
  rw [e] at h
  exact absurd h (by decide)

theorem reals (a0 : FVec Ideal S8448x2048 .bf16) (a1 : FVec Ideal S8448x2048 .bf16) (a2 : FVec Ideal S8448x1024 .bf16) (a3 : FVec Ideal S8448x1024 .f32) (h : Cert.Pre_finite_bwd.fn (F := Ideal) a0 a1 a2 a3 = fun _ => 1#1) :
    (∃ X : ℕ → ℕ → ℝ, IsN a0 X) ∧ (∃ X : ℕ → ℕ → ℝ, IsN a1 X) ∧ (∃ X : ℕ → ℕ → ℝ, IsN a2 X) ∧ (∃ X : ℕ → ℕ → ℝ, IsN a3 X) := by
  have e := congrFun h (fun a => a.elim0)
  dsimp only [Cert.Pre_finite_bwd.fn] at e
  obtain ⟨e, e3⟩ := IntOp.andi_eq_one.1 e
  obtain ⟨e, e2⟩ := IntOp.andi_eq_one.1 e
  obtain ⟨e, e1⟩ := IntOp.andi_eq_one.1 e
  exact ⟨matrix_of a0 fun i => one_bf16 _ _ i (Host.reduce_andi_all _ _ _ _ _ e i), matrix_of a1 fun i => one_bf16 _ _ i (Host.reduce_andi_all _ _ _ _ _ e1 i), matrix_of a2 fun i => one_bf16 _ _ i (Host.reduce_andi_all _ _ _ _ _ e2 i), matrix_of a3 fun i => one_f32 _ _ i (Host.reduce_andi_all _ _ _ _ _ e3 i)⟩

end Cert.Pre_finite_bwd.Own

end
-- ==== Proof.BAlg.lean ====
/-
  The backward call's claim over the reals: its results are the reference's gradients.
-/
module

public import proofs.«01_k».proof.Defs
public import proofs.«01_k».proof.Proof.BFinal
public import proofs.«01_k».proof.Proof.BRes
public import proofs.«01_k».proof.Proof.BFrames
public import proofs.«01_k».proof.Proof.FiniteB
public import Idealize.ShloMosaic.Lib.Quiescent

@[expose] public section

set_option maxRecDepth 16384

noncomputable section

namespace Cert.Proof

open Idealize.ShloMosaic Idealize.ShloMosaic.TcCoe Idealize.SL.Sem
open Mla

theorem bwdIdeal_frame' : quiescent_BwdIdeal_pre_finite_bwd (hBwdIdeal := Cert.BwdIdeal.Gen.facts) (hPre_finite_bwd := Cert.Pre_finite_bwd.Gen.facts) :=
  fun m ρ _ => bwdIdeal_frame m ρ trivial

theorem bwdRef_frame' : quiescent_BwdRefIdeal_pre_finite_bwd (hBwdRefIdeal := Cert.BwdRefIdeal.Gen.facts) (hPre_finite_bwd := Cert.Pre_finite_bwd.Gen.facts) :=
  fun m ρ _ => bwdRef_frame m ρ trivial

section
open Cert.BwdRefIdeal.Value

variable (q k : FVec Ideal ⟨2, ![8448, 2048]⟩ .bf16) (v : FVec Ideal ⟨2, ![8448, 1024]⟩ .bf16) (g : FVec Ideal ⟨2, ![8448, 1024]⟩ .f32) (Q K V G : ℕ → ℕ → ℝ)
  (hq : IsN q Q) (hk : IsN k K) (hv : IsN v V) (hg : IsN g G)

include hq hk hv hg

/-- The reference's gradients of the queries, -/
theorem bwd_dq : (dqAll (heads k) (gradM q k v g) (gradC q k v g) : (⟨2, ![8448, 2048]⟩ : Shape).Idx → EReal) = fun y => ((dqR Q K V G (y 0).val (y 1).val : ℝ) : EReal) := by
  refine funext fun y => ?_
  idx_vars y
  exact dq_at q k v g Q K V G hq hk hv hg _ _

/-- the keys -/
theorem bwd_dk : (dkAll (heads q) (gradM q k v g) (gradC q k v g) : (⟨2, ![8448, 2048]⟩ : Shape).Idx → EReal) = fun y => ((dkR Q K V G (y 0).val (y 1).val : ℝ) : EReal) := by
  refine funext fun y => ?_
  idx_vars y
  exact dk_at q k v g Q K V G hq hk hv hg _ _

omit hv in
/-- and the values. -/
theorem bwd_dv : (dvAll (cotM (gheads g)) (cotC (gheads g)) (prM q k) (prC q k) : (⟨2, ![8448, 1024]⟩ : Shape).Idx → EReal) = fun y => ((dvR Q K G (y 0).val (y 1).val : ℝ) : EReal) := by
  refine funext fun y => ?_
  idx_vars y
  exact dv_at q k g Q K G hq hk hg _ _

end

theorem bwd_algebraic : algebraic_BwdIdeal_BwdRefIdeal_pre_finite_bwd (hBwdIdeal := Cert.BwdIdeal.Gen.facts) (hBwdRefIdeal := Cert.BwdRefIdeal.Gen.facts)
    (hPre_finite_bwd := Cert.Pre_finite_bwd.Gen.facts) := by
  intro m ρ m' ρ' hpre hargs
  refine ⟨fun c => (Cert.BwdIdeal.Own.run m 0 c).arrAt 6 Cert.BwdIdeal.cfg0.N, fun c => (Cert.BwdIdeal.Own.run m 0 c).arrAt 7 Cert.BwdIdeal.cfg0.N,
    fun c => (Cert.BwdIdeal.Own.run m 0 c).arrAt 8 Cert.BwdIdeal.cfg0.N,
    (θ_run Cert.BwdIdeal.defs _ _).mono (fun r h => h.1) (Cert.BwdIdeal.Own.ran_named (F := Ideal) m ρ),
    (θ_run Cert.BwdRefIdeal.defs _ _).mono (fun r h c => ?_) (Cert.BwdRefIdeal.Value.run (F := Ideal) m' ρ')⟩
  obtain ⟨a0, a1, a2, a3⟩ := hargs c
  obtain ⟨⟨Q, hq⟩, ⟨K, hk⟩, ⟨V, hv⟩, ⟨G, hg⟩⟩ := Cert.Pre_finite_bwd.Own.reals _ _ _ _ (hpre c)
  have e0 := bwd_dq _ _ _ _ Q K V G hq hk hv hg
  have e1 := bwd_dk _ _ _ _ Q K V G hq hk hv hg
  have e2 := bwd_dv _ _ _ Q K G hq hk hg
  refine ⟨?_, ?_, ?_, (h c).2.2.2⟩
  · refine Eq.trans ?_ (Cert.BwdIdeal.Value.finalQ m c Q K V G hq hk hv hg).symm
    refine (Cert.BwdRefIdeal.Value.res_dq m' c _ (h c).1).trans ?_
    rw [a0, a1, a2, a3]
    exact e0
  · refine Eq.trans ?_ (Cert.BwdIdeal.Value.finalK m c Q K V G hq hk hv hg).symm
    refine (Cert.BwdRefIdeal.Value.res_dk m' c _ (h c).2.1).trans ?_
    rw [a0, a1, a2, a3]
    exact e1
  · refine Eq.trans ?_ (Cert.BwdIdeal.Value.finalV m c Q K V G hq hk hv hg).symm
    refine (Cert.BwdRefIdeal.Value.res_dv m' c _ (h c).2.2.1).trans ?_
    rw [a0, a1, a3]
    exact e2

end Cert.Proof

end
-- ==== Proof.FRef.lean ====
/-
  The reference of the forward call, read at the reals.
-/
module

public import proofs.«01_k».proof.Proof.Rows
public import proofs.«01_k».proof.Proof.Gen.FwdRefIdeal.Run

@[expose] public section

set_option maxRecDepth 16384

noncomputable section

namespace Cert.FwdRefIdeal.Value

open Idealize.ShloMosaic Idealize.ShloMosaic.TcCoe Idealize.SL.Sem
open Cert.FwdRefIdeal Cert.FwdRefIdeal.Gen
open Mla

/-- The rows by head. -/
def heads (x : FVec Ideal S8448x2048 .bf16) : FVec Ideal S8448x8x256 .f32 :=
  shapeCast _ (extf .f32 x bitsLt_bf16_f32) shapeCasts_S8448x2048_S8448x8x256
def vheads (x : FVec Ideal S8448x1024 .bf16) : FVec Ideal S8448x8x128 .f32 :=
  shapeCast _ (extf .f32 x bitsLt_bf16_f32) shapeCasts_S8448x1024_S8448x8x128

/-- The scaled scores of the queries outside the context. -/
def scoreM (q k : FVec Ideal S8448x8x256 .f32) : FVec Ideal S8x8192x8448 .f32 :=
  Host.divf (extf .f32 (truncf .bf16 (Host.dotGeneral dot_S8192x8x256_S8448x8x256_S8x8192x8448_2_2_0_0_1_1 none (extractStridedSlice S8192x8x256 ![0, 0, 0] q slices_S8448x8x256_S8192x8x256_0_0_0) k) bitsLt_bf16_f32) bitsLt_bf16_f32) (broadcastInDim S8x8192x8448 ![] bcast_S_S8x8192x8448 (Host.sqrt (constant S_ .f32 0x43400000#32)))
/-- Those of the context's queries. -/
def scoreC (q k : FVec Ideal S8448x8x256 .f32) : FVec Ideal S8x256x256 .f32 :=
  Host.divf (extf .f32 (truncf .bf16 (Host.dotGeneral dot_S256x8x256_S256x8x256_S8x256x256_2_2_0_0_1_1 none (extractStridedSlice S256x8x256 ![8192, 0, 0] q slices_S8448x8x256_S256x8x256_8192_0_0) (extractStridedSlice S256x8x256 ![8192, 0, 0] k slices_S8448x8x256_S256x8x256_8192_0_0)) bitsLt_bf16_f32) bitsLt_bf16_f32) (broadcastInDim S8x256x256 ![] bcast_S_S8x256x256 (Host.sqrt (constant S_ .f32 0x43400000#32)))

def topM (s : FVec Ideal S8x8192x8448 .f32) : FVec Ideal S8x8192 .f32 := Host.reduce FloatOps.maximumf s (constant S_ .f32 0xFF800000#32) reducesTo_S8x8192x8448_S8x8192_d2 h_S_
def topC (s : FVec Ideal S8x256x256 .f32) : FVec Ideal S8x256 .f32 := Host.reduce FloatOps.maximumf s (constant S_ .f32 0xFF800000#32) reducesTo_S8x256x256_S8x256_d2 h_S_
def capM (a : FVec Ideal S8x8192 .f32) : FVec Ideal S8x8192 .f32 := maximumf (broadcastInDim S8x8192 ![] bcast_S_S8x8192 (constant S_ .f32 0xFF800000#32)) a
def capC (a : FVec Ideal S8x256 .f32) : FVec Ideal S8x256 .f32 := maximumf (broadcastInDim S8x256 ![] bcast_S_S8x256 (constant S_ .f32 0xFF800000#32)) a

def expM (s : FVec Ideal S8x8192x8448 .f32) (a : FVec Ideal S8x8192 .f32) : FVec Ideal S8x8192x8448 .f32 :=
  Host.exp (subf s (broadcastInDim S8x8192x8448 ![0, 1, 2] bcast_S8x8192x1_S8x8192x8448_0_1_2 (broadcastInDim S8x8192x1 ![0, 1] bcast_S8x8192_S8x8192x1_0_1 a)))
def expC (s : FVec Ideal S8x256x256 .f32) (a : FVec Ideal S8x256 .f32) : FVec Ideal S8x256x256 .f32 :=
  Host.exp (subf s (broadcastInDim S8x256x256 ![0, 1, 2] bcast_S8x256x1_S8x256x256_0_1_2 (broadcastInDim S8x256x1 ![0, 1] bcast_S8x256_S8x256x1_0_1 a)))
def normM (e : FVec Ideal S8x8192x8448 .f32) : FVec Ideal S8x8192 .f32 := Host.reduceAdd e (constant S_ .f32 0x00000000#32) reducesTo_S8x8192x8448_S8x8192_d2 h_S_
def normC (e : FVec Ideal S8x256x256 .f32) : FVec Ideal S8x256 .f32 := Host.reduceAdd e (constant S_ .f32 0x00000000#32) reducesTo_S8x256x256_S8x256_d2 h_S_
def probM (e : FVec Ideal S8x8192x8448 .f32) (z : FVec Ideal S8x8192 .f32) : FVec Ideal S8x8192x8448 .f32 :=
  Host.divf e (broadcastInDim S8x8192x8448 ![0, 1, 2] bcast_S8x8192x1_S8x8192x8448_0_1_2 (broadcastInDim S8x8192x1 ![0, 1] bcast_S8x8192_S8x8192x1_0_1 z))
def probC (e : FVec Ideal S8x256x256 .f32) (z : FVec Ideal S8x256 .f32) : FVec Ideal S8x256x256 .f32 :=
  Host.divf e (broadcastInDim S8x256x256 ![0, 1, 2] bcast_S8x256x1_S8x256x256_0_1_2 (broadcastInDim S8x256x1 ![0, 1] bcast_S8x256_S8x256x1_0_1 z))

/-- The outputs. -/
def outAll (v : FVec Ideal S8448x8x128 .f32) (p : FVec Ideal S8x8192x8448 .f32) (p' : FVec Ideal S8x256x256 .f32) : FVec Ideal S8448x1024 .f32 :=
  shapeCast _ (concatenate S8448x8x128 0 [⟨S8192x8x128, (transpose S8192x8x128 [2, 0, 1] (Host.dotGeneral dot_S8448x8x128_S8x8192x8448_S8x128x8192_0_2_2_1_1_0 none v (extf .f32 (truncf .bf16 p bitsLt_bf16_f32) bitsLt_bf16_f32)) transposes_S8x128x8192_S8192x8x128_2_0_1)⟩,
    ⟨S256x8x128, (transpose S256x8x128 [2, 0, 1] (Host.dotGeneral dot_S256x8x128_S8x256x256_S8x128x256_0_2_2_1_1_0 none (extractStridedSlice S256x8x128 ![8192, 0, 0] v slices_S8448x8x128_S256x8x128_8192_0_0) (extf .f32 (truncf .bf16 p' bitsLt_bf16_f32) bitsLt_bf16_f32)) transposes_S8x128x256_S256x8x128_2_0_1)⟩] concatenates_S8192x8x128_S256x8x128_S8448x8x128_d0) shapeCasts_S8448x8x128_S8448x1024
/-- The row log-sums. -/
def lseAll (a : FVec Ideal S8x8192 .f32) (z : FVec Ideal S8x8192 .f32) (a' z' : FVec Ideal S8x256 .f32) : FVec Ideal S8x8448x1 .f32 :=
  concatenate S8x8448x1 1 [⟨S8x8192x1, (Host.divf (addf (broadcastInDim S8x8192x1 ![0, 1] bcast_S8x8192_S8x8192x1_0_1 a) (Host.log (broadcastInDim S8x8192x1 ![0, 1] bcast_S8x8192_S8x8192x1_0_1 z))) (broadcastInDim S8x8192x1 ![] bcast_S_S8x8192x1 (Host.log (constant S_ .f32 0x40000000#32))))⟩,
    ⟨S8x256x1, (Host.divf (addf (broadcastInDim S8x256x1 ![0, 1] bcast_S8x256_S8x256x1_0_1 a') (Host.log (broadcastInDim S8x256x1 ![0, 1] bcast_S8x256_S8x256x1_0_1 z'))) (broadcastInDim S8x256x1 ![] bcast_S_S8x256x1 (Host.log (constant S_ .f32 0x40000000#32))))⟩] concatenates_S8x8192x1_S8x256x1_S8x8448x1_d1

/-- All outputs of queries, keys and values. -/
def attnOut (q k : FVec Ideal S8448x2048 .bf16) (v : FVec Ideal S8448x1024 .bf16) : FVec Ideal S8448x1024 .f32 :=
  outAll (vheads v)
    (probM (expM (scoreM (heads q) (heads k)) (capM (topM (scoreM (heads q) (heads k))))) (normM (expM (scoreM (heads q) (heads k)) (capM (topM (scoreM (heads q) (heads k)))))))
    (probC (expC (scoreC (heads q) (heads k)) (capC (topC (scoreC (heads q) (heads k))))) (normC (expC (scoreC (heads q) (heads k)) (capC (topC (scoreC (heads q) (heads k)))))))
/-- All row log-sums of queries and keys. -/
def attnLse (q k : FVec Ideal S8448x2048 .bf16) : FVec Ideal S8x8448x1 .f32 :=
  lseAll (topM (scoreM (heads q) (heads k))) (normM (expM (scoreM (heads q) (heads k)) (topM (scoreM (heads q) (heads k)))))
    (topC (scoreC (heads q) (heads k))) (normC (expC (scoreC (heads q) (heads k)) (topC (scoreC (heads q) (heads k)))))

theorem heads_at (x : FVec Ideal S8448x2048 .bf16) (X : ℕ → ℕ → ℝ) (hx : IsN x X) (r : Fin 8448) (h : Fin 8) (d : Fin 256) :
    heads x (ix3 r h d) = ((sh X 0 (256 * h.val) r.val d.val : ℝ) : EReal) := by
  pointwise [heads]
  rw [hx]
  simp only [sh, Nat.zero_add, Nat.mul_comm]

theorem vheads_at (x : FVec Ideal S8448x1024 .bf16) (X : ℕ → ℕ → ℝ) (hx : IsN x X) (r : Fin 8448) (h : Fin 8) (d : Fin 128) :
    vheads x (ix3 r h d) = ((sh X 0 (128 * h.val) r.val d.val : ℝ) : EReal) := by
  pointwise [vheads]
  rw [hx]
  simp only [sh, Nat.zero_add, Nat.mul_comm]

theorem scoreM_at (q k : FVec Ideal S8448x2048 .bf16) (Q K : ℕ → ℕ → ℝ) (hq : IsN q Q) (hk : IsN k K) (h : Fin 8) (i : Fin 8192) (j : Fin 8448) :
    scoreM (heads q) (heads k) (ix3 h i j) = ((cs * dotn 256 (sh Q 0 (256 * h.val)) (sh K 0 (256 * h.val)) i.val j.val : ℝ) : EReal) := by
  pointwise [scoreM]
  rw [sum_mul_coe (fun x => heads_at q Q hq _ h x) (fun x => heads_at k K hk j h x), div_scale]
  rfl

theorem scoreC_at (q k : FVec Ideal S8448x2048 .bf16) (Q K : ℕ → ℕ → ℝ) (hq : IsN q Q) (hk : IsN k K) (h : Fin 8) (i : Fin 256) (j : Fin 256) :
    scoreC (heads q) (heads k) (ix3 h i j) = ((cs * dotn 256 (sh Q 0 (256 * h.val)) (sh K 0 (256 * h.val)) (8192 + i.val) (8192 + j.val) : ℝ) : EReal) := by
  pointwise [scoreC]
  rw [sum_mul_coe (fun x => heads_at q Q hq _ h x) (fun x => heads_at k K hk _ h x), div_scale]
  rfl

theorem topM_at (s : FVec Ideal S8x8192x8448 .f32) (h : Fin 8) (i : Fin 8192) (S : Fin 8448 → ℝ) (hs : ∀ j, s (ix3 h i j) = ((S j : ℝ) : EReal)) :
    ∃ r : ℝ, topM s (ix2 h i) = (r : EReal) := by
  obtain ⟨r, hr⟩ := top_real (n := 8447) (fun j => s (ix3 h i j)) S hs
  refine ⟨r, ?_⟩
  pointwise [topM]
  exact hr

theorem topC_at (s : FVec Ideal S8x256x256 .f32) (h : Fin 8) (i : Fin 256) (S : Fin 256 → ℝ) (hs : ∀ j, s (ix3 h i j) = ((S j : ℝ) : EReal)) :
    ∃ r : ℝ, topC s (ix2 h i) = (r : EReal) := by
  obtain ⟨r, hr⟩ := top_real (n := 255) (fun j => s (ix3 h i j)) S hs
  refine ⟨r, ?_⟩
  pointwise [topC]
  exact hr

theorem capM_at (a : FVec Ideal S8x8192 .f32) (h : Fin 8) (i : Fin 8192) : capM a (ix2 h i) = a (ix2 h i) := by
  pointwise [capM]
  exact cap_real _

theorem capC_at (a : FVec Ideal S8x256 .f32) (h : Fin 8) (i : Fin 256) : capC a (ix2 h i) = a (ix2 h i) := by
  pointwise [capC]
  exact cap_real _

theorem probM_at (s : FVec Ideal S8x8192x8448 .f32) (a : FVec Ideal S8x8192 .f32) (h : Fin 8) (i : Fin 8192) (S : Fin 8448 → ℝ) (M : ℝ)
    (hs : ∀ j, s (ix3 h i j) = ((S j : ℝ) : EReal)) (ha : a (ix2 h i) = (M : EReal)) (j : Fin 8448) :
    probM (expM s a) (normM (expM s a)) (ix3 h i j) = ((Real.exp (S j) / ∑ x, Real.exp (S x) : ℝ) : EReal) := by
  pointwise [probM, expM, normM]
  rw [ha]
  exact prob_real (n := 8447) (fun j => s (ix3 h i j)) S M hs j

theorem probC_at (s : FVec Ideal S8x256x256 .f32) (a : FVec Ideal S8x256 .f32) (h : Fin 8) (i : Fin 256) (S : Fin 256 → ℝ) (M : ℝ)
    (hs : ∀ j, s (ix3 h i j) = ((S j : ℝ) : EReal)) (ha : a (ix2 h i) = (M : EReal)) (j : Fin 256) :
    probC (expC s a) (normC (expC s a)) (ix3 h i j) = ((Real.exp (S j) / ∑ x, Real.exp (S x) : ℝ) : EReal) := by
  pointwise [probC, expC, normC]
  rw [ha]
  exact prob_real (n := 255) (fun j => s (ix3 h i j)) S M hs j

theorem outAll_M (v : FVec Ideal S8448x8x128 .f32) (p : FVec Ideal S8x8192x8448 .f32) (p' : FVec Ideal S8x256x256 .f32) (i : Fin 8448) (d : Fin 1024) (hi : i.val < 8192) :
    outAll v p p' (ix2 i d) = ∑ x : Fin 8448, v (ix3 x ⟨d.val / 128, by omega⟩ ⟨d.val % 128, by omega⟩) * p (ix3 ⟨d.val / 128, by omega⟩ ⟨i.val, hi⟩ x) := by
  pointwise [outAll]
  exact dif_pos hi

theorem outAll_C (v : FVec Ideal S8448x8x128 .f32) (p : FVec Ideal S8x8192x8448 .f32) (p' : FVec Ideal S8x256x256 .f32) (i : Fin 8448) (d : Fin 1024) (hi : ¬ i.val < 8192) :
    outAll v p p' (ix2 i d) = ∑ x : Fin 256, v (ix3 ⟨8192 + x.val, by omega⟩ ⟨d.val / 128, by omega⟩ ⟨d.val % 128, by omega⟩) * p' (ix3 ⟨d.val / 128, by omega⟩ ⟨i.val - 8192, by omega⟩ x) := by
  pointwise [outAll]
  exact dif_neg hi

theorem lseAll_M (a z : FVec Ideal S8x8192 .f32) (a' z' : FVec Ideal S8x256 .f32) (h : Fin 8) (i : Fin 8448) (y : Fin 1) (hi : i.val < 8192) :
    lseAll a z a' z' (ix3 h i y) = Ideal.div (a (ix2 h ⟨i.val, hi⟩) + Ideal.log (z (ix2 h ⟨i.val, hi⟩))) (Ideal.log (Ideal.ofBits .f32 0x40000000#32)) := by
  pointwise [lseAll]
  exact dif_pos hi

theorem lseAll_C (a z : FVec Ideal S8x8192 .f32) (a' z' : FVec Ideal S8x256 .f32) (h : Fin 8) (i : Fin 8448) (y : Fin 1) (hi : ¬ i.val < 8192) :
    lseAll a z a' z' (ix3 h i y) = Ideal.div (a' (ix2 h ⟨i.val - 8192, by omega⟩) + Ideal.log (z' (ix2 h ⟨i.val - 8192, by omega⟩))) (Ideal.log (Ideal.ofBits .f32 0x40000000#32)) := by
  pointwise [lseAll]
  exact dif_neg hi

theorem logM_at (s : FVec Ideal S8x8192x8448 .f32) (a : FVec Ideal S8x8192 .f32) (h : Fin 8) (i : Fin 8192) (S : Fin 8448 → ℝ) (M : ℝ)
    (hs : ∀ j, s (ix3 h i j) = ((S j : ℝ) : EReal)) (ha : a (ix2 h i) = (M : EReal)) :
    Ideal.div (a (ix2 h i) + Ideal.log (normM (expM s a) (ix2 h i))) (Ideal.log (Ideal.ofBits .f32 0x40000000#32))
      = ((Real.log (∑ x, Real.exp (S x)) * (Real.log 2)⁻¹ : ℝ) : EReal) := by
  pointwise [normM, expM]
  rw [ha]
  exact lse_real (n := 8447) (fun j => s (ix3 h i j)) S M hs

theorem logC_at (s : FVec Ideal S8x256x256 .f32) (a : FVec Ideal S8x256 .f32) (h : Fin 8) (i : Fin 256) (S : Fin 256 → ℝ) (M : ℝ)
    (hs : ∀ j, s (ix3 h i j) = ((S j : ℝ) : EReal)) (ha : a (ix2 h i) = (M : EReal)) :
    Ideal.div (a (ix2 h i) + Ideal.log (normC (expC s a) (ix2 h i))) (Ideal.log (Ideal.ofBits .f32 0x40000000#32))
      = ((Real.log (∑ x, Real.exp (S x)) * (Real.log 2)⁻¹ : ℝ) : EReal) := by
  pointwise [normC, expC]
  rw [ha]
  exact lse_real (n := 255) (fun j => s (ix3 h i j)) S M hs

/-- The outputs: the rows of values under the softmax weights of the keys the row sees. -/
theorem attnOut_at (q k : FVec Ideal S8448x2048 .bf16) (v : FVec Ideal S8448x1024 .bf16) (Q K V : ℕ → ℕ → ℝ) (hq : IsN q Q) (hk : IsN k K) (hv : IsN v V)
    (i : Fin 8448) (d : Fin 1024) :
    attnOut q k v (ix2 i d) = ((totAt (i.val < 8192) (sh Q 0 (256 * (d.val / 128))) (sh K 0 (256 * (d.val / 128))) (sh V 0 (128 * (d.val / 128))) i.val (d.val % 128)
      / zAt (i.val < 8192) (sh Q 0 (256 * (d.val / 128))) (sh K 0 (256 * (d.val / 128))) i.val : ℝ) : EReal) := by
  have hd : d.val % 128 < 128 := Nat.mod_lt _ (by norm_num)
  unfold attnOut
  by_cases hi : i.val < 8192
  · rw [outAll_M _ _ _ i d hi]
    obtain ⟨M, hM⟩ := topM_at (scoreM (heads q) (heads k)) ⟨d.val / 128, by omega⟩ ⟨i.val, hi⟩ _ (fun j => scoreM_at q k Q K hq hk _ _ j)
    have hc := (capM_at (topM (scoreM (heads q) (heads k))) ⟨d.val / 128, by omega⟩ ⟨i.val, hi⟩).trans hM
    have hp := fun j => probM_at (scoreM (heads q) (heads k)) (capM (topM (scoreM (heads q) (heads k)))) ⟨d.val / 128, by omega⟩ ⟨i.val, hi⟩ _ M
      (fun j => scoreM_at q k Q K hq hk _ _ j) hc j
    rw [sum_mul_coe (fun x => vheads_at v V hv x _ _) hp]
    exact congrArg _ (mean_all _ hi _ _ _ i.val (d.val % 128) hd)
  · rw [outAll_C _ _ _ i d hi]
    have hi' : i.val - 8192 < 256 := by omega
    have e8 : 8192 + (i.val - 8192) = i.val := by omega
    obtain ⟨M, hM⟩ := topC_at (scoreC (heads q) (heads k)) ⟨d.val / 128, by omega⟩ ⟨i.val - 8192, hi'⟩ _ (fun j => scoreC_at q k Q K hq hk _ _ j)
    have hc := (capC_at (topC (scoreC (heads q) (heads k))) ⟨d.val / 128, by omega⟩ ⟨i.val - 8192, hi'⟩).trans hM
    have hp := fun j => probC_at (scoreC (heads q) (heads k)) (capC (topC (scoreC (heads q) (heads k)))) ⟨d.val / 128, by omega⟩ ⟨i.val - 8192, hi'⟩ _ M
      (fun j => scoreC_at q k Q K hq hk _ _ j) hc j
    have hv' : ∀ x : Fin 256, vheads v (ix3 ⟨8192 + x.val, by omega⟩ ⟨d.val / 128, by omega⟩ ⟨d.val % 128, by omega⟩) = _ := fun x => vheads_at v V hv ⟨8192 + x.val, by omega⟩ ⟨d.val / 128, by omega⟩ ⟨d.val % 128, by omega⟩
    rw [sum_mul_coe hv' hp]
    have e := mean_ctx _ hi (sh Q 0 (256 * (d.val / 128))) (sh K 0 (256 * (d.val / 128))) (sh V 0 (128 * (d.val / 128))) i.val (d.val % 128) hd
    rw [← e]
    simp only [e8]

/-- The row log-sums, in base two. -/
theorem attnLse_at (q k : FVec Ideal S8448x2048 .bf16) (Q K : ℕ → ℕ → ℝ) (hq : IsN q Q) (hk : IsN k K) (h : Fin 8) (i : Fin 8448) (y : Fin 1) :
    attnLse q k (ix3 h i y) = ((Real.log (zAt (i.val < 8192) (sh Q 0 (256 * h.val)) (sh K 0 (256 * h.val)) i.val) * (Real.log 2)⁻¹ : ℝ) : EReal) := by
  unfold attnLse
  by_cases hi : i.val < 8192
  · obtain ⟨M, hM⟩ := topM_at (scoreM (heads q) (heads k)) h ⟨i.val, hi⟩ _ (fun j => scoreM_at q k Q K hq hk _ _ j)
    rw [lseAll_M _ _ _ _ h i y hi, logM_at _ _ h ⟨i.val, hi⟩ _ M (fun j => scoreM_at q k Q K hq hk _ _ j) hM, zAt_all _ hi]
    rfl
  · have hi' : i.val - 8192 < 256 := by omega
    have e8 : 8192 + (i.val - 8192) = i.val := by omega
    obtain ⟨M, hM⟩ := topC_at (scoreC (heads q) (heads k)) h ⟨i.val - 8192, hi'⟩ _ (fun j => scoreC_at q k Q K hq hk _ _ j)
    rw [lseAll_C _ _ _ _ h i y hi, logC_at _ _ h ⟨i.val - 8192, hi'⟩ _ M (fun j => scoreC_at q k Q K hq hk _ _ j) hM, zAt_ctx _ hi]
    simp only [e8]
    rfl

theorem res_out (m : (ℓ : Loc nD τ sig) → Buf (Elt Ideal) ℓ) (c : Dev nD) :
    res_out0 m c = attnOut (m ((c.tc : Thread nD τ).loc main_arg0)) (m ((c.tc : Thread nD τ).loc main_arg1)) (m ((c.tc : Thread nD τ).loc main_arg2)) := rfl

theorem res_lse (m : (ℓ : Loc nD τ sig) → Buf (Elt Ideal) ℓ) (c : Dev nD) :
    res_out1 m c = attnLse (m ((c.tc : Thread nD τ).loc main_arg0)) (m ((c.tc : Thread nD τ).loc main_arg1)) := rfl

end Cert.FwdRefIdeal.Value

end
-- ==== Proof.FAlg.lean ====
/-
  The forward call's claims: its frames, its idealization, and that over the reals its results are the reference's.
-/
module

public import proofs.«01_k».proof.Defs
public import proofs.«01_k».proof.Proof.FFinal
public import proofs.«01_k».proof.Proof.FRef
public import proofs.«01_k».proof.Proof.FRunBits
public import proofs.«01_k».proof.Proof.Finite
public import Idealize.ShloMosaic.Lib.Quiescent

@[expose] public section

set_option maxRecDepth 16384

noncomputable section

namespace Cert.Proof

open Idealize.ShloMosaic Idealize.ShloMosaic.TcCoe Idealize.SL.Sem
open Mla

theorem fwd_frame : quiescent_Fwd (hFwd := Cert.Fwd.Gen.facts) := fun m ρ _ =>
  (θ_run Cert.Fwd.defs _ _).mono (fun r h => ⟨fun c => (h.1 c).2.2, h.2⟩) (Cert.Fwd.Own.ran_named (F := Bits) m ρ)

theorem fwdIdeal_frame : quiescent_FwdIdeal (hFwdIdeal := Cert.FwdIdeal.Gen.facts) := fun m ρ _ =>
  (θ_run Cert.FwdIdeal.defs _ _).mono (fun r h => ⟨fun c => (h.1 c).2.2, h.2⟩) (Cert.FwdIdeal.Own.ran_named (F := Ideal) m ρ)

theorem fwdIdeal_frame' : quiescent_FwdIdeal_pre_finite_fwd (hFwdIdeal := Cert.FwdIdeal.Gen.facts) (hPre_finite_fwd := Cert.Pre_finite_fwd.Gen.facts) :=
  fun m ρ _ => fwdIdeal_frame m ρ trivial

theorem fwdRef_frame : quiescent_FwdRefIdeal (hFwdRefIdeal := Cert.FwdRefIdeal.Gen.facts) := fun m ρ _ =>
  (θ_run Cert.FwdRefIdeal.defs _ _).mono (fun r h => ⟨fun c => (h c).2.2, sem_eq_zero_of_no_sems (by decide) r.2⟩)
    (Cert.FwdRefIdeal.Value.run (F := Ideal) m ρ)

theorem fwdRef_frame' : quiescent_FwdRefIdeal_pre_finite_fwd (hFwdRefIdeal := Cert.FwdRefIdeal.Gen.facts) (hPre_finite_fwd := Cert.Pre_finite_fwd.Gen.facts) :=
  fun m ρ _ => fwdRef_frame m ρ trivial

theorem fwd_preserves : preserves_Fwd_FwdIdeal :=
  ⟨IdealRules.named_const.statement Cert.FwdIdeal.κ "scale_log2e" .f32 _ _ rfl, IdealRules.named_const.statement Cert.FwdIdeal.κ "log2e" .f32 _ _ rfl⟩

/-- The two programs' results are the same real numbers. -/
theorem fwd_values (q k : FVec Ideal ⟨2, ![8448, 2048]⟩ .bf16) (v : FVec Ideal ⟨2, ![8448, 1024]⟩ .bf16) (Q K V : ℕ → ℕ → ℝ) (hq : IsN q Q) (hk : IsN k K) (hv : IsN v V) :
    (Cert.FwdRefIdeal.Value.attnOut q k v = fun y => ((outR Q K V (y 0).val (y 1).val : ℝ) : EReal))
      ∧ Cert.FwdRefIdeal.Value.attnLse q k = fun y => ((lseR Q K (y 0).val (y 1).val : ℝ) : EReal) := by
  refine ⟨funext fun y => ?_, funext fun y => ?_⟩
  · idx_vars y
    exact Cert.FwdRefIdeal.Value.attnOut_at q k v Q K V hq hk hv _ _
  · idx_vars y
    exact Cert.FwdRefIdeal.Value.attnLse_at q k Q K hq hk _ _ _

theorem fwd_algebraic : algebraic_FwdIdeal_FwdRefIdeal_pre_finite_fwd (hFwdIdeal := Cert.FwdIdeal.Gen.facts) (hFwdRefIdeal := Cert.FwdRefIdeal.Gen.facts)
    (hPre_finite_fwd := Cert.Pre_finite_fwd.Gen.facts) := by
  intro m ρ m' ρ' hpre hargs
  refine ⟨fun c => (Cert.FwdIdeal.Own.run m 0 c).arrAt 3 Cert.FwdIdeal.cfg0.N, fun c => (Cert.FwdIdeal.Own.run m 0 c).arrAt 4 Cert.FwdIdeal.cfg0.N,
    (θ_run Cert.FwdIdeal.defs _ _).mono (fun r h => h.1) (Cert.FwdIdeal.Own.ran_named (F := Ideal) m ρ),
    (θ_run Cert.FwdRefIdeal.defs _ _).mono (fun r h c => ?_) (Cert.FwdRefIdeal.Value.run (F := Ideal) m' ρ')⟩
  obtain ⟨a0, a1, a2⟩ := hargs c
  obtain ⟨⟨Q, hq⟩, ⟨K, hk⟩, ⟨V, hv⟩⟩ := Cert.Pre_finite_fwd.Own.reals _ _ _ (hpre c)
  obtain ⟨e0, e1⟩ := fwd_values _ _ _ Q K V hq hk hv
  refine ⟨(h c).1.trans ?_, (h c).2.1.trans ?_, (h c).2.2⟩
  · refine Eq.trans ?_ (Cert.FwdIdeal.Value.finalO m c Q K V hq hk hv).symm
    refine (Cert.FwdRefIdeal.Value.res_out m' c).trans ?_
    rw [a0, a1, a2]
    exact e0
  · refine Eq.trans ?_ (Cert.FwdIdeal.Value.finalL m c Q K V hq hk hv).symm
    refine (Cert.FwdRefIdeal.Value.res_lse m' c).trans ?_
    rw [a0, a1]
    exact e1

end Cert.Proof

end
-- ==== Proof.MUp.lean ====
/- The product that widens the feed-forward net: the call's result is the reference's, and its frames. -/
module

public import proofs.«01_k».proof.Defs
public import proofs.«01_k».proof.Proof.Gen.Up.Frame
public import proofs.«01_k».proof.Proof.Gen.UpIdeal.Frame
public import proofs.«01_k».proof.Proof.Gen.UpRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.UpRefIdeal.Value

open Cert.UpRefIdeal Cert.UpRefIdeal.Gen Idealize.ShloMosaic Idealize.ShloMosaic.TcCoe Idealize.SL.Sem

def out0 (a0 : FVec Ideal S8448x1024 .bf16) (a1 : FVec Ideal S2816x1024 .bf16) : FVec Ideal S8448x2816 .bf16 :=
  truncf .bf16 (Host.dotGeneral (φ₁ := .f32) (φ₂ := .f32) dot_S8448x1024_S1024x2816_S8448x2816_1_0_0_1_n_n none (extf .f32 a0 bitsLt_bf16_f32) (transpose S1024x2816 [1, 0] (extf .f32 a1 bitsLt_bf16_f32) transposes_S2816x1024_S1024x2816_1_0)) bitsLt_bf16_f32

end Cert.UpRefIdeal.Value

namespace Cert.UpIdeal.Value

open Idealize.ShloMosaic Idealize.ShloMosaic.TcCoe Idealize.SL.Sem
open Idealize.ShloMosaic.Pipeline (Dat)
open Cert.UpIdeal Cert.UpIdeal.Gen

variable (m : (ℓ : Loc nD τ sig) → Buf (Elt Ideal) ℓ)

theorem places : ∀ t : Fin cfg0.N, win0_0.index t = ![t.val, 0] ∧ win0_1.index t = ![0, 0] ∧ win0_2.index t = ![t.val, 0] :=
  (by decide +kernel : ∀ t : Fin grid0.N, _)

theorem final0 (c : Dev nD) : (dats m 0 c).arrAt 2 (cfgs 0).N
    = Cert.UpRefIdeal.Value.out0 (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.UpRefIdeal.Value.out0]
  blk_point [iblk, V, places t]

end Cert.UpIdeal.Value

namespace Cert.Proof

open Idealize.ShloMosaic Idealize.ShloMosaic.TcCoe Idealize.SL.Sem

theorem Up_frame : quiescent_Up (hUp := Cert.Up.Gen.facts) := fun m ρ _ => Cert.Up.Gen.frame m ρ

theorem UpIdeal_frame : quiescent_UpIdeal (hUpIdeal := Cert.UpIdeal.Gen.facts) := fun m ρ _ => Cert.UpIdeal.Gen.frame m ρ

theorem UpRefIdeal_frame : quiescent_UpRefIdeal (hUpRefIdeal := Cert.UpRefIdeal.Gen.facts) := fun m ρ _ =>
  (θ_run Cert.UpRefIdeal.defs _ _).mono (fun r h => ⟨fun c => (h c).2, sem_eq_zero_of_no_sems (by decide) r.2⟩)
    (Cert.UpRefIdeal.Value.run (F := Ideal) m ρ)

theorem Up_preserves : preserves_Up_UpIdeal := trivial

theorem Up_algebraic : algebraic_UpIdeal_UpRefIdeal (hUpIdeal := Cert.UpIdeal.Gen.facts) (hUpRefIdeal := Cert.UpRefIdeal.Gen.facts) := by
  pair_intro
  · run_from Cert.UpIdeal.Gen.run_main m g
  · run_from Cert.UpRefIdeal.Value.run (F := Ideal) m' g'
    exact (Cert.UpIdeal.Value.final0 m c).symm

end Cert.Proof

end
-- ==== Proof.MDownDa.lean ====
/- The gradient of the narrowing product's left factor: the call's result is the reference's, and its frames. -/
module

public import proofs.«01_k».proof.Defs
public import proofs.«01_k».proof.Proof.Gen.DownDa.Frame
public import proofs.«01_k».proof.Proof.Gen.DownDaIdeal.Frame
public import proofs.«01_k».proof.Proof.Gen.DownDaRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.DownDaRefIdeal.Value

open Cert.DownDaRefIdeal Cert.DownDaRefIdeal.Gen Idealize.ShloMosaic Idealize.ShloMosaic.TcCoe Idealize.SL.Sem

def out0 (a0 : FVec Ideal S8448x1024 .bf16) (a1 : FVec Ideal S2816x1024 .bf16) : FVec Ideal S8448x2816 .f32 :=
  Host.dotGeneral (φ₁ := .f32) (φ₂ := .f32) dot_S8448x1024_S2816x1024_S8448x2816_1_1_0_0_n_n none (extf .f32 a0 bitsLt_bf16_f32) (extf .f32 a1 bitsLt_bf16_f32)

end Cert.DownDaRefIdeal.Value

namespace Cert.DownDaIdeal.Value

open Idealize.ShloMosaic Idealize.ShloMosaic.TcCoe Idealize.SL.Sem
open Idealize.ShloMosaic.Pipeline (Dat)
open Cert.DownDaIdeal Cert.DownDaIdeal.Gen

variable (m : (ℓ : Loc nD τ sig) → Buf (Elt Ideal) ℓ)

theorem places : ∀ t : Fin cfg0.N, win0_0.index t = ![t.val, 0] ∧ win0_1.index t = ![0, 0] ∧ win0_2.index t = ![t.val, 0] :=
  (by decide +kernel : ∀ t : Fin grid0.N, _)

theorem final0 (c : Dev nD) : (dats m 0 c).arrAt 2 (cfgs 0).N
    = Cert.DownDaRefIdeal.Value.out0 (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.DownDaRefIdeal.Value.out0]
  blk_point [iblk, V, places t]

end Cert.DownDaIdeal.Value

namespace Cert.Proof

open Idealize.ShloMosaic Idealize.ShloMosaic.TcCoe Idealize.SL.Sem

theorem DownDa_frame : quiescent_DownDa (hDownDa := Cert.DownDa.Gen.facts) := fun m ρ _ => Cert.DownDa.Gen.frame m ρ

theorem DownDaIdeal_frame : quiescent_DownDaIdeal (hDownDaIdeal := Cert.DownDaIdeal.Gen.facts) := fun m ρ _ => Cert.DownDaIdeal.Gen.frame m ρ

theorem DownDaRefIdeal_frame : quiescent_DownDaRefIdeal (hDownDaRefIdeal := Cert.DownDaRefIdeal.Gen.facts) := fun m ρ _ =>
  (θ_run Cert.DownDaRefIdeal.defs _ _).mono (fun r h => ⟨fun c => (h c).2, sem_eq_zero_of_no_sems (by decide) r.2⟩)
    (Cert.DownDaRefIdeal.Value.run (F := Ideal) m ρ)

theorem DownDa_preserves : preserves_DownDa_DownDaIdeal := trivial

theorem DownDa_algebraic : algebraic_DownDaIdeal_DownDaRefIdeal (hDownDaIdeal := Cert.DownDaIdeal.Gen.facts) (hDownDaRefIdeal := Cert.DownDaRefIdeal.Gen.facts) := by
  pair_intro
  · run_from Cert.DownDaIdeal.Gen.run_main m g
  · run_from Cert.DownDaRefIdeal.Value.run (F := Ideal) m' g'
    exact (Cert.DownDaIdeal.Value.final0 m c).symm

end Cert.Proof

end
-- ==== Proof.MProjDa.lean ====
/- The gradient of a projection's left factor: the call's result is the reference's, and its frames. -/
module

public import proofs.«01_k».proof.Defs
public import proofs.«01_k».proof.Proof.Gen.ProjDa.Frame
public import proofs.«01_k».proof.Proof.Gen.ProjDaIdeal.Frame
public import proofs.«01_k».proof.Proof.Gen.ProjDaRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.ProjDaRefIdeal.Value

open Cert.ProjDaRefIdeal Cert.ProjDaRefIdeal.Gen Idealize.ShloMosaic Idealize.ShloMosaic.TcCoe Idealize.SL.Sem

def out0 (a0 : FVec Ideal S8448x1024 .bf16) (a1 : FVec Ideal S1024x1024 .bf16) : FVec Ideal S8448x1024 .f32 :=
  Host.dotGeneral (φ₁ := .f32) (φ₂ := .f32) dot_S8448x1024_S1024x1024_S8448x1024_1_1_0_0_n_n none (extf .f32 a0 bitsLt_bf16_f32) (extf .f32 a1 bitsLt_bf16_f32)

end Cert.ProjDaRefIdeal.Value

namespace Cert.ProjDaIdeal.Value

open Idealize.ShloMosaic Idealize.ShloMosaic.TcCoe Idealize.SL.Sem
open Idealize.ShloMosaic.Pipeline (Dat)
open Cert.ProjDaIdeal Cert.ProjDaIdeal.Gen

variable (m : (ℓ : Loc nD τ sig) → Buf (Elt Ideal) ℓ)

theorem places : ∀ t : Fin cfg0.N, win0_0.index t = ![t.val, 0] ∧ win0_1.index t = ![0, 0] ∧ win0_2.index t = ![t.val, 0] :=
  (by decide +kernel : ∀ t : Fin grid0.N, _)

theorem final0 (c : Dev nD) : (dats m 0 c).arrAt 2 (cfgs 0).N
    = Cert.ProjDaRefIdeal.Value.out0 (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.ProjDaRefIdeal.Value.out0]
  blk_point [iblk, V, places t]

end Cert.ProjDaIdeal.Value

namespace Cert.Proof

open Idealize.ShloMosaic Idealize.ShloMosaic.TcCoe Idealize.SL.Sem

theorem ProjDa_frame : quiescent_ProjDa (hProjDa := Cert.ProjDa.Gen.facts) := fun m ρ _ => Cert.ProjDa.Gen.frame m ρ

theorem ProjDaIdeal_frame : quiescent_ProjDaIdeal (hProjDaIdeal := Cert.ProjDaIdeal.Gen.facts) := fun m ρ _ => Cert.ProjDaIdeal.Gen.frame m ρ

theorem ProjDaRefIdeal_frame : quiescent_ProjDaRefIdeal (hProjDaRefIdeal := Cert.ProjDaRefIdeal.Gen.facts) := fun m ρ _ =>
  (θ_run Cert.ProjDaRefIdeal.defs _ _).mono (fun r h => ⟨fun c => (h c).2, sem_eq_zero_of_no_sems (by decide) r.2⟩)
    (Cert.ProjDaRefIdeal.Value.run (F := Ideal) m ρ)

theorem ProjDa_preserves : preserves_ProjDa_ProjDaIdeal := trivial

theorem ProjDa_algebraic : algebraic_ProjDaIdeal_ProjDaRefIdeal (hProjDaIdeal := Cert.ProjDaIdeal.Gen.facts) (hProjDaRefIdeal := Cert.ProjDaRefIdeal.Gen.facts) := by
  pair_intro
  · run_from Cert.ProjDaIdeal.Gen.run_main m g
  · run_from Cert.ProjDaRefIdeal.Value.run (F := Ideal) m' g'
    exact (Cert.ProjDaIdeal.Value.final0 m c).symm

end Cert.Proof

end
-- ==== Proof.MProjF.lean ====
/- A projection of a branch: the call's result is the reference's, and its frames. -/
module

public import proofs.«01_k».proof.Defs
public import proofs.«01_k».proof.Proof.Gen.ProjF.Frame
public import proofs.«01_k».proof.Proof.Gen.ProjFIdeal.Frame
public import proofs.«01_k».proof.Proof.Gen.ProjFRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.ProjFRefIdeal.Value

open Cert.ProjFRefIdeal Cert.ProjFRefIdeal.Gen Idealize.ShloMosaic Idealize.ShloMosaic.TcCoe Idealize.SL.Sem

def out0 (a0 : FVec Ideal S8448x1024 .f32) (a1 : FVec Ideal S1024x1024 .bf16) : FVec Ideal S8448x1024 .bf16 :=
  truncf .bf16 (Host.dotGeneral (φ₁ := .f32) (φ₂ := .f32) dot_S8448x1024_S1024x1024_S8448x1024_1_0_0_1_n_n none a0 (extf .f32 a1 bitsLt_bf16_f32)) bitsLt_bf16_f32

end Cert.ProjFRefIdeal.Value

namespace Cert.ProjFIdeal.Value

open Idealize.ShloMosaic Idealize.ShloMosaic.TcCoe Idealize.SL.Sem
open Idealize.ShloMosaic.Pipeline (Dat)
open Cert.ProjFIdeal Cert.ProjFIdeal.Gen

variable (m : (ℓ : Loc nD τ sig) → Buf (Elt Ideal) ℓ)

theorem places : ∀ t : Fin cfg0.N, win0_0.index t = ![t.val, 0] ∧ win0_1.index t = ![0, 0] ∧ win0_2.index t = ![t.val, 0] :=
  (by decide +kernel : ∀ t : Fin grid0.N, _)

theorem final0 (c : Dev nD) : (dats m 0 c).arrAt 2 (cfgs 0).N
    = Cert.ProjFRefIdeal.Value.out0 (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.ProjFRefIdeal.Value.out0]
  blk_point [iblk, V, places t]

end Cert.ProjFIdeal.Value

namespace Cert.Proof

open Idealize.ShloMosaic Idealize.ShloMosaic.TcCoe Idealize.SL.Sem

theorem ProjF_frame : quiescent_ProjF (hProjF := Cert.ProjF.Gen.facts) := fun m ρ _ => Cert.ProjF.Gen.frame m ρ

theorem ProjFIdeal_frame : quiescent_ProjFIdeal (hProjFIdeal := Cert.ProjFIdeal.Gen.facts) := fun m ρ _ => Cert.ProjFIdeal.Gen.frame m ρ

theorem ProjFRefIdeal_frame : quiescent_ProjFRefIdeal (hProjFRefIdeal := Cert.ProjFRefIdeal.Gen.facts) := fun m ρ _ =>
  (θ_run Cert.ProjFRefIdeal.defs _ _).mono (fun r h => ⟨fun c => (h c).2, sem_eq_zero_of_no_sems (by decide) r.2⟩)
    (Cert.ProjFRefIdeal.Value.run (F := Ideal) m ρ)

theorem ProjF_preserves : preserves_ProjF_ProjFIdeal := trivial

theorem ProjF_algebraic : algebraic_ProjFIdeal_ProjFRefIdeal (hProjFIdeal := Cert.ProjFIdeal.Gen.facts) (hProjFRefIdeal := Cert.ProjFRefIdeal.Gen.facts) := by
  pair_intro
  · run_from Cert.ProjFIdeal.Gen.run_main m g
  · run_from Cert.ProjFRefIdeal.Value.run (F := Ideal) m' g'
    exact (Cert.ProjFIdeal.Value.final0 m c).symm

end Cert.Proof

end
-- ==== Proof.MProjB.lean ====
/- A projection of a branch, of rounded rows: the call's result is the reference's, and its frames. -/
module

public import proofs.«01_k».proof.Defs
public import proofs.«01_k».proof.Proof.Gen.ProjB.Frame
public import proofs.«01_k».proof.Proof.Gen.ProjBIdeal.Frame
public import proofs.«01_k».proof.Proof.Gen.ProjBRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.ProjBRefIdeal.Value

open Cert.ProjBRefIdeal Cert.ProjBRefIdeal.Gen Idealize.ShloMosaic Idealize.ShloMosaic.TcCoe Idealize.SL.Sem

def out0 (a0 : FVec Ideal S8448x1024 .bf16) (a1 : FVec Ideal S1024x1024 .bf16) : FVec Ideal S8448x1024 .bf16 :=
  truncf .bf16 (Host.dotGeneral (φ₁ := .f32) (φ₂ := .f32) dot_S8448x1024_S1024x1024_S8448x1024_1_0_0_1_n_n none (extf .f32 a0 bitsLt_bf16_f32) (extf .f32 a1 bitsLt_bf16_f32)) bitsLt_bf16_f32

end Cert.ProjBRefIdeal.Value

namespace Cert.ProjBIdeal.Value

open Idealize.ShloMosaic Idealize.ShloMosaic.TcCoe Idealize.SL.Sem
open Idealize.ShloMosaic.Pipeline (Dat)
open Cert.ProjBIdeal Cert.ProjBIdeal.Gen

variable (m : (ℓ : Loc nD τ sig) → Buf (Elt Ideal) ℓ)

theorem places : ∀ t : Fin cfg0.N, win0_0.index t = ![t.val, 0] ∧ win0_1.index t = ![0, 0] ∧ win0_2.index t = ![t.val, 0] :=
  (by decide +kernel : ∀ t : Fin grid0.N, _)

theorem final0 (c : Dev nD) : (dats m 0 c).arrAt 2 (cfgs 0).N
    = Cert.ProjBRefIdeal.Value.out0 (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.ProjBRefIdeal.Value.out0]
  blk_point [iblk, V, places t]

end Cert.ProjBIdeal.Value

namespace Cert.Proof

open Idealize.ShloMosaic Idealize.ShloMosaic.TcCoe Idealize.SL.Sem

theorem ProjB_frame : quiescent_ProjB (hProjB := Cert.ProjB.Gen.facts) := fun m ρ _ => Cert.ProjB.Gen.frame m ρ

theorem ProjBIdeal_frame : quiescent_ProjBIdeal (hProjBIdeal := Cert.ProjBIdeal.Gen.facts) := fun m ρ _ => Cert.ProjBIdeal.Gen.frame m ρ

theorem ProjBRefIdeal_frame : quiescent_ProjBRefIdeal (hProjBRefIdeal := Cert.ProjBRefIdeal.Gen.facts) := fun m ρ _ =>
  (θ_run Cert.ProjBRefIdeal.defs _ _).mono (fun r h => ⟨fun c => (h c).2, sem_eq_zero_of_no_sems (by decide) r.2⟩)
    (Cert.ProjBRefIdeal.Value.run (F := Ideal) m ρ)

theorem ProjB_preserves : preserves_ProjB_ProjBIdeal := trivial

theorem ProjB_algebraic : algebraic_ProjBIdeal_ProjBRefIdeal (hProjBIdeal := Cert.ProjBIdeal.Gen.facts) (hProjBRefIdeal := Cert.ProjBRefIdeal.Gen.facts) := by
  pair_intro
  · run_from Cert.ProjBIdeal.Gen.run_main m g
  · run_from Cert.ProjBRefIdeal.Value.run (F := Ideal) m' g'
    exact (Cert.ProjBIdeal.Value.final0 m c).symm

end Cert.Proof

end
-- ==== Proof.MOut.lean ====
/- The output projection: the call's result is the reference's, and its frames. -/
module

public import proofs.«01_k».proof.Defs
public import proofs.«01_k».proof.Proof.Gen.Out.Frame
public import proofs.«01_k».proof.Proof.Gen.OutIdeal.Frame
public import proofs.«01_k».proof.Proof.Gen.OutRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.OutRefIdeal.Value

open Cert.OutRefIdeal Cert.OutRefIdeal.Gen Idealize.ShloMosaic Idealize.ShloMosaic.TcCoe Idealize.SL.Sem

def out0 (a0 : FVec Ideal S8448x1024 .bf16) (a1 : FVec Ideal S1024x1024 .bf16) : FVec Ideal S8448x1024 .f32 :=
  Host.dotGeneral (φ₁ := .f32) (φ₂ := .f32) dot_S8448x1024_S1024x1024_S8448x1024_1_0_0_1_n_n none (extf .f32 a0 bitsLt_bf16_f32) (extf .f32 a1 bitsLt_bf16_f32)

end Cert.OutRefIdeal.Value

namespace Cert.OutIdeal.Value

open Idealize.ShloMosaic Idealize.ShloMosaic.TcCoe Idealize.SL.Sem
open Idealize.ShloMosaic.Pipeline (Dat)
open Cert.OutIdeal Cert.OutIdeal.Gen

variable (m : (ℓ : Loc nD τ sig) → Buf (Elt Ideal) ℓ)

theorem places : ∀ t : Fin cfg0.N, win0_0.index t = ![t.val, 0] ∧ win0_1.index t = ![0, 0] ∧ win0_2.index t = ![t.val, 0] :=
  (by decide +kernel : ∀ t : Fin grid0.N, _)

theorem final0 (c : Dev nD) : (dats m 0 c).arrAt 2 (cfgs 0).N
    = Cert.OutRefIdeal.Value.out0 (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.OutRefIdeal.Value.out0]
  blk_point [iblk, V, places t]

end Cert.OutIdeal.Value

namespace Cert.Proof

open Idealize.ShloMosaic Idealize.ShloMosaic.TcCoe Idealize.SL.Sem

theorem Out_frame : quiescent_Out (hOut := Cert.Out.Gen.facts) := fun m ρ _ => Cert.Out.Gen.frame m ρ

theorem OutIdeal_frame : quiescent_OutIdeal (hOutIdeal := Cert.OutIdeal.Gen.facts) := fun m ρ _ => Cert.OutIdeal.Gen.frame m ρ

theorem OutRefIdeal_frame : quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

theorem Out_preserves : preserves_Out_OutIdeal := trivial

theorem Out_algebraic : algebraic_OutIdeal_OutRefIdeal (hOutIdeal := Cert.OutIdeal.Gen.facts) (hOutRefIdeal := Cert.OutRefIdeal.Gen.facts) := by
  pair_intro
  · run_from Cert.OutIdeal.Gen.run_main m g
  · run_from Cert.OutRefIdeal.Value.run (F := Ideal) m' g'
    exact (Cert.OutIdeal.Value.final0 m c).symm

end Cert.Proof

end
-- ==== Proof.MIn0.lean ====
/- The input projection, its first seven parts: the call's result is the reference's, and its frames. -/
module

public import proofs.«01_k».proof.Defs
public import proofs.«01_k».proof.Proof.Gen.In0.Frame
public import proofs.«01_k».proof.Proof.Gen.In0Ideal.Frame
public import proofs.«01_k».proof.Proof.Gen.In0RefIdeal.Run
public import Idealize.ShloMosaic.Lib.Pipeline.ValueKit
public import Idealize.ShloMosaic.Lib.Claim
public import Idealize.ShloMosaic.Lib.Quiescent

@[expose] public section

set_option maxRecDepth 16384

noncomputable section

namespace Cert.In0RefIdeal.Value

open Cert.In0RefIdeal Cert.In0RefIdeal.Gen Idealize.ShloMosaic Idealize.ShloMosaic.TcCoe Idealize.SL.Sem

def out0 (a0 : FVec Ideal S8448x1024 .bf16) (a1 : FVec Ideal S1536x1024 .bf16) (a2 : FVec Ideal S32x1024 .bf16) (a3 : FVec Ideal S256x1024 .bf16) (a4 : FVec Ideal S256x1024 .bf16) (a5 : FVec Ideal S256x1024 .bf16) (a6 : FVec Ideal S128x1024 .bf16) (a7 : FVec Ideal S1024x1024 .bf16) : FVec Ideal S8448x1536 .f32 :=
  Host.dotGeneral (φ₁ := .f32) (φ₂ := .f32) dot_S8448x1024_S1024x1536_S8448x1536_1_0_0_1_n_n none (extf .f32 a0 bitsLt_bf16_f32) (transpose S1024x1536 [1, 0] (extf .f32 a1 bitsLt_bf16_f32) transposes_S1536x1024_S1024x1536_1_0)

def out1 (a0 : FVec Ideal S8448x1024 .bf16) (a1 : FVec Ideal S1536x1024 .bf16) (a2 : FVec Ideal S32x1024 .bf16) (a3 : FVec Ideal S256x1024 .bf16) (a4 : FVec Ideal S256x1024 .bf16) (a5 : FVec Ideal S256x1024 .bf16) (a6 : FVec Ideal S128x1024 .bf16) (a7 : FVec Ideal S1024x1024 .bf16) : FVec Ideal S8448x32 .f32 :=
  Host.dotGeneral (φ₁ := .f32) (φ₂ := .f32) dot_S8448x1024_S1024x32_S8448x32_1_0_0_1_n_n none (extf .f32 a0 bitsLt_bf16_f32) (transpose S1024x32 [1, 0] (extf .f32 a2 bitsLt_bf16_f32) transposes_S32x1024_S1024x32_1_0)

def out2 (a0 : FVec Ideal S8448x1024 .bf16) (a1 : FVec Ideal S1536x1024 .bf16) (a2 : FVec Ideal S32x1024 .bf16) (a3 : FVec Ideal S256x1024 .bf16) (a4 : FVec Ideal S256x1024 .bf16) (a5 : FVec Ideal S256x1024 .bf16) (a6 : FVec Ideal S128x1024 .bf16) (a7 : FVec Ideal S1024x1024 .bf16) : FVec Ideal S8448x256 .f32 :=
  Host.dotGeneral (φ₁ := .f32) (φ₂ := .f32) dot_S8448x1024_S1024x256_S8448x256_1_0_0_1_n_n none (extf .f32 a0 bitsLt_bf16_f32) (transpose S1024x256 [1, 0] (extf .f32 a3 bitsLt_bf16_f32) transposes_S256x1024_S1024x256_1_0)

def out3 (a0 : FVec Ideal S8448x1024 .bf16) (a1 : FVec Ideal S1536x1024 .bf16) (a2 : FVec Ideal S32x1024 .bf16) (a3 : FVec Ideal S256x1024 .bf16) (a4 : FVec Ideal S256x1024 .bf16) (a5 : FVec Ideal S256x1024 .bf16) (a6 : FVec Ideal S128x1024 .bf16) (a7 : FVec Ideal S1024x1024 .bf16) : FVec Ideal S8448x256 .f32 :=
  Host.dotGeneral (φ₁ := .f32) (φ₂ := .f32) dot_S8448x1024_S1024x256_S8448x256_1_0_0_1_n_n none (extf .f32 a0 bitsLt_bf16_f32) (transpose S1024x256 [1, 0] (extf .f32 a4 bitsLt_bf16_f32) transposes_S256x1024_S1024x256_1_0)

def out4 (a0 : FVec Ideal S8448x1024 .bf16) (a1 : FVec Ideal S1536x1024 .bf16) (a2 : FVec Ideal S32x1024 .bf16) (a3 : FVec Ideal S256x1024 .bf16) (a4 : FVec Ideal S256x1024 .bf16) (a5 : FVec Ideal S256x1024 .bf16) (a6 : FVec Ideal S128x1024 .bf16) (a7 : FVec Ideal S1024x1024 .bf16) : FVec Ideal S8448x256 .f32 :=
  Host.dotGeneral (φ₁ := .f32) (φ₂ := .f32) dot_S8448x1024_S1024x256_S8448x256_1_0_0_1_n_n none (extf .f32 a0 bitsLt_bf16_f32) (transpose S1024x256 [1, 0] (extf .f32 a5 bitsLt_bf16_f32) transposes_S256x1024_S1024x256_1_0)

def out5 (a0 : FVec Ideal S8448x1024 .bf16) (a1 : FVec Ideal S1536x1024 .bf16) (a2 : FVec Ideal S32x1024 .bf16) (a3 : FVec Ideal S256x1024 .bf16) (a4 : FVec Ideal S256x1024 .bf16) (a5 : FVec Ideal S256x1024 .bf16) (a6 : FVec Ideal S128x1024 .bf16) (a7 : FVec Ideal S1024x1024 .bf16) : FVec Ideal S8448x128 .f32 :=
  Host.dotGeneral (φ₁ := .f32) (φ₂ := .f32) dot_S8448x1024_S1024x128_S8448x128_1_0_0_1_n_n none (extf .f32 a0 bitsLt_bf16_f32) (transpose S1024x128 [1, 0] (extf .f32 a6 bitsLt_bf16_f32) transposes_S128x1024_S1024x128_1_0)

def out6 (a0 : FVec Ideal S8448x1024 .bf16) (a1 : FVec Ideal S1536x1024 .bf16) (a2 : FVec Ideal S32x1024 .bf16) (a3 : FVec Ideal S256x1024 .bf16) (a4 : FVec Ideal S256x1024 .bf16) (a5 : FVec Ideal S256x1024 .bf16) (a6 : FVec Ideal S128x1024 .bf16) (a7 : FVec Ideal S1024x1024 .bf16) : FVec Ideal S8448x1024 .f32 :=
  Host.dotGeneral (φ₁ := .f32) (φ₂ := .f32) dot_S8448x1024_S1024x1024_S8448x1024_1_0_0_1_n_n none (extf .f32 a0 bitsLt_bf16_f32) (transpose S1024x1024 [1, 0] (extf .f32 a7 bitsLt_bf16_f32) transposes_S1024x1024_S1024x1024_1_0)

end Cert.In0RefIdeal.Value

namespace Cert.In0Ideal.Value

open Idealize.ShloMosaic Idealize.ShloMosaic.TcCoe Idealize.SL.Sem
open Idealize.ShloMosaic.Pipeline (Dat)
open Cert.In0Ideal Cert.In0Ideal.Gen

variable (m : (ℓ : Loc nD τ sig) → Buf (Elt Ideal) ℓ)

theorem places : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem final0 (c : Dev nD) : (dats m 0 c).arrAt 8 (cfgs 0).N
    = Cert.In0RefIdeal.Value.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  frame_out
  pointwise [k0_pay2, Cert.In0RefIdeal.Value.out0]
  blk_point [iblk, V, places t]

theorem final1 (c : Dev nD) : (dats m 0 c).arrAt 9 (cfgs 0).N
    = Cert.In0RefIdeal.Value.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  frame_out
  pointwise [k0_pay3, Cert.In0RefIdeal.Value.out1]
  blk_point [iblk, V, places t]

theorem final2 (c : Dev nD) : (dats m 0 c).arrAt 10 (cfgs 0).N
    = Cert.In0RefIdeal.Value.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  frame_out
  pointwise [k0_pay4, Cert.In0RefIdeal.Value.out2]
  blk_point [iblk, V, places t]

theorem final3 (c : Dev nD) : (dats m 0 c).arrAt 11 (cfgs 0).N
    = Cert.In0RefIdeal.Value.out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  frame_out
  pointwise [k0_pay5, Cert.In0RefIdeal.Value.out3]
  blk_point [iblk, V, places t]

theorem final4 (c : Dev nD) : (dats m 0 c).arrAt 12 (cfgs 0).N
    = Cert.In0RefIdeal.Value.out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t _ y => ?_
  blk_simp
  rw [after0_12]
  frame_out
  pointwise [k0_pay6, Cert.In0RefIdeal.Value.out4]
  blk_point [iblk, V, places t]

theorem final5 (c : Dev nD) : (dats m 0 c).arrAt 13 (cfgs 0).N
    = Cert.In0RefIdeal.Value.out5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t _ y => ?_
  blk_simp
  rw [after0_13]
  frame_out
  pointwise [k0_pay7, Cert.In0RefIdeal.Value.out5]
  blk_point [iblk, V, places t]

theorem final6 (c : Dev nD) : (dats m 0 c).arrAt 14 (cfgs 0).N
    = Cert.In0RefIdeal.Value.out6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 14 _ (by decide +kernel) fun t _ y => ?_
  blk_simp
  rw [after0_14]
  frame_out
  pointwise [k0_pay1, Cert.In0RefIdeal.Value.out6]
  blk_point [iblk, V, places t]

end Cert.In0Ideal.Value

namespace Cert.Proof

open Idealize.ShloMosaic Idealize.ShloMosaic.TcCoe Idealize.SL.Sem

theorem In0_frame : quiescent_In0 (hIn0 := Cert.In0.Gen.facts) := fun m ρ _ => Cert.In0.Gen.frame m ρ

theorem In0Ideal_frame : quiescent_In0Ideal (hIn0Ideal := Cert.In0Ideal.Gen.facts) := fun m ρ _ => Cert.In0Ideal.Gen.frame m ρ

theorem In0RefIdeal_frame : quiescent_In0RefIdeal (hIn0RefIdeal := Cert.In0RefIdeal.Gen.facts) := fun m ρ _ =>
  (θ_run Cert.In0RefIdeal.defs _ _).mono (fun r h => ⟨fun c => (h c).2.2.2.2.2.2.2, sem_eq_zero_of_no_sems (by decide) r.2⟩)
    (Cert.In0RefIdeal.Value.run (F := Ideal) m ρ)

theorem In0_preserves : preserves_In0_In0Ideal := trivial

set_option maxHeartbeats 2000000 in
theorem In0_algebraic : algebraic_In0Ideal_In0RefIdeal (hIn0Ideal := Cert.In0Ideal.Gen.facts) (hIn0RefIdeal := Cert.In0RefIdeal.Gen.facts) := by
  pair_intro
  · run_from Cert.In0Ideal.Gen.run_main m g
  · run_from Cert.In0RefIdeal.Value.run (F := Ideal) m' g'
    · exact (Cert.In0Ideal.Value.final0 m c).symm
    · exact (Cert.In0Ideal.Value.final1 m c).symm
    · exact (Cert.In0Ideal.Value.final2 m c).symm
    · exact (Cert.In0Ideal.Value.final3 m c).symm
    · exact (Cert.In0Ideal.Value.final4 m c).symm
    · exact (Cert.In0Ideal.Value.final5 m c).symm
    · exact (Cert.In0Ideal.Value.final6 m c).symm

end Cert.Proof

end
-- ==== Proof.MIn1.lean ====
/- The input projection, its last five parts: the call's result is the reference's, and its frames. -/
module

public import proofs.«01_k».proof.Defs
public import proofs.«01_k».proof.Proof.Gen.In1.Frame
public import proofs.«01_k».proof.Proof.Gen.In1Ideal.Frame
public import proofs.«01_k».proof.Proof.Gen.In1RefIdeal.Run
public import Idealize.ShloMosaic.Lib.Pipeline.ValueKit
public import Idealize.ShloMosaic.Lib.Claim
public import Idealize.ShloMosaic.Lib.Quiescent

@[expose] public section

set_option maxRecDepth 16384

noncomputable section

namespace Cert.In1RefIdeal.Value

open Cert.In1RefIdeal Cert.In1RefIdeal.Gen Idealize.ShloMosaic Idealize.ShloMosaic.TcCoe Idealize.SL.Sem

def out0 (a0 : FVec Ideal S8448x1024 .bf16) (a1 : FVec Ideal S1024x1024 .bf16) (a2 : FVec Ideal S384x1024 .bf16) (a3 : FVec Ideal S1024x1024 .bf16) (a4 : FVec Ideal S1024x1024 .bf16) (a5 : FVec Ideal S1024x1024 .bf16) : FVec Ideal S8448x1024 .f32 :=
  Host.dotGeneral (φ₁ := .f32) (φ₂ := .f32) dot_S8448x1024_S1024x1024_S8448x1024_1_0_0_1_n_n none (extf .f32 a0 bitsLt_bf16_f32) (transpose S1024x1024 [1, 0] (extf .f32 a1 bitsLt_bf16_f32) transposes_S1024x1024_S1024x1024_1_0)

def out1 (a0 : FVec Ideal S8448x1024 .bf16) (a1 : FVec Ideal S1024x1024 .bf16) (a2 : FVec Ideal S384x1024 .bf16) (a3 : FVec Ideal S1024x1024 .bf16) (a4 : FVec Ideal S1024x1024 .bf16) (a5 : FVec Ideal S1024x1024 .bf16) : FVec Ideal S8448x384 .f32 :=
  Host.dotGeneral (φ₁ := .f32) (φ₂ := .f32) dot_S8448x1024_S1024x384_S8448x384_1_0_0_1_n_n none (extf .f32 a0 bitsLt_bf16_f32) (transpose S1024x384 [1, 0] (extf .f32 a2 bitsLt_bf16_f32) transposes_S384x1024_S1024x384_1_0)

def out2 (a0 : FVec Ideal S8448x1024 .bf16) (a1 : FVec Ideal S1024x1024 .bf16) (a2 : FVec Ideal S384x1024 .bf16) (a3 : FVec Ideal S1024x1024 .bf16) (a4 : FVec Ideal S1024x1024 .bf16) (a5 : FVec Ideal S1024x1024 .bf16) : FVec Ideal S8448x1024 .bf16 :=
  truncf .bf16 (Host.dotGeneral (φ₁ := .f32) (φ₂ := .f32) dot_S8448x1024_S1024x1024_S8448x1024_1_0_0_1_n_n none (extf .f32 a0 bitsLt_bf16_f32) (transpose S1024x1024 [1, 0] (extf .f32 a3 bitsLt_bf16_f32) transposes_S1024x1024_S1024x1024_1_0)) bitsLt_bf16_f32

def out3 (a0 : FVec Ideal S8448x1024 .bf16) (a1 : FVec Ideal S1024x1024 .bf16) (a2 : FVec Ideal S384x1024 .bf16) (a3 : FVec Ideal S1024x1024 .bf16) (a4 : FVec Ideal S1024x1024 .bf16) (a5 : FVec Ideal S1024x1024 .bf16) : FVec Ideal S8448x1024 .bf16 :=
  truncf .bf16 (Host.dotGeneral (φ₁ := .f32) (φ₂ := .f32) dot_S8448x1024_S1024x1024_S8448x1024_1_0_0_1_n_n none (extf .f32 a0 bitsLt_bf16_f32) (transpose S1024x1024 [1, 0] (extf .f32 a4 bitsLt_bf16_f32) transposes_S1024x1024_S1024x1024_1_0)) bitsLt_bf16_f32

def out4 (a0 : FVec Ideal S8448x1024 .bf16) (a1 : FVec Ideal S1024x1024 .bf16) (a2 : FVec Ideal S384x1024 .bf16) (a3 : FVec Ideal S1024x1024 .bf16) (a4 : FVec Ideal S1024x1024 .bf16) (a5 : FVec Ideal S1024x1024 .bf16) : FVec Ideal S8448x1024 .bf16 :=
  truncf .bf16 (Host.dotGeneral (φ₁ := .f32) (φ₂ := .f32) dot_S8448x1024_S1024x1024_S8448x1024_1_0_0_1_n_n none (extf .f32 a0 bitsLt_bf16_f32) (transpose S1024x1024 [1, 0] (extf .f32 a5 bitsLt_bf16_f32) transposes_S1024x1024_S1024x1024_1_0)) bitsLt_bf16_f32

end Cert.In1RefIdeal.Value

namespace Cert.In1Ideal.Value

open Idealize.ShloMosaic Idealize.ShloMosaic.TcCoe Idealize.SL.Sem
open Idealize.ShloMosaic.Pipeline (Dat)
open Cert.In1Ideal Cert.In1Ideal.Gen

variable (m : (ℓ : Loc nD τ sig) → Buf (Elt Ideal) ℓ)

theorem places : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

theorem final0 (c : Dev nD) : (dats m 0 c).arrAt 6 (cfgs 0).N
    = Cert.In1RefIdeal.Value.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  pointwise [k0_pay1, Cert.In1RefIdeal.Value.out0]
  blk_point [iblk, V, places t]

theorem final1 (c : Dev nD) : (dats m 0 c).arrAt 7 (cfgs 0).N
    = Cert.In1RefIdeal.Value.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  pointwise [k0_pay2, Cert.In1RefIdeal.Value.out1]
  blk_point [iblk, V, places t]

theorem final2 (c : Dev nD) : (dats m 0 c).arrAt 8 (cfgs 0).N
    = Cert.In1RefIdeal.Value.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  frame_out
  pointwise [k0_pay3, Cert.In1RefIdeal.Value.out2]
  blk_point [iblk, V, places t]

theorem final3 (c : Dev nD) : (dats m 0 c).arrAt 9 (cfgs 0).N
    = Cert.In1RefIdeal.Value.out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  frame_out
  pointwise [k0_pay4, Cert.In1RefIdeal.Value.out3]
  blk_point [iblk, V, places t]

theorem final4 (c : Dev nD) : (dats m 0 c).arrAt 10 (cfgs 0).N
    = Cert.In1RefIdeal.Value.out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10]
  frame_out
  pointwise [k0_pay5, Cert.In1RefIdeal.Value.out4]
  blk_point [iblk, V, places t]

end Cert.In1Ideal.Value

namespace Cert.Proof

open Idealize.ShloMosaic Idealize.ShloMosaic.TcCoe Idealize.SL.Sem

theorem In1_frame : quiescent_In1 (hIn1 := Cert.In1.Gen.facts) := fun m ρ _ => Cert.In1.Gen.frame m ρ

theorem In1Ideal_frame : quiescent_In1Ideal (hIn1Ideal := Cert.In1Ideal.Gen.facts) := fun m ρ _ => Cert.In1Ideal.Gen.frame m ρ

theorem In1RefIdeal_frame : quiescent_In1RefIdeal (hIn1RefIdeal := Cert.In1RefIdeal.Gen.facts) := fun m ρ _ =>
  (θ_run Cert.In1RefIdeal.defs _ _).mono (fun r h => ⟨fun c => (h c).2.2.2.2.2, sem_eq_zero_of_no_sems (by decide) r.2⟩)
    (Cert.In1RefIdeal.Value.run (F := Ideal) m ρ)

theorem In1_preserves : preserves_In1_In1Ideal := trivial

theorem In1_algebraic : algebraic_In1Ideal_In1RefIdeal (hIn1Ideal := Cert.In1Ideal.Gen.facts) (hIn1RefIdeal := Cert.In1RefIdeal.Gen.facts) := by
  pair_intro
  · run_from Cert.In1Ideal.Gen.run_main m g
  · run_from Cert.In1RefIdeal.Value.run (F := Ideal) m' g'
    · exact (Cert.In1Ideal.Value.final0 m c).symm
    · exact (Cert.In1Ideal.Value.final1 m c).symm
    · exact (Cert.In1Ideal.Value.final2 m c).symm
    · exact (Cert.In1Ideal.Value.final3 m c).symm
    · exact (Cert.In1Ideal.Value.final4 m c).symm

end Cert.Proof

end
-- ==== Proof.MInDa0.lean ====
/- The gradient of the input projection, its first seven parts: the call's result is the reference's, and its frames. -/
module

public import proofs.«01_k».proof.Defs
public import proofs.«01_k».proof.Proof.Gen.InDa0.Frame
public import proofs.«01_k».proof.Proof.Gen.InDa0Ideal.Frame
public import proofs.«01_k».proof.Proof.Gen.InDa0RefIdeal.Run
public import Idealize.ShloMosaic.Lib.Pipeline.ValueKit
public import Idealize.ShloMosaic.Lib.Claim
public import Idealize.ShloMosaic.Lib.Quiescent

@[expose] public section

set_option maxRecDepth 16384

noncomputable section

namespace Cert.InDa0RefIdeal.Value

open Cert.InDa0RefIdeal Cert.InDa0RefIdeal.Gen Idealize.ShloMosaic Idealize.ShloMosaic.TcCoe Idealize.SL.Sem

def out0 (a0 : FVec Ideal S8448x1536 .bf16) (a1 : FVec Ideal S8448x32 .bf16) (a2 : FVec Ideal S8448x256 .bf16) (a3 : FVec Ideal S8448x256 .bf16) (a4 : FVec Ideal S8448x256 .bf16) (a5 : FVec Ideal S8448x128 .bf16) (a6 : FVec Ideal S8448x1024 .bf16) (a7 : FVec Ideal S1536x1024 .bf16) (a8 : FVec Ideal S32x1024 .bf16) (a9 : FVec Ideal S256x1024 .bf16) (a10 : FVec Ideal S256x1024 .bf16) (a11 : FVec Ideal S256x1024 .bf16) (a12 : FVec Ideal S128x1024 .bf16) (a13 : FVec Ideal S1024x1024 .bf16) : FVec Ideal S8448x1024 .f32 :=
  addf (addf (addf (addf (addf (addf (Host.dotGeneral (φ₁ := .f32) (φ₂ := .f32) dot_S8448x1536_S1024x1536_S8448x1024_1_1_0_0_n_n none (extf .f32 a0 bitsLt_bf16_f32) (transpose S1024x1536 [1, 0] (extf .f32 a7 bitsLt_bf16_f32) transposes_S1536x1024_S1024x1536_1_0)) (Host.dotGeneral (φ₁ := .f32) (φ₂ := .f32) dot_S8448x32_S1024x32_S8448x1024_1_1_0_0_n_n none (extf .f32 a1 bitsLt_bf16_f32) (transpose S1024x32 [1, 0] (extf .f32 a8 bitsLt_bf16_f32) transposes_S32x1024_S1024x32_1_0))) (Host.dotGeneral (φ₁ := .f32) (φ₂ := .f32) dot_S8448x256_S1024x256_S8448x1024_1_1_0_0_n_n none (extf .f32 a2 bitsLt_bf16_f32) (transpose S1024x256 [1, 0] (extf .f32 a9 bitsLt_bf16_f32) transposes_S256x1024_S1024x256_1_0))) (Host.dotGeneral (φ₁ := .f32) (φ₂ := .f32) dot_S8448x256_S1024x256_S8448x1024_1_1_0_0_n_n none (extf .f32 a3 bitsLt_bf16_f32) (transpose S1024x256 [1, 0] (extf .f32 a10 bitsLt_bf16_f32) transposes_S256x1024_S1024x256_1_0))) (Host.dotGeneral (φ₁ := .f32) (φ₂ := .f32) dot_S8448x256_S1024x256_S8448x1024_1_1_0_0_n_n none (extf .f32 a4 bitsLt_bf16_f32) (transpose S1024x256 [1, 0] (extf .f32 a11 bitsLt_bf16_f32) transposes_S256x1024_S1024x256_1_0))) (Host.dotGeneral (φ₁ := .f32) (φ₂ := .f32) dot_S8448x128_S1024x128_S8448x1024_1_1_0_0_n_n none (extf .f32 a5 bitsLt_bf16_f32) (transpose S1024x128 [1, 0] (extf .f32 a12 bitsLt_bf16_f32) transposes_S128x1024_S1024x128_1_0))) (Host.dotGeneral (φ₁ := .f32) (φ₂ := .f32) dot_S8448x1024_S1024x1024_S8448x1024_1_1_0_0_n_n none (extf .f32 a6 bitsLt_bf16_f32) (transpose S1024x1024 [1, 0] (extf .f32 a13 bitsLt_bf16_f32) transposes_S1024x1024_S1024x1024_1_0))

end Cert.InDa0RefIdeal.Value

namespace Cert.InDa0Ideal.Value

open Idealize.ShloMosaic Idealize.ShloMosaic.TcCoe Idealize.SL.Sem
open Idealize.ShloMosaic.Pipeline (Dat)
open Cert.InDa0Ideal Cert.InDa0Ideal.Gen

variable (m : (ℓ : Loc nD τ sig) → Buf (Elt Ideal) ℓ)

theorem places : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![0, 0] ∧ win0_6.index t = ![t.val, 0] ∧ win0_7.index t = ![0, 0] ∧ win0_8.index t = ![t.val, 0] ∧ win0_9.index t = ![0, 0] ∧ win0_10.index t = ![t.val, 0] ∧ win0_11.index t = ![0, 0] ∧ win0_12.index t = ![t.val, 0] ∧ win0_13.index t = ![0, 0] ∧ win0_14.index t = ![t.val, 0] :=
  (by decide +kernel : ∀ t : Fin grid0.N, _)

set_option maxHeartbeats 2000000 in
theorem final0 (c : Dev nD) : (dats m 0 c).arrAt 14 (cfgs 0).N
    = Cert.InDa0RefIdeal.Value.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t _ y => ?_
  blk_simp
  rw [after0_14]
  frame_out
  pointwise [k0_pay1, k0_pay2, Cert.InDa0RefIdeal.Value.out0]
  blk_point [iblk, V, places t]

end Cert.InDa0Ideal.Value

namespace Cert.Proof

open Idealize.ShloMosaic Idealize.ShloMosaic.TcCoe Idealize.SL.Sem

theorem InDa0_frame : quiescent_InDa0 (hInDa0 := Cert.InDa0.Gen.facts) := fun m ρ _ => Cert.InDa0.Gen.frame m ρ

theorem InDa0Ideal_frame : quiescent_InDa0Ideal (hInDa0Ideal := Cert.InDa0Ideal.Gen.facts) := fun m ρ _ => Cert.InDa0Ideal.Gen.frame m ρ

theorem InDa0RefIdeal_frame : quiescent_InDa0RefIdeal (hInDa0RefIdeal := Cert.InDa0RefIdeal.Gen.facts) := fun m ρ _ =>
  (θ_run Cert.InDa0RefIdeal.defs _ _).mono (fun r h => ⟨fun c => (h c).2, sem_eq_zero_of_no_sems (by decide) r.2⟩)
    (Cert.InDa0RefIdeal.Value.run (F := Ideal) m ρ)

theorem InDa0_preserves : preserves_InDa0_InDa0Ideal := trivial

set_option maxHeartbeats 2000000 in
theorem InDa0_algebraic : algebraic_InDa0Ideal_InDa0RefIdeal (hInDa0Ideal := Cert.InDa0Ideal.Gen.facts) (hInDa0RefIdeal := Cert.InDa0RefIdeal.Gen.facts) := by
  pair_intro
  · run_from Cert.InDa0Ideal.Gen.run_main m g
  · run_from Cert.InDa0RefIdeal.Value.run (F := Ideal) m' g'
    exact (Cert.InDa0Ideal.Value.final0 m c).symm

end Cert.Proof

end
-- ==== Proof.MInDa1.lean ====
/- The gradient of the input projection, its last five parts: the call's result is the reference's, and its frames. -/
module

public import proofs.«01_k».proof.Defs
public import proofs.«01_k».proof.Proof.Gen.InDa1.Frame
public import proofs.«01_k».proof.Proof.Gen.InDa1Ideal.Frame
public import proofs.«01_k».proof.Proof.Gen.InDa1RefIdeal.Run
public import Idealize.ShloMosaic.Lib.Pipeline.ValueKit
public import Idealize.ShloMosaic.Lib.Claim
public import Idealize.ShloMosaic.Lib.Quiescent

@[expose] public section

set_option maxRecDepth 16384

noncomputable section

namespace Cert.InDa1RefIdeal.Value

open Cert.InDa1RefIdeal Cert.InDa1RefIdeal.Gen Idealize.ShloMosaic Idealize.ShloMosaic.TcCoe Idealize.SL.Sem

def out0 (a0 : FVec Ideal S8448x1024 .f32) (a1 : FVec Ideal S8448x1024 .bf16) (a2 : FVec Ideal S8448x384 .bf16) (a3 : FVec Ideal S8448x1024 .bf16) (a4 : FVec Ideal S8448x1024 .bf16) (a5 : FVec Ideal S8448x1024 .bf16) (a6 : FVec Ideal S1024x1024 .bf16) (a7 : FVec Ideal S384x1024 .bf16) (a8 : FVec Ideal S1024x1024 .bf16) (a9 : FVec Ideal S1024x1024 .bf16) (a10 : FVec Ideal S1024x1024 .bf16) : FVec Ideal S8448x1024 .f32 :=
  addf (addf (addf (addf (addf a0 (Host.dotGeneral (φ₁ := .f32) (φ₂ := .f32) dot_S8448x1024_S1024x1024_S8448x1024_1_1_0_0_n_n none (extf .f32 a1 bitsLt_bf16_f32) (transpose S1024x1024 [1, 0] (extf .f32 a6 bitsLt_bf16_f32) transposes_S1024x1024_S1024x1024_1_0))) (Host.dotGeneral (φ₁ := .f32) (φ₂ := .f32) dot_S8448x384_S1024x384_S8448x1024_1_1_0_0_n_n none (extf .f32 a2 bitsLt_bf16_f32) (transpose S1024x384 [1, 0] (extf .f32 a7 bitsLt_bf16_f32) transposes_S384x1024_S1024x384_1_0))) (Host.dotGeneral (φ₁ := .f32) (φ₂ := .f32) dot_S8448x1024_S1024x1024_S8448x1024_1_1_0_0_n_n none (extf .f32 a3 bitsLt_bf16_f32) (transpose S1024x1024 [1, 0] (extf .f32 a8 bitsLt_bf16_f32) transposes_S1024x1024_S1024x1024_1_0))) (Host.dotGeneral (φ₁ := .f32) (φ₂ := .f32) dot_S8448x1024_S1024x1024_S8448x1024_1_1_0_0_n_n none (extf .f32 a4 bitsLt_bf16_f32) (transpose S1024x1024 [1, 0] (extf .f32 a9 bitsLt_bf16_f32) transposes_S1024x1024_S1024x1024_1_0))) (Host.dotGeneral (φ₁ := .f32) (φ₂ := .f32) dot_S8448x1024_S1024x1024_S8448x1024_1_1_0_0_n_n none (extf .f32 a5 bitsLt_bf16_f32) (transpose S1024x1024 [1, 0] (extf .f32 a10 bitsLt_bf16_f32) transposes_S1024x1024_S1024x1024_1_0))

end Cert.InDa1RefIdeal.Value

namespace Cert.InDa1Ideal.Value

open Idealize.ShloMosaic Idealize.ShloMosaic.TcCoe Idealize.SL.Sem
open Idealize.ShloMosaic.Pipeline (Dat)
open Cert.InDa1Ideal Cert.InDa1Ideal.Gen

variable (m : (ℓ : Loc nD τ sig) → Buf (Elt Ideal) ℓ)

theorem places : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![0, 0] ∧ win0_6.index t = ![t.val, 0] ∧ win0_7.index t = ![0, 0] ∧ win0_8.index t = ![t.val, 0] ∧ win0_9.index t = ![0, 0] ∧ win0_10.index t = ![t.val, 0] ∧ win0_11.index t = ![t.val, 0] :=
  (by decide +kernel : ∀ t : Fin grid0.N, _)

theorem final0 (c : Dev nD) : (dats m 0 c).arrAt 11 (cfgs 0).N
    = Cert.InDa1RefIdeal.Value.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  frame_out
  pointwise [k0_pay1, Cert.InDa1RefIdeal.Value.out0]
  blk_point [iblk, V_main_arg0, V_main_arg1, V_main_arg2, V_main_arg3, V_main_arg4, V_main_arg5, V_main_arg6, V_main_arg7, V_main_arg8, V_main_arg9, V_main_arg10, places t]

end Cert.InDa1Ideal.Value

namespace Cert.Proof

open Idealize.ShloMosaic Idealize.ShloMosaic.TcCoe Idealize.SL.Sem

theorem InDa1_frame : quiescent_InDa1 (hInDa1 := Cert.InDa1.Gen.facts) := fun m ρ _ => Cert.InDa1.Gen.frame m ρ

theorem InDa1Ideal_frame : quiescent_InDa1Ideal (hInDa1Ideal := Cert.InDa1Ideal.Gen.facts) := fun m ρ _ => Cert.InDa1Ideal.Gen.frame m ρ

theorem InDa1RefIdeal_frame : quiescent_InDa1RefIdeal (hInDa1RefIdeal := Cert.InDa1RefIdeal.Gen.facts) := fun m ρ _ =>
  (θ_run Cert.InDa1RefIdeal.defs _ _).mono (fun r h => ⟨fun c => (h c).2, sem_eq_zero_of_no_sems (by decide) r.2⟩)
    (Cert.InDa1RefIdeal.Value.run (F := Ideal) m ρ)

theorem InDa1_preserves : preserves_InDa1_InDa1Ideal := trivial

theorem InDa1_algebraic : algebraic_InDa1Ideal_InDa1RefIdeal (hInDa1Ideal := Cert.InDa1Ideal.Gen.facts) (hInDa1RefIdeal := Cert.InDa1RefIdeal.Gen.facts) := by
  pair_intro
  · run_from Cert.InDa1Ideal.Gen.run_main m g
  · run_from Cert.InDa1RefIdeal.Value.run (F := Ideal) m' g'
    exact (Cert.InDa1Ideal.Value.final0 m c).symm

end Cert.Proof

end
-- ==== Proof.MDown.lean ====
/- The narrowing product: the call's result is the reference's, and its frames. -/
module

public import proofs.«01_k».proof.Defs
public import proofs.«01_k».proof.Proof.Gen.Down.Frame
public import proofs.«01_k».proof.Proof.Gen.DownIdeal.Frame
public import proofs.«01_k».proof.Proof.Gen.DownRefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.DownRefIdeal.Value

open Cert.DownRefIdeal Cert.DownRefIdeal.Gen Idealize.ShloMosaic Idealize.ShloMosaic.TcCoe Idealize.SL.Sem

def out0 (a0 : FVec Ideal S8448x2816 .bf16) (a1 : FVec Ideal S2816x1024 .bf16) : FVec Ideal S8448x1024 .f32 :=
  Host.dotGeneral (φ₁ := .f32) (φ₂ := .f32) dot_S8448x2816_S2816x1024_S8448x1024_1_0_0_1_n_n none (extf .f32 a0 bitsLt_bf16_f32) (extf .f32 a1 bitsLt_bf16_f32)

theorem out0_at (a0 : FVec Ideal S8448x2816 .bf16) (a1 : FVec Ideal S2816x1024 .bf16) (j : S8448x1024.Idx) :
    out0 a0 a1 j = ∑ l : Fin 2816, a0 (ix2 (j 0) l) * a1 (ix2 l (j 1)) := by
  pointwise! [out0]

end Cert.DownRefIdeal.Value

namespace Cert.DownIdeal.Value

open Idealize.ShloMosaic Idealize.ShloMosaic.TcCoe Idealize.SL.Sem
open Idealize.ShloMosaic.Pipeline (Dat)
open Cert.DownIdeal Cert.DownIdeal.Gen

variable (m : (ℓ : Loc nD τ sig) → Buf (Elt Ideal) ℓ)

theorem places : ∀ t : Fin cfg0.N, win0_0.index t = ![t.val / 2, t.val % 2] ∧ win0_1.index t = ![t.val % 2, 0] ∧ win0_2.index t = ![t.val / 2, 0] :=
  (by decide +kernel : ∀ t : Fin grid0.N, _)

theorem first_at (x : Vec Ideal S768x1408 .bf16) (w : Vec Ideal S1408x1024 .bf16) (j : S768x1024.Idx) :
    k0_pay2 x w j = ∑ k : Fin 1408, x (ix2 (j 0) k) * w (ix2 k (j 1)) := by
  pointwise! [k0_pay2, k0_pay1]

theorem step_at (x : Vec Ideal S768x1408 .bf16) (w : Vec Ideal S1408x1024 .bf16) (acc : Vec Ideal S768x1024 .f32) (j : S768x1024.Idx) :
    k0_pay3 x w acc j = acc j + ∑ k : Fin 1408, x (ix2 (j 0) k) * w (ix2 k (j 1)) := by
  pointwise [k0_pay3, k0_pay1]

theorem stored (c : Dev nD) (t : Fin cfg0.N) (h : t.val % 2 = 1) (j : S768x1024.Idx) :
    (outsAt0 m c t.val t.isLt).1 j = (outsAt0 m c t.val t.isLt).2 j := by
  rw [outsAt0_B m c t (by omega) h h]
  frame_out

theorem final0 (c : Dev nD) : (dats m 0 c).arrAt 2 (cfgs 0).N
    = Cert.DownRefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 2 (fun _ => 0) _
    (fun (t : Fin cfg0.N) (h : t.val % 2 = 0) j => by
      rw [outsAt0_A m c t h (by omega) (by omega)]; frame_out; rw [first_at, zero_add])
    (fun (t : Fin cfg0.N) (h : ¬t.val % 2 = 0) j => by
      rw [outsAt0_B m c t h (by omega) (by omega)]; frame_out; rw [step_at, read_unread_whole])
    t hr _, zero_add, Cert.DownRefIdeal.Value.out0_at]
  refine Fin.sum_mul_add_congr fun s k hl => ?_
  blk_point [iblk, V, places t, places ⟨_, Pipeline.run_point_lt_of_flush t hr s⟩]

end Cert.DownIdeal.Value

namespace Cert.Proof

open Idealize.ShloMosaic Idealize.ShloMosaic.TcCoe Idealize.SL.Sem

theorem Down_frame : quiescent_Down (hDown := Cert.Down.Gen.facts) := fun m ρ _ => Cert.Down.Gen.frame m ρ

theorem DownIdeal_frame : quiescent_DownIdeal (hDownIdeal := Cert.DownIdeal.Gen.facts) := fun m ρ _ => Cert.DownIdeal.Gen.frame m ρ

theorem DownRefIdeal_frame : quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run (F := Ideal) m ρ)

theorem Down_preserves : preserves_Down_DownIdeal := trivial

theorem Down_algebraic : algebraic_DownIdeal_DownRefIdeal (hDownIdeal := Cert.DownIdeal.Gen.facts) (hDownRefIdeal := Cert.DownRefIdeal.Gen.facts) := by
  pair_intro
  · run_from Cert.DownIdeal.Gen.run_main m g
  · run_from Cert.DownRefIdeal.Value.run (F := Ideal) m' g'
    exact (Cert.DownIdeal.Value.final0 m c).symm

end Cert.Proof

end
-- ==== Proof.MGateDa.lean ====
/- The gradient of the gate product's left factor: the call's result is the reference's, and its frames. -/
module

public import proofs.«01_k».proof.Defs
public import proofs.«01_k».proof.Proof.Gen.GateDa.Frame
public import proofs.«01_k».proof.Proof.Gen.GateDaIdeal.Frame
public import proofs.«01_k».proof.Proof.Gen.GateDaRefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.GateDaRefIdeal.Value

open Cert.GateDaRefIdeal Cert.GateDaRefIdeal.Gen Idealize.ShloMosaic Idealize.ShloMosaic.TcCoe Idealize.SL.Sem

def out0 (a0 : FVec Ideal S8448x2816 .bf16) (a1 : FVec Ideal S2816x1024 .bf16) : FVec Ideal S8448x1024 .f32 :=
  Host.dotGeneral (φ₁ := .f32) (φ₂ := .f32) dot_S8448x2816_S1024x2816_S8448x1024_1_1_0_0_n_n none (extf .f32 a0 bitsLt_bf16_f32) (transpose S1024x2816 [1, 0] (extf .f32 a1 bitsLt_bf16_f32) transposes_S2816x1024_S1024x2816_1_0)

theorem out0_at (a0 : FVec Ideal S8448x2816 .bf16) (a1 : FVec Ideal S2816x1024 .bf16) (j : S8448x1024.Idx) :
    out0 a0 a1 j = ∑ l : Fin 2816, a0 (ix2 (j 0) l) * a1 (ix2 l (j 1)) := by
  pointwise! [out0]

end Cert.GateDaRefIdeal.Value

namespace Cert.GateDaIdeal.Value

open Idealize.ShloMosaic Idealize.ShloMosaic.TcCoe Idealize.SL.Sem
open Idealize.ShloMosaic.Pipeline (Dat)
open Cert.GateDaIdeal Cert.GateDaIdeal.Gen

variable (m : (ℓ : Loc nD τ sig) → Buf (Elt Ideal) ℓ)

theorem places : ∀ t : Fin cfg0.N, win0_0.index t = ![t.val / 2, t.val % 2] ∧ win0_1.index t = ![t.val % 2, 0] ∧ win0_2.index t = ![t.val / 2, 0] :=
  (by decide +kernel : ∀ t : Fin grid0.N, _)

theorem first_at (x : Vec Ideal S768x1408 .bf16) (w : Vec Ideal S1408x1024 .bf16) (j : S768x1024.Idx) :
    k0_pay2 x w j = ∑ k : Fin 1408, x (ix2 (j 0) k) * w (ix2 k (j 1)) := by
  pointwise! [k0_pay2, k0_pay1]

theorem step_at (x : Vec Ideal S768x1408 .bf16) (w : Vec Ideal S1408x1024 .bf16) (acc : Vec Ideal S768x1024 .f32) (j : S768x1024.Idx) :
    k0_pay3 x w acc j = acc j + ∑ k : Fin 1408, x (ix2 (j 0) k) * w (ix2 k (j 1)) := by
  pointwise [k0_pay3, k0_pay1]

theorem stored (c : Dev nD) (t : Fin cfg0.N) (h : t.val % 2 = 1) (j : S768x1024.Idx) :
    (outsAt0 m c t.val t.isLt).1 j = (outsAt0 m c t.val t.isLt).2 j := by
  rw [outsAt0_B m c t (by omega) h h]
  frame_out

theorem final0 (c : Dev nD) : (dats m 0 c).arrAt 2 (cfgs 0).N
    = Cert.GateDaRefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 2 (fun _ => 0) _
    (fun (t : Fin cfg0.N) (h : t.val % 2 = 0) j => by
      rw [outsAt0_A m c t h (by omega) (by omega)]; frame_out; rw [first_at, zero_add])
    (fun (t : Fin cfg0.N) (h : ¬t.val % 2 = 0) j => by
      rw [outsAt0_B m c t h (by omega) (by omega)]; frame_out; rw [step_at, read_unread_whole])
    t hr _, zero_add, Cert.GateDaRefIdeal.Value.out0_at]
  refine Fin.sum_mul_add_congr fun s k hl => ?_
  blk_point [iblk, V, places t, places ⟨_, Pipeline.run_point_lt_of_flush t hr s⟩]

end Cert.GateDaIdeal.Value

namespace Cert.Proof

open Idealize.ShloMosaic Idealize.ShloMosaic.TcCoe Idealize.SL.Sem

theorem GateDa_frame : quiescent_GateDa (hGateDa := Cert.GateDa.Gen.facts) := fun m ρ _ => Cert.GateDa.Gen.frame m ρ

theorem GateDaIdeal_frame : quiescent_GateDaIdeal (hGateDaIdeal := Cert.GateDaIdeal.Gen.facts) := fun m ρ _ => Cert.GateDaIdeal.Gen.frame m ρ

theorem GateDaRefIdeal_frame : quiescent_GateDaRefIdeal (hGateDaRefIdeal := Cert.GateDaRefIdeal.Gen.facts) := fun m ρ _ =>
  (θ_run Cert.GateDaRefIdeal.defs _ _).mono (fun r h => ⟨fun c => (h c).2, sem_eq_zero_of_no_sems (by decide) r.2⟩)
    (Cert.GateDaRefIdeal.Value.run (F := Ideal) m ρ)

theorem GateDa_preserves : preserves_GateDa_GateDaIdeal := trivial

theorem GateDa_algebraic : algebraic_GateDaIdeal_GateDaRefIdeal (hGateDaIdeal := Cert.GateDaIdeal.Gen.facts) (hGateDaRefIdeal := Cert.GateDaRefIdeal.Gen.facts) := by
  pair_intro
  · run_from Cert.GateDaIdeal.Gen.run_main m g
  · run_from Cert.GateDaRefIdeal.Value.run (F := Ideal) m' g'
    exact (Cert.GateDaIdeal.Value.final0 m c).symm

end Cert.Proof

end
-- ==== Proof.MUpDa.lean ====
/- The gradient of the widening product's left factor, added: the call's result is the reference's, and its frames. -/
module

public import proofs.«01_k».proof.Defs
public import proofs.«01_k».proof.Proof.Gen.UpDa.Frame
public import proofs.«01_k».proof.Proof.Gen.UpDaIdeal.Frame
public import proofs.«01_k».proof.Proof.Gen.UpDaRefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.UpDaRefIdeal.Value

open Cert.UpDaRefIdeal Cert.UpDaRefIdeal.Gen Idealize.ShloMosaic Idealize.ShloMosaic.TcCoe Idealize.SL.Sem

def out0 (a0 : FVec Ideal S8448x1024 .f32) (a1 : FVec Ideal S8448x2816 .bf16) (a2 : FVec Ideal S2816x1024 .bf16) : FVec Ideal S8448x1024 .f32 :=
  addf a0 (Host.dotGeneral (φ₁ := .f32) (φ₂ := .f32) dot_S8448x2816_S1024x2816_S8448x1024_1_1_0_0_n_n none (extf .f32 a1 bitsLt_bf16_f32) (transpose S1024x2816 [1, 0] (extf .f32 a2 bitsLt_bf16_f32) transposes_S2816x1024_S1024x2816_1_0))

theorem out0_at (a0 : FVec Ideal S8448x1024 .f32) (a1 : FVec Ideal S8448x2816 .bf16) (a2 : FVec Ideal S2816x1024 .bf16) (j : S8448x1024.Idx) :
    out0 a0 a1 a2 j = a0 j + ∑ l : Fin 2816, a1 (ix2 (j 0) l) * a2 (ix2 l (j 1)) := by
  pointwise! [out0]

end Cert.UpDaRefIdeal.Value

namespace Cert.UpDaIdeal.Value

open Idealize.ShloMosaic Idealize.ShloMosaic.TcCoe Idealize.SL.Sem
open Idealize.ShloMosaic.Pipeline (Dat)
open Cert.UpDaIdeal Cert.UpDaIdeal.Gen

variable (m : (ℓ : Loc nD τ sig) → Buf (Elt Ideal) ℓ)

theorem places : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

theorem first_at (x : Vec Ideal S768x1408 .bf16) (w : Vec Ideal S1408x1024 .bf16) (acc : Vec Ideal S768x1024 .f32) (j : S768x1024.Idx) :
    k0_pay2 x w acc j = acc j + ∑ k : Fin 1408, x (ix2 (j 0) k) * w (ix2 k (j 1)) := by
  pointwise! [k0_pay2, k0_pay1]

theorem step_at (x : Vec Ideal S768x1408 .bf16) (w : Vec Ideal S1408x1024 .bf16) (acc : Vec Ideal S768x1024 .f32) (j : S768x1024.Idx) :
    k0_pay3 x w acc j = acc j + ∑ k : Fin 1408, x (ix2 (j 0) k) * w (ix2 k (j 1)) := by
  pointwise [k0_pay3, k0_pay1]

theorem stored (c : Dev nD) (t : Fin cfg0.N) (h : t.val % 2 = 1) (j : S768x1024.Idx) :
    (outsAt0 m c t.val t.isLt).1 j = (outsAt0 m c t.val t.isLt).2 j := by
  rw [outsAt0_B m c t (by omega) h h]
  frame_out

theorem before_lt (t : Fin cfg0.N) : t.val - 1 < cfg0.N := Nat.lt_of_le_of_lt (Nat.sub_le _ _) t.isLt

theorem carried (c : Dev nD) (t : Fin cfg0.N) (h : t.val % 2 = 1) (j : S768x1024.Idx) :
    (outsAt0 m c t.val t.isLt).2 j = k0_pay3 (iblk m c 0 t) (iblk m c 1 t)
      (k0_pay2 (iblk m c 0 ⟨t.val - 1, before_lt t⟩) (iblk m c 1 ⟨t.val - 1, before_lt t⟩) (iblk m c 2 ⟨t.val - 1, before_lt t⟩)) j := by
  have e : (outsAt0 m c (t.val - 1) (before_lt t)).2 = k0_pay2 (iblk m c 0 ⟨t.val - 1, before_lt t⟩) (iblk m c 1 ⟨t.val - 1, before_lt t⟩)
      (iblk m c 2 ⟨t.val - 1, before_lt t⟩) := by
    funext i
    have ea := outsAt0_A m c ⟨t.val - 1, before_lt t⟩ (by dsimp only; omega) (by dsimp only; omega) (by dsimp only; omega)
    dsimp only at ea
    rw [ea]
    frame_out
  rw [outsAt0_B m c t (by omega) h h]
  frame_out
  rw [step_at, step_at, read_unread_whole, e]

theorem final0 (c : Dev nD) : (dats m 0 c).arrAt 3 (cfgs 0).N
    = Cert.UpDaRefIdeal.Value.out0 (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr := (flush0_3 t).mp hf
  blk_simp
  rw [after0_3, stored m c t hr, carried m c t hr, step_at, first_at, Cert.UpDaRefIdeal.Value.out0_at, add_assoc,
    Fin.sum_univ_tiles 2 1408 rfl, Fin.sum_univ_two]
  blk_point [iblk, V, places t, places ⟨t.val - 1, before_lt t⟩]

end Cert.UpDaIdeal.Value

namespace Cert.Proof

open Idealize.ShloMosaic Idealize.ShloMosaic.TcCoe Idealize.SL.Sem

theorem UpDa_frame : quiescent_UpDa (hUpDa := Cert.UpDa.Gen.facts) := fun m ρ _ => Cert.UpDa.Gen.frame m ρ

theorem UpDaIdeal_frame : quiescent_UpDaIdeal (hUpDaIdeal := Cert.UpDaIdeal.Gen.facts) := fun m ρ _ => Cert.UpDaIdeal.Gen.frame m ρ

theorem UpDaRefIdeal_frame : quiescent_UpDaRefIdeal (hUpDaRefIdeal := Cert.UpDaRefIdeal.Gen.facts) := fun m ρ _ =>
  (θ_run Cert.UpDaRefIdeal.defs _ _).mono (fun r h => ⟨fun c => (h c).2, sem_eq_zero_of_no_sems (by decide) r.2⟩)
    (Cert.UpDaRefIdeal.Value.run (F := Ideal) m ρ)

theorem UpDa_preserves : preserves_UpDa_UpDaIdeal := trivial

theorem UpDa_algebraic : algebraic_UpDaIdeal_UpDaRefIdeal (hUpDaIdeal := Cert.UpDaIdeal.Gen.facts) (hUpDaRefIdeal := Cert.UpDaRefIdeal.Gen.facts) := by
  pair_intro
  · run_from Cert.UpDaIdeal.Gen.run_main m g
  · run_from Cert.UpDaRefIdeal.Value.run (F := Ideal) m' g'
    exact (Cert.UpDaIdeal.Value.final0 m c).symm

end Cert.Proof

end
-- ==== Proof.MUpDw.lean ====
/- The gradient of the widening product's weight: the call's result is the reference's, and its frames. -/
module

public import proofs.«01_k».proof.Defs
public import proofs.«01_k».proof.Proof.Gen.UpDw.Frame
public import proofs.«01_k».proof.Proof.Gen.UpDwIdeal.Frame
public import proofs.«01_k».proof.Proof.Gen.UpDwRefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.UpDwRefIdeal.Value

open Cert.UpDwRefIdeal Cert.UpDwRefIdeal.Gen Idealize.ShloMosaic Idealize.ShloMosaic.TcCoe Idealize.SL.Sem

def out0 (a0 : FVec Ideal S8448x1024 .bf16) (a1 : FVec Ideal S8448x2816 .bf16) : FVec Ideal S1024x2816 .bf16 :=
  truncf .bf16 (transpose S1024x2816 [1, 0] (Host.dotGeneral (φ₁ := .f32) (φ₂ := .f32) dot_S8448x2816_S8448x1024_S2816x1024_0_0_1_1_n_n none (extf .f32 a1 bitsLt_bf16_f32) (extf .f32 a0 bitsLt_bf16_f32)) transposes_S2816x1024_S1024x2816_1_0) bitsLt_bf16_f32

theorem out0_at (a0 : FVec Ideal S8448x1024 .bf16) (a1 : FVec Ideal S8448x2816 .bf16) (j : S1024x2816.Idx) :
    out0 a0 a1 j = ∑ l : Fin 8448, a0 (ix2 l (j 0)) * a1 (ix2 l (j 1)) := by
  pointwise! [out0]

end Cert.UpDwRefIdeal.Value

namespace Cert.UpDwIdeal.Value

open Idealize.ShloMosaic Idealize.ShloMosaic.TcCoe Idealize.SL.Sem
open Idealize.ShloMosaic.Pipeline (Dat)
open Cert.UpDwIdeal Cert.UpDwIdeal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x512 .bf16) (w : Vec Ideal S1408x2816 .bf16) (j : S512x2816.Idx) :
    k0_pay2 x w j = ∑ k : Fin 1408, x (ix2 k (j 0)) * w (ix2 k (j 1)) := by
  pointwise! [k0_pay2, k0_pay1]

theorem step_at (x : Vec Ideal S1408x512 .bf16) (w : Vec Ideal S1408x2816 .bf16) (acc : Vec Ideal S512x2816 .f32) (j : S512x2816.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S512x2816.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.UpDwRefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.UpDwRefIdeal.Value.out0_at]
  refine Fin.sum_mul_add_congr fun s k hl => ?_
  blk_point [iblk, V, places t, places ⟨_, Pipeline.run_point_lt_of_flush t hr s⟩]

end Cert.UpDwIdeal.Value

namespace Cert.Proof

open Idealize.ShloMosaic Idealize.ShloMosaic.TcCoe Idealize.SL.Sem

theorem UpDw_frame : quiescent_UpDw (hUpDw := Cert.UpDw.Gen.facts) := fun m ρ _ => Cert.UpDw.Gen.frame m ρ

theorem UpDwIdeal_frame : quiescent_UpDwIdeal (hUpDwIdeal := Cert.UpDwIdeal.Gen.facts) := fun m ρ _ => Cert.UpDwIdeal.Gen.frame m ρ

theorem UpDwRefIdeal_frame : quiescent_UpDwRefIdeal (hUpDwRefIdeal := Cert.UpDwRefIdeal.Gen.facts) := fun m ρ _ =>
  (θ_run Cert.UpDwRefIdeal.defs _ _).mono (fun r h => ⟨fun c => (h c).2, sem_eq_zero_of_no_sems (by decide) r.2⟩)
    (Cert.UpDwRefIdeal.Value.run (F := Ideal) m ρ)

theorem UpDw_preserves : preserves_UpDw_UpDwIdeal := trivial

theorem UpDw_algebraic : algebraic_UpDwIdeal_UpDwRefIdeal (hUpDwIdeal := Cert.UpDwIdeal.Gen.facts) (hUpDwRefIdeal := Cert.UpDwRefIdeal.Gen.facts) := by
  pair_intro
  · run_from Cert.UpDwIdeal.Gen.run_main m g
  · run_from Cert.UpDwRefIdeal.Value.run (F := Ideal) m' g'
    exact (Cert.UpDwIdeal.Value.final0 m c).symm

end Cert.Proof

end
-- ==== Proof.MDownDw.lean ====
/- The gradient of the narrowing product's weight: the call's result is the reference's, and its frames. -/
module

public import proofs.«01_k».proof.Defs
public import proofs.«01_k».proof.Proof.Gen.DownDw.Frame
public import proofs.«01_k».proof.Proof.Gen.DownDwIdeal.Frame
public import proofs.«01_k».proof.Proof.Gen.DownDwRefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.DownDwRefIdeal.Value

open Cert.DownDwRefIdeal Cert.DownDwRefIdeal.Gen Idealize.ShloMosaic Idealize.ShloMosaic.TcCoe Idealize.SL.Sem

def out0 (a0 : FVec Ideal S8448x2816 .bf16) (a1 : FVec Ideal S8448x1024 .bf16) : FVec Ideal S2816x1024 .bf16 :=
  truncf .bf16 (transpose S2816x1024 [1, 0] (Host.dotGeneral (φ₁ := .f32) (φ₂ := .f32) dot_S8448x1024_S8448x2816_S1024x2816_0_0_1_1_n_n none (extf .f32 a1 bitsLt_bf16_f32) (extf .f32 a0 bitsLt_bf16_f32)) transposes_S1024x2816_S2816x1024_1_0) bitsLt_bf16_f32

theorem out0_at (a0 : FVec Ideal S8448x2816 .bf16) (a1 : FVec Ideal S8448x1024 .bf16) (j : S2816x1024.Idx) :
    out0 a0 a1 j = ∑ l : Fin 8448, a0 (ix2 l (j 0)) * a1 (ix2 l (j 1)) := by
  pointwise! [out0]

end Cert.DownDwRefIdeal.Value

namespace Cert.DownDwIdeal.Value

open Idealize.ShloMosaic Idealize.ShloMosaic.TcCoe Idealize.SL.Sem
open Idealize.ShloMosaic.Pipeline (Dat)
open Cert.DownDwIdeal Cert.DownDwIdeal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x1408 .bf16) (w : Vec Ideal S1408x1024 .bf16) (j : S1408x1024.Idx) :
    k0_pay2 x w j = ∑ k : Fin 1408, x (ix2 k (j 0)) * w (ix2 k (j 1)) := by
  pointwise! [k0_pay2, k0_pay1]

theorem step_at (x : Vec Ideal S1408x1408 .bf16) (w : Vec Ideal S1408x1024 .bf16) (acc : Vec Ideal S1408x1024 .f32) (j : S1408x1024.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S1408x1024.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.DownDwRefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.DownDwRefIdeal.Value.out0_at]
  refine Fin.sum_mul_add_congr fun s k hl => ?_
  blk_point [iblk, V, places t, places ⟨_, Pipeline.run_point_lt_of_flush t hr s⟩]

end Cert.DownDwIdeal.Value

namespace Cert.Proof

open Idealize.ShloMosaic Idealize.ShloMosaic.TcCoe Idealize.SL.Sem

theorem DownDw_frame : quiescent_DownDw (hDownDw := Cert.DownDw.Gen.facts) := fun m ρ _ => Cert.DownDw.Gen.frame m ρ

theorem DownDwIdeal_frame : quiescent_DownDwIdeal (hDownDwIdeal := Cert.DownDwIdeal.Gen.facts) := fun m ρ _ => Cert.DownDwIdeal.Gen.frame m ρ

theorem DownDwRefIdeal_frame : quiescent_DownDwRefIdeal (hDownDwRefIdeal := Cert.DownDwRefIdeal.Gen.facts) := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem DownDw_preserves : preserves_DownDw_DownDwIdeal := trivial

theorem DownDw_algebraic : algebraic_DownDwIdeal_DownDwRefIdeal (hDownDwIdeal := Cert.DownDwIdeal.Gen.facts) (hDownDwRefIdeal := Cert.DownDwRefIdeal.Gen.facts) := by
  pair_intro
  · run_from Cert.DownDwIdeal.Gen.run_main m g
  · run_from Cert.DownDwRefIdeal.Value.run (F := Ideal) m' g'
    exact (Cert.DownDwIdeal.Value.final0 m c).symm

end Cert.Proof

end
-- ==== Proof.MProjDw.lean ====
/- The gradient of a projection's weight: the call's result is the reference's, and its frames. -/
module

public import proofs.«01_k».proof.Defs
public import proofs.«01_k».proof.Proof.Gen.ProjDw.Frame
public import proofs.«01_k».proof.Proof.Gen.ProjDwIdeal.Frame
public import proofs.«01_k».proof.Proof.Gen.ProjDwRefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.ProjDwRefIdeal.Value

open Cert.ProjDwRefIdeal Cert.ProjDwRefIdeal.Gen Idealize.ShloMosaic Idealize.ShloMosaic.TcCoe Idealize.SL.Sem

def out0 (a0 : FVec Ideal S8448x1024 .bf16) (a1 : FVec Ideal S8448x1024 .bf16) : FVec Ideal S1024x1024 .bf16 :=
  truncf .bf16 (transpose S1024x1024 [1, 0] (Host.dotGeneral (φ₁ := .f32) (φ₂ := .f32) dot_S8448x1024_S8448x1024_S1024x1024_0_0_1_1_n_n none (extf .f32 a1 bitsLt_bf16_f32) (extf .f32 a0 bitsLt_bf16_f32)) transposes_S1024x1024_S1024x1024_1_0) bitsLt_bf16_f32

theorem out0_at (a0 : FVec Ideal S8448x1024 .bf16) (a1 : FVec Ideal S8448x1024 .bf16) (j : S1024x1024.Idx) :
    out0 a0 a1 j = ∑ l : Fin 8448, a0 (ix2 l (j 0)) * a1 (ix2 l (j 1)) := by
  pointwise! [out0]

end Cert.ProjDwRefIdeal.Value

namespace Cert.ProjDwIdeal.Value

open Idealize.ShloMosaic Idealize.ShloMosaic.TcCoe Idealize.SL.Sem
open Idealize.ShloMosaic.Pipeline (Dat)
open Cert.ProjDwIdeal Cert.ProjDwIdeal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x1024 .bf16) (w : Vec Ideal S1408x1024 .bf16) (j : S1024x1024.Idx) :
    k0_pay2 x w j = ∑ k : Fin 1408, x (ix2 k (j 0)) * w (ix2 k (j 1)) := by
  pointwise! [k0_pay2, k0_pay1]

theorem step_at (x : Vec Ideal S1408x1024 .bf16) (w : Vec Ideal S1408x1024 .bf16) (acc : Vec Ideal S1024x1024 .f32) (j : S1024x1024.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S1024x1024.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.ProjDwRefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      have hN : t.val < 6 := lt_of_lt_of_eq t.isLt N_0
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.ProjDwRefIdeal.Value.out0_at]
  refine Fin.sum_mul_add_congr fun s k hl => ?_
  blk_point [iblk, V, places t, places ⟨_, Pipeline.run_point_lt_of_flush t hr s⟩]

end Cert.ProjDwIdeal.Value

namespace Cert.Proof

open Idealize.ShloMosaic Idealize.ShloMosaic.TcCoe Idealize.SL.Sem

theorem ProjDw_frame : quiescent_ProjDw (hProjDw := Cert.ProjDw.Gen.facts) := fun m ρ _ => Cert.ProjDw.Gen.frame m ρ

theorem ProjDwIdeal_frame : quiescent_ProjDwIdeal (hProjDwIdeal := Cert.ProjDwIdeal.Gen.facts) := fun m ρ _ => Cert.ProjDwIdeal.Gen.frame m ρ

theorem ProjDwRefIdeal_frame : quiescent_ProjDwRefIdeal (hProjDwRefIdeal := Cert.ProjDwRefIdeal.Gen.facts) := fun m ρ _ =>
  (θ_run Cert.ProjDwRefIdeal.defs _ _).mono (fun r h => ⟨fun c => (h c).2, sem_eq_zero_of_no_sems (by decide) r.2⟩)
    (Cert.ProjDwRefIdeal.Value.run (F := Ideal) m ρ)

theorem ProjDw_preserves : preserves_ProjDw_ProjDwIdeal := trivial

theorem ProjDw_algebraic : algebraic_ProjDwIdeal_ProjDwRefIdeal (hProjDwIdeal := Cert.ProjDwIdeal.Gen.facts) (hProjDwRefIdeal := Cert.ProjDwRefIdeal.Gen.facts) := by
  pair_intro
  · run_from Cert.ProjDwIdeal.Gen.run_main m g
  · run_from Cert.ProjDwRefIdeal.Value.run (F := Ideal) m' g'
    exact (Cert.ProjDwIdeal.Value.final0 m c).symm

end Cert.Proof

end
-- ==== Proof.MProjDwF.lean ====
/- The gradient of a projection's weight, from unrounded rows: the call's result is the reference's, and its frames. -/
module

public import proofs.«01_k».proof.Defs
public import proofs.«01_k».proof.Proof.Gen.ProjDwF.Frame
public import proofs.«01_k».proof.Proof.Gen.ProjDwFIdeal.Frame
public import proofs.«01_k».proof.Proof.Gen.ProjDwFRefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.ProjDwFRefIdeal.Value

open Cert.ProjDwFRefIdeal Cert.ProjDwFRefIdeal.Gen Idealize.ShloMosaic Idealize.ShloMosaic.TcCoe Idealize.SL.Sem

def out0 (a0 : FVec Ideal S8448x1024 .f32) (a1 : FVec Ideal S8448x1024 .bf16) : FVec Ideal S1024x1024 .bf16 :=
  truncf .bf16 (transpose S1024x1024 [1, 0] (Host.dotGeneral (φ₁ := .f32) (φ₂ := .f32) dot_S8448x1024_S8448x1024_S1024x1024_0_0_1_1_n_n none (extf .f32 a1 bitsLt_bf16_f32) a0) transposes_S1024x1024_S1024x1024_1_0) bitsLt_bf16_f32

theorem out0_at (a0 : FVec Ideal S8448x1024 .f32) (a1 : FVec Ideal S8448x1024 .bf16) (j : S1024x1024.Idx) :
    out0 a0 a1 j = ∑ l : Fin 8448, a0 (ix2 l (j 0)) * a1 (ix2 l (j 1)) := by
  pointwise! [out0]

end Cert.ProjDwFRefIdeal.Value

namespace Cert.ProjDwFIdeal.Value

open Idealize.ShloMosaic Idealize.ShloMosaic.TcCoe Idealize.SL.Sem
open Idealize.ShloMosaic.Pipeline (Dat)
open Cert.ProjDwFIdeal Cert.ProjDwFIdeal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x1024 .f32) (w : Vec Ideal S1408x1024 .bf16) (j : S1024x1024.Idx) :
    k0_pay2 x w j = ∑ k : Fin 1408, x (ix2 k (j 0)) * w (ix2 k (j 1)) := by
  pointwise! [k0_pay2, k0_pay1]

theorem step_at (x : Vec Ideal S1408x1024 .f32) (w : Vec Ideal S1408x1024 .bf16) (acc : Vec Ideal S1024x1024 .f32) (j : S1024x1024.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S1024x1024.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.ProjDwFRefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      have hN : t.val < 6 := lt_of_lt_of_eq t.isLt N_0
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.ProjDwFRefIdeal.Value.out0_at]
  refine Fin.sum_mul_add_congr fun s k hl => ?_
  blk_point [iblk, V, places t, places ⟨_, Pipeline.run_point_lt_of_flush t hr s⟩]

end Cert.ProjDwFIdeal.Value

namespace Cert.Proof

open Idealize.ShloMosaic Idealize.ShloMosaic.TcCoe Idealize.SL.Sem

theorem ProjDwF_frame : quiescent_ProjDwF (hProjDwF := Cert.ProjDwF.Gen.facts) := fun m ρ _ => Cert.ProjDwF.Gen.frame m ρ

theorem ProjDwFIdeal_frame : quiescent_ProjDwFIdeal (hProjDwFIdeal := Cert.ProjDwFIdeal.Gen.facts) := fun m ρ _ => Cert.ProjDwFIdeal.Gen.frame m ρ

theorem ProjDwFRefIdeal_frame : quiescent_ProjDwFRefIdeal (hProjDwFRefIdeal := Cert.ProjDwFRefIdeal.Gen.facts) := fun m ρ _ =>
  (θ_run Cert.ProjDwFRefIdeal.defs _ _).mono (fun r h => ⟨fun c => (h c).2, sem_eq_zero_of_no_sems (by decide) r.2⟩)
    (Cert.ProjDwFRefIdeal.Value.run (F := Ideal) m ρ)

theorem ProjDwF_preserves : preserves_ProjDwF_ProjDwFIdeal := trivial

theorem ProjDwF_algebraic : algebraic_ProjDwFIdeal_ProjDwFRefIdeal (hProjDwFIdeal := Cert.ProjDwFIdeal.Gen.facts) (hProjDwFRefIdeal := Cert.ProjDwFRefIdeal.Gen.facts) := by
  pair_intro
  · run_from Cert.ProjDwFIdeal.Gen.run_main m g
  · run_from Cert.ProjDwFRefIdeal.Value.run (F := Ideal) m' g'
    exact (Cert.ProjDwFIdeal.Value.final0 m c).symm

end Cert.Proof

end
-- ==== Proof.MInDw1536.lean ====
/- The gradient of a part of the input weight, of width 1536: the call's result is the reference's, and its frames. -/
module

public import proofs.«01_k».proof.Defs
public import proofs.«01_k».proof.Proof.Gen.InDw1536.Frame
public import proofs.«01_k».proof.Proof.Gen.InDw1536Ideal.Frame
public import proofs.«01_k».proof.Proof.Gen.InDw1536RefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.InDw1536RefIdeal.Value

open Cert.InDw1536RefIdeal Cert.InDw1536RefIdeal.Gen Idealize.ShloMosaic Idealize.ShloMosaic.TcCoe Idealize.SL.Sem

def out0 (a0 : FVec Ideal S8448x1024 .bf16) (a1 : FVec Ideal S8448x1536 .bf16) : FVec Ideal S1024x1536 .bf16 :=
  truncf .bf16 (transpose S1024x1536 [1, 0] (Host.dotGeneral (φ₁ := .f32) (φ₂ := .f32) dot_S8448x1536_S8448x1024_S1536x1024_0_0_1_1_n_n none (extf .f32 a1 bitsLt_bf16_f32) (extf .f32 a0 bitsLt_bf16_f32)) transposes_S1536x1024_S1024x1536_1_0) bitsLt_bf16_f32

theorem out0_at (a0 : FVec Ideal S8448x1024 .bf16) (a1 : FVec Ideal S8448x1536 .bf16) (j : S1024x1536.Idx) :
    out0 a0 a1 j = ∑ l : Fin 8448, a0 (ix2 l (j 0)) * a1 (ix2 l (j 1)) := by
  pointwise! [out0]

end Cert.InDw1536RefIdeal.Value

namespace Cert.InDw1536Ideal.Value

open Idealize.ShloMosaic Idealize.ShloMosaic.TcCoe Idealize.SL.Sem
open Idealize.ShloMosaic.Pipeline (Dat)
open Cert.InDw1536Ideal Cert.InDw1536Ideal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x1024 .bf16) (w : Vec Ideal S1408x1536 .bf16) (j : S1024x1536.Idx) :
    k0_pay2 x w j = ∑ k : Fin 1408, x (ix2 k (j 0)) * w (ix2 k (j 1)) := by
  pointwise! [k0_pay2, k0_pay1]

theorem step_at (x : Vec Ideal S1408x1024 .bf16) (w : Vec Ideal S1408x1536 .bf16) (acc : Vec Ideal S1024x1536 .f32) (j : S1024x1536.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S1024x1536.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.InDw1536RefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      have hN : t.val < 6 := lt_of_lt_of_eq t.isLt N_0
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.InDw1536RefIdeal.Value.out0_at]
  refine Fin.sum_mul_add_congr fun s k hl => ?_
  blk_point [iblk, V, places t, places ⟨_, Pipeline.run_point_lt_of_flush t hr s⟩]

end Cert.InDw1536Ideal.Value

namespace Cert.Proof

open Idealize.ShloMosaic Idealize.ShloMosaic.TcCoe Idealize.SL.Sem

theorem InDw1536_frame : quiescent_InDw1536 (hInDw1536 := Cert.InDw1536.Gen.facts) := fun m ρ _ => Cert.InDw1536.Gen.frame m ρ

theorem InDw1536Ideal_frame : quiescent_InDw1536Ideal (hInDw1536Ideal := Cert.InDw1536Ideal.Gen.facts) := fun m ρ _ => Cert.InDw1536Ideal.Gen.frame m ρ

theorem InDw1536RefIdeal_frame : quiescent_InDw1536RefIdeal (hInDw1536RefIdeal := Cert.InDw1536RefIdeal.Gen.facts) := fun m ρ _ =>
  (θ_run Cert.InDw1536RefIdeal.defs _ _).mono (fun r h => ⟨fun c => (h c).2, sem_eq_zero_of_no_sems (by decide) r.2⟩)
    (Cert.InDw1536RefIdeal.Value.run (F := Ideal) m ρ)

theorem InDw1536_preserves : preserves_InDw1536_InDw1536Ideal := trivial

theorem InDw1536_algebraic : algebraic_InDw1536Ideal_InDw1536RefIdeal (hInDw1536Ideal := Cert.InDw1536Ideal.Gen.facts) (hInDw1536RefIdeal := Cert.InDw1536RefIdeal.Gen.facts) := by
  pair_intro
  · run_from Cert.InDw1536Ideal.Gen.run_main m g
  · run_from Cert.InDw1536RefIdeal.Value.run (F := Ideal) m' g'
    exact (Cert.InDw1536Ideal.Value.final0 m c).symm

end Cert.Proof

end
-- ==== Proof.MInDw384.lean ====
/- The gradient of a part of the input weight, of width 384: the call's result is the reference's, and its frames. -/
module

public import proofs.«01_k».proof.Defs
public import proofs.«01_k».proof.Proof.Gen.InDw384.Frame
public import proofs.«01_k».proof.Proof.Gen.InDw384Ideal.Frame
public import proofs.«01_k».proof.Proof.Gen.InDw384RefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.InDw384RefIdeal.Value

open Cert.InDw384RefIdeal Cert.InDw384RefIdeal.Gen Idealize.ShloMosaic Idealize.ShloMosaic.TcCoe Idealize.SL.Sem

def out0 (a0 : FVec Ideal S8448x1024 .bf16) (a1 : FVec Ideal S8448x384 .bf16) : FVec Ideal S1024x384 .bf16 :=
  truncf .bf16 (transpose S1024x384 [1, 0] (Host.dotGeneral (φ₁ := .f32) (φ₂ := .f32) dot_S8448x384_S8448x1024_S384x1024_0_0_1_1_n_n none (extf .f32 a1 bitsLt_bf16_f32) (extf .f32 a0 bitsLt_bf16_f32)) transposes_S384x1024_S1024x384_1_0) bitsLt_bf16_f32

theorem out0_at (a0 : FVec Ideal S8448x1024 .bf16) (a1 : FVec Ideal S8448x384 .bf16) (j : S1024x384.Idx) :
    out0 a0 a1 j = ∑ l : Fin 8448, a0 (ix2 l (j 0)) * a1 (ix2 l (j 1)) := by
  pointwise! [out0]

end Cert.InDw384RefIdeal.Value

namespace Cert.InDw384Ideal.Value

open Idealize.ShloMosaic Idealize.ShloMosaic.TcCoe Idealize.SL.Sem
open Idealize.ShloMosaic.Pipeline (Dat)
open Cert.InDw384Ideal Cert.InDw384Ideal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x1024 .bf16) (w : Vec Ideal S1408x384 .bf16) (j : S1024x384.Idx) :
    k0_pay2 x w j = ∑ k : Fin 1408, x (ix2 k (j 0)) * w (ix2 k (j 1)) := by
  pointwise! [k0_pay2, k0_pay1]

theorem step_at (x : Vec Ideal S1408x1024 .bf16) (w : Vec Ideal S1408x384 .bf16) (acc : Vec Ideal S1024x384 .f32) (j : S1024x384.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S1024x384.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.InDw384RefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      have hN : t.val < 6 := lt_of_lt_of_eq t.isLt N_0
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.InDw384RefIdeal.Value.out0_at]
  refine Fin.sum_mul_add_congr fun s k hl => ?_
  blk_point [iblk, V, places t, places ⟨_, Pipeline.run_point_lt_of_flush t hr s⟩]

end Cert.InDw384Ideal.Value

namespace Cert.Proof

open Idealize.ShloMosaic Idealize.ShloMosaic.TcCoe Idealize.SL.Sem

theorem InDw384_frame : quiescent_InDw384 (hInDw384 := Cert.InDw384.Gen.facts) := fun m ρ _ => Cert.InDw384.Gen.frame m ρ

theorem InDw384Ideal_frame : quiescent_InDw384Ideal (hInDw384Ideal := Cert.InDw384Ideal.Gen.facts) := fun m ρ _ => Cert.InDw384Ideal.Gen.frame m ρ

theorem InDw384RefIdeal_frame : quiescent_InDw384RefIdeal (hInDw384RefIdeal := Cert.InDw384RefIdeal.Gen.facts) := fun m ρ _ =>
  (θ_run Cert.InDw384RefIdeal.defs _ _).mono (fun r h => ⟨fun c => (h c).2, sem_eq_zero_of_no_sems (by decide) r.2⟩)
    (Cert.InDw384RefIdeal.Value.run (F := Ideal) m ρ)

theorem InDw384_preserves : preserves_InDw384_InDw384Ideal := trivial

theorem InDw384_algebraic : algebraic_InDw384Ideal_InDw384RefIdeal (hInDw384Ideal := Cert.InDw384Ideal.Gen.facts) (hInDw384RefIdeal := Cert.InDw384RefIdeal.Gen.facts) := by
  pair_intro
  · run_from Cert.InDw384Ideal.Gen.run_main m g
  · run_from Cert.InDw384RefIdeal.Value.run (F := Ideal) m' g'
    exact (Cert.InDw384Ideal.Value.final0 m c).symm

end Cert.Proof

end
-- ==== Proof.MInDw256.lean ====
/- The gradient of a part of the input weight, of width 256: the call's result is the reference's, and its frames. -/
module

public import proofs.«01_k».proof.Defs
public import proofs.«01_k».proof.Proof.Gen.InDw256.Frame
public import proofs.«01_k».proof.Proof.Gen.InDw256Ideal.Frame
public import proofs.«01_k».proof.Proof.Gen.InDw256RefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.InDw256RefIdeal.Value

open Cert.InDw256RefIdeal Cert.InDw256RefIdeal.Gen Idealize.ShloMosaic Idealize.ShloMosaic.TcCoe Idealize.SL.Sem

def out0 (a0 : FVec Ideal S8448x1024 .bf16) (a1 : FVec Ideal S8448x256 .bf16) : FVec Ideal S1024x256 .bf16 :=
  truncf .bf16 (transpose S1024x256 [1, 0] (Host.dotGeneral (φ₁ := .f32) (φ₂ := .f32) dot_S8448x256_S8448x1024_S256x1024_0_0_1_1_n_n none (extf .f32 a1 bitsLt_bf16_f32) (extf .f32 a0 bitsLt_bf16_f32)) transposes_S256x1024_S1024x256_1_0) bitsLt_bf16_f32

theorem out0_at (a0 : FVec Ideal S8448x1024 .bf16) (a1 : FVec Ideal S8448x256 .bf16) (j : S1024x256.Idx) :
    out0 a0 a1 j = ∑ l : Fin 8448, a0 (ix2 l (j 0)) * a1 (ix2 l (j 1)) := by
  pointwise! [out0]

end Cert.InDw256RefIdeal.Value

namespace Cert.InDw256Ideal.Value

open Idealize.ShloMosaic Idealize.ShloMosaic.TcCoe Idealize.SL.Sem
open Idealize.ShloMosaic.Pipeline (Dat)
open Cert.InDw256Ideal Cert.InDw256Ideal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x1024 .bf16) (w : Vec Ideal S1408x256 .bf16) (j : S1024x256.Idx) :
    k0_pay2 x w j = ∑ k : Fin 1408, x (ix2 k (j 0)) * w (ix2 k (j 1)) := by
  pointwise! [k0_pay2, k0_pay1]

theorem step_at (x : Vec Ideal S1408x1024 .bf16) (w : Vec Ideal S1408x256 .bf16) (acc : Vec Ideal S1024x256 .f32) (j : S1024x256.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S1024x256.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.InDw256RefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      have hN : t.val < 6 := lt_of_lt_of_eq t.isLt N_0
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.InDw256RefIdeal.Value.out0_at]
  refine Fin.sum_mul_add_congr fun s k hl => ?_
  blk_point [iblk, V, places t, places ⟨_, Pipeline.run_point_lt_of_flush t hr s⟩]

end Cert.InDw256Ideal.Value

namespace Cert.Proof

open Idealize.ShloMosaic Idealize.ShloMosaic.TcCoe Idealize.SL.Sem

theorem InDw256_frame : quiescent_InDw256 (hInDw256 := Cert.InDw256.Gen.facts) := fun m ρ _ => Cert.InDw256.Gen.frame m ρ

theorem InDw256Ideal_frame : quiescent_InDw256Ideal (hInDw256Ideal := Cert.InDw256Ideal.Gen.facts) := fun m ρ _ => Cert.InDw256Ideal.Gen.frame m ρ

theorem InDw256RefIdeal_frame : quiescent_InDw256RefIdeal (hInDw256RefIdeal := Cert.InDw256RefIdeal.Gen.facts) := fun m ρ _ =>
  (θ_run Cert.InDw256RefIdeal.defs _ _).mono (fun r h => ⟨fun c => (h c).2, sem_eq_zero_of_no_sems (by decide) r.2⟩)
    (Cert.InDw256RefIdeal.Value.run (F := Ideal) m ρ)

theorem InDw256_preserves : preserves_InDw256_InDw256Ideal := trivial

theorem InDw256_algebraic : algebraic_InDw256Ideal_InDw256RefIdeal (hInDw256Ideal := Cert.InDw256Ideal.Gen.facts) (hInDw256RefIdeal := Cert.InDw256RefIdeal.Gen.facts) := by
  pair_intro
  · run_from Cert.InDw256Ideal.Gen.run_main m g
  · run_from Cert.InDw256RefIdeal.Value.run (F := Ideal) m' g'
    exact (Cert.InDw256Ideal.Value.final0 m c).symm

end Cert.Proof

end
-- ==== Proof.MUq.lean ====
/- The products of the queries' latent: the call's result is the reference's, and its frames. -/
module

public import proofs.«01_k».proof.Defs
public import proofs.«01_k».proof.Proof.Gen.Uq.Frame
public import proofs.«01_k».proof.Proof.Gen.UqIdeal.Frame
public import proofs.«01_k».proof.Proof.Gen.UqRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.UqRefIdeal.Value

open Cert.UqRefIdeal Cert.UqRefIdeal.Gen Idealize.ShloMosaic Idealize.ShloMosaic.TcCoe Idealize.SL.Sem

def out0 (a0 : FVec Ideal S8448x384 .bf16) (a1 : FVec Ideal S1024x384 .bf16) (a2 : FVec Ideal S1024x384 .bf16) : FVec Ideal S8448x1024 .f32 :=
  Host.dotGeneral (φ₁ := .f32) (φ₂ := .f32) dot_S8448x384_S384x1024_S8448x1024_1_0_0_1_n_n none (extf .f32 a0 bitsLt_bf16_f32) (transpose S384x1024 [1, 0] (extf .f32 a1 bitsLt_bf16_f32) transposes_S1024x384_S384x1024_1_0)

def out1 (a0 : FVec Ideal S8448x384 .bf16) (a1 : FVec Ideal S1024x384 .bf16) (a2 : FVec Ideal S1024x384 .bf16) : FVec Ideal S8448x1024 .f32 :=
  Host.dotGeneral (φ₁ := .f32) (φ₂ := .f32) dot_S8448x384_S384x1024_S8448x1024_1_0_0_1_n_n none (extf .f32 a0 bitsLt_bf16_f32) (transpose S384x1024 [1, 0] (extf .f32 a2 bitsLt_bf16_f32) transposes_S1024x384_S384x1024_1_0)

end Cert.UqRefIdeal.Value

namespace Cert.UqIdeal.Value

open Idealize.ShloMosaic Idealize.ShloMosaic.TcCoe Idealize.SL.Sem
open Idealize.ShloMosaic.Pipeline (Dat)
open Cert.UqIdeal Cert.UqIdeal.Gen

variable (m : (ℓ : Loc nD τ sig) → Buf (Elt Ideal) ℓ)

theorem places : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem final0 (c : Dev nD) : (dats m 0 c).arrAt 3 (cfgs 0).N
    = Cert.UqRefIdeal.Value.out0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, Cert.UqRefIdeal.Value.out0]
  blk_point [iblk, V, places t]

theorem final1 (c : Dev nD) : (dats m 0 c).arrAt 4 (cfgs 0).N
    = Cert.UqRefIdeal.Value.out1 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  pointwise [k0_pay2, Cert.UqRefIdeal.Value.out1]
  blk_point [iblk, V, places t]

end Cert.UqIdeal.Value

namespace Cert.Proof

open Idealize.ShloMosaic Idealize.ShloMosaic.TcCoe Idealize.SL.Sem

theorem Uq_frame : quiescent_Uq (hUq := Cert.Uq.Gen.facts) := fun m ρ _ => Cert.Uq.Gen.frame m ρ

theorem UqIdeal_frame : quiescent_UqIdeal (hUqIdeal := Cert.UqIdeal.Gen.facts) := fun m ρ _ => Cert.UqIdeal.Gen.frame m ρ

theorem UqRefIdeal_frame : quiescent_UqRefIdeal (hUqRefIdeal := Cert.UqRefIdeal.Gen.facts) := fun m ρ _ =>
  (θ_run Cert.UqRefIdeal.defs _ _).mono (fun r h => ⟨fun c => (h c).2.2, sem_eq_zero_of_no_sems (by decide) r.2⟩)
    (Cert.UqRefIdeal.Value.run (F := Ideal) m ρ)

theorem Uq_preserves : preserves_Uq_UqIdeal := trivial

set_option maxHeartbeats 2000000 in
theorem Uq_algebraic : algebraic_UqIdeal_UqRefIdeal (hUqIdeal := Cert.UqIdeal.Gen.facts) (hUqRefIdeal := Cert.UqRefIdeal.Gen.facts) := by
  pair_intro
  · run_from Cert.UqIdeal.Gen.run_main m g
  · run_from Cert.UqRefIdeal.Value.run (F := Ideal) m' g'
    · exact (Cert.UqIdeal.Value.final0 m c).symm
    · exact (Cert.UqIdeal.Value.final1 m c).symm

end Cert.Proof

end
-- ==== Proof.MUkv.lean ====
/- The products of the keys' and values' latent: the call's result is the reference's, and its frames. -/
module

public import proofs.«01_k».proof.Defs
public import proofs.«01_k».proof.Proof.Gen.Ukv.Frame
public import proofs.«01_k».proof.Proof.Gen.UkvIdeal.Frame
public import proofs.«01_k».proof.Proof.Gen.UkvRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.UkvRefIdeal.Value

open Cert.UkvRefIdeal Cert.UkvRefIdeal.Gen Idealize.ShloMosaic Idealize.ShloMosaic.TcCoe Idealize.SL.Sem

def out0 (a0 : FVec Ideal S8448x256 .bf16) (a1 : FVec Ideal S1024x256 .bf16) (a2 : FVec Ideal S1024x256 .bf16) : FVec Ideal S8448x1024 .f32 :=
  Host.dotGeneral (φ₁ := .f32) (φ₂ := .f32) dot_S8448x256_S256x1024_S8448x1024_1_0_0_1_n_n none (extf .f32 a0 bitsLt_bf16_f32) (transpose S256x1024 [1, 0] (extf .f32 a1 bitsLt_bf16_f32) transposes_S1024x256_S256x1024_1_0)

def out1 (a0 : FVec Ideal S8448x256 .bf16) (a1 : FVec Ideal S1024x256 .bf16) (a2 : FVec Ideal S1024x256 .bf16) : FVec Ideal S8448x1024 .f32 :=
  Host.dotGeneral (φ₁ := .f32) (φ₂ := .f32) dot_S8448x256_S256x1024_S8448x1024_1_0_0_1_n_n none (extf .f32 a0 bitsLt_bf16_f32) (transpose S256x1024 [1, 0] (extf .f32 a2 bitsLt_bf16_f32) transposes_S1024x256_S256x1024_1_0)

end Cert.UkvRefIdeal.Value

namespace Cert.UkvIdeal.Value

open Idealize.ShloMosaic Idealize.ShloMosaic.TcCoe Idealize.SL.Sem
open Idealize.ShloMosaic.Pipeline (Dat)
open Cert.UkvIdeal Cert.UkvIdeal.Gen

variable (m : (ℓ : Loc nD τ sig) → Buf (Elt Ideal) ℓ)

theorem places : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem final0 (c : Dev nD) : (dats m 0 c).arrAt 3 (cfgs 0).N
    = Cert.UkvRefIdeal.Value.out0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, Cert.UkvRefIdeal.Value.out0]
  blk_point [iblk, V, places t]

theorem final1 (c : Dev nD) : (dats m 0 c).arrAt 4 (cfgs 0).N
    = Cert.UkvRefIdeal.Value.out1 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  pointwise [k0_pay2, Cert.UkvRefIdeal.Value.out1]
  blk_point [iblk, V, places t]

end Cert.UkvIdeal.Value

namespace Cert.Proof

open Idealize.ShloMosaic Idealize.ShloMosaic.TcCoe Idealize.SL.Sem

theorem Ukv_frame : quiescent_Ukv (hUkv := Cert.Ukv.Gen.facts) := fun m ρ _ => Cert.Ukv.Gen.frame m ρ

theorem UkvIdeal_frame : quiescent_UkvIdeal (hUkvIdeal := Cert.UkvIdeal.Gen.facts) := fun m ρ _ => Cert.UkvIdeal.Gen.frame m ρ

theorem UkvRefIdeal_frame : quiescent_UkvRefIdeal (hUkvRefIdeal := Cert.UkvRefIdeal.Gen.facts) := fun m ρ _ =>
  (θ_run Cert.UkvRefIdeal.defs _ _).mono (fun r h => ⟨fun c => (h c).2.2, sem_eq_zero_of_no_sems (by decide) r.2⟩)
    (Cert.UkvRefIdeal.Value.run (F := Ideal) m ρ)

theorem Ukv_preserves : preserves_Ukv_UkvIdeal := trivial

set_option maxHeartbeats 2000000 in
theorem Ukv_algebraic : algebraic_UkvIdeal_UkvRefIdeal (hUkvIdeal := Cert.UkvIdeal.Gen.facts) (hUkvRefIdeal := Cert.UkvRefIdeal.Gen.facts) := by
  pair_intro
  · run_from Cert.UkvIdeal.Gen.run_main m g
  · run_from Cert.UkvRefIdeal.Value.run (F := Ideal) m' g'
    · exact (Cert.UkvIdeal.Value.final0 m c).symm
    · exact (Cert.UkvIdeal.Value.final1 m c).symm

end Cert.Proof

end
-- ==== Proof.MUqDa.lean ====
/- The gradient of the queries' latent: the call's result is the reference's, and its frames. -/
module

public import proofs.«01_k».proof.Defs
public import proofs.«01_k».proof.Proof.Gen.UqDa.Frame
public import proofs.«01_k».proof.Proof.Gen.UqDaIdeal.Frame
public import proofs.«01_k».proof.Proof.Gen.UqDaRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.UqDaRefIdeal.Value

open Cert.UqDaRefIdeal Cert.UqDaRefIdeal.Gen Idealize.ShloMosaic Idealize.ShloMosaic.TcCoe Idealize.SL.Sem

def out0 (a0 : FVec Ideal S8448x1024 .bf16) (a1 : FVec Ideal S8448x1024 .bf16) (a2 : FVec Ideal S1024x384 .bf16) (a3 : FVec Ideal S1024x384 .bf16) : FVec Ideal S8448x384 .f32 :=
  addf (Host.dotGeneral (φ₁ := .f32) (φ₂ := .f32) dot_S8448x1024_S384x1024_S8448x384_1_1_0_0_n_n none (extf .f32 a0 bitsLt_bf16_f32) (transpose S384x1024 [1, 0] (extf .f32 a2 bitsLt_bf16_f32) transposes_S1024x384_S384x1024_1_0)) (Host.dotGeneral (φ₁ := .f32) (φ₂ := .f32) dot_S8448x1024_S384x1024_S8448x384_1_1_0_0_n_n none (extf .f32 a1 bitsLt_bf16_f32) (transpose S384x1024 [1, 0] (extf .f32 a3 bitsLt_bf16_f32) transposes_S1024x384_S384x1024_1_0))

end Cert.UqDaRefIdeal.Value

namespace Cert.UqDaIdeal.Value

open Idealize.ShloMosaic Idealize.ShloMosaic.TcCoe Idealize.SL.Sem
open Idealize.ShloMosaic.Pipeline (Dat)
open Cert.UqDaIdeal Cert.UqDaIdeal.Gen

variable (m : (ℓ : Loc nD τ sig) → Buf (Elt Ideal) ℓ)

theorem places : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

theorem final0 (c : Dev nD) : (dats m 0 c).arrAt 4 (cfgs 0).N
    = Cert.UqDaRefIdeal.Value.out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, Cert.UqDaRefIdeal.Value.out0]
  blk_point [iblk, V, places t]

end Cert.UqDaIdeal.Value

namespace Cert.Proof

open Idealize.ShloMosaic Idealize.ShloMosaic.TcCoe Idealize.SL.Sem

theorem UqDa_frame : quiescent_UqDa (hUqDa := Cert.UqDa.Gen.facts) := fun m ρ _ => Cert.UqDa.Gen.frame m ρ

theorem UqDaIdeal_frame : quiescent_UqDaIdeal (hUqDaIdeal := Cert.UqDaIdeal.Gen.facts) := fun m ρ _ => Cert.UqDaIdeal.Gen.frame m ρ

theorem UqDaRefIdeal_frame : quiescent_UqDaRefIdeal (hUqDaRefIdeal := Cert.UqDaRefIdeal.Gen.facts) := fun m ρ _ =>
  (θ_run Cert.UqDaRefIdeal.defs _ _).mono (fun r h => ⟨fun c => (h c).2, sem_eq_zero_of_no_sems (by decide) r.2⟩)
    (Cert.UqDaRefIdeal.Value.run (F := Ideal) m ρ)

theorem UqDa_preserves : preserves_UqDa_UqDaIdeal := trivial

theorem UqDa_algebraic : algebraic_UqDaIdeal_UqDaRefIdeal (hUqDaIdeal := Cert.UqDaIdeal.Gen.facts) (hUqDaRefIdeal := Cert.UqDaRefIdeal.Gen.facts) := by
  pair_intro
  · run_from Cert.UqDaIdeal.Gen.run_main m g
  · run_from Cert.UqDaRefIdeal.Value.run (F := Ideal) m' g'
    exact (Cert.UqDaIdeal.Value.final0 m c).symm

end Cert.Proof

end
-- ==== Proof.MUkvDa.lean ====
/- The gradient of the keys' and values' latent: the call's result is the reference's, and its frames. -/
module

public import proofs.«01_k».proof.Defs
public import proofs.«01_k».proof.Proof.Gen.UkvDa.Frame
public import proofs.«01_k».proof.Proof.Gen.UkvDaIdeal.Frame
public import proofs.«01_k».proof.Proof.Gen.UkvDaRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.UkvDaRefIdeal.Value

open Cert.UkvDaRefIdeal Cert.UkvDaRefIdeal.Gen Idealize.ShloMosaic Idealize.ShloMosaic.TcCoe Idealize.SL.Sem

def out0 (a0 : FVec Ideal S8448x1024 .bf16) (a1 : FVec Ideal S8448x1024 .bf16) (a2 : FVec Ideal S1024x256 .bf16) (a3 : FVec Ideal S1024x256 .bf16) : FVec Ideal S8448x256 .f32 :=
  addf (Host.dotGeneral (φ₁ := .f32) (φ₂ := .f32) dot_S8448x1024_S256x1024_S8448x256_1_1_0_0_n_n none (extf .f32 a0 bitsLt_bf16_f32) (transpose S256x1024 [1, 0] (extf .f32 a2 bitsLt_bf16_f32) transposes_S1024x256_S256x1024_1_0)) (Host.dotGeneral (φ₁ := .f32) (φ₂ := .f32) dot_S8448x1024_S256x1024_S8448x256_1_1_0_0_n_n none (extf .f32 a1 bitsLt_bf16_f32) (transpose S256x1024 [1, 0] (extf .f32 a3 bitsLt_bf16_f32) transposes_S1024x256_S256x1024_1_0))

end Cert.UkvDaRefIdeal.Value

namespace Cert.UkvDaIdeal.Value

open Idealize.ShloMosaic Idealize.ShloMosaic.TcCoe Idealize.SL.Sem
open Idealize.ShloMosaic.Pipeline (Dat)
open Cert.UkvDaIdeal Cert.UkvDaIdeal.Gen

variable (m : (ℓ : Loc nD τ sig) → Buf (Elt Ideal) ℓ)

theorem places : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

theorem final0 (c : Dev nD) : (dats m 0 c).arrAt 4 (cfgs 0).N
    = Cert.UkvDaRefIdeal.Value.out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, Cert.UkvDaRefIdeal.Value.out0]
  blk_point [iblk, V, places t]

end Cert.UkvDaIdeal.Value

namespace Cert.Proof

open Idealize.ShloMosaic Idealize.ShloMosaic.TcCoe Idealize.SL.Sem

theorem UkvDa_frame : quiescent_UkvDa (hUkvDa := Cert.UkvDa.Gen.facts) := fun m ρ _ => Cert.UkvDa.Gen.frame m ρ

theorem UkvDaIdeal_frame : quiescent_UkvDaIdeal (hUkvDaIdeal := Cert.UkvDaIdeal.Gen.facts) := fun m ρ _ => Cert.UkvDaIdeal.Gen.frame m ρ

theorem UkvDaRefIdeal_frame : quiescent_UkvDaRefIdeal (hUkvDaRefIdeal := Cert.UkvDaRefIdeal.Gen.facts) := fun m ρ _ =>
  (θ_run Cert.UkvDaRefIdeal.defs _ _).mono (fun r h => ⟨fun c => (h c).2, sem_eq_zero_of_no_sems (by decide) r.2⟩)
    (Cert.UkvDaRefIdeal.Value.run (F := Ideal) m ρ)

theorem UkvDa_preserves : preserves_UkvDa_UkvDaIdeal := trivial

theorem UkvDa_algebraic : algebraic_UkvDaIdeal_UkvDaRefIdeal (hUkvDaIdeal := Cert.UkvDaIdeal.Gen.facts) (hUkvDaRefIdeal := Cert.UkvDaRefIdeal.Gen.facts) := by
  pair_intro
  · run_from Cert.UkvDaIdeal.Gen.run_main m g
  · run_from Cert.UkvDaRefIdeal.Value.run (F := Ideal) m' g'
    exact (Cert.UkvDaIdeal.Value.final0 m c).symm

end Cert.Proof

end
-- ==== Proof.MUqDw.lean ====
/- The gradient of a weight of the queries' latent: the call's result is the reference's, and its frames. -/
module

public import proofs.«01_k».proof.Defs
public import proofs.«01_k».proof.Proof.Gen.UqDw.Frame
public import proofs.«01_k».proof.Proof.Gen.UqDwIdeal.Frame
public import proofs.«01_k».proof.Proof.Gen.UqDwRefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.UqDwRefIdeal.Value

open Cert.UqDwRefIdeal Cert.UqDwRefIdeal.Gen Idealize.ShloMosaic Idealize.ShloMosaic.TcCoe Idealize.SL.Sem

def out0 (a0 : FVec Ideal S8448x384 .bf16) (a1 : FVec Ideal S8448x1024 .bf16) : FVec Ideal S384x1024 .bf16 :=
  truncf .bf16 (transpose S384x1024 [1, 0] (Host.dotGeneral (φ₁ := .f32) (φ₂ := .f32) dot_S8448x1024_S8448x384_S1024x384_0_0_1_1_n_n none (extf .f32 a1 bitsLt_bf16_f32) (extf .f32 a0 bitsLt_bf16_f32)) transposes_S1024x384_S384x1024_1_0) bitsLt_bf16_f32

theorem out0_at (a0 : FVec Ideal S8448x384 .bf16) (a1 : FVec Ideal S8448x1024 .bf16) (j : S384x1024.Idx) :
    out0 a0 a1 j = ∑ l : Fin 8448, a0 (ix2 l (j 0)) * a1 (ix2 l (j 1)) := by
  pointwise! [out0]

end Cert.UqDwRefIdeal.Value

namespace Cert.UqDwIdeal.Value

open Idealize.ShloMosaic Idealize.ShloMosaic.TcCoe Idealize.SL.Sem
open Idealize.ShloMosaic.Pipeline (Dat)
open Cert.UqDwIdeal Cert.UqDwIdeal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x384 .bf16) (w : Vec Ideal S1408x1024 .bf16) (j : S384x1024.Idx) :
    k0_pay2 x w j = ∑ k : Fin 1408, x (ix2 k (j 0)) * w (ix2 k (j 1)) := by
  pointwise! [k0_pay2, k0_pay1]

theorem step_at (x : Vec Ideal S1408x384 .bf16) (w : Vec Ideal S1408x1024 .bf16) (acc : Vec Ideal S384x1024 .f32) (j : S384x1024.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S384x1024.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.UqDwRefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      have hN : t.val < 6 := lt_of_lt_of_eq t.isLt N_0
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.UqDwRefIdeal.Value.out0_at]
  refine Fin.sum_mul_add_congr fun s k hl => ?_
  blk_point [iblk, V, places t, places ⟨_, Pipeline.run_point_lt_of_flush t hr s⟩]

end Cert.UqDwIdeal.Value

namespace Cert.Proof

open Idealize.ShloMosaic Idealize.ShloMosaic.TcCoe Idealize.SL.Sem

theorem UqDw_frame : quiescent_UqDw (hUqDw := Cert.UqDw.Gen.facts) := fun m ρ _ => Cert.UqDw.Gen.frame m ρ

theorem UqDwIdeal_frame : quiescent_UqDwIdeal (hUqDwIdeal := Cert.UqDwIdeal.Gen.facts) := fun m ρ _ => Cert.UqDwIdeal.Gen.frame m ρ

theorem UqDwRefIdeal_frame : quiescent_UqDwRefIdeal (hUqDwRefIdeal := Cert.UqDwRefIdeal.Gen.facts) := fun m ρ _ =>
  (θ_run Cert.UqDwRefIdeal.defs _ _).mono (fun r h => ⟨fun c => (h c).2, sem_eq_zero_of_no_sems (by decide) r.2⟩)
    (Cert.UqDwRefIdeal.Value.run (F := Ideal) m ρ)

theorem UqDw_preserves : preserves_UqDw_UqDwIdeal := trivial

theorem UqDw_algebraic : algebraic_UqDwIdeal_UqDwRefIdeal (hUqDwIdeal := Cert.UqDwIdeal.Gen.facts) (hUqDwRefIdeal := Cert.UqDwRefIdeal.Gen.facts) := by
  pair_intro
  · run_from Cert.UqDwIdeal.Gen.run_main m g
  · run_from Cert.UqDwRefIdeal.Value.run (F := Ideal) m' g'
    exact (Cert.UqDwIdeal.Value.final0 m c).symm

end Cert.Proof

end
-- ==== Proof.MUkvDw.lean ====
/- The gradient of a weight of the keys' and values' latent: the call's result is the reference's, and its frames. -/
module

public import proofs.«01_k».proof.Defs
public import proofs.«01_k».proof.Proof.Gen.UkvDw.Frame
public import proofs.«01_k».proof.Proof.Gen.UkvDwIdeal.Frame
public import proofs.«01_k».proof.Proof.Gen.UkvDwRefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.UkvDwRefIdeal.Value

open Cert.UkvDwRefIdeal Cert.UkvDwRefIdeal.Gen Idealize.ShloMosaic Idealize.ShloMosaic.TcCoe Idealize.SL.Sem

def out0 (a0 : FVec Ideal S8448x256 .bf16) (a1 : FVec Ideal S8448x1024 .bf16) : FVec Ideal S256x1024 .bf16 :=
  truncf .bf16 (transpose S256x1024 [1, 0] (Host.dotGeneral (φ₁ := .f32) (φ₂ := .f32) dot_S8448x1024_S8448x256_S1024x256_0_0_1_1_n_n none (extf .f32 a1 bitsLt_bf16_f32) (extf .f32 a0 bitsLt_bf16_f32)) transposes_S1024x256_S256x1024_1_0) bitsLt_bf16_f32

theorem out0_at (a0 : FVec Ideal S8448x256 .bf16) (a1 : FVec Ideal S8448x1024 .bf16) (j : S256x1024.Idx) :
    out0 a0 a1 j = ∑ l : Fin 8448, a0 (ix2 l (j 0)) * a1 (ix2 l (j 1)) := by
  pointwise! [out0]

end Cert.UkvDwRefIdeal.Value

namespace Cert.UkvDwIdeal.Value

open Idealize.ShloMosaic Idealize.ShloMosaic.TcCoe Idealize.SL.Sem
open Idealize.ShloMosaic.Pipeline (Dat)
open Cert.UkvDwIdeal Cert.UkvDwIdeal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x256 .bf16) (w : Vec Ideal S1408x1024 .bf16) (j : S256x1024.Idx) :
    k0_pay2 x w j = ∑ k : Fin 1408, x (ix2 k (j 0)) * w (ix2 k (j 1)) := by
  pointwise! [k0_pay2, k0_pay1]

theorem step_at (x : Vec Ideal S1408x256 .bf16) (w : Vec Ideal S1408x1024 .bf16) (acc : Vec Ideal S256x1024 .f32) (j : S256x1024.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S256x1024.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.UkvDwRefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      have hN : t.val < 6 := lt_of_lt_of_eq t.isLt N_0
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.UkvDwRefIdeal.Value.out0_at]
  refine Fin.sum_mul_add_congr fun s k hl => ?_
  blk_point [iblk, V, places t, places ⟨_, Pipeline.run_point_lt_of_flush t hr s⟩]

end Cert.UkvDwIdeal.Value

namespace Cert.Proof

open Idealize.ShloMosaic Idealize.ShloMosaic.TcCoe Idealize.SL.Sem

theorem UkvDw_frame : quiescent_UkvDw (hUkvDw := Cert.UkvDw.Gen.facts) := fun m ρ _ => Cert.UkvDw.Gen.frame m ρ

theorem UkvDwIdeal_frame : quiescent_UkvDwIdeal (hUkvDwIdeal := Cert.UkvDwIdeal.Gen.facts) := fun m ρ _ => Cert.UkvDwIdeal.Gen.frame m ρ

theorem UkvDwRefIdeal_frame : quiescent_UkvDwRefIdeal (hUkvDwRefIdeal := Cert.UkvDwRefIdeal.Gen.facts) := fun m ρ _ =>
  (θ_run Cert.UkvDwRefIdeal.defs _ _).mono (fun r h => ⟨fun c => (h c).2, sem_eq_zero_of_no_sems (by decide) r.2⟩)
    (Cert.UkvDwRefIdeal.Value.run (F := Ideal) m ρ)

theorem UkvDw_preserves : preserves_UkvDw_UkvDwIdeal := trivial

theorem UkvDw_algebraic : algebraic_UkvDwIdeal_UkvDwRefIdeal (hUkvDwIdeal := Cert.UkvDwIdeal.Gen.facts) (hUkvDwRefIdeal := Cert.UkvDwRefIdeal.Gen.facts) := by
  pair_intro
  · run_from Cert.UkvDwIdeal.Gen.run_main m g
  · run_from Cert.UkvDwRefIdeal.Value.run (F := Ideal) m' g'
    exact (Cert.UkvDwIdeal.Value.final0 m c).symm

end Cert.Proof

end
-- ==== Proof.MInDw128.lean ====
/- The gradient of a part of the input weight, of width 128: the call's result is the reference's, and its frames. -/
module

public import proofs.«01_k».proof.Defs
public import proofs.«01_k».proof.Proof.Gen.InDw128.Frame
public import proofs.«01_k».proof.Proof.Gen.InDw128Ideal.Frame
public import proofs.«01_k».proof.Proof.Gen.InDw128RefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.InDw128RefIdeal.Value

open Cert.InDw128RefIdeal Cert.InDw128RefIdeal.Gen Idealize.ShloMosaic Idealize.ShloMosaic.TcCoe Idealize.SL.Sem

def out0 (a0 : FVec Ideal S8448x1024 .bf16) (a1 : FVec Ideal S8448x128 .bf16) : FVec Ideal S1024x128 .bf16 :=
  truncf .bf16 (transpose S1024x128 [1, 0] (Host.dotGeneral (φ₁ := .f32) (φ₂ := .f32) dot_S8448x128_S8448x1024_S128x1024_0_0_1_1_n_n none (extf .f32 a1 bitsLt_bf16_f32) (extf .f32 a0 bitsLt_bf16_f32)) transposes_S128x1024_S1024x128_1_0) bitsLt_bf16_f32

theorem out0_at (a0 : FVec Ideal S8448x1024 .bf16) (a1 : FVec Ideal S8448x128 .bf16) (j : S1024x128.Idx) :
    out0 a0 a1 j = ∑ l : Fin 8448, a0 (ix2 l (j 0)) * a1 (ix2 l (j 1)) := by
  pointwise! [out0]

end Cert.InDw128RefIdeal.Value

namespace Cert.InDw128Ideal.Value

open Idealize.ShloMosaic Idealize.ShloMosaic.TcCoe Idealize.SL.Sem
open Idealize.ShloMosaic.Pipeline (Dat)
open Cert.InDw128Ideal Cert.InDw128Ideal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x1024 .bf16) (w : Vec Ideal S1408x128 .bf16) (j : S1024x128.Idx) :
    k0_pay2 x w j = ∑ k : Fin 1408, x (ix2 k (j 0)) * w (ix2 k (j 1)) := by
  pointwise! [k0_pay2, k0_pay1]

theorem step_at (x : Vec Ideal S1408x1024 .bf16) (w : Vec Ideal S1408x128 .bf16) (acc : Vec Ideal S1024x128 .f32) (j : S1024x128.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S1024x128.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.InDw128RefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      have hN : t.val < 6 := lt_of_lt_of_eq t.isLt N_0
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.InDw128RefIdeal.Value.out0_at]
  refine Fin.sum_mul_add_congr fun s k hl => ?_
  blk_point [iblk, V, places t, places ⟨_, Pipeline.run_point_lt_of_flush t hr s⟩]

end Cert.InDw128Ideal.Value

namespace Cert.Proof

open Idealize.ShloMosaic Idealize.ShloMosaic.TcCoe Idealize.SL.Sem

theorem InDw128_frame : quiescent_InDw128 (hInDw128 := Cert.InDw128.Gen.facts) := fun m ρ _ => Cert.InDw128.Gen.frame m ρ

theorem InDw128Ideal_frame : quiescent_InDw128Ideal (hInDw128Ideal := Cert.InDw128Ideal.Gen.facts) := fun m ρ _ => Cert.InDw128Ideal.Gen.frame m ρ

theorem InDw128RefIdeal_frame : quiescent_InDw128RefIdeal (hInDw128RefIdeal := Cert.InDw128RefIdeal.Gen.facts) := fun m ρ _ =>
  (θ_run Cert.InDw128RefIdeal.defs _ _).mono (fun r h => ⟨fun c => (h c).2, sem_eq_zero_of_no_sems (by decide) r.2⟩)
    (Cert.InDw128RefIdeal.Value.run (F := Ideal) m ρ)

theorem InDw128_preserves : preserves_InDw128_InDw128Ideal := trivial

theorem InDw128_algebraic : algebraic_InDw128Ideal_InDw128RefIdeal (hInDw128Ideal := Cert.InDw128Ideal.Gen.facts) (hInDw128RefIdeal := Cert.InDw128RefIdeal.Gen.facts) := by
  pair_intro
  · run_from Cert.InDw128Ideal.Gen.run_main m g
  · run_from Cert.InDw128RefIdeal.Value.run (F := Ideal) m' g'
    exact (Cert.InDw128Ideal.Value.final0 m c).symm

end Cert.Proof

end
-- ==== Proof.MInDw32.lean ====
/- The gradient of a part of the input weight, of width 32: the call's result is the reference's, and its frames. -/
module

public import proofs.«01_k».proof.Defs
public import proofs.«01_k».proof.Proof.Gen.InDw32.Frame
public import proofs.«01_k».proof.Proof.Gen.InDw32Ideal.Frame
public import proofs.«01_k».proof.Proof.Gen.InDw32RefIdeal.Run
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

namespace Cert.InDw32RefIdeal.Value

open Cert.InDw32RefIdeal Cert.InDw32RefIdeal.Gen Idealize.ShloMosaic Idealize.ShloMosaic.TcCoe Idealize.SL.Sem

def out0 (a0 : FVec Ideal S8448x1024 .bf16) (a1 : FVec Ideal S8448x32 .bf16) : FVec Ideal S1024x32 .bf16 :=
  truncf .bf16 (transpose S1024x32 [1, 0] (Host.dotGeneral (φ₁ := .f32) (φ₂ := .f32) dot_S8448x32_S8448x1024_S32x1024_0_0_1_1_n_n none (extf .f32 a1 bitsLt_bf16_f32) (extf .f32 a0 bitsLt_bf16_f32)) transposes_S32x1024_S1024x32_1_0) bitsLt_bf16_f32

theorem out0_at (a0 : FVec Ideal S8448x1024 .bf16) (a1 : FVec Ideal S8448x32 .bf16) (j : S1024x32.Idx) :
    out0 a0 a1 j = ∑ l : Fin 8448, a0 (ix2 l (j 0)) * a1 (ix2 l (j 1)) := by
  pointwise! [out0]

end Cert.InDw32RefIdeal.Value

namespace Cert.InDw32Ideal.Value

open Idealize.ShloMosaic Idealize.ShloMosaic.TcCoe Idealize.SL.Sem
open Idealize.ShloMosaic.Pipeline (Dat)
open Cert.InDw32Ideal Cert.InDw32Ideal.Gen

variable (m : (ℓ : Loc nD τ sig) → Buf (Elt Ideal) ℓ)

theorem places : ∀ t : Fin cfg0.N, win0_0.index t = ![t.val % 6, t.val / 6] ∧ win0_1.index t = ![t.val % 6, 0] ∧ win0_2.index t = ![t.val / 6, 0] :=
  (by decide +kernel : ∀ t : Fin grid0.N, _)

theorem first_at (x : Vec Ideal S1408x1024 .bf16) (w : Vec Ideal S1408x32 .bf16) (j : S1024x32.Idx) :
    k0_pay2 x w j = ∑ k : Fin 1408, x (ix2 k (j 0)) * w (ix2 k (j 1)) := by
  pointwise! [k0_pay2, k0_pay1]

theorem step_at (x : Vec Ideal S1408x1024 .bf16) (w : Vec Ideal S1408x32 .bf16) (acc : Vec Ideal S1024x32 .f32) (j : S1024x32.Idx) :
    k0_pay3 x w acc j = acc j + ∑ k : Fin 1408, x (ix2 k (j 0)) * w (ix2 k (j 1)) := by
  pointwise [k0_pay3, k0_pay1]

theorem stored (c : Dev nD) (t : Fin cfg0.N) (h : t.val % 6 = 5) (j : S1024x32.Idx) :
    (outsAt0 m c t.val t.isLt).1 j = (outsAt0 m c t.val t.isLt).2 j := by
  rw [outsAt0_C m c t (by omega) (by omega) h]
  frame_out
  pointwise [k0_pay4]
theorem final0 (c : Dev nD) : (dats m 0 c).arrAt 2 (cfgs 0).N
    = Cert.InDw32RefIdeal.Value.out0 (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, stored m c t hr, Pipeline.eq_sum_fin_of_reset_step_apply_of_flush (fun n h => (outsAt0 m c n h).2) 6 (fun _ => 0) _
    (fun (t : Fin cfg0.N) (h : t.val % 6 = 0) j => by
      have hN : t.val < 6 := lt_of_lt_of_eq t.isLt N_0
      rw [outsAt0_A m c t h (by omega) (by omega)]; frame_out; rw [first_at, zero_add])
    (fun (t : Fin cfg0.N) (h : ¬t.val % 6 = 0) j => by
      by_cases h' : t.val % 6 = 5
      · rw [outsAt0_C m c t h (by omega) h']; frame_out; rw [step_at, read_unread_whole]
      · rw [outsAt0_B m c t h (by omega) h']; frame_out; rw [step_at, read_unread_whole])
    t hr _, zero_add, Cert.InDw32RefIdeal.Value.out0_at]
  refine Fin.sum_mul_add_congr fun s k hl => ?_
  blk_point [iblk, V, places t, places ⟨_, Pipeline.run_point_lt_of_flush t hr s⟩]

end Cert.InDw32Ideal.Value

namespace Cert.Proof

open Idealize.ShloMosaic Idealize.ShloMosaic.TcCoe Idealize.SL.Sem

theorem InDw32_frame : quiescent_InDw32 (hInDw32 := Cert.InDw32.Gen.facts) := fun m ρ _ => Cert.InDw32.Gen.frame m ρ

theorem InDw32Ideal_frame : quiescent_InDw32Ideal (hInDw32Ideal := Cert.InDw32Ideal.Gen.facts) := fun m ρ _ => Cert.InDw32Ideal.Gen.frame m ρ

theorem InDw32RefIdeal_frame : quiescent_InDw32RefIdeal (hInDw32RefIdeal := Cert.InDw32RefIdeal.Gen.facts) := fun m ρ _ =>
  (θ_run Cert.InDw32RefIdeal.defs _ _).mono (fun r h => ⟨fun c => (h c).2, sem_eq_zero_of_no_sems (by decide) r.2⟩)
    (Cert.InDw32RefIdeal.Value.run (F := Ideal) m ρ)

theorem InDw32_preserves : preserves_InDw32_InDw32Ideal := trivial

theorem InDw32_algebraic : algebraic_InDw32Ideal_InDw32RefIdeal (hInDw32Ideal := Cert.InDw32Ideal.Gen.facts) (hInDw32RefIdeal := Cert.InDw32RefIdeal.Gen.facts) := by
  pair_intro
  · run_from Cert.InDw32Ideal.Gen.run_main m g
  · run_from Cert.InDw32RefIdeal.Value.run (F := Ideal) m' g'
    exact (Cert.InDw32Ideal.Value.final0 m c).symm

end Cert.Proof

end
-- ==== Proof.MMod.lean ====
/- The modulation product: the call's result is the reference's, and its frames. -/
module

public import proofs.«01_k».proof.Defs
public import proofs.«01_k».proof.Proof.Gen.Mod.Frame
public import proofs.«01_k».proof.Proof.Gen.ModIdeal.Frame
public import proofs.«01_k».proof.Proof.Gen.ModRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.ModRefIdeal.Value

open Cert.ModRefIdeal Cert.ModRefIdeal.Gen Idealize.ShloMosaic Idealize.ShloMosaic.TcCoe Idealize.SL.Sem

def out0 (a0 : FVec Ideal S16x1024 .f32) (a1 : FVec Ideal S1024x768 .f32) (a2 : FVec Ideal S16x768 .f32) : FVec Ideal S16x768 .f32 :=
  addf (Host.dotGeneral (φ₁ := .f32) (φ₂ := .f32) dot_S16x1024_S1024x768_S16x768_1_0_0_1_n_n none a0 a1) a2

end Cert.ModRefIdeal.Value

namespace Cert.ModIdeal.Value

open Idealize.ShloMosaic Idealize.ShloMosaic.TcCoe Idealize.SL.Sem
open Idealize.ShloMosaic.Pipeline (Dat)
open Cert.ModIdeal Cert.ModIdeal.Gen

variable (m : (ℓ : Loc nD τ sig) → Buf (Elt Ideal) ℓ)

theorem places : ∀ t : Fin cfg0.N, win0_0.index t = ![0, 0] ∧ win0_1.index t = ![0, 0] ∧ win0_2.index t = ![0, 0] ∧ win0_3.index t = ![0, 0] :=
  (by decide +kernel : ∀ t : Fin grid0.N, _)

theorem final0 (c : Dev nD) : (dats m 0 c).arrAt 3 (cfgs 0).N
    = Cert.ModRefIdeal.Value.out0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, Cert.ModRefIdeal.Value.out0]
  blk_point [iblk, V_main_arg0, V_main_arg1, V_main_arg2, places t]

end Cert.ModIdeal.Value

namespace Cert.Proof

open Idealize.ShloMosaic Idealize.ShloMosaic.TcCoe Idealize.SL.Sem

theorem Mod_frame : quiescent_Mod (hMod := Cert.Mod.Gen.facts) := fun m ρ _ => Cert.Mod.Gen.frame m ρ

theorem ModIdeal_frame : quiescent_ModIdeal (hModIdeal := Cert.ModIdeal.Gen.facts) := fun m ρ _ => Cert.ModIdeal.Gen.frame m ρ

theorem ModRefIdeal_frame : quiescent_ModRefIdeal (hModRefIdeal := Cert.ModRefIdeal.Gen.facts) := fun m ρ _ =>
  (θ_run Cert.ModRefIdeal.defs _ _).mono (fun r h => ⟨fun c => (h c).2, sem_eq_zero_of_no_sems (by decide) r.2⟩)
    (Cert.ModRefIdeal.Value.run (F := Ideal) m ρ)

theorem Mod_preserves : preserves_Mod_ModIdeal := trivial

theorem Mod_algebraic : algebraic_ModIdeal_ModRefIdeal (hModIdeal := Cert.ModIdeal.Gen.facts) (hModRefIdeal := Cert.ModRefIdeal.Gen.facts) := by
  pair_intro
  · run_from Cert.ModIdeal.Gen.run_main m g
  · run_from Cert.ModRefIdeal.Value.run (F := Ideal) m' g'
    exact (Cert.ModIdeal.Value.final0 m c).symm

end Cert.Proof

end
-- ==== Proof.MModDw.lean ====
/- The gradient of the modulation product's weight: the call's result is the reference's, and its frames. -/
module

public import proofs.«01_k».proof.Defs
public import proofs.«01_k».proof.Proof.Gen.ModDw.Frame
public import proofs.«01_k».proof.Proof.Gen.ModDwIdeal.Frame
public import proofs.«01_k».proof.Proof.Gen.ModDwRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.ModDwRefIdeal.Value

open Cert.ModDwRefIdeal Cert.ModDwRefIdeal.Gen Idealize.ShloMosaic Idealize.ShloMosaic.TcCoe Idealize.SL.Sem

def out0 (a0 : FVec Ideal S16x1024 .f32) (a1 : FVec Ideal S16x768 .f32) : FVec Ideal S1024x768 .f32 :=
  transpose S1024x768 [1, 0] (Host.dotGeneral (φ₁ := .f32) (φ₂ := .f32) dot_S16x768_S16x1024_S768x1024_0_0_1_1_n_n none a1 a0) transposes_S768x1024_S1024x768_1_0

theorem out0_at (a0 : FVec Ideal S16x1024 .f32) (a1 : FVec Ideal S16x768 .f32) (j : S1024x768.Idx) :
    out0 a0 a1 j = ∑ l : Fin 16, a0 (ix2 l (j 0)) * a1 (ix2 l (j 1)) := by
  pointwise! [out0]

end Cert.ModDwRefIdeal.Value

namespace Cert.ModDwIdeal.Value

open Idealize.ShloMosaic Idealize.ShloMosaic.TcCoe Idealize.SL.Sem
open Idealize.ShloMosaic.Pipeline (Dat)
open Cert.ModDwIdeal Cert.ModDwIdeal.Gen

variable (m : (ℓ : Loc nD τ sig) → Buf (Elt Ideal) ℓ)

theorem places : ∀ t : Fin cfg0.N, win0_0.index t = ![0, 0] ∧ win0_1.index t = ![0, 0] ∧ win0_2.index t = ![0, 0] :=
  (by decide +kernel : ∀ t : Fin grid0.N, _)

theorem pay_at (x : Vec Ideal S16x1024 .f32) (w : Vec Ideal S16x768 .f32) (j : S1024x768.Idx) :
    k0_pay1 x w j = ∑ l : Fin 16, x (ix2 l (j 0)) * w (ix2 l (j 1)) := by
  pointwise [k0_pay1]

theorem final0 (c : Dev nD) : (dats m 0 c).arrAt 2 (cfgs 0).N
    = Cert.ModDwRefIdeal.Value.out0 (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.ModDwRefIdeal.Value.out0_at]
  blk_point [iblk, V, places t]

end Cert.ModDwIdeal.Value

namespace Cert.Proof

open Idealize.ShloMosaic Idealize.ShloMosaic.TcCoe Idealize.SL.Sem

theorem ModDw_frame : quiescent_ModDw (hModDw := Cert.ModDw.Gen.facts) := fun m ρ _ => Cert.ModDw.Gen.frame m ρ

theorem ModDwIdeal_frame : quiescent_ModDwIdeal (hModDwIdeal := Cert.ModDwIdeal.Gen.facts) := fun m ρ _ => Cert.ModDwIdeal.Gen.frame m ρ

theorem ModDwRefIdeal_frame : quiescent_ModDwRefIdeal (hModDwRefIdeal := Cert.ModDwRefIdeal.Gen.facts) := fun m ρ _ =>
  (θ_run Cert.ModDwRefIdeal.defs _ _).mono (fun r h => ⟨fun c => (h c).2, sem_eq_zero_of_no_sems (by decide) r.2⟩)
    (Cert.ModDwRefIdeal.Value.run (F := Ideal) m ρ)

theorem ModDw_preserves : preserves_ModDw_ModDwIdeal := trivial

theorem ModDw_algebraic : algebraic_ModDwIdeal_ModDwRefIdeal (hModDwIdeal := Cert.ModDwIdeal.Gen.facts) (hModDwRefIdeal := Cert.ModDwRefIdeal.Gen.facts) := by
  pair_intro
  · run_from Cert.ModDwIdeal.Gen.run_main m g
  · run_from Cert.ModDwRefIdeal.Value.run (F := Ideal) m' g'
    exact (Cert.ModDwIdeal.Value.final0 m c).symm

end Cert.Proof

end
-- ==== Proof.MModDa.lean ====
/- The gradient of the modulation product's left factor: the call's result is the reference's, and its frames. -/
module

public import proofs.«01_k».proof.Defs
public import proofs.«01_k».proof.Proof.Gen.ModDa.Frame
public import proofs.«01_k».proof.Proof.Gen.ModDaIdeal.Frame
public import proofs.«01_k».proof.Proof.Gen.ModDaRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.ModDaRefIdeal.Value

open Cert.ModDaRefIdeal Cert.ModDaRefIdeal.Gen Idealize.ShloMosaic Idealize.ShloMosaic.TcCoe Idealize.SL.Sem

def out0 (a0 : FVec Ideal S16x768 .f32) (a1 : FVec Ideal S1024x768 .f32) : FVec Ideal S16x1024 .f32 :=
  Host.dotGeneral (φ₁ := .f32) (φ₂ := .f32) dot_S16x768_S1024x768_S16x1024_1_1_0_0_n_n none a0 a1

end Cert.ModDaRefIdeal.Value

namespace Cert.ModDaIdeal.Value

open Idealize.ShloMosaic Idealize.ShloMosaic.TcCoe Idealize.SL.Sem
open Idealize.ShloMosaic.Pipeline (Dat)
open Cert.ModDaIdeal Cert.ModDaIdeal.Gen

variable (m : (ℓ : Loc nD τ sig) → Buf (Elt Ideal) ℓ)

theorem places : ∀ t : Fin cfg0.N, win0_0.index t = ![0, 0] ∧ win0_1.index t = ![0, 0] ∧ win0_2.index t = ![0, 0] :=
  (by decide +kernel : ∀ t : Fin grid0.N, _)

theorem final0 (c : Dev nD) : (dats m 0 c).arrAt 2 (cfgs 0).N
    = Cert.ModDaRefIdeal.Value.out0 (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.ModDaRefIdeal.Value.out0]
  blk_point [iblk, V, places t]

end Cert.ModDaIdeal.Value

namespace Cert.Proof

open Idealize.ShloMosaic Idealize.ShloMosaic.TcCoe Idealize.SL.Sem

theorem ModDa_frame : quiescent_ModDa (hModDa := Cert.ModDa.Gen.facts) := fun m ρ _ => Cert.ModDa.Gen.frame m ρ

theorem ModDaIdeal_frame : quiescent_ModDaIdeal (hModDaIdeal := Cert.ModDaIdeal.Gen.facts) := fun m ρ _ => Cert.ModDaIdeal.Gen.frame m ρ

theorem ModDaRefIdeal_frame : quiescent_ModDaRefIdeal (hModDaRefIdeal := Cert.ModDaRefIdeal.Gen.facts) := fun m ρ _ =>
  (θ_run Cert.ModDaRefIdeal.defs _ _).mono (fun r h => ⟨fun c => (h c).2, sem_eq_zero_of_no_sems (by decide) r.2⟩)
    (Cert.ModDaRefIdeal.Value.run (F := Ideal) m ρ)

theorem ModDa_preserves : preserves_ModDa_ModDaIdeal := trivial

theorem ModDa_algebraic : algebraic_ModDaIdeal_ModDaRefIdeal (hModDaIdeal := Cert.ModDaIdeal.Gen.facts) (hModDaRefIdeal := Cert.ModDaRefIdeal.Gen.facts) := by
  pair_intro
  · run_from Cert.ModDaIdeal.Gen.run_main m g
  · run_from Cert.ModDaRefIdeal.Value.run (F := Ideal) m' g'
    exact (Cert.ModDaIdeal.Value.final0 m c).symm

end Cert.Proof

end
-- ==== Proof.MModDaAdd.lean ====
/- The gradient of the modulation product's left factor, added: the call's result is the reference's, and its frames. -/
module

public import proofs.«01_k».proof.Defs
public import proofs.«01_k».proof.Proof.Gen.ModDaAdd.Frame
public import proofs.«01_k».proof.Proof.Gen.ModDaAddIdeal.Frame
public import proofs.«01_k».proof.Proof.Gen.ModDaAddRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.ModDaAddRefIdeal.Value

open Cert.ModDaAddRefIdeal Cert.ModDaAddRefIdeal.Gen Idealize.ShloMosaic Idealize.ShloMosaic.TcCoe Idealize.SL.Sem

def out0 (a0 : FVec Ideal S16x768 .f32) (a1 : FVec Ideal S1024x768 .f32) (a2 : FVec Ideal S16x1024 .f32) : FVec Ideal S16x1024 .f32 :=
  addf a2 (Host.dotGeneral (φ₁ := .f32) (φ₂ := .f32) dot_S16x768_S1024x768_S16x1024_1_1_0_0_n_n none a0 a1)

end Cert.ModDaAddRefIdeal.Value

namespace Cert.ModDaAddIdeal.Value

open Idealize.ShloMosaic Idealize.ShloMosaic.TcCoe Idealize.SL.Sem
open Idealize.ShloMosaic.Pipeline (Dat)
open Cert.ModDaAddIdeal Cert.ModDaAddIdeal.Gen

variable (m : (ℓ : Loc nD τ sig) → Buf (Elt Ideal) ℓ)

theorem places : ∀ t : Fin cfg0.N, win0_0.index t = ![0, 0] ∧ win0_1.index t = ![0, 0] ∧ win0_2.index t = ![0, 0] ∧ win0_3.index t = ![0, 0] :=
  (by decide +kernel : ∀ t : Fin grid0.N, _)

theorem final0 (c : Dev nD) : (dats m 0 c).arrAt 3 (cfgs 0).N
    = Cert.ModDaAddRefIdeal.Value.out0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, Cert.ModDaAddRefIdeal.Value.out0]
  blk_point [iblk, V_main_arg0, V_main_arg1, V_main_arg2, places t]

end Cert.ModDaAddIdeal.Value

namespace Cert.Proof

open Idealize.ShloMosaic Idealize.ShloMosaic.TcCoe Idealize.SL.Sem

theorem ModDaAdd_frame : quiescent_ModDaAdd (hModDaAdd := Cert.ModDaAdd.Gen.facts) := fun m ρ _ => Cert.ModDaAdd.Gen.frame m ρ

theorem ModDaAddIdeal_frame : quiescent_ModDaAddIdeal (hModDaAddIdeal := Cert.ModDaAddIdeal.Gen.facts) := fun m ρ _ => Cert.ModDaAddIdeal.Gen.frame m ρ

theorem ModDaAddRefIdeal_frame : quiescent_ModDaAddRefIdeal (hModDaAddRefIdeal := Cert.ModDaAddRefIdeal.Gen.facts) := fun m ρ _ =>
  (θ_run Cert.ModDaAddRefIdeal.defs _ _).mono (fun r h => ⟨fun c => (h c).2, sem_eq_zero_of_no_sems (by decide) r.2⟩)
    (Cert.ModDaAddRefIdeal.Value.run (F := Ideal) m ρ)

theorem ModDaAdd_preserves : preserves_ModDaAdd_ModDaAddIdeal := trivial

theorem ModDaAdd_algebraic : algebraic_ModDaAddIdeal_ModDaAddRefIdeal (hModDaAddIdeal := Cert.ModDaAddIdeal.Gen.facts) (hModDaAddRefIdeal := Cert.ModDaAddRefIdeal.Gen.facts) := by
  pair_intro
  · run_from Cert.ModDaAddIdeal.Gen.run_main m g
  · run_from Cert.ModDaAddRefIdeal.Value.run (F := Ideal) m' g'
    exact (Cert.ModDaAddIdeal.Value.final0 m c).symm

end Cert.Proof

end
-- ==== Proof.lean ====
/- The proof of the certificate's claim: the calls' claims, put together. -/
module

public import proofs.«01_k».proof.Defs
public import proofs.«01_k».proof.Proof.BAlg
public import proofs.«01_k».proof.Proof.FAlg
public import proofs.«01_k».proof.Proof.MUp
public import proofs.«01_k».proof.Proof.MDownDa
public import proofs.«01_k».proof.Proof.MProjDa
public import proofs.«01_k».proof.Proof.MProjF
public import proofs.«01_k».proof.Proof.MProjB
public import proofs.«01_k».proof.Proof.MOut
public import proofs.«01_k».proof.Proof.MIn0
public import proofs.«01_k».proof.Proof.MIn1
public import proofs.«01_k».proof.Proof.MInDa0
public import proofs.«01_k».proof.Proof.MInDa1
public import proofs.«01_k».proof.Proof.MDown
public import proofs.«01_k».proof.Proof.MGateDa
public import proofs.«01_k».proof.Proof.MUpDa
public import proofs.«01_k».proof.Proof.MUpDw
public import proofs.«01_k».proof.Proof.MDownDw
public import proofs.«01_k».proof.Proof.MProjDw
public import proofs.«01_k».proof.Proof.MProjDwF
public import proofs.«01_k».proof.Proof.MInDw1536
public import proofs.«01_k».proof.Proof.MInDw384
public import proofs.«01_k».proof.Proof.MInDw256
public import proofs.«01_k».proof.Proof.MUq
public import proofs.«01_k».proof.Proof.MUkv
public import proofs.«01_k».proof.Proof.MUqDa
public import proofs.«01_k».proof.Proof.MUkvDa
public import proofs.«01_k».proof.Proof.MUqDw
public import proofs.«01_k».proof.Proof.MUkvDw
public import proofs.«01_k».proof.Proof.MInDw128
public import proofs.«01_k».proof.Proof.MInDw32
public import proofs.«01_k».proof.Proof.MMod
public import proofs.«01_k».proof.Proof.MModDw
public import proofs.«01_k».proof.Proof.MModDa
public import proofs.«01_k».proof.Proof.MModDaAdd
public import Idealize.ShloMosaic.Adequacy
public import Idealize.ShloMosaic.Init

@[expose] public section

noncomputable section

namespace Cert.Proof

open Idealize.ShloMosaic Idealize.SL.Sem

theorem claim : Cert.Claim :=
  ⟨Cert.Bwd.Gen.facts, Cert.BwdIdeal.Gen.facts, Cert.BwdRefIdeal.Gen.facts, Cert.Fwd.Gen.facts, Cert.FwdIdeal.Gen.facts, Cert.FwdRefIdeal.Gen.facts,
    Cert.Up.Gen.facts, Cert.UpIdeal.Gen.facts, Cert.UpRefIdeal.Gen.facts,
    Cert.DownDa.Gen.facts, Cert.DownDaIdeal.Gen.facts, Cert.DownDaRefIdeal.Gen.facts,
    Cert.ProjDa.Gen.facts, Cert.ProjDaIdeal.Gen.facts, Cert.ProjDaRefIdeal.Gen.facts,
    Cert.ProjF.Gen.facts, Cert.ProjFIdeal.Gen.facts, Cert.ProjFRefIdeal.Gen.facts,
    Cert.ProjB.Gen.facts, Cert.ProjBIdeal.Gen.facts, Cert.ProjBRefIdeal.Gen.facts,
    Cert.Out.Gen.facts, Cert.OutIdeal.Gen.facts, Cert.OutRefIdeal.Gen.facts,
    Cert.In0.Gen.facts, Cert.In0Ideal.Gen.facts, Cert.In0RefIdeal.Gen.facts,
    Cert.In1.Gen.facts, Cert.In1Ideal.Gen.facts, Cert.In1RefIdeal.Gen.facts,
    Cert.InDa0.Gen.facts, Cert.InDa0Ideal.Gen.facts, Cert.InDa0RefIdeal.Gen.facts,
    Cert.InDa1.Gen.facts, Cert.InDa1Ideal.Gen.facts, Cert.InDa1RefIdeal.Gen.facts,
    Cert.Down.Gen.facts, Cert.DownIdeal.Gen.facts, Cert.DownRefIdeal.Gen.facts,
    Cert.GateDa.Gen.facts, Cert.GateDaIdeal.Gen.facts, Cert.GateDaRefIdeal.Gen.facts,
    Cert.UpDa.Gen.facts, Cert.UpDaIdeal.Gen.facts, Cert.UpDaRefIdeal.Gen.facts,
    Cert.UpDw.Gen.facts, Cert.UpDwIdeal.Gen.facts, Cert.UpDwRefIdeal.Gen.facts,
    Cert.DownDw.Gen.facts, Cert.DownDwIdeal.Gen.facts, Cert.DownDwRefIdeal.Gen.facts,
    Cert.ProjDw.Gen.facts, Cert.ProjDwIdeal.Gen.facts, Cert.ProjDwRefIdeal.Gen.facts,
    Cert.ProjDwF.Gen.facts, Cert.ProjDwFIdeal.Gen.facts, Cert.ProjDwFRefIdeal.Gen.facts,
    Cert.InDw1536.Gen.facts, Cert.InDw1536Ideal.Gen.facts, Cert.InDw1536RefIdeal.Gen.facts,
    Cert.InDw384.Gen.facts, Cert.InDw384Ideal.Gen.facts, Cert.InDw384RefIdeal.Gen.facts,
    Cert.InDw256.Gen.facts, Cert.InDw256Ideal.Gen.facts, Cert.InDw256RefIdeal.Gen.facts,
    Cert.Uq.Gen.facts, Cert.UqIdeal.Gen.facts, Cert.UqRefIdeal.Gen.facts,
    Cert.Ukv.Gen.facts, Cert.UkvIdeal.Gen.facts, Cert.UkvRefIdeal.Gen.facts,
    Cert.UqDa.Gen.facts, Cert.UqDaIdeal.Gen.facts, Cert.UqDaRefIdeal.Gen.facts,
    Cert.UkvDa.Gen.facts, Cert.UkvDaIdeal.Gen.facts, Cert.UkvDaRefIdeal.Gen.facts,
    Cert.UqDw.Gen.facts, Cert.UqDwIdeal.Gen.facts, Cert.UqDwRefIdeal.Gen.facts,
    Cert.UkvDw.Gen.facts, Cert.UkvDwIdeal.Gen.facts, Cert.UkvDwRefIdeal.Gen.facts,
    Cert.InDw128.Gen.facts, Cert.InDw128Ideal.Gen.facts, Cert.InDw128RefIdeal.Gen.facts,
    Cert.InDw32.Gen.facts, Cert.InDw32Ideal.Gen.facts, Cert.InDw32RefIdeal.Gen.facts,
    Cert.Mod.Gen.facts, Cert.ModIdeal.Gen.facts, Cert.ModRefIdeal.Gen.facts,
    Cert.ModDw.Gen.facts, Cert.ModDwIdeal.Gen.facts, Cert.ModDwRefIdeal.Gen.facts,
    Cert.ModDa.Gen.facts, Cert.ModDaIdeal.Gen.facts, Cert.ModDaRefIdeal.Gen.facts,
    Cert.ModDaAdd.Gen.facts, Cert.ModDaAddIdeal.Gen.facts, Cert.ModDaAddRefIdeal.Gen.facts,
    Cert.Pre_finite_bwd.Gen.facts, Cert.Pre_finite_fwd.Gen.facts, bwd_frame, bwdIdeal_frame, bwdIdeal_frame', bwdRef_frame, bwdRef_frame',
    fwd_frame, fwdIdeal_frame, fwdIdeal_frame', fwdRef_frame, fwdRef_frame',
    Up_frame, UpIdeal_frame, UpRefIdeal_frame,
    DownDa_frame, DownDaIdeal_frame, DownDaRefIdeal_frame,
    ProjDa_frame, ProjDaIdeal_frame, ProjDaRefIdeal_frame,
    ProjF_frame, ProjFIdeal_frame, ProjFRefIdeal_frame,
    ProjB_frame, ProjBIdeal_frame, ProjBRefIdeal_frame,
    Out_frame, OutIdeal_frame, OutRefIdeal_frame,
    In0_frame, In0Ideal_frame, In0RefIdeal_frame,
    In1_frame, In1Ideal_frame, In1RefIdeal_frame,
    InDa0_frame, InDa0Ideal_frame, InDa0RefIdeal_frame,
    InDa1_frame, InDa1Ideal_frame, InDa1RefIdeal_frame,
    Down_frame, DownIdeal_frame, DownRefIdeal_frame,
    GateDa_frame, GateDaIdeal_frame, GateDaRefIdeal_frame,
    UpDa_frame, UpDaIdeal_frame, UpDaRefIdeal_frame,
    UpDw_frame, UpDwIdeal_frame, UpDwRefIdeal_frame,
    DownDw_frame, DownDwIdeal_frame, DownDwRefIdeal_frame,
    ProjDw_frame, ProjDwIdeal_frame, ProjDwRefIdeal_frame,
    ProjDwF_frame, ProjDwFIdeal_frame, ProjDwFRefIdeal_frame,
    InDw1536_frame, InDw1536Ideal_frame, InDw1536RefIdeal_frame,
    InDw384_frame, InDw384Ideal_frame, InDw384RefIdeal_frame,
    InDw256_frame, InDw256Ideal_frame, InDw256RefIdeal_frame,
    Uq_frame, UqIdeal_frame, UqRefIdeal_frame,
    Ukv_frame, UkvIdeal_frame, UkvRefIdeal_frame,
    UqDa_frame, UqDaIdeal_frame, UqDaRefIdeal_frame,
    UkvDa_frame, UkvDaIdeal_frame, UkvDaRefIdeal_frame,
    UqDw_frame, UqDwIdeal_frame, UqDwRefIdeal_frame,
    UkvDw_frame, UkvDwIdeal_frame, UkvDwRefIdeal_frame,
    InDw128_frame, InDw128Ideal_frame, InDw128RefIdeal_frame,
    InDw32_frame, InDw32Ideal_frame, InDw32RefIdeal_frame,
    Mod_frame, ModIdeal_frame, ModRefIdeal_frame,
    ModDw_frame, ModDwIdeal_frame, ModDwRefIdeal_frame,
    ModDa_frame, ModDaIdeal_frame, ModDaRefIdeal_frame,
    ModDaAdd_frame, ModDaAddIdeal_frame, ModDaAddRefIdeal_frame,
    bwd_preserves, bwd_algebraic, fwd_preserves, fwd_algebraic,
    Up_preserves, Up_algebraic,
    DownDa_preserves, DownDa_algebraic,
    ProjDa_preserves, ProjDa_algebraic,
    ProjF_preserves, ProjF_algebraic,
    ProjB_preserves, ProjB_algebraic,
    Out_preserves, Out_algebraic,
    In0_preserves, In0_algebraic,
    In1_preserves, In1_algebraic,
    InDa0_preserves, InDa0_algebraic,
    InDa1_preserves, InDa1_algebraic,
    Down_preserves, Down_algebraic,
    GateDa_preserves, GateDa_algebraic,
    UpDa_preserves, UpDa_algebraic,
    UpDw_preserves, UpDw_algebraic,
    DownDw_preserves, DownDw_algebraic,
    ProjDw_preserves, ProjDw_algebraic,
    ProjDwF_preserves, ProjDwF_algebraic,
    InDw1536_preserves, InDw1536_algebraic,
    InDw384_preserves, InDw384_algebraic,
    InDw256_preserves, InDw256_algebraic,
    Uq_preserves, Uq_algebraic,
    Ukv_preserves, Ukv_algebraic,
    UqDa_preserves, UqDa_algebraic,
    UkvDa_preserves, UkvDa_algebraic,
    UqDw_preserves, UqDw_algebraic,
    UkvDw_preserves, UkvDw_algebraic,
    InDw128_preserves, InDw128_algebraic,
    InDw32_preserves, InDw32_algebraic,
    Mod_preserves, Mod_algebraic,
    ModDw_preserves, ModDw_algebraic,
    ModDa_preserves, ModDa_algebraic,
    ModDaAdd_preserves, ModDaAdd_algebraic⟩

end Cert.Proof

end
